-- ==== Defs.lean ====
def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_GateUpDw (m : (ℓ : Loc Cert.GateUpDw.nD Cert.GateUpDw.τ Cert.GateUpDw.sig) → Buf (Elt Bits) ℓ) : Prop :=
  True

def Pre_GateUpDwIdeal (m : (ℓ : Loc Cert.GateUpDwIdeal.nD Cert.GateUpDwIdeal.τ Cert.GateUpDwIdeal.sig) → Buf (Elt Ideal) ℓ) : Prop :=
  True

def Pre_GateUpDwRefIdeal (m : (ℓ : Loc Cert.GateUpDwRefIdeal.nD Cert.GateUpDwRefIdeal.τ Cert.GateUpDwRefIdeal.sig) → Buf (Elt Ideal) ℓ) : Prop :=
  True

def Pre_GateUpDx (m : (ℓ : Loc Cert.GateUpDx.nD Cert.GateUpDx.τ Cert.GateUpDx.sig) → Buf (Elt Bits) ℓ) : Prop :=
  True

def Pre_GateUpDxIdeal (m : (ℓ : Loc Cert.GateUpDxIdeal.nD Cert.GateUpDxIdeal.τ Cert.GateUpDxIdeal.sig) → Buf (Elt Ideal) ℓ) : Prop :=
  True

def Pre_GateUpDxRefIdeal (m : (ℓ : Loc Cert.GateUpDxRefIdeal.nD Cert.GateUpDxRefIdeal.τ Cert.GateUpDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwRefIdeal (m : (ℓ : Loc Cert.KvDwRefIdeal.nD Cert.KvDwRefIdeal.τ Cert.KvDwRefIdeal.sig) → Buf (Elt Ideal) ℓ) : Prop :=
  True

def Pre_QDw (m : (ℓ : Loc Cert.QDw.nD Cert.QDw.τ Cert.QDw.sig) → Buf (Elt Bits) ℓ) : Prop :=
  True

def Pre_QDwIdeal (m : (ℓ : Loc Cert.QDwIdeal.nD Cert.QDwIdeal.τ Cert.QDwIdeal.sig) → Buf (Elt Ideal) ℓ) : Prop :=
  True

def Pre_QDwRefIdeal (m : (ℓ : Loc Cert.QDwRefIdeal.nD Cert.QDwRefIdeal.τ Cert.QDwRefIdeal.sig) → Buf (Elt Ideal) ℓ) : Prop :=
  True

def Pre_KvDx (m : (ℓ : Loc Cert.KvDx.nD Cert.KvDx.τ Cert.KvDx.sig) → Buf (Elt Bits) ℓ) : Prop :=
  True

def Pre_KvDxIdeal (m : (ℓ : Loc Cert.KvDxIdeal.nD Cert.KvDxIdeal.τ Cert.KvDxIdeal.sig) → Buf (Elt Ideal) ℓ) : Prop :=
  True

def Pre_KvDxRefIdeal (m : (ℓ : Loc Cert.KvDxRefIdeal.nD Cert.KvDxRefIdeal.τ Cert.KvDxRefIdeal.sig) → Buf (Elt Ideal) ℓ) : Prop :=
  True

def Pre_QDx (m : (ℓ : Loc Cert.QDx.nD Cert.QDx.τ Cert.QDx.sig) → Buf (Elt Bits) ℓ) : Prop :=
  True

def Pre_QDxIdeal (m : (ℓ : Loc Cert.QDxIdeal.nD Cert.QDxIdeal.τ Cert.QDxIdeal.sig) → Buf (Elt Ideal) ℓ) : Prop :=
  True

def Pre_QDxRefIdeal (m : (ℓ : Loc Cert.QDxRefIdeal.nD Cert.QDxRefIdeal.τ Cert.QDxRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_finite [hPre_finite : Cert.Pre_finite.Facts] (m : (ℓ : Loc Cert.ActIdeal.nD Cert.ActIdeal.τ Cert.ActIdeal.sig) → Buf (Elt Ideal) ℓ) : Prop :=
  ∀ c : Dev Cert.ActIdeal.nD,
    (Cert.Pre_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2))) = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_finite [hPre_finite : Cert.Pre_finite.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2))) = (fun _ => 1#1)

def Pre_ConvInDx (m : (ℓ : Loc Cert.ConvInDx.nD Cert.ConvInDx.τ Cert.ConvInDx.sig) → Buf (Elt Bits) ℓ) : Prop :=
  True

def Pre_ConvInDxIdeal (m : (ℓ : Loc Cert.ConvInDxIdeal.nD Cert.ConvInDxIdeal.τ Cert.ConvInDxIdeal.sig) → Buf (Elt Ideal) ℓ) : Prop :=
  True

def Pre_ConvInDxRefIdeal (m : (ℓ : Loc Cert.ConvInDxRefIdeal.nD Cert.ConvInDxRefIdeal.τ Cert.ConvInDxRefIdeal.sig) → Buf (Elt Ideal) ℓ) : Prop :=
  True

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInRefIdeal (m : (ℓ : Loc Cert.ConvInRefIdeal.nD Cert.ConvInRefIdeal.τ Cert.ConvInRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownLoss (m : (ℓ : Loc Cert.DownLoss.nD Cert.DownLoss.τ Cert.DownLoss.sig) → Buf (Elt Bits) ℓ) : Prop :=
  True

def Pre_DownLossIdeal (m : (ℓ : Loc Cert.DownLossIdeal.nD Cert.DownLossIdeal.τ Cert.DownLossIdeal.sig) → Buf (Elt Ideal) ℓ) : Prop :=
  True

def Pre_DownLossRefIdeal (m : (ℓ : Loc Cert.DownLossRefIdeal.nD Cert.DownLossRefIdeal.τ Cert.DownLossRefIdeal.sig) → Buf (Elt Ideal) ℓ) : Prop :=
  True

def Pre_Attn16 (m : (ℓ : Loc Cert.Attn16.nD Cert.Attn16.τ Cert.Attn16.sig) → Buf (Elt Bits) ℓ) : Prop :=
  True

def Pre_Attn16Ideal (m : (ℓ : Loc Cert.Attn16Ideal.nD Cert.Attn16Ideal.τ Cert.Attn16Ideal.sig) → Buf (Elt Ideal) ℓ) : Prop :=
  True

def Pre_Attn16RefIdeal (m : (ℓ : Loc Cert.Attn16RefIdeal.nD Cert.Attn16RefIdeal.τ Cert.Attn16RefIdeal.sig) → Buf (Elt Ideal) ℓ) : Prop :=
  True

def Pre_Attn4 (m : (ℓ : Loc Cert.Attn4.nD Cert.Attn4.τ Cert.Attn4.sig) → Buf (Elt Bits) ℓ) : Prop :=
  True

def Pre_Attn4Ideal (m : (ℓ : Loc Cert.Attn4Ideal.nD Cert.Attn4Ideal.τ Cert.Attn4Ideal.sig) → Buf (Elt Ideal) ℓ) : Prop :=
  True

def Pre_Attn4RefIdeal (m : (ℓ : Loc Cert.Attn4RefIdeal.nD Cert.Attn4RefIdeal.τ Cert.Attn4RefIdeal.sig) → Buf (Elt Ideal) ℓ) : Prop :=
  True

def Pre_Attn1 (m : (ℓ : Loc Cert.Attn1.nD Cert.Attn1.τ Cert.Attn1.sig) → Buf (Elt Bits) ℓ) : Prop :=
  True

def Pre_Attn1Ideal (m : (ℓ : Loc Cert.Attn1Ideal.nD Cert.Attn1Ideal.τ Cert.Attn1Ideal.sig) → Buf (Elt Ideal) ℓ) : Prop :=
  True

def Pre_Attn1RefIdeal (m : (ℓ : Loc Cert.Attn1RefIdeal.nD Cert.Attn1RefIdeal.τ Cert.Attn1RefIdeal.sig) → Buf (Elt Ideal) ℓ) : Prop :=
  True

def Pre_Qkv1 (m : (ℓ : Loc Cert.Qkv1.nD Cert.Qkv1.τ Cert.Qkv1.sig) → Buf (Elt Bits) ℓ) : Prop :=
  True

def Pre_Qkv1Ideal (m : (ℓ : Loc Cert.Qkv1Ideal.nD Cert.Qkv1Ideal.τ Cert.Qkv1Ideal.sig) → Buf (Elt Ideal) ℓ) : Prop :=
  True

def Pre_Qkv1RefIdeal (m : (ℓ : Loc Cert.Qkv1RefIdeal.nD Cert.Qkv1RefIdeal.τ Cert.Qkv1RefIdeal.sig) → Buf (Elt Ideal) ℓ) : Prop :=
  True

def Pre_Qkv4 (m : (ℓ : Loc Cert.Qkv4.nD Cert.Qkv4.τ Cert.Qkv4.sig) → Buf (Elt Bits) ℓ) : Prop :=
  True

def Pre_Qkv4Ideal (m : (ℓ : Loc Cert.Qkv4Ideal.nD Cert.Qkv4Ideal.τ Cert.Qkv4Ideal.sig) → Buf (Elt Ideal) ℓ) : Prop :=
  True

def Pre_Qkv4RefIdeal (m : (ℓ : Loc Cert.Qkv4RefIdeal.nD Cert.Qkv4RefIdeal.τ Cert.Qkv4RefIdeal.sig) → Buf (Elt Ideal) ℓ) : Prop :=
  True

def Pre_Qkv16 (m : (ℓ : Loc Cert.Qkv16.nD Cert.Qkv16.τ Cert.Qkv16.sig) → Buf (Elt Bits) ℓ) : Prop :=
  True

def Pre_Qkv16Ideal (m : (ℓ : Loc Cert.Qkv16Ideal.nD Cert.Qkv16Ideal.τ Cert.Qkv16Ideal.sig) → Buf (Elt Ideal) ℓ) : Prop :=
  True

def Pre_Qkv16RefIdeal (m : (ℓ : Loc Cert.Qkv16RefIdeal.nD Cert.Qkv16RefIdeal.τ Cert.Qkv16RefIdeal.sig) → Buf (Elt Ideal) ℓ) : Prop :=
  True

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_GateUpDw [hGateUpDw : Cert.GateUpDw.Facts] : Prop :=
  ∀ (m : (ℓ : Loc Cert.GateUpDw.nD Cert.GateUpDw.τ Cert.GateUpDw.sig) → Buf (Elt Bits) ℓ) (g : Dev Cert.GateUpDw.nD → PrngReg), Pre_GateUpDw m →
    θ_run (Cert.GateUpDw.defs (F := Bits)) (onTc (τ := Cert.GateUpDw.τ) (Cert.GateUpDw.main (F := Bits))) ⟨m, fun _ => 0, g⟩ (fun r => (∀ c : Dev Cert.GateUpDw.nD,
      r.2.mem ((c.tc : Thread Cert.GateUpDw.nD Cert.GateUpDw.τ).loc Cert.GateUpDw.main_arg0) = m ((c.tc : Thread Cert.GateUpDw.nD Cert.GateUpDw.τ).loc Cert.GateUpDw.main_arg0)
      ∧ r.2.mem ((c.tc : Thread Cert.GateUpDw.nD Cert.GateUpDw.τ).loc Cert.GateUpDw.main_arg1) = m ((c.tc : Thread Cert.GateUpDw.nD Cert.GateUpDw.τ).loc Cert.GateUpDw.main_arg1))
      ∧ r.2.sem = fun _ => 0)

def quiescent_GateUpDwIdeal [hGateUpDwIdeal : Cert.GateUpDwIdeal.Facts] : Prop :=
  ∀ (m : (ℓ : Loc Cert.GateUpDwIdeal.nD Cert.GateUpDwIdeal.τ Cert.GateUpDwIdeal.sig) → Buf (Elt Ideal) ℓ) (g : Dev Cert.GateUpDwIdeal.nD → PrngReg), Pre_GateUpDwIdeal m →
    θ_run (Cert.GateUpDwIdeal.defs (F := Ideal)) (onTc (τ := Cert.GateUpDwIdeal.τ) (Cert.GateUpDwIdeal.main (F := Ideal))) ⟨m, fun _ => 0, g⟩ (fun r => (∀ c : Dev Cert.GateUpDwIdeal.nD,
      r.2.mem ((c.tc : Thread Cert.GateUpDwIdeal.nD Cert.GateUpDwIdeal.τ).loc Cert.GateUpDwIdeal.main_arg0) = m ((c.tc : Thread Cert.GateUpDwIdeal.nD Cert.GateUpDwIdeal.τ).loc Cert.GateUpDwIdeal.main_arg0)
      ∧ r.2.mem ((c.tc : Thread Cert.GateUpDwIdeal.nD Cert.GateUpDwIdeal.τ).loc Cert.GateUpDwIdeal.main_arg1) = m ((c.tc : Thread Cert.GateUpDwIdeal.nD Cert.GateUpDwIdeal.τ).loc Cert.GateUpDwIdeal.main_arg1))
      ∧ r.2.sem = fun _ => 0)

def quiescent_GateUpDwRefIdeal [hGateUpDwRefIdeal : Cert.GateUpDwRefIdeal.Facts] : Prop :=
  ∀ (m : (ℓ : Loc Cert.GateUpDwRefIdeal.nD Cert.GateUpDwRefIdeal.τ Cert.GateUpDwRefIdeal.sig) → Buf (Elt Ideal) ℓ) (g : Dev Cert.GateUpDwRefIdeal.nD → PrngReg), Pre_GateUpDwRefIdeal m →
    θ_run (Cert.GateUpDwRefIdeal.defs (F := Ideal)) (onTc (τ := Cert.GateUpDwRefIdeal.τ) (Cert.GateUpDwRefIdeal.main (F := Ideal))) ⟨m, fun _ => 0, g⟩ (fun r => (∀ c : Dev Cert.GateUpDwRefIdeal.nD,
      r.2.mem ((c.tc : Thread Cert.GateUpDwRefIdeal.nD Cert.GateUpDwRefIdeal.τ).loc Cert.GateUpDwRefIdeal.main_arg0) = m ((c.tc : Thread Cert.GateUpDwRefIdeal.nD Cert.GateUpDwRefIdeal.τ).loc Cert.GateUpDwRefIdeal.main_arg0)
      ∧ r.2.mem ((c.tc : Thread Cert.GateUpDwRefIdeal.nD Cert.GateUpDwRefIdeal.τ).loc Cert.GateUpDwRefIdeal.main_arg1) = m ((c.tc : Thread Cert.GateUpDwRefIdeal.nD Cert.GateUpDwRefIdeal.τ).loc Cert.GateUpDwRefIdeal.main_arg1))
      ∧ r.2.sem = fun _ => 0)

def quiescent_GateUpDx [hGateUpDx : Cert.GateUpDx.Facts] : Prop :=
  ∀ (m : (ℓ : Loc Cert.GateUpDx.nD Cert.GateUpDx.τ Cert.GateUpDx.sig) → Buf (Elt Bits) ℓ) (g : Dev Cert.GateUpDx.nD → PrngReg), Pre_GateUpDx m →
    θ_run (Cert.GateUpDx.defs (F := Bits)) (onTc (τ := Cert.GateUpDx.τ) (Cert.GateUpDx.main (F := Bits))) ⟨m, fun _ => 0, g⟩ (fun r => (∀ c : Dev Cert.GateUpDx.nD,
      r.2.mem ((c.tc : Thread Cert.GateUpDx.nD Cert.GateUpDx.τ).loc Cert.GateUpDx.main_arg0) = m ((c.tc : Thread Cert.GateUpDx.nD Cert.GateUpDx.τ).loc Cert.GateUpDx.main_arg0)
      ∧ r.2.mem ((c.tc : Thread Cert.GateUpDx.nD Cert.GateUpDx.τ).loc Cert.GateUpDx.main_arg1) = m ((c.tc : Thread Cert.GateUpDx.nD Cert.GateUpDx.τ).loc Cert.GateUpDx.main_arg1)
      ∧ r.2.mem ((c.tc : Thread Cert.GateUpDx.nD Cert.GateUpDx.τ).loc Cert.GateUpDx.main_arg2) = m ((c.tc : Thread Cert.GateUpDx.nD Cert.GateUpDx.τ).loc Cert.GateUpDx.main_arg2))
      ∧ r.2.sem = fun _ => 0)

def quiescent_GateUpDxIdeal [hGateUpDxIdeal : Cert.GateUpDxIdeal.Facts] : Prop :=
  ∀ (m : (ℓ : Loc Cert.GateUpDxIdeal.nD Cert.GateUpDxIdeal.τ Cert.GateUpDxIdeal.sig) → Buf (Elt Ideal) ℓ) (g : Dev Cert.GateUpDxIdeal.nD → PrngReg), Pre_GateUpDxIdeal m →
    θ_run (Cert.GateUpDxIdeal.defs (F := Ideal)) (onTc (τ := Cert.GateUpDxIdeal.τ) (Cert.GateUpDxIdeal.main (F := Ideal))) ⟨m, fun _ => 0, g⟩ (fun r => (∀ c : Dev Cert.GateUpDxIdeal.nD,
      r.2.mem ((c.tc : Thread Cert.GateUpDxIdeal.nD Cert.GateUpDxIdeal.τ).loc Cert.GateUpDxIdeal.main_arg0) = m ((c.tc : Thread Cert.GateUpDxIdeal.nD Cert.GateUpDxIdeal.τ).loc Cert.GateUpDxIdeal.main_arg0)
      ∧ r.2.mem ((c.tc : Thread Cert.GateUpDxIdeal.nD Cert.GateUpDxIdeal.τ).loc Cert.GateUpDxIdeal.main_arg1) = m ((c.tc : Thread Cert.GateUpDxIdeal.nD Cert.GateUpDxIdeal.τ).loc Cert.GateUpDxIdeal.main_arg1)
      ∧ r.2.mem ((c.tc : Thread Cert.GateUpDxIdeal.nD Cert.GateUpDxIdeal.τ).loc Cert.GateUpDxIdeal.main_arg2) = m ((c.tc : Thread Cert.GateUpDxIdeal.nD Cert.GateUpDxIdeal.τ).loc Cert.GateUpDxIdeal.main_arg2))
      ∧ r.2.sem = fun _ => 0)

def quiescent_GateUpDxRefIdeal [hGateUpDxRefIdeal : Cert.GateUpDxRefIdeal.Facts] : Prop :=
  ∀ (m : (ℓ : Loc Cert.GateUpDxRefIdeal.nD Cert.GateUpDxRefIdeal.τ Cert.GateUpDxRefIdeal.sig) → Buf (Elt Ideal) ℓ) (g : Dev Cert.GateUpDxRefIdeal.nD → PrngReg), Pre_GateUpDxRefIdeal m →
    θ_run (Cert.GateUpDxRefIdeal.defs (F := Ideal)) (onTc (τ := Cert.GateUpDxRefIdeal.τ) (Cert.GateUpDxRefIdeal.main (F := Ideal))) ⟨m, fun _ => 0, g⟩ (fun r => (∀ c : Dev Cert.GateUpDxRefIdeal.nD,
      r.2.mem ((c.tc : Thread Cert.GateUpDxRefIdeal.nD Cert.GateUpDxRefIdeal.τ).loc Cert.GateUpDxRefIdeal.main_arg0) = m ((c.tc : Thread Cert.GateUpDxRefIdeal.nD Cert.GateUpDxRefIdeal.τ).loc Cert.GateUpDxRefIdeal.main_arg0)
      ∧ r.2.mem ((c.tc : Thread Cert.GateUpDxRefIdeal.nD Cert.GateUpDxRefIdeal.τ).loc Cert.GateUpDxRefIdeal.main_arg1) = m ((c.tc : Thread Cert.GateUpDxRefIdeal.nD Cert.GateUpDxRefIdeal.τ).loc Cert.GateUpDxRefIdeal.main_arg1)
      ∧ r.2.mem ((c.tc : Thread Cert.GateUpDxRefIdeal.nD Cert.GateUpDxRefIdeal.τ).loc Cert.GateUpDxRefIdeal.main_arg2) = m ((c.tc : Thread Cert.GateUpDxRefIdeal.nD Cert.GateUpDxRefIdeal.τ).loc Cert.GateUpDxRefIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ r.2.sem = fun _ => 0)

def quiescent_KvDwRefIdeal [hKvDwRefIdeal : Cert.KvDwRefIdeal.Facts] : Prop :=
  ∀ (m : (ℓ : Loc Cert.KvDwRefIdeal.nD Cert.KvDwRefIdeal.τ Cert.KvDwRefIdeal.sig) → Buf (Elt Ideal) ℓ) (g : Dev Cert.KvDwRefIdeal.nD → PrngReg), Pre_KvDwRefIdeal m →
    θ_run (Cert.KvDwRefIdeal.defs (F := Ideal)) (onTc (τ := Cert.KvDwRefIdeal.τ) (Cert.KvDwRefIdeal.main (F := Ideal))) ⟨m, fun _ => 0, g⟩ (fun r => (∀ c : Dev Cert.KvDwRefIdeal.nD,
      r.2.mem ((c.tc : Thread Cert.KvDwRefIdeal.nD Cert.KvDwRefIdeal.τ).loc Cert.KvDwRefIdeal.main_arg0) = m ((c.tc : Thread Cert.KvDwRefIdeal.nD Cert.KvDwRefIdeal.τ).loc Cert.KvDwRefIdeal.main_arg0)
      ∧ r.2.mem ((c.tc : Thread Cert.KvDwRefIdeal.nD Cert.KvDwRefIdeal.τ).loc Cert.KvDwRefIdeal.main_arg1) = m ((c.tc : Thread Cert.KvDwRefIdeal.nD Cert.KvDwRefIdeal.τ).loc Cert.KvDwRefIdeal.main_arg1))
      ∧ r.2.sem = fun _ => 0)

def quiescent_QDw [hQDw : Cert.QDw.Facts] : Prop :=
  ∀ (m : (ℓ : Loc Cert.QDw.nD Cert.QDw.τ Cert.QDw.sig) → Buf (Elt Bits) ℓ) (g : Dev Cert.QDw.nD → PrngReg), Pre_QDw m →
    θ_run (Cert.QDw.defs (F := Bits)) (onTc (τ := Cert.QDw.τ) (Cert.QDw.main (F := Bits))) ⟨m, fun _ => 0, g⟩ (fun r => (∀ c : Dev Cert.QDw.nD,
      r.2.mem ((c.tc : Thread Cert.QDw.nD Cert.QDw.τ).loc Cert.QDw.main_arg0) = m ((c.tc : Thread Cert.QDw.nD Cert.QDw.τ).loc Cert.QDw.main_arg0)
      ∧ r.2.mem ((c.tc : Thread Cert.QDw.nD Cert.QDw.τ).loc Cert.QDw.main_arg1) = m ((c.tc : Thread Cert.QDw.nD Cert.QDw.τ).loc Cert.QDw.main_arg1))
      ∧ r.2.sem = fun _ => 0)

def quiescent_QDwIdeal [hQDwIdeal : Cert.QDwIdeal.Facts] : Prop :=
  ∀ (m : (ℓ : Loc Cert.QDwIdeal.nD Cert.QDwIdeal.τ Cert.QDwIdeal.sig) → Buf (Elt Ideal) ℓ) (g : Dev Cert.QDwIdeal.nD → PrngReg), Pre_QDwIdeal m →
    θ_run (Cert.QDwIdeal.defs (F := Ideal)) (onTc (τ := Cert.QDwIdeal.τ) (Cert.QDwIdeal.main (F := Ideal))) ⟨m, fun _ => 0, g⟩ (fun r => (∀ c : Dev Cert.QDwIdeal.nD,
      r.2.mem ((c.tc : Thread Cert.QDwIdeal.nD Cert.QDwIdeal.τ).loc Cert.QDwIdeal.main_arg0) = m ((c.tc : Thread Cert.QDwIdeal.nD Cert.QDwIdeal.τ).loc Cert.QDwIdeal.main_arg0)
      ∧ r.2.mem ((c.tc : Thread Cert.QDwIdeal.nD Cert.QDwIdeal.τ).loc Cert.QDwIdeal.main_arg1) = m ((c.tc : Thread Cert.QDwIdeal.nD Cert.QDwIdeal.τ).loc Cert.QDwIdeal.main_arg1))
      ∧ r.2.sem = fun _ => 0)

def quiescent_QDwRefIdeal [hQDwRefIdeal : Cert.QDwRefIdeal.Facts] : Prop :=
  ∀ (m : (ℓ : Loc Cert.QDwRefIdeal.nD Cert.QDwRefIdeal.τ Cert.QDwRefIdeal.sig) → Buf (Elt Ideal) ℓ) (g : Dev Cert.QDwRefIdeal.nD → PrngReg), Pre_QDwRefIdeal m →
    θ_run (Cert.QDwRefIdeal.defs (F := Ideal)) (onTc (τ := Cert.QDwRefIdeal.τ) (Cert.QDwRefIdeal.main (F := Ideal))) ⟨m, fun _ => 0, g⟩ (fun r => (∀ c : Dev Cert.QDwRefIdeal.nD,
      r.2.mem ((c.tc : Thread Cert.QDwRefIdeal.nD Cert.QDwRefIdeal.τ).loc Cert.QDwRefIdeal.main_arg0) = m ((c.tc : Thread Cert.QDwRefIdeal.nD Cert.QDwRefIdeal.τ).loc Cert.QDwRefIdeal.main_arg0)
      ∧ r.2.mem ((c.tc : Thread Cert.QDwRefIdeal.nD Cert.QDwRefIdeal.τ).loc Cert.QDwRefIdeal.main_arg1) = m ((c.tc : Thread Cert.QDwRefIdeal.nD Cert.QDwRefIdeal.τ).loc Cert.QDwRefIdeal.main_arg1))
      ∧ r.2.sem = fun _ => 0)

def quiescent_KvDx [hKvDx : Cert.KvDx.Facts] : Prop :=
  ∀ (m : (ℓ : Loc Cert.KvDx.nD Cert.KvDx.τ Cert.KvDx.sig) → Buf (Elt Bits) ℓ) (g : Dev Cert.KvDx.nD → PrngReg), Pre_KvDx m →
    θ_run (Cert.KvDx.defs (F := Bits)) (onTc (τ := Cert.KvDx.τ) (Cert.KvDx.main (F := Bits))) ⟨m, fun _ => 0, g⟩ (fun r => (∀ c : Dev Cert.KvDx.nD,
      r.2.mem ((c.tc : Thread Cert.KvDx.nD Cert.KvDx.τ).loc Cert.KvDx.main_arg0) = m ((c.tc : Thread Cert.KvDx.nD Cert.KvDx.τ).loc Cert.KvDx.main_arg0)
      ∧ r.2.mem ((c.tc : Thread Cert.KvDx.nD Cert.KvDx.τ).loc Cert.KvDx.main_arg1) = m ((c.tc : Thread Cert.KvDx.nD Cert.KvDx.τ).loc Cert.KvDx.main_arg1)
      ∧ r.2.mem ((c.tc : Thread Cert.KvDx.nD Cert.KvDx.τ).loc Cert.KvDx.main_arg2) = m ((c.tc : Thread Cert.KvDx.nD Cert.KvDx.τ).loc Cert.KvDx.main_arg2))
      ∧ r.2.sem = fun _ => 0)

def quiescent_KvDxIdeal [hKvDxIdeal : Cert.KvDxIdeal.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1)
      ∧ r.2.mem ((c.tc : Thread Cert.KvDxIdeal.nD Cert.KvDxIdeal.τ).loc Cert.KvDxIdeal.main_arg2) = m ((c.tc : Thread Cert.KvDxIdeal.nD Cert.KvDxIdeal.τ).loc Cert.KvDxIdeal.main_arg2))
      ∧ r.2.sem = fun _ => 0)

def quiescent_KvDxRefIdeal [hKvDxRefIdeal : Cert.KvDxRefIdeal.Facts] : Prop :=
  ∀ (m : (ℓ : Loc Cert.KvDxRefIdeal.nD Cert.KvDxRefIdeal.τ Cert.KvDxRefIdeal.sig) → Buf (Elt Ideal) ℓ) (g : Dev Cert.KvDxRefIdeal.nD → PrngReg), Pre_KvDxRefIdeal m →
    θ_run (Cert.KvDxRefIdeal.defs (F := Ideal)) (onTc (τ := Cert.KvDxRefIdeal.τ) (Cert.KvDxRefIdeal.main (F := Ideal))) ⟨m, fun _ => 0, g⟩ (fun r => (∀ c : Dev Cert.KvDxRefIdeal.nD,
      r.2.mem ((c.tc : Thread Cert.KvDxRefIdeal.nD Cert.KvDxRefIdeal.τ).loc Cert.KvDxRefIdeal.main_arg0) = m ((c.tc : Thread Cert.KvDxRefIdeal.nD Cert.KvDxRefIdeal.τ).loc Cert.KvDxRefIdeal.main_arg0)
      ∧ r.2.mem ((c.tc : Thread Cert.KvDxRefIdeal.nD Cert.KvDxRefIdeal.τ).loc Cert.KvDxRefIdeal.main_arg1) = m ((c.tc : Thread Cert.KvDxRefIdeal.nD Cert.KvDxRefIdeal.τ).loc Cert.KvDxRefIdeal.main_arg1)
      ∧ r.2.mem ((c.tc : Thread Cert.KvDxRefIdeal.nD Cert.KvDxRefIdeal.τ).loc Cert.KvDxRefIdeal.main_arg2) = m ((c.tc : Thread Cert.KvDxRefIdeal.nD Cert.KvDxRefIdeal.τ).loc Cert.KvDxRefIdeal.main_arg2))
      ∧ r.2.sem = fun _ => 0)

def quiescent_QDx [hQDx : Cert.QDx.Facts] : Prop :=
  ∀ (m : (ℓ : Loc Cert.QDx.nD Cert.QDx.τ Cert.QDx.sig) → Buf (Elt Bits) ℓ) (g : Dev Cert.QDx.nD → PrngReg), Pre_QDx m →
    θ_run (Cert.QDx.defs (F := Bits)) (onTc (τ := Cert.QDx.τ) (Cert.QDx.main (F := Bits))) ⟨m, fun _ => 0, g⟩ (fun r => (∀ c : Dev Cert.QDx.nD,
      r.2.mem ((c.tc : Thread Cert.QDx.nD Cert.QDx.τ).loc Cert.QDx.main_arg0) = m ((c.tc : Thread Cert.QDx.nD Cert.QDx.τ).loc Cert.QDx.main_arg0)
      ∧ r.2.mem ((c.tc : Thread Cert.QDx.nD Cert.QDx.τ).loc Cert.QDx.main_arg1) = m ((c.tc : Thread Cert.QDx.nD Cert.QDx.τ).loc Cert.QDx.main_arg1))
      ∧ r.2.sem = fun _ => 0)

def quiescent_QDxIdeal [hQDxIdeal : Cert.QDxIdeal.Facts] : Prop :=
  ∀ (m : (ℓ : Loc Cert.QDxIdeal.nD Cert.QDxIdeal.τ Cert.QDxIdeal.sig) → Buf (Elt Ideal) ℓ) (g : Dev Cert.QDxIdeal.nD → PrngReg), Pre_QDxIdeal m →
    θ_run (Cert.QDxIdeal.defs (F := Ideal)) (onTc (τ := Cert.QDxIdeal.τ) (Cert.QDxIdeal.main (F := Ideal))) ⟨m, fun _ => 0, g⟩ (fun r => (∀ c : Dev Cert.QDxIdeal.nD,
      r.2.mem ((c.tc : Thread Cert.QDxIdeal.nD Cert.QDxIdeal.τ).loc Cert.QDxIdeal.main_arg0) = m ((c.tc : Thread Cert.QDxIdeal.nD Cert.QDxIdeal.τ).loc Cert.QDxIdeal.main_arg0)
      ∧ r.2.mem ((c.tc : Thread Cert.QDxIdeal.nD Cert.QDxIdeal.τ).loc Cert.QDxIdeal.main_arg1) = m ((c.tc : Thread Cert.QDxIdeal.nD Cert.QDxIdeal.τ).loc Cert.QDxIdeal.main_arg1))
      ∧ r.2.sem = fun _ => 0)

def quiescent_QDxRefIdeal [hQDxRefIdeal : Cert.QDxRefIdeal.Facts] : Prop :=
  ∀ (m : (ℓ : Loc Cert.QDxRefIdeal.nD Cert.QDxRefIdeal.τ Cert.QDxRefIdeal.sig) → Buf (Elt Ideal) ℓ) (g : Dev Cert.QDxRefIdeal.nD → PrngReg), Pre_QDxRefIdeal m →
    θ_run (Cert.QDxRefIdeal.defs (F := Ideal)) (onTc (τ := Cert.QDxRefIdeal.τ) (Cert.QDxRefIdeal.main (F := Ideal))) ⟨m, fun _ => 0, g⟩ (fun r => (∀ c : Dev Cert.QDxRefIdeal.nD,
      r.2.mem ((c.tc : Thread Cert.QDxRefIdeal.nD Cert.QDxRefIdeal.τ).loc Cert.QDxRefIdeal.main_arg0) = m ((c.tc : Thread Cert.QDxRefIdeal.nD Cert.QDxRefIdeal.τ).loc Cert.QDxRefIdeal.main_arg0)
      ∧ r.2.mem ((c.tc : Thread Cert.QDxRefIdeal.nD Cert.QDxRefIdeal.τ).loc Cert.QDxRefIdeal.main_arg1) = m ((c.tc : Thread Cert.QDxRefIdeal.nD Cert.QDxRefIdeal.τ).loc Cert.QDxRefIdeal.main_arg1))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActIdeal_pre_finite [hActIdeal : Cert.ActIdeal.Facts] [hPre_finite : Cert.Pre_finite.Facts] : Prop :=
  ∀ (m : (ℓ : Loc Cert.ActIdeal.nD Cert.ActIdeal.τ Cert.ActIdeal.sig) → Buf (Elt Ideal) ℓ) (g : Dev Cert.ActIdeal.nD → PrngReg), Pre_ActIdeal_finite m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_ActRefIdeal_pre_finite [hActRefIdeal : Cert.ActRefIdeal.Facts] [hPre_finite : Cert.Pre_finite.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_finite m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_ConvInDx [hConvInDx : Cert.ConvInDx.Facts] : Prop :=
  ∀ (m : (ℓ : Loc Cert.ConvInDx.nD Cert.ConvInDx.τ Cert.ConvInDx.sig) → Buf (Elt Bits) ℓ) (g : Dev Cert.ConvInDx.nD → PrngReg), Pre_ConvInDx m →
    θ_run (Cert.ConvInDx.defs (F := Bits)) (onTc (τ := Cert.ConvInDx.τ) (Cert.ConvInDx.main (F := Bits))) ⟨m, fun _ => 0, g⟩ (fun r => (∀ c : Dev Cert.ConvInDx.nD,
      r.2.mem ((c.tc : Thread Cert.ConvInDx.nD Cert.ConvInDx.τ).loc Cert.ConvInDx.main_arg0) = m ((c.tc : Thread Cert.ConvInDx.nD Cert.ConvInDx.τ).loc Cert.ConvInDx.main_arg0)
      ∧ r.2.mem ((c.tc : Thread Cert.ConvInDx.nD Cert.ConvInDx.τ).loc Cert.ConvInDx.main_arg1) = m ((c.tc : Thread Cert.ConvInDx.nD Cert.ConvInDx.τ).loc Cert.ConvInDx.main_arg1)
      ∧ r.2.mem ((c.tc : Thread Cert.ConvInDx.nD Cert.ConvInDx.τ).loc Cert.ConvInDx.main_arg2) = m ((c.tc : Thread Cert.ConvInDx.nD Cert.ConvInDx.τ).loc Cert.ConvInDx.main_arg2))
      ∧ r.2.sem = fun _ => 0)

def quiescent_ConvInDxIdeal [hConvInDxIdeal : Cert.ConvInDxIdeal.Facts] : Prop :=
  ∀ (m : (ℓ : Loc Cert.ConvInDxIdeal.nD Cert.ConvInDxIdeal.τ Cert.ConvInDxIdeal.sig) → Buf (Elt Ideal) ℓ) (g : Dev Cert.ConvInDxIdeal.nD → PrngReg), Pre_ConvInDxIdeal m →
    θ_run (Cert.ConvInDxIdeal.defs (F := Ideal)) (onTc (τ := Cert.ConvInDxIdeal.τ) (Cert.ConvInDxIdeal.main (F := Ideal))) ⟨m, fun _ => 0, g⟩ (fun r => (∀ c : Dev Cert.ConvInDxIdeal.nD,
      r.2.mem ((c.tc : Thread Cert.ConvInDxIdeal.nD Cert.ConvInDxIdeal.τ).loc Cert.ConvInDxIdeal.main_arg0) = m ((c.tc : Thread Cert.ConvInDxIdeal.nD Cert.ConvInDxIdeal.τ).loc Cert.ConvInDxIdeal.main_arg0)
      ∧ r.2.mem ((c.tc : Thread Cert.ConvInDxIdeal.nD Cert.ConvInDxIdeal.τ).loc Cert.ConvInDxIdeal.main_arg1) = m ((c.tc : Thread Cert.ConvInDxIdeal.nD Cert.ConvInDxIdeal.τ).loc Cert.ConvInDxIdeal.main_arg1)
      ∧ r.2.mem ((c.tc : Thread Cert.ConvInDxIdeal.nD Cert.ConvInDxIdeal.τ).loc Cert.ConvInDxIdeal.main_arg2) = m ((c.tc : Thread Cert.ConvInDxIdeal.nD Cert.ConvInDxIdeal.τ).loc Cert.ConvInDxIdeal.main_arg2))
      ∧ r.2.sem = fun _ => 0)

def quiescent_ConvInDxRefIdeal [hConvInDxRefIdeal : Cert.ConvInDxRefIdeal.Facts] : Prop :=
  ∀ (m : (ℓ : Loc Cert.ConvInDxRefIdeal.nD Cert.ConvInDxRefIdeal.τ Cert.ConvInDxRefIdeal.sig) → Buf (Elt Ideal) ℓ) (g : Dev Cert.ConvInDxRefIdeal.nD → PrngReg), Pre_ConvInDxRefIdeal m →
    θ_run (Cert.ConvInDxRefIdeal.defs (F := Ideal)) (onTc (τ := Cert.ConvInDxRefIdeal.τ) (Cert.ConvInDxRefIdeal.main (F := Ideal))) ⟨m, fun _ => 0, g⟩ (fun r => (∀ c : Dev Cert.ConvInDxRefIdeal.nD,
      r.2.mem ((c.tc : Thread Cert.ConvInDxRefIdeal.nD Cert.ConvInDxRefIdeal.τ).loc Cert.ConvInDxRefIdeal.main_arg0) = m ((c.tc : Thread Cert.ConvInDxRefIdeal.nD Cert.ConvInDxRefIdeal.τ).loc Cert.ConvInDxRefIdeal.main_arg0)
      ∧ r.2.mem ((c.tc : Thread Cert.ConvInDxRefIdeal.nD Cert.ConvInDxRefIdeal.τ).loc Cert.ConvInDxRefIdeal.main_arg1) = m ((c.tc : Thread Cert.ConvInDxRefIdeal.nD Cert.ConvInDxRefIdeal.τ).loc Cert.ConvInDxRefIdeal.main_arg1)
      ∧ r.2.mem ((c.tc : Thread Cert.ConvInDxRefIdeal.nD Cert.ConvInDxRefIdeal.τ).loc Cert.ConvInDxRefIdeal.main_arg2) = m ((c.tc : Thread Cert.ConvInDxRefIdeal.nD Cert.ConvInDxRefIdeal.τ).loc Cert.ConvInDxRefIdeal.main_arg2))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1))
      ∧ r.2.sem = fun _ => 0)

def quiescent_ConvInRefIdeal [hConvInRefIdeal : Cert.ConvInRefIdeal.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_DownLoss [hDownLoss : Cert.DownLoss.Facts] : Prop :=
  ∀ (m : (ℓ : Loc Cert.DownLoss.nD Cert.DownLoss.τ Cert.DownLoss.sig) → Buf (Elt Bits) ℓ) (g : Dev Cert.DownLoss.nD → PrngReg), Pre_DownLoss m →
    θ_run (Cert.DownLoss.defs (F := Bits)) (onTc (τ := Cert.DownLoss.τ) (Cert.DownLoss.main (F := Bits))) ⟨m, fun _ => 0, g⟩ (fun r => (∀ c : Dev Cert.DownLoss.nD,
      r.2.mem ((c.tc : Thread Cert.DownLoss.nD Cert.DownLoss.τ).loc Cert.DownLoss.main_arg0) = m ((c.tc : Thread Cert.DownLoss.nD Cert.DownLoss.τ).loc Cert.DownLoss.main_arg0)
      ∧ r.2.mem ((c.tc : Thread Cert.DownLoss.nD Cert.DownLoss.τ).loc Cert.DownLoss.main_arg1) = m ((c.tc : Thread Cert.DownLoss.nD Cert.DownLoss.τ).loc Cert.DownLoss.main_arg1)
      ∧ r.2.mem ((c.tc : Thread Cert.DownLoss.nD Cert.DownLoss.τ).loc Cert.DownLoss.main_arg2) = m ((c.tc : Thread Cert.DownLoss.nD Cert.DownLoss.τ).loc Cert.DownLoss.main_arg2)
      ∧ r.2.mem ((c.tc : Thread Cert.DownLoss.nD Cert.DownLoss.τ).loc Cert.DownLoss.main_arg3) = m ((c.tc : Thread Cert.DownLoss.nD Cert.DownLoss.τ).loc Cert.DownLoss.main_arg3)
      ∧ r.2.mem ((c.tc : Thread Cert.DownLoss.nD Cert.DownLoss.τ).loc Cert.DownLoss.main_arg4) = m ((c.tc : Thread Cert.DownLoss.nD Cert.DownLoss.τ).loc Cert.DownLoss.main_arg4))
      ∧ r.2.sem = fun _ => 0)

def quiescent_DownLossIdeal [hDownLossIdeal : Cert.DownLossIdeal.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
      ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ r.2.sem = fun _ => 0)

def quiescent_DownLossRefIdeal [hDownLossRefIdeal : Cert.DownLossRefIdeal.Facts] : Prop :=
  ∀ (m : (ℓ : Loc Cert.DownLossRefIdeal.nD Cert.DownLossRefIdeal.τ Cert.DownLossRefIdeal.sig) → Buf (Elt Ideal) ℓ) (g : Dev Cert.DownLossRefIdeal.nD → PrngReg), Pre_DownLossRefIdeal m →
    θ_run (Cert.DownLossRefIdeal.defs (F := Ideal)) (onTc (τ := Cert.DownLossRefIdeal.τ) (Cert.DownLossRefIdeal.main (F := Ideal))) ⟨m, fun _ => 0, g⟩ (fun r => (∀ c : Dev Cert.DownLossRefIdeal.nD,
      r.2.mem ((c.tc : Thread Cert.DownLossRefIdeal.nD Cert.DownLossRefIdeal.τ).loc Cert.DownLossRefIdeal.main_arg0) = m ((c.tc : Thread Cert.DownLossRefIdeal.nD Cert.DownLossRefIdeal.τ).loc Cert.DownLossRefIdeal.main_arg0)
      ∧ r.2.mem ((c.tc : Thread Cert.DownLossRefIdeal.nD Cert.DownLossRefIdeal.τ).loc Cert.DownLossRefIdeal.main_arg1) = m ((c.tc : Thread Cert.DownLossRefIdeal.nD Cert.DownLossRefIdeal.τ).loc Cert.DownLossRefIdeal.main_arg1)
      ∧ r.2.mem ((c.tc : Thread Cert.DownLossRefIdeal.nD Cert.DownLossRefIdeal.τ).loc Cert.DownLossRefIdeal.main_arg2) = m ((c.tc : Thread Cert.DownLossRefIdeal.nD Cert.DownLossRefIdeal.τ).loc Cert.DownLossRefIdeal.main_arg2)
      ∧ r.2.mem ((c.tc : Thread Cert.DownLossRefIdeal.nD Cert.DownLossRefIdeal.τ).loc Cert.DownLossRefIdeal.main_arg3) = m ((c.tc : Thread Cert.DownLossRefIdeal.nD Cert.DownLossRefIdeal.τ).loc Cert.DownLossRefIdeal.main_arg3)
      ∧ r.2.mem ((c.tc : Thread Cert.DownLossRefIdeal.nD Cert.DownLossRefIdeal.τ).loc Cert.DownLossRefIdeal.main_arg4) = m ((c.tc : Thread Cert.DownLossRefIdeal.nD Cert.DownLossRefIdeal.τ).loc Cert.DownLossRefIdeal.main_arg4))
      ∧ r.2.sem = fun _ => 0)

def quiescent_Attn16 [hAttn16 : Cert.Attn16.Facts] : Prop :=
  ∀ (m : (ℓ : Loc Cert.Attn16.nD Cert.Attn16.τ Cert.Attn16.sig) → Buf (Elt Bits) ℓ) (g : Dev Cert.Attn16.nD → PrngReg), Pre_Attn16 m →
    θ_run (Cert.Attn16.defs (F := Bits)) (onTc (τ := Cert.Attn16.τ) (Cert.Attn16.main (F := Bits))) ⟨m, fun _ => 0, g⟩ (fun r => (∀ c : Dev Cert.Attn16.nD,
      r.2.mem ((c.tc : Thread Cert.Attn16.nD Cert.Attn16.τ).loc Cert.Attn16.main_arg0) = m ((c.tc : Thread Cert.Attn16.nD Cert.Attn16.τ).loc Cert.Attn16.main_arg0)
      ∧ r.2.mem ((c.tc : Thread Cert.Attn16.nD Cert.Attn16.τ).loc Cert.Attn16.main_arg1) = m ((c.tc : Thread Cert.Attn16.nD Cert.Attn16.τ).loc Cert.Attn16.main_arg1)
      ∧ r.2.mem ((c.tc : Thread Cert.Attn16.nD Cert.Attn16.τ).loc Cert.Attn16.main_arg2) = m ((c.tc : Thread Cert.Attn16.nD Cert.Attn16.τ).loc Cert.Attn16.main_arg2)
      ∧ r.2.mem ((c.tc : Thread Cert.Attn16.nD Cert.Attn16.τ).loc Cert.Attn16.main_arg3) = m ((c.tc : Thread Cert.Attn16.nD Cert.Attn16.τ).loc Cert.Attn16.main_arg3)
      ∧ r.2.mem ((c.tc : Thread Cert.Attn16.nD Cert.Attn16.τ).loc Cert.Attn16.main_arg4) = m ((c.tc : Thread Cert.Attn16.nD Cert.Attn16.τ).loc Cert.Attn16.main_arg4)
      ∧ r.2.mem ((c.tc : Thread Cert.Attn16.nD Cert.Attn16.τ).loc Cert.Attn16.main_arg5) = m ((c.tc : Thread Cert.Attn16.nD Cert.Attn16.τ).loc Cert.Attn16.main_arg5))
      ∧ r.2.sem = fun _ => 0)

def quiescent_Attn16Ideal [hAttn16Ideal : Cert.Attn16Ideal.Facts] : Prop :=
  ∀ (m : (ℓ : Loc Cert.Attn16Ideal.nD Cert.Attn16Ideal.τ Cert.Attn16Ideal.sig) → Buf (Elt Ideal) ℓ) (g : Dev Cert.Attn16Ideal.nD → PrngReg), Pre_Attn16Ideal m →
    θ_run (Cert.Attn16Ideal.defs (F := Ideal)) (onTc (τ := Cert.Attn16Ideal.τ) (Cert.Attn16Ideal.main (F := Ideal))) ⟨m, fun _ => 0, g⟩ (fun r => (∀ c : Dev Cert.Attn16Ideal.nD,
      r.2.mem ((c.tc : Thread Cert.Attn16Ideal.nD Cert.Attn16Ideal.τ).loc Cert.Attn16Ideal.main_arg0) = m ((c.tc : Thread Cert.Attn16Ideal.nD Cert.Attn16Ideal.τ).loc Cert.Attn16Ideal.main_arg0)
      ∧ r.2.mem ((c.tc : Thread Cert.Attn16Ideal.nD Cert.Attn16Ideal.τ).loc Cert.Attn16Ideal.main_arg1) = m ((c.tc : Thread Cert.Attn16Ideal.nD Cert.Attn16Ideal.τ).loc Cert.Attn16Ideal.main_arg1)
      ∧ r.2.mem ((c.tc : Thread Cert.Attn16Ideal.nD Cert.Attn16Ideal.τ).loc Cert.Attn16Ideal.main_arg2) = m ((c.tc : Thread Cert.Attn16Ideal.nD Cert.Attn16Ideal.τ).loc Cert.Attn16Ideal.main_arg2)
      ∧ r.2.mem ((c.tc : Thread Cert.Attn16Ideal.nD Cert.Attn16Ideal.τ).loc Cert.Attn16Ideal.main_arg3) = m ((c.tc : Thread Cert.Attn16Ideal.nD Cert.Attn16Ideal.τ).loc Cert.Attn16Ideal.main_arg3)
      ∧ r.2.mem ((c.tc : Thread Cert.Attn16Ideal.nD Cert.Attn16Ideal.τ).loc Cert.Attn16Ideal.main_arg4) = m ((c.tc : Thread Cert.Attn16Ideal.nD Cert.Attn16Ideal.τ).loc Cert.Attn16Ideal.main_arg4)
      ∧ r.2.mem ((c.tc : Thread Cert.Attn16Ideal.nD Cert.Attn16Ideal.τ).loc Cert.Attn16Ideal.main_arg5) = m ((c.tc : Thread Cert.Attn16Ideal.nD Cert.Attn16Ideal.τ).loc Cert.Attn16Ideal.main_arg5))
      ∧ r.2.sem = fun _ => 0)

def quiescent_Attn16RefIdeal [hAttn16RefIdeal : Cert.Attn16RefIdeal.Facts] : Prop :=
  ∀ (m : (ℓ : Loc Cert.Attn16RefIdeal.nD Cert.Attn16RefIdeal.τ Cert.Attn16RefIdeal.sig) → Buf (Elt Ideal) ℓ) (g : Dev Cert.Attn16RefIdeal.nD → PrngReg), Pre_Attn16RefIdeal m →
    θ_run (Cert.Attn16RefIdeal.defs (F := Ideal)) (onTc (τ := Cert.Attn16RefIdeal.τ) (Cert.Attn16RefIdeal.main (F := Ideal))) ⟨m, fun _ => 0, g⟩ (fun r => (∀ c : Dev Cert.Attn16RefIdeal.nD,
      r.2.mem ((c.tc : Thread Cert.Attn16RefIdeal.nD Cert.Attn16RefIdeal.τ).loc Cert.Attn16RefIdeal.main_arg0) = m ((c.tc : Thread Cert.Attn16RefIdeal.nD Cert.Attn16RefIdeal.τ).loc Cert.Attn16RefIdeal.main_arg0)
      ∧ r.2.mem ((c.tc : Thread Cert.Attn16RefIdeal.nD Cert.Attn16RefIdeal.τ).loc Cert.Attn16RefIdeal.main_arg1) = m ((c.tc : Thread Cert.Attn16RefIdeal.nD Cert.Attn16RefIdeal.τ).loc Cert.Attn16RefIdeal.main_arg1)
      ∧ r.2.mem ((c.tc : Thread Cert.Attn16RefIdeal.nD Cert.Attn16RefIdeal.τ).loc Cert.Attn16RefIdeal.main_arg2) = m ((c.tc : Thread Cert.Attn16RefIdeal.nD Cert.Attn16RefIdeal.τ).loc Cert.Attn16RefIdeal.main_arg2)
      ∧ r.2.mem ((c.tc : Thread Cert.Attn16RefIdeal.nD Cert.Attn16RefIdeal.τ).loc Cert.Attn16RefIdeal.main_arg3) = m ((c.tc : Thread Cert.Attn16RefIdeal.nD Cert.Attn16RefIdeal.τ).loc Cert.Attn16RefIdeal.main_arg3)
      ∧ r.2.mem ((c.tc : Thread Cert.Attn16RefIdeal.nD Cert.Attn16RefIdeal.τ).loc Cert.Attn16RefIdeal.main_arg4) = m ((c.tc : Thread Cert.Attn16RefIdeal.nD Cert.Attn16RefIdeal.τ).loc Cert.Attn16RefIdeal.main_arg4)
      ∧ r.2.mem ((c.tc : Thread Cert.Attn16RefIdeal.nD Cert.Attn16RefIdeal.τ).loc Cert.Attn16RefIdeal.main_arg5) = m ((c.tc : Thread Cert.Attn16RefIdeal.nD Cert.Attn16RefIdeal.τ).loc Cert.Attn16RefIdeal.main_arg5))
      ∧ r.2.sem = fun _ => 0)

def quiescent_Attn4 [hAttn4 : Cert.Attn4.Facts] : Prop :=
  ∀ (m : (ℓ : Loc Cert.Attn4.nD Cert.Attn4.τ Cert.Attn4.sig) → Buf (Elt Bits) ℓ) (g : Dev Cert.Attn4.nD → PrngReg), Pre_Attn4 m →
    θ_run (Cert.Attn4.defs (F := Bits)) (onTc (τ := Cert.Attn4.τ) (Cert.Attn4.main (F := Bits))) ⟨m, fun _ => 0, g⟩ (fun r => (∀ c : Dev Cert.Attn4.nD,
      r.2.mem ((c.tc : Thread Cert.Attn4.nD Cert.Attn4.τ).loc Cert.Attn4.main_arg0) = m ((c.tc : Thread Cert.Attn4.nD Cert.Attn4.τ).loc Cert.Attn4.main_arg0)
      ∧ r.2.mem ((c.tc : Thread Cert.Attn4.nD Cert.Attn4.τ).loc Cert.Attn4.main_arg1) = m ((c.tc : Thread Cert.Attn4.nD Cert.Attn4.τ).loc Cert.Attn4.main_arg1)
      ∧ r.2.mem ((c.tc : Thread Cert.Attn4.nD Cert.Attn4.τ).loc Cert.Attn4.main_arg2) = m ((c.tc : Thread Cert.Attn4.nD Cert.Attn4.τ).loc Cert.Attn4.main_arg2)
      ∧ r.2.mem ((c.tc : Thread Cert.Attn4.nD Cert.Attn4.τ).loc Cert.Attn4.main_arg3) = m ((c.tc : Thread Cert.Attn4.nD Cert.Attn4.τ).loc Cert.Attn4.main_arg3)
      ∧ r.2.mem ((c.tc : Thread Cert.Attn4.nD Cert.Attn4.τ).loc Cert.Attn4.main_arg4) = m ((c.tc : Thread Cert.Attn4.nD Cert.Attn4.τ).loc Cert.Attn4.main_arg4)
      ∧ r.2.mem ((c.tc : Thread Cert.Attn4.nD Cert.Attn4.τ).loc Cert.Attn4.main_arg5) = m ((c.tc : Thread Cert.Attn4.nD Cert.Attn4.τ).loc Cert.Attn4.main_arg5))
      ∧ r.2.sem = fun _ => 0)

def quiescent_Attn4Ideal [hAttn4Ideal : Cert.Attn4Ideal.Facts] : Prop :=
  ∀ (m : (ℓ : Loc Cert.Attn4Ideal.nD Cert.Attn4Ideal.τ Cert.Attn4Ideal.sig) → Buf (Elt Ideal) ℓ) (g : Dev Cert.Attn4Ideal.nD → PrngReg), Pre_Attn4Ideal m →
    θ_run (Cert.Attn4Ideal.defs (F := Ideal)) (onTc (τ := Cert.Attn4Ideal.τ) (Cert.Attn4Ideal.main (F := Ideal))) ⟨m, fun _ => 0, g⟩ (fun r => (∀ c : Dev Cert.Attn4Ideal.nD,
      r.2.mem ((c.tc : Thread Cert.Attn4Ideal.nD Cert.Attn4Ideal.τ).loc Cert.Attn4Ideal.main_arg0) = m ((c.tc : Thread Cert.Attn4Ideal.nD Cert.Attn4Ideal.τ).loc Cert.Attn4Ideal.main_arg0)
      ∧ r.2.mem ((c.tc : Thread Cert.Attn4Ideal.nD Cert.Attn4Ideal.τ).loc Cert.Attn4Ideal.main_arg1) = m ((c.tc : Thread Cert.Attn4Ideal.nD Cert.Attn4Ideal.τ).loc Cert.Attn4Ideal.main_arg1)
      ∧ r.2.mem ((c.tc : Thread Cert.Attn4Ideal.nD Cert.Attn4Ideal.τ).loc Cert.Attn4Ideal.main_arg2) = m ((c.tc : Thread Cert.Attn4Ideal.nD Cert.Attn4Ideal.τ).loc Cert.Attn4Ideal.main_arg2)
      ∧ r.2.mem ((c.tc : Thread Cert.Attn4Ideal.nD Cert.Attn4Ideal.τ).loc Cert.Attn4Ideal.main_arg3) = m ((c.tc : Thread Cert.Attn4Ideal.nD Cert.Attn4Ideal.τ).loc Cert.Attn4Ideal.main_arg3)
      ∧ r.2.mem ((c.tc : Thread Cert.Attn4Ideal.nD Cert.Attn4Ideal.τ).loc Cert.Attn4Ideal.main_arg4) = m ((c.tc : Thread Cert.Attn4Ideal.nD Cert.Attn4Ideal.τ).loc Cert.Attn4Ideal.main_arg4)
      ∧ r.2.mem ((c.tc : Thread Cert.Attn4Ideal.nD Cert.Attn4Ideal.τ).loc Cert.Attn4Ideal.main_arg5) = m ((c.tc : Thread Cert.Attn4Ideal.nD Cert.Attn4Ideal.τ).loc Cert.Attn4Ideal.main_arg5))
      ∧ r.2.sem = fun _ => 0)

def quiescent_Attn4RefIdeal [hAttn4RefIdeal : Cert.Attn4RefIdeal.Facts] : Prop :=
  ∀ (m : (ℓ : Loc Cert.Attn4RefIdeal.nD Cert.Attn4RefIdeal.τ Cert.Attn4RefIdeal.sig) → Buf (Elt Ideal) ℓ) (g : Dev Cert.Attn4RefIdeal.nD → PrngReg), Pre_Attn4RefIdeal m →
    θ_run (Cert.Attn4RefIdeal.defs (F := Ideal)) (onTc (τ := Cert.Attn4RefIdeal.τ) (Cert.Attn4RefIdeal.main (F := Ideal))) ⟨m, fun _ => 0, g⟩ (fun r => (∀ c : Dev Cert.Attn4RefIdeal.nD,
      r.2.mem ((c.tc : Thread Cert.Attn4RefIdeal.nD Cert.Attn4RefIdeal.τ).loc Cert.Attn4RefIdeal.main_arg0) = m ((c.tc : Thread Cert.Attn4RefIdeal.nD Cert.Attn4RefIdeal.τ).loc Cert.Attn4RefIdeal.main_arg0)
      ∧ r.2.mem ((c.tc : Thread Cert.Attn4RefIdeal.nD Cert.Attn4RefIdeal.τ).loc Cert.Attn4RefIdeal.main_arg1) = m ((c.tc : Thread Cert.Attn4RefIdeal.nD Cert.Attn4RefIdeal.τ).loc Cert.Attn4RefIdeal.main_arg1)
      ∧ r.2.mem ((c.tc : Thread Cert.Attn4RefIdeal.nD Cert.Attn4RefIdeal.τ).loc Cert.Attn4RefIdeal.main_arg2) = m ((c.tc : Thread Cert.Attn4RefIdeal.nD Cert.Attn4RefIdeal.τ).loc Cert.Attn4RefIdeal.main_arg2)
      ∧ r.2.mem ((c.tc : Thread Cert.Attn4RefIdeal.nD Cert.Attn4RefIdeal.τ).loc Cert.Attn4RefIdeal.main_arg3) = m ((c.tc : Thread Cert.Attn4RefIdeal.nD Cert.Attn4RefIdeal.τ).loc Cert.Attn4RefIdeal.main_arg3)
      ∧ r.2.mem ((c.tc : Thread Cert.Attn4RefIdeal.nD Cert.Attn4RefIdeal.τ).loc Cert.Attn4RefIdeal.main_arg4) = m ((c.tc : Thread Cert.Attn4RefIdeal.nD Cert.Attn4RefIdeal.τ).loc Cert.Attn4RefIdeal.main_arg4)
      ∧ r.2.mem ((c.tc : Thread Cert.Attn4RefIdeal.nD Cert.Attn4RefIdeal.τ).loc Cert.Attn4RefIdeal.main_arg5) = m ((c.tc : Thread Cert.Attn4RefIdeal.nD Cert.Attn4RefIdeal.τ).loc Cert.Attn4RefIdeal.main_arg5))
      ∧ r.2.sem = fun _ => 0)

def quiescent_Attn1 [hAttn1 : Cert.Attn1.Facts] : Prop :=
  ∀ (m : (ℓ : Loc Cert.Attn1.nD Cert.Attn1.τ Cert.Attn1.sig) → Buf (Elt Bits) ℓ) (g : Dev Cert.Attn1.nD → PrngReg), Pre_Attn1 m →
    θ_run (Cert.Attn1.defs (F := Bits)) (onTc (τ := Cert.Attn1.τ) (Cert.Attn1.main (F := Bits))) ⟨m, fun _ => 0, g⟩ (fun r => (∀ c : Dev Cert.Attn1.nD,
      r.2.mem ((c.tc : Thread Cert.Attn1.nD Cert.Attn1.τ).loc Cert.Attn1.main_arg0) = m ((c.tc : Thread Cert.Attn1.nD Cert.Attn1.τ).loc Cert.Attn1.main_arg0)
      ∧ r.2.mem ((c.tc : Thread Cert.Attn1.nD Cert.Attn1.τ).loc Cert.Attn1.main_arg1) = m ((c.tc : Thread Cert.Attn1.nD Cert.Attn1.τ).loc Cert.Attn1.main_arg1)
      ∧ r.2.mem ((c.tc : Thread Cert.Attn1.nD Cert.Attn1.τ).loc Cert.Attn1.main_arg2) = m ((c.tc : Thread Cert.Attn1.nD Cert.Attn1.τ).loc Cert.Attn1.main_arg2)
      ∧ r.2.mem ((c.tc : Thread Cert.Attn1.nD Cert.Attn1.τ).loc Cert.Attn1.main_arg3) = m ((c.tc : Thread Cert.Attn1.nD Cert.Attn1.τ).loc Cert.Attn1.main_arg3)
      ∧ r.2.mem ((c.tc : Thread Cert.Attn1.nD Cert.Attn1.τ).loc Cert.Attn1.main_arg4) = m ((c.tc : Thread Cert.Attn1.nD Cert.Attn1.τ).loc Cert.Attn1.main_arg4)
      ∧ r.2.mem ((c.tc : Thread Cert.Attn1.nD Cert.Attn1.τ).loc Cert.Attn1.main_arg5) = m ((c.tc : Thread Cert.Attn1.nD Cert.Attn1.τ).loc Cert.Attn1.main_arg5))
      ∧ r.2.sem = fun _ => 0)

def quiescent_Attn1Ideal [hAttn1Ideal : Cert.Attn1Ideal.Facts] : Prop :=
  ∀ (m : (ℓ : Loc Cert.Attn1Ideal.nD Cert.Attn1Ideal.τ Cert.Attn1Ideal.sig) → Buf (Elt Ideal) ℓ) (g : Dev Cert.Attn1Ideal.nD → PrngReg), Pre_Attn1Ideal m →
    θ_run (Cert.Attn1Ideal.defs (F := Ideal)) (onTc (τ := Cert.Attn1Ideal.τ) (Cert.Attn1Ideal.main (F := Ideal))) ⟨m, fun _ => 0, g⟩ (fun r => (∀ c : Dev Cert.Attn1Ideal.nD,
      r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0)
      ∧ r.2.mem ((c.tc : Thread Cert.Attn1Ideal.nD Cert.Attn1Ideal.τ).loc Cert.Attn1Ideal.main_arg1) = m ((c.tc : Thread Cert.Attn1Ideal.nD Cert.Attn1Ideal.τ).loc Cert.Attn1Ideal.main_arg1)
      ∧ r.2.mem ((c.tc : Thread Cert.Attn1Ideal.nD Cert.Attn1Ideal.τ).loc Cert.Attn1Ideal.main_arg2) = m ((c.tc : Thread Cert.Attn1Ideal.nD Cert.Attn1Ideal.τ).loc Cert.Attn1Ideal.main_arg2)
      ∧ r.2.mem ((c.tc : Thread Cert.Attn1Ideal.nD Cert.Attn1Ideal.τ).loc Cert.Attn1Ideal.main_arg3) = m ((c.tc : Thread Cert.Attn1Ideal.nD Cert.Attn1Ideal.τ).loc Cert.Attn1Ideal.main_arg3)
      ∧ r.2.mem ((c.tc : Thread Cert.Attn1Ideal.nD Cert.Attn1Ideal.τ).loc Cert.Attn1Ideal.main_arg4) = m ((c.tc : Thread Cert.Attn1Ideal.nD Cert.Attn1Ideal.τ).loc Cert.Attn1Ideal.main_arg4)
      ∧ r.2.mem ((c.tc : Thread Cert.Attn1Ideal.nD Cert.Attn1Ideal.τ).loc Cert.Attn1Ideal.main_arg5) = m ((c.tc : Thread Cert.Attn1Ideal.nD Cert.Attn1Ideal.τ).loc Cert.Attn1Ideal.main_arg5))
      ∧ r.2.sem = fun _ => 0)

def quiescent_Attn1RefIdeal [hAttn1RefIdeal : Cert.Attn1RefIdeal.Facts] : Prop :=
  ∀ (m : (ℓ : Loc Cert.Attn1RefIdeal.nD Cert.Attn1RefIdeal.τ Cert.Attn1RefIdeal.sig) → Buf (Elt Ideal) ℓ) (g : Dev Cert.Attn1RefIdeal.nD → PrngReg), Pre_Attn1RefIdeal m →
    θ_run (Cert.Attn1RefIdeal.defs (F := Ideal)) (onTc (τ := Cert.Attn1RefIdeal.τ) (Cert.Attn1RefIdeal.main (F := Ideal))) ⟨m, fun _ => 0, g⟩ (fun r => (∀ c : Dev Cert.Attn1RefIdeal.nD,
      r.2.mem ((c.tc : Thread Cert.Attn1RefIdeal.nD Cert.Attn1RefIdeal.τ).loc Cert.Attn1RefIdeal.main_arg0) = m ((c.tc : Thread Cert.Attn1RefIdeal.nD Cert.Attn1RefIdeal.τ).loc Cert.Attn1RefIdeal.main_arg0)
      ∧ r.2.mem ((c.tc : Thread Cert.Attn1RefIdeal.nD Cert.Attn1RefIdeal.τ).loc Cert.Attn1RefIdeal.main_arg1) = m ((c.tc : Thread Cert.Attn1RefIdeal.nD Cert.Attn1RefIdeal.τ).loc Cert.Attn1RefIdeal.main_arg1)
      ∧ r.2.mem ((c.tc : Thread Cert.Attn1RefIdeal.nD Cert.Attn1RefIdeal.τ).loc Cert.Attn1RefIdeal.main_arg2) = m ((c.tc : Thread Cert.Attn1RefIdeal.nD Cert.Attn1RefIdeal.τ).loc Cert.Attn1RefIdeal.main_arg2)
      ∧ r.2.mem ((c.tc : Thread Cert.Attn1RefIdeal.nD Cert.Attn1RefIdeal.τ).loc Cert.Attn1RefIdeal.main_arg3) = m ((c.tc : Thread Cert.Attn1RefIdeal.nD Cert.Attn1RefIdeal.τ).loc Cert.Attn1RefIdeal.main_arg3)
      ∧ r.2.mem ((c.tc : Thread Cert.Attn1RefIdeal.nD Cert.Attn1RefIdeal.τ).loc Cert.Attn1RefIdeal.main_arg4) = m ((c.tc : Thread Cert.Attn1RefIdeal.nD Cert.Attn1RefIdeal.τ).loc Cert.Attn1RefIdeal.main_arg4)
      ∧ r.2.mem ((c.tc : Thread Cert.Attn1RefIdeal.nD Cert.Attn1RefIdeal.τ).loc Cert.Attn1RefIdeal.main_arg5) = m ((c.tc : Thread Cert.Attn1RefIdeal.nD Cert.Attn1RefIdeal.τ).loc Cert.Attn1RefIdeal.main_arg5))
      ∧ r.2.sem = fun _ => 0)

def quiescent_Qkv1 [hQkv1 : Cert.Qkv1.Facts] : Prop :=
  ∀ (m : (ℓ : Loc Cert.Qkv1.nD Cert.Qkv1.τ Cert.Qkv1.sig) → Buf (Elt Bits) ℓ) (g : Dev Cert.Qkv1.nD → PrngReg), Pre_Qkv1 m →
    θ_run (Cert.Qkv1.defs (F := Bits)) (onTc (τ := Cert.Qkv1.τ) (Cert.Qkv1.main (F := Bits))) ⟨m, fun _ => 0, g⟩ (fun r => (∀ c : Dev Cert.Qkv1.nD,
      r.2.mem ((c.tc : Thread Cert.Qkv1.nD Cert.Qkv1.τ).loc Cert.Qkv1.main_arg0) = m ((c.tc : Thread Cert.Qkv1.nD Cert.Qkv1.τ).loc Cert.Qkv1.main_arg0)
      ∧ r.2.mem ((c.tc : Thread Cert.Qkv1.nD Cert.Qkv1.τ).loc Cert.Qkv1.main_arg1) = m ((c.tc : Thread Cert.Qkv1.nD Cert.Qkv1.τ).loc Cert.Qkv1.main_arg1)
      ∧ r.2.mem ((c.tc : Thread Cert.Qkv1.nD Cert.Qkv1.τ).loc Cert.Qkv1.main_arg2) = m ((c.tc : Thread Cert.Qkv1.nD Cert.Qkv1.τ).loc Cert.Qkv1.main_arg2)
      ∧ r.2.mem ((c.tc : Thread Cert.Qkv1.nD Cert.Qkv1.τ).loc Cert.Qkv1.main_arg3) = m ((c.tc : Thread Cert.Qkv1.nD Cert.Qkv1.τ).loc Cert.Qkv1.main_arg3)
      ∧ r.2.mem ((c.tc : Thread Cert.Qkv1.nD Cert.Qkv1.τ).loc Cert.Qkv1.main_arg4) = m ((c.tc : Thread Cert.Qkv1.nD Cert.Qkv1.τ).loc Cert.Qkv1.main_arg4)
      ∧ r.2.mem ((c.tc : Thread Cert.Qkv1.nD Cert.Qkv1.τ).loc Cert.Qkv1.main_arg5) = m ((c.tc : Thread Cert.Qkv1.nD Cert.Qkv1.τ).loc Cert.Qkv1.main_arg5))
      ∧ r.2.sem = fun _ => 0)

def quiescent_Qkv1Ideal [hQkv1Ideal : Cert.Qkv1Ideal.Facts] : Prop :=
  ∀ (m : (ℓ : Loc Cert.Qkv1Ideal.nD Cert.Qkv1Ideal.τ Cert.Qkv1Ideal.sig) → Buf (Elt Ideal) ℓ) (g : Dev Cert.Qkv1Ideal.nD → PrngReg), Pre_Qkv1Ideal m →
    θ_run (Cert.Qkv1Ideal.defs (F := Ideal)) (onTc (τ := Cert.Qkv1Ideal.τ) (Cert.Qkv1Ideal.main (F := Ideal))) ⟨m, fun _ => 0, g⟩ (fun r => (∀ c : Dev Cert.Qkv1Ideal.nD,
      r.2.mem ((c.tc : Thread Cert.Qkv1Ideal.nD Cert.Qkv1Ideal.τ).loc Cert.Qkv1Ideal.main_arg0) = m ((c.tc : Thread Cert.Qkv1Ideal.nD Cert.Qkv1Ideal.τ).loc Cert.Qkv1Ideal.main_arg0)
      ∧ r.2.mem ((c.tc : Thread Cert.Qkv1Ideal.nD Cert.Qkv1Ideal.τ).loc Cert.Qkv1Ideal.main_arg1) = m ((c.tc : Thread Cert.Qkv1Ideal.nD Cert.Qkv1Ideal.τ).loc Cert.Qkv1Ideal.main_arg1)
      ∧ r.2.mem ((c.tc : Thread Cert.Qkv1Ideal.nD Cert.Qkv1Ideal.τ).loc Cert.Qkv1Ideal.main_arg2) = m ((c.tc : Thread Cert.Qkv1Ideal.nD Cert.Qkv1Ideal.τ).loc Cert.Qkv1Ideal.main_arg2)
      ∧ r.2.mem ((c.tc : Thread Cert.Qkv1Ideal.nD Cert.Qkv1Ideal.τ).loc Cert.Qkv1Ideal.main_arg3) = m ((c.tc : Thread Cert.Qkv1Ideal.nD Cert.Qkv1Ideal.τ).loc Cert.Qkv1Ideal.main_arg3)
      ∧ r.2.mem ((c.tc : Thread Cert.Qkv1Ideal.nD Cert.Qkv1Ideal.τ).loc Cert.Qkv1Ideal.main_arg4) = m ((c.tc : Thread Cert.Qkv1Ideal.nD Cert.Qkv1Ideal.τ).loc Cert.Qkv1Ideal.main_arg4)
      ∧ r.2.mem ((c.tc : Thread Cert.Qkv1Ideal.nD Cert.Qkv1Ideal.τ).loc Cert.Qkv1Ideal.main_arg5) = m ((c.tc : Thread Cert.Qkv1Ideal.nD Cert.Qkv1Ideal.τ).loc Cert.Qkv1Ideal.main_arg5))
      ∧ r.2.sem = fun _ => 0)

def quiescent_Qkv1RefIdeal [hQkv1RefIdeal : Cert.Qkv1RefIdeal.Facts] : Prop :=
  ∀ (m : (ℓ : Loc Cert.Qkv1RefIdeal.nD Cert.Qkv1RefIdeal.τ Cert.Qkv1RefIdeal.sig) → Buf (Elt Ideal) ℓ) (g : Dev Cert.Qkv1RefIdeal.nD → PrngReg), Pre_Qkv1RefIdeal m →
    θ_run (Cert.Qkv1RefIdeal.defs (F := Ideal)) (onTc (τ := Cert.Qkv1RefIdeal.τ) (Cert.Qkv1RefIdeal.main (F := Ideal))) ⟨m, fun _ => 0, g⟩ (fun r => (∀ c : Dev Cert.Qkv1RefIdeal.nD,
      r.2.mem ((c.tc : Thread Cert.Qkv1RefIdeal.nD Cert.Qkv1RefIdeal.τ).loc Cert.Qkv1RefIdeal.main_arg0) = m ((c.tc : Thread Cert.Qkv1RefIdeal.nD Cert.Qkv1RefIdeal.τ).loc Cert.Qkv1RefIdeal.main_arg0)
      ∧ r.2.mem ((c.tc : Thread Cert.Qkv1RefIdeal.nD Cert.Qkv1RefIdeal.τ).loc Cert.Qkv1RefIdeal.main_arg1) = m ((c.tc : Thread Cert.Qkv1RefIdeal.nD Cert.Qkv1RefIdeal.τ).loc Cert.Qkv1RefIdeal.main_arg1)
      ∧ r.2.mem ((c.tc : Thread Cert.Qkv1RefIdeal.nD Cert.Qkv1RefIdeal.τ).loc Cert.Qkv1RefIdeal.main_arg2) = m ((c.tc : Thread Cert.Qkv1RefIdeal.nD Cert.Qkv1RefIdeal.τ).loc Cert.Qkv1RefIdeal.main_arg2)
      ∧ r.2.mem ((c.tc : Thread Cert.Qkv1RefIdeal.nD Cert.Qkv1RefIdeal.τ).loc Cert.Qkv1RefIdeal.main_arg3) = m ((c.tc : Thread Cert.Qkv1RefIdeal.nD Cert.Qkv1RefIdeal.τ).loc Cert.Qkv1RefIdeal.main_arg3)
      ∧ r.2.mem ((c.tc : Thread Cert.Qkv1RefIdeal.nD Cert.Qkv1RefIdeal.τ).loc Cert.Qkv1RefIdeal.main_arg4) = m ((c.tc : Thread Cert.Qkv1RefIdeal.nD Cert.Qkv1RefIdeal.τ).loc Cert.Qkv1RefIdeal.main_arg4)
      ∧ r.2.mem ((c.tc : Thread Cert.Qkv1RefIdeal.nD Cert.Qkv1RefIdeal.τ).loc Cert.Qkv1RefIdeal.main_arg5) = m ((c.tc : Thread Cert.Qkv1RefIdeal.nD Cert.Qkv1RefIdeal.τ).loc Cert.Qkv1RefIdeal.main_arg5))
      ∧ r.2.sem = fun _ => 0)

def quiescent_Qkv4 [hQkv4 : Cert.Qkv4.Facts] : Prop :=
  ∀ (m : (ℓ : Loc Cert.Qkv4.nD Cert.Qkv4.τ Cert.Qkv4.sig) → Buf (Elt Bits) ℓ) (g : Dev Cert.Qkv4.nD → PrngReg), Pre_Qkv4 m →
    θ_run (Cert.Qkv4.defs (F := Bits)) (onTc (τ := Cert.Qkv4.τ) (Cert.Qkv4.main (F := Bits))) ⟨m, fun _ => 0, g⟩ (fun r => (∀ c : Dev Cert.Qkv4.nD,
      r.2.mem ((c.tc : Thread Cert.Qkv4.nD Cert.Qkv4.τ).loc Cert.Qkv4.main_arg0) = m ((c.tc : Thread Cert.Qkv4.nD Cert.Qkv4.τ).loc Cert.Qkv4.main_arg0)
      ∧ r.2.mem ((c.tc : Thread Cert.Qkv4.nD Cert.Qkv4.τ).loc Cert.Qkv4.main_arg1) = m ((c.tc : Thread Cert.Qkv4.nD Cert.Qkv4.τ).loc Cert.Qkv4.main_arg1)
      ∧ r.2.mem ((c.tc : Thread Cert.Qkv4.nD Cert.Qkv4.τ).loc Cert.Qkv4.main_arg2) = m ((c.tc : Thread Cert.Qkv4.nD Cert.Qkv4.τ).loc Cert.Qkv4.main_arg2)
      ∧ r.2.mem ((c.tc : Thread Cert.Qkv4.nD Cert.Qkv4.τ).loc Cert.Qkv4.main_arg3) = m ((c.tc : Thread Cert.Qkv4.nD Cert.Qkv4.τ).loc Cert.Qkv4.main_arg3)
      ∧ r.2.mem ((c.tc : Thread Cert.Qkv4.nD Cert.Qkv4.τ).loc Cert.Qkv4.main_arg4) = m ((c.tc : Thread Cert.Qkv4.nD Cert.Qkv4.τ).loc Cert.Qkv4.main_arg4)
      ∧ r.2.mem ((c.tc : Thread Cert.Qkv4.nD Cert.Qkv4.τ).loc Cert.Qkv4.main_arg5) = m ((c.tc : Thread Cert.Qkv4.nD Cert.Qkv4.τ).loc Cert.Qkv4.main_arg5))
      ∧ r.2.sem = fun _ => 0)

def quiescent_Qkv4Ideal [hQkv4Ideal : Cert.Qkv4Ideal.Facts] : Prop :=
  ∀ (m : (ℓ : Loc Cert.Qkv4Ideal.nD Cert.Qkv4Ideal.τ Cert.Qkv4Ideal.sig) → Buf (Elt Ideal) ℓ) (g : Dev Cert.Qkv4Ideal.nD → PrngReg), Pre_Qkv4Ideal m →
    θ_run (Cert.Qkv4Ideal.defs (F := Ideal)) (onTc (τ := Cert.Qkv4Ideal.τ) (Cert.Qkv4Ideal.main (F := Ideal))) ⟨m, fun _ => 0, g⟩ (fun r => (∀ c : Dev Cert.Qkv4Ideal.nD,
      r.2.mem ((c.tc : Thread Cert.Qkv4Ideal.nD Cert.Qkv4Ideal.τ).loc Cert.Qkv4Ideal.main_arg0) = m ((c.tc : Thread Cert.Qkv4Ideal.nD Cert.Qkv4Ideal.τ).loc Cert.Qkv4Ideal.main_arg0)
      ∧ r.2.mem ((c.tc : Thread Cert.Qkv4Ideal.nD Cert.Qkv4Ideal.τ).loc Cert.Qkv4Ideal.main_arg1) = m ((c.tc : Thread Cert.Qkv4Ideal.nD Cert.Qkv4Ideal.τ).loc Cert.Qkv4Ideal.main_arg1)
      ∧ r.2.mem ((c.tc : Thread Cert.Qkv4Ideal.nD Cert.Qkv4Ideal.τ).loc Cert.Qkv4Ideal.main_arg2) = m ((c.tc : Thread Cert.Qkv4Ideal.nD Cert.Qkv4Ideal.τ).loc Cert.Qkv4Ideal.main_arg2)
      ∧ r.2.mem ((c.tc : Thread Cert.Qkv4Ideal.nD Cert.Qkv4Ideal.τ).loc Cert.Qkv4Ideal.main_arg3) = m ((c.tc : Thread Cert.Qkv4Ideal.nD Cert.Qkv4Ideal.τ).loc Cert.Qkv4Ideal.main_arg3)
      ∧ r.2.mem ((c.tc : Thread Cert.Qkv4Ideal.nD Cert.Qkv4Ideal.τ).loc Cert.Qkv4Ideal.main_arg4) = m ((c.tc : Thread Cert.Qkv4Ideal.nD Cert.Qkv4Ideal.τ).loc Cert.Qkv4Ideal.main_arg4)
      ∧ r.2.mem ((c.tc : Thread Cert.Qkv4Ideal.nD Cert.Qkv4Ideal.τ).loc Cert.Qkv4Ideal.main_arg5) = m ((c.tc : Thread Cert.Qkv4Ideal.nD Cert.Qkv4Ideal.τ).loc Cert.Qkv4Ideal.main_arg5))
      ∧ r.2.sem = fun _ => 0)

def quiescent_Qkv4RefIdeal [hQkv4RefIdeal : Cert.Qkv4RefIdeal.Facts] : Prop :=
  ∀ (m : (ℓ : Loc Cert.Qkv4RefIdeal.nD Cert.Qkv4RefIdeal.τ Cert.Qkv4RefIdeal.sig) → Buf (Elt Ideal) ℓ) (g : Dev Cert.Qkv4RefIdeal.nD → PrngReg), Pre_Qkv4RefIdeal m →
    θ_run (Cert.Qkv4RefIdeal.defs (F := Ideal)) (onTc (τ := Cert.Qkv4RefIdeal.τ) (Cert.Qkv4RefIdeal.main (F := Ideal))) ⟨m, fun _ => 0, g⟩ (fun r => (∀ c : Dev Cert.Qkv4RefIdeal.nD,
      r.2.mem ((c.tc : Thread Cert.Qkv4RefIdeal.nD Cert.Qkv4RefIdeal.τ).loc Cert.Qkv4RefIdeal.main_arg0) = m ((c.tc : Thread Cert.Qkv4RefIdeal.nD Cert.Qkv4RefIdeal.τ).loc Cert.Qkv4RefIdeal.main_arg0)
      ∧ r.2.mem ((c.tc : Thread Cert.Qkv4RefIdeal.nD Cert.Qkv4RefIdeal.τ).loc Cert.Qkv4RefIdeal.main_arg1) = m ((c.tc : Thread Cert.Qkv4RefIdeal.nD Cert.Qkv4RefIdeal.τ).loc Cert.Qkv4RefIdeal.main_arg1)
      ∧ r.2.mem ((c.tc : Thread Cert.Qkv4RefIdeal.nD Cert.Qkv4RefIdeal.τ).loc Cert.Qkv4RefIdeal.main_arg2) = m ((c.tc : Thread Cert.Qkv4RefIdeal.nD Cert.Qkv4RefIdeal.τ).loc Cert.Qkv4RefIdeal.main_arg2)
      ∧ r.2.mem ((c.tc : Thread Cert.Qkv4RefIdeal.nD Cert.Qkv4RefIdeal.τ).loc Cert.Qkv4RefIdeal.main_arg3) = m ((c.tc : Thread Cert.Qkv4RefIdeal.nD Cert.Qkv4RefIdeal.τ).loc Cert.Qkv4RefIdeal.main_arg3)
      ∧ r.2.mem ((c.tc : Thread Cert.Qkv4RefIdeal.nD Cert.Qkv4RefIdeal.τ).loc Cert.Qkv4RefIdeal.main_arg4) = m ((c.tc : Thread Cert.Qkv4RefIdeal.nD Cert.Qkv4RefIdeal.τ).loc Cert.Qkv4RefIdeal.main_arg4)
      ∧ r.2.mem ((c.tc : Thread Cert.Qkv4RefIdeal.nD Cert.Qkv4RefIdeal.τ).loc Cert.Qkv4RefIdeal.main_arg5) = m ((c.tc : Thread Cert.Qkv4RefIdeal.nD Cert.Qkv4RefIdeal.τ).loc Cert.Qkv4RefIdeal.main_arg5))
      ∧ r.2.sem = fun _ => 0)

def quiescent_Qkv16 [hQkv16 : Cert.Qkv16.Facts] : Prop :=
  ∀ (m : (ℓ : Loc Cert.Qkv16.nD Cert.Qkv16.τ Cert.Qkv16.sig) → Buf (Elt Bits) ℓ) (g : Dev Cert.Qkv16.nD → PrngReg), Pre_Qkv16 m →
    θ_run (Cert.Qkv16.defs (F := Bits)) (onTc (τ := Cert.Qkv16.τ) (Cert.Qkv16.main (F := Bits))) ⟨m, fun _ => 0, g⟩ (fun r => (∀ c : Dev Cert.Qkv16.nD,
      r.2.mem ((c.tc : Thread Cert.Qkv16.nD Cert.Qkv16.τ).loc Cert.Qkv16.main_arg0) = m ((c.tc : Thread Cert.Qkv16.nD Cert.Qkv16.τ).loc Cert.Qkv16.main_arg0)
      ∧ r.2.mem ((c.tc : Thread Cert.Qkv16.nD Cert.Qkv16.τ).loc Cert.Qkv16.main_arg1) = m ((c.tc : Thread Cert.Qkv16.nD Cert.Qkv16.τ).loc Cert.Qkv16.main_arg1)
      ∧ r.2.mem ((c.tc : Thread Cert.Qkv16.nD Cert.Qkv16.τ).loc Cert.Qkv16.main_arg2) = m ((c.tc : Thread Cert.Qkv16.nD Cert.Qkv16.τ).loc Cert.Qkv16.main_arg2)
      ∧ r.2.mem ((c.tc : Thread Cert.Qkv16.nD Cert.Qkv16.τ).loc Cert.Qkv16.main_arg3) = m ((c.tc : Thread Cert.Qkv16.nD Cert.Qkv16.τ).loc Cert.Qkv16.main_arg3)
      ∧ r.2.mem ((c.tc : Thread Cert.Qkv16.nD Cert.Qkv16.τ).loc Cert.Qkv16.main_arg4) = m ((c.tc : Thread Cert.Qkv16.nD Cert.Qkv16.τ).loc Cert.Qkv16.main_arg4)
      ∧ r.2.mem ((c.tc : Thread Cert.Qkv16.nD Cert.Qkv16.τ).loc Cert.Qkv16.main_arg5) = m ((c.tc : Thread Cert.Qkv16.nD Cert.Qkv16.τ).loc Cert.Qkv16.main_arg5))
      ∧ r.2.sem = fun _ => 0)

def quiescent_Qkv16Ideal [hQkv16Ideal : Cert.Qkv16Ideal.Facts] : Prop :=
  ∀ (m : (ℓ : Loc Cert.Qkv16Ideal.nD Cert.Qkv16Ideal.τ Cert.Qkv16Ideal.sig) → Buf (Elt Ideal) ℓ) (g : Dev Cert.Qkv16Ideal.nD → PrngReg), Pre_Qkv16Ideal m →
    θ_run (Cert.Qkv16Ideal.defs (F := Ideal)) (onTc (τ := Cert.Qkv16Ideal.τ) (Cert.Qkv16Ideal.main (F := Ideal))) ⟨m, fun _ => 0, g⟩ (fun r => (∀ c : Dev Cert.Qkv16Ideal.nD,
      r.2.mem ((c.tc : Thread Cert.Qkv16Ideal.nD Cert.Qkv16Ideal.τ).loc Cert.Qkv16Ideal.main_arg0) = m ((c.tc : Thread Cert.Qkv16Ideal.nD Cert.Qkv16Ideal.τ).loc Cert.Qkv16Ideal.main_arg0)
      ∧ r.2.mem ((c.tc : Thread Cert.Qkv16Ideal.nD Cert.Qkv16Ideal.τ).loc Cert.Qkv16Ideal.main_arg1) = m ((c.tc : Thread Cert.Qkv16Ideal.nD Cert.Qkv16Ideal.τ).loc Cert.Qkv16Ideal.main_arg1)
      ∧ r.2.mem ((c.tc : Thread Cert.Qkv16Ideal.nD Cert.Qkv16Ideal.τ).loc Cert.Qkv16Ideal.main_arg2) = m ((c.tc : Thread Cert.Qkv16Ideal.nD Cert.Qkv16Ideal.τ).loc Cert.Qkv16Ideal.main_arg2)
      ∧ r.2.mem ((c.tc : Thread Cert.Qkv16Ideal.nD Cert.Qkv16Ideal.τ).loc Cert.Qkv16Ideal.main_arg3) = m ((c.tc : Thread Cert.Qkv16Ideal.nD Cert.Qkv16Ideal.τ).loc Cert.Qkv16Ideal.main_arg3)
      ∧ r.2.mem ((c.tc : Thread Cert.Qkv16Ideal.nD Cert.Qkv16Ideal.τ).loc Cert.Qkv16Ideal.main_arg4) = m ((c.tc : Thread Cert.Qkv16Ideal.nD Cert.Qkv16Ideal.τ).loc Cert.Qkv16Ideal.main_arg4)
      ∧ r.2.mem ((c.tc : Thread Cert.Qkv16Ideal.nD Cert.Qkv16Ideal.τ).loc Cert.Qkv16Ideal.main_arg5) = m ((c.tc : Thread Cert.Qkv16Ideal.nD Cert.Qkv16Ideal.τ).loc Cert.Qkv16Ideal.main_arg5))
      ∧ r.2.sem = fun _ => 0)

def quiescent_Qkv16RefIdeal [hQkv16RefIdeal : Cert.Qkv16RefIdeal.Facts] : Prop :=
  ∀ (m : (ℓ : Loc Cert.Qkv16RefIdeal.nD Cert.Qkv16RefIdeal.τ Cert.Qkv16RefIdeal.sig) → Buf (Elt Ideal) ℓ) (g : Dev Cert.Qkv16RefIdeal.nD → PrngReg), Pre_Qkv16RefIdeal m →
    θ_run (Cert.Qkv16RefIdeal.defs (F := Ideal)) (onTc (τ := Cert.Qkv16RefIdeal.τ) (Cert.Qkv16RefIdeal.main (F := Ideal))) ⟨m, fun _ => 0, g⟩ (fun r => (∀ c : Dev Cert.Qkv16RefIdeal.nD,
      r.2.mem ((c.tc : Thread Cert.Qkv16RefIdeal.nD Cert.Qkv16RefIdeal.τ).loc Cert.Qkv16RefIdeal.main_arg0) = m ((c.tc : Thread Cert.Qkv16RefIdeal.nD Cert.Qkv16RefIdeal.τ).loc Cert.Qkv16RefIdeal.main_arg0)
      ∧ r.2.mem ((c.tc : Thread Cert.Qkv16RefIdeal.nD Cert.Qkv16RefIdeal.τ).loc Cert.Qkv16RefIdeal.main_arg1) = m ((c.tc : Thread Cert.Qkv16RefIdeal.nD Cert.Qkv16RefIdeal.τ).loc Cert.Qkv16RefIdeal.main_arg1)
      ∧ r.2.mem ((c.tc : Thread Cert.Qkv16RefIdeal.nD Cert.Qkv16RefIdeal.τ).loc Cert.Qkv16RefIdeal.main_arg2) = m ((c.tc : Thread Cert.Qkv16RefIdeal.nD Cert.Qkv16RefIdeal.τ).loc Cert.Qkv16RefIdeal.main_arg2)
      ∧ r.2.mem ((c.tc : Thread Cert.Qkv16RefIdeal.nD Cert.Qkv16RefIdeal.τ).loc Cert.Qkv16RefIdeal.main_arg3) = m ((c.tc : Thread Cert.Qkv16RefIdeal.nD Cert.Qkv16RefIdeal.τ).loc Cert.Qkv16RefIdeal.main_arg3)
      ∧ r.2.mem ((c.tc : Thread Cert.Qkv16RefIdeal.nD Cert.Qkv16RefIdeal.τ).loc Cert.Qkv16RefIdeal.main_arg4) = m ((c.tc : Thread Cert.Qkv16RefIdeal.nD Cert.Qkv16RefIdeal.τ).loc Cert.Qkv16RefIdeal.main_arg4)
      ∧ r.2.mem ((c.tc : Thread Cert.Qkv16RefIdeal.nD Cert.Qkv16RefIdeal.τ).loc Cert.Qkv16RefIdeal.main_arg5) = m ((c.tc : Thread Cert.Qkv16RefIdeal.nD Cert.Qkv16RefIdeal.τ).loc Cert.Qkv16RefIdeal.main_arg5))
      ∧ r.2.sem = fun _ => 0)

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v1_0)) (v1 : (c : Dev Cert.ConvIdeal.nD) → Buf (Elt Ideal) ((c.tc : Thread Cert.ConvIdeal.nD Cert.ConvIdeal.τ).loc Cert.ConvIdeal.main_v1_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v1_0) = v0 c
          ∧ r.2.mem ((c.tc : Thread Cert.ConvIdeal.nD Cert.ConvIdeal.τ).loc Cert.ConvIdeal.main_v1_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v58) = v0 c
          ∧ r.2.mem ((c.tc : Thread Cert.ConvRefIdeal.nD Cert.ConvRefIdeal.τ).loc Cert.ConvRefIdeal.main_v59) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v9) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_GateUpDw_GateUpDwIdeal : Prop :=
  True

def algebraic_GateUpDwIdeal_GateUpDwRefIdeal [hGateUpDwIdeal : Cert.GateUpDwIdeal.Facts] [hGateUpDwRefIdeal : Cert.GateUpDwRefIdeal.Facts] : Prop :=
  ∀ (m : (ℓ : Loc Cert.GateUpDwIdeal.nD Cert.GateUpDwIdeal.τ Cert.GateUpDwIdeal.sig) → Buf (Elt Ideal) ℓ) (g : Dev Cert.GateUpDwIdeal.nD → PrngReg)
    (m' : (ℓ : Loc Cert.GateUpDwRefIdeal.nD Cert.GateUpDwRefIdeal.τ Cert.GateUpDwRefIdeal.sig) → Buf (Elt Ideal) ℓ) (g' : Dev Cert.GateUpDwRefIdeal.nD → PrngReg), Pre_GateUpDwIdeal m →
    (∀ c : Dev Cert.GateUpDwIdeal.nD,
      m' ((c.tc : Thread Cert.GateUpDwRefIdeal.nD Cert.GateUpDwRefIdeal.τ).loc Cert.GateUpDwRefIdeal.main_arg0) = m ((c.tc : Thread Cert.GateUpDwIdeal.nD Cert.GateUpDwIdeal.τ).loc Cert.GateUpDwIdeal.main_arg0)
      ∧ m' ((c.tc : Thread Cert.GateUpDwRefIdeal.nD Cert.GateUpDwRefIdeal.τ).loc Cert.GateUpDwRefIdeal.main_arg1) = m ((c.tc : Thread Cert.GateUpDwIdeal.nD Cert.GateUpDwIdeal.τ).loc Cert.GateUpDwIdeal.main_arg1)) →
    ∃ (v0 : (c : Dev Cert.GateUpDwIdeal.nD) → Buf (Elt Ideal) ((c.tc : Thread Cert.GateUpDwIdeal.nD Cert.GateUpDwIdeal.τ).loc Cert.GateUpDwIdeal.main_v0)),
      θ_run (Cert.GateUpDwIdeal.defs (F := Ideal)) (onTc (τ := Cert.GateUpDwIdeal.τ) (Cert.GateUpDwIdeal.main (F := Ideal))) ⟨m, fun _ => 0, g⟩ (fun r => ∀ c : Dev Cert.GateUpDwIdeal.nD,
          r.2.mem ((c.tc : Thread Cert.GateUpDwIdeal.nD Cert.GateUpDwIdeal.τ).loc Cert.GateUpDwIdeal.main_v0) = v0 c
          ∧ r.2.mem ((c.tc : Thread Cert.GateUpDwIdeal.nD Cert.GateUpDwIdeal.τ).loc Cert.GateUpDwIdeal.main_arg0) = m ((c.tc : Thread Cert.GateUpDwIdeal.nD Cert.GateUpDwIdeal.τ).loc Cert.GateUpDwIdeal.main_arg0)
          ∧ r.2.mem ((c.tc : Thread Cert.GateUpDwIdeal.nD Cert.GateUpDwIdeal.τ).loc Cert.GateUpDwIdeal.main_arg1) = m ((c.tc : Thread Cert.GateUpDwIdeal.nD Cert.GateUpDwIdeal.τ).loc Cert.GateUpDwIdeal.main_arg1))
      ∧ θ_run (Cert.GateUpDwRefIdeal.defs (F := Ideal)) (onTc (τ := Cert.GateUpDwRefIdeal.τ) (Cert.GateUpDwRefIdeal.main (F := Ideal))) ⟨m', fun _ => 0, g'⟩ (fun r => ∀ c : Dev Cert.GateUpDwRefIdeal.nD,
          r.2.mem ((c.tc : Thread Cert.GateUpDwRefIdeal.nD Cert.GateUpDwRefIdeal.τ).loc Cert.GateUpDwRefIdeal.main_v10) = v0 c
          ∧ r.2.mem ((c.tc : Thread Cert.GateUpDwRefIdeal.nD Cert.GateUpDwRefIdeal.τ).loc Cert.GateUpDwRefIdeal.main_arg0) = m' ((c.tc : Thread Cert.GateUpDwRefIdeal.nD Cert.GateUpDwRefIdeal.τ).loc Cert.GateUpDwRefIdeal.main_arg0)
          ∧ r.2.mem ((c.tc : Thread Cert.GateUpDwRefIdeal.nD Cert.GateUpDwRefIdeal.τ).loc Cert.GateUpDwRefIdeal.main_arg1) = m' ((c.tc : Thread Cert.GateUpDwRefIdeal.nD Cert.GateUpDwRefIdeal.τ).loc Cert.GateUpDwRefIdeal.main_arg1))

def preserves_GateUpDx_GateUpDxIdeal : Prop :=
  True

def algebraic_GateUpDxIdeal_GateUpDxRefIdeal [hGateUpDxIdeal : Cert.GateUpDxIdeal.Facts] [hGateUpDxRefIdeal : Cert.GateUpDxRefIdeal.Facts] : Prop :=
  ∀ (m : (ℓ : Loc Cert.GateUpDxIdeal.nD Cert.GateUpDxIdeal.τ Cert.GateUpDxIdeal.sig) → Buf (Elt Ideal) ℓ) (g : Dev Cert.GateUpDxIdeal.nD → PrngReg)
    (m' : (ℓ : Loc Cert.GateUpDxRefIdeal.nD Cert.GateUpDxRefIdeal.τ Cert.GateUpDxRefIdeal.sig) → Buf (Elt Ideal) ℓ) (g' : Dev Cert.GateUpDxRefIdeal.nD → PrngReg), Pre_GateUpDxIdeal m →
    (∀ c : Dev Cert.GateUpDxIdeal.nD,
      m' ((c.tc : Thread Cert.GateUpDxRefIdeal.nD Cert.GateUpDxRefIdeal.τ).loc Cert.GateUpDxRefIdeal.main_arg0) = m ((c.tc : Thread Cert.GateUpDxIdeal.nD Cert.GateUpDxIdeal.τ).loc Cert.GateUpDxIdeal.main_arg0)
      ∧ m' ((c.tc : Thread Cert.GateUpDxRefIdeal.nD Cert.GateUpDxRefIdeal.τ).loc Cert.GateUpDxRefIdeal.main_arg1) = m ((c.tc : Thread Cert.GateUpDxIdeal.nD Cert.GateUpDxIdeal.τ).loc Cert.GateUpDxIdeal.main_arg1)
      ∧ m' ((c.tc : Thread Cert.GateUpDxRefIdeal.nD Cert.GateUpDxRefIdeal.τ).loc Cert.GateUpDxRefIdeal.main_arg2) = m ((c.tc : Thread Cert.GateUpDxIdeal.nD Cert.GateUpDxIdeal.τ).loc Cert.GateUpDxIdeal.main_arg2)) →
    ∃ (v0 : (c : Dev Cert.GateUpDxIdeal.nD) → Buf (Elt Ideal) ((c.tc : Thread Cert.GateUpDxIdeal.nD Cert.GateUpDxIdeal.τ).loc Cert.GateUpDxIdeal.main_v2)),
      θ_run (Cert.GateUpDxIdeal.defs (F := Ideal)) (onTc (τ := Cert.GateUpDxIdeal.τ) (Cert.GateUpDxIdeal.main (F := Ideal))) ⟨m, fun _ => 0, g⟩ (fun r => ∀ c : Dev Cert.GateUpDxIdeal.nD,
          r.2.mem ((c.tc : Thread Cert.GateUpDxIdeal.nD Cert.GateUpDxIdeal.τ).loc Cert.GateUpDxIdeal.main_v2) = v0 c
          ∧ r.2.mem ((c.tc : Thread Cert.GateUpDxIdeal.nD Cert.GateUpDxIdeal.τ).loc Cert.GateUpDxIdeal.main_arg0) = m ((c.tc : Thread Cert.GateUpDxIdeal.nD Cert.GateUpDxIdeal.τ).loc Cert.GateUpDxIdeal.main_arg0)
          ∧ r.2.mem ((c.tc : Thread Cert.GateUpDxIdeal.nD Cert.GateUpDxIdeal.τ).loc Cert.GateUpDxIdeal.main_arg1) = m ((c.tc : Thread Cert.GateUpDxIdeal.nD Cert.GateUpDxIdeal.τ).loc Cert.GateUpDxIdeal.main_arg1)
          ∧ r.2.mem ((c.tc : Thread Cert.GateUpDxIdeal.nD Cert.GateUpDxIdeal.τ).loc Cert.GateUpDxIdeal.main_arg2) = m ((c.tc : Thread Cert.GateUpDxIdeal.nD Cert.GateUpDxIdeal.τ).loc Cert.GateUpDxIdeal.main_arg2))
      ∧ θ_run (Cert.GateUpDxRefIdeal.defs (F := Ideal)) (onTc (τ := Cert.GateUpDxRefIdeal.τ) (Cert.GateUpDxRefIdeal.main (F := Ideal))) ⟨m', fun _ => 0, g'⟩ (fun r => ∀ c : Dev Cert.GateUpDxRefIdeal.nD,
          r.2.mem ((c.tc : Thread Cert.GateUpDxRefIdeal.nD Cert.GateUpDxRefIdeal.τ).loc Cert.GateUpDxRefIdeal.main_v9) = v0 c
          ∧ r.2.mem ((c.tc : Thread Cert.GateUpDxRefIdeal.nD Cert.GateUpDxRefIdeal.τ).loc Cert.GateUpDxRefIdeal.main_arg0) = m' ((c.tc : Thread Cert.GateUpDxRefIdeal.nD Cert.GateUpDxRefIdeal.τ).loc Cert.GateUpDxRefIdeal.main_arg0)
          ∧ r.2.mem ((c.tc : Thread Cert.GateUpDxRefIdeal.nD Cert.GateUpDxRefIdeal.τ).loc Cert.GateUpDxRefIdeal.main_arg1) = m' ((c.tc : Thread Cert.GateUpDxRefIdeal.nD Cert.GateUpDxRefIdeal.τ).loc Cert.GateUpDxRefIdeal.main_arg1)
          ∧ r.2.mem ((c.tc : Thread Cert.GateUpDxRefIdeal.nD Cert.GateUpDxRefIdeal.τ).loc Cert.GateUpDxRefIdeal.main_arg2) = m' ((c.tc : Thread Cert.GateUpDxRefIdeal.nD Cert.GateUpDxRefIdeal.τ).loc Cert.GateUpDxRefIdeal.main_arg2))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v5) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_KvDw_KvDwIdeal : Prop :=
  True

def algebraic_KvDwIdeal_KvDwRefIdeal [hKvDwIdeal : Cert.KvDwIdeal.Facts] [hKvDwRefIdeal : Cert.KvDwRefIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwRefIdeal.nD Cert.KvDwRefIdeal.τ Cert.KvDwRefIdeal.sig) → Buf (Elt Ideal) ℓ) (g' : Dev Cert.KvDwRefIdeal.nD → PrngReg), Pre_KvDwIdeal m →
    (∀ c : Dev Cert.KvDwIdeal.nD,
      m' ((c.tc : Thread Cert.KvDwRefIdeal.nD Cert.KvDwRefIdeal.τ).loc Cert.KvDwRefIdeal.main_arg0) = m ((c.tc : Thread Cert.KvDwIdeal.nD Cert.KvDwIdeal.τ).loc Cert.KvDwIdeal.main_arg0)
      ∧ m' ((c.tc : Thread Cert.KvDwRefIdeal.nD Cert.KvDwRefIdeal.τ).loc Cert.KvDwRefIdeal.main_arg1) = m ((c.tc : Thread Cert.KvDwIdeal.nD Cert.KvDwIdeal.τ).loc Cert.KvDwIdeal.main_arg1)) →
    ∃ (v0 : (c : Dev Cert.KvDwIdeal.nD) → Buf (Elt Ideal) ((c.tc : Thread Cert.KvDwIdeal.nD Cert.KvDwIdeal.τ).loc Cert.KvDwIdeal.main_v0)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v0) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ θ_run (Cert.KvDwRefIdeal.defs (F := Ideal)) (onTc (τ := Cert.KvDwRefIdeal.τ) (Cert.KvDwRefIdeal.main (F := Ideal))) ⟨m', fun _ => 0, g'⟩ (fun r => ∀ c : Dev Cert.KvDwRefIdeal.nD,
          r.2.mem ((c.tc : Thread Cert.KvDwRefIdeal.nD Cert.KvDwRefIdeal.τ).loc Cert.KvDwRefIdeal.main_v8) = v0 c
          ∧ r.2.mem ((c.tc : Thread Cert.KvDwRefIdeal.nD Cert.KvDwRefIdeal.τ).loc Cert.KvDwRefIdeal.main_arg0) = m' ((c.tc : Thread Cert.KvDwRefIdeal.nD Cert.KvDwRefIdeal.τ).loc Cert.KvDwRefIdeal.main_arg0)
          ∧ r.2.mem ((c.tc : Thread Cert.KvDwRefIdeal.nD Cert.KvDwRefIdeal.τ).loc Cert.KvDwRefIdeal.main_arg1) = m' ((c.tc : Thread Cert.KvDwRefIdeal.nD Cert.KvDwRefIdeal.τ).loc Cert.KvDwRefIdeal.main_arg1))

def preserves_QDw_QDwIdeal : Prop :=
  True

def algebraic_QDwIdeal_QDwRefIdeal [hQDwIdeal : Cert.QDwIdeal.Facts] [hQDwRefIdeal : Cert.QDwRefIdeal.Facts] : Prop :=
  ∀ (m : (ℓ : Loc Cert.QDwIdeal.nD Cert.QDwIdeal.τ Cert.QDwIdeal.sig) → Buf (Elt Ideal) ℓ) (g : Dev Cert.QDwIdeal.nD → PrngReg)
    (m' : (ℓ : Loc Cert.QDwRefIdeal.nD Cert.QDwRefIdeal.τ Cert.QDwRefIdeal.sig) → Buf (Elt Ideal) ℓ) (g' : Dev Cert.QDwRefIdeal.nD → PrngReg), Pre_QDwIdeal m →
    (∀ c : Dev Cert.QDwIdeal.nD,
      m' ((c.tc : Thread Cert.QDwRefIdeal.nD Cert.QDwRefIdeal.τ).loc Cert.QDwRefIdeal.main_arg0) = m ((c.tc : Thread Cert.QDwIdeal.nD Cert.QDwIdeal.τ).loc Cert.QDwIdeal.main_arg0)
      ∧ m' ((c.tc : Thread Cert.QDwRefIdeal.nD Cert.QDwRefIdeal.τ).loc Cert.QDwRefIdeal.main_arg1) = m ((c.tc : Thread Cert.QDwIdeal.nD Cert.QDwIdeal.τ).loc Cert.QDwIdeal.main_arg1)) →
    ∃ (v0 : (c : Dev Cert.QDwIdeal.nD) → Buf (Elt Ideal) ((c.tc : Thread Cert.QDwIdeal.nD Cert.QDwIdeal.τ).loc Cert.QDwIdeal.main_v0)),
      θ_run (Cert.QDwIdeal.defs (F := Ideal)) (onTc (τ := Cert.QDwIdeal.τ) (Cert.QDwIdeal.main (F := Ideal))) ⟨m, fun _ => 0, g⟩ (fun r => ∀ c : Dev Cert.QDwIdeal.nD,
          r.2.mem ((c.tc : Thread Cert.QDwIdeal.nD Cert.QDwIdeal.τ).loc Cert.QDwIdeal.main_v0) = v0 c
          ∧ r.2.mem ((c.tc : Thread Cert.QDwIdeal.nD Cert.QDwIdeal.τ).loc Cert.QDwIdeal.main_arg0) = m ((c.tc : Thread Cert.QDwIdeal.nD Cert.QDwIdeal.τ).loc Cert.QDwIdeal.main_arg0)
          ∧ r.2.mem ((c.tc : Thread Cert.QDwIdeal.nD Cert.QDwIdeal.τ).loc Cert.QDwIdeal.main_arg1) = m ((c.tc : Thread Cert.QDwIdeal.nD Cert.QDwIdeal.τ).loc Cert.QDwIdeal.main_arg1))
      ∧ θ_run (Cert.QDwRefIdeal.defs (F := Ideal)) (onTc (τ := Cert.QDwRefIdeal.τ) (Cert.QDwRefIdeal.main (F := Ideal))) ⟨m', fun _ => 0, g'⟩ (fun r => ∀ c : Dev Cert.QDwRefIdeal.nD,
          r.2.mem ((c.tc : Thread Cert.QDwRefIdeal.nD Cert.QDwRefIdeal.τ).loc Cert.QDwRefIdeal.main_v8) = v0 c
          ∧ r.2.mem ((c.tc : Thread Cert.QDwRefIdeal.nD Cert.QDwRefIdeal.τ).loc Cert.QDwRefIdeal.main_arg0) = m' ((c.tc : Thread Cert.QDwRefIdeal.nD Cert.QDwRefIdeal.τ).loc Cert.QDwRefIdeal.main_arg0)
          ∧ r.2.mem ((c.tc : Thread Cert.QDwRefIdeal.nD Cert.QDwRefIdeal.τ).loc Cert.QDwRefIdeal.main_arg1) = m' ((c.tc : Thread Cert.QDwRefIdeal.nD Cert.QDwRefIdeal.τ).loc Cert.QDwRefIdeal.main_arg1))

def preserves_KvDx_KvDxIdeal : Prop :=
  True

def algebraic_KvDxIdeal_KvDxRefIdeal [hKvDxIdeal : Cert.KvDxIdeal.Facts] [hKvDxRefIdeal : Cert.KvDxRefIdeal.Facts] : Prop :=
  ∀ (m : (ℓ : Loc Cert.KvDxIdeal.nD Cert.KvDxIdeal.τ Cert.KvDxIdeal.sig) → Buf (Elt Ideal) ℓ) (g : Dev Cert.KvDxIdeal.nD → PrngReg)
    (m' : (ℓ : Loc Cert.KvDxRefIdeal.nD Cert.KvDxRefIdeal.τ Cert.KvDxRefIdeal.sig) → Buf (Elt Ideal) ℓ) (g' : Dev Cert.KvDxRefIdeal.nD → PrngReg), Pre_KvDxIdeal m →
    (∀ c : Dev Cert.KvDxIdeal.nD,
      m' ((c.tc : Thread Cert.KvDxRefIdeal.nD Cert.KvDxRefIdeal.τ).loc Cert.KvDxRefIdeal.main_arg0) = m ((c.tc : Thread Cert.KvDxIdeal.nD Cert.KvDxIdeal.τ).loc Cert.KvDxIdeal.main_arg0)
      ∧ m' ((c.tc : Thread Cert.KvDxRefIdeal.nD Cert.KvDxRefIdeal.τ).loc Cert.KvDxRefIdeal.main_arg1) = m ((c.tc : Thread Cert.KvDxIdeal.nD Cert.KvDxIdeal.τ).loc Cert.KvDxIdeal.main_arg1)
      ∧ m' ((c.tc : Thread Cert.KvDxRefIdeal.nD Cert.KvDxRefIdeal.τ).loc Cert.KvDxRefIdeal.main_arg2) = m ((c.tc : Thread Cert.KvDxIdeal.nD Cert.KvDxIdeal.τ).loc Cert.KvDxIdeal.main_arg2)) →
    ∃ (v0 : (c : Dev Cert.KvDxIdeal.nD) → Buf (Elt Ideal) ((c.tc : Thread Cert.KvDxIdeal.nD Cert.KvDxIdeal.τ).loc Cert.KvDxIdeal.main_v0)),
      θ_run (Cert.KvDxIdeal.defs (F := Ideal)) (onTc (τ := Cert.KvDxIdeal.τ) (Cert.KvDxIdeal.main (F := Ideal))) ⟨m, fun _ => 0, g⟩ (fun r => ∀ c : Dev Cert.KvDxIdeal.nD,
          r.2.mem ((c.tc : Thread Cert.KvDxIdeal.nD Cert.KvDxIdeal.τ).loc Cert.KvDxIdeal.main_v0) = v0 c
          ∧ r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
          ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1)
          ∧ r.2.mem ((c.tc : Thread Cert.KvDxIdeal.nD Cert.KvDxIdeal.τ).loc Cert.KvDxIdeal.main_arg2) = m ((c.tc : Thread Cert.KvDxIdeal.nD Cert.KvDxIdeal.τ).loc Cert.KvDxIdeal.main_arg2))
      ∧ θ_run (Cert.KvDxRefIdeal.defs (F := Ideal)) (onTc (τ := Cert.KvDxRefIdeal.τ) (Cert.KvDxRefIdeal.main (F := Ideal))) ⟨m', fun _ => 0, g'⟩ (fun r => ∀ c : Dev Cert.KvDxRefIdeal.nD,
          r.2.mem ((c.tc : Thread Cert.KvDxRefIdeal.nD Cert.KvDxRefIdeal.τ).loc Cert.KvDxRefIdeal.main_v5) = v0 c
          ∧ r.2.mem ((c.tc : Thread Cert.KvDxRefIdeal.nD Cert.KvDxRefIdeal.τ).loc Cert.KvDxRefIdeal.main_arg0) = m' ((c.tc : Thread Cert.KvDxRefIdeal.nD Cert.KvDxRefIdeal.τ).loc Cert.KvDxRefIdeal.main_arg0)
          ∧ r.2.mem ((c.tc : Thread Cert.KvDxRefIdeal.nD Cert.KvDxRefIdeal.τ).loc Cert.KvDxRefIdeal.main_arg1) = m' ((c.tc : Thread Cert.KvDxRefIdeal.nD Cert.KvDxRefIdeal.τ).loc Cert.KvDxRefIdeal.main_arg1)
          ∧ r.2.mem ((c.tc : Thread Cert.KvDxRefIdeal.nD Cert.KvDxRefIdeal.τ).loc Cert.KvDxRefIdeal.main_arg2) = m' ((c.tc : Thread Cert.KvDxRefIdeal.nD Cert.KvDxRefIdeal.τ).loc Cert.KvDxRefIdeal.main_arg2))

def preserves_QDx_QDxIdeal : Prop :=
  True

def algebraic_QDxIdeal_QDxRefIdeal [hQDxIdeal : Cert.QDxIdeal.Facts] [hQDxRefIdeal : Cert.QDxRefIdeal.Facts] : Prop :=
  ∀ (m : (ℓ : Loc Cert.QDxIdeal.nD Cert.QDxIdeal.τ Cert.QDxIdeal.sig) → Buf (Elt Ideal) ℓ) (g : Dev Cert.QDxIdeal.nD → PrngReg)
    (m' : (ℓ : Loc Cert.QDxRefIdeal.nD Cert.QDxRefIdeal.τ Cert.QDxRefIdeal.sig) → Buf (Elt Ideal) ℓ) (g' : Dev Cert.QDxRefIdeal.nD → PrngReg), Pre_QDxIdeal m →
    (∀ c : Dev Cert.QDxIdeal.nD,
      m' ((c.tc : Thread Cert.QDxRefIdeal.nD Cert.QDxRefIdeal.τ).loc Cert.QDxRefIdeal.main_arg0) = m ((c.tc : Thread Cert.QDxIdeal.nD Cert.QDxIdeal.τ).loc Cert.QDxIdeal.main_arg0)
      ∧ m' ((c.tc : Thread Cert.QDxRefIdeal.nD Cert.QDxRefIdeal.τ).loc Cert.QDxRefIdeal.main_arg1) = m ((c.tc : Thread Cert.QDxIdeal.nD Cert.QDxIdeal.τ).loc Cert.QDxIdeal.main_arg1)) →
    ∃ (v0 : (c : Dev Cert.QDxIdeal.nD) → Buf (Elt Ideal) ((c.tc : Thread Cert.QDxIdeal.nD Cert.QDxIdeal.τ).loc Cert.QDxIdeal.main_v0)),
      θ_run (Cert.QDxIdeal.defs (F := Ideal)) (onTc (τ := Cert.QDxIdeal.τ) (Cert.QDxIdeal.main (F := Ideal))) ⟨m, fun _ => 0, g⟩ (fun r => ∀ c : Dev Cert.QDxIdeal.nD,
          r.2.mem ((c.tc : Thread Cert.QDxIdeal.nD Cert.QDxIdeal.τ).loc Cert.QDxIdeal.main_v0) = v0 c
          ∧ r.2.mem ((c.tc : Thread Cert.QDxIdeal.nD Cert.QDxIdeal.τ).loc Cert.QDxIdeal.main_arg0) = m ((c.tc : Thread Cert.QDxIdeal.nD Cert.QDxIdeal.τ).loc Cert.QDxIdeal.main_arg0)
          ∧ r.2.mem ((c.tc : Thread Cert.QDxIdeal.nD Cert.QDxIdeal.τ).loc Cert.QDxIdeal.main_arg1) = m ((c.tc : Thread Cert.QDxIdeal.nD Cert.QDxIdeal.τ).loc Cert.QDxIdeal.main_arg1))
      ∧ θ_run (Cert.QDxRefIdeal.defs (F := Ideal)) (onTc (τ := Cert.QDxRefIdeal.τ) (Cert.QDxRefIdeal.main (F := Ideal))) ⟨m', fun _ => 0, g'⟩ (fun r => ∀ c : Dev Cert.QDxRefIdeal.nD,
          r.2.mem ((c.tc : Thread Cert.QDxRefIdeal.nD Cert.QDxRefIdeal.τ).loc Cert.QDxRefIdeal.main_v5) = v0 c
          ∧ r.2.mem ((c.tc : Thread Cert.QDxRefIdeal.nD Cert.QDxRefIdeal.τ).loc Cert.QDxRefIdeal.main_arg0) = m' ((c.tc : Thread Cert.QDxRefIdeal.nD Cert.QDxRefIdeal.τ).loc Cert.QDxRefIdeal.main_arg0)
          ∧ r.2.mem ((c.tc : Thread Cert.QDxRefIdeal.nD Cert.QDxRefIdeal.τ).loc Cert.QDxRefIdeal.main_arg1) = m' ((c.tc : Thread Cert.QDxRefIdeal.nD Cert.QDxRefIdeal.τ).loc Cert.QDxRefIdeal.main_arg1))

def preserves_Act_ActIdeal : Prop :=
  True

def algebraic_ActIdeal_ActRefIdeal_pre_finite [hActIdeal : Cert.ActIdeal.Facts] [hActRefIdeal : Cert.ActRefIdeal.Facts] [hPre_finite : Cert.Pre_finite.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_finite m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)) →
    ∃ (v0 : (c : Dev Cert.ActIdeal.nD) → Buf (Elt Ideal) ((c.tc : Thread Cert.ActIdeal.nD Cert.ActIdeal.τ).loc Cert.ActIdeal.main_v0)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v28) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2))

def preserves_ConvInDx_ConvInDxIdeal : Prop :=
  True

def algebraic_ConvInDxIdeal_ConvInDxRefIdeal [hConvInDxIdeal : Cert.ConvInDxIdeal.Facts] [hConvInDxRefIdeal : Cert.ConvInDxRefIdeal.Facts] : Prop :=
  ∀ (m : (ℓ : Loc Cert.ConvInDxIdeal.nD Cert.ConvInDxIdeal.τ Cert.ConvInDxIdeal.sig) → Buf (Elt Ideal) ℓ) (g : Dev Cert.ConvInDxIdeal.nD → PrngReg)
    (m' : (ℓ : Loc Cert.ConvInDxRefIdeal.nD Cert.ConvInDxRefIdeal.τ Cert.ConvInDxRefIdeal.sig) → Buf (Elt Ideal) ℓ) (g' : Dev Cert.ConvInDxRefIdeal.nD → PrngReg), Pre_ConvInDxIdeal m →
    (∀ c : Dev Cert.ConvInDxIdeal.nD,
      m' ((c.tc : Thread Cert.ConvInDxRefIdeal.nD Cert.ConvInDxRefIdeal.τ).loc Cert.ConvInDxRefIdeal.main_arg0) = m ((c.tc : Thread Cert.ConvInDxIdeal.nD Cert.ConvInDxIdeal.τ).loc Cert.ConvInDxIdeal.main_arg0)
      ∧ m' ((c.tc : Thread Cert.ConvInDxRefIdeal.nD Cert.ConvInDxRefIdeal.τ).loc Cert.ConvInDxRefIdeal.main_arg1) = m ((c.tc : Thread Cert.ConvInDxIdeal.nD Cert.ConvInDxIdeal.τ).loc Cert.ConvInDxIdeal.main_arg1)
      ∧ m' ((c.tc : Thread Cert.ConvInDxRefIdeal.nD Cert.ConvInDxRefIdeal.τ).loc Cert.ConvInDxRefIdeal.main_arg2) = m ((c.tc : Thread Cert.ConvInDxIdeal.nD Cert.ConvInDxIdeal.τ).loc Cert.ConvInDxIdeal.main_arg2)) →
    ∃ (v0 : (c : Dev Cert.ConvInDxIdeal.nD) → Buf (Elt Ideal) ((c.tc : Thread Cert.ConvInDxIdeal.nD Cert.ConvInDxIdeal.τ).loc Cert.ConvInDxIdeal.main_v0)),
      θ_run (Cert.ConvInDxIdeal.defs (F := Ideal)) (onTc (τ := Cert.ConvInDxIdeal.τ) (Cert.ConvInDxIdeal.main (F := Ideal))) ⟨m, fun _ => 0, g⟩ (fun r => ∀ c : Dev Cert.ConvInDxIdeal.nD,
          r.2.mem ((c.tc : Thread Cert.ConvInDxIdeal.nD Cert.ConvInDxIdeal.τ).loc Cert.ConvInDxIdeal.main_v0) = v0 c
          ∧ r.2.mem ((c.tc : Thread Cert.ConvInDxIdeal.nD Cert.ConvInDxIdeal.τ).loc Cert.ConvInDxIdeal.main_arg0) = m ((c.tc : Thread Cert.ConvInDxIdeal.nD Cert.ConvInDxIdeal.τ).loc Cert.ConvInDxIdeal.main_arg0)
          ∧ r.2.mem ((c.tc : Thread Cert.ConvInDxIdeal.nD Cert.ConvInDxIdeal.τ).loc Cert.ConvInDxIdeal.main_arg1) = m ((c.tc : Thread Cert.ConvInDxIdeal.nD Cert.ConvInDxIdeal.τ).loc Cert.ConvInDxIdeal.main_arg1)
          ∧ r.2.mem ((c.tc : Thread Cert.ConvInDxIdeal.nD Cert.ConvInDxIdeal.τ).loc Cert.ConvInDxIdeal.main_arg2) = m ((c.tc : Thread Cert.ConvInDxIdeal.nD Cert.ConvInDxIdeal.τ).loc Cert.ConvInDxIdeal.main_arg2))
      ∧ θ_run (Cert.ConvInDxRefIdeal.defs (F := Ideal)) (onTc (τ := Cert.ConvInDxRefIdeal.τ) (Cert.ConvInDxRefIdeal.main (F := Ideal))) ⟨m', fun _ => 0, g'⟩ (fun r => ∀ c : Dev Cert.ConvInDxRefIdeal.nD,
          r.2.mem ((c.tc : Thread Cert.ConvInDxRefIdeal.nD Cert.ConvInDxRefIdeal.τ).loc Cert.ConvInDxRefIdeal.main_v5) = v0 c
          ∧ r.2.mem ((c.tc : Thread Cert.ConvInDxRefIdeal.nD Cert.ConvInDxRefIdeal.τ).loc Cert.ConvInDxRefIdeal.main_arg0) = m' ((c.tc : Thread Cert.ConvInDxRefIdeal.nD Cert.ConvInDxRefIdeal.τ).loc Cert.ConvInDxRefIdeal.main_arg0)
          ∧ r.2.mem ((c.tc : Thread Cert.ConvInDxRefIdeal.nD Cert.ConvInDxRefIdeal.τ).loc Cert.ConvInDxRefIdeal.main_arg1) = m' ((c.tc : Thread Cert.ConvInDxRefIdeal.nD Cert.ConvInDxRefIdeal.τ).loc Cert.ConvInDxRefIdeal.main_arg1)
          ∧ r.2.mem ((c.tc : Thread Cert.ConvInDxRefIdeal.nD Cert.ConvInDxRefIdeal.τ).loc Cert.ConvInDxRefIdeal.main_arg2) = m' ((c.tc : Thread Cert.ConvInDxRefIdeal.nD Cert.ConvInDxRefIdeal.τ).loc Cert.ConvInDxRefIdeal.main_arg2))

def preserves_ConvIn_ConvInIdeal : Prop :=
  True

def algebraic_ConvInIdeal_ConvInRefIdeal [hConvInIdeal : Cert.ConvInIdeal.Facts] [hConvInRefIdeal : Cert.ConvInRefIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInRefIdeal.nD Cert.ConvInRefIdeal.τ Cert.ConvInRefIdeal.sig) → Buf (Elt Ideal) ℓ) (g' : Dev Cert.ConvInRefIdeal.nD → PrngReg), Pre_ConvInIdeal m →
    (∀ c : Dev Cert.ConvInIdeal.nD,
      m' ((c.tc : Thread Cert.ConvInRefIdeal.nD Cert.ConvInRefIdeal.τ).loc Cert.ConvInRefIdeal.main_arg0) = m ((c.tc : Thread Cert.ConvInIdeal.nD Cert.ConvInIdeal.τ).loc Cert.ConvInIdeal.main_arg0)
      ∧ m' ((c.tc : Thread Cert.ConvInRefIdeal.nD Cert.ConvInRefIdeal.τ).loc Cert.ConvInRefIdeal.main_arg1) = m ((c.tc : Thread Cert.ConvInIdeal.nD Cert.ConvInIdeal.τ).loc Cert.ConvInIdeal.main_arg1)) →
    ∃ (v0 : (c : Dev Cert.ConvInIdeal.nD) → Buf (Elt Ideal) ((c.tc : Thread Cert.ConvInIdeal.nD Cert.ConvInIdeal.τ).loc Cert.ConvInIdeal.main_v0)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v0) = v0 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1))
      ∧ θ_run (Cert.ConvInRefIdeal.defs (F := Ideal)) (onTc (τ := Cert.ConvInRefIdeal.τ) (Cert.ConvInRefIdeal.main (F := Ideal))) ⟨m', fun _ => 0, g'⟩ (fun r => ∀ c : Dev Cert.ConvInRefIdeal.nD,
          r.2.mem ((c.tc : Thread Cert.ConvInRefIdeal.nD Cert.ConvInRefIdeal.τ).loc Cert.ConvInRefIdeal.main_v3) = v0 c
          ∧ r.2.mem ((c.tc : Thread Cert.ConvInRefIdeal.nD Cert.ConvInRefIdeal.τ).loc Cert.ConvInRefIdeal.main_arg0) = m' ((c.tc : Thread Cert.ConvInRefIdeal.nD Cert.ConvInRefIdeal.τ).loc Cert.ConvInRefIdeal.main_arg0)
          ∧ r.2.mem ((c.tc : Thread Cert.ConvInRefIdeal.nD Cert.ConvInRefIdeal.τ).loc Cert.ConvInRefIdeal.main_arg1) = m' ((c.tc : Thread Cert.ConvInRefIdeal.nD Cert.ConvInRefIdeal.τ).loc Cert.ConvInRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v2) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v15) = v0 c
          ∧ r.2.mem ((c.tc : Thread Cert.GateUpRefIdeal.nD Cert.GateUpRefIdeal.τ).loc Cert.GateUpRefIdeal.main_v20) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)) (v2 : (c : Dev Cert.DownIdeal.nD) → Buf (Elt Ideal) ((c.tc : Thread Cert.DownIdeal.nD Cert.DownIdeal.τ).loc Cert.DownIdeal.main_v0_2)) (v3 : (c : Dev Cert.DownIdeal.nD) → Buf (Elt Ideal) ((c.tc : Thread Cert.DownIdeal.nD Cert.DownIdeal.τ).loc Cert.DownIdeal.main_v0_3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_v0_2) = v2 c
          ∧ r.2.mem ((c.tc : Thread Cert.DownIdeal.nD Cert.DownIdeal.τ).loc Cert.DownIdeal.main_v0_3) = v3 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_v18) = v1 c
          ∧ r.2.mem ((c.tc : Thread Cert.DownRefIdeal.nD Cert.DownRefIdeal.τ).loc Cert.DownRefIdeal.main_v31) = v2 c
          ∧ r.2.mem ((c.tc : Thread Cert.DownRefIdeal.nD Cert.DownRefIdeal.τ).loc Cert.DownRefIdeal.main_v44) = v3 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_DownLoss_DownLossIdeal : Prop :=
  True

def algebraic_DownLossIdeal_DownLossRefIdeal [hDownLossIdeal : Cert.DownLossIdeal.Facts] [hDownLossRefIdeal : Cert.DownLossRefIdeal.Facts] : Prop :=
  ∀ (m : (ℓ : Loc Cert.DownLossIdeal.nD Cert.DownLossIdeal.τ Cert.DownLossIdeal.sig) → Buf (Elt Ideal) ℓ) (g : Dev Cert.DownLossIdeal.nD → PrngReg)
    (m' : (ℓ : Loc Cert.DownLossRefIdeal.nD Cert.DownLossRefIdeal.τ Cert.DownLossRefIdeal.sig) → Buf (Elt Ideal) ℓ) (g' : Dev Cert.DownLossRefIdeal.nD → PrngReg), Pre_DownLossIdeal m →
    (∀ c : Dev Cert.DownLossIdeal.nD,
      m' ((c.tc : Thread Cert.DownLossRefIdeal.nD Cert.DownLossRefIdeal.τ).loc Cert.DownLossRefIdeal.main_arg0) = m ((c.tc : Thread Cert.DownLossIdeal.nD Cert.DownLossIdeal.τ).loc Cert.DownLossIdeal.main_arg0)
      ∧ m' ((c.tc : Thread Cert.DownLossRefIdeal.nD Cert.DownLossRefIdeal.τ).loc Cert.DownLossRefIdeal.main_arg1) = m ((c.tc : Thread Cert.DownLossIdeal.nD Cert.DownLossIdeal.τ).loc Cert.DownLossIdeal.main_arg1)
      ∧ m' ((c.tc : Thread Cert.DownLossRefIdeal.nD Cert.DownLossRefIdeal.τ).loc Cert.DownLossRefIdeal.main_arg2) = m ((c.tc : Thread Cert.DownLossIdeal.nD Cert.DownLossIdeal.τ).loc Cert.DownLossIdeal.main_arg2)
      ∧ m' ((c.tc : Thread Cert.DownLossRefIdeal.nD Cert.DownLossRefIdeal.τ).loc Cert.DownLossRefIdeal.main_arg3) = m ((c.tc : Thread Cert.DownLossIdeal.nD Cert.DownLossIdeal.τ).loc Cert.DownLossIdeal.main_arg3)
      ∧ m' ((c.tc : Thread Cert.DownLossRefIdeal.nD Cert.DownLossRefIdeal.τ).loc Cert.DownLossRefIdeal.main_arg4) = m ((c.tc : Thread Cert.DownLossIdeal.nD Cert.DownLossIdeal.τ).loc Cert.DownLossIdeal.main_arg4)) →
    ∃ (v0 : (c : Dev Cert.DownLossIdeal.nD) → Buf (Elt Ideal) ((c.tc : Thread Cert.DownLossIdeal.nD Cert.DownLossIdeal.τ).loc Cert.DownLossIdeal.main_v0_0)) (v1 : (c : Dev Cert.DownLossIdeal.nD) → Buf (Elt Ideal) ((c.tc : Thread Cert.DownLossIdeal.nD Cert.DownLossIdeal.τ).loc Cert.DownLossIdeal.main_v0_1)) (v2 : (c : Dev Cert.DownLossIdeal.nD) → Buf (Elt Ideal) ((c.tc : Thread Cert.DownLossIdeal.nD Cert.DownLossIdeal.τ).loc Cert.DownLossIdeal.main_v0_2)) (v3 : (c : Dev Cert.DownLossIdeal.nD) → Buf (Elt Ideal) ((c.tc : Thread Cert.DownLossIdeal.nD Cert.DownLossIdeal.τ).loc Cert.DownLossIdeal.main_v0_3)),
      θ_run (Cert.DownLossIdeal.defs (F := Ideal)) (onTc (τ := Cert.DownLossIdeal.τ) (Cert.DownLossIdeal.main (F := Ideal))) ⟨m, fun _ => 0, g⟩ (fun r => ∀ c : Dev Cert.DownLossIdeal.nD,
          r.2.mem ((c.tc : Thread Cert.DownLossIdeal.nD Cert.DownLossIdeal.τ).loc Cert.DownLossIdeal.main_v0_0) = v0 c
          ∧ r.2.mem ((c.tc : Thread Cert.DownLossIdeal.nD Cert.DownLossIdeal.τ).loc Cert.DownLossIdeal.main_v0_1) = v1 c
          ∧ r.2.mem ((c.tc : Thread Cert.DownLossIdeal.nD Cert.DownLossIdeal.τ).loc Cert.DownLossIdeal.main_v0_2) = v2 c
          ∧ r.2.mem ((c.tc : Thread Cert.DownLossIdeal.nD Cert.DownLossIdeal.τ).loc Cert.DownLossIdeal.main_v0_3) = v3 c
          ∧ r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
          ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
          ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
          ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
          ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ θ_run (Cert.DownLossRefIdeal.defs (F := Ideal)) (onTc (τ := Cert.DownLossRefIdeal.τ) (Cert.DownLossRefIdeal.main (F := Ideal))) ⟨m', fun _ => 0, g'⟩ (fun r => ∀ c : Dev Cert.DownLossRefIdeal.nD,
          r.2.mem ((c.tc : Thread Cert.DownLossRefIdeal.nD Cert.DownLossRefIdeal.τ).loc Cert.DownLossRefIdeal.main_v36) = v0 c
          ∧ r.2.mem ((c.tc : Thread Cert.DownLossRefIdeal.nD Cert.DownLossRefIdeal.τ).loc Cert.DownLossRefIdeal.main_v58) = v1 c
          ∧ r.2.mem ((c.tc : Thread Cert.DownLossRefIdeal.nD Cert.DownLossRefIdeal.τ).loc Cert.DownLossRefIdeal.main_v57) = v2 c
          ∧ r.2.mem ((c.tc : Thread Cert.DownLossRefIdeal.nD Cert.DownLossRefIdeal.τ).loc Cert.DownLossRefIdeal.main_v75) = v3 c
          ∧ r.2.mem ((c.tc : Thread Cert.DownLossRefIdeal.nD Cert.DownLossRefIdeal.τ).loc Cert.DownLossRefIdeal.main_arg0) = m' ((c.tc : Thread Cert.DownLossRefIdeal.nD Cert.DownLossRefIdeal.τ).loc Cert.DownLossRefIdeal.main_arg0)
          ∧ r.2.mem ((c.tc : Thread Cert.DownLossRefIdeal.nD Cert.DownLossRefIdeal.τ).loc Cert.DownLossRefIdeal.main_arg1) = m' ((c.tc : Thread Cert.DownLossRefIdeal.nD Cert.DownLossRefIdeal.τ).loc Cert.DownLossRefIdeal.main_arg1)
          ∧ r.2.mem ((c.tc : Thread Cert.DownLossRefIdeal.nD Cert.DownLossRefIdeal.τ).loc Cert.DownLossRefIdeal.main_arg2) = m' ((c.tc : Thread Cert.DownLossRefIdeal.nD Cert.DownLossRefIdeal.τ).loc Cert.DownLossRefIdeal.main_arg2)
          ∧ r.2.mem ((c.tc : Thread Cert.DownLossRefIdeal.nD Cert.DownLossRefIdeal.τ).loc Cert.DownLossRefIdeal.main_arg3) = m' ((c.tc : Thread Cert.DownLossRefIdeal.nD Cert.DownLossRefIdeal.τ).loc Cert.DownLossRefIdeal.main_arg3)
          ∧ r.2.mem ((c.tc : Thread Cert.DownLossRefIdeal.nD Cert.DownLossRefIdeal.τ).loc Cert.DownLossRefIdeal.main_arg4) = m' ((c.tc : Thread Cert.DownLossRefIdeal.nD Cert.DownLossRefIdeal.τ).loc Cert.DownLossRefIdeal.main_arg4))

def preserves_Attn16_Attn16Ideal : Prop :=
  IdealRules.named_const.Statement Cert.Attn16Ideal.κ "mask" .f32 0xF149F2CA#32 ⊥

def algebraic_Attn16Ideal_Attn16RefIdeal [hAttn16Ideal : Cert.Attn16Ideal.Facts] [hAttn16RefIdeal : Cert.Attn16RefIdeal.Facts] : Prop :=
  ∀ (m : (ℓ : Loc Cert.Attn16Ideal.nD Cert.Attn16Ideal.τ Cert.Attn16Ideal.sig) → Buf (Elt Ideal) ℓ) (g : Dev Cert.Attn16Ideal.nD → PrngReg)
    (m' : (ℓ : Loc Cert.Attn16RefIdeal.nD Cert.Attn16RefIdeal.τ Cert.Attn16RefIdeal.sig) → Buf (Elt Ideal) ℓ) (g' : Dev Cert.Attn16RefIdeal.nD → PrngReg), Pre_Attn16Ideal m →
    (∀ c : Dev Cert.Attn16Ideal.nD,
      m' ((c.tc : Thread Cert.Attn16RefIdeal.nD Cert.Attn16RefIdeal.τ).loc Cert.Attn16RefIdeal.main_arg0) = m ((c.tc : Thread Cert.Attn16Ideal.nD Cert.Attn16Ideal.τ).loc Cert.Attn16Ideal.main_arg0)
      ∧ m' ((c.tc : Thread Cert.Attn16RefIdeal.nD Cert.Attn16RefIdeal.τ).loc Cert.Attn16RefIdeal.main_arg1) = m ((c.tc : Thread Cert.Attn16Ideal.nD Cert.Attn16Ideal.τ).loc Cert.Attn16Ideal.main_arg1)
      ∧ m' ((c.tc : Thread Cert.Attn16RefIdeal.nD Cert.Attn16RefIdeal.τ).loc Cert.Attn16RefIdeal.main_arg2) = m ((c.tc : Thread Cert.Attn16Ideal.nD Cert.Attn16Ideal.τ).loc Cert.Attn16Ideal.main_arg2)
      ∧ m' ((c.tc : Thread Cert.Attn16RefIdeal.nD Cert.Attn16RefIdeal.τ).loc Cert.Attn16RefIdeal.main_arg3) = m ((c.tc : Thread Cert.Attn16Ideal.nD Cert.Attn16Ideal.τ).loc Cert.Attn16Ideal.main_arg3)
      ∧ m' ((c.tc : Thread Cert.Attn16RefIdeal.nD Cert.Attn16RefIdeal.τ).loc Cert.Attn16RefIdeal.main_arg4) = m ((c.tc : Thread Cert.Attn16Ideal.nD Cert.Attn16Ideal.τ).loc Cert.Attn16Ideal.main_arg4)
      ∧ m' ((c.tc : Thread Cert.Attn16RefIdeal.nD Cert.Attn16RefIdeal.τ).loc Cert.Attn16RefIdeal.main_arg5) = m ((c.tc : Thread Cert.Attn16Ideal.nD Cert.Attn16Ideal.τ).loc Cert.Attn16Ideal.main_arg5)) →
    ∃ (v0 : (c : Dev Cert.Attn16Ideal.nD) → Buf (Elt Ideal) ((c.tc : Thread Cert.Attn16Ideal.nD Cert.Attn16Ideal.τ).loc Cert.Attn16Ideal.main_v4_0)) (v1 : (c : Dev Cert.Attn16Ideal.nD) → Buf (Elt Ideal) ((c.tc : Thread Cert.Attn16Ideal.nD Cert.Attn16Ideal.τ).loc Cert.Attn16Ideal.main_v4_1)) (v2 : (c : Dev Cert.Attn16Ideal.nD) → Buf (Elt Ideal) ((c.tc : Thread Cert.Attn16Ideal.nD Cert.Attn16Ideal.τ).loc Cert.Attn16Ideal.main_v4_2)),
      θ_run (Cert.Attn16Ideal.defs (F := Ideal)) (onTc (τ := Cert.Attn16Ideal.τ) (Cert.Attn16Ideal.main (F := Ideal))) ⟨m, fun _ => 0, g⟩ (fun r => ∀ c : Dev Cert.Attn16Ideal.nD,
          r.2.mem ((c.tc : Thread Cert.Attn16Ideal.nD Cert.Attn16Ideal.τ).loc Cert.Attn16Ideal.main_v4_0) = v0 c
          ∧ r.2.mem ((c.tc : Thread Cert.Attn16Ideal.nD Cert.Attn16Ideal.τ).loc Cert.Attn16Ideal.main_v4_1) = v1 c
          ∧ r.2.mem ((c.tc : Thread Cert.Attn16Ideal.nD Cert.Attn16Ideal.τ).loc Cert.Attn16Ideal.main_v4_2) = v2 c
          ∧ r.2.mem ((c.tc : Thread Cert.Attn16Ideal.nD Cert.Attn16Ideal.τ).loc Cert.Attn16Ideal.main_arg0) = m ((c.tc : Thread Cert.Attn16Ideal.nD Cert.Attn16Ideal.τ).loc Cert.Attn16Ideal.main_arg0)
          ∧ r.2.mem ((c.tc : Thread Cert.Attn16Ideal.nD Cert.Attn16Ideal.τ).loc Cert.Attn16Ideal.main_arg1) = m ((c.tc : Thread Cert.Attn16Ideal.nD Cert.Attn16Ideal.τ).loc Cert.Attn16Ideal.main_arg1)
          ∧ r.2.mem ((c.tc : Thread Cert.Attn16Ideal.nD Cert.Attn16Ideal.τ).loc Cert.Attn16Ideal.main_arg2) = m ((c.tc : Thread Cert.Attn16Ideal.nD Cert.Attn16Ideal.τ).loc Cert.Attn16Ideal.main_arg2)
          ∧ r.2.mem ((c.tc : Thread Cert.Attn16Ideal.nD Cert.Attn16Ideal.τ).loc Cert.Attn16Ideal.main_arg3) = m ((c.tc : Thread Cert.Attn16Ideal.nD Cert.Attn16Ideal.τ).loc Cert.Attn16Ideal.main_arg3)
          ∧ r.2.mem ((c.tc : Thread Cert.Attn16Ideal.nD Cert.Attn16Ideal.τ).loc Cert.Attn16Ideal.main_arg4) = m ((c.tc : Thread Cert.Attn16Ideal.nD Cert.Attn16Ideal.τ).loc Cert.Attn16Ideal.main_arg4)
          ∧ r.2.mem ((c.tc : Thread Cert.Attn16Ideal.nD Cert.Attn16Ideal.τ).loc Cert.Attn16Ideal.main_arg5) = m ((c.tc : Thread Cert.Attn16Ideal.nD Cert.Attn16Ideal.τ).loc Cert.Attn16Ideal.main_arg5))
      ∧ θ_run (Cert.Attn16RefIdeal.defs (F := Ideal)) (onTc (τ := Cert.Attn16RefIdeal.τ) (Cert.Attn16RefIdeal.main (F := Ideal))) ⟨m', fun _ => 0, g'⟩ (fun r => ∀ c : Dev Cert.Attn16RefIdeal.nD,
          r.2.mem ((c.tc : Thread Cert.Attn16RefIdeal.nD Cert.Attn16RefIdeal.τ).loc Cert.Attn16RefIdeal.main_v44) = v0 c
          ∧ r.2.mem ((c.tc : Thread Cert.Attn16RefIdeal.nD Cert.Attn16RefIdeal.τ).loc Cert.Attn16RefIdeal.main_v46) = v1 c
          ∧ r.2.mem ((c.tc : Thread Cert.Attn16RefIdeal.nD Cert.Attn16RefIdeal.τ).loc Cert.Attn16RefIdeal.main_v48) = v2 c
          ∧ r.2.mem ((c.tc : Thread Cert.Attn16RefIdeal.nD Cert.Attn16RefIdeal.τ).loc Cert.Attn16RefIdeal.main_arg0) = m' ((c.tc : Thread Cert.Attn16RefIdeal.nD Cert.Attn16RefIdeal.τ).loc Cert.Attn16RefIdeal.main_arg0)
          ∧ r.2.mem ((c.tc : Thread Cert.Attn16RefIdeal.nD Cert.Attn16RefIdeal.τ).loc Cert.Attn16RefIdeal.main_arg1) = m' ((c.tc : Thread Cert.Attn16RefIdeal.nD Cert.Attn16RefIdeal.τ).loc Cert.Attn16RefIdeal.main_arg1)
          ∧ r.2.mem ((c.tc : Thread Cert.Attn16RefIdeal.nD Cert.Attn16RefIdeal.τ).loc Cert.Attn16RefIdeal.main_arg2) = m' ((c.tc : Thread Cert.Attn16RefIdeal.nD Cert.Attn16RefIdeal.τ).loc Cert.Attn16RefIdeal.main_arg2)
          ∧ r.2.mem ((c.tc : Thread Cert.Attn16RefIdeal.nD Cert.Attn16RefIdeal.τ).loc Cert.Attn16RefIdeal.main_arg3) = m' ((c.tc : Thread Cert.Attn16RefIdeal.nD Cert.Attn16RefIdeal.τ).loc Cert.Attn16RefIdeal.main_arg3)
          ∧ r.2.mem ((c.tc : Thread Cert.Attn16RefIdeal.nD Cert.Attn16RefIdeal.τ).loc Cert.Attn16RefIdeal.main_arg4) = m' ((c.tc : Thread Cert.Attn16RefIdeal.nD Cert.Attn16RefIdeal.τ).loc Cert.Attn16RefIdeal.main_arg4)
          ∧ r.2.mem ((c.tc : Thread Cert.Attn16RefIdeal.nD Cert.Attn16RefIdeal.τ).loc Cert.Attn16RefIdeal.main_arg5) = m' ((c.tc : Thread Cert.Attn16RefIdeal.nD Cert.Attn16RefIdeal.τ).loc Cert.Attn16RefIdeal.main_arg5))

def preserves_Attn4_Attn4Ideal : Prop :=
  IdealRules.named_const.Statement Cert.Attn4Ideal.κ "mask" .f32 0xF149F2CA#32 ⊥

def algebraic_Attn4Ideal_Attn4RefIdeal [hAttn4Ideal : Cert.Attn4Ideal.Facts] [hAttn4RefIdeal : Cert.Attn4RefIdeal.Facts] : Prop :=
  ∀ (m : (ℓ : Loc Cert.Attn4Ideal.nD Cert.Attn4Ideal.τ Cert.Attn4Ideal.sig) → Buf (Elt Ideal) ℓ) (g : Dev Cert.Attn4Ideal.nD → PrngReg)
    (m' : (ℓ : Loc Cert.Attn4RefIdeal.nD Cert.Attn4RefIdeal.τ Cert.Attn4RefIdeal.sig) → Buf (Elt Ideal) ℓ) (g' : Dev Cert.Attn4RefIdeal.nD → PrngReg), Pre_Attn4Ideal m →
    (∀ c : Dev Cert.Attn4Ideal.nD,
      m' ((c.tc : Thread Cert.Attn4RefIdeal.nD Cert.Attn4RefIdeal.τ).loc Cert.Attn4RefIdeal.main_arg0) = m ((c.tc : Thread Cert.Attn4Ideal.nD Cert.Attn4Ideal.τ).loc Cert.Attn4Ideal.main_arg0)
      ∧ m' ((c.tc : Thread Cert.Attn4RefIdeal.nD Cert.Attn4RefIdeal.τ).loc Cert.Attn4RefIdeal.main_arg1) = m ((c.tc : Thread Cert.Attn4Ideal.nD Cert.Attn4Ideal.τ).loc Cert.Attn4Ideal.main_arg1)
      ∧ m' ((c.tc : Thread Cert.Attn4RefIdeal.nD Cert.Attn4RefIdeal.τ).loc Cert.Attn4RefIdeal.main_arg2) = m ((c.tc : Thread Cert.Attn4Ideal.nD Cert.Attn4Ideal.τ).loc Cert.Attn4Ideal.main_arg2)
      ∧ m' ((c.tc : Thread Cert.Attn4RefIdeal.nD Cert.Attn4RefIdeal.τ).loc Cert.Attn4RefIdeal.main_arg3) = m ((c.tc : Thread Cert.Attn4Ideal.nD Cert.Attn4Ideal.τ).loc Cert.Attn4Ideal.main_arg3)
      ∧ m' ((c.tc : Thread Cert.Attn4RefIdeal.nD Cert.Attn4RefIdeal.τ).loc Cert.Attn4RefIdeal.main_arg4) = m ((c.tc : Thread Cert.Attn4Ideal.nD Cert.Attn4Ideal.τ).loc Cert.Attn4Ideal.main_arg4)
      ∧ m' ((c.tc : Thread Cert.Attn4RefIdeal.nD Cert.Attn4RefIdeal.τ).loc Cert.Attn4RefIdeal.main_arg5) = m ((c.tc : Thread Cert.Attn4Ideal.nD Cert.Attn4Ideal.τ).loc Cert.Attn4Ideal.main_arg5)) →
    ∃ (v0 : (c : Dev Cert.Attn4Ideal.nD) → Buf (Elt Ideal) ((c.tc : Thread Cert.Attn4Ideal.nD Cert.Attn4Ideal.τ).loc Cert.Attn4Ideal.main_v4_0)) (v1 : (c : Dev Cert.Attn4Ideal.nD) → Buf (Elt Ideal) ((c.tc : Thread Cert.Attn4Ideal.nD Cert.Attn4Ideal.τ).loc Cert.Attn4Ideal.main_v4_1)) (v2 : (c : Dev Cert.Attn4Ideal.nD) → Buf (Elt Ideal) ((c.tc : Thread Cert.Attn4Ideal.nD Cert.Attn4Ideal.τ).loc Cert.Attn4Ideal.main_v4_2)),
      θ_run (Cert.Attn4Ideal.defs (F := Ideal)) (onTc (τ := Cert.Attn4Ideal.τ) (Cert.Attn4Ideal.main (F := Ideal))) ⟨m, fun _ => 0, g⟩ (fun r => ∀ c : Dev Cert.Attn4Ideal.nD,
          r.2.mem ((c.tc : Thread Cert.Attn4Ideal.nD Cert.Attn4Ideal.τ).loc Cert.Attn4Ideal.main_v4_0) = v0 c
          ∧ r.2.mem ((c.tc : Thread Cert.Attn4Ideal.nD Cert.Attn4Ideal.τ).loc Cert.Attn4Ideal.main_v4_1) = v1 c
          ∧ r.2.mem ((c.tc : Thread Cert.Attn4Ideal.nD Cert.Attn4Ideal.τ).loc Cert.Attn4Ideal.main_v4_2) = v2 c
          ∧ r.2.mem ((c.tc : Thread Cert.Attn4Ideal.nD Cert.Attn4Ideal.τ).loc Cert.Attn4Ideal.main_arg0) = m ((c.tc : Thread Cert.Attn4Ideal.nD Cert.Attn4Ideal.τ).loc Cert.Attn4Ideal.main_arg0)
          ∧ r.2.mem ((c.tc : Thread Cert.Attn4Ideal.nD Cert.Attn4Ideal.τ).loc Cert.Attn4Ideal.main_arg1) = m ((c.tc : Thread Cert.Attn4Ideal.nD Cert.Attn4Ideal.τ).loc Cert.Attn4Ideal.main_arg1)
          ∧ r.2.mem ((c.tc : Thread Cert.Attn4Ideal.nD Cert.Attn4Ideal.τ).loc Cert.Attn4Ideal.main_arg2) = m ((c.tc : Thread Cert.Attn4Ideal.nD Cert.Attn4Ideal.τ).loc Cert.Attn4Ideal.main_arg2)
          ∧ r.2.mem ((c.tc : Thread Cert.Attn4Ideal.nD Cert.Attn4Ideal.τ).loc Cert.Attn4Ideal.main_arg3) = m ((c.tc : Thread Cert.Attn4Ideal.nD Cert.Attn4Ideal.τ).loc Cert.Attn4Ideal.main_arg3)
          ∧ r.2.mem ((c.tc : Thread Cert.Attn4Ideal.nD Cert.Attn4Ideal.τ).loc Cert.Attn4Ideal.main_arg4) = m ((c.tc : Thread Cert.Attn4Ideal.nD Cert.Attn4Ideal.τ).loc Cert.Attn4Ideal.main_arg4)
          ∧ r.2.mem ((c.tc : Thread Cert.Attn4Ideal.nD Cert.Attn4Ideal.τ).loc Cert.Attn4Ideal.main_arg5) = m ((c.tc : Thread Cert.Attn4Ideal.nD Cert.Attn4Ideal.τ).loc Cert.Attn4Ideal.main_arg5))
      ∧ θ_run (Cert.Attn4RefIdeal.defs (F := Ideal)) (onTc (τ := Cert.Attn4RefIdeal.τ) (Cert.Attn4RefIdeal.main (F := Ideal))) ⟨m', fun _ => 0, g'⟩ (fun r => ∀ c : Dev Cert.Attn4RefIdeal.nD,
          r.2.mem ((c.tc : Thread Cert.Attn4RefIdeal.nD Cert.Attn4RefIdeal.τ).loc Cert.Attn4RefIdeal.main_v44) = v0 c
          ∧ r.2.mem ((c.tc : Thread Cert.Attn4RefIdeal.nD Cert.Attn4RefIdeal.τ).loc Cert.Attn4RefIdeal.main_v46) = v1 c
          ∧ r.2.mem ((c.tc : Thread Cert.Attn4RefIdeal.nD Cert.Attn4RefIdeal.τ).loc Cert.Attn4RefIdeal.main_v48) = v2 c
          ∧ r.2.mem ((c.tc : Thread Cert.Attn4RefIdeal.nD Cert.Attn4RefIdeal.τ).loc Cert.Attn4RefIdeal.main_arg0) = m' ((c.tc : Thread Cert.Attn4RefIdeal.nD Cert.Attn4RefIdeal.τ).loc Cert.Attn4RefIdeal.main_arg0)
          ∧ r.2.mem ((c.tc : Thread Cert.Attn4RefIdeal.nD Cert.Attn4RefIdeal.τ).loc Cert.Attn4RefIdeal.main_arg1) = m' ((c.tc : Thread Cert.Attn4RefIdeal.nD Cert.Attn4RefIdeal.τ).loc Cert.Attn4RefIdeal.main_arg1)
          ∧ r.2.mem ((c.tc : Thread Cert.Attn4RefIdeal.nD Cert.Attn4RefIdeal.τ).loc Cert.Attn4RefIdeal.main_arg2) = m' ((c.tc : Thread Cert.Attn4RefIdeal.nD Cert.Attn4RefIdeal.τ).loc Cert.Attn4RefIdeal.main_arg2)
          ∧ r.2.mem ((c.tc : Thread Cert.Attn4RefIdeal.nD Cert.Attn4RefIdeal.τ).loc Cert.Attn4RefIdeal.main_arg3) = m' ((c.tc : Thread Cert.Attn4RefIdeal.nD Cert.Attn4RefIdeal.τ).loc Cert.Attn4RefIdeal.main_arg3)
          ∧ r.2.mem ((c.tc : Thread Cert.Attn4RefIdeal.nD Cert.Attn4RefIdeal.τ).loc Cert.Attn4RefIdeal.main_arg4) = m' ((c.tc : Thread Cert.Attn4RefIdeal.nD Cert.Attn4RefIdeal.τ).loc Cert.Attn4RefIdeal.main_arg4)
          ∧ r.2.mem ((c.tc : Thread Cert.Attn4RefIdeal.nD Cert.Attn4RefIdeal.τ).loc Cert.Attn4RefIdeal.main_arg5) = m' ((c.tc : Thread Cert.Attn4RefIdeal.nD Cert.Attn4RefIdeal.τ).loc Cert.Attn4RefIdeal.main_arg5))

def preserves_Attn1_Attn1Ideal : Prop :=
  IdealRules.named_const.Statement Cert.Attn1Ideal.κ "mask" .f32 0xF149F2CA#32 ⊥

def algebraic_Attn1Ideal_Attn1RefIdeal [hAttn1Ideal : Cert.Attn1Ideal.Facts] [hAttn1RefIdeal : Cert.Attn1RefIdeal.Facts] : Prop :=
  ∀ (m : (ℓ : Loc Cert.Attn1Ideal.nD Cert.Attn1Ideal.τ Cert.Attn1Ideal.sig) → Buf (Elt Ideal) ℓ) (g : Dev Cert.Attn1Ideal.nD → PrngReg)
    (m' : (ℓ : Loc Cert.Attn1RefIdeal.nD Cert.Attn1RefIdeal.τ Cert.Attn1RefIdeal.sig) → Buf (Elt Ideal) ℓ) (g' : Dev Cert.Attn1RefIdeal.nD → PrngReg), Pre_Attn1Ideal m →
    (∀ c : Dev Cert.Attn1Ideal.nD,
      m' ((c.tc : Thread Cert.Attn1RefIdeal.nD Cert.Attn1RefIdeal.τ).loc Cert.Attn1RefIdeal.main_arg0) = m ((c.tc : Thread Cert.Attn1Ideal.nD Cert.Attn1Ideal.τ).loc Cert.Attn1Ideal.main_arg0)
      ∧ m' ((c.tc : Thread Cert.Attn1RefIdeal.nD Cert.Attn1RefIdeal.τ).loc Cert.Attn1RefIdeal.main_arg1) = m ((c.tc : Thread Cert.Attn1Ideal.nD Cert.Attn1Ideal.τ).loc Cert.Attn1Ideal.main_arg1)
      ∧ m' ((c.tc : Thread Cert.Attn1RefIdeal.nD Cert.Attn1RefIdeal.τ).loc Cert.Attn1RefIdeal.main_arg2) = m ((c.tc : Thread Cert.Attn1Ideal.nD Cert.Attn1Ideal.τ).loc Cert.Attn1Ideal.main_arg2)
      ∧ m' ((c.tc : Thread Cert.Attn1RefIdeal.nD Cert.Attn1RefIdeal.τ).loc Cert.Attn1RefIdeal.main_arg3) = m ((c.tc : Thread Cert.Attn1Ideal.nD Cert.Attn1Ideal.τ).loc Cert.Attn1Ideal.main_arg3)
      ∧ m' ((c.tc : Thread Cert.Attn1RefIdeal.nD Cert.Attn1RefIdeal.τ).loc Cert.Attn1RefIdeal.main_arg4) = m ((c.tc : Thread Cert.Attn1Ideal.nD Cert.Attn1Ideal.τ).loc Cert.Attn1Ideal.main_arg4)
      ∧ m' ((c.tc : Thread Cert.Attn1RefIdeal.nD Cert.Attn1RefIdeal.τ).loc Cert.Attn1RefIdeal.main_arg5) = m ((c.tc : Thread Cert.Attn1Ideal.nD Cert.Attn1Ideal.τ).loc Cert.Attn1Ideal.main_arg5)) →
    ∃ (v0 : (c : Dev Cert.Attn1Ideal.nD) → Buf (Elt Ideal) ((c.tc : Thread Cert.Attn1Ideal.nD Cert.Attn1Ideal.τ).loc Cert.Attn1Ideal.main_v4_0)) (v1 : (c : Dev Cert.Attn1Ideal.nD) → Buf (Elt Ideal) ((c.tc : Thread Cert.Attn1Ideal.nD Cert.Attn1Ideal.τ).loc Cert.Attn1Ideal.main_v4_1)) (v2 : (c : Dev Cert.Attn1Ideal.nD) → Buf (Elt Ideal) ((c.tc : Thread Cert.Attn1Ideal.nD Cert.Attn1Ideal.τ).loc Cert.Attn1Ideal.main_v4_2)),
      θ_run (Cert.Attn1Ideal.defs (F := Ideal)) (onTc (τ := Cert.Attn1Ideal.τ) (Cert.Attn1Ideal.main (F := Ideal))) ⟨m, fun _ => 0, g⟩ (fun r => ∀ c : Dev Cert.Attn1Ideal.nD,
          r.2.mem ((c.tc : Thread Cert.Attn1Ideal.nD Cert.Attn1Ideal.τ).loc Cert.Attn1Ideal.main_v4_0) = v0 c
          ∧ r.2.mem ((c.tc : Thread Cert.Attn1Ideal.nD Cert.Attn1Ideal.τ).loc Cert.Attn1Ideal.main_v4_1) = v1 c
          ∧ r.2.mem ((c.tc : Thread Cert.Attn1Ideal.nD Cert.Attn1Ideal.τ).loc Cert.Attn1Ideal.main_v4_2) = v2 c
          ∧ r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0)
          ∧ r.2.mem ((c.tc : Thread Cert.Attn1Ideal.nD Cert.Attn1Ideal.τ).loc Cert.Attn1Ideal.main_arg1) = m ((c.tc : Thread Cert.Attn1Ideal.nD Cert.Attn1Ideal.τ).loc Cert.Attn1Ideal.main_arg1)
          ∧ r.2.mem ((c.tc : Thread Cert.Attn1Ideal.nD Cert.Attn1Ideal.τ).loc Cert.Attn1Ideal.main_arg2) = m ((c.tc : Thread Cert.Attn1Ideal.nD Cert.Attn1Ideal.τ).loc Cert.Attn1Ideal.main_arg2)
          ∧ r.2.mem ((c.tc : Thread Cert.Attn1Ideal.nD Cert.Attn1Ideal.τ).loc Cert.Attn1Ideal.main_arg3) = m ((c.tc : Thread Cert.Attn1Ideal.nD Cert.Attn1Ideal.τ).loc Cert.Attn1Ideal.main_arg3)
          ∧ r.2.mem ((c.tc : Thread Cert.Attn1Ideal.nD Cert.Attn1Ideal.τ).loc Cert.Attn1Ideal.main_arg4) = m ((c.tc : Thread Cert.Attn1Ideal.nD Cert.Attn1Ideal.τ).loc Cert.Attn1Ideal.main_arg4)
          ∧ r.2.mem ((c.tc : Thread Cert.Attn1Ideal.nD Cert.Attn1Ideal.τ).loc Cert.Attn1Ideal.main_arg5) = m ((c.tc : Thread Cert.Attn1Ideal.nD Cert.Attn1Ideal.τ).loc Cert.Attn1Ideal.main_arg5))
      ∧ θ_run (Cert.Attn1RefIdeal.defs (F := Ideal)) (onTc (τ := Cert.Attn1RefIdeal.τ) (Cert.Attn1RefIdeal.main (F := Ideal))) ⟨m', fun _ => 0, g'⟩ (fun r => ∀ c : Dev Cert.Attn1RefIdeal.nD,
          r.2.mem ((c.tc : Thread Cert.Attn1RefIdeal.nD Cert.Attn1RefIdeal.τ).loc Cert.Attn1RefIdeal.main_v44) = v0 c
          ∧ r.2.mem ((c.tc : Thread Cert.Attn1RefIdeal.nD Cert.Attn1RefIdeal.τ).loc Cert.Attn1RefIdeal.main_v46) = v1 c
          ∧ r.2.mem ((c.tc : Thread Cert.Attn1RefIdeal.nD Cert.Attn1RefIdeal.τ).loc Cert.Attn1RefIdeal.main_v48) = v2 c
          ∧ r.2.mem ((c.tc : Thread Cert.Attn1RefIdeal.nD Cert.Attn1RefIdeal.τ).loc Cert.Attn1RefIdeal.main_arg0) = m' ((c.tc : Thread Cert.Attn1RefIdeal.nD Cert.Attn1RefIdeal.τ).loc Cert.Attn1RefIdeal.main_arg0)
          ∧ r.2.mem ((c.tc : Thread Cert.Attn1RefIdeal.nD Cert.Attn1RefIdeal.τ).loc Cert.Attn1RefIdeal.main_arg1) = m' ((c.tc : Thread Cert.Attn1RefIdeal.nD Cert.Attn1RefIdeal.τ).loc Cert.Attn1RefIdeal.main_arg1)
          ∧ r.2.mem ((c.tc : Thread Cert.Attn1RefIdeal.nD Cert.Attn1RefIdeal.τ).loc Cert.Attn1RefIdeal.main_arg2) = m' ((c.tc : Thread Cert.Attn1RefIdeal.nD Cert.Attn1RefIdeal.τ).loc Cert.Attn1RefIdeal.main_arg2)
          ∧ r.2.mem ((c.tc : Thread Cert.Attn1RefIdeal.nD Cert.Attn1RefIdeal.τ).loc Cert.Attn1RefIdeal.main_arg3) = m' ((c.tc : Thread Cert.Attn1RefIdeal.nD Cert.Attn1RefIdeal.τ).loc Cert.Attn1RefIdeal.main_arg3)
          ∧ r.2.mem ((c.tc : Thread Cert.Attn1RefIdeal.nD Cert.Attn1RefIdeal.τ).loc Cert.Attn1RefIdeal.main_arg4) = m' ((c.tc : Thread Cert.Attn1RefIdeal.nD Cert.Attn1RefIdeal.τ).loc Cert.Attn1RefIdeal.main_arg4)
          ∧ r.2.mem ((c.tc : Thread Cert.Attn1RefIdeal.nD Cert.Attn1RefIdeal.τ).loc Cert.Attn1RefIdeal.main_arg5) = m' ((c.tc : Thread Cert.Attn1RefIdeal.nD Cert.Attn1RefIdeal.τ).loc Cert.Attn1RefIdeal.main_arg5))

def preserves_Qkv1_Qkv1Ideal : Prop :=
  True

def algebraic_Qkv1Ideal_Qkv1RefIdeal [hQkv1Ideal : Cert.Qkv1Ideal.Facts] [hQkv1RefIdeal : Cert.Qkv1RefIdeal.Facts] : Prop :=
  ∀ (m : (ℓ : Loc Cert.Qkv1Ideal.nD Cert.Qkv1Ideal.τ Cert.Qkv1Ideal.sig) → Buf (Elt Ideal) ℓ) (g : Dev Cert.Qkv1Ideal.nD → PrngReg)
    (m' : (ℓ : Loc Cert.Qkv1RefIdeal.nD Cert.Qkv1RefIdeal.τ Cert.Qkv1RefIdeal.sig) → Buf (Elt Ideal) ℓ) (g' : Dev Cert.Qkv1RefIdeal.nD → PrngReg), Pre_Qkv1Ideal m →
    (∀ c : Dev Cert.Qkv1Ideal.nD,
      m' ((c.tc : Thread Cert.Qkv1RefIdeal.nD Cert.Qkv1RefIdeal.τ).loc Cert.Qkv1RefIdeal.main_arg0) = m ((c.tc : Thread Cert.Qkv1Ideal.nD Cert.Qkv1Ideal.τ).loc Cert.Qkv1Ideal.main_arg0)
      ∧ m' ((c.tc : Thread Cert.Qkv1RefIdeal.nD Cert.Qkv1RefIdeal.τ).loc Cert.Qkv1RefIdeal.main_arg1) = m ((c.tc : Thread Cert.Qkv1Ideal.nD Cert.Qkv1Ideal.τ).loc Cert.Qkv1Ideal.main_arg1)
      ∧ m' ((c.tc : Thread Cert.Qkv1RefIdeal.nD Cert.Qkv1RefIdeal.τ).loc Cert.Qkv1RefIdeal.main_arg2) = m ((c.tc : Thread Cert.Qkv1Ideal.nD Cert.Qkv1Ideal.τ).loc Cert.Qkv1Ideal.main_arg2)
      ∧ m' ((c.tc : Thread Cert.Qkv1RefIdeal.nD Cert.Qkv1RefIdeal.τ).loc Cert.Qkv1RefIdeal.main_arg3) = m ((c.tc : Thread Cert.Qkv1Ideal.nD Cert.Qkv1Ideal.τ).loc Cert.Qkv1Ideal.main_arg3)
      ∧ m' ((c.tc : Thread Cert.Qkv1RefIdeal.nD Cert.Qkv1RefIdeal.τ).loc Cert.Qkv1RefIdeal.main_arg4) = m ((c.tc : Thread Cert.Qkv1Ideal.nD Cert.Qkv1Ideal.τ).loc Cert.Qkv1Ideal.main_arg4)
      ∧ m' ((c.tc : Thread Cert.Qkv1RefIdeal.nD Cert.Qkv1RefIdeal.τ).loc Cert.Qkv1RefIdeal.main_arg5) = m ((c.tc : Thread Cert.Qkv1Ideal.nD Cert.Qkv1Ideal.τ).loc Cert.Qkv1Ideal.main_arg5)) →
    ∃ (v0 : (c : Dev Cert.Qkv1Ideal.nD) → Buf (Elt Ideal) ((c.tc : Thread Cert.Qkv1Ideal.nD Cert.Qkv1Ideal.τ).loc Cert.Qkv1Ideal.main_v8_0)) (v1 : (c : Dev Cert.Qkv1Ideal.nD) → Buf (Elt Ideal) ((c.tc : Thread Cert.Qkv1Ideal.nD Cert.Qkv1Ideal.τ).loc Cert.Qkv1Ideal.main_v8_1)) (v2 : (c : Dev Cert.Qkv1Ideal.nD) → Buf (Elt Ideal) ((c.tc : Thread Cert.Qkv1Ideal.nD Cert.Qkv1Ideal.τ).loc Cert.Qkv1Ideal.main_v8_2)),
      θ_run (Cert.Qkv1Ideal.defs (F := Ideal)) (onTc (τ := Cert.Qkv1Ideal.τ) (Cert.Qkv1Ideal.main (F := Ideal))) ⟨m, fun _ => 0, g⟩ (fun r => ∀ c : Dev Cert.Qkv1Ideal.nD,
          r.2.mem ((c.tc : Thread Cert.Qkv1Ideal.nD Cert.Qkv1Ideal.τ).loc Cert.Qkv1Ideal.main_v8_0) = v0 c
          ∧ r.2.mem ((c.tc : Thread Cert.Qkv1Ideal.nD Cert.Qkv1Ideal.τ).loc Cert.Qkv1Ideal.main_v8_1) = v1 c
          ∧ r.2.mem ((c.tc : Thread Cert.Qkv1Ideal.nD Cert.Qkv1Ideal.τ).loc Cert.Qkv1Ideal.main_v8_2) = v2 c
          ∧ r.2.mem ((c.tc : Thread Cert.Qkv1Ideal.nD Cert.Qkv1Ideal.τ).loc Cert.Qkv1Ideal.main_arg0) = m ((c.tc : Thread Cert.Qkv1Ideal.nD Cert.Qkv1Ideal.τ).loc Cert.Qkv1Ideal.main_arg0)
          ∧ r.2.mem ((c.tc : Thread Cert.Qkv1Ideal.nD Cert.Qkv1Ideal.τ).loc Cert.Qkv1Ideal.main_arg1) = m ((c.tc : Thread Cert.Qkv1Ideal.nD Cert.Qkv1Ideal.τ).loc Cert.Qkv1Ideal.main_arg1)
          ∧ r.2.mem ((c.tc : Thread Cert.Qkv1Ideal.nD Cert.Qkv1Ideal.τ).loc Cert.Qkv1Ideal.main_arg2) = m ((c.tc : Thread Cert.Qkv1Ideal.nD Cert.Qkv1Ideal.τ).loc Cert.Qkv1Ideal.main_arg2)
          ∧ r.2.mem ((c.tc : Thread Cert.Qkv1Ideal.nD Cert.Qkv1Ideal.τ).loc Cert.Qkv1Ideal.main_arg3) = m ((c.tc : Thread Cert.Qkv1Ideal.nD Cert.Qkv1Ideal.τ).loc Cert.Qkv1Ideal.main_arg3)
          ∧ r.2.mem ((c.tc : Thread Cert.Qkv1Ideal.nD Cert.Qkv1Ideal.τ).loc Cert.Qkv1Ideal.main_arg4) = m ((c.tc : Thread Cert.Qkv1Ideal.nD Cert.Qkv1Ideal.τ).loc Cert.Qkv1Ideal.main_arg4)
          ∧ r.2.mem ((c.tc : Thread Cert.Qkv1Ideal.nD Cert.Qkv1Ideal.τ).loc Cert.Qkv1Ideal.main_arg5) = m ((c.tc : Thread Cert.Qkv1Ideal.nD Cert.Qkv1Ideal.τ).loc Cert.Qkv1Ideal.main_arg5))
      ∧ θ_run (Cert.Qkv1RefIdeal.defs (F := Ideal)) (onTc (τ := Cert.Qkv1RefIdeal.τ) (Cert.Qkv1RefIdeal.main (F := Ideal))) ⟨m', fun _ => 0, g'⟩ (fun r => ∀ c : Dev Cert.Qkv1RefIdeal.nD,
          r.2.mem ((c.tc : Thread Cert.Qkv1RefIdeal.nD Cert.Qkv1RefIdeal.τ).loc Cert.Qkv1RefIdeal.main_v48) = v0 c
          ∧ r.2.mem ((c.tc : Thread Cert.Qkv1RefIdeal.nD Cert.Qkv1RefIdeal.τ).loc Cert.Qkv1RefIdeal.main_v50) = v1 c
          ∧ r.2.mem ((c.tc : Thread Cert.Qkv1RefIdeal.nD Cert.Qkv1RefIdeal.τ).loc Cert.Qkv1RefIdeal.main_v52) = v2 c
          ∧ r.2.mem ((c.tc : Thread Cert.Qkv1RefIdeal.nD Cert.Qkv1RefIdeal.τ).loc Cert.Qkv1RefIdeal.main_arg0) = m' ((c.tc : Thread Cert.Qkv1RefIdeal.nD Cert.Qkv1RefIdeal.τ).loc Cert.Qkv1RefIdeal.main_arg0)
          ∧ r.2.mem ((c.tc : Thread Cert.Qkv1RefIdeal.nD Cert.Qkv1RefIdeal.τ).loc Cert.Qkv1RefIdeal.main_arg1) = m' ((c.tc : Thread Cert.Qkv1RefIdeal.nD Cert.Qkv1RefIdeal.τ).loc Cert.Qkv1RefIdeal.main_arg1)
          ∧ r.2.mem ((c.tc : Thread Cert.Qkv1RefIdeal.nD Cert.Qkv1RefIdeal.τ).loc Cert.Qkv1RefIdeal.main_arg2) = m' ((c.tc : Thread Cert.Qkv1RefIdeal.nD Cert.Qkv1RefIdeal.τ).loc Cert.Qkv1RefIdeal.main_arg2)
          ∧ r.2.mem ((c.tc : Thread Cert.Qkv1RefIdeal.nD Cert.Qkv1RefIdeal.τ).loc Cert.Qkv1RefIdeal.main_arg3) = m' ((c.tc : Thread Cert.Qkv1RefIdeal.nD Cert.Qkv1RefIdeal.τ).loc Cert.Qkv1RefIdeal.main_arg3)
          ∧ r.2.mem ((c.tc : Thread Cert.Qkv1RefIdeal.nD Cert.Qkv1RefIdeal.τ).loc Cert.Qkv1RefIdeal.main_arg4) = m' ((c.tc : Thread Cert.Qkv1RefIdeal.nD Cert.Qkv1RefIdeal.τ).loc Cert.Qkv1RefIdeal.main_arg4)
          ∧ r.2.mem ((c.tc : Thread Cert.Qkv1RefIdeal.nD Cert.Qkv1RefIdeal.τ).loc Cert.Qkv1RefIdeal.main_arg5) = m' ((c.tc : Thread Cert.Qkv1RefIdeal.nD Cert.Qkv1RefIdeal.τ).loc Cert.Qkv1RefIdeal.main_arg5))

def preserves_Qkv4_Qkv4Ideal : Prop :=
  True

def algebraic_Qkv4Ideal_Qkv4RefIdeal [hQkv4Ideal : Cert.Qkv4Ideal.Facts] [hQkv4RefIdeal : Cert.Qkv4RefIdeal.Facts] : Prop :=
  ∀ (m : (ℓ : Loc Cert.Qkv4Ideal.nD Cert.Qkv4Ideal.τ Cert.Qkv4Ideal.sig) → Buf (Elt Ideal) ℓ) (g : Dev Cert.Qkv4Ideal.nD → PrngReg)
    (m' : (ℓ : Loc Cert.Qkv4RefIdeal.nD Cert.Qkv4RefIdeal.τ Cert.Qkv4RefIdeal.sig) → Buf (Elt Ideal) ℓ) (g' : Dev Cert.Qkv4RefIdeal.nD → PrngReg), Pre_Qkv4Ideal m →
    (∀ c : Dev Cert.Qkv4Ideal.nD,
      m' ((c.tc : Thread Cert.Qkv4RefIdeal.nD Cert.Qkv4RefIdeal.τ).loc Cert.Qkv4RefIdeal.main_arg0) = m ((c.tc : Thread Cert.Qkv4Ideal.nD Cert.Qkv4Ideal.τ).loc Cert.Qkv4Ideal.main_arg0)
      ∧ m' ((c.tc : Thread Cert.Qkv4RefIdeal.nD Cert.Qkv4RefIdeal.τ).loc Cert.Qkv4RefIdeal.main_arg1) = m ((c.tc : Thread Cert.Qkv4Ideal.nD Cert.Qkv4Ideal.τ).loc Cert.Qkv4Ideal.main_arg1)
      ∧ m' ((c.tc : Thread Cert.Qkv4RefIdeal.nD Cert.Qkv4RefIdeal.τ).loc Cert.Qkv4RefIdeal.main_arg2) = m ((c.tc : Thread Cert.Qkv4Ideal.nD Cert.Qkv4Ideal.τ).loc Cert.Qkv4Ideal.main_arg2)
      ∧ m' ((c.tc : Thread Cert.Qkv4RefIdeal.nD Cert.Qkv4RefIdeal.τ).loc Cert.Qkv4RefIdeal.main_arg3) = m ((c.tc : Thread Cert.Qkv4Ideal.nD Cert.Qkv4Ideal.τ).loc Cert.Qkv4Ideal.main_arg3)
      ∧ m' ((c.tc : Thread Cert.Qkv4RefIdeal.nD Cert.Qkv4RefIdeal.τ).loc Cert.Qkv4RefIdeal.main_arg4) = m ((c.tc : Thread Cert.Qkv4Ideal.nD Cert.Qkv4Ideal.τ).loc Cert.Qkv4Ideal.main_arg4)
      ∧ m' ((c.tc : Thread Cert.Qkv4RefIdeal.nD Cert.Qkv4RefIdeal.τ).loc Cert.Qkv4RefIdeal.main_arg5) = m ((c.tc : Thread Cert.Qkv4Ideal.nD Cert.Qkv4Ideal.τ).loc Cert.Qkv4Ideal.main_arg5)) →
    ∃ (v0 : (c : Dev Cert.Qkv4Ideal.nD) → Buf (Elt Ideal) ((c.tc : Thread Cert.Qkv4Ideal.nD Cert.Qkv4Ideal.τ).loc Cert.Qkv4Ideal.main_v8_0)) (v1 : (c : Dev Cert.Qkv4Ideal.nD) → Buf (Elt Ideal) ((c.tc : Thread Cert.Qkv4Ideal.nD Cert.Qkv4Ideal.τ).loc Cert.Qkv4Ideal.main_v8_1)) (v2 : (c : Dev Cert.Qkv4Ideal.nD) → Buf (Elt Ideal) ((c.tc : Thread Cert.Qkv4Ideal.nD Cert.Qkv4Ideal.τ).loc Cert.Qkv4Ideal.main_v8_2)),
      θ_run (Cert.Qkv4Ideal.defs (F := Ideal)) (onTc (τ := Cert.Qkv4Ideal.τ) (Cert.Qkv4Ideal.main (F := Ideal))) ⟨m, fun _ => 0, g⟩ (fun r => ∀ c : Dev Cert.Qkv4Ideal.nD,
          r.2.mem ((c.tc : Thread Cert.Qkv4Ideal.nD Cert.Qkv4Ideal.τ).loc Cert.Qkv4Ideal.main_v8_0) = v0 c
          ∧ r.2.mem ((c.tc : Thread Cert.Qkv4Ideal.nD Cert.Qkv4Ideal.τ).loc Cert.Qkv4Ideal.main_v8_1) = v1 c
          ∧ r.2.mem ((c.tc : Thread Cert.Qkv4Ideal.nD Cert.Qkv4Ideal.τ).loc Cert.Qkv4Ideal.main_v8_2) = v2 c
          ∧ r.2.mem ((c.tc : Thread Cert.Qkv4Ideal.nD Cert.Qkv4Ideal.τ).loc Cert.Qkv4Ideal.main_arg0) = m ((c.tc : Thread Cert.Qkv4Ideal.nD Cert.Qkv4Ideal.τ).loc Cert.Qkv4Ideal.main_arg0)
          ∧ r.2.mem ((c.tc : Thread Cert.Qkv4Ideal.nD Cert.Qkv4Ideal.τ).loc Cert.Qkv4Ideal.main_arg1) = m ((c.tc : Thread Cert.Qkv4Ideal.nD Cert.Qkv4Ideal.τ).loc Cert.Qkv4Ideal.main_arg1)
          ∧ r.2.mem ((c.tc : Thread Cert.Qkv4Ideal.nD Cert.Qkv4Ideal.τ).loc Cert.Qkv4Ideal.main_arg2) = m ((c.tc : Thread Cert.Qkv4Ideal.nD Cert.Qkv4Ideal.τ).loc Cert.Qkv4Ideal.main_arg2)
          ∧ r.2.mem ((c.tc : Thread Cert.Qkv4Ideal.nD Cert.Qkv4Ideal.τ).loc Cert.Qkv4Ideal.main_arg3) = m ((c.tc : Thread Cert.Qkv4Ideal.nD Cert.Qkv4Ideal.τ).loc Cert.Qkv4Ideal.main_arg3)
          ∧ r.2.mem ((c.tc : Thread Cert.Qkv4Ideal.nD Cert.Qkv4Ideal.τ).loc Cert.Qkv4Ideal.main_arg4) = m ((c.tc : Thread Cert.Qkv4Ideal.nD Cert.Qkv4Ideal.τ).loc Cert.Qkv4Ideal.main_arg4)
          ∧ r.2.mem ((c.tc : Thread Cert.Qkv4Ideal.nD Cert.Qkv4Ideal.τ).loc Cert.Qkv4Ideal.main_arg5) = m ((c.tc : Thread Cert.Qkv4Ideal.nD Cert.Qkv4Ideal.τ).loc Cert.Qkv4Ideal.main_arg5))
      ∧ θ_run (Cert.Qkv4RefIdeal.defs (F := Ideal)) (onTc (τ := Cert.Qkv4RefIdeal.τ) (Cert.Qkv4RefIdeal.main (F := Ideal))) ⟨m', fun _ => 0, g'⟩ (fun r => ∀ c : Dev Cert.Qkv4RefIdeal.nD,
          r.2.mem ((c.tc : Thread Cert.Qkv4RefIdeal.nD Cert.Qkv4RefIdeal.τ).loc Cert.Qkv4RefIdeal.main_v48) = v0 c
          ∧ r.2.mem ((c.tc : Thread Cert.Qkv4RefIdeal.nD Cert.Qkv4RefIdeal.τ).loc Cert.Qkv4RefIdeal.main_v50) = v1 c
          ∧ r.2.mem ((c.tc : Thread Cert.Qkv4RefIdeal.nD Cert.Qkv4RefIdeal.τ).loc Cert.Qkv4RefIdeal.main_v52) = v2 c
          ∧ r.2.mem ((c.tc : Thread Cert.Qkv4RefIdeal.nD Cert.Qkv4RefIdeal.τ).loc Cert.Qkv4RefIdeal.main_arg0) = m' ((c.tc : Thread Cert.Qkv4RefIdeal.nD Cert.Qkv4RefIdeal.τ).loc Cert.Qkv4RefIdeal.main_arg0)
          ∧ r.2.mem ((c.tc : Thread Cert.Qkv4RefIdeal.nD Cert.Qkv4RefIdeal.τ).loc Cert.Qkv4RefIdeal.main_arg1) = m' ((c.tc : Thread Cert.Qkv4RefIdeal.nD Cert.Qkv4RefIdeal.τ).loc Cert.Qkv4RefIdeal.main_arg1)
          ∧ r.2.mem ((c.tc : Thread Cert.Qkv4RefIdeal.nD Cert.Qkv4RefIdeal.τ).loc Cert.Qkv4RefIdeal.main_arg2) = m' ((c.tc : Thread Cert.Qkv4RefIdeal.nD Cert.Qkv4RefIdeal.τ).loc Cert.Qkv4RefIdeal.main_arg2)
          ∧ r.2.mem ((c.tc : Thread Cert.Qkv4RefIdeal.nD Cert.Qkv4RefIdeal.τ).loc Cert.Qkv4RefIdeal.main_arg3) = m' ((c.tc : Thread Cert.Qkv4RefIdeal.nD Cert.Qkv4RefIdeal.τ).loc Cert.Qkv4RefIdeal.main_arg3)
          ∧ r.2.mem ((c.tc : Thread Cert.Qkv4RefIdeal.nD Cert.Qkv4RefIdeal.τ).loc Cert.Qkv4RefIdeal.main_arg4) = m' ((c.tc : Thread Cert.Qkv4RefIdeal.nD Cert.Qkv4RefIdeal.τ).loc Cert.Qkv4RefIdeal.main_arg4)
          ∧ r.2.mem ((c.tc : Thread Cert.Qkv4RefIdeal.nD Cert.Qkv4RefIdeal.τ).loc Cert.Qkv4RefIdeal.main_arg5) = m' ((c.tc : Thread Cert.Qkv4RefIdeal.nD Cert.Qkv4RefIdeal.τ).loc Cert.Qkv4RefIdeal.main_arg5))

def preserves_Qkv16_Qkv16Ideal : Prop :=
  True

def algebraic_Qkv16Ideal_Qkv16RefIdeal [hQkv16Ideal : Cert.Qkv16Ideal.Facts] [hQkv16RefIdeal : Cert.Qkv16RefIdeal.Facts] : Prop :=
  ∀ (m : (ℓ : Loc Cert.Qkv16Ideal.nD Cert.Qkv16Ideal.τ Cert.Qkv16Ideal.sig) → Buf (Elt Ideal) ℓ) (g : Dev Cert.Qkv16Ideal.nD → PrngReg)
    (m' : (ℓ : Loc Cert.Qkv16RefIdeal.nD Cert.Qkv16RefIdeal.τ Cert.Qkv16RefIdeal.sig) → Buf (Elt Ideal) ℓ) (g' : Dev Cert.Qkv16RefIdeal.nD → PrngReg), Pre_Qkv16Ideal m →
    (∀ c : Dev Cert.Qkv16Ideal.nD,
      m' ((c.tc : Thread Cert.Qkv16RefIdeal.nD Cert.Qkv16RefIdeal.τ).loc Cert.Qkv16RefIdeal.main_arg0) = m ((c.tc : Thread Cert.Qkv16Ideal.nD Cert.Qkv16Ideal.τ).loc Cert.Qkv16Ideal.main_arg0)
      ∧ m' ((c.tc : Thread Cert.Qkv16RefIdeal.nD Cert.Qkv16RefIdeal.τ).loc Cert.Qkv16RefIdeal.main_arg1) = m ((c.tc : Thread Cert.Qkv16Ideal.nD Cert.Qkv16Ideal.τ).loc Cert.Qkv16Ideal.main_arg1)
      ∧ m' ((c.tc : Thread Cert.Qkv16RefIdeal.nD Cert.Qkv16RefIdeal.τ).loc Cert.Qkv16RefIdeal.main_arg2) = m ((c.tc : Thread Cert.Qkv16Ideal.nD Cert.Qkv16Ideal.τ).loc Cert.Qkv16Ideal.main_arg2)
      ∧ m' ((c.tc : Thread Cert.Qkv16RefIdeal.nD Cert.Qkv16RefIdeal.τ).loc Cert.Qkv16RefIdeal.main_arg3) = m ((c.tc : Thread Cert.Qkv16Ideal.nD Cert.Qkv16Ideal.τ).loc Cert.Qkv16Ideal.main_arg3)
      ∧ m' ((c.tc : Thread Cert.Qkv16RefIdeal.nD Cert.Qkv16RefIdeal.τ).loc Cert.Qkv16RefIdeal.main_arg4) = m ((c.tc : Thread Cert.Qkv16Ideal.nD Cert.Qkv16Ideal.τ).loc Cert.Qkv16Ideal.main_arg4)
      ∧ m' ((c.tc : Thread Cert.Qkv16RefIdeal.nD Cert.Qkv16RefIdeal.τ).loc Cert.Qkv16RefIdeal.main_arg5) = m ((c.tc : Thread Cert.Qkv16Ideal.nD Cert.Qkv16Ideal.τ).loc Cert.Qkv16Ideal.main_arg5)) →
    ∃ (v0 : (c : Dev Cert.Qkv16Ideal.nD) → Buf (Elt Ideal) ((c.tc : Thread Cert.Qkv16Ideal.nD Cert.Qkv16Ideal.τ).loc Cert.Qkv16Ideal.main_v8_0)) (v1 : (c : Dev Cert.Qkv16Ideal.nD) → Buf (Elt Ideal) ((c.tc : Thread Cert.Qkv16Ideal.nD Cert.Qkv16Ideal.τ).loc Cert.Qkv16Ideal.main_v8_1)) (v2 : (c : Dev Cert.Qkv16Ideal.nD) → Buf (Elt Ideal) ((c.tc : Thread Cert.Qkv16Ideal.nD Cert.Qkv16Ideal.τ).loc Cert.Qkv16Ideal.main_v8_2)),
      θ_run (Cert.Qkv16Ideal.defs (F := Ideal)) (onTc (τ := Cert.Qkv16Ideal.τ) (Cert.Qkv16Ideal.main (F := Ideal))) ⟨m, fun _ => 0, g⟩ (fun r => ∀ c : Dev Cert.Qkv16Ideal.nD,
          r.2.mem ((c.tc : Thread Cert.Qkv16Ideal.nD Cert.Qkv16Ideal.τ).loc Cert.Qkv16Ideal.main_v8_0) = v0 c
          ∧ r.2.mem ((c.tc : Thread Cert.Qkv16Ideal.nD Cert.Qkv16Ideal.τ).loc Cert.Qkv16Ideal.main_v8_1) = v1 c
          ∧ r.2.mem ((c.tc : Thread Cert.Qkv16Ideal.nD Cert.Qkv16Ideal.τ).loc Cert.Qkv16Ideal.main_v8_2) = v2 c
          ∧ r.2.mem ((c.tc : Thread Cert.Qkv16Ideal.nD Cert.Qkv16Ideal.τ).loc Cert.Qkv16Ideal.main_arg0) = m ((c.tc : Thread Cert.Qkv16Ideal.nD Cert.Qkv16Ideal.τ).loc Cert.Qkv16Ideal.main_arg0)
          ∧ r.2.mem ((c.tc : Thread Cert.Qkv16Ideal.nD Cert.Qkv16Ideal.τ).loc Cert.Qkv16Ideal.main_arg1) = m ((c.tc : Thread Cert.Qkv16Ideal.nD Cert.Qkv16Ideal.τ).loc Cert.Qkv16Ideal.main_arg1)
          ∧ r.2.mem ((c.tc : Thread Cert.Qkv16Ideal.nD Cert.Qkv16Ideal.τ).loc Cert.Qkv16Ideal.main_arg2) = m ((c.tc : Thread Cert.Qkv16Ideal.nD Cert.Qkv16Ideal.τ).loc Cert.Qkv16Ideal.main_arg2)
          ∧ r.2.mem ((c.tc : Thread Cert.Qkv16Ideal.nD Cert.Qkv16Ideal.τ).loc Cert.Qkv16Ideal.main_arg3) = m ((c.tc : Thread Cert.Qkv16Ideal.nD Cert.Qkv16Ideal.τ).loc Cert.Qkv16Ideal.main_arg3)
          ∧ r.2.mem ((c.tc : Thread Cert.Qkv16Ideal.nD Cert.Qkv16Ideal.τ).loc Cert.Qkv16Ideal.main_arg4) = m ((c.tc : Thread Cert.Qkv16Ideal.nD Cert.Qkv16Ideal.τ).loc Cert.Qkv16Ideal.main_arg4)
          ∧ r.2.mem ((c.tc : Thread Cert.Qkv16Ideal.nD Cert.Qkv16Ideal.τ).loc Cert.Qkv16Ideal.main_arg5) = m ((c.tc : Thread Cert.Qkv16Ideal.nD Cert.Qkv16Ideal.τ).loc Cert.Qkv16Ideal.main_arg5))
      ∧ θ_run (Cert.Qkv16RefIdeal.defs (F := Ideal)) (onTc (τ := Cert.Qkv16RefIdeal.τ) (Cert.Qkv16RefIdeal.main (F := Ideal))) ⟨m', fun _ => 0, g'⟩ (fun r => ∀ c : Dev Cert.Qkv16RefIdeal.nD,
          r.2.mem ((c.tc : Thread Cert.Qkv16RefIdeal.nD Cert.Qkv16RefIdeal.τ).loc Cert.Qkv16RefIdeal.main_v48) = v0 c
          ∧ r.2.mem ((c.tc : Thread Cert.Qkv16RefIdeal.nD Cert.Qkv16RefIdeal.τ).loc Cert.Qkv16RefIdeal.main_v50) = v1 c
          ∧ r.2.mem ((c.tc : Thread Cert.Qkv16RefIdeal.nD Cert.Qkv16RefIdeal.τ).loc Cert.Qkv16RefIdeal.main_v52) = v2 c
          ∧ r.2.mem ((c.tc : Thread Cert.Qkv16RefIdeal.nD Cert.Qkv16RefIdeal.τ).loc Cert.Qkv16RefIdeal.main_arg0) = m' ((c.tc : Thread Cert.Qkv16RefIdeal.nD Cert.Qkv16RefIdeal.τ).loc Cert.Qkv16RefIdeal.main_arg0)
          ∧ r.2.mem ((c.tc : Thread Cert.Qkv16RefIdeal.nD Cert.Qkv16RefIdeal.τ).loc Cert.Qkv16RefIdeal.main_arg1) = m' ((c.tc : Thread Cert.Qkv16RefIdeal.nD Cert.Qkv16RefIdeal.τ).loc Cert.Qkv16RefIdeal.main_arg1)
          ∧ r.2.mem ((c.tc : Thread Cert.Qkv16RefIdeal.nD Cert.Qkv16RefIdeal.τ).loc Cert.Qkv16RefIdeal.main_arg2) = m' ((c.tc : Thread Cert.Qkv16RefIdeal.nD Cert.Qkv16RefIdeal.τ).loc Cert.Qkv16RefIdeal.main_arg2)
          ∧ r.2.mem ((c.tc : Thread Cert.Qkv16RefIdeal.nD Cert.Qkv16RefIdeal.τ).loc Cert.Qkv16RefIdeal.main_arg3) = m' ((c.tc : Thread Cert.Qkv16RefIdeal.nD Cert.Qkv16RefIdeal.τ).loc Cert.Qkv16RefIdeal.main_arg3)
          ∧ r.2.mem ((c.tc : Thread Cert.Qkv16RefIdeal.nD Cert.Qkv16RefIdeal.τ).loc Cert.Qkv16RefIdeal.main_arg4) = m' ((c.tc : Thread Cert.Qkv16RefIdeal.nD Cert.Qkv16RefIdeal.τ).loc Cert.Qkv16RefIdeal.main_arg4)
          ∧ r.2.mem ((c.tc : Thread Cert.Qkv16RefIdeal.nD Cert.Qkv16RefIdeal.τ).loc Cert.Qkv16RefIdeal.main_arg5) = m' ((c.tc : Thread Cert.Qkv16RefIdeal.nD Cert.Qkv16RefIdeal.τ).loc Cert.Qkv16RefIdeal.main_arg5))

def Claim : Prop :=
  ∃ (hConv : Cert.Conv.Facts) (hConvIdeal : Cert.ConvIdeal.Facts) (hConvRefIdeal : Cert.ConvRefIdeal.Facts) (hDownDw : Cert.DownDw.Facts) (hDownDwIdeal : Cert.DownDwIdeal.Facts) (hDownDwRefIdeal : Cert.DownDwRefIdeal.Facts) (hGateUpDw : Cert.GateUpDw.Facts) (hGateUpDwIdeal : Cert.GateUpDwIdeal.Facts) (hGateUpDwRefIdeal : Cert.GateUpDwRefIdeal.Facts) (hGateUpDx : Cert.GateUpDx.Facts) (hGateUpDxIdeal : Cert.GateUpDxIdeal.Facts) (hGateUpDxRefIdeal : Cert.GateUpDxRefIdeal.Facts) (hOutDw : Cert.OutDw.Facts) (hOutDwIdeal : Cert.OutDwIdeal.Facts) (hOutDwRefIdeal : Cert.OutDwRefIdeal.Facts) (hOutDx : Cert.OutDx.Facts) (hOutDxIdeal : Cert.OutDxIdeal.Facts) (hOutDxRefIdeal : Cert.OutDxRefIdeal.Facts) (hKvDw : Cert.KvDw.Facts) (hKvDwIdeal : Cert.KvDwIdeal.Facts) (hKvDwRefIdeal : Cert.KvDwRefIdeal.Facts) (hQDw : Cert.QDw.Facts) (hQDwIdeal : Cert.QDwIdeal.Facts) (hQDwRefIdeal : Cert.QDwRefIdeal.Facts) (hKvDx : Cert.KvDx.Facts) (hKvDxIdeal : Cert.KvDxIdeal.Facts) (hKvDxRefIdeal : Cert.KvDxRefIdeal.Facts) (hQDx : Cert.QDx.Facts) (hQDxIdeal : Cert.QDxIdeal.Facts) (hQDxRefIdeal : Cert.QDxRefIdeal.Facts) (hAct : Cert.Act.Facts) (hActIdeal : Cert.ActIdeal.Facts) (hActRefIdeal : Cert.ActRefIdeal.Facts) (hConvInDx : Cert.ConvInDx.Facts) (hConvInDxIdeal : Cert.ConvInDxIdeal.Facts) (hConvInDxRefIdeal : Cert.ConvInDxRefIdeal.Facts) (hConvIn : Cert.ConvIn.Facts) (hConvInIdeal : Cert.ConvInIdeal.Facts) (hConvInRefIdeal : Cert.ConvInRefIdeal.Facts) (hMixOut : Cert.MixOut.Facts) (hMixOutIdeal : Cert.MixOutIdeal.Facts) (hMixOutRefIdeal : Cert.MixOutRefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hDownLoss : Cert.DownLoss.Facts) (hDownLossIdeal : Cert.DownLossIdeal.Facts) (hDownLossRefIdeal : Cert.DownLossRefIdeal.Facts) (hAttn16 : Cert.Attn16.Facts) (hAttn16Ideal : Cert.Attn16Ideal.Facts) (hAttn16RefIdeal : Cert.Attn16RefIdeal.Facts) (hAttn4 : Cert.Attn4.Facts) (hAttn4Ideal : Cert.Attn4Ideal.Facts) (hAttn4RefIdeal : Cert.Attn4RefIdeal.Facts) (hAttn1 : Cert.Attn1.Facts) (hAttn1Ideal : Cert.Attn1Ideal.Facts) (hAttn1RefIdeal : Cert.Attn1RefIdeal.Facts) (hQkv1 : Cert.Qkv1.Facts) (hQkv1Ideal : Cert.Qkv1Ideal.Facts) (hQkv1RefIdeal : Cert.Qkv1RefIdeal.Facts) (hQkv4 : Cert.Qkv4.Facts) (hQkv4Ideal : Cert.Qkv4Ideal.Facts) (hQkv4RefIdeal : Cert.Qkv4RefIdeal.Facts) (hQkv16 : Cert.Qkv16.Facts) (hQkv16Ideal : Cert.Qkv16Ideal.Facts) (hQkv16RefIdeal : Cert.Qkv16RefIdeal.Facts) (hPre_finite : Cert.Pre_finite.Facts),
    quiescent_Conv (hConv := hConv)
    ∧ quiescent_ConvIdeal (hConvIdeal := hConvIdeal)
    ∧ quiescent_ConvRefIdeal (hConvRefIdeal := hConvRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_GateUpDw (hGateUpDw := hGateUpDw)
    ∧ quiescent_GateUpDwIdeal (hGateUpDwIdeal := hGateUpDwIdeal)
    ∧ quiescent_GateUpDwRefIdeal (hGateUpDwRefIdeal := hGateUpDwRefIdeal)
    ∧ quiescent_GateUpDx (hGateUpDx := hGateUpDx)
    ∧ quiescent_GateUpDxIdeal (hGateUpDxIdeal := hGateUpDxIdeal)
    ∧ quiescent_GateUpDxRefIdeal (hGateUpDxRefIdeal := hGateUpDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_KvDw (hKvDw := hKvDw)
    ∧ quiescent_KvDwIdeal (hKvDwIdeal := hKvDwIdeal)
    ∧ quiescent_KvDwRefIdeal (hKvDwRefIdeal := hKvDwRefIdeal)
    ∧ quiescent_QDw (hQDw := hQDw)
    ∧ quiescent_QDwIdeal (hQDwIdeal := hQDwIdeal)
    ∧ quiescent_QDwRefIdeal (hQDwRefIdeal := hQDwRefIdeal)
    ∧ quiescent_KvDx (hKvDx := hKvDx)
    ∧ quiescent_KvDxIdeal (hKvDxIdeal := hKvDxIdeal)
    ∧ quiescent_KvDxRefIdeal (hKvDxRefIdeal := hKvDxRefIdeal)
    ∧ quiescent_QDx (hQDx := hQDx)
    ∧ quiescent_QDxIdeal (hQDxIdeal := hQDxIdeal)
    ∧ quiescent_QDxRefIdeal (hQDxRefIdeal := hQDxRefIdeal)
    ∧ quiescent_Act (hAct := hAct)
    ∧ quiescent_ActIdeal (hActIdeal := hActIdeal)
    ∧ quiescent_ActIdeal_pre_finite (hActIdeal := hActIdeal) (hPre_finite := hPre_finite)
    ∧ quiescent_ActRefIdeal (hActRefIdeal := hActRefIdeal)
    ∧ quiescent_ActRefIdeal_pre_finite (hActRefIdeal := hActRefIdeal) (hPre_finite := hPre_finite)
    ∧ quiescent_ConvInDx (hConvInDx := hConvInDx)
    ∧ quiescent_ConvInDxIdeal (hConvInDxIdeal := hConvInDxIdeal)
    ∧ quiescent_ConvInDxRefIdeal (hConvInDxRefIdeal := hConvInDxRefIdeal)
    ∧ quiescent_ConvIn (hConvIn := hConvIn)
    ∧ quiescent_ConvInIdeal (hConvInIdeal := hConvInIdeal)
    ∧ quiescent_ConvInRefIdeal (hConvInRefIdeal := hConvInRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_DownLoss (hDownLoss := hDownLoss)
    ∧ quiescent_DownLossIdeal (hDownLossIdeal := hDownLossIdeal)
    ∧ quiescent_DownLossRefIdeal (hDownLossRefIdeal := hDownLossRefIdeal)
    ∧ quiescent_Attn16 (hAttn16 := hAttn16)
    ∧ quiescent_Attn16Ideal (hAttn16Ideal := hAttn16Ideal)
    ∧ quiescent_Attn16RefIdeal (hAttn16RefIdeal := hAttn16RefIdeal)
    ∧ quiescent_Attn4 (hAttn4 := hAttn4)
    ∧ quiescent_Attn4Ideal (hAttn4Ideal := hAttn4Ideal)
    ∧ quiescent_Attn4RefIdeal (hAttn4RefIdeal := hAttn4RefIdeal)
    ∧ quiescent_Attn1 (hAttn1 := hAttn1)
    ∧ quiescent_Attn1Ideal (hAttn1Ideal := hAttn1Ideal)
    ∧ quiescent_Attn1RefIdeal (hAttn1RefIdeal := hAttn1RefIdeal)
    ∧ quiescent_Qkv1 (hQkv1 := hQkv1)
    ∧ quiescent_Qkv1Ideal (hQkv1Ideal := hQkv1Ideal)
    ∧ quiescent_Qkv1RefIdeal (hQkv1RefIdeal := hQkv1RefIdeal)
    ∧ quiescent_Qkv4 (hQkv4 := hQkv4)
    ∧ quiescent_Qkv4Ideal (hQkv4Ideal := hQkv4Ideal)
    ∧ quiescent_Qkv4RefIdeal (hQkv4RefIdeal := hQkv4RefIdeal)
    ∧ quiescent_Qkv16 (hQkv16 := hQkv16)
    ∧ quiescent_Qkv16Ideal (hQkv16Ideal := hQkv16Ideal)
    ∧ quiescent_Qkv16RefIdeal (hQkv16RefIdeal := hQkv16RefIdeal)
    ∧ preserves_Conv_ConvIdeal
    ∧ algebraic_ConvIdeal_ConvRefIdeal (hConvIdeal := hConvIdeal) (hConvRefIdeal := hConvRefIdeal)
    ∧ preserves_DownDw_DownDwIdeal
    ∧ algebraic_DownDwIdeal_DownDwRefIdeal (hDownDwIdeal := hDownDwIdeal) (hDownDwRefIdeal := hDownDwRefIdeal)
    ∧ preserves_GateUpDw_GateUpDwIdeal
    ∧ algebraic_GateUpDwIdeal_GateUpDwRefIdeal (hGateUpDwIdeal := hGateUpDwIdeal) (hGateUpDwRefIdeal := hGateUpDwRefIdeal)
    ∧ preserves_GateUpDx_GateUpDxIdeal
    ∧ algebraic_GateUpDxIdeal_GateUpDxRefIdeal (hGateUpDxIdeal := hGateUpDxIdeal) (hGateUpDxRefIdeal := hGateUpDxRefIdeal)
    ∧ preserves_OutDw_OutDwIdeal
    ∧ algebraic_OutDwIdeal_OutDwRefIdeal (hOutDwIdeal := hOutDwIdeal) (hOutDwRefIdeal := hOutDwRefIdeal)
    ∧ preserves_OutDx_OutDxIdeal
    ∧ algebraic_OutDxIdeal_OutDxRefIdeal (hOutDxIdeal := hOutDxIdeal) (hOutDxRefIdeal := hOutDxRefIdeal)
    ∧ preserves_KvDw_KvDwIdeal
    ∧ algebraic_KvDwIdeal_KvDwRefIdeal (hKvDwIdeal := hKvDwIdeal) (hKvDwRefIdeal := hKvDwRefIdeal)
    ∧ preserves_QDw_QDwIdeal
    ∧ algebraic_QDwIdeal_QDwRefIdeal (hQDwIdeal := hQDwIdeal) (hQDwRefIdeal := hQDwRefIdeal)
    ∧ preserves_KvDx_KvDxIdeal
    ∧ algebraic_KvDxIdeal_KvDxRefIdeal (hKvDxIdeal := hKvDxIdeal) (hKvDxRefIdeal := hKvDxRefIdeal)
    ∧ preserves_QDx_QDxIdeal
    ∧ algebraic_QDxIdeal_QDxRefIdeal (hQDxIdeal := hQDxIdeal) (hQDxRefIdeal := hQDxRefIdeal)
    ∧ preserves_Act_ActIdeal
    ∧ algebraic_ActIdeal_ActRefIdeal_pre_finite (hActIdeal := hActIdeal) (hActRefIdeal := hActRefIdeal) (hPre_finite := hPre_finite)
    ∧ preserves_ConvInDx_ConvInDxIdeal
    ∧ algebraic_ConvInDxIdeal_ConvInDxRefIdeal (hConvInDxIdeal := hConvInDxIdeal) (hConvInDxRefIdeal := hConvInDxRefIdeal)
    ∧ preserves_ConvIn_ConvInIdeal
    ∧ algebraic_ConvInIdeal_ConvInRefIdeal (hConvInIdeal := hConvInIdeal) (hConvInRefIdeal := hConvInRefIdeal)
    ∧ preserves_MixOut_MixOutIdeal
    ∧ algebraic_MixOutIdeal_MixOutRefIdeal (hMixOutIdeal := hMixOutIdeal) (hMixOutRefIdeal := hMixOutRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_DownLoss_DownLossIdeal
    ∧ algebraic_DownLossIdeal_DownLossRefIdeal (hDownLossIdeal := hDownLossIdeal) (hDownLossRefIdeal := hDownLossRefIdeal)
    ∧ preserves_Attn16_Attn16Ideal
    ∧ algebraic_Attn16Ideal_Attn16RefIdeal (hAttn16Ideal := hAttn16Ideal) (hAttn16RefIdeal := hAttn16RefIdeal)
    ∧ preserves_Attn4_Attn4Ideal
    ∧ algebraic_Attn4Ideal_Attn4RefIdeal (hAttn4Ideal := hAttn4Ideal) (hAttn4RefIdeal := hAttn4RefIdeal)
    ∧ preserves_Attn1_Attn1Ideal
    ∧ algebraic_Attn1Ideal_Attn1RefIdeal (hAttn1Ideal := hAttn1Ideal) (hAttn1RefIdeal := hAttn1RefIdeal)
    ∧ preserves_Qkv1_Qkv1Ideal
    ∧ algebraic_Qkv1Ideal_Qkv1RefIdeal (hQkv1Ideal := hQkv1Ideal) (hQkv1RefIdeal := hQkv1RefIdeal)
    ∧ preserves_Qkv4_Qkv4Ideal
    ∧ algebraic_Qkv4Ideal_Qkv4RefIdeal (hQkv4Ideal := hQkv4Ideal) (hQkv4RefIdeal := hQkv4RefIdeal)
    ∧ preserves_Qkv16_Qkv16Ideal
    ∧ algebraic_Qkv16Ideal_Qkv16RefIdeal (hQkv16Ideal := hQkv16Ideal) (hQkv16RefIdeal := hQkv16RefIdeal)
-- ==== Pre_finite.lean ====
abbrev S4096x1024 : Shape := ⟨2, ![4096, 1024]⟩
abbrev S4x704x1024 : Shape := ⟨3, ![4, 704, 1024]⟩
abbrev S2x4x4096x704 : Shape := ⟨4, ![2, 4, 4096, 704]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4x704x1024 : S_.BroadcastsInDim S4x704x1024 (![] : Fin 0 → Fin S4x704x1024.rank)
  reducesTo_S4x704x1024_S_d0_1_2 : S4x704x1024.ReducesTo [0, 1, 2] S_
  bcast_S_S2x4x4096x704 : S_.BroadcastsInDim S2x4x4096x704 (![] : Fin 0 → Fin S2x4x4096x704.rank)
  reducesTo_S2x4x4096x704_S_d0_1_2_3 : S2x4x4096x704.ReducesTo [0, 1, 2, 3] S_

variable [Facts]

def fn {F : FTy → Type} [FloatOps F] (main_arg0 : FVec F S4096x1024 .bf16) (main_arg1 : FVec F S4x704x1024 .bf16) (main_arg2 : FVec F S2x4x4096x704 .bf16) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4x704x1024 .f32 := (extf .f32 · bitsLt_bf16_f32) main_arg1
  let main_v6 : FVec F S4x704x1024 .f32 := Host.absf main_v5
  let main_cst_0 : FVec F S_ .f32 := constant S_ .f32 0x7F800000#32
  let main_v7 : FVec F S4x704x1024 .f32 := broadcastInDim S4x704x1024 ![] bcast_S_S4x704x1024 main_cst_0
  let main_v8 : IVec S4x704x1024 1 := cmpf .olt main_v6 main_v7
  let main_c_1 : IVec S_ 1 := constantI S_ 1 1#1
  let main_v9 : IVec S_ 1 := (fun x v => Host.reduce IntOp.andi x v reducesTo_S4x704x1024_S_d0_1_2 h_S_) main_v8 main_c_1
  let main_v10 : IVec S_ 1 := andi main_v4 main_v9
  let main_v11 : FVec F S2x4x4096x704 .f32 := (extf .f32 · bitsLt_bf16_f32) main_arg2
  let main_v12 : FVec F S2x4x4096x704 .f32 := Host.absf main_v11
  let main_cst_2 : FVec F S_ .f32 := constant S_ .f32 0x7F800000#32
  let main_v13 : FVec F S2x4x4096x704 .f32 := broadcastInDim S2x4x4096x704 ![] bcast_S_S2x4x4096x704 main_cst_2
  let main_v14 : IVec S2x4x4096x704 1 := cmpf .olt main_v12 main_v13
  let main_c_3 : IVec S_ 1 := constantI S_ 1 1#1
  let main_v15 : IVec S_ 1 := (fun x v => Host.reduce IntOp.andi x v reducesTo_S2x4x4096x704_S_d0_1_2_3 h_S_) main_v14 main_c_3
  let main_v16 : IVec S_ 1 := andi main_v10 main_v15
  main_v16
-- ==== Conv.lean ====
abbrev S4096x3072 : Shape := ⟨2, ![4096, 3072]⟩
abbrev S4096x1024 : Shape := ⟨2, ![4096, 1024]⟩
abbrev S3x1024 : Shape := ⟨2, ![3, 1024]⟩
abbrev S_ : Shape := ⟨0, ![]⟩
abbrev S8x1024 : Shape := ⟨2, ![8, 1024]⟩
abbrev S512x1024 : Shape := ⟨2, ![512, 1024]⟩
abbrev S512x3072 : Shape := ⟨2, ![512, 3072]⟩
abbrev S504x1024 : Shape := ⟨2, ![504, 1024]⟩
abbrev S1x1024 : Shape := ⟨2, ![1, 1024]⟩
abbrev S1024 : Shape := ⟨1, ![1024]⟩

abbrev nBuf : Space → Nat
  | .hbm => 8
  | .vmem => 20
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S3x1024, .f32⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S4096x3072, .bf16⟩
  | .hbm, ⟨7, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S8x1024, .bf16⟩
  | .local _ .vmem, ⟨7, _⟩ => ⟨S8x1024, .bf16⟩
  | .local _ .vmem, ⟨8, _⟩ => ⟨S8x1024, .bf16⟩
  | .local _ .vmem, ⟨9, _⟩ => ⟨S8x1024, .bf16⟩
  | .local _ .vmem, ⟨10, _⟩ => ⟨S512x1024, .bf16⟩
  | .local _ .vmem, ⟨11, _⟩ => ⟨S512x1024, .bf16⟩
  | .local _ .vmem, ⟨12, _⟩ => ⟨S8x1024, .bf16⟩
  | .local _ .vmem, ⟨13, _⟩ => ⟨S8x1024, .bf16⟩
  | .local _ .vmem, ⟨14, _⟩ => ⟨S8x1024, .bf16⟩
  | .local _ .vmem, ⟨15, _⟩ => ⟨S8x1024, .bf16⟩
  | .local _ .vmem, ⟨16, _⟩ => ⟨S8x1024, .f32⟩
  | .local _ .vmem, ⟨17, _⟩ => ⟨S512x3072, .bf16⟩
  | .local _ .vmem, ⟨18, _⟩ => ⟨S512x3072, .bf16⟩
  | .local _ .vmem, ⟨19, _⟩ => ⟨S8x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_4 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x3072 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ConvRefIdeal.lean ====
abbrev S4096x3072 : Shape := ⟨2, ![4096, 3072]⟩
abbrev S4096x1024 : Shape := ⟨2, ![4096, 1024]⟩
abbrev S3x1024 : Shape := ⟨2, ![3, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩
abbrev S8x1024 : Shape := ⟨2, ![8, 1024]⟩

abbrev nBuf : Space → Nat
  | .hbm => 77
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S3x1024, .f32⟩
  | .hbm, ⟨3, _⟩ => ⟨S4096x3072, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S2x1024, .f32⟩
  | .hbm, ⟨10, _⟩ => ⟨S4098x1024, .f32⟩
  | .hbm, ⟨11, _⟩ => ⟨S_, .f32⟩
  | .hbm, ⟨12, _⟩ => ⟨S2x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S_, .f32⟩
  | .hbm, ⟨41, _⟩ => ⟨S4098x1024, .f32⟩
  | .hbm, ⟨42, _⟩ => ⟨S_, .f32⟩
  | .hbm, ⟨43, _⟩ => ⟨S3x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S_, .f32⟩
  | .hbm, ⟨51, _⟩ => ⟨S4098x1024, .f32⟩
  | .hbm, ⟨52, _⟩ => ⟨S4098x1024, .f32⟩
  | .hbm, ⟨53, _⟩ => ⟨S_, .f32⟩
  | .hbm, ⟨54, _⟩ => ⟨S3x1024, .f32⟩
  | .hbm, ⟨55, _⟩ => ⟨S3x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S_, .f32⟩
  | .hbm, ⟨63, _⟩ => ⟨S4098x1024, .f32⟩
  | .hbm, ⟨64, _⟩ => ⟨S4098x1024, .f32⟩
  | .hbm, ⟨65, _⟩ => ⟨S_, .f32⟩
  | .hbm, ⟨66, _⟩ => ⟨S3x1024, .f32⟩
  | .hbm, ⟨67, _⟩ => ⟨S3x1024, .f32⟩
  | .hbm, ⟨68, _⟩ => ⟨S2x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x3072, .f32⟩
  | .hbm, ⟨73, _⟩ => ⟨S4096x3072, .bf16⟩
  | .hbm, ⟨74, _⟩ => ⟨S_, .i32⟩
  | .hbm, ⟨75, _⟩ => ⟨S_, .f32⟩
  | .hbm, ⟨76, _⟩ => ⟨S8x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_5 : Ref sig .tc := ⟨.hbm, 47, rfl⟩
abbrev main_v38 : Ref sig .tc := ⟨.hbm, 48, rfl⟩
abbrev main_v39 : Ref sig .tc := ⟨.hbm, 49, rfl⟩
abbrev main_cst_6 : Ref sig .tc := ⟨.hbm, 50, rfl⟩
abbrev main_v40 : Ref sig .tc := ⟨.hbm, 51, rfl⟩
abbrev main_v41 : Ref sig .tc := ⟨.hbm, 52, rfl⟩
abbrev main_cst_7 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_c : Ref sig .tc := ⟨.hbm, 74, rfl⟩
abbrev main_call0_v0 : Ref sig .tc := ⟨.hbm, 75, rfl⟩
abbrev main_v59 : Ref sig .tc := ⟨.hbm, 76, rfl⟩

abbrev nD : Nat := 1
abbrev τ : Topo := Topo.v7x

variable {F : FTy → Type} [FloatOps F]
-- ==== DownDw.lean ====
abbrev S4x4096x704 : Shape := ⟨3, ![4, 4096, 704]⟩
abbrev S4096x1024 : Shape := ⟨2, ![4096, 1024]⟩
abbrev S4x704x1024 : Shape := ⟨3, ![4, 704, 1024]⟩
abbrev S1x4096x704 : Shape := ⟨3, ![1, 4096, 704]⟩
abbrev S1x704x1024 : Shape := ⟨3, ![1, 704, 1024]⟩
abbrev S4096x704 : Shape := ⟨2, ![4096, 704]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .bf16⟩
  | .local _ .vmem, ⟨4, _⟩ => ⟨S1x704x1024, .bf16⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DownDwRefIdeal.lean ====
abbrev S4x4096x704 : Shape := ⟨3, ![4, 4096, 704]⟩
abbrev S4096x1024 : Shape := ⟨2, ![4096, 1024]⟩
abbrev S4096x4x704 : Shape := ⟨3, ![4096, 4, 704]⟩
abbrev S4096x2816 : Shape := ⟨2, ![4096, 2816]⟩
abbrev S_ : Shape := ⟨0, ![]⟩
abbrev S2816x1024 : Shape := ⟨2, ![2816, 1024]⟩
abbrev S1024x2816 : Shape := ⟨2, ![1024, 2816]⟩
abbrev S4x704x1024 : Shape := ⟨3, ![4, 704, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S4096x4x704, .bf16⟩
  | .hbm, ⟨3, _⟩ => ⟨S4096x2816, .bf16⟩
  | .hbm, ⟨4, _⟩ => ⟨S_, .f32⟩
  | .hbm, ⟨5, _⟩ => ⟨S2816x1024, .f32⟩
  | .hbm, ⟨6, _⟩ => ⟨S4096x2816, .f32⟩
  | .hbm, ⟨7, _⟩ => ⟨S4096x1024, .f32⟩
  | .hbm, ⟨8, _⟩ => ⟨S4096x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | .hbm, ⟨12, _⟩ => ⟨S4x704x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== GateUpDw.lean ====
abbrev S4096x1024 : Shape := ⟨2, ![4096, 1024]⟩
abbrev S8x4096x704 : Shape := ⟨3, ![8, 4096, 704]⟩
abbrev S8x704x1024 : Shape := ⟨3, ![8, 704, 1024]⟩
abbrev S1x4096x704 : Shape := ⟨3, ![1, 4096, 704]⟩
abbrev S1x704x1024 : Shape := ⟨3, ![1, 704, 1024]⟩
abbrev S4096x704 : Shape := ⟨2, ![4096, 704]⟩
abbrev S704x1024 : Shape := ⟨2, ![704, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S8x4096x704, .bf16⟩
  | .hbm, ⟨2, _⟩ => ⟨S8x704x1024, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S1x704x1024, .bf16⟩
  | .local _ .vmem, ⟨4, _⟩ => ⟨S1x704x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== GateUpDwRefIdeal.lean ====
abbrev S4096x1024 : Shape := ⟨2, ![4096, 1024]⟩
abbrev S8x4096x704 : Shape := ⟨3, ![8, 4096, 704]⟩
abbrev S4096x8x704 : Shape := ⟨3, ![4096, 8, 704]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S8x704x1024 : Shape := ⟨3, ![8, 704, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x4096x704, .bf16⟩
  | .hbm, ⟨2, _⟩ => ⟨S4096x8x704, .bf16⟩
  | .hbm, ⟨3, _⟩ => ⟨S4096x5632, .bf16⟩
  | .hbm, ⟨4, _⟩ => ⟨S_, .f32⟩
  | .hbm, ⟨5, _⟩ => ⟨S1024x5632, .f32⟩
  | .hbm, ⟨6, _⟩ => ⟨S4096x1024, .f32⟩
  | .hbm, ⟨7, _⟩ => ⟨S4096x5632, .f32⟩
  | .hbm, ⟨8, _⟩ => ⟨S4096x5632, .f32⟩
  | .hbm, ⟨9, _⟩ => ⟨S5632x1024, .f32⟩
  | .hbm, ⟨10, _⟩ => ⟨S1024x5632, .f32⟩
  | .hbm, ⟨11, _⟩ => ⟨S1024x5632, .bf16⟩
  | .hbm, ⟨12, _⟩ => ⟨S5632x1024, .bf16⟩
  | .hbm, ⟨13, _⟩ => ⟨S8x704x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== GateUpDx.lean ====
abbrev S8x4096x704 : Shape := ⟨3, ![8, 4096, 704]⟩
abbrev S8x1024x704 : Shape := ⟨3, ![8, 1024, 704]⟩
abbrev S8x128 : Shape := ⟨2, ![8, 128]⟩
abbrev S2x4x4096x704 : Shape := ⟨4, ![2, 4, 4096, 704]⟩
abbrev S2x4x1024x704 : Shape := ⟨4, ![2, 4, 1024, 704]⟩
abbrev S4096x1024 : Shape := ⟨2, ![4096, 1024]⟩
abbrev S2x1x2048x704 : Shape := ⟨4, ![2, 1, 2048, 704]⟩
abbrev S2x1x1024x704 : Shape := ⟨4, ![2, 1, 1024, 704]⟩
abbrev S2048x1024 : Shape := ⟨2, ![2048, 1024]⟩
abbrev S1x1x2048x704 : Shape := ⟨4, ![1, 1, 2048, 704]⟩
abbrev S2048x704 : Shape := ⟨2, ![2048, 704]⟩
abbrev S1x1x1024x704 : Shape := ⟨4, ![1, 1, 1024, 704]⟩
abbrev S1024x704 : Shape := ⟨2, ![1024, 704]⟩

abbrev nBuf : Space → Nat
  | .hbm => 6
  | .vmem => 7
  | .smem => 0
  | _ => 0

abbrev bufTy : (tb : Table) → Fin (tcTables nBuf tb) → BufTy
  | .hbm, ⟨0, _⟩ => ⟨S8x4096x704, .bf16⟩
  | .hbm, ⟨1, _⟩ => ⟨S8x1024x704, .bf16⟩
  | .hbm, ⟨2, _⟩ => ⟨S8x128, .f32⟩
  | .hbm, ⟨3, _⟩ => ⟨S2x4x4096x704, .bf16⟩
  | .hbm, ⟨4, _⟩ => ⟨S2x4x1024x704, .bf16⟩
  | .hbm, ⟨5, _⟩ => ⟨S4096x1024, .bf16⟩
  | .local _ .vmem, ⟨0, _⟩ => ⟨S2x1x2048x704, .bf16⟩
  | .local _ .vmem, ⟨1, _⟩ => ⟨S2x1x2048x704, .bf16⟩
  | .local _ .vmem, ⟨2, _⟩ => ⟨S2x1x1024x704, .bf16⟩
  | .local _ .vmem, ⟨3, _⟩ => ⟨S2x1x1024x704, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_18 : BitVec 32 := 0#32
  let v19 : BitVec 1 := Scalar.cmpi .ne v18 c0_i32_18
  v19

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2x1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GateUpDxRefIdeal.lean ====
abbrev S8x4096x704 : Shape := ⟨3, ![8, 4096, 704]⟩
abbrev S8x1024x704 : Shape := ⟨3, ![8, 1024, 704]⟩
abbrev S8x128 : Shape := ⟨2, ![8, 128]⟩
abbrev S1024x8x704 : Shape := ⟨3, ![1024, 8, 704]⟩
abbrev S1024x5632 : Shape := ⟨2, ![1024, 5632]⟩
abbrev S4096x8x704 : Shape := ⟨3, ![4096, 8, 704]⟩
abbrev S4096x5632 : Shape := ⟨2, ![4096, 5632]⟩
abbrev S_ : Shape := ⟨0, ![]⟩
abbrev S4096x1024 : Shape := ⟨2, ![4096, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x1024x704, .bf16⟩
  | .hbm, ⟨2, _⟩ => ⟨S8x128, .f32⟩
  | .hbm, ⟨3, _⟩ => ⟨S1024x8x704, .bf16⟩
  | .hbm, ⟨4, _⟩ => ⟨S1024x5632, .bf16⟩
  | .hbm, ⟨5, _⟩ => ⟨S4096x8x704, .bf16⟩
  | .hbm, ⟨6, _⟩ => ⟨S4096x5632, .bf16⟩
  | .hbm, ⟨7, _⟩ => ⟨S_, .f32⟩
  | .hbm, ⟨8, _⟩ => ⟨S4096x1024, .f32⟩
  | .hbm, ⟨9, _⟩ => ⟨S1024x5632, .f32⟩
  | .hbm, ⟨10, _⟩ => ⟨S4096x5632, .f32⟩
  | .hbm, ⟨11, _⟩ => ⟨S4096x5632, .f32⟩
  | .hbm, ⟨12, _⟩ => ⟨S4096x1024, .f32⟩
  | .hbm, ⟨13, _⟩ => ⟨S4096x1024, .bf16⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== OutDw.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== OutDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDx.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .bf16⟩
  | .local _ .vmem, ⟨5, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KvDw.lean ====
abbrev S4096x1024 : Shape := ⟨2, ![4096, 1024]⟩
abbrev S4096x6144 : Shape := ⟨2, ![4096, 6144]⟩
abbrev S8x1024x768 : Shape := ⟨3, ![8, 1024, 768]⟩
abbrev S4096x768 : Shape := ⟨2, ![4096, 768]⟩
abbrev S1x1024x768 : Shape := ⟨3, ![1, 1024, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S8x1024x768, .bf16⟩
  | .local _ .vmem, ⟨0, _⟩ => ⟨S4096x1024, .bf16⟩
  | .local _ .vmem, ⟨1, _⟩ => ⟨S4096x768, .bf16⟩
  | .local _ .vmem, ⟨2, _⟩ => ⟨S4096x768, .bf16⟩
  | .local _ .vmem, ⟨3, _⟩ => ⟨S1x1024x768, .bf16⟩
  | .local _ .vmem, ⟨4, _⟩ => ⟨S1x1024x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== KvDwRefIdeal.lean ====
abbrev S4096x1024 : Shape := ⟨2, ![4096, 1024]⟩
abbrev S4096x6144 : Shape := ⟨2, ![4096, 6144]⟩
abbrev S_ : Shape := ⟨0, ![]⟩
abbrev S1024x6144 : Shape := ⟨2, ![1024, 6144]⟩
abbrev S6144x1024 : Shape := ⟨2, ![6144, 1024]⟩
abbrev S1024x8x768 : Shape := ⟨3, ![1024, 8, 768]⟩
abbrev S8x1024x768 : Shape := ⟨3, ![8, 1024, 768]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S_, .f32⟩
  | .hbm, ⟨3, _⟩ => ⟨S1024x6144, .f32⟩
  | .hbm, ⟨4, _⟩ => ⟨S4096x1024, .f32⟩
  | .hbm, ⟨5, _⟩ => ⟨S4096x6144, .f32⟩
  | .hbm, ⟨6, _⟩ => ⟨S4096x6144, .f32⟩
  | .hbm, ⟨7, _⟩ => ⟨S6144x1024, .f32⟩
  | .hbm, ⟨8, _⟩ => ⟨S1024x6144, .f32⟩
  | .hbm, ⟨9, _⟩ => ⟨S1024x6144, .bf16⟩
  | .hbm, ⟨10, _⟩ => ⟨S1024x8x768, .bf16⟩
  | .hbm, ⟨11, _⟩ => ⟨S8x1024x768, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== QDw.lean ====
abbrev S4096x1024 : Shape := ⟨2, ![4096, 1024]⟩
abbrev S4096x3072 : Shape := ⟨2, ![4096, 3072]⟩
abbrev S8x1024x384 : Shape := ⟨3, ![8, 1024, 384]⟩
abbrev S4096x768 : Shape := ⟨2, ![4096, 768]⟩
abbrev S2x1024x384 : Shape := ⟨3, ![2, 1024, 384]⟩
abbrev S1024x768 : Shape := ⟨2, ![1024, 768]⟩
abbrev S1024x384 : Shape := ⟨2, ![1024, 384]⟩
abbrev S1x1024x384 : Shape := ⟨3, ![1, 1024, 384]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S8x1024x384, .bf16⟩
  | .local _ .vmem, ⟨0, _⟩ => ⟨S4096x1024, .bf16⟩
  | .local _ .vmem, ⟨1, _⟩ => ⟨S4096x768, .bf16⟩
  | .local _ .vmem, ⟨2, _⟩ => ⟨S4096x768, .bf16⟩
  | .local _ .vmem, ⟨3, _⟩ => ⟨S2x1024x384, .bf16⟩
  | .local _ .vmem, ⟨4, _⟩ => ⟨S2x1024x384, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== QDwRefIdeal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩
abbrev S1024x8x384 : Shape := ⟨3, ![1024, 8, 384]⟩
abbrev S8x1024x384 : Shape := ⟨3, ![8, 1024, 384]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | .hbm, ⟨10, _⟩ => ⟨S1024x8x384, .bf16⟩
  | .hbm, ⟨11, _⟩ => ⟨S8x1024x384, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KvDx.lean ====
abbrev S4096x6144 : Shape := ⟨2, ![4096, 6144]⟩
abbrev S1024x6144 : Shape := ⟨2, ![1024, 6144]⟩
abbrev S8x128 : Shape := ⟨2, ![8, 128]⟩
abbrev S4096x1024 : Shape := ⟨2, ![4096, 1024]⟩
abbrev S512x6144 : Shape := ⟨2, ![512, 6144]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x6144, .bf16⟩
  | .hbm, ⟨1, _⟩ => ⟨S1024x6144, .bf16⟩
  | .hbm, ⟨2, _⟩ => ⟨S8x128, .f32⟩
  | .hbm, ⟨3, _⟩ => ⟨S4096x1024, .bf16⟩
  | .local _ .vmem, ⟨0, _⟩ => ⟨S512x6144, .bf16⟩
  | .local _ .vmem, ⟨1, _⟩ => ⟨S512x6144, .bf16⟩
  | .local _ .vmem, ⟨2, _⟩ => ⟨S1024x6144, .bf16⟩
  | .local _ .vmem, ⟨3, _⟩ => ⟨S512x1024, .bf16⟩
  | .local _ .vmem, ⟨4, _⟩ => ⟨S512x1024, .bf16⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== KvDxRefIdeal.lean ====
abbrev S4096x6144 : Shape := ⟨2, ![4096, 6144]⟩
abbrev S1024x6144 : Shape := ⟨2, ![1024, 6144]⟩
abbrev S8x128 : Shape := ⟨2, ![8, 128]⟩
abbrev S_ : Shape := ⟨0, ![]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S1024x6144, .bf16⟩
  | .hbm, ⟨2, _⟩ => ⟨S8x128, .f32⟩
  | .hbm, ⟨3, _⟩ => ⟨S_, .f32⟩
  | .hbm, ⟨4, _⟩ => ⟨S4096x1024, .f32⟩
  | .hbm, ⟨5, _⟩ => ⟨S1024x6144, .f32⟩
  | .hbm, ⟨6, _⟩ => ⟨S4096x6144, .f32⟩
  | .hbm, ⟨7, _⟩ => ⟨S4096x6144, .f32⟩
  | .hbm, ⟨8, _⟩ => ⟨S4096x1024, .f32⟩
  | .hbm, ⟨9, _⟩ => ⟨S4096x1024, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== QDx.lean ====
abbrev S4096x3072 : Shape := ⟨2, ![4096, 3072]⟩
abbrev S1024x3072 : Shape := ⟨2, ![1024, 3072]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x1024, .bf16⟩
  | .local _ .vmem, ⟨4, _⟩ => ⟨S1024x1024, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== QDxRefIdeal.lean ====
abbrev S4096x3072 : Shape := ⟨2, ![4096, 3072]⟩
abbrev S1024x3072 : Shape := ⟨2, ![1024, 3072]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S_, .f32⟩
  | .hbm, ⟨3, _⟩ => ⟨S4096x1024, .f32⟩
  | .hbm, ⟨4, _⟩ => ⟨S1024x3072, .f32⟩
  | .hbm, ⟨5, _⟩ => ⟨S4096x3072, .f32⟩
  | .hbm, ⟨6, _⟩ => ⟨S4096x3072, .f32⟩
  | .hbm, ⟨7, _⟩ => ⟨S4096x1024, .f32⟩
  | .hbm, ⟨8, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Act.lean ====
abbrev S4096x1024 : Shape := ⟨2, ![4096, 1024]⟩
abbrev S4x704x1024 : Shape := ⟨3, ![4, 704, 1024]⟩
abbrev S2x4x4096x704 : Shape := ⟨4, ![2, 4, 4096, 704]⟩
abbrev S2048x1024 : Shape := ⟨2, ![2048, 1024]⟩
abbrev S1x704x1024 : Shape := ⟨3, ![1, 704, 1024]⟩
abbrev S2x1x2048x704 : Shape := ⟨4, ![2, 1, 2048, 704]⟩
abbrev S704x1024 : Shape := ⟨2, ![704, 1024]⟩
abbrev S2048x704 : Shape := ⟨2, ![2048, 704]⟩
abbrev S1x1x2048x704 : Shape := ⟨4, ![1, 1, 2048, 704]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4x704x1024, .bf16⟩
  | .hbm, ⟨2, _⟩ => ⟨S2x4x4096x704, .bf16⟩
  | .hbm, ⟨3, _⟩ => ⟨S2x4x4096x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S2x1x2048x704, .bf16⟩
  | .local _ .vmem, ⟨5, _⟩ => ⟨S2x1x2048x704, .bf16⟩
  | .local _ .vmem, ⟨6, _⟩ => ⟨S2x1x2048x704, .bf16⟩
  | .local _ .vmem, ⟨7, _⟩ => ⟨S2x1x2048x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ActRefIdeal.lean ====
abbrev S4096x1024 : Shape := ⟨2, ![4096, 1024]⟩
abbrev S4x704x1024 : Shape := ⟨3, ![4, 704, 1024]⟩
abbrev S2x4x4096x704 : Shape := ⟨4, ![2, 4, 4096, 704]⟩
abbrev S1x4x4096x704 : Shape := ⟨4, ![1, 4, 4096, 704]⟩
abbrev S4x4096x704 : Shape := ⟨3, ![4, 4096, 704]⟩
abbrev S4096x4x704 : Shape := ⟨3, ![4096, 4, 704]⟩
abbrev S4096x2816 : Shape := ⟨2, ![4096, 2816]⟩
abbrev S2816x1024 : Shape := ⟨2, ![2816, 1024]⟩
abbrev S_ : Shape := ⟨0, ![]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x704x1024, .bf16⟩
  | .hbm, ⟨2, _⟩ => ⟨S2x4x4096x704, .bf16⟩
  | .hbm, ⟨3, _⟩ => ⟨S1x4x4096x704, .bf16⟩
  | .hbm, ⟨4, _⟩ => ⟨S4x4096x704, .bf16⟩
  | .hbm, ⟨5, _⟩ => ⟨S1x4x4096x704, .bf16⟩
  | .hbm, ⟨6, _⟩ => ⟨S4x4096x704, .bf16⟩
  | .hbm, ⟨7, _⟩ => ⟨S4096x4x704, .bf16⟩
  | .hbm, ⟨8, _⟩ => ⟨S4096x2816, .bf16⟩
  | .hbm, ⟨9, _⟩ => ⟨S4096x2816, .f32⟩
  | .hbm, ⟨10, _⟩ => ⟨S4096x4x704, .bf16⟩
  | .hbm, ⟨11, _⟩ => ⟨S4096x2816, .bf16⟩
  | .hbm, ⟨12, _⟩ => ⟨S4096x2816, .f32⟩
  | .hbm, ⟨13, _⟩ => ⟨S4x704x1024, .f32⟩
  | .hbm, ⟨14, _⟩ => ⟨S2816x1024, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S_, .f32⟩
  | .hbm, ⟨21, _⟩ => ⟨S4096x2816, .f32⟩
  | .hbm, ⟨22, _⟩ => ⟨S4096x2816, .f32⟩
  | .hbm, ⟨23, _⟩ => ⟨S_, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x1024, .f32⟩
  | .hbm, ⟨30, _⟩ => ⟨S4096x1024, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .bf16⟩
  | .hbm, ⟨39, _⟩ => ⟨S4096x4x704, .bf16⟩
  | .hbm, ⟨40, _⟩ => ⟨S4x4096x704, .bf16⟩
  | .hbm, ⟨41, _⟩ => ⟨S4096x2816, .bf16⟩
  | .hbm, ⟨42, _⟩ => ⟨S4096x4x704, .bf16⟩
  | .hbm, ⟨43, _⟩ => ⟨S4x4096x704, .bf16⟩
  | .hbm, ⟨44, _⟩ => ⟨S1x4x4096x704, .bf16⟩
  | .hbm, ⟨45, _⟩ => ⟨S1x4x4096x704, .bf16⟩
  | .hbm, ⟨46, _⟩ => ⟨S2x4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_v12_2 : Ref sig .tc := ⟨.hbm, 22, rfl⟩
abbrev main_call0_cst_1 : Ref sig .tc := ⟨.hbm, 23, rfl⟩
abbrev main_call0_v6 : Ref sig .tc := ⟨.hbm, 24, rfl⟩
abbrev main_call0_v7 : Ref sig .tc := ⟨.hbm, 25, rfl⟩
abbrev main_v12_1 : Ref sig .tc := ⟨.hbm, 26, rfl⟩
abbrev main_v12_0 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== ConvInDx.lean ====
abbrev S4096x3072 : Shape := ⟨2, ![4096, 3072]⟩
abbrev S1024x3072 : Shape := ⟨2, ![1024, 3072]⟩
abbrev S8x128 : Shape := ⟨2, ![8, 128]⟩
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S8x128, .f32⟩
  | .hbm, ⟨3, _⟩ => ⟨S4096x1024, .bf16⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x1024, .bf16⟩
  | .local _ .vmem, ⟨4, _⟩ => ⟨S1024x1024, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ConvInDxRefIdeal.lean ====
abbrev S4096x3072 : Shape := ⟨2, ![4096, 3072]⟩
abbrev S1024x3072 : Shape := ⟨2, ![1024, 3072]⟩
abbrev S8x128 : Shape := ⟨2, ![8, 128]⟩
abbrev S_ : Shape := ⟨0, ![]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S8x128, .f32⟩
  | .hbm, ⟨3, _⟩ => ⟨S_, .f32⟩
  | .hbm, ⟨4, _⟩ => ⟨S4096x1024, .f32⟩
  | .hbm, ⟨5, _⟩ => ⟨S1024x3072, .f32⟩
  | .hbm, ⟨6, _⟩ => ⟨S4096x3072, .f32⟩
  | .hbm, ⟨7, _⟩ => ⟨S4096x3072, .f32⟩
  | .hbm, ⟨8, _⟩ => ⟨S4096x1024, .f32⟩
  | .hbm, ⟨9, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== ConvIn.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvInRefIdeal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | .hbm, ⟨5, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixOut.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GateUp.lean ====
abbrev S4096x1024 : Shape := ⟨2, ![4096, 1024]⟩
abbrev S8x1024x704 : Shape := ⟨3, ![8, 1024, 704]⟩
abbrev S2x4x4096x704 : Shape := ⟨4, ![2, 4, 4096, 704]⟩
abbrev S4x4096x704 : Shape := ⟨3, ![4, 4096, 704]⟩
abbrev S2048x1024 : Shape := ⟨2, ![2048, 1024]⟩
abbrev S1x1024x704 : Shape := ⟨3, ![1, 1024, 704]⟩
abbrev S2x1x2048x704 : Shape := ⟨4, ![2, 1, 2048, 704]⟩
abbrev S1x2048x704 : Shape := ⟨3, ![1, 2048, 704]⟩
abbrev S1024x704 : Shape := ⟨2, ![1024, 704]⟩
abbrev S2048x704 : Shape := ⟨2, ![2048, 704]⟩
abbrev S1x1x2048x704 : Shape := ⟨4, ![1, 1, 2048, 704]⟩

abbrev nBuf : Space → Nat
  | .hbm => 4
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S8x1024x704, .bf16⟩
  | .hbm, ⟨2, _⟩ => ⟨S2x4x4096x704, .bf16⟩
  | .hbm, ⟨3, _⟩ => ⟨S4x4096x704, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S2x1x2048x704, .bf16⟩
  | .local _ .vmem, ⟨7, _⟩ => ⟨S2x1x2048x704, .bf16⟩
  | .local _ .vmem, ⟨8, _⟩ => ⟨S1x2048x704, .bf16⟩
  | .local _ .vmem, ⟨9, _⟩ => ⟨S1x2048x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateUpRefIdeal.lean ====
abbrev S4096x1024 : Shape := ⟨2, ![4096, 1024]⟩
abbrev S8x1024x704 : Shape := ⟨3, ![8, 1024, 704]⟩
abbrev S1024x8x704 : Shape := ⟨3, ![1024, 8, 704]⟩
abbrev S1024x5632 : Shape := ⟨2, ![1024, 5632]⟩
abbrev S4096x5632 : Shape := ⟨2, ![4096, 5632]⟩
abbrev S4096x2816 : Shape := ⟨2, ![4096, 2816]⟩
abbrev S4096x4x704 : Shape := ⟨3, ![4096, 4, 704]⟩
abbrev S4x4096x704 : Shape := ⟨3, ![4, 4096, 704]⟩
abbrev S1x4x4096x704 : Shape := ⟨4, ![1, 4, 4096, 704]⟩
abbrev S2x4x4096x704 : Shape := ⟨4, ![2, 4, 4096, 704]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x704, .bf16⟩
  | .hbm, ⟨2, _⟩ => ⟨S4096x1024, .f32⟩
  | .hbm, ⟨3, _⟩ => ⟨S1024x8x704, .bf16⟩
  | .hbm, ⟨4, _⟩ => ⟨S1024x5632, .bf16⟩
  | .hbm, ⟨5, _⟩ => ⟨S1024x5632, .f32⟩
  | .hbm, ⟨6, _⟩ => ⟨S4096x5632, .f32⟩
  | .hbm, ⟨7, _⟩ => ⟨S4096x2816, .f32⟩
  | .hbm, ⟨8, _⟩ => ⟨S4096x2816, .f32⟩
  | .hbm, ⟨9, _⟩ => ⟨S4096x2816, .bf16⟩
  | .hbm, ⟨10, _⟩ => ⟨S4096x4x704, .bf16⟩
  | .hbm, ⟨11, _⟩ => ⟨S4x4096x704, .bf16⟩
  | .hbm, ⟨12, _⟩ => ⟨S4096x2816, .bf16⟩
  | .hbm, ⟨13, _⟩ => ⟨S4096x4x704, .bf16⟩
  | .hbm, ⟨14, _⟩ => ⟨S4x4096x704, .bf16⟩
  | .hbm, ⟨15, _⟩ => ⟨S1x4x4096x704, .bf16⟩
  | .hbm, ⟨16, _⟩ => ⟨S1x4x4096x704, .bf16⟩
  | .hbm, ⟨17, _⟩ => ⟨S2x4x4096x704, .bf16⟩
  | .hbm, ⟨18, _⟩ => ⟨S4096x2816, .f32⟩
  | .hbm, ⟨19, _⟩ => ⟨S4096x2816, .f32⟩
  | .hbm, ⟨20, _⟩ => ⟨S_, .f32⟩
  | .hbm, ⟨21, _⟩ => ⟨S4096x2816, .f32⟩
  | .hbm, ⟨22, _⟩ => ⟨S4096x2816, .f32⟩
  | .hbm, ⟨23, _⟩ => ⟨S_, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .bf16⟩
  | .hbm, ⟨29, _⟩ => ⟨S4096x4x704, .bf16⟩
  | .hbm, ⟨30, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Down.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024 : Shape := ⟨2, ![1, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 10
  | .vmem => 16
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S4096x1024, .bf16⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== DownRefIdeal.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024 : Shape := ⟨2, ![1, 1024]⟩
abbrev S4096x4x704 : Shape := ⟨3, ![4096, 4, 704]⟩
abbrev S4096x2816 : Shape := ⟨2, ![4096, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩

abbrev nBuf : Space → Nat
  | .hbm => 60
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x4x704, .bf16⟩
  | .hbm, ⟨7, _⟩ => ⟨S4096x2816, .bf16⟩
  | .hbm, ⟨8, _⟩ => ⟨S4096x2816, .f32⟩
  | .hbm, ⟨9, _⟩ => ⟨S4x704x1024, .f32⟩
  | .hbm, ⟨10, _⟩ => ⟨S2816x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .bf16⟩
  | .hbm, ⟨44, _⟩ => ⟨S4096x1024, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== DownLoss.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024 : Shape := ⟨2, ![1, 1024]⟩
abbrev S8x1024 : Shape := ⟨2, ![8, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S8x1024, .f32⟩
  | .hbm, ⟨8, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | .local _ .vmem, ⟨13, _⟩ => ⟨S1x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c0_i32_49 : BitVec 32 := 0#32
  let v80 : BitVec 1 := Scalar.cmpi .eq arg0 c0_i32_49
  let v81 : BitVec 32 := Scalar.extui v80
  let c0_i32_50 : BitVec 32 := 0#32
  let v82 : BitVec 1 := Scalar.cmpi .ne v81 c0_i32_50
  v82

def k0_cond3 (i : grid0.Coords) : BitVec 1 :=
  let arg0 : BitVec 32 := BitVec.ofNat 32 (i 0).val
  let c0_i32_51 : BitVec 32 := 0#32
  let v83 : BitVec 1 := Scalar.cmpi .sgt arg0 c0_i32_51
  let v84 : BitVec 32 := Scalar.extui v83
  let c0_i32_52 : BitVec 32 := 0#32
  let v85 : BitVec 1 := Scalar.cmpi .ne v84 c0_i32_52
  v85

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DownLossRefIdeal.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024 : Shape := ⟨2, ![1, 1024]⟩
abbrev S4096x4x704 : Shape := ⟨3, ![4096, 4, 704]⟩
abbrev S4096x2816 : Shape := ⟨2, ![4096, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S7x1024 : Shape := ⟨2, ![7, 1024]⟩
abbrev S8x1024 : Shape := ⟨2, ![8, 1024]⟩

abbrev nBuf : Space → Nat
  | .hbm => 102
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x4x704, .bf16⟩
  | .hbm, ⟨6, _⟩ => ⟨S4096x2816, .bf16⟩
  | .hbm, ⟨7, _⟩ => ⟨S4096x2816, .f32⟩
  | .hbm, ⟨8, _⟩ => ⟨S4x704x1024, .f32⟩
  | .hbm, ⟨9, _⟩ => ⟨S2816x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S7x1024, .f32⟩
  | .hbm, ⟨79, _⟩ => ⟨S8x1024, .f32⟩
  | .hbm, ⟨80, _⟩ => ⟨S4096x1024, .bf16⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S_, .f32⟩
  | .hbm, ⟨86, _⟩ => ⟨S4096x1, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S4096x1, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S_, .f32⟩
  | .hbm, ⟨100, _⟩ => ⟨S1024, .f32⟩
  | .hbm, ⟨101, _⟩ => ⟨S1x1024, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_cst_8 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_12 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_13 : Ref sig .tc := ⟨.hbm, 67, rfl⟩
abbrev main_v48 : Ref sig .tc := ⟨.hbm, 68, rfl⟩
abbrev main_v49 : Ref sig .tc := ⟨.hbm, 69, rfl⟩
abbrev main_cst_14 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_15 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_16 : Ref sig .tc := ⟨.hbm, 82, rfl⟩
abbrev main_v60 : Ref sig .tc := ⟨.hbm, 83, rfl⟩
abbrev main_v61 : Ref sig .tc := ⟨.hbm, 84, rfl⟩
abbrev main_cst_17 : Ref sig .tc := ⟨.hbm, 85, rfl⟩
abbrev main_v62 : Ref sig .tc := ⟨.hbm, 86, rfl⟩
abbrev main_v63 : Ref sig .tc := ⟨.hbm, 87, rfl⟩
abbrev main_cst_18 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_19 : Ref sig .tc := ⟨.hbm, 99, rfl⟩
abbrev main_v74 : Ref sig .tc := ⟨.hbm, 100, rfl⟩
abbrev main_v75 : Ref sig .tc := ⟨.hbm, 101, rfl⟩

abbrev nD : Nat := 1
abbrev τ : Topo := Topo.v7x

variable {F : FTy → Type} [FloatOps F]
-- ==== Attn16.lean ====
abbrev S256x16384 : Shape := ⟨2, ![256, 16384]⟩
abbrev S256x256 : Shape := ⟨2, ![256, 256]⟩
abbrev S256x256x64 : Shape := ⟨3, ![256, 256, 64]⟩
abbrev S256x2048 : Shape := ⟨2, ![256, 2048]⟩
abbrev S256x128 : Shape := ⟨2, ![256, 128]⟩
abbrev S128x128 : Shape := ⟨2, ![128, 128]⟩

abbrev nBuf : Space → Nat
  | .hbm => 13
  | .vmem => 20
  | .smem => 0
  | _ => 0

abbrev bufTy : (tb : Table) → Fin (tcTables nBuf tb) → BufTy
  | .hbm, ⟨0, _⟩ => ⟨S256x16384, .bf16⟩
  | .hbm, ⟨1, _⟩ => ⟨S256x16384, .bf16⟩
  | .hbm, ⟨2, _⟩ => ⟨S256x16384, .bf16⟩
  | .hbm, ⟨3, _⟩ => ⟨S256x16384, .bf16⟩
  | .hbm, ⟨4, _⟩ => ⟨S256x256, .f32⟩
  | .hbm, ⟨5, _⟩ => ⟨S256x256, .f32⟩
  | .hbm, ⟨6, _⟩ => ⟨S256x256x64, .f32⟩
  | .hbm, ⟨7, _⟩ => ⟨S256x16384, .f32⟩
  | .hbm, ⟨8, _⟩ => ⟨S256x256x64, .f32⟩
  | .hbm, ⟨9, _⟩ => ⟨S256x16384, .f32⟩
  | .hbm, ⟨10, _⟩ => ⟨S256x16384, .bf16⟩
  | .hbm, ⟨11, _⟩ => ⟨S256x16384, .bf16⟩
  | .hbm, ⟨12, _⟩ => ⟨S256x16384, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .f32⟩
  | .local _ .vmem, ⟨19, _⟩ => ⟨S256x2048, .f32⟩
  | _, _ => ⟨S256x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Attn16Ideal.lean ====
variable {F : FTy → Type} [FloatOps F] [Named F]
def κ : String → Option EReal := fun
  | "mask" => some ⊥
  | _ => none
-- ==== Attn16RefIdeal.lean ====
abbrev S256x16384 : Shape := ⟨2, ![256, 16384]⟩
abbrev S256x256 : Shape := ⟨2, ![256, 256]⟩
abbrev S256x256x64 : Shape := ⟨3, ![256, 256, 64]⟩
abbrev S256x256x256 : Shape := ⟨3, ![256, 256, 256]⟩
abbrev S256 : Shape := ⟨1, ![256]⟩
abbrev S256x1 : Shape := ⟨2, ![256, 1]⟩
abbrev S1x256 : Shape := ⟨2, ![1, 256]⟩
abbrev S_ : Shape := ⟨0, ![]⟩
abbrev S256x256x1 : Shape := ⟨3, ![256, 256, 1]⟩
abbrev S256x64x256 : Shape := ⟨3, ![256, 64, 256]⟩

abbrev nBuf : Space → Nat
  | .hbm => 66
  | .vmem => 0
  | .smem => 0
  | _ => 0

abbrev bufTy : (tb : Table) → Fin (tcTables nBuf tb) → BufTy
  | .hbm, ⟨0, _⟩ => ⟨S256x16384, .bf16⟩
  | .hbm, ⟨1, _⟩ => ⟨S256x16384, .bf16⟩
  | .hbm, ⟨2, _⟩ => ⟨S256x16384, .bf16⟩
  | .hbm, ⟨3, _⟩ => ⟨S256x16384, .bf16⟩
  | .hbm, ⟨4, _⟩ => ⟨S256x256, .f32⟩
  | .hbm, ⟨5, _⟩ => ⟨S256x256, .f32⟩
  | .hbm, ⟨6, _⟩ => ⟨S256x16384, .f32⟩
  | .hbm, ⟨7, _⟩ => ⟨S256x256x64, .f32⟩
  | .hbm, ⟨8, _⟩ => ⟨S256x16384, .f32⟩
  | .hbm, ⟨9, _⟩ => ⟨S256x256x64, .f32⟩
  | .hbm, ⟨10, _⟩ => ⟨S256x16384, .f32⟩
  | .hbm, ⟨11, _⟩ => ⟨S256x256x64, .f32⟩
  | .hbm, ⟨12, _⟩ => ⟨S256x256x256, .f32⟩
  | .hbm, ⟨13, _⟩ => ⟨S256, .i32⟩
  | .hbm, ⟨14, _⟩ => ⟨S256x1, .i32⟩
  | .hbm, ⟨15, _⟩ => ⟨S1x256, .i32⟩
  | .hbm, ⟨16, _⟩ => ⟨S256x256, .i32⟩
  | .hbm, ⟨17, _⟩ => ⟨S256x256, .i32⟩
  | .hbm, ⟨18, _⟩ => ⟨S256x256, .i32⟩
  | .hbm, ⟨19, _⟩ => ⟨S_, .i32⟩
  | .hbm, ⟨20, _⟩ => ⟨S256x256, .i32⟩
  | .hbm, ⟨21, _⟩ => ⟨S256x256, .i1⟩
  | .hbm, ⟨22, _⟩ => ⟨S_, .i32⟩
  | .hbm, ⟨23, _⟩ => ⟨S256x256, .i32⟩
  | .hbm, ⟨24, _⟩ => ⟨S256x256, .i1⟩
  | .hbm, ⟨25, _⟩ => ⟨S256x256, .i1⟩
  | .hbm, ⟨26, _⟩ => ⟨S_, .f32⟩
  | .hbm, ⟨27, _⟩ => ⟨S_, .f32⟩
  | .hbm, ⟨28, _⟩ => ⟨S256x256x256, .i1⟩
  | .hbm, ⟨29, _⟩ => ⟨S256x256x256, .f32⟩
  | .hbm, ⟨30, _⟩ => ⟨S256x256x256, .f32⟩
  | .hbm, ⟨31, _⟩ => ⟨S_, .f32⟩
  | .hbm, ⟨32, _⟩ => ⟨S256x256x256, .f32⟩
  | .hbm, ⟨33, _⟩ => ⟨S256x256, .f32⟩
  | .hbm, ⟨34, _⟩ => ⟨S256x256x1, .f32⟩
  | .hbm, ⟨35, _⟩ => ⟨S256x256x256, .f32⟩
  | .hbm, ⟨36, _⟩ => ⟨S256x256x256, .f32⟩
  | .hbm, ⟨37, _⟩ => ⟨S256x256x256, .f32⟩
  | .hbm, ⟨38, _⟩ => ⟨S256x64x256, .f32⟩
  | .hbm, ⟨39, _⟩ => ⟨S256x256x64, .f32⟩
  | .hbm, ⟨40, _⟩ => ⟨S_, .f32⟩
  | .hbm, ⟨41, _⟩ => ⟨S256x256, .f32⟩
  | .hbm, ⟨42, _⟩ => ⟨S256x16384, .f32⟩
  | .hbm, ⟨43, _⟩ => ⟨S256x256x64, .f32⟩
  | .hbm, ⟨44, _⟩ => ⟨S256x256, .f32⟩
  | .hbm, ⟨45, _⟩ => ⟨S256x256, .f32⟩
  | .hbm, ⟨46, _⟩ => ⟨S256x256x256, .f32⟩
  | .hbm, ⟨47, _⟩ => ⟨S256x64x256, .f32⟩
  | .hbm, ⟨48, _⟩ => ⟨S256x256x256, .f32⟩
  | .hbm, ⟨49, _⟩ => ⟨S256x256x256, .f32⟩
  | .hbm, ⟨50, _⟩ => ⟨S256x64x256, .f32⟩
  | .hbm, ⟨51, _⟩ => ⟨S256x256x64, .f32⟩
  | .hbm, ⟨52, _⟩ => ⟨S256x256x256, .f32⟩
  | .hbm, ⟨53, _⟩ => ⟨S_, .f32⟩
  | .hbm, ⟨54, _⟩ => ⟨S256x256x256, .f32⟩
  | .hbm, ⟨55, _⟩ => ⟨S256x256x256, .f32⟩
  | .hbm, ⟨56, _⟩ => ⟨S256x256x64, .f32⟩
  | .hbm, ⟨57, _⟩ => ⟨S256x256x64, .f32⟩
  | .hbm, ⟨58, _⟩ => ⟨S256x256x64, .f32⟩
  | .hbm, ⟨59, _⟩ => ⟨S256x256x64, .f32⟩
  | .hbm, ⟨60, _⟩ => ⟨S256x16384, .f32⟩
  | .hbm, ⟨61, _⟩ => ⟨S256x16384, .bf16⟩
  | .hbm, ⟨62, _⟩ => ⟨S256x16384, .f32⟩
  | .hbm, ⟨63, _⟩ => ⟨S256x16384, .bf16⟩
  | .hbm, ⟨64, _⟩ => ⟨S256x16384, .f32⟩
  | .hbm, ⟨65, _⟩ => ⟨S256x16384, .bf16⟩
  | _, _ => ⟨S256x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_call0_v0 : Ref sig .tc := ⟨.hbm, 27, rfl⟩
abbrev main_v18_1 : Ref sig .tc := ⟨.hbm, 28, rfl⟩
abbrev main_call0_v2 : Ref sig .tc := ⟨.hbm, 29, rfl⟩
abbrev main_v18_0 : Ref sig .tc := ⟨.hbm, 30, rfl⟩
abbrev main_call0_cst : Ref sig .tc := ⟨.hbm, 31, rfl⟩
abbrev main_v18_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call1_cst : Ref sig .tc := ⟨.hbm, 53, rfl⟩
abbrev main_call1_v0 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Attn4.lean ====
abbrev S1024x4096 : Shape := ⟨2, ![1024, 4096]⟩
abbrev S1024x64 : Shape := ⟨2, ![1024, 64]⟩
abbrev S1024x64x64 : Shape := ⟨3, ![1024, 64, 64]⟩
abbrev S1024x512 : Shape := ⟨2, ![1024, 512]⟩
abbrev S256x128 : Shape := ⟨2, ![256, 128]⟩
abbrev S256x256 : Shape := ⟨2, ![256, 256]⟩
abbrev S128x128 : Shape := ⟨2, ![128, 128]⟩

abbrev nBuf : Space → Nat
  | .hbm => 13
  | .vmem => 20
  | .smem => 0
  | _ => 0

abbrev bufTy : (tb : Table) → Fin (tcTables nBuf tb) → BufTy
  | .hbm, ⟨0, _⟩ => ⟨S1024x4096, .bf16⟩
  | .hbm, ⟨1, _⟩ => ⟨S1024x4096, .bf16⟩
  | .hbm, ⟨2, _⟩ => ⟨S1024x4096, .bf16⟩
  | .hbm, ⟨3, _⟩ => ⟨S1024x4096, .bf16⟩
  | .hbm, ⟨4, _⟩ => ⟨S1024x64, .f32⟩
  | .hbm, ⟨5, _⟩ => ⟨S1024x64, .f32⟩
  | .hbm, ⟨6, _⟩ => ⟨S1024x64x64, .f32⟩
  | .hbm, ⟨7, _⟩ => ⟨S1024x4096, .f32⟩
  | .hbm, ⟨8, _⟩ => ⟨S1024x64x64, .f32⟩
  | .hbm, ⟨9, _⟩ => ⟨S1024x4096, .f32⟩
  | .hbm, ⟨10, _⟩ => ⟨S1024x4096, .bf16⟩
  | .hbm, ⟨11, _⟩ => ⟨S1024x4096, .bf16⟩
  | .hbm, ⟨12, _⟩ => ⟨S1024x4096, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .f32⟩
  | .local _ .vmem, ⟨19, _⟩ => ⟨S1024x512, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Attn4Ideal.lean ====
variable {F : FTy → Type} [FloatOps F] [Named F]
def κ : String → Option EReal := fun
  | "mask" => some ⊥
  | _ => none
-- ==== Attn4RefIdeal.lean ====
abbrev S1024x4096 : Shape := ⟨2, ![1024, 4096]⟩
abbrev S1024x64 : Shape := ⟨2, ![1024, 64]⟩
abbrev S1024x64x64 : Shape := ⟨3, ![1024, 64, 64]⟩
abbrev S64x1024x1024 : Shape := ⟨3, ![64, 1024, 1024]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S64x1024 : Shape := ⟨2, ![64, 1024]⟩
abbrev S64x1024x1 : Shape := ⟨3, ![64, 1024, 1]⟩
abbrev S64x64x1024 : Shape := ⟨3, ![64, 64, 1024]⟩
abbrev S64x1024x64 : Shape := ⟨3, ![64, 1024, 64]⟩

abbrev nBuf : Space → Nat
  | .hbm => 66
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S1024x4096, .bf16⟩
  | .hbm, ⟨2, _⟩ => ⟨S1024x4096, .bf16⟩
  | .hbm, ⟨3, _⟩ => ⟨S1024x4096, .bf16⟩
  | .hbm, ⟨4, _⟩ => ⟨S1024x64, .f32⟩
  | .hbm, ⟨5, _⟩ => ⟨S1024x64, .f32⟩
  | .hbm, ⟨6, _⟩ => ⟨S1024x4096, .f32⟩
  | .hbm, ⟨7, _⟩ => ⟨S1024x64x64, .f32⟩
  | .hbm, ⟨8, _⟩ => ⟨S1024x4096, .f32⟩
  | .hbm, ⟨9, _⟩ => ⟨S1024x64x64, .f32⟩
  | .hbm, ⟨10, _⟩ => ⟨S1024x4096, .f32⟩
  | .hbm, ⟨11, _⟩ => ⟨S1024x64x64, .f32⟩
  | .hbm, ⟨12, _⟩ => ⟨S64x1024x1024, .f32⟩
  | .hbm, ⟨13, _⟩ => ⟨S1024, .i32⟩
  | .hbm, ⟨14, _⟩ => ⟨S1024x1, .i32⟩
  | .hbm, ⟨15, _⟩ => ⟨S1x1024, .i32⟩
  | .hbm, ⟨16, _⟩ => ⟨S1024x1024, .i32⟩
  | .hbm, ⟨17, _⟩ => ⟨S1024x1024, .i32⟩
  | .hbm, ⟨18, _⟩ => ⟨S1024x1024, .i32⟩
  | .hbm, ⟨19, _⟩ => ⟨S_, .i32⟩
  | .hbm, ⟨20, _⟩ => ⟨S1024x1024, .i32⟩
  | .hbm, ⟨21, _⟩ => ⟨S1024x1024, .i1⟩
  | .hbm, ⟨22, _⟩ => ⟨S_, .i32⟩
  | .hbm, ⟨23, _⟩ => ⟨S1024x1024, .i32⟩
  | .hbm, ⟨24, _⟩ => ⟨S1024x1024, .i1⟩
  | .hbm, ⟨25, _⟩ => ⟨S1024x1024, .i1⟩
  | .hbm, ⟨26, _⟩ => ⟨S_, .f32⟩
  | .hbm, ⟨27, _⟩ => ⟨S_, .f32⟩
  | .hbm, ⟨28, _⟩ => ⟨S64x1024x1024, .i1⟩
  | .hbm, ⟨29, _⟩ => ⟨S64x1024x1024, .f32⟩
  | .hbm, ⟨30, _⟩ => ⟨S64x1024x1024, .f32⟩
  | .hbm, ⟨31, _⟩ => ⟨S_, .f32⟩
  | .hbm, ⟨32, _⟩ => ⟨S64x1024x1024, .f32⟩
  | .hbm, ⟨33, _⟩ => ⟨S64x1024, .f32⟩
  | .hbm, ⟨34, _⟩ => ⟨S64x1024x1, .f32⟩
  | .hbm, ⟨35, _⟩ => ⟨S64x1024x1024, .f32⟩
  | .hbm, ⟨36, _⟩ => ⟨S64x1024x1024, .f32⟩
  | .hbm, ⟨37, _⟩ => ⟨S64x1024x1024, .f32⟩
  | .hbm, ⟨38, _⟩ => ⟨S64x64x1024, .f32⟩
  | .hbm, ⟨39, _⟩ => ⟨S1024x64x64, .f32⟩
  | .hbm, ⟨40, _⟩ => ⟨S_, .f32⟩
  | .hbm, ⟨41, _⟩ => ⟨S64x1024, .f32⟩
  | .hbm, ⟨42, _⟩ => ⟨S1024x4096, .f32⟩
  | .hbm, ⟨43, _⟩ => ⟨S1024x64x64, .f32⟩
  | .hbm, ⟨44, _⟩ => ⟨S64x1024, .f32⟩
  | .hbm, ⟨45, _⟩ => ⟨S64x1024, .f32⟩
  | .hbm, ⟨46, _⟩ => ⟨S64x1024x1024, .f32⟩
  | .hbm, ⟨47, _⟩ => ⟨S64x64x1024, .f32⟩
  | .hbm, ⟨48, _⟩ => ⟨S64x1024x1024, .f32⟩
  | .hbm, ⟨49, _⟩ => ⟨S64x1024x1024, .f32⟩
  | .hbm, ⟨50, _⟩ => ⟨S64x64x1024, .f32⟩
  | .hbm, ⟨51, _⟩ => ⟨S1024x64x64, .f32⟩
  | .hbm, ⟨52, _⟩ => ⟨S64x1024x1024, .f32⟩
  | .hbm, ⟨53, _⟩ => ⟨S_, .f32⟩
  | .hbm, ⟨54, _⟩ => ⟨S64x1024x1024, .f32⟩
  | .hbm, ⟨55, _⟩ => ⟨S64x1024x1024, .f32⟩
  | .hbm, ⟨56, _⟩ => ⟨S64x1024x64, .f32⟩
  | .hbm, ⟨57, _⟩ => ⟨S1024x64x64, .f32⟩
  | .hbm, ⟨58, _⟩ => ⟨S64x1024x64, .f32⟩
  | .hbm, ⟨59, _⟩ => ⟨S1024x64x64, .f32⟩
  | .hbm, ⟨60, _⟩ => ⟨S1024x4096, .f32⟩
  | .hbm, ⟨61, _⟩ => ⟨S1024x4096, .bf16⟩
  | .hbm, ⟨62, _⟩ => ⟨S1024x4096, .f32⟩
  | .hbm, ⟨63, _⟩ => ⟨S1024x4096, .bf16⟩
  | .hbm, ⟨64, _⟩ => ⟨S1024x4096, .f32⟩
  | .hbm, ⟨65, _⟩ => ⟨S1024x4096, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_call0_v0 : Ref sig .tc := ⟨.hbm, 27, rfl⟩
abbrev main_v18_1 : Ref sig .tc := ⟨.hbm, 28, rfl⟩
abbrev main_call0_v2 : Ref sig .tc := ⟨.hbm, 29, rfl⟩
abbrev main_v18_0 : Ref sig .tc := ⟨.hbm, 30, rfl⟩
abbrev main_call0_cst : Ref sig .tc := ⟨.hbm, 31, rfl⟩
abbrev main_v18_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call1_cst : Ref sig .tc := ⟨.hbm, 53, rfl⟩
abbrev main_call1_v0 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Attn1.lean ====
abbrev S4096x1024 : Shape := ⟨2, ![4096, 1024]⟩
abbrev S4096x16 : Shape := ⟨2, ![4096, 16]⟩
abbrev S4096x16x64 : Shape := ⟨3, ![4096, 16, 64]⟩
abbrev S4096x128 : Shape := ⟨2, ![4096, 128]⟩
abbrev S256x128 : Shape := ⟨2, ![256, 128]⟩
abbrev S256x256 : Shape := ⟨2, ![256, 256]⟩
abbrev S128x128 : Shape := ⟨2, ![128, 128]⟩

abbrev nBuf : Space → Nat
  | .hbm => 13
  | .vmem => 20
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x16, .f32⟩
  | .hbm, ⟨5, _⟩ => ⟨S4096x16, .f32⟩
  | .hbm, ⟨6, _⟩ => ⟨S4096x16x64, .f32⟩
  | .hbm, ⟨7, _⟩ => ⟨S4096x1024, .f32⟩
  | .hbm, ⟨8, _⟩ => ⟨S4096x16x64, .f32⟩
  | .hbm, ⟨9, _⟩ => ⟨S4096x1024, .f32⟩
  | .hbm, ⟨10, _⟩ => ⟨S4096x1024, .bf16⟩
  | .hbm, ⟨11, _⟩ => ⟨S4096x1024, .bf16⟩
  | .hbm, ⟨12, _⟩ => ⟨S4096x1024, .bf16⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S4096x128, .f32⟩
  | .local _ .vmem, ⟨19, _⟩ => ⟨S4096x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Attn1Ideal.lean ====
variable {F : FTy → Type} [FloatOps F] [Named F]
def κ : String → Option EReal := fun
  | "mask" => some ⊥
  | _ => none
-- ==== Attn1RefIdeal.lean ====
abbrev S4096x1024 : Shape := ⟨2, ![4096, 1024]⟩
abbrev S4096x16 : Shape := ⟨2, ![4096, 16]⟩
abbrev S4096x16x64 : Shape := ⟨3, ![4096, 16, 64]⟩
abbrev S16x4096x4096 : Shape := ⟨3, ![16, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S_ : Shape := ⟨0, ![]⟩
abbrev S16x4096 : Shape := ⟨2, ![16, 4096]⟩
abbrev S16x4096x1 : Shape := ⟨3, ![16, 4096, 1]⟩
abbrev S16x64x4096 : Shape := ⟨3, ![16, 64, 4096]⟩
abbrev S16x4096x64 : Shape := ⟨3, ![16, 4096, 64]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x16, .f32⟩
  | .hbm, ⟨5, _⟩ => ⟨S4096x16, .f32⟩
  | .hbm, ⟨6, _⟩ => ⟨S4096x1024, .f32⟩
  | .hbm, ⟨7, _⟩ => ⟨S4096x16x64, .f32⟩
  | .hbm, ⟨8, _⟩ => ⟨S4096x1024, .f32⟩
  | .hbm, ⟨9, _⟩ => ⟨S4096x16x64, .f32⟩
  | .hbm, ⟨10, _⟩ => ⟨S4096x1024, .f32⟩
  | .hbm, ⟨11, _⟩ => ⟨S4096x16x64, .f32⟩
  | .hbm, ⟨12, _⟩ => ⟨S16x4096x4096, .f32⟩
  | .hbm, ⟨13, _⟩ => ⟨S4096, .i32⟩
  | .hbm, ⟨14, _⟩ => ⟨S4096x1, .i32⟩
  | .hbm, ⟨15, _⟩ => ⟨S1x4096, .i32⟩
  | .hbm, ⟨16, _⟩ => ⟨S4096x4096, .i32⟩
  | .hbm, ⟨17, _⟩ => ⟨S4096x4096, .i32⟩
  | .hbm, ⟨18, _⟩ => ⟨S4096x4096, .i32⟩
  | .hbm, ⟨19, _⟩ => ⟨S_, .i32⟩
  | .hbm, ⟨20, _⟩ => ⟨S4096x4096, .i32⟩
  | .hbm, ⟨21, _⟩ => ⟨S4096x4096, .i1⟩
  | .hbm, ⟨22, _⟩ => ⟨S_, .i32⟩
  | .hbm, ⟨23, _⟩ => ⟨S4096x4096, .i32⟩
  | .hbm, ⟨24, _⟩ => ⟨S4096x4096, .i1⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S16x4096x4096, .i1⟩
  | .hbm, ⟨29, _⟩ => ⟨S16x4096x4096, .f32⟩
  | .hbm, ⟨30, _⟩ => ⟨S16x4096x4096, .f32⟩
  | .hbm, ⟨31, _⟩ => ⟨S_, .f32⟩
  | .hbm, ⟨32, _⟩ => ⟨S16x4096x4096, .f32⟩
  | .hbm, ⟨33, _⟩ => ⟨S16x4096, .f32⟩
  | .hbm, ⟨34, _⟩ => ⟨S16x4096x1, .f32⟩
  | .hbm, ⟨35, _⟩ => ⟨S16x4096x4096, .f32⟩
  | .hbm, ⟨36, _⟩ => ⟨S16x4096x4096, .f32⟩
  | .hbm, ⟨37, _⟩ => ⟨S16x4096x4096, .f32⟩
  | .hbm, ⟨38, _⟩ => ⟨S16x64x4096, .f32⟩
  | .hbm, ⟨39, _⟩ => ⟨S4096x16x64, .f32⟩
  | .hbm, ⟨40, _⟩ => ⟨S_, .f32⟩
  | .hbm, ⟨41, _⟩ => ⟨S16x4096, .f32⟩
  | .hbm, ⟨42, _⟩ => ⟨S4096x1024, .f32⟩
  | .hbm, ⟨43, _⟩ => ⟨S4096x16x64, .f32⟩
  | .hbm, ⟨44, _⟩ => ⟨S16x4096, .f32⟩
  | .hbm, ⟨45, _⟩ => ⟨S16x4096, .f32⟩
  | .hbm, ⟨46, _⟩ => ⟨S16x4096x4096, .f32⟩
  | .hbm, ⟨47, _⟩ => ⟨S16x64x4096, .f32⟩
  | .hbm, ⟨48, _⟩ => ⟨S16x4096x4096, .f32⟩
  | .hbm, ⟨49, _⟩ => ⟨S16x4096x4096, .f32⟩
  | .hbm, ⟨50, _⟩ => ⟨S16x64x4096, .f32⟩
  | .hbm, ⟨51, _⟩ => ⟨S4096x16x64, .f32⟩
  | .hbm, ⟨52, _⟩ => ⟨S16x4096x4096, .f32⟩
  | .hbm, ⟨53, _⟩ => ⟨S_, .f32⟩
  | .hbm, ⟨54, _⟩ => ⟨S16x4096x4096, .f32⟩
  | .hbm, ⟨55, _⟩ => ⟨S16x4096x4096, .f32⟩
  | .hbm, ⟨56, _⟩ => ⟨S16x4096x64, .f32⟩
  | .hbm, ⟨57, _⟩ => ⟨S4096x16x64, .f32⟩
  | .hbm, ⟨58, _⟩ => ⟨S16x4096x64, .f32⟩
  | .hbm, ⟨59, _⟩ => ⟨S4096x16x64, .f32⟩
  | .hbm, ⟨60, _⟩ => ⟨S4096x1024, .f32⟩
  | .hbm, ⟨61, _⟩ => ⟨S4096x1024, .bf16⟩
  | .hbm, ⟨62, _⟩ => ⟨S4096x1024, .f32⟩
  | .hbm, ⟨63, _⟩ => ⟨S4096x1024, .bf16⟩
  | .hbm, ⟨64, _⟩ => ⟨S4096x1024, .f32⟩
  | .hbm, ⟨65, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_call0_v0 : Ref sig .tc := ⟨.hbm, 27, rfl⟩
abbrev main_v18_1 : Ref sig .tc := ⟨.hbm, 28, rfl⟩
abbrev main_call0_v2 : Ref sig .tc := ⟨.hbm, 29, rfl⟩
abbrev main_v18_0 : Ref sig .tc := ⟨.hbm, 30, rfl⟩
abbrev main_call0_cst : Ref sig .tc := ⟨.hbm, 31, rfl⟩
abbrev main_v18_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_1 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call1_cst : Ref sig .tc := ⟨.hbm, 53, rfl⟩
abbrev main_call1_v0 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Qkv1.lean ====
abbrev S4096x1024 : Shape := ⟨2, ![4096, 1024]⟩
abbrev S1024x3072 : Shape := ⟨2, ![1024, 3072]⟩
abbrev S1024x6144 : Shape := ⟨2, ![1024, 6144]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S1024x1024 : Shape := ⟨2, ![1024, 1024]⟩
abbrev S1024x128 : Shape := ⟨2, ![1024, 128]⟩
abbrev S8x1024x128 : Shape := ⟨3, ![8, 1024, 128]⟩
abbrev S1x1024x128 : Shape := ⟨3, ![1, 1024, 128]⟩

abbrev nBuf : Space → Nat
  | .hbm => 17
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x3072, .bf16⟩
  | .hbm, ⟨3, _⟩ => ⟨S1024x6144, .bf16⟩
  | .hbm, ⟨4, _⟩ => ⟨S4096x32, .f32⟩
  | .hbm, ⟨5, _⟩ => ⟨S4096x32, .f32⟩
  | .hbm, ⟨6, _⟩ => ⟨S1x4096x1x32, .f32⟩
  | .hbm, ⟨7, _⟩ => ⟨S1x4096x4x32, .f32⟩
  | .hbm, ⟨8, _⟩ => ⟨S4096x128, .f32⟩
  | .hbm, ⟨9, _⟩ => ⟨S4096x32, .f32⟩
  | .hbm, ⟨10, _⟩ => ⟨S4096x64, .f32⟩
  | .hbm, ⟨11, _⟩ => ⟨S1x4096x1x64, .f32⟩
  | .hbm, ⟨12, _⟩ => ⟨S1x4096x2x64, .f32⟩
  | .hbm, ⟨13, _⟩ => ⟨S4096x128, .f32⟩
  | .hbm, ⟨14, _⟩ => ⟨S4096x1024, .bf16⟩
  | .hbm, ⟨15, _⟩ => ⟨S4096x1024, .bf16⟩
  | .hbm, ⟨16, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S8x1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Qkv1RefIdeal.lean ====
abbrev S4096x1024 : Shape := ⟨2, ![4096, 1024]⟩
abbrev S1024x3072 : Shape := ⟨2, ![1024, 3072]⟩
abbrev S1024x6144 : Shape := ⟨2, ![1024, 6144]⟩
abbrev S4096x32 : Shape := ⟨2, ![4096, 32]⟩
abbrev S1024x1024 : Shape := ⟨2, ![1024, 1024]⟩
abbrev S4096x16x64 : Shape := ⟨3, ![4096, 16, 64]⟩
abbrev S4096x1x32 : Shape := ⟨3, ![4096, 1, 32]⟩
abbrev S4096x16x32 : Shape := ⟨3, ![4096, 16, 32]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x3072, .bf16⟩
  | .hbm, ⟨3, _⟩ => ⟨S1024x6144, .bf16⟩
  | .hbm, ⟨4, _⟩ => ⟨S4096x32, .f32⟩
  | .hbm, ⟨5, _⟩ => ⟨S4096x32, .f32⟩
  | .hbm, ⟨6, _⟩ => ⟨S4096x1024, .f32⟩
  | .hbm, ⟨7, _⟩ => ⟨S1024x3072, .f32⟩
  | .hbm, ⟨8, _⟩ => ⟨S1024x1024, .f32⟩
  | .hbm, ⟨9, _⟩ => ⟨S4096x1024, .f32⟩
  | .hbm, ⟨10, _⟩ => ⟨S4096x16x64, .f32⟩
  | .hbm, ⟨11, _⟩ => ⟨S4096x1x32, .f32⟩
  | .hbm, ⟨12, _⟩ => ⟨S4096x1x32, .f32⟩
  | .hbm, ⟨13, _⟩ => ⟨S4096x16x32, .f32⟩
  | .hbm, ⟨14, _⟩ => ⟨S4096x16x32, .f32⟩
  | .hbm, ⟨15, _⟩ => ⟨S4096x16x32, .f32⟩
  | .hbm, ⟨16, _⟩ => ⟨S4096x16x32, .f32⟩
  | .hbm, ⟨17, _⟩ => ⟨S4096x16x32, .f32⟩
  | .hbm, ⟨18, _⟩ => ⟨S4096x16x32, .f32⟩
  | .hbm, ⟨19, _⟩ => ⟨S4096x16x32, .f32⟩
  | .hbm, ⟨20, _⟩ => ⟨S4096x16x32, .f32⟩
  | .hbm, ⟨21, _⟩ => ⟨S4096x16x32, .f32⟩
  | .hbm, ⟨22, _⟩ => ⟨S4096x16x32, .f32⟩
  | .hbm, ⟨23, _⟩ => ⟨S4096x16x32, .f32⟩
  | .hbm, ⟨24, _⟩ => ⟨S4096x16x32, .f32⟩
  | .hbm, ⟨25, _⟩ => ⟨S4096x16x64, .f32⟩
  | .hbm, ⟨26, _⟩ => ⟨S_, .f32⟩
  | .hbm, ⟨27, _⟩ => ⟨S4096x16x64, .f32⟩
  | .hbm, ⟨28, _⟩ => ⟨S4096x16x64, .f32⟩
  | .hbm, ⟨29, _⟩ => ⟨S4096x1024, .f32⟩
  | .hbm, ⟨30, _⟩ => ⟨S1024x6144, .f32⟩
  | .hbm, ⟨31, _⟩ => ⟨S1024x1024, .f32⟩
  | .hbm, ⟨32, _⟩ => ⟨S4096x1024, .f32⟩
  | .hbm, ⟨33, _⟩ => ⟨S4096x16x64, .f32⟩
  | .hbm, ⟨34, _⟩ => ⟨S4096x1x32, .f32⟩
  | .hbm, ⟨35, _⟩ => ⟨S4096x1x32, .f32⟩
  | .hbm, ⟨36, _⟩ => ⟨S4096x16x32, .f32⟩
  | .hbm, ⟨37, _⟩ => ⟨S4096x16x32, .f32⟩
  | .hbm, ⟨38, _⟩ => ⟨S4096x16x32, .f32⟩
  | .hbm, ⟨39, _⟩ => ⟨S4096x16x32, .f32⟩
  | .hbm, ⟨40, _⟩ => ⟨S4096x16x32, .f32⟩
  | .hbm, ⟨41, _⟩ => ⟨S4096x16x32, .f32⟩
  | .hbm, ⟨42, _⟩ => ⟨S4096x16x32, .f32⟩
  | .hbm, ⟨43, _⟩ => ⟨S4096x16x32, .f32⟩
  | .hbm, ⟨44, _⟩ => ⟨S4096x16x32, .f32⟩
  | .hbm, ⟨45, _⟩ => ⟨S4096x16x32, .f32⟩
  | .hbm, ⟨46, _⟩ => ⟨S4096x16x32, .f32⟩
  | .hbm, ⟨47, _⟩ => ⟨S4096x16x32, .f32⟩
  | .hbm, ⟨48, _⟩ => ⟨S4096x16x64, .f32⟩
  | .hbm, ⟨49, _⟩ => ⟨S4096x1024, .f32⟩
  | .hbm, ⟨50, _⟩ => ⟨S1024x6144, .f32⟩
  | .hbm, ⟨51, _⟩ => ⟨S1024x1024, .f32⟩
  | .hbm, ⟨52, _⟩ => ⟨S4096x1024, .f32⟩
  | .hbm, ⟨53, _⟩ => ⟨S4096x16x64, .f32⟩
  | .hbm, ⟨54, _⟩ => ⟨S4096x1024, .f32⟩
  | .hbm, ⟨55, _⟩ => ⟨S4096x1024, .bf16⟩
  | .hbm, ⟨56, _⟩ => ⟨S4096x1024, .f32⟩
  | .hbm, ⟨57, _⟩ => ⟨S4096x1024, .bf16⟩
  | .hbm, ⟨58, _⟩ => ⟨S4096x1024, .f32⟩
  | .hbm, ⟨59, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩

abbrev nD : Nat := 1
abbrev τ : Topo := Topo.v7x

variable {F : FTy → Type} [FloatOps F]
-- ==== Qkv4.lean ====
abbrev S4096x1024 : Shape := ⟨2, ![4096, 1024]⟩
abbrev S1024x3072 : Shape := ⟨2, ![1024, 3072]⟩
abbrev S1024x6144 : Shape := ⟨2, ![1024, 6144]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S1024x4096 : Shape := ⟨2, ![1024, 4096]⟩
abbrev S1024x1024 : Shape := ⟨2, ![1024, 1024]⟩
abbrev S1024x128 : Shape := ⟨2, ![1024, 128]⟩
abbrev S256x4096 : Shape := ⟨2, ![256, 4096]⟩
abbrev S8x1024x128 : Shape := ⟨3, ![8, 1024, 128]⟩
abbrev S1x1024x128 : Shape := ⟨3, ![1, 1024, 128]⟩
abbrev S256x128 : Shape := ⟨2, ![256, 128]⟩
abbrev S1x256x128 : Shape := ⟨3, ![1, 256, 128]⟩

abbrev nBuf : Space → Nat
  | .hbm => 17
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x3072, .bf16⟩
  | .hbm, ⟨3, _⟩ => ⟨S1024x6144, .bf16⟩
  | .hbm, ⟨4, _⟩ => ⟨S4096x32, .f32⟩
  | .hbm, ⟨5, _⟩ => ⟨S4096x32, .f32⟩
  | .hbm, ⟨6, _⟩ => ⟨S1x4096x1x32, .f32⟩
  | .hbm, ⟨7, _⟩ => ⟨S1x4096x4x32, .f32⟩
  | .hbm, ⟨8, _⟩ => ⟨S4096x128, .f32⟩
  | .hbm, ⟨9, _⟩ => ⟨S4096x32, .f32⟩
  | .hbm, ⟨10, _⟩ => ⟨S4096x64, .f32⟩
  | .hbm, ⟨11, _⟩ => ⟨S1x4096x1x64, .f32⟩
  | .hbm, ⟨12, _⟩ => ⟨S1x4096x2x64, .f32⟩
  | .hbm, ⟨13, _⟩ => ⟨S4096x128, .f32⟩
  | .hbm, ⟨14, _⟩ => ⟨S1024x4096, .bf16⟩
  | .hbm, ⟨15, _⟩ => ⟨S1024x4096, .bf16⟩
  | .hbm, ⟨16, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S256x4096, .bf16⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S256x4096, .bf16⟩
  | .local _ .vmem, ⟨17, _⟩ => ⟨S8x1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Qkv4RefIdeal.lean ====
abbrev S4096x1024 : Shape := ⟨2, ![4096, 1024]⟩
abbrev S1024x3072 : Shape := ⟨2, ![1024, 3072]⟩
abbrev S1024x6144 : Shape := ⟨2, ![1024, 6144]⟩
abbrev S4096x32 : Shape := ⟨2, ![4096, 32]⟩
abbrev S1024x1024 : Shape := ⟨2, ![1024, 1024]⟩
abbrev S4096x16x64 : Shape := ⟨3, ![4096, 16, 64]⟩
abbrev S4096x1x32 : Shape := ⟨3, ![4096, 1, 32]⟩
abbrev S4096x16x32 : Shape := ⟨3, ![4096, 16, 32]⟩
abbrev S_ : Shape := ⟨0, ![]⟩
abbrev S1024x4096 : Shape := ⟨2, ![1024, 4096]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x3072, .bf16⟩
  | .hbm, ⟨3, _⟩ => ⟨S1024x6144, .bf16⟩
  | .hbm, ⟨4, _⟩ => ⟨S4096x32, .f32⟩
  | .hbm, ⟨5, _⟩ => ⟨S4096x32, .f32⟩
  | .hbm, ⟨6, _⟩ => ⟨S4096x1024, .f32⟩
  | .hbm, ⟨7, _⟩ => ⟨S1024x3072, .f32⟩
  | .hbm, ⟨8, _⟩ => ⟨S1024x1024, .f32⟩
  | .hbm, ⟨9, _⟩ => ⟨S4096x1024, .f32⟩
  | .hbm, ⟨10, _⟩ => ⟨S4096x16x64, .f32⟩
  | .hbm, ⟨11, _⟩ => ⟨S4096x1x32, .f32⟩
  | .hbm, ⟨12, _⟩ => ⟨S4096x1x32, .f32⟩
  | .hbm, ⟨13, _⟩ => ⟨S4096x16x32, .f32⟩
  | .hbm, ⟨14, _⟩ => ⟨S4096x16x32, .f32⟩
  | .hbm, ⟨15, _⟩ => ⟨S4096x16x32, .f32⟩
  | .hbm, ⟨16, _⟩ => ⟨S4096x16x32, .f32⟩
  | .hbm, ⟨17, _⟩ => ⟨S4096x16x32, .f32⟩
  | .hbm, ⟨18, _⟩ => ⟨S4096x16x32, .f32⟩
  | .hbm, ⟨19, _⟩ => ⟨S4096x16x32, .f32⟩
  | .hbm, ⟨20, _⟩ => ⟨S4096x16x32, .f32⟩
  | .hbm, ⟨21, _⟩ => ⟨S4096x16x32, .f32⟩
  | .hbm, ⟨22, _⟩ => ⟨S4096x16x32, .f32⟩
  | .hbm, ⟨23, _⟩ => ⟨S4096x16x32, .f32⟩
  | .hbm, ⟨24, _⟩ => ⟨S4096x16x32, .f32⟩
  | .hbm, ⟨25, _⟩ => ⟨S4096x16x64, .f32⟩
  | .hbm, ⟨26, _⟩ => ⟨S_, .f32⟩
  | .hbm, ⟨27, _⟩ => ⟨S4096x16x64, .f32⟩
  | .hbm, ⟨28, _⟩ => ⟨S4096x16x64, .f32⟩
  | .hbm, ⟨29, _⟩ => ⟨S4096x1024, .f32⟩
  | .hbm, ⟨30, _⟩ => ⟨S1024x6144, .f32⟩
  | .hbm, ⟨31, _⟩ => ⟨S1024x1024, .f32⟩
  | .hbm, ⟨32, _⟩ => ⟨S4096x1024, .f32⟩
  | .hbm, ⟨33, _⟩ => ⟨S4096x16x64, .f32⟩
  | .hbm, ⟨34, _⟩ => ⟨S4096x1x32, .f32⟩
  | .hbm, ⟨35, _⟩ => ⟨S4096x1x32, .f32⟩
  | .hbm, ⟨36, _⟩ => ⟨S4096x16x32, .f32⟩
  | .hbm, ⟨37, _⟩ => ⟨S4096x16x32, .f32⟩
  | .hbm, ⟨38, _⟩ => ⟨S4096x16x32, .f32⟩
  | .hbm, ⟨39, _⟩ => ⟨S4096x16x32, .f32⟩
  | .hbm, ⟨40, _⟩ => ⟨S4096x16x32, .f32⟩
  | .hbm, ⟨41, _⟩ => ⟨S4096x16x32, .f32⟩
  | .hbm, ⟨42, _⟩ => ⟨S4096x16x32, .f32⟩
  | .hbm, ⟨43, _⟩ => ⟨S4096x16x32, .f32⟩
  | .hbm, ⟨44, _⟩ => ⟨S4096x16x32, .f32⟩
  | .hbm, ⟨45, _⟩ => ⟨S4096x16x32, .f32⟩
  | .hbm, ⟨46, _⟩ => ⟨S4096x16x32, .f32⟩
  | .hbm, ⟨47, _⟩ => ⟨S4096x16x32, .f32⟩
  | .hbm, ⟨48, _⟩ => ⟨S4096x16x64, .f32⟩
  | .hbm, ⟨49, _⟩ => ⟨S4096x1024, .f32⟩
  | .hbm, ⟨50, _⟩ => ⟨S1024x6144, .f32⟩
  | .hbm, ⟨51, _⟩ => ⟨S1024x1024, .f32⟩
  | .hbm, ⟨52, _⟩ => ⟨S4096x1024, .f32⟩
  | .hbm, ⟨53, _⟩ => ⟨S4096x16x64, .f32⟩
  | .hbm, ⟨54, _⟩ => ⟨S1024x4096, .f32⟩
  | .hbm, ⟨55, _⟩ => ⟨S1024x4096, .bf16⟩
  | .hbm, ⟨56, _⟩ => ⟨S1024x4096, .f32⟩
  | .hbm, ⟨57, _⟩ => ⟨S1024x4096, .bf16⟩
  | .hbm, ⟨58, _⟩ => ⟨S1024x4096, .f32⟩
  | .hbm, ⟨59, _⟩ => ⟨S1024x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩

abbrev nD : Nat := 1
abbrev τ : Topo := Topo.v7x

variable {F : FTy → Type} [FloatOps F]
-- ==== Qkv16.lean ====
abbrev S4096x1024 : Shape := ⟨2, ![4096, 1024]⟩
abbrev S1024x3072 : Shape := ⟨2, ![1024, 3072]⟩
abbrev S1024x6144 : Shape := ⟨2, ![1024, 6144]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S256x16384 : Shape := ⟨2, ![256, 16384]⟩
abbrev S1024x1024 : Shape := ⟨2, ![1024, 1024]⟩
abbrev S1024x128 : Shape := ⟨2, ![1024, 128]⟩
abbrev S64x16384 : Shape := ⟨2, ![64, 16384]⟩
abbrev S8x1024x128 : Shape := ⟨3, ![8, 1024, 128]⟩
abbrev S1x1024x128 : Shape := ⟨3, ![1, 1024, 128]⟩
abbrev S64x128 : Shape := ⟨2, ![64, 128]⟩
abbrev S1x64x128 : Shape := ⟨3, ![1, 64, 128]⟩

abbrev nBuf : Space → Nat
  | .hbm => 17
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x3072, .bf16⟩
  | .hbm, ⟨3, _⟩ => ⟨S1024x6144, .bf16⟩
  | .hbm, ⟨4, _⟩ => ⟨S4096x32, .f32⟩
  | .hbm, ⟨5, _⟩ => ⟨S4096x32, .f32⟩
  | .hbm, ⟨6, _⟩ => ⟨S1x4096x1x32, .f32⟩
  | .hbm, ⟨7, _⟩ => ⟨S1x4096x4x32, .f32⟩
  | .hbm, ⟨8, _⟩ => ⟨S4096x128, .f32⟩
  | .hbm, ⟨9, _⟩ => ⟨S4096x32, .f32⟩
  | .hbm, ⟨10, _⟩ => ⟨S4096x64, .f32⟩
  | .hbm, ⟨11, _⟩ => ⟨S1x4096x1x64, .f32⟩
  | .hbm, ⟨12, _⟩ => ⟨S1x4096x2x64, .f32⟩
  | .hbm, ⟨13, _⟩ => ⟨S4096x128, .f32⟩
  | .hbm, ⟨14, _⟩ => ⟨S256x16384, .bf16⟩
  | .hbm, ⟨15, _⟩ => ⟨S256x16384, .bf16⟩
  | .hbm, ⟨16, _⟩ => ⟨S256x16384, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S64x16384, .bf16⟩
  | .local _ .vmem, ⟨12, _⟩ => ⟨S64x16384, .bf16⟩
  | .local _ .vmem, ⟨13, _⟩ => ⟨S64x16384, .bf16⟩
  | .local _ .vmem, ⟨14, _⟩ => ⟨S64x16384, .bf16⟩
  | .local _ .vmem, ⟨15, _⟩ => ⟨S64x16384, .bf16⟩
  | .local _ .vmem, ⟨16, _⟩ => ⟨S64x16384, .bf16⟩
  | .local _ .vmem, ⟨17, _⟩ => ⟨S8x1024x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x16384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x16384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x16384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Qkv16RefIdeal.lean ====
abbrev S4096x1024 : Shape := ⟨2, ![4096, 1024]⟩
abbrev S1024x3072 : Shape := ⟨2, ![1024, 3072]⟩
abbrev S1024x6144 : Shape := ⟨2, ![1024, 6144]⟩
abbrev S4096x32 : Shape := ⟨2, ![4096, 32]⟩
abbrev S1024x1024 : Shape := ⟨2, ![1024, 1024]⟩
abbrev S4096x16x64 : Shape := ⟨3, ![4096, 16, 64]⟩
abbrev S4096x1x32 : Shape := ⟨3, ![4096, 1, 32]⟩
abbrev S4096x16x32 : Shape := ⟨3, ![4096, 16, 32]⟩
abbrev S_ : Shape := ⟨0, ![]⟩
abbrev S256x16384 : Shape := ⟨2, ![256, 16384]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x3072, .bf16⟩
  | .hbm, ⟨3, _⟩ => ⟨S1024x6144, .bf16⟩
  | .hbm, ⟨4, _⟩ => ⟨S4096x32, .f32⟩
  | .hbm, ⟨5, _⟩ => ⟨S4096x32, .f32⟩
  | .hbm, ⟨6, _⟩ => ⟨S4096x1024, .f32⟩
  | .hbm, ⟨7, _⟩ => ⟨S1024x3072, .f32⟩
  | .hbm, ⟨8, _⟩ => ⟨S1024x1024, .f32⟩
  | .hbm, ⟨9, _⟩ => ⟨S4096x1024, .f32⟩
  | .hbm, ⟨10, _⟩ => ⟨S4096x16x64, .f32⟩
  | .hbm, ⟨11, _⟩ => ⟨S4096x1x32, .f32⟩
  | .hbm, ⟨12, _⟩ => ⟨S4096x1x32, .f32⟩
  | .hbm, ⟨13, _⟩ => ⟨S4096x16x32, .f32⟩
  | .hbm, ⟨14, _⟩ => ⟨S4096x16x32, .f32⟩
  | .hbm, ⟨15, _⟩ => ⟨S4096x16x32, .f32⟩
  | .hbm, ⟨16, _⟩ => ⟨S4096x16x32, .f32⟩
  | .hbm, ⟨17, _⟩ => ⟨S4096x16x32, .f32⟩
  | .hbm, ⟨18, _⟩ => ⟨S4096x16x32, .f32⟩
  | .hbm, ⟨19, _⟩ => ⟨S4096x16x32, .f32⟩
  | .hbm, ⟨20, _⟩ => ⟨S4096x16x32, .f32⟩
  | .hbm, ⟨21, _⟩ => ⟨S4096x16x32, .f32⟩
  | .hbm, ⟨22, _⟩ => ⟨S4096x16x32, .f32⟩
  | .hbm, ⟨23, _⟩ => ⟨S4096x16x32, .f32⟩
  | .hbm, ⟨24, _⟩ => ⟨S4096x16x32, .f32⟩
  | .hbm, ⟨25, _⟩ => ⟨S4096x16x64, .f32⟩
  | .hbm, ⟨26, _⟩ => ⟨S_, .f32⟩
  | .hbm, ⟨27, _⟩ => ⟨S4096x16x64, .f32⟩
  | .hbm, ⟨28, _⟩ => ⟨S4096x16x64, .f32⟩
  | .hbm, ⟨29, _⟩ => ⟨S4096x1024, .f32⟩
  | .hbm, ⟨30, _⟩ => ⟨S1024x6144, .f32⟩
  | .hbm, ⟨31, _⟩ => ⟨S1024x1024, .f32⟩
  | .hbm, ⟨32, _⟩ => ⟨S4096x1024, .f32⟩
  | .hbm, ⟨33, _⟩ => ⟨S4096x16x64, .f32⟩
  | .hbm, ⟨34, _⟩ => ⟨S4096x1x32, .f32⟩
  | .hbm, ⟨35, _⟩ => ⟨S4096x1x32, .f32⟩
  | .hbm, ⟨36, _⟩ => ⟨S4096x16x32, .f32⟩
  | .hbm, ⟨37, _⟩ => ⟨S4096x16x32, .f32⟩
  | .hbm, ⟨38, _⟩ => ⟨S4096x16x32, .f32⟩
  | .hbm, ⟨39, _⟩ => ⟨S4096x16x32, .f32⟩
  | .hbm, ⟨40, _⟩ => ⟨S4096x16x32, .f32⟩
  | .hbm, ⟨41, _⟩ => ⟨S4096x16x32, .f32⟩
  | .hbm, ⟨42, _⟩ => ⟨S4096x16x32, .f32⟩
  | .hbm, ⟨43, _⟩ => ⟨S4096x16x32, .f32⟩
  | .hbm, ⟨44, _⟩ => ⟨S4096x16x32, .f32⟩
  | .hbm, ⟨45, _⟩ => ⟨S4096x16x32, .f32⟩
  | .hbm, ⟨46, _⟩ => ⟨S4096x16x32, .f32⟩
  | .hbm, ⟨47, _⟩ => ⟨S4096x16x32, .f32⟩
  | .hbm, ⟨48, _⟩ => ⟨S4096x16x64, .f32⟩
  | .hbm, ⟨49, _⟩ => ⟨S4096x1024, .f32⟩
  | .hbm, ⟨50, _⟩ => ⟨S1024x6144, .f32⟩
  | .hbm, ⟨51, _⟩ => ⟨S1024x1024, .f32⟩
  | .hbm, ⟨52, _⟩ => ⟨S4096x1024, .f32⟩
  | .hbm, ⟨53, _⟩ => ⟨S4096x16x64, .f32⟩
  | .hbm, ⟨54, _⟩ => ⟨S256x16384, .f32⟩
  | .hbm, ⟨55, _⟩ => ⟨S256x16384, .bf16⟩
  | .hbm, ⟨56, _⟩ => ⟨S256x16384, .f32⟩
  | .hbm, ⟨57, _⟩ => ⟨S256x16384, .bf16⟩
  | .hbm, ⟨58, _⟩ => ⟨S256x16384, .f32⟩
  | .hbm, ⟨59, _⟩ => ⟨S256x16384, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩

abbrev nD : Nat := 1
abbrev τ : Topo := Topo.v7x

variable {F : FTy → Type} [FloatOps F]
-- ==== Proof.Conv.Spec.lean ====
/-
  The gradient of the gated causal convolution as plain functions of the row number.

  With `C`, `H`, `B` the three column thirds of `z` (`B` first), `d` the incoming gradient and `w` the three taps:
    `u n   = C n * H n`                                   the gated input, zero past the last row,
    `back n k = u (n - k)`                                zero before the first row,
    `g n   = d n * B n`                                   the gradient of the convolution's result, zero past the last row,
    `cv n  = w0 * back n 2 + w1 * back n 1 + w2 * u n`    the convolution,
    `du n  = w2 * g n + w1 * g (n + 1) + w0 * g (n + 2)`  the gradient of `u`.
  The gradient of `z` is `(d * cv, du * H, du * C)` and that of tap `j` is `∑ n, g n * back n (2 - j)`.
-/
module

public import Idealize.ShloMosaic.Lib.Pointwise
public import Idealize.ShloMosaic.PureOps.Ideal

@[expose] public section

noncomputable section

namespace Cert.GatedConv

open Idealize.ShloMosaic

abbrev Z := (⟨2, ![4096, 3072]⟩ : Shape).Idx → EReal
abbrev D := (⟨2, ![4096, 1024]⟩ : Shape).Idx → EReal
abbrev W := (⟨2, ![3, 1024]⟩ : Shape).Idx → EReal

variable (z : Z) (d : D) (w : W)

/-- The gated input at row `n`, zero past the last row. -/
def u (n : ℕ) (l : Fin 1024) : EReal :=
  if h : n < 4096 then z (ix2 ⟨n, h⟩ ⟨1024 + l.val, by omega⟩) * z (ix2 ⟨n, h⟩ ⟨2048 + l.val, by omega⟩) else 0

/-- The gated input `k` rows earlier, zero before the first row. -/
def back (n k : ℕ) (l : Fin 1024) : EReal := if k ≤ n then u z (n - k) l else 0

/-- The gradient of the convolution's result at row `n`, zero past the last row. -/
def g (n : ℕ) (l : Fin 1024) : EReal :=
  if h : n < 4096 then d (ix2 ⟨n, h⟩ l) * z (ix2 ⟨n, h⟩ ⟨l.val, by omega⟩) else 0

/-- The convolution at row `n`. -/
def cv (n : ℕ) (l : Fin 1024) : EReal :=
  w (ix2 0 l) * back z n 2 l + w (ix2 1 l) * back z n 1 l + w (ix2 2 l) * u z n l

/-- The gradient of the gated input at row `n`. -/
def du (n : ℕ) (l : Fin 1024) : EReal :=
  w (ix2 2 l) * g z d n l + w (ix2 1 l) * g z d (n + 1) l + w (ix2 0 l) * g z d (n + 2) l

/-- The gradient of `z`. -/
def dz (i : (⟨2, ![4096, 3072]⟩ : Shape).Idx) : EReal :=
  if h : (i 1).val < 1024 then d (ix2 (i 0) ⟨(i 1).val, h⟩) * cv z w (i 0).val ⟨(i 1).val, h⟩
  else if h' : (i 1).val < 2048 then
    du z d w (i 0).val ⟨(i 1).val - 1024, by omega⟩ * z (ix2 (i 0) ⟨2048 + ((i 1).val - 1024), by omega⟩)
  else
    du z d w (i 0).val ⟨(i 1).val - 2048, by have : (i 1).val < 3072 := (i 1).isLt; omega⟩
      * z (ix2 (i 0) ⟨1024 + ((i 1).val - 2048), by have : (i 1).val < 3072 := (i 1).isLt; omega⟩)

/-- Row `n`'s term in the gradient of tap `j`; rows past the third tap have none. -/
def term (j n : ℕ) (l : Fin 1024) : EReal := if j < 3 then g z d n l * back z n (2 - j) l else 0

/-- The tap gradients summed over the first `N` rows. -/
def partialDw (N j : ℕ) (l : Fin 1024) : EReal := ∑ n ∈ Finset.range N, term z d j n l

/-- The gradient of the taps, padded to eight rows. -/
def dw (i : (⟨2, ![8, 1024]⟩ : Shape).Idx) : EReal := partialDw z d 4096 (i 0).val (i 1)

theorem u_of_lt {n : ℕ} (h : n < 4096) (l : Fin 1024) :
    u z n l = z (ix2 ⟨n, h⟩ ⟨1024 + l.val, by omega⟩) * z (ix2 ⟨n, h⟩ ⟨2048 + l.val, by omega⟩) := dif_pos h

theorem g_of_lt {n : ℕ} (h : n < 4096) (l : Fin 1024) :
    g z d n l = d (ix2 ⟨n, h⟩ l) * z (ix2 ⟨n, h⟩ ⟨l.val, by omega⟩) := dif_pos h

theorem g_of_ge {n : ℕ} (h : ¬n < 4096) (l : Fin 1024) : g z d n l = 0 := dif_neg h

theorem back_of_le {n k : ℕ} (h : k ≤ n) (l : Fin 1024) : back z n k l = u z (n - k) l := if_pos h

theorem back_of_gt {n k : ℕ} (h : ¬k ≤ n) (l : Fin 1024) : back z n k l = 0 := if_neg h

theorem back_zero (n : ℕ) (l : Fin 1024) : back z n 0 l = u z n l := if_pos (Nat.zero_le n)

theorem dz_first (r : Fin 4096) (l : Fin 3072) (h : l.val < 1024) :
    dz z d w (ix2 r l) = d (ix2 r ⟨l.val, h⟩) * cv z w r.val ⟨l.val, h⟩ := dif_pos h

theorem dz_second (r : Fin 4096) (l : Fin 3072) (h : ¬l.val < 1024) (h' : l.val < 2048) :
    dz z d w (ix2 r l)
      = du z d w r.val ⟨l.val - 1024, by omega⟩ * z (ix2 r ⟨2048 + (l.val - 1024), by omega⟩) :=
  (dif_neg h).trans (dif_pos h')

theorem dz_third (r : Fin 4096) (l : Fin 3072) (h' : ¬l.val < 2048) :
    dz z d w (ix2 r l)
      = du z d w r.val ⟨l.val - 2048, by omega⟩ * z (ix2 r ⟨1024 + (l.val - 2048), by omega⟩) :=
  (dif_neg fun h : l.val < 1024 => h' (by omega)).trans (dif_neg h')

/-- One more block of rows added to the running tap gradients. -/
theorem partialDw_add (N k j : ℕ) (l : Fin 1024) :
    partialDw z d (N + k) j l = partialDw z d N j l + ∑ r : Fin k, term z d j (N + r.val) l := by
  unfold partialDw
  rw [Finset.sum_range_add, Finset.sum_range fun x => term z d j (N + x) l]

theorem partialDw_zero (j : ℕ) (l : Fin 1024) : partialDw z d 0 j l = 0 := Finset.sum_range_zero _

theorem partialDw_pad {j : ℕ} (hj : ¬j < 3) (N : ℕ) (l : Fin 1024) : partialDw z d N j l = 0 :=
  Finset.sum_eq_zero fun _ _ => if_neg hj

end Cert.GatedConv

end
-- ==== Proof.Conv.Blocks.lean ====
/-
  What each input window of the convolution kernel holds at a grid point, as entries of the argument arrays: the main
  blocks of 512 rows, the eight rows before and after them (clipped at the array's ends), and the padded taps.
-/
module

public import proofs.«01_k».proof.Proof.Gen.ConvIdeal.Value
public import Idealize.ShloMosaic.Lib.Tactic
public import Idealize.ShloMosaic.Lib.StableHlo.ReadAt
public import Idealize.ShloMosaic.Lib.Pointwise
public import Idealize.ShloMosaic.Lib.KernelVsHost

@[expose] public section

set_option maxRecDepth 16384

noncomputable section

namespace Cert.ConvIdeal.Hand

open Cert.ConvIdeal Cert.ConvIdeal.Gen Idealize.ShloMosaic Idealize.ShloMosaic.TcCoe Idealize.SL.Sem

variable {F : FTy → Type} [FloatOps F]
variable (m : (ℓ : Loc nD τ sig) → Buf (Elt F) ℓ)

/-- Where each window's block starts, in blocks. -/
theorem index_main : ∀ t : Fin cfg0.N,
    (win0_0.index t 0 = t.val ∧ win0_0.index t 1 = 0) ∧ (win0_1.index t 0 = t.val ∧ win0_1.index t 1 = 1)
    ∧ (win0_2.index t 0 = t.val ∧ win0_2.index t 1 = 2) ∧ (win0_5.index t 0 = t.val ∧ win0_5.index t 1 = 0)
    ∧ (win0_9.index t 0 = t.val ∧ win0_9.index t 1 = 0) :=
  (by decide +kernel : ∀ t : Fin grid0.N,
    (win0_0.index t 0 = t.val ∧ win0_0.index t 1 = 0) ∧ (win0_1.index t 0 = t.val ∧ win0_1.index t 1 = 1)
    ∧ (win0_2.index t 0 = t.val ∧ win0_2.index t 1 = 2) ∧ (win0_5.index t 0 = t.val ∧ win0_5.index t 1 = 0)
    ∧ (win0_9.index t 0 = t.val ∧ win0_9.index t 1 = 0))

theorem index_halo : ∀ t : Fin cfg0.N,
    (win0_3.index t 0 = 64 * t.val - 1 ∧ win0_3.index t 1 = 1) ∧ (win0_4.index t 0 = 64 * t.val - 1 ∧ win0_4.index t 1 = 2)
    ∧ (win0_6.index t 0 = min (64 * (t.val + 1)) 511 ∧ win0_6.index t 1 = 0)
    ∧ (win0_7.index t 0 = min (64 * (t.val + 1)) 511 ∧ win0_7.index t 1 = 0)
    ∧ (win0_8.index t 0 = 0 ∧ win0_8.index t 1 = 0) ∧ (win0_10.index t 0 = 0 ∧ win0_10.index t 1 = 0) :=
  (by decide +kernel : ∀ t : Fin grid0.N,
    (win0_3.index t 0 = 64 * t.val - 1 ∧ win0_3.index t 1 = 1) ∧ (win0_4.index t 0 = 64 * t.val - 1 ∧ win0_4.index t 1 = 2)
    ∧ (win0_6.index t 0 = min (64 * (t.val + 1)) 511 ∧ win0_6.index t 1 = 0)
    ∧ (win0_7.index t 0 = min (64 * (t.val + 1)) 511 ∧ win0_7.index t 1 = 0)
    ∧ (win0_8.index t 0 = 0 ∧ win0_8.index t 1 = 0) ∧ (win0_10.index t 0 = 0 ∧ win0_10.index t 1 = 0))

theorem lt8 (t : Fin cfg0.N) : t.val < 8 := lt_of_lt_of_eq t.isLt N_0

/-- Two entries of one array agree when their two coordinates do. -/
theorem entry_congr {α : Type} {s : Fin 2 → ℕ} (x : (⟨2, s⟩ : Shape).Idx → α) {i j : (⟨2, s⟩ : Shape).Idx}
    (h0 : (i 0).val = (j 0).val) (h1 : (i 1).val = (j 1).val) : x i = x j := by
  congr 1
  funext a
  apply Fin.ext
  match a with
  | ⟨0, _⟩ => exact h0
  | ⟨1, _⟩ => exact h1

/-- The main blocks: row `r` of block `t` is row `512 t + r`. -/
theorem iblk0_at (c : Dev nD) (t : Fin cfg0.N) (r : Fin 512) (l : Fin 1024) (n : Fin 4096) (k : Fin 3072)
    (hn : n.val = 512 * t.val + r.val) (hk : k.val = l.val) :
    iblk m c 0 t (ix2 r l) = m ((c : Thread nD τ).loc main_arg0) (ix2 n k) := by
  obtain ⟨e0, e1⟩ := (index_main t).1
  unfold iblk
  rw [View.read_apply]
  show V m c main_arg0 _ = _
  rw [V_main_arg0]
  refine entry_congr (m ((c : Thread nD τ).loc main_arg0)) ?_ ?_
  · show win0_0.index t 0 * 512 + 1 * r.val = n.val
    rw [e0]; omega
  · show win0_0.index t 1 * 1024 + 1 * l.val = k.val
    rw [e1]; omega

theorem iblk1_at (c : Dev nD) (t : Fin cfg0.N) (r : Fin 512) (l : Fin 1024) (n : Fin 4096) (k : Fin 3072)
    (hn : n.val = 512 * t.val + r.val) (hk : k.val = 1024 + l.val) :
    iblk m c 1 t (ix2 r l) = m ((c : Thread nD τ).loc main_arg0) (ix2 n k) := by
  obtain ⟨e0, e1⟩ := (index_main t).2.1
  unfold iblk
  rw [View.read_apply]
  show V m c main_arg0 _ = _
  rw [V_main_arg0]
  refine entry_congr (m ((c : Thread nD τ).loc main_arg0)) ?_ ?_
  · show win0_1.index t 0 * 512 + 1 * r.val = n.val
    rw [e0]; omega
  · show win0_1.index t 1 * 1024 + 1 * l.val = k.val
    rw [e1]; omega

theorem iblk2_at (c : Dev nD) (t : Fin cfg0.N) (r : Fin 512) (l : Fin 1024) (n : Fin 4096) (k : Fin 3072)
    (hn : n.val = 512 * t.val + r.val) (hk : k.val = 2048 + l.val) :
    iblk m c 2 t (ix2 r l) = m ((c : Thread nD τ).loc main_arg0) (ix2 n k) := by
  obtain ⟨e0, e1⟩ := (index_main t).2.2.1
  unfold iblk
  rw [View.read_apply]
  show V m c main_arg0 _ = _
  rw [V_main_arg0]
  refine entry_congr (m ((c : Thread nD τ).loc main_arg0)) ?_ ?_
  · show win0_2.index t 0 * 512 + 1 * r.val = n.val
    rw [e0]; omega
  · show win0_2.index t 1 * 1024 + 1 * l.val = k.val
    rw [e1]; omega

theorem iblk5_at (c : Dev nD) (t : Fin cfg0.N) (r : Fin 512) (l : Fin 1024) (n : Fin 4096) (k : Fin 1024)
    (hn : n.val = 512 * t.val + r.val) (hk : k.val = l.val) :
    iblk m c 5 t (ix2 r l) = m ((c : Thread nD τ).loc main_arg1) (ix2 n k) := by
  obtain ⟨e0, e1⟩ := (index_main t).2.2.2.1
  unfold iblk
  rw [View.read_apply]
  show V m c main_arg1 _ = _
  rw [V_main_arg1]
  refine entry_congr (m ((c : Thread nD τ).loc main_arg1)) ?_ ?_
  · show win0_5.index t 0 * 512 + 1 * r.val = n.val
    rw [e0]; omega
  · show win0_5.index t 1 * 1024 + 1 * l.val = k.val
    rw [e1]; omega

/-- The eight rows before the block; at the first block they are the first eight rows instead. -/
theorem iblk3_at (c : Dev nD) (t : Fin cfg0.N) (r : Fin 8) (l : Fin 1024) (n : Fin 4096) (k : Fin 3072)
    (hn : n.val = (64 * t.val - 1) * 8 + r.val) (hk : k.val = 1024 + l.val) :
    iblk m c 3 t (ix2 r l) = m ((c : Thread nD τ).loc main_arg0) (ix2 n k) := by
  obtain ⟨e0, e1⟩ := (index_halo t).1
  unfold iblk
  rw [View.read_apply]
  show V m c main_arg0 _ = _
  rw [V_main_arg0]
  refine entry_congr (m ((c : Thread nD τ).loc main_arg0)) ?_ ?_
  · show win0_3.index t 0 * 8 + 1 * r.val = n.val
    rw [e0]; omega
  · show win0_3.index t 1 * 1024 + 1 * l.val = k.val
    rw [e1]; omega

theorem iblk4_at (c : Dev nD) (t : Fin cfg0.N) (r : Fin 8) (l : Fin 1024) (n : Fin 4096) (k : Fin 3072)
    (hn : n.val = (64 * t.val - 1) * 8 + r.val) (hk : k.val = 2048 + l.val) :
    iblk m c 4 t (ix2 r l) = m ((c : Thread nD τ).loc main_arg0) (ix2 n k) := by
  obtain ⟨e0, e1⟩ := (index_halo t).2.1
  unfold iblk
  rw [View.read_apply]
  show V m c main_arg0 _ = _
  rw [V_main_arg0]
  refine entry_congr (m ((c : Thread nD τ).loc main_arg0)) ?_ ?_
  · show win0_4.index t 0 * 8 + 1 * r.val = n.val
    rw [e0]; omega
  · show win0_4.index t 1 * 1024 + 1 * l.val = k.val
    rw [e1]; omega

/-- The eight rows after the block; at the last block they are the last eight rows instead. -/
theorem iblk6_at (c : Dev nD) (t : Fin cfg0.N) (r : Fin 8) (l : Fin 1024) (n : Fin 4096) (k : Fin 1024)
    (hn : n.val = min (64 * (t.val + 1)) 511 * 8 + r.val) (hk : k.val = l.val) :
    iblk m c 6 t (ix2 r l) = m ((c : Thread nD τ).loc main_arg1) (ix2 n k) := by
  obtain ⟨e0, e1⟩ := (index_halo t).2.2.1
  unfold iblk
  rw [View.read_apply]
  show V m c main_arg1 _ = _
  rw [V_main_arg1]
  refine entry_congr (m ((c : Thread nD τ).loc main_arg1)) ?_ ?_
  · show win0_6.index t 0 * 8 + 1 * r.val = n.val
    rw [e0]; omega
  · show win0_6.index t 1 * 1024 + 1 * l.val = k.val
    rw [e1]; omega

theorem iblk7_at (c : Dev nD) (t : Fin cfg0.N) (r : Fin 8) (l : Fin 1024) (n : Fin 4096) (k : Fin 3072)
    (hn : n.val = min (64 * (t.val + 1)) 511 * 8 + r.val) (hk : k.val = l.val) :
    iblk m c 7 t (ix2 r l) = m ((c : Thread nD τ).loc main_arg0) (ix2 n k) := by
  obtain ⟨e0, e1⟩ := (index_halo t).2.2.2.1
  unfold iblk
  rw [View.read_apply]
  show V m c main_arg0 _ = _
  rw [V_main_arg0]
  refine entry_congr (m ((c : Thread nD τ).loc main_arg0)) ?_ ?_
  · show win0_7.index t 0 * 8 + 1 * r.val = n.val
    rw [e0]; omega
  · show win0_7.index t 1 * 1024 + 1 * l.val = k.val
    rw [e1]; omega

/-- The taps, padded to eight rows by the host before the kernel runs. -/
theorem V_main_v0_at (c : Dev nD) (j : Fin 8) (l : Fin 1024) (hj : j.val < 3) :
    V m c main_v0 (ix2 j l) = m ((c : Thread nD τ).loc main_arg2) (ix2 (⟨j.val, hj⟩ : Fin 3) l) := by
  unfold V
  after_reads_at
  exact dif_pos hj

theorem iblk8_at (c : Dev nD) (t : Fin cfg0.N) (j : Fin 8) (l : Fin 1024) (hj : j.val < 3) :
    iblk m c 8 t (ix2 j l) = m ((c : Thread nD τ).loc main_arg2) (ix2 (⟨j.val, hj⟩ : Fin 3) l) := by
  obtain ⟨e0, e1⟩ := (index_halo t).2.2.2.2.1
  rw [← V_main_v0_at m c j l hj]
  unfold iblk
  rw [View.read_apply]
  show V m c main_v0 _ = _
  refine entry_congr (V m c main_v0) ?_ ?_
  · show win0_8.index t 0 * 8 + 1 * j.val = j.val
    rw [e0]; omega
  · show win0_8.index t 1 * 1024 + 1 * l.val = l.val
    rw [e1]; omega

end Cert.ConvIdeal.Hand

end
-- ==== Proof.Conv.Tile.lean ====
/-
  The values the convolution kernel's body computes at grid point `t`, read at an index: each is one of the plain
  functions of Conv/Spec.lean at row `512 t + r`.
-/
module

public import proofs.«01_k».proof.Proof.Conv.Spec
public import proofs.«01_k».proof.Proof.Conv.Blocks

@[expose] public section

set_option maxRecDepth 16384

noncomputable section

namespace Cert.ConvIdeal.Hand

open Cert.ConvIdeal Cert.ConvIdeal.Gen Idealize.ShloMosaic Idealize.ShloMosaic.TcCoe Idealize.SL.Sem
open Cert.GatedConv

variable (m : (ℓ : Loc nD τ sig) → Buf (Elt Ideal) ℓ) (c : Dev nD) (t : Fin cfg0.N)

/-- The three arguments as launched. -/
abbrev argZ : Z := m ((c : Thread nD τ).loc main_arg0)
abbrev argD : D := m ((c : Thread nD τ).loc main_arg1)
abbrev argW : W := m ((c : Thread nD τ).loc main_arg2)

theorem coords_val : ((grid0.coords t) 0).val = t.val :=
  (by decide +kernel : ∀ t : Fin grid0.N, ((grid0.coords t) 0).val = t.val) t

/-- A comparison of a small row or tile number, as a condition. -/
theorem row_lt : ∀ k r : Fin 8, IntOp.cmpi CmpIPredicate.slt (BitVec.ofNat 32 r.val) (BitVec.ofNat 32 k.val)
    = if r.val < k.val then 1#1 else 0#1 := by decide +kernel

theorem row_ge : ∀ k r : Fin 8, IntOp.cmpi CmpIPredicate.sge (BitVec.ofNat 32 r.val) (BitVec.ofNat 32 k.val)
    = if k.val ≤ r.val then 1#1 else 0#1 := by decide +kernel

theorem tile_gt : ∀ r : Fin 8, Scalar.cmpi CmpIPredicate.sgt (BitVec.ofNat 32 r.val) 0#32
    = if r.val = 0 then 0#1 else 1#1 := by decide +kernel

theorem tile_lt : ∀ r : Fin 8, Scalar.cmpi CmpIPredicate.slt (BitVec.ofNat 32 r.val) 7#32
    = if r.val = 7 then 0#1 else 1#1 := by decide +kernel

/-- A selection whose condition is a proposition's bit. -/
theorem select_if (p : Prop) [Decidable p] (x y : EReal) :
    Scalar.select (if p then 1#1 else 0#1) x y = if p then x else y := by
  by_cases h : p
  · rw [if_pos h, if_pos h]; rfl
  · rw [if_neg h, if_neg h]; rfl

theorem select_if_not (p : Prop) [Decidable p] (x y : EReal) :
    Scalar.select (if p then 0#1 else 1#1) x y = if p then y else x := by
  by_cases h : p
  · rw [if_pos h, if_pos h]; rfl
  · rw [if_neg h, if_neg h]; rfl

/-- The gated input of the block. -/
theorem pay6_at (r : Fin 512) (l : Fin 1024) :
    k0_pay6 (F := Ideal) (iblk m c 1 t) (iblk m c 2 t) (ix2 r l) = u (argZ m c) (512 * t.val + r.val) l := by
  have ht := lt8 t
  refine Eq.trans ?_ (u_of_lt (argZ m c) (by omega) l).symm
  pointwise [k0_pay6, k0_pay3, k0_pay4]
  exact congrArg₂ (· * ·) (iblk1_at m c t r l _ _ rfl rfl) (iblk2_at m c t r l _ _ rfl rfl)

/-- The gated input of the eight rows before the block, zero before the first block. -/
theorem pay7_at (r : Fin 8) (l : Fin 1024) :
    k0_pay7 (F := Ideal) (grid0.coords t) (iblk m c 3 t) (iblk m c 4 t) (ix2 r l)
      = back (argZ m c) (512 * t.val + r.val) 8 l := by
  have ht := lt8 t
  have hs := tile_gt ⟨t.val, ht⟩
  generalize hR : back (argZ m c) (512 * t.val + r.val) 8 l = R
  pointwise [k0_pay7]
  rw [coords_val, hs, select_if_not, ← hR]
  dsimp only
  by_cases h : t.val = 0
  · rw [if_pos h, back_of_gt (argZ m c) (by omega)]
  · rw [if_neg h, back_of_le (argZ m c) (by omega), u_of_lt (argZ m c) (by omega)]
    exact congrArg₂ (· * ·) (iblk3_at m c t r l _ _ (by dsimp only; omega) rfl)
      (iblk4_at m c t r l _ _ (by dsimp only; omega) rfl)

/-- The block moved down one row, and two, its first rows filled from the rows before it. -/
theorem pay8_at (r : Fin 512) (l : Fin 1024) :
    k0_pay8 (F := Ideal) (grid0.coords t) (iblk m c 1 t) (iblk m c 2 t) (iblk m c 3 t) (iblk m c 4 t) (ix2 r l)
      = back (argZ m c) (512 * t.val + r.val) 1 l := by
  have ht := lt8 t
  generalize hR : back (argZ m c) (512 * t.val + r.val) 1 l = R
  pointwise [k0_pay8]
  simp only [pay6_at, pay7_at]
  subst hR
  by_cases h : r.val < 8
  · have hk : IntOp.cmpi CmpIPredicate.slt (BitVec.ofNat 32 r.val) 1#32 = if r.val < 1 then 1#1 else 0#1 :=
      row_lt 1 ⟨r.val, h⟩
    rw [dif_pos h, hk, select_if]
    by_cases h' : r.val < 1
    · rw [if_pos h']
      unfold back
      by_cases h0 : t.val = 0
      · rw [if_neg (by omega), if_neg (by omega)]
      · rw [if_pos (by omega), if_pos (by omega)]
        congr 1; omega
    · rw [if_neg h', back_of_le (argZ m c) (by omega)]
      congr 1; omega
  · rw [dif_neg h, back_of_le (argZ m c) (by omega)]
    congr 1; omega

theorem pay9_at (r : Fin 512) (l : Fin 1024) :
    k0_pay9 (F := Ideal) (grid0.coords t) (iblk m c 1 t) (iblk m c 2 t) (iblk m c 3 t) (iblk m c 4 t) (ix2 r l)
      = back (argZ m c) (512 * t.val + r.val) 2 l := by
  have ht := lt8 t
  generalize hR : back (argZ m c) (512 * t.val + r.val) 2 l = R
  pointwise [k0_pay9]
  simp only [pay6_at, pay7_at]
  subst hR
  by_cases h : r.val < 8
  · have hk : IntOp.cmpi CmpIPredicate.slt (BitVec.ofNat 32 r.val) 2#32 = if r.val < 2 then 1#1 else 0#1 :=
      row_lt 2 ⟨r.val, h⟩
    rw [dif_pos h, hk, select_if]
    by_cases h' : r.val < 2
    · rw [if_pos h']
      unfold back
      by_cases h0 : t.val = 0
      · rw [if_neg (by omega), if_neg (by omega)]
      · rw [if_pos (by omega), if_pos (by omega)]
        congr 1; omega
    · rw [if_neg h', back_of_le (argZ m c) (by omega)]
      congr 1; omega
  · rw [dif_neg h, back_of_le (argZ m c) (by omega)]
    congr 1; omega

/-- The gradient of the convolution's result on the block, -/
theorem pay14_at (r : Fin 512) (l : Fin 1024) :
    k0_pay14 (F := Ideal) (k0_pay2 (iblk m c 0 t)) (k0_pay5 (iblk m c 5 t)) (ix2 r l)
      = g (argZ m c) (argD m c) (512 * t.val + r.val) l := by
  have ht := lt8 t
  refine Eq.trans ?_ (g_of_lt (argZ m c) (argD m c) (by omega) l).symm
  pointwise [k0_pay14, k0_pay2, k0_pay5]
  exact congrArg₂ (· * ·) (iblk5_at m c t r l _ _ rfl rfl) (iblk0_at m c t r l _ _ rfl rfl)

/-- and on the eight rows after it, zero after the last block. -/
theorem pay15_at (r : Fin 8) (l : Fin 1024) :
    k0_pay15 (F := Ideal) (BitVec.ofNat 32 ((grid0.coords t) 0).val) (iblk m c 6 t) (iblk m c 7 t) (ix2 r l)
      = g (argZ m c) (argD m c) (512 * (t.val + 1) + r.val) l := by
  have ht := lt8 t
  have hs := tile_lt ⟨t.val, ht⟩
  generalize hR : g (argZ m c) (argD m c) (512 * (t.val + 1) + r.val) l = R
  pointwise [k0_pay15]
  rw [coords_val, hs, select_if_not, ← hR]
  dsimp only
  by_cases h : t.val = 7
  · rw [if_pos h, g_of_ge (argZ m c) (argD m c) (by omega)]
  · rw [if_neg h, g_of_lt (argZ m c) (argD m c) (by omega)]
    exact congrArg₂ (· * ·) (iblk6_at m c t r l _ _ (by dsimp only; omega) rfl)
      (iblk7_at m c t r l _ _ (by dsimp only; omega) rfl)

/-- The block of gradients moved up two rows, its last rows filled from the rows after it. -/
theorem pay17_at (r : Fin 512) (l : Fin 1024) :
    k0_pay17 (F := Ideal) (BitVec.ofNat 32 ((grid0.coords t) 0).val) (k0_pay2 (iblk m c 0 t)) (k0_pay5 (iblk m c 5 t))
      (iblk m c 6 t) (iblk m c 7 t) (ix2 r l) = g (argZ m c) (argD m c) (512 * t.val + r.val + 2) l := by
  have ht := lt8 t
  generalize hR : g (argZ m c) (argD m c) (512 * t.val + r.val + 2) l = R
  pointwise [k0_pay17]
  simp only [pay14_at, pay15_at]
  subst hR
  by_cases h : r.val < 504
  · rw [dif_pos h]
    congr 1; omega
  · have hk : IntOp.cmpi CmpIPredicate.sge (BitVec.ofNat 32 (r.val - 504)) 6#32
        = if 6 ≤ r.val - 504 then 1#1 else 0#1 := row_ge 6 ⟨r.val - 504, by omega⟩
    rw [dif_neg h, hk, select_if]
    by_cases h' : 6 ≤ r.val - 504
    · rw [if_pos h']
      congr 1; omega
    · rw [if_neg h']
      congr 1; omega

/-- The shifted and weighted sum of the gradients, its first two terms. -/
theorem pay16_at (w1 w2 : Vec Ideal S1x1024 .f32) (r : Fin 512) (l : Fin 1024) :
    k0_pay16 (F := Ideal) (BitVec.ofNat 32 ((grid0.coords t) 0).val) (k0_pay2 (iblk m c 0 t)) (k0_pay5 (iblk m c 5 t))
      w1 w2 (iblk m c 6 t) (iblk m c 7 t) (ix2 r l)
      = w2 (ix2 0 l) * g (argZ m c) (argD m c) (512 * t.val + r.val) l
        + w1 (ix2 0 l) * g (argZ m c) (argD m c) (512 * t.val + r.val + 1) l := by
  have ht := lt8 t
  generalize hR : g (argZ m c) (argD m c) (512 * t.val + r.val + 1) l = R
  rw [← pay14_at m c t r l]
  pointwise [k0_pay16, k0_pay12, k0_pay11]
  simp only [pay14_at, pay15_at]
  subst hR
  congr 2
  by_cases h : r.val < 504
  · rw [dif_pos h]
    congr 1; omega
  · have hk : IntOp.cmpi CmpIPredicate.sge (BitVec.ofNat 32 (r.val - 504)) 7#32
        = if 7 ≤ r.val - 504 then 1#1 else 0#1 := row_ge 7 ⟨r.val - 504, by omega⟩
    rw [dif_neg h, hk, select_if]
    by_cases h' : 7 ≤ r.val - 504
    · rw [if_pos h']
      congr 1; omega
    · rw [if_neg h']
      congr 1; omega

/-- One row of an eight-row block, read as a one-row block. -/
theorem row_at (X : Vec Ideal S8x1024 .f32) (j : ℕ) (hj : j < 8) (inb) (l : Fin 1024) :
    View.ld X (Rect.unit (s := S8x1024) ![j, 0] ![1, 1024] inb) (ix2 0 l : S1x1024.Idx) = X (ix2 (⟨j, hj⟩ : Fin 8) l) := by
  show X _ = _
  refine entry_congr X ?_ ?_
  · show j + 1 * 0 = j
    omega
  · show 0 + 1 * l.val = l.val
    omega

/-- A row of the padded taps is a tap. -/
theorem tap_at (j : ℕ) (hj : j < 3) (inb) (l : Fin 1024) :
    View.ld (iblk m c 8 t) (Rect.unit (s := S8x1024) ![j, 0] ![1, 1024] inb) (ix2 0 l : S1x1024.Idx)
      = argW m c (ix2 (⟨j, hj⟩ : Fin 3) l) :=
  (row_at (iblk m c 8 t) j (by omega) inb l).trans (iblk8_at m c t ⟨j, by omega⟩ l hj)

/-- The three column thirds of the block's result. -/
theorem dz0_at (i0 i1 i2) (r : Fin 512) (l : Fin 1024) (n : Fin 4096) (hn : n.val = 512 * t.val + r.val) :
    k0_pay19 (F := Ideal) (k0_pay5 (iblk m c 5 t))
      (k0_pay13 (k0_pay6 (iblk m c 1 t) (iblk m c 2 t))
        (k0_pay8 (grid0.coords t) (iblk m c 1 t) (iblk m c 2 t) (iblk m c 3 t) (iblk m c 4 t))
        (k0_pay9 (grid0.coords t) (iblk m c 1 t) (iblk m c 2 t) (iblk m c 3 t) (iblk m c 4 t))
        (k0_pay10 (View.ld (iblk m c 8 t) (Rect.unit (s := S8x1024) ![0, 0] ![1, 1024] i0)))
        (View.ld (iblk m c 8 t) (Rect.unit (s := S8x1024) ![1, 0] ![1, 1024] i1))
        (View.ld (iblk m c 8 t) (Rect.unit (s := S8x1024) ![2, 0] ![1, 1024] i2))) (ix2 r l)
      = argD m c (ix2 n l) * cv (argZ m c) (argW m c) n.val l := by
  unfold cv
  have e0 : View.ld (iblk m c 8 t) (Rect.unit (s := S8x1024) ![0, 0] ![1, 1024] i0) (ix2 0 l : S1x1024.Idx)
      = argW m c (ix2 0 l) := tap_at m c t 0 (by decide) i0 l
  have e1 : View.ld (iblk m c 8 t) (Rect.unit (s := S8x1024) ![1, 0] ![1, 1024] i1) (ix2 0 l : S1x1024.Idx)
      = argW m c (ix2 1 l) := tap_at m c t 1 (by decide) i1 l
  have e2 : View.ld (iblk m c 8 t) (Rect.unit (s := S8x1024) ![2, 0] ![1, 1024] i2) (ix2 0 l : S1x1024.Idx)
      = argW m c (ix2 2 l) := tap_at m c t 2 (by decide) i2 l
  rw [hn, ← pay6_at m c t r l, ← pay8_at m c t r l, ← pay9_at m c t r l,
    ← e0, ← e1, ← e2]
  refine Eq.trans ?_ (congrArg (· * _) (iblk5_at m c t r l n l hn rfl))
  pointwise [k0_pay19, k0_pay5, k0_pay13, k0_pay10, k0_pay11, k0_pay12]

theorem dz1_at (i0 i1 i2) (r : Fin 512) (l : Fin 1024) (n : Fin 4096) (hn : n.val = 512 * t.val + r.val) (k : Fin 3072)
    (hk : k.val = 2048 + l.val) :
    k0_pay20 (F := Ideal) (k0_pay4 (iblk m c 2 t))
      (k0_pay10 (View.ld (iblk m c 8 t) (Rect.unit (s := S8x1024) ![0, 0] ![1, 1024] i0)))
      (k0_pay16 (BitVec.ofNat 32 ((grid0.coords t) 0).val) (k0_pay2 (iblk m c 0 t)) (k0_pay5 (iblk m c 5 t))
        (View.ld (iblk m c 8 t) (Rect.unit (s := S8x1024) ![1, 0] ![1, 1024] i1))
        (View.ld (iblk m c 8 t) (Rect.unit (s := S8x1024) ![2, 0] ![1, 1024] i2)) (iblk m c 6 t) (iblk m c 7 t))
      (k0_pay17 (BitVec.ofNat 32 ((grid0.coords t) 0).val) (k0_pay2 (iblk m c 0 t)) (k0_pay5 (iblk m c 5 t))
        (iblk m c 6 t) (iblk m c 7 t)) (ix2 r l)
      = du (argZ m c) (argD m c) (argW m c) n.val l * argZ m c (ix2 n k) := by
  unfold du
  have e0 : View.ld (iblk m c 8 t) (Rect.unit (s := S8x1024) ![0, 0] ![1, 1024] i0) (ix2 0 l : S1x1024.Idx)
      = argW m c (ix2 0 l) := tap_at m c t 0 (by decide) i0 l
  have e1 : View.ld (iblk m c 8 t) (Rect.unit (s := S8x1024) ![1, 0] ![1, 1024] i1) (ix2 0 l : S1x1024.Idx)
      = argW m c (ix2 1 l) := tap_at m c t 1 (by decide) i1 l
  have e2 : View.ld (iblk m c 8 t) (Rect.unit (s := S8x1024) ![2, 0] ![1, 1024] i2) (ix2 0 l : S1x1024.Idx)
      = argW m c (ix2 2 l) := tap_at m c t 2 (by decide) i2 l
  rw [hn, ← pay17_at m c t r l, ← e1, ← e2,
    ← pay16_at m c t _ _ r l, ← e0]
  refine Eq.trans ?_ (congrArg (_ * ·) (iblk2_at m c t r l n k hn hk))
  pointwise [k0_pay20, k0_pay4, k0_pay18, k0_pay10]

theorem dz2_at (i0 i1 i2) (r : Fin 512) (l : Fin 1024) (n : Fin 4096) (hn : n.val = 512 * t.val + r.val) (k : Fin 3072)
    (hk : k.val = 1024 + l.val) :
    k0_pay21 (F := Ideal) (k0_pay3 (iblk m c 1 t))
      (k0_pay10 (View.ld (iblk m c 8 t) (Rect.unit (s := S8x1024) ![0, 0] ![1, 1024] i0)))
      (k0_pay16 (BitVec.ofNat 32 ((grid0.coords t) 0).val) (k0_pay2 (iblk m c 0 t)) (k0_pay5 (iblk m c 5 t))
        (View.ld (iblk m c 8 t) (Rect.unit (s := S8x1024) ![1, 0] ![1, 1024] i1))
        (View.ld (iblk m c 8 t) (Rect.unit (s := S8x1024) ![2, 0] ![1, 1024] i2)) (iblk m c 6 t) (iblk m c 7 t))
      (k0_pay17 (BitVec.ofNat 32 ((grid0.coords t) 0).val) (k0_pay2 (iblk m c 0 t)) (k0_pay5 (iblk m c 5 t))
        (iblk m c 6 t) (iblk m c 7 t)) (ix2 r l)
      = du (argZ m c) (argD m c) (argW m c) n.val l * argZ m c (ix2 n k) := by
  unfold du
  have e0 : View.ld (iblk m c 8 t) (Rect.unit (s := S8x1024) ![0, 0] ![1, 1024] i0) (ix2 0 l : S1x1024.Idx)
      = argW m c (ix2 0 l) := tap_at m c t 0 (by decide) i0 l
  have e1 : View.ld (iblk m c 8 t) (Rect.unit (s := S8x1024) ![1, 0] ![1, 1024] i1) (ix2 0 l : S1x1024.Idx)
      = argW m c (ix2 1 l) := tap_at m c t 1 (by decide) i1 l
  have e2 : View.ld (iblk m c 8 t) (Rect.unit (s := S8x1024) ![2, 0] ![1, 1024] i2) (ix2 0 l : S1x1024.Idx)
      = argW m c (ix2 2 l) := tap_at m c t 2 (by decide) i2 l
  rw [hn, ← pay17_at m c t r l, ← e1, ← e2,
    ← pay16_at m c t _ _ r l, ← e0]
  refine Eq.trans ?_ (congrArg (_ * ·) (iblk1_at m c t r l n k hn hk))
  pointwise [k0_pay21, k0_pay3, k0_pay18, k0_pay10]

/-- One tile's addition to the running gradient of a tap: the rows' products summed and added to what was there. -/
theorem tap2_at (x : Vec Ideal S1x1024 .f32) (l : Fin 1024) :
    k0_pay1 (F := Ideal) (k0_pay25 x) (k0_pay26 (k0_pay6 (iblk m c 1 t) (iblk m c 2 t))
      (k0_pay14 (k0_pay2 (iblk m c 0 t)) (k0_pay5 (iblk m c 5 t)))) (ix2 0 l)
      = x (ix2 0 l) + ∑ r : Fin 512, term (argZ m c) (argD m c) 2 (512 * t.val + r.val) l := by
  trans x (ix2 0 l) + ∑ r : Fin 512, k0_pay14 (F := Ideal) (k0_pay2 (iblk m c 0 t)) (k0_pay5 (iblk m c 5 t)) (ix2 r l)
      * k0_pay6 (iblk m c 1 t) (iblk m c 2 t) (ix2 r l)
  · pointwise [k0_pay1, k0_pay25, k0_pay26]
  · congr 1
    exact Finset.sum_congr rfl fun r _ => by
      rw [pay14_at, pay6_at]; exact (congrArg _ (back_zero _ _ l).symm).trans (if_pos (by omega)).symm

theorem tap1_at (x : Vec Ideal S1x1024 .f32) (l : Fin 1024) :
    k0_pay24 (F := Ideal)
      (k0_pay8 (grid0.coords t) (iblk m c 1 t) (iblk m c 2 t) (iblk m c 3 t) (iblk m c 4 t))
      (k0_pay14 (k0_pay2 (iblk m c 0 t)) (k0_pay5 (iblk m c 5 t))) x (ix2 0 l)
      = x (ix2 0 l) + ∑ r : Fin 512, term (argZ m c) (argD m c) 1 (512 * t.val + r.val) l := by
  trans x (ix2 0 l) + ∑ r : Fin 512, k0_pay14 (F := Ideal) (k0_pay2 (iblk m c 0 t)) (k0_pay5 (iblk m c 5 t)) (ix2 r l)
      * k0_pay8 (grid0.coords t) (iblk m c 1 t) (iblk m c 2 t) (iblk m c 3 t) (iblk m c 4 t) (ix2 r l)
  · pointwise [k0_pay24]
  · congr 1
    exact Finset.sum_congr rfl fun r _ => by rw [pay14_at, pay8_at]; exact (if_pos (by omega)).symm

theorem tap0_at (x : Vec Ideal S1x1024 .f32) (l : Fin 1024) :
    k0_pay23 (F := Ideal)
      (k0_pay9 (grid0.coords t) (iblk m c 1 t) (iblk m c 2 t) (iblk m c 3 t) (iblk m c 4 t))
      (k0_pay14 (k0_pay2 (iblk m c 0 t)) (k0_pay5 (iblk m c 5 t))) x (ix2 0 l)
      = x (ix2 0 l) + ∑ r : Fin 512, term (argZ m c) (argD m c) 0 (512 * t.val + r.val) l := by
  trans x (ix2 0 l) + ∑ r : Fin 512, k0_pay14 (F := Ideal) (k0_pay2 (iblk m c 0 t)) (k0_pay5 (iblk m c 5 t)) (ix2 r l)
      * k0_pay9 (grid0.coords t) (iblk m c 1 t) (iblk m c 2 t) (iblk m c 3 t) (iblk m c 4 t) (ix2 r l)
  · pointwise [k0_pay23]
  · congr 1
    exact Finset.sum_congr rfl fun r _ => by rw [pay14_at, pay9_at]; exact (if_pos (by omega)).symm

end Cert.ConvIdeal.Hand

end
-- ==== Proof.Conv.Out.lean ====
/-
  What the convolution kernel leaves in its two output windows at each grid point, and so in its two result arrays.
-/
module

public import proofs.«01_k».proof.Proof.Conv.Tile
public import Idealize.ShloMosaic.Lib.WritesUnit

@[expose] public section

set_option maxRecDepth 16384

noncomputable section

namespace Cert.ConvIdeal.Hand

open Cert.ConvIdeal Cert.ConvIdeal.Gen Idealize.ShloMosaic Idealize.ShloMosaic.TcCoe Idealize.SL.Sem
open Cert.GatedConv

variable (m : (ℓ : Loc nD τ sig) → Buf (Elt Ideal) ℓ) (c : Dev nD) (t : Fin cfg0.N)

theorem hz : (![0, 0] : Fin 2 → Nat) = fun _ => 0 := by funext a; fin_cases a <;> rfl

/-- Three column thirds written into a block, read at an index. -/
theorem read_thirds {Val : EltTy → Type} {e : EltTy} (v : View sig .tc .vmem S512x3072 e) (f : v.ty.Contents Val) (P2 P1 P0 : S512x1024.Idx → Val e) (i2 i1 i0)
    (r : Fin 512) (k : Fin 3072) :
    v.read Val (v.writes Val f
      [⟨Rect.unit (s := S512x3072) ![0, 2048] ![512, 1024] i2, P2⟩, ⟨Rect.unit (s := S512x3072) ![0, 1024] ![512, 1024] i1, P1⟩,
        ⟨Rect.unit (s := S512x3072) ![0, 0] ![512, 1024] i0, P0⟩]) (ix2 r k)
      = if h : k.val < 1024 then P0 (ix2 r ⟨k.val, h⟩)
        else if h' : k.val < 2048 then P1 (ix2 r ⟨k.val - 1024, by omega⟩)
        else P2 (ix2 r ⟨k.val - 2048, by omega⟩) := by
  by_cases h : k.val < 1024
  · rw [dif_pos h, View.read_writes_cons_unit_of_not_mem v f i2 P2 _ (ix2 r k) rfl 1 (.inl (by show k.val < 2048; omega)),
      View.read_writes_cons_unit_of_not_mem v f i1 P1 _ (ix2 r k) rfl 1 (.inl (by show k.val < 1024; omega))]
    exact View.read_writes_cons_unit_of_mem v f i0 P0 _ (ix2 r k) (ix2 r ⟨k.val, h⟩) rfl
      (Fin.forall_fin_two.mpr ⟨(Nat.zero_add _).symm, (Nat.zero_add _).symm⟩)
  · rw [dif_neg h]
    by_cases h' : k.val < 2048
    · rw [dif_pos h', View.read_writes_cons_unit_of_not_mem v f i2 P2 _ (ix2 r k) rfl 1 (.inl (by show k.val < 2048; omega))]
      exact View.read_writes_cons_unit_of_mem v f i1 P1 _ (ix2 r k) (ix2 r ⟨k.val - 1024, by omega⟩) rfl
        (Fin.forall_fin_two.mpr ⟨(Nat.zero_add _).symm, by show k.val = 1024 + (k.val - 1024); omega⟩)
    · rw [dif_neg h']
      exact View.read_writes_cons_unit_of_mem v f i2 P2 _ (ix2 r k) (ix2 r ⟨k.val - 2048, by omega⟩) rfl
        (Fin.forall_fin_two.mpr ⟨(Nat.zero_add _).symm, by show k.val = 2048 + (k.val - 2048); omega⟩)

/-- The first window ends each point holding its rows of the gradient of `z`. -/
theorem out9_at (r : Fin 512) (k : Fin 3072) (n : Fin 4096) (hn : n.val = 512 * t.val + r.val) :
    (outsAt0 m c t.val t.isLt).1 (ix2 r k) = dz (argZ m c) (argD m c) (argW m c) (ix2 n k) := by
  have key : ∀ P0 P1 P2 : S512x1024.Idx → EReal,
      (∀ l, P0 (ix2 r l) = argD m c (ix2 n l) * cv (argZ m c) (argW m c) n.val l) →
      (∀ l, P1 (ix2 r l) = du (argZ m c) (argD m c) (argW m c) n.val l * argZ m c (ix2 n ⟨2048 + l.val, by omega⟩)) →
      (∀ l, P2 (ix2 r l) = du (argZ m c) (argD m c) (argW m c) n.val l * argZ m c (ix2 n ⟨1024 + l.val, by omega⟩)) →
      (if h : k.val < 1024 then P0 (ix2 r ⟨k.val, h⟩)
        else if h' : k.val < 2048 then P1 (ix2 r ⟨k.val - 1024, by omega⟩)
        else P2 (ix2 r ⟨k.val - 2048, by omega⟩)) = dz (argZ m c) (argD m c) (argW m c) (ix2 n k) := by
    intro P0 P1 P2 h0 h1 h2
    by_cases h : k.val < 1024
    · rw [dif_pos h, h0, dz_first _ _ _ _ _ h]
    · rw [dif_neg h]
      by_cases h' : k.val < 2048
      · rw [dif_pos h', h1, dz_second _ _ _ _ _ h h']
      · rw [dif_neg h', h2, dz_third _ _ _ _ _ h']
  refine Eq.trans ?_ (key _ _ _ (fun l => dz0_at m c t inb_S8x1024_S1x1024_0_0 inb_S8x1024_S1x1024_1_0
      inb_S8x1024_S1x1024_2_0 r l n hn)
    (fun l => dz1_at m c t inb_S8x1024_S1x1024_0_0 inb_S8x1024_S1x1024_1_0 inb_S8x1024_S1x1024_2_0 r l n hn _ rfl)
    (fun l => dz2_at m c t inb_S8x1024_S1x1024_0_0 inb_S8x1024_S1x1024_1_0 inb_S8x1024_S1x1024_2_0 r l n hn _ rfl))
  by_cases h0 : t.val % 8 = 0
  · rw [outsAt0_A m c t h0]; dsimp only; unfold out0_A_9 kernelRun0_A; dsimp only; sl_unfold_words
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread,
      View.ld_unit_zero (S := S512x1024) hz, View.ld_unit_zero (S := S8x1024) hz]
    exact read_thirds _ _ _ _ _ _ _ _ r k
  · rw [outsAt0_B m c t h0]; dsimp only; unfold out0_B_9 kernelRun0_B; dsimp only; sl_unfold_words
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (hs0_8 t).read_unread,
      View.ld_unit_zero (S := S512x1024) hz, View.ld_unit_zero (S := S8x1024) hz]
    exact read_thirds _ _ _ _ _ _ _ _ r k

/-- One row written over a block of eight, read at that row and at another. -/
theorem read_row_eq (v : View sig .tc .vmem S8x1024 .f32) (f : v.ty.Contents (Elt Ideal)) (k : ℕ) (P : S1x1024.Idx → EReal) (i) (L)
    (j : Fin 8) (l : Fin 1024) (h : j.val = k) :
    v.read (Elt Ideal) (v.writes (Elt Ideal) f (⟨Rect.unit (s := S8x1024) ![k, 0] ![1, 1024] i, P⟩ :: L)) (ix2 j l) = P (ix2 0 l) :=
  View.read_writes_cons_rows_of_mem v f i P L (ix2 j l) (ix2 0 l) rfl h rfl

theorem read_row_ne (v : View sig .tc .vmem S8x1024 .f32) (f : v.ty.Contents (Elt Ideal)) (k : ℕ) (P : S1x1024.Idx → EReal) (i) (L)
    (j : Fin 8) (l : Fin 1024) (h : j.val ≠ k) :
    v.read (Elt Ideal) (v.writes (Elt Ideal) f (⟨Rect.unit (s := S8x1024) ![k, 0] ![1, 1024] i, P⟩ :: L)) (ix2 j l)
      = v.read (Elt Ideal) (v.writes (Elt Ideal) f L) (ix2 j l) :=
  View.read_writes_cons_rows_of_not_mem v f i P L (ix2 j l) rfl rfl (by show j.val < k ∨ k + 1 ≤ j.val; omega)

/-- The block of zeros a first point starts from. -/
theorem read_zeros (v : View sig .tc .vmem S8x1024 .f32) (f : v.ty.Contents (Elt Ideal)) (i) (j : Fin 8) (l : Fin 1024) :
    v.read (Elt Ideal) (v.writes (Elt Ideal) f [⟨Rect.unit (s := S8x1024) ![0, 0] ![8, 1024] i, k0_pay22 (F := Ideal)⟩]) (ix2 j l)
      = (0 : EReal) := by
  rw [View.read_writes_cons_rows_of_mem v f i (k0_pay22 (F := Ideal)) [] (ix2 j l) (ix2 j l) rfl (Nat.zero_add _).symm rfl]
  pointwise [k0_pay22]

/-- A row loaded back from what was written. -/
theorem load_row (v : View sig .tc .vmem S8x1024 .f32) (L) (k : ℕ) (hk : k < 8) (i) (l : Fin 1024) :
    v.readCov (Val := Elt Ideal) L (Rect.unit (s := S8x1024) ![k, 0] ![1, 1024] i).toLoadRect (ix2 0 l : S1x1024.Idx)
      = v.read (Elt Ideal) (v.writes (Elt Ideal) v.junk L) (ix2 (⟨k, hk⟩ : Fin 8) l) :=
  row_at (v.read (Elt Ideal) (v.writes (Elt Ideal) v.junk L)) k hk i l

theorem sum_term_pad (j N : ℕ) (hj : ¬j < 3) (l : Fin 1024) :
    ∑ r : Fin 512, term (argZ m c) (argD m c) j (N + r.val) l = 0 :=
  Finset.sum_eq_zero fun _ _ => if_neg hj

/-- The second window after the first point: the first block's sums. -/
theorem out10_A (j : Fin 8) (l : Fin 1024) (h0 : t.val % 8 = 0) :
    (outsAt0 m c t.val t.isLt).2 (ix2 j l) = ∑ r : Fin 512, term (argZ m c) (argD m c) j.val (512 * t.val + r.val) l := by
  generalize hR : ∑ r : Fin 512, term (argZ m c) (argD m c) j.val (512 * t.val + r.val) l = R
  rw [outsAt0_A m c t h0]; dsimp only; unfold out0_A_10 kernelRun0_A; dsimp only; sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_10 t).read_unread, View.ld_unit_zero (S := S512x1024) hz, View.ld_unit_zero (S := S8x1024) hz]
  by_cases e2 : j.val = 2
  · rw [read_row_eq _ _ 2 _ _ _ j l e2, tap2_at, load_row _ _ 2 (by decide), read_row_ne _ _ 1 _ _ _ _ l (by decide),
      read_row_ne _ _ 0 _ _ _ _ l (by decide), read_zeros, zero_add, ← hR, e2]
  rw [read_row_ne _ _ 2 _ _ _ j l e2]
  by_cases e1 : j.val = 1
  · rw [read_row_eq _ _ 1 _ _ _ j l e1, tap1_at, load_row _ _ 1 (by decide),
      read_row_ne _ _ 0 _ _ _ _ l (by decide), read_zeros, zero_add, ← hR, e1]
  rw [read_row_ne _ _ 1 _ _ _ j l e1]
  by_cases e0 : j.val = 0
  · rw [read_row_eq _ _ 0 _ _ _ j l e0, tap0_at, load_row _ _ 0 (by decide), read_zeros, zero_add, ← hR, e0]
  rw [read_row_ne _ _ 0 _ _ _ j l e0, read_zeros, ← hR]
  exact (sum_term_pad m c j.val _ (by omega) l).symm

/-- The second window after a later point: the block's sums added to what the point before left. -/
theorem out10_B (j : Fin 8) (l : Fin 1024) (h0 : ¬t.val % 8 = 0) :
    (outsAt0 m c t.val t.isLt).2 (ix2 j l)
      = (outsAt0 m c (t.val - 1) (Nat.lt_of_le_of_lt (Nat.sub_le _ _) t.isLt)).2 (ix2 j l)
        + ∑ r : Fin 512, term (argZ m c) (argD m c) j.val (512 * t.val + r.val) l := by
  generalize hR : ∑ r : Fin 512, term (argZ m c) (argD m c) j.val (512 * t.val + r.val) l = R
  rw [outsAt0_B m c t h0]; dsimp only; unfold out0_B_10 kernelRun0_B; dsimp only; sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_10 t).read_unread, View.ld_unit_zero (S := S512x1024) hz, View.ld_unit_zero (S := S8x1024) hz]
  by_cases e2 : j.val = 2
  · rw [read_row_eq _ _ 2 _ _ _ j l e2, tap2_at, row_at _ 2 (by decide), ← hR, e2]
    rw [show (⟨2, by decide⟩ : Fin 8) = j from Fin.ext e2.symm]
  rw [read_row_ne _ _ 2 _ _ _ j l e2]
  by_cases e1 : j.val = 1
  · rw [read_row_eq _ _ 1 _ _ _ j l e1, tap1_at, row_at _ 1 (by decide), ← hR, e1]
    rw [show (⟨1, by decide⟩ : Fin 8) = j from Fin.ext e1.symm]
  rw [read_row_ne _ _ 1 _ _ _ j l e1]
  by_cases e0 : j.val = 0
  · rw [read_row_eq _ _ 0 _ _ _ j l e0, tap0_at, row_at _ 0 (by decide), ← hR, e0]
    rw [show (⟨0, by decide⟩ : Fin 8) = j from Fin.ext e0.symm]
  rw [read_row_ne _ _ 0 _ _ _ j l e0, ← hR, sum_term_pad m c j.val _ (by omega) l, add_zero]
  show View.read _ _ (Memref.IsWhole.unread _ _) _ = _
  rw [(hs0_10 t).read_unread]

/-- So after each point it holds the sums over every row so far. -/
theorem out10_at : ∀ (n : ℕ) (h : n < cfg0.N) (j : Fin 8) (l : Fin 1024),
    (outsAt0 m c n h).2 (ix2 j l) = partialDw (argZ m c) (argD m c) (512 * (n + 1)) j.val l
  | 0, h, j, l => by
    rw [out10_A m c ⟨0, h⟩ j l rfl, show 512 * (0 + 1) = 0 + 512 from rfl, partialDw_add, partialDw_zero, zero_add]
    rfl
  | n + 1, h, j, l => by
    have hN : n + 1 < 8 := lt_of_lt_of_eq h N_0
    rw [out10_B m c ⟨n + 1, h⟩ j l (by dsimp only; omega)]
    show (outsAt0 m c n _).2 (ix2 j l) + _ = _
    rw [out10_at n _ j l, show 512 * (n + 1 + 1) = 512 * (n + 1) + 512 by omega, partialDw_add]

/-! ## The result arrays -/

/-- The first result array is the gradient of `z`: every row is in exactly one written-back block. -/
theorem final9 : (dats m 0 c).arrAt 9 cfg0.N = dz (argZ m c) (argD m c) (argW m c) := by
  refine (dats m 0 c).arrAt_eq_of_cover 9 (dz (argZ m c) (argD m c) (argW m c)) (fun t _ => ?_) fun i => ?_
  · obtain ⟨e0, e1⟩ := (index_main t).2.2.2.2
    have ht := lt8 t
    rw [Value.flushed9]
    funext x
    obtain ⟨r, k, rfl⟩ : ∃ (r : Fin 512) (k : Fin 3072), x = ix2 r k := ⟨x 0, x 1, eq_ix2 x⟩
    refine (out9_at m c t r k ⟨512 * t.val + r.val, by omega⟩ rfl).trans ?_
    rw [View.read_apply]
    show dz (argZ m c) (argD m c) (argW m c) _ = dz (argZ m c) (argD m c) (argW m c) _
    refine entry_congr (dz (argZ m c) (argD m c) (argW m c)) ?_ ?_
    · show 512 * t.val + r.val = win0_9.index t 0 * 512 + 1 * r.val
      rw [e0]; omega
    · show k.val = win0_9.index t 1 * 3072 + 1 * k.val
      rw [e1]; omega
  · have h0 : (i 0 : Nat) < 4096 := (i 0).isLt
    have h1 : (i 1 : Nat) < 3072 := (i 1).isLt
    obtain ⟨t, ht⟩ : ∃ t : Fin cfg0.N, t.val = (i 0 : Nat) / 512 :=
      ⟨⟨(i 0 : Nat) / 512, by rw [show cfg0.N = 8 from N_0]; omega⟩, rfl⟩
    refine ⟨t, flush0_9 t, ?_⟩
    obtain ⟨e0, e1⟩ := (index_main t).2.2.2.2
    show i ∈ ((View.whole main_v1_0).slice (win0_9.rect t)).set
    rw [View.set_slice_whole, Rect.mem_set_unit]
    intro a
    match a with
    | ⟨0, _⟩ =>
      show win0_9.index t 0 * 512 ≤ (i 0 : Nat) ∧ (i 0 : Nat) < win0_9.index t 0 * 512 + 512
      rw [e0]; omega
    | ⟨1, _⟩ =>
      show win0_9.index t 1 * 3072 ≤ (i 1 : Nat) ∧ (i 1 : Nat) < win0_9.index t 1 * 3072 + 3072
      rw [e1]; omega

/-- The second result array is written back once, after the last point: the gradient of the taps. -/
theorem final10 : (dats m 0 c).arrAt 10 cfg0.N = dw (argZ m c) (argD m c) := by
  refine (dats m 0 c).arrAt_eq_of_cover 10 (dw (argZ m c) (argD m c)) (fun t hf => ?_) fun i => ?_
  · obtain ⟨e0, e1⟩ := (index_halo t).2.2.2.2.2
    have ht := lt8 t
    have h7 : t.val = 7 := by have := (flush0_10 t).mp hf; omega
    rw [Value.flushed10]
    funext x
    obtain ⟨j, l, rfl⟩ : ∃ (j : Fin 8) (l : Fin 1024), x = ix2 j l := ⟨x 0, x 1, eq_ix2 x⟩
    refine (out10_at m c t.val t.isLt j l).trans ?_
    rw [h7, View.read_apply]
    show dw (argZ m c) (argD m c) (ix2 j l) = dw (argZ m c) (argD m c) _
    refine entry_congr (dw (argZ m c) (argD m c)) ?_ ?_
    · show j.val = win0_10.index t 0 * 8 + 1 * j.val
      rw [e0]; omega
    · show l.val = win0_10.index t 1 * 1024 + 1 * l.val
      rw [e1]; omega
  · have h0 : (i 0 : Nat) < 8 := (i 0).isLt
    have h1 : (i 1 : Nat) < 1024 := (i 1).isLt
    obtain ⟨t, ht⟩ : ∃ t : Fin cfg0.N, t.val = 7 := ⟨⟨7, by rw [show cfg0.N = 8 from N_0]; omega⟩, rfl⟩
    refine ⟨t, (flush0_10 t).mpr (by omega), ?_⟩
    obtain ⟨e0, e1⟩ := (index_halo t).2.2.2.2.2
    show i ∈ ((View.whole main_v1_1).slice (win0_10.rect t)).set
    rw [View.set_slice_whole, Rect.mem_set_unit]
    intro a
    match a with
    | ⟨0, _⟩ =>
      show win0_10.index t 0 * 8 ≤ (i 0 : Nat) ∧ (i 0 : Nat) < win0_10.index t 0 * 8 + 8
      rw [e0]; omega
    | ⟨1, _⟩ =>
      show win0_10.index t 1 * 1024 ≤ (i 1 : Nat) ∧ (i 1 : Nat) < win0_10.index t 1 * 1024 + 1024
      rw [e1]; omega

end Cert.ConvIdeal.Hand

end
-- ==== Proof.Conv.Reference.lean ====
/-
  The host reference of the gated causal convolution's gradient, read at an index: its two results are the plain
  functions of Conv/Spec.lean.
-/
module

public import proofs.«01_k».proof.Proof.Conv.Spec
public import proofs.«01_k».proof.Proof.Gen.ConvRefIdeal.Read
public import Idealize.ShloMosaic.Lib.Tactic
public import Idealize.ShloMosaic.Lib.Pointwise
public import Idealize.ShloMosaic.Lib.KernelVsHost

@[expose] public section

set_option maxRecDepth 16384

noncomputable section

namespace Cert.ConvRefIdeal.Hand

open Cert.ConvRefIdeal Cert.ConvRefIdeal.Gen Cert.ConvRefIdeal.Read Idealize.ShloMosaic Idealize.ShloMosaic.TcCoe
open Idealize.SL.Sem Cert.GatedConv

variable (z : Z) (d : D) (w : W)

/-- The gated input. -/
theorem u_at (r : Fin 4096) (l : Fin 1024) : val_main_v4 (F := Ideal) z (ix2 r l) = u z r.val l := by
  rw [u_of_lt z r.isLt]
  pointwise [val_main_v4, val_main_v3, val_main_v2, val_main_v0]

/-- The padded past holds the gated input two rows back. -/
theorem past_at (n : Fin 4098) (l : Fin 1024) : val_main_v6 (F := Ideal) z (ix2 n l) = back z n.val 2 l := by
  by_cases h : n.val < 2
  · rw [back_of_gt z (by omega)]
    pointwise [val_main_v6, val_main_v5, val_main_cst]
    exact dif_pos h
  · rw [back_of_le z (by omega), ← u_at z ⟨n.val - 2, by omega⟩ l]
    pointwise [val_main_v6]
    exact dif_neg h

theorem v9_at (r : Fin 4096) (l : Fin 1024) : val_main_v9 (F := Ideal) z (ix2 r l) = back z r.val 2 l := by
  pointwise [val_main_v9]
  exact past_at z ⟨r.val, by omega⟩ l

theorem v15_at (r : Fin 4096) (l : Fin 1024) : val_main_v15 (F := Ideal) z (ix2 r l) = back z r.val 1 l := by
  pointwise [val_main_v15]
  rw [past_at z ⟨1 + r.val, by omega⟩ l]
  unfold back
  simp only [show (2 ≤ 1 + r.val) = (1 ≤ r.val) from propext ⟨fun _ => by omega, fun _ => by omega⟩,
    show 1 + r.val - 2 = r.val - 1 by omega]

theorem v20_at (r : Fin 4096) (l : Fin 1024) : val_main_v20 (F := Ideal) z (ix2 r l) = u z r.val l := by
  pointwise [val_main_v20]
  rw [past_at z ⟨2 + r.val, by omega⟩ l, back_of_le z (by dsimp only; omega)]
  simp only [show 2 + r.val - 2 = r.val by omega]

/-- The convolution. -/
theorem cv_at (r : Fin 4096) (l : Fin 1024) : val_main_v23 (F := Ideal) z w (ix2 r l) = cv z w r.val l := by
  unfold cv
  rw [← v9_at z r l, ← v15_at z r l, ← v20_at z r l]
  pointwise [val_main_v23, val_main_v22, val_main_v21, val_main_v19, val_main_v18, val_main_v17, val_main_v16,
    val_main_v14, val_main_v13, val_main_v12, val_main_v11, val_main_v10, val_main_v8, val_main_cst_1]

/-- The gradient of the convolution's result. -/
theorem g_at (r : Fin 4096) (l : Fin 1024) : val_main_v26 (F := Ideal) z d (ix2 r l) = g z d r.val l := by
  rw [g_of_lt z d r.isLt, mul_comm]
  pointwise [val_main_v26, val_main_v25, val_main_v1, val_main_v0]

theorem v29_at (r : Fin 4096) (l : Fin 1024) :
    val_main_v29 (F := Ideal) z d w (ix2 r l) = w (ix2 2 l) * g z d r.val l := by
  rw [← g_at z d r l]
  pointwise [val_main_v29, val_main_v28, val_main_v19]

theorem v36_at (r : Fin 4096) (l : Fin 1024) :
    val_main_v36 (F := Ideal) z d w (ix2 r l) = w (ix2 1 l) * g z d r.val l := by
  rw [← g_at z d r l]
  pointwise [val_main_v36, val_main_v35, val_main_v14]

theorem v45_at (r : Fin 4096) (l : Fin 1024) :
    val_main_v45 (F := Ideal) z d w (ix2 r l) = w (ix2 0 l) * g z d r.val l := by
  rw [← g_at z d r l]
  pointwise [val_main_v45, val_main_v44, val_main_v8]

/-- The three tap products, moved to the row of the padded past they came from. -/
theorem v33_at (r : Fin 4096) (l : Fin 1024) (hn : 2 + r.val < 4098) :
    val_main_v33 (F := Ideal) z d w (ix2 ⟨2 + r.val, hn⟩ l) = w (ix2 2 l) * g z d r.val l := by
  rw [← v29_at z d w r l]
  pointwise [val_main_v33]

theorem v40_at (r : Fin 4096) (l : Fin 1024) (hn : 2 + r.val < 4098) :
    val_main_v40 (F := Ideal) z d w (ix2 ⟨2 + r.val, hn⟩ l) = w (ix2 1 l) * g z d (r.val + 1) l := by
  by_cases h : r.val + 1 < 4096
  · rw [← v36_at z d w ⟨r.val + 1, h⟩ l]
    pointwise [val_main_v40]
    rw [dif_pos (by omega)]
    congr 2
    exact Fin.ext (by dsimp only; omega)
  · rw [g_of_ge z d h, mul_zero]
    pointwise [val_main_v40, val_main_cst_6]
    exact dif_neg (by omega)

theorem v49_at (r : Fin 4096) (l : Fin 1024) (hn : 2 + r.val < 4098) :
    val_main_v49 (F := Ideal) z d w (ix2 ⟨2 + r.val, hn⟩ l) = w (ix2 0 l) * g z d (r.val + 2) l := by
  by_cases h : r.val + 2 < 4096
  · rw [← v45_at z d w ⟨r.val + 2, h⟩ l]
    pointwise [val_main_v49]
    rw [dif_pos (by omega)]
    congr 2
    exact Fin.ext (by dsimp only; omega)
  · rw [g_of_ge z d h, mul_zero]
    pointwise [val_main_v49, val_main_cst_9]
    exact dif_neg (by omega)

/-- The gradient of the gated input. -/
theorem du_at (r : Fin 4096) (l : Fin 1024) : val_main_v54 (F := Ideal) z d w (ix2 r l) = du z d w r.val l := by
  unfold du
  rw [← v33_at z d w r l (by omega), ← v40_at z d w r l (by omega),
    ← v49_at z d w r l (by omega)]
  pointwise [val_main_v54, val_main_v50, val_main_v41]

theorem v27_at (r : Fin 4096) (l : Fin 1024) :
    val_main_v27 (F := Ideal) z d w (ix2 r l) = d (ix2 r l) * cv z w r.val l := by
  rw [← cv_at z w r l]
  pointwise [val_main_v27, val_main_v25]

theorem v56_at (r : Fin 4096) (l : Fin 1024) :
    val_main_v56 (F := Ideal) z d w (ix2 r l) = du z d w r.val l * z (ix2 r ⟨2048 + l.val, by omega⟩) := by
  rw [← du_at z d w r l]
  pointwise [val_main_v56, val_main_v3, val_main_v0]

theorem v55_at (r : Fin 4096) (l : Fin 1024) :
    val_main_v55 (F := Ideal) z d w (ix2 r l) = du z d w r.val l * z (ix2 r ⟨1024 + l.val, by omega⟩) := by
  rw [← du_at z d w r l, mul_comm]
  pointwise [val_main_v55, val_main_v2, val_main_v0]

/-- The first result is the gradient of `z`. -/
theorem dz_eq : val_main_v58 (F := Ideal) z d w = dz z d w := by
  funext i
  obtain ⟨r, l, rfl⟩ : ∃ (r : Fin 4096) (l : Fin 3072), i = ix2 r l := ⟨i 0, i 1, eq_ix2 i⟩
  by_cases h : l.val < 1024
  · rw [dz_first z d w r l h, ← v27_at z d w r ⟨l.val, h⟩]
    pointwise [val_main_v58, val_main_v57]
    exact dif_pos h
  · by_cases h' : l.val < 2048
    · rw [dz_second z d w r l h h', ← v56_at z d w r ⟨l.val - 1024, by omega⟩]
      pointwise [val_main_v58, val_main_v57]
      exact (dif_neg h).trans (dif_pos (by omega))
    · rw [dz_third z d w r l h', ← v55_at z d w r ⟨l.val - 2048, by omega⟩]
      pointwise [val_main_v58, val_main_v57]
      refine (dif_neg (by omega)).trans ((dif_neg (by omega)).trans ?_)
      congr 2

/-- The three sums over the rows. -/
theorem v31_at (l : Fin 1024) : val_main_v31 (F := Ideal) z d (ix1 l) = partialDw z d 4096 2 l := by
  unfold partialDw
  rw [Finset.sum_range]
  trans ∑ x : Fin 4096, val_main_v26 (F := Ideal) z d (ix2 x l) * val_main_v20 (F := Ideal) z (ix2 x l)
  · pointwise [val_main_v31, val_main_v30, val_main_cst_2]
  · exact Finset.sum_congr rfl fun x _ => by
      rw [g_at, v20_at]; exact (congrArg _ (back_zero z x.val l).symm).trans (if_pos (by omega)).symm

theorem v38_at (l : Fin 1024) : val_main_v38 (F := Ideal) z d (ix1 l) = partialDw z d 4096 1 l := by
  unfold partialDw
  rw [Finset.sum_range]
  trans ∑ x : Fin 4096, val_main_v26 (F := Ideal) z d (ix2 x l) * val_main_v15 (F := Ideal) z (ix2 x l)
  · pointwise [val_main_v38, val_main_v37, val_main_cst_5]
  · exact Finset.sum_congr rfl fun x _ => by
      rw [g_at, v15_at]; exact (if_pos (by omega)).symm

theorem v47_at (l : Fin 1024) : val_main_v47 (F := Ideal) z d (ix1 l) = partialDw z d 4096 0 l := by
  unfold partialDw
  rw [Finset.sum_range]
  trans ∑ x : Fin 4096, val_main_v26 (F := Ideal) z d (ix2 x l) * val_main_v9 (F := Ideal) z (ix2 x l)
  · pointwise [val_main_v47, val_main_v46, val_main_cst_8]
  · exact Finset.sum_congr rfl fun x _ => by
      rw [g_at, v9_at]; exact (if_pos (by omega)).symm

theorem v52_at (j : Fin 3) (l : Fin 1024) : val_main_v52 (F := Ideal) z d (ix2 j l) = partialDw z d 4096 j.val l := by
  fin_cases j
  · show _ = partialDw z d 4096 0 l
    rw [← v47_at]
    pointwise [val_main_v52, val_main_v43, val_main_v34, val_main_v42, val_main_v51, val_main_v48, val_main_v39,
      val_main_v32, val_main_cst_4, val_main_cst_7, val_main_cst_10]
  · show _ = partialDw z d 4096 1 l
    rw [← v38_at]
    pointwise [val_main_v52, val_main_v43, val_main_v34, val_main_v42, val_main_v51, val_main_v48, val_main_v39,
      val_main_v32, val_main_cst_4, val_main_cst_7, val_main_cst_10]
  · show _ = partialDw z d 4096 2 l
    rw [← v31_at]
    pointwise [val_main_v52, val_main_v43, val_main_v34, val_main_v42, val_main_v51, val_main_v48, val_main_v39,
      val_main_v32, val_main_cst_4, val_main_cst_7, val_main_cst_10]

/-- The second result is the gradient of the taps. -/
theorem dw_eq : val_main_v59 (F := Ideal) z d = dw z d := by
  funext i
  obtain ⟨j, l, rfl⟩ : ∃ (j : Fin 8) (l : Fin 1024), i = ix2 j l := ⟨i 0, i 1, eq_ix2 i⟩
  show _ = partialDw z d 4096 j.val l
  by_cases h : j.val < 3
  · rw [← v52_at z d ⟨j.val, h⟩ l]
    pointwise [val_main_v59]
    exact dif_pos h
  · rw [partialDw_pad z d h]
    pointwise [val_main_v59, val_main_call0_v0]
    refine (dif_neg h).trans ?_
    show ((((0#32 : BitVec 32).toInt : ℤ) : ℝ) : EReal) = 0
    norm_num

end Cert.ConvRefIdeal.Hand

end
-- ==== Proof.Conv.Claims.lean ====
/-
  The claims about the gated convolution's gradient: the three frames and the equality of both results with the
  host reference's.
-/
module

public import proofs.«01_k».proof.Defs
public import proofs.«01_k».proof.Proof.Conv.Out
public import proofs.«01_k».proof.Proof.Conv.Reference
public import proofs.«01_k».proof.Proof.Gen.Conv.Frame
public import proofs.«01_k».proof.Proof.Gen.ConvIdeal.Frame
public import proofs.«01_k».proof.Proof.Gen.ConvIdeal.Value
public import proofs.«01_k».proof.Proof.Gen.ConvRefIdeal.Run
public import proofs.«01_k».proof.Proof.Gen.ConvRefIdeal.Read

@[expose] public section

set_option maxRecDepth 16384

noncomputable section

namespace Cert.ConvClaims

open Idealize.ShloMosaic Idealize.ShloMosaic.TcCoe Idealize.SL.Sem Cert.GatedConv

instance : Cert.Conv.Facts := Cert.Conv.Gen.facts
instance : Cert.ConvIdeal.Facts := Cert.ConvIdeal.Gen.facts
instance : Cert.ConvRefIdeal.Facts := Cert.ConvRefIdeal.Gen.facts

theorem frame : Cert.quiescent_Conv := fun m g _ => Cert.Conv.Gen.frame m g

theorem frame_ideal : Cert.quiescent_ConvIdeal := fun m g _ => Cert.ConvIdeal.Gen.frame m g

/-- The host program has no semaphore, so its counters cannot be anything but zero. -/
theorem frame_reference : Cert.quiescent_ConvRefIdeal := fun m g _ =>
  (θ_run Cert.ConvRefIdeal.defs _ _).mono
    (fun r h => ⟨fun c => (h c).2.2, sem_eq_zero_of_no_sems (by decide) r.2⟩)
    (Cert.ConvRefIdeal.Value.run (F := Ideal) m g)

/-- Kernel and reference both end at the gradient of the gated convolution with respect to its input and its taps. -/
theorem value : Cert.algebraic_ConvIdeal_ConvRefIdeal := fun m g m' g' _ hargs =>
  ⟨fun c => dz (ConvIdeal.Hand.argZ m c) (ConvIdeal.Hand.argD m c) (ConvIdeal.Hand.argW m c),
   fun c => dw (ConvIdeal.Hand.argZ m c) (ConvIdeal.Hand.argD m c),
   (θ_run Cert.ConvIdeal.defs _ _).mono
    (fun _ h c => ⟨(h c).1.trans (ConvIdeal.Hand.final9 m c), (h c).2.1.trans (ConvIdeal.Hand.final10 m c), (h c).2.2⟩)
    (Cert.ConvIdeal.Value.run_blocks (F := Ideal) m g),
   (θ_run Cert.ConvRefIdeal.defs _ _).mono
    (fun _ h c => ⟨(h c).1.trans ((ConvRefIdeal.Read.val_main_v58_eq m' c).trans
        ((ConvRefIdeal.Hand.dz_eq _ _ _).trans
          (by rw [(hargs c).1, (hargs c).2.1, (hargs c).2.2]))),
      (h c).2.1.trans ((ConvRefIdeal.Hand.dw_eq _ _).trans (by rw [(hargs c).1, (hargs c).2.1])), (h c).2.2⟩)
    (Cert.ConvRefIdeal.Value.run (F := Ideal) m' g')⟩

end Cert.ConvClaims

end
-- ==== Proof.Product.Spec.lean ====
/-
  What the products' gradients are, entry by entry, and what reading a block of an array by its coordinates takes.
-/
module

public import Idealize.ShloMosaic.Lib.ValueIdx
public import Idealize.ShloMosaic.Lib.Pointwise

@[expose] public section

noncomputable section

namespace Cert.Product

open Idealize.ShloMosaic

/-- The offsets of an access to a whole array of two or three axes. -/
theorem hz2 : (![0, 0] : Fin 2 → Nat) = fun _ => 0 := by funext a; fin_cases a <;> rfl
theorem hz3 : (![0, 0, 0] : Fin 3 → Nat) = fun _ => 0 := by funext a; fin_cases a <;> rfl

/-- Two entries of one array agree when their coordinates do: two axes, three axes, four. -/
theorem entry2 {α : Type} {s : Fin 2 → ℕ} (x : (⟨2, s⟩ : Shape).Idx → α) {i j : (⟨2, s⟩ : Shape).Idx}
    (h0 : (i 0).val = (j 0).val) (h1 : (i 1).val = (j 1).val) : x i = x j :=
  congrArg x (funext fun a => Fin.ext (match a with | ⟨0, _⟩ => h0 | ⟨1, _⟩ => h1))

theorem entry3 {α : Type} {s : Fin 3 → ℕ} (x : (⟨3, s⟩ : Shape).Idx → α) {i j : (⟨3, s⟩ : Shape).Idx}
    (h0 : (i 0).val = (j 0).val) (h1 : (i 1).val = (j 1).val) (h2 : (i 2).val = (j 2).val) : x i = x j :=
  congrArg x (funext fun a => Fin.ext (match a with | ⟨0, _⟩ => h0 | ⟨1, _⟩ => h1 | ⟨2, _⟩ => h2))

theorem entry4 {α : Type} {s : Fin 4 → ℕ} (x : (⟨4, s⟩ : Shape).Idx → α) {i j : (⟨4, s⟩ : Shape).Idx}
    (h0 : (i 0).val = (j 0).val) (h1 : (i 1).val = (j 1).val) (h2 : (i 2).val = (j 2).val)
    (h3 : (i 3).val = (j 3).val) : x i = x j :=
  congrArg x (funext fun a => Fin.ext (match a with | ⟨0, _⟩ => h0 | ⟨1, _⟩ => h1 | ⟨2, _⟩ => h2 | ⟨3, _⟩ => h3))

/-- The matrices of the ideal instance. -/
abbrev Mat (R C : ℕ) := (⟨2, ![R, C]⟩ : Shape).Idx → EReal

/-- The product `x @ w`. -/
def prod {R C K : ℕ} (x : Mat R K) (w : Mat K C) : Mat R C :=
  fun i => ∑ k : Fin K, x (ix2 (n0 := R) (i 0) k) * w (ix2 (n1 := C) k (i 1))

/-- The gradient of `x @ w` with respect to `x`: rows of `dy` against rows of `w`. -/
def dx {R C K : ℕ} (dy : Mat R K) (w : Mat C K) : Mat R C :=
  fun i => ∑ k : Fin K, dy (ix2 (n0 := R) (i 0) k) * w (ix2 (n0 := C) (i 1) k)

/-- The gradient of `x @ w` with respect to `w`: columns of `x` against columns of `dy`. -/
def dw {R C K : ℕ} (x : Mat K R) (dy : Mat K C) : Mat R C :=
  fun i => ∑ k : Fin K, x (ix2 (n1 := R) k (i 0)) * dy (ix2 (n1 := C) k (i 1))

/-- Where lane `l` of block `g` lies along an axis of `G` blocks of `n`. -/
def lane {G n C : ℕ} (h : G * n = C) (g : Fin G) (l : Fin n) : Fin C :=
  ⟨g.val * n + l.val, by
    have := Nat.mul_le_mul_right n (Nat.succ_le_of_lt g.isLt)
    rw [Nat.succ_mul] at this
    have := l.isLt
    omega⟩

/-- The gradient of `x @ w` with respect to `w`, its columns cut into `G` blocks of `n`. -/
def dwCols {G n C : ℕ} (h : G * n = C) {R K : ℕ} (x : Mat K R) (dy : Mat K C) : (⟨3, ![G, R, n]⟩ : Shape).Idx → EReal :=
  fun i => ∑ k : Fin K, x (ix2 (n1 := R) k (i 1)) * dy (ix2 k (lane h (i 0) (i 2)))

/-- The same product of an array that is already in `G` blocks: block by block. -/
def dwBlocks {G R C K : ℕ} (a : (⟨3, ![G, K, R]⟩ : Shape).Idx → EReal) (b : Mat K C) :
    (⟨3, ![G, R, C]⟩ : Shape).Idx → EReal :=
  fun i => ∑ k : Fin K, a (ix3 (n0 := G) (n2 := R) (i 0) k (i 1)) * b (ix2 (n1 := C) k (i 2))

/-- One block's share of the gradient of `x @ w` with respect to `x`, for blocks of columns counted from zero. -/
def term {G R C n : ℕ} (dy : (⟨3, ![G, R, n]⟩ : Shape).Idx → EReal) (w : (⟨3, ![G, C, n]⟩ : Shape).Idx → EReal)
    (r : Fin R) (l : Fin C) (g : Fin G) : EReal :=
  ∑ k : Fin n, dy (ix3 g r k) * w (ix3 g l k)

/-- The gradient of `x @ w` with respect to `x` when `dy` and `w` come in `G` blocks of columns. -/
def dxBlocks {G R C n : ℕ} (dy : (⟨3, ![G, R, n]⟩ : Shape).Idx → EReal) (w : (⟨3, ![G, C, n]⟩ : Shape).Idx → EReal) : Mat R C :=
  fun i => ∑ g : Fin G, term (R := R) (C := C) dy w (i 0) (i 1) g

end Cert.Product

end
-- ==== Proof.Product.DownDw.lean ====
/-
  The gradient of the down projection with respect to its weights: the kernel's block of 704 rows at
  each grid point, the array they make, and the reference's one product.
-/
module

public import proofs.«01_k».proof.Defs
public import proofs.«01_k».proof.Proof.Product.Spec
public import proofs.«01_k».proof.Proof.Gen.DownDw.Frame
public import proofs.«01_k».proof.Proof.Gen.DownDwIdeal.Frame
public import proofs.«01_k».proof.Proof.Gen.DownDwIdeal.Value
public import proofs.«01_k».proof.Proof.Gen.DownDwRefIdeal.Run
public import proofs.«01_k».proof.Proof.Gen.DownDwRefIdeal.Read
public import Idealize.ShloMosaic.Lib.Tactic
public import Idealize.ShloMosaic.Lib.KernelVsHost

@[expose] public section

set_option maxRecDepth 16384

noncomputable section

namespace Cert.DownDwIdeal.Hand

open Cert.DownDwIdeal Cert.DownDwIdeal.Gen Idealize.ShloMosaic Idealize.ShloMosaic.TcCoe Idealize.SL.Sem Cert.Product

variable (m : (ℓ : Loc nD τ sig) → Buf (Elt Ideal) ℓ) (c : Dev nD)

/-- The kernel's two arguments. -/
abbrev argX : (⟨3, ![4, 4096, 704]⟩ : Shape).Idx → EReal := m ((c : Thread nD τ).loc main_arg0)
abbrev argY : Mat 4096 1024 := m ((c : Thread nD τ).loc main_arg1)

/-- Where each window's block starts, in blocks: block `t` of the result is of block `t` of the first argument. -/
theorem index_at : ∀ t : Fin cfg0.N,
    (win0_0.index t 0 = t.val ∧ win0_0.index t 1 = 0 ∧ win0_0.index t 2 = 0) ∧ (win0_1.index t 0 = 0 ∧ win0_1.index t 1 = 0)
    ∧ (win0_2.index t 0 = t.val ∧ win0_2.index t 1 = 0 ∧ win0_2.index t 2 = 0) :=
  (by decide +kernel : ∀ t : Fin grid0.N,
    (win0_0.index t 0 = t.val ∧ win0_0.index t 1 = 0 ∧ win0_0.index t 2 = 0) ∧ (win0_1.index t 0 = 0 ∧ win0_1.index t 1 = 0)
    ∧ (win0_2.index t 0 = t.val ∧ win0_2.index t 1 = 0 ∧ win0_2.index t 2 = 0))

theorem iblk0_at (t : Fin cfg0.N) (b : Fin 1) (k : Fin 4096) (r : Fin 704) (n : Fin 4) (hn : n.val = t.val) :
    iblk m c 0 t (ix3 b k r) = argX m c (ix3 n k r) := by
  obtain ⟨e0, e1, e2⟩ := (index_at t).1
  unfold iblk
  rw [View.read_apply]
  refine entry3 (argX m c) ?_ ?_ ?_
  · show win0_0.index t 0 * 1 + 1 * b.val = n.val
    rw [e0]; omega
  · show win0_0.index t 1 * 4096 + 1 * k.val = k.val
    rw [e1]; omega
  · show win0_0.index t 2 * 704 + 1 * r.val = r.val
    rw [e2]; omega

theorem iblk1_at (t : Fin cfg0.N) (k : Fin 4096) (l : Fin 1024) :
    iblk m c 1 t (ix2 k l) = argY m c (ix2 k l) := by
  obtain ⟨e0, e1⟩ := (index_at t).2.1
  unfold iblk
  rw [View.read_apply]
  refine entry2 (argY m c) ?_ ?_
  · show win0_1.index t 0 * 4096 + 1 * k.val = k.val
    rw [e0]; omega
  · show win0_1.index t 1 * 1024 + 1 * l.val = l.val
    rw [e1]; omega

/-- The body's result is one product of its two blocks. -/
theorem out_at (x0 : Vec Ideal S1x4096x704 .bf16) (x1 : Vec Ideal S4096x1024 .bf16) (b : Fin 1) (r : Fin 704) (l : Fin 1024) :
    out0_2 x0 x1 (ix3 b r l) = ∑ k : Fin 4096, x0 (ix3 0 k r) * x1 (ix2 k l) := by
  unfold out0_2
  rw [View.canon_unit_zero hz3, View.ld_unit_zero (S := S1x4096x704) hz3, View.ld_unit_zero (S := S4096x1024) hz2]
  pointwise [k0_pay1]

theorem final : (dats m 0 c).arrAt 2 cfg0.N = dwBlocks (argX m c) (argY m c) := by
  refine (dats m 0 c).arrAt_eq_of_cover 2 (dwBlocks (argX m c) (argY m c)) (fun t _ => ?_) fun i => ?_
  · obtain ⟨e0, e1, e2⟩ := (index_at t).2.2
    have ht : t.val < 4 := lt_of_lt_of_eq t.isLt N_0
    rw [Value.flushed2]
    funext x
    obtain ⟨b, r, l, rfl⟩ : ∃ (b : Fin 1) (r : Fin 704) (l : Fin 1024), x = ix3 b r l := ⟨x 0, x 1, x 2, eq_ix3 x⟩
    refine (out_at (iblk m c 0 t) (iblk m c 1 t) b r l).trans ?_
    rw [View.read_apply]
    refine Eq.trans ?_ (entry3 (dwBlocks (argX m c) (argY m c)) (i := ix3 ⟨t.val, ht⟩ r l) ?_ ?_ ?_)
    · exact Finset.sum_congr rfl fun k _ => congrArg₂ (· * ·) (iblk0_at m c t 0 k r ⟨t.val, ht⟩ rfl)
        (iblk1_at m c t k l)
    · show t.val = win0_2.index t 0 * 1 + 1 * b.val
      rw [e0]; omega
    · show r.val = win0_2.index t 1 * 704 + 1 * r.val
      rw [e1]; omega
    · show l.val = win0_2.index t 2 * 1024 + 1 * l.val
      rw [e2]; omega
  · have h0 : (i 0 : Nat) < 4 := (i 0).isLt
    have h1 : (i 1 : Nat) < 704 := (i 1).isLt
    have h2 : (i 2 : Nat) < 1024 := (i 2).isLt
    obtain ⟨t, ht⟩ : ∃ t : Fin cfg0.N, t.val = (i 0 : Nat) := ⟨⟨(i 0 : Nat), by rw [show cfg0.N = 4 from N_0]; omega⟩, rfl⟩
    refine ⟨t, flush0_2 t, ?_⟩
    obtain ⟨e0, e1, e2⟩ := (index_at t).2.2
    show i ∈ ((View.whole main_v0).slice (win0_2.rect t)).set
    rw [View.set_slice_whole, Rect.mem_set_unit]
    intro a
    match a with
    | ⟨0, _⟩ =>
      show win0_2.index t 0 * 1 ≤ (i 0 : Nat) ∧ (i 0 : Nat) < win0_2.index t 0 * 1 + 1
      rw [e0]; omega
    | ⟨1, _⟩ =>
      show win0_2.index t 1 * 704 ≤ (i 1 : Nat) ∧ (i 1 : Nat) < win0_2.index t 1 * 704 + 704
      rw [e1]; omega
    | ⟨2, _⟩ =>
      show win0_2.index t 2 * 1024 ≤ (i 2 : Nat) ∧ (i 2 : Nat) < win0_2.index t 2 * 1024 + 1024
      rw [e2]; omega

/-- The reference is the one product of the columns laid side by side, its factors and axes exchanged, cut into blocks again. -/
theorem reference (x : (⟨3, ![4, 4096, 704]⟩ : Shape).Idx → EReal) (y : Mat 4096 1024) :
    DownDwRefIdeal.Read.val_main_v9 (F := Ideal) x y = dwBlocks x y := by
  funext i
  obtain ⟨b, r, l, rfl⟩ : ∃ (b : Fin 4) (r : Fin 704) (l : Fin 1024), i = ix3 b r l := ⟨i 0, i 1, i 2, eq_ix3 i⟩
  show _ = ∑ k : Fin 4096, x (ix3 b k r) * y (ix2 k l)
  generalize hR : ∑ k : Fin 4096, x (ix3 b k r) * y (ix2 k l) = R
  pointwise [DownDwRefIdeal.Read.val_main_v9, DownDwRefIdeal.Read.val_main_v8, DownDwRefIdeal.Read.val_main_v7,
    DownDwRefIdeal.Read.val_main_v6, DownDwRefIdeal.Read.val_main_v5, DownDwRefIdeal.Read.val_main_v3, DownDwRefIdeal.Read.val_main_v1, DownDwRefIdeal.Read.val_main_v0]
  rw [← hR]
  exact Finset.sum_congr rfl fun k _ => mul_comm _ _

end Cert.DownDwIdeal.Hand

namespace Cert.DownDwClaims

open Idealize.ShloMosaic Idealize.ShloMosaic.TcCoe Idealize.SL.Sem

instance : Cert.DownDw.Facts := Cert.DownDw.Gen.facts
instance : Cert.DownDwIdeal.Facts := Cert.DownDwIdeal.Gen.facts
instance : Cert.DownDwRefIdeal.Facts := Cert.DownDwRefIdeal.Gen.facts

theorem frame : Cert.quiescent_DownDw := fun m g _ => Cert.DownDw.Gen.frame m g

theorem frame_ideal : Cert.quiescent_DownDwIdeal := fun m g _ => Cert.DownDwIdeal.Gen.frame m g

/-- The host program has no semaphore, so its counters cannot be anything but zero. -/
theorem frame_reference : Cert.quiescent_DownDwRefIdeal := fun m g _ =>
  (θ_run Cert.DownDwRefIdeal.defs _ _).mono
    (fun r h => ⟨fun c => (h c).2, sem_eq_zero_of_no_sems (by decide) r.2⟩)
    (Cert.DownDwRefIdeal.Value.run (F := Ideal) m g)

theorem value : Cert.algebraic_DownDwIdeal_DownDwRefIdeal := fun m g m' g' _ hargs =>
  ⟨fun c => Product.dwBlocks (DownDwIdeal.Hand.argX m c) (DownDwIdeal.Hand.argY m c),
   (θ_run Cert.DownDwIdeal.defs _ _).mono
    (fun _ h c => ⟨(h c).1.trans (DownDwIdeal.Hand.final m c), (h c).2⟩)
    (Cert.DownDwIdeal.Value.run_blocks (F := Ideal) m g),
   (θ_run Cert.DownDwRefIdeal.defs _ _).mono
    (fun _ h c => ⟨(h c).1.trans ((DownDwRefIdeal.Read.val_main_v9_eq _ _).trans
        ((DownDwIdeal.Hand.reference _ _).trans (congrArg₂ Product.dwBlocks (hargs c).1 (hargs c).2))), (h c).2⟩)
    (Cert.DownDwRefIdeal.Value.run (F := Ideal) m' g')⟩

end Cert.DownDwClaims

end
-- ==== Proof.Product.GateUpDw.lean ====
/-
  The gradient of the gate and up projections with respect to its weights: the kernel's block of 704 rows at
  each grid point, the array they make, and the reference's one product.
-/
module

public import proofs.«01_k».proof.Defs
public import proofs.«01_k».proof.Proof.Product.Spec
public import proofs.«01_k».proof.Proof.Gen.GateUpDw.Frame
public import proofs.«01_k».proof.Proof.Gen.GateUpDwIdeal.Frame
public import proofs.«01_k».proof.Proof.Gen.GateUpDwIdeal.Value
public import proofs.«01_k».proof.Proof.Gen.GateUpDwRefIdeal.Run
public import proofs.«01_k».proof.Proof.Gen.GateUpDwRefIdeal.Read
public import Idealize.ShloMosaic.Lib.Tactic
public import Idealize.ShloMosaic.Lib.KernelVsHost

@[expose] public section

set_option maxRecDepth 16384

noncomputable section

namespace Cert.GateUpDwIdeal.Hand

open Cert.GateUpDwIdeal Cert.GateUpDwIdeal.Gen Idealize.ShloMosaic Idealize.ShloMosaic.TcCoe Idealize.SL.Sem Cert.Product

variable (m : (ℓ : Loc nD τ sig) → Buf (Elt Ideal) ℓ) (c : Dev nD)

/-- The kernel's two arguments. -/
abbrev argD : (⟨3, ![8, 4096, 704]⟩ : Shape).Idx → EReal := m ((c : Thread nD τ).loc main_arg1)
abbrev argN : Mat 4096 1024 := m ((c : Thread nD τ).loc main_arg0)

/-- Where each window's block starts, in blocks: block `t` of the result is of block `t` of the first argument. -/
theorem index_at : ∀ t : Fin cfg0.N,
    (win0_0.index t 0 = t.val ∧ win0_0.index t 1 = 0 ∧ win0_0.index t 2 = 0) ∧ (win0_1.index t 0 = 0 ∧ win0_1.index t 1 = 0)
    ∧ (win0_2.index t 0 = t.val ∧ win0_2.index t 1 = 0 ∧ win0_2.index t 2 = 0) :=
  (by decide +kernel : ∀ t : Fin grid0.N,
    (win0_0.index t 0 = t.val ∧ win0_0.index t 1 = 0 ∧ win0_0.index t 2 = 0) ∧ (win0_1.index t 0 = 0 ∧ win0_1.index t 1 = 0)
    ∧ (win0_2.index t 0 = t.val ∧ win0_2.index t 1 = 0 ∧ win0_2.index t 2 = 0))

theorem iblk0_at (t : Fin cfg0.N) (b : Fin 1) (k : Fin 4096) (r : Fin 704) (n : Fin 8) (hn : n.val = t.val) :
    iblk m c 0 t (ix3 b k r) = argD m c (ix3 n k r) := by
  obtain ⟨e0, e1, e2⟩ := (index_at t).1
  unfold iblk
  rw [View.read_apply]
  refine entry3 (argD m c) ?_ ?_ ?_
  · show win0_0.index t 0 * 1 + 1 * b.val = n.val
    rw [e0]; omega
  · show win0_0.index t 1 * 4096 + 1 * k.val = k.val
    rw [e1]; omega
  · show win0_0.index t 2 * 704 + 1 * r.val = r.val
    rw [e2]; omega

theorem iblk1_at (t : Fin cfg0.N) (k : Fin 4096) (l : Fin 1024) :
    iblk m c 1 t (ix2 k l) = argN m c (ix2 k l) := by
  obtain ⟨e0, e1⟩ := (index_at t).2.1
  unfold iblk
  rw [View.read_apply]
  refine entry2 (argN m c) ?_ ?_
  · show win0_1.index t 0 * 4096 + 1 * k.val = k.val
    rw [e0]; omega
  · show win0_1.index t 1 * 1024 + 1 * l.val = l.val
    rw [e1]; omega

/-- The body's result is one product of its two blocks. -/
theorem out_at (x0 : Vec Ideal S1x4096x704 .bf16) (x1 : Vec Ideal S4096x1024 .bf16) (b : Fin 1) (r : Fin 704) (l : Fin 1024) :
    out0_2 x0 x1 (ix3 b r l) = ∑ k : Fin 4096, x0 (ix3 0 k r) * x1 (ix2 k l) := by
  unfold out0_2
  rw [View.canon_unit_zero hz3, View.ld_unit_zero (S := S1x4096x704) hz3, View.ld_unit_zero (S := S4096x1024) hz2]
  pointwise [k0_pay1]

theorem final : (dats m 0 c).arrAt 2 cfg0.N = dwBlocks (argD m c) (argN m c) := by
  refine (dats m 0 c).arrAt_eq_of_cover 2 (dwBlocks (argD m c) (argN m c)) (fun t _ => ?_) fun i => ?_
  · obtain ⟨e0, e1, e2⟩ := (index_at t).2.2
    have ht : t.val < 8 := lt_of_lt_of_eq t.isLt N_0
    rw [Value.flushed2]
    funext x
    obtain ⟨b, r, l, rfl⟩ : ∃ (b : Fin 1) (r : Fin 704) (l : Fin 1024), x = ix3 b r l := ⟨x 0, x 1, x 2, eq_ix3 x⟩
    refine (out_at (iblk m c 0 t) (iblk m c 1 t) b r l).trans ?_
    rw [View.read_apply]
    refine Eq.trans ?_ (entry3 (dwBlocks (argD m c) (argN m c)) (i := ix3 ⟨t.val, ht⟩ r l) ?_ ?_ ?_)
    · exact Finset.sum_congr rfl fun k _ => congrArg₂ (· * ·) (iblk0_at m c t 0 k r ⟨t.val, ht⟩ rfl)
        (iblk1_at m c t k l)
    · show t.val = win0_2.index t 0 * 1 + 1 * b.val
      rw [e0]; omega
    · show r.val = win0_2.index t 1 * 704 + 1 * r.val
      rw [e1]; omega
    · show l.val = win0_2.index t 2 * 1024 + 1 * l.val
      rw [e2]; omega
  · have h0 : (i 0 : Nat) < 8 := (i 0).isLt
    have h1 : (i 1 : Nat) < 704 := (i 1).isLt
    have h2 : (i 2 : Nat) < 1024 := (i 2).isLt
    obtain ⟨t, ht⟩ : ∃ t : Fin cfg0.N, t.val = (i 0 : Nat) := ⟨⟨(i 0 : Nat), by rw [show cfg0.N = 8 from N_0]; omega⟩, rfl⟩
    refine ⟨t, flush0_2 t, ?_⟩
    obtain ⟨e0, e1, e2⟩ := (index_at t).2.2
    show i ∈ ((View.whole main_v0).slice (win0_2.rect t)).set
    rw [View.set_slice_whole, Rect.mem_set_unit]
    intro a
    match a with
    | ⟨0, _⟩ =>
      show win0_2.index t 0 * 1 ≤ (i 0 : Nat) ∧ (i 0 : Nat) < win0_2.index t 0 * 1 + 1
      rw [e0]; omega
    | ⟨1, _⟩ =>
      show win0_2.index t 1 * 704 ≤ (i 1 : Nat) ∧ (i 1 : Nat) < win0_2.index t 1 * 704 + 704
      rw [e1]; omega
    | ⟨2, _⟩ =>
      show win0_2.index t 2 * 1024 ≤ (i 2 : Nat) ∧ (i 2 : Nat) < win0_2.index t 2 * 1024 + 1024
      rw [e2]; omega

/-- The reference is the one product of the columns laid side by side, its factors exchanged, its rows cut into blocks again. -/
theorem reference (n : Mat 4096 1024) (d : (⟨3, ![8, 4096, 704]⟩ : Shape).Idx → EReal) :
    GateUpDwRefIdeal.Read.val_main_v10 (F := Ideal) n d = dwBlocks d n := by
  funext i
  obtain ⟨b, r, l, rfl⟩ : ∃ (b : Fin 8) (r : Fin 704) (l : Fin 1024), i = ix3 b r l := ⟨i 0, i 1, i 2, eq_ix3 i⟩
  show _ = ∑ k : Fin 4096, d (ix3 b k r) * n (ix2 k l)
  pointwise [GateUpDwRefIdeal.Read.val_main_v10, GateUpDwRefIdeal.Read.val_main_v9, GateUpDwRefIdeal.Read.val_main_v8, GateUpDwRefIdeal.Read.val_main_v7,
    GateUpDwRefIdeal.Read.val_main_v6, GateUpDwRefIdeal.Read.val_main_v5, GateUpDwRefIdeal.Read.val_main_v3, GateUpDwRefIdeal.Read.val_main_v1, GateUpDwRefIdeal.Read.val_main_v0]

end Cert.GateUpDwIdeal.Hand

namespace Cert.GateUpDwClaims

open Idealize.ShloMosaic Idealize.ShloMosaic.TcCoe Idealize.SL.Sem

instance : Cert.GateUpDw.Facts := Cert.GateUpDw.Gen.facts
instance : Cert.GateUpDwIdeal.Facts := Cert.GateUpDwIdeal.Gen.facts
instance : Cert.GateUpDwRefIdeal.Facts := Cert.GateUpDwRefIdeal.Gen.facts

theorem frame : Cert.quiescent_GateUpDw := fun m g _ => Cert.GateUpDw.Gen.frame m g

theorem frame_ideal : Cert.quiescent_GateUpDwIdeal := fun m g _ => Cert.GateUpDwIdeal.Gen.frame m g

/-- The host program has no semaphore, so its counters cannot be anything but zero. -/
theorem frame_reference : Cert.quiescent_GateUpDwRefIdeal := fun m g _ =>
  (θ_run Cert.GateUpDwRefIdeal.defs _ _).mono
    (fun r h => ⟨fun c => (h c).2, sem_eq_zero_of_no_sems (by decide) r.2⟩)
    (Cert.GateUpDwRefIdeal.Value.run (F := Ideal) m g)

theorem value : Cert.algebraic_GateUpDwIdeal_GateUpDwRefIdeal := fun m g m' g' _ hargs =>
  ⟨fun c => Product.dwBlocks (GateUpDwIdeal.Hand.argD m c) (GateUpDwIdeal.Hand.argN m c),
   (θ_run Cert.GateUpDwIdeal.defs _ _).mono
    (fun _ h c => ⟨(h c).1.trans (GateUpDwIdeal.Hand.final m c), (h c).2⟩)
    (Cert.GateUpDwIdeal.Value.run_blocks (F := Ideal) m g),
   (θ_run Cert.GateUpDwRefIdeal.defs _ _).mono
    (fun _ h c => ⟨(h c).1.trans ((GateUpDwRefIdeal.Read.val_main_v10_eq _ _).trans
        ((GateUpDwIdeal.Hand.reference _ _).trans (congrArg₂ Product.dwBlocks (hargs c).2 (hargs c).1))), (h c).2⟩)
    (Cert.GateUpDwRefIdeal.Value.run (F := Ideal) m' g')⟩

end Cert.GateUpDwClaims

end
-- ==== Proof.Product.GateUpDx.lean ====
/-
  The gradient of the gate and up projections with respect to their input: the kernel's block of 2048 rows summed over
  four grid points, two of the eight blocks of columns at each, and the reference's one product over all columns.
-/
module

public import proofs.«01_k».proof.Defs
public import proofs.«01_k».proof.Proof.Product.Spec
public import proofs.«01_k».proof.Proof.Gen.GateUpDx.Frame
public import proofs.«01_k».proof.Proof.Gen.GateUpDxIdeal.Frame
public import proofs.«01_k».proof.Proof.Gen.GateUpDxIdeal.Value
public import proofs.«01_k».proof.Proof.Gen.GateUpDxRefIdeal.Run
public import proofs.«01_k».proof.Proof.Gen.GateUpDxRefIdeal.Read
public import Idealize.ShloMosaic.Lib.Tactic
public import Idealize.ShloMosaic.Lib.KernelVsHost
public import Idealize.ShloMosaic.Lib.VecWindow
public import Idealize.ShloMosaic.Lib.Pipeline.ValueKit.Acc
public import Idealize.ShloMosaic.Lib.StableHlo.ReadAt

@[expose] public section

set_option maxRecDepth 16384

noncomputable section

namespace Cert.GateUpDxIdeal.Hand

open Cert.GateUpDxIdeal Cert.GateUpDxIdeal.Gen Idealize.ShloMosaic Idealize.ShloMosaic.TcCoe Idealize.SL.Sem Cert.Product

variable (m : (ℓ : Loc nD τ sig) → Buf (Elt Ideal) ℓ) (c : Dev nD)

/-- The kernel's two arguments, in blocks of columns. -/
abbrev argD : (⟨3, ![8, 4096, 704]⟩ : Shape).Idx → EReal := m ((c : Thread nD τ).loc main_arg0)
abbrev argW : (⟨3, ![8, 1024, 704]⟩ : Shape).Idx → EReal := m ((c : Thread nD τ).loc main_arg1)

/-- The host cuts the eight blocks into two times four before the kernel runs. -/
theorem V_main_v0_at (h : Fin 2) (f : Fin 4) (n : Fin 4096) (k : Fin 704) (g : Fin 8) (hg : g.val = 4 * h.val + f.val) :
    V m c main_v0 (ix4 h f n k) = argD m c (ix3 g n k) := by
  unfold V
  after_reads_at
  exact entry3 (argD m c) (by show h.val * 4 + f.val = g.val; omega) rfl rfl

theorem V_main_v1_at (h : Fin 2) (f : Fin 4) (n : Fin 1024) (k : Fin 704) (g : Fin 8) (hg : g.val = 4 * h.val + f.val) :
    V m c main_v1 (ix4 h f n k) = argW m c (ix3 g n k) := by
  unfold V
  after_reads_at
  exact entry3 (argW m c) (by show h.val * 4 + f.val = g.val; omega) rfl rfl

/-- Where each window's block starts, in blocks: the rows' block is `t / 4`, the columns' `t % 4` in both halves. -/
theorem index_at : ∀ t : Fin cfg0.N,
    (win0_0.index t 0 = 0 ∧ win0_0.index t 1 = t.val % 4 ∧ win0_0.index t 2 = t.val / 4 ∧ win0_0.index t 3 = 0)
    ∧ (win0_1.index t 0 = 0 ∧ win0_1.index t 1 = t.val % 4 ∧ win0_1.index t 2 = 0 ∧ win0_1.index t 3 = 0)
    ∧ (win0_2.index t 0 = t.val / 4 ∧ win0_2.index t 1 = 0) :=
  (by decide +kernel : ∀ t : Fin grid0.N,
    (win0_0.index t 0 = 0 ∧ win0_0.index t 1 = t.val % 4 ∧ win0_0.index t 2 = t.val / 4 ∧ win0_0.index t 3 = 0)
    ∧ (win0_1.index t 0 = 0 ∧ win0_1.index t 1 = t.val % 4 ∧ win0_1.index t 2 = 0 ∧ win0_1.index t 3 = 0)
    ∧ (win0_2.index t 0 = t.val / 4 ∧ win0_2.index t 1 = 0))

theorem iblk0_at (t : Fin cfg0.N) (h : Fin 2) (r : Fin 2048) (k : Fin 704) (g : Fin 8) (n : Fin 4096)
    (hg : g.val = 4 * h.val + t.val % 4) (hn : n.val = 2048 * (t.val / 4) + r.val) :
    iblk m c 0 t (ix4 h 0 r k) = argD m c (ix3 g n k) := by
  obtain ⟨e0, e1, e2, e3⟩ := (index_at t).1
  rw [← V_main_v0_at m c h ⟨t.val % 4, Nat.mod_lt _ (by decide)⟩ n k g hg]
  unfold iblk
  rw [View.read_apply]
  refine entry4 (V m c main_v0) ?_ ?_ ?_ ?_
  · show win0_0.index t 0 * 2 + 1 * h.val = h.val
    rw [e0]; omega
  · show win0_0.index t 1 * 1 + 1 * 0 = t.val % 4
    rw [e1]; omega
  · show win0_0.index t 2 * 2048 + 1 * r.val = n.val
    rw [e2]; omega
  · show win0_0.index t 3 * 704 + 1 * k.val = k.val
    rw [e3]; omega

theorem iblk1_at (t : Fin cfg0.N) (h : Fin 2) (r : Fin 1024) (k : Fin 704) (g : Fin 8) (hg : g.val = 4 * h.val + t.val % 4) :
    iblk m c 1 t (ix4 h 0 r k) = argW m c (ix3 g r k) := by
  obtain ⟨e0, e1, e2, e3⟩ := (index_at t).2.1
  rw [← V_main_v1_at m c h ⟨t.val % 4, Nat.mod_lt _ (by decide)⟩ r k g hg]
  unfold iblk
  rw [View.read_apply]
  refine entry4 (V m c main_v1) ?_ ?_ ?_ ?_
  · show win0_1.index t 0 * 2 + 1 * h.val = h.val
    rw [e0]; omega
  · show win0_1.index t 1 * 1 + 1 * 0 = t.val % 4
    rw [e1]; omega
  · show win0_1.index t 2 * 1024 + 1 * r.val = r.val
    rw [e2]; omega
  · show win0_1.index t 3 * 704 + 1 * k.val = k.val
    rw [e3]; omega

/-- The two products of a point, added. -/
theorem pay_at (x0 : Vec Ideal S2x1x2048x704 .bf16) (x1 : Vec Ideal S2x1x1024x704 .bf16) (r : Fin 2048) (l : Fin 1024) (i0 i1 i2 i3) :
    k0_pay1 (View.ld x0 (Rect.unit (s := S2x1x2048x704) ![0, 0, 0, 0] S1x1x2048x704.size i0))
      (View.ld x1 (Rect.unit (s := S2x1x1024x704) ![0, 0, 0, 0] S1x1x1024x704.size i1))
      (View.ld x0 (Rect.unit (s := S2x1x2048x704) ![1, 0, 0, 0] S1x1x2048x704.size i2))
      (View.ld x1 (Rect.unit (s := S2x1x1024x704) ![1, 0, 0, 0] S1x1x1024x704.size i3)) (ix2 r l)
      = ∑ k : Fin 704, x0 (ix4 0 0 r k) * x1 (ix4 0 0 l k) + ∑ k : Fin 704, x0 (ix4 1 0 r k) * x1 (ix4 1 0 l k) := by
  pointwise [k0_pay1]

/-- What a point adds: the columns' blocks `t % 4` and `t % 4 + 4`. -/
def share (t : Fin cfg0.N) (n : Fin 4096) (l : Fin 1024) : EReal :=
  term (argD m c) (argW m c) n l ⟨t.val % 4, by omega⟩ + term (argD m c) (argW m c) n l ⟨4 + t.val % 4, by omega⟩

theorem share_at (t : Fin cfg0.N) (r : Fin 2048) (l : Fin 1024) (n : Fin 4096) (hn : n.val = 2048 * (t.val / 4) + r.val) (i0 i1 i2 i3) :
    k0_pay1 (View.ld (iblk m c 0 t) (Rect.unit (s := S2x1x2048x704) ![0, 0, 0, 0] S1x1x2048x704.size i0))
      (View.ld (iblk m c 1 t) (Rect.unit (s := S2x1x1024x704) ![0, 0, 0, 0] S1x1x1024x704.size i1))
      (View.ld (iblk m c 0 t) (Rect.unit (s := S2x1x2048x704) ![1, 0, 0, 0] S1x1x2048x704.size i2))
      (View.ld (iblk m c 1 t) (Rect.unit (s := S2x1x1024x704) ![1, 0, 0, 0] S1x1x1024x704.size i3)) (ix2 r l)
      = share m c t n l :=
  (pay_at _ _ r l i0 i1 i2 i3).trans (congrArg₂ (· + ·)
    (Finset.sum_congr rfl fun k _ => congrArg₂ (· * ·) (iblk0_at m c t 0 r k ⟨t.val % 4, by omega⟩ n (by show t.val % 4 = 4 * 0 + _; omega) hn)
      (iblk1_at m c t 0 l k ⟨t.val % 4, by omega⟩ (by show t.val % 4 = 4 * 0 + _; omega)))
    (Finset.sum_congr rfl fun k _ => congrArg₂ (· * ·) (iblk0_at m c t 1 r k ⟨4 + t.val % 4, by omega⟩ n (by show 4 + t.val % 4 = 4 * 1 + _; omega) hn)
      (iblk1_at m c t 1 l k ⟨4 + t.val % 4, by omega⟩ (by show 4 + t.val % 4 = 4 * 1 + _; omega))))

/-- The carried sum after the first point of a run of four, after a middle one, and after the last one. -/
theorem acc_A (t : Fin cfg0.N) (h0 : t.val % 4 = 0) (r : Fin 2048) (l : Fin 1024) (n : Fin 4096) (hn : n.val = 2048 * (t.val / 4) + r.val) :
    (outsAt0 m c t.val t.isLt).2 (ix2 r l) = share m c t n l := by
  refine Eq.trans ?_ (share_at m c t r l n hn inb_S2x1x2048x704_S1x1x2048x704_0_0_0_0 inb_S2x1x1024x704_S1x1x1024x704_0_0_0_0
    inb_S2x1x2048x704_S1x1x2048x704_1_0_0_0 inb_S2x1x1024x704_S1x1x1024x704_1_0_0_0)
  rw [outsAt0_A m c t h0 (by omega) (by omega)]
  dsimp only
  unfold sout0_A_0 kernelRun0_A
  dsimp only
  sl_unfold_words
  simp only [View.readAt_eq_ld, (hs0_0 t).read_unread, (hs0_1 t).read_unread]
  rw [View.read_writes_full]
  pointwise [k0_pay2]
  rfl

theorem acc_B (t : Fin cfg0.N) (h0 : ¬t.val % 4 = 0) (h2 : ¬t.val % 4 = 3) (r : Fin 2048) (l : Fin 1024) (n : Fin 4096)
    (hn : n.val = 2048 * (t.val / 4) + r.val) :
    (outsAt0 m c t.val t.isLt).2 (ix2 r l)
      = (outsAt0 m c (t.val - 1) (Nat.lt_of_le_of_lt (Nat.sub_le _ _) t.isLt)).2 (ix2 r l) + share m c t n l := by
  refine Eq.trans ?_ (congrArg (_ + ·) (share_at m c t r l n hn inb_S2x1x2048x704_S1x1x2048x704_0_0_0_0 inb_S2x1x1024x704_S1x1x1024x704_0_0_0_0
    inb_S2x1x2048x704_S1x1x2048x704_1_0_0_0 inb_S2x1x1024x704_S1x1x1024x704_1_0_0_0))
  rw [outsAt0_B m c t h0 (by omega) h2]
  dsimp only
  unfold sout0_B_0 kernelRun0_B
  dsimp only
  sl_unfold_words
  simp only [View.readAt_eq_ld, (hs0_0 t).read_unread, (hs0_1 t).read_unread, (Memref.isWhole_whole _).read_unread, View.ld_unit_zero (S := S2048x1024) hz2]
  rw [View.read_writes_full]
  pointwise [k0_pay3]
  rfl

theorem out_C (t : Fin cfg0.N) (h2 : t.val % 4 = 3) (r : Fin 2048) (l : Fin 1024) (n : Fin 4096) (hn : n.val = 2048 * (t.val / 4) + r.val) :
    (outsAt0 m c t.val t.isLt).1 (ix2 r l)
      = (outsAt0 m c (t.val - 1) (Nat.lt_of_le_of_lt (Nat.sub_le _ _) t.isLt)).2 (ix2 r l) + share m c t n l := by
  refine Eq.trans ?_ (congrArg (_ + ·) (share_at m c t r l n hn inb_S2x1x2048x704_S1x1x2048x704_0_0_0_0 inb_S2x1x1024x704_S1x1x1024x704_0_0_0_0
    inb_S2x1x2048x704_S1x1x2048x704_1_0_0_0 inb_S2x1x1024x704_S1x1x1024x704_1_0_0_0))
  rw [outsAt0_C m c t (by omega) (by omega) h2]
  dsimp only
  unfold out0_C_2 kernelRun0_C
  dsimp only
  sl_unfold_words
  simp only [View.readAt_eq_ld, (hs0_0 t).read_unread, (hs0_1 t).read_unread, (Memref.isWhole_whole _).read_unread, View.ld_unit_zero (S := S2048x1024) hz2]
  rw [View.read_writes_full]
  pointwise [k0_pay4]
  rw [View.readCov_full]
  pointwise [k0_pay3]
  rfl

/-- What is written back after the last point of a run: all eight blocks' shares. -/
theorem out_at (t : Fin cfg0.N) (h2 : t.val % 4 = 3) (r : Fin 2048) (l : Fin 1024) (n : Fin 4096) (hn : n.val = 2048 * (t.val / 4) + r.val) :
    (outsAt0 m c t.val t.isLt).1 (ix2 r l) = dxBlocks (argD m c) (argW m c) (ix2 n l) := by
  have hN : t.val < 8 := lt_of_lt_of_eq t.isLt N_0
  have hlt : ∀ j, t.val - j < cfg0.N := fun j => Nat.lt_of_le_of_lt (Nat.sub_le _ _) t.isLt
  rw [out_C m c t h2 r l n hn]
  have s2 := acc_B m c ⟨t.val - 1, hlt 1⟩ (by dsimp only; omega) (by dsimp only; omega) r l n (by dsimp only; omega)
  have s1 := acc_B m c ⟨t.val - 1 - 1, Nat.lt_of_le_of_lt (Nat.sub_le _ _) (hlt 1)⟩ (by dsimp only; omega) (by dsimp only; omega) r l n (by dsimp only; omega)
  have s0 := acc_A m c ⟨t.val - 1 - 1 - 1, Nat.lt_of_le_of_lt (Nat.sub_le _ _) (Nat.lt_of_le_of_lt (Nat.sub_le _ _) (hlt 1))⟩ (by dsimp only; omega) r l n (by dsimp only; omega)
  dsimp only at s0 s1 s2
  rw [s2, s1, s0]
  show _ = ∑ g : Fin 8, term (argD m c) (argW m c) n l g
  rw [Fin.sum_univ_eight]
  have e : ∀ (p : Fin cfg0.N) (j : Fin 4), p.val % 4 = j.val → share m c p n l
      = term (argD m c) (argW m c) n l ⟨j.val, by omega⟩ + term (argD m c) (argW m c) n l ⟨4 + j.val, by omega⟩ := by
    intro p j h; unfold share; simp only [h]
  rw [e _ 0 (by show (t.val - 1 - 1 - 1) % 4 = 0; omega), e _ 1 (by show (t.val - 1 - 1) % 4 = 1; omega),
    e _ 2 (by show (t.val - 1) % 4 = 2; omega), e t 3 h2]
  show ((term _ _ _ _ 0 + term _ _ _ _ 4) + (term _ _ _ _ 1 + term _ _ _ _ 5) + (term _ _ _ _ 2 + term _ _ _ _ 6))
    + (term _ _ _ _ 3 + term _ _ _ _ 7) = _
  abel

theorem final : (dats m 0 c).arrAt 2 cfg0.N = dxBlocks (argD m c) (argW m c) := by
  refine (dats m 0 c).arrAt_eq_of_cover 2 (dxBlocks (argD m c) (argW m c)) (fun t hf => ?_) fun i => ?_
  · obtain ⟨e0, e1⟩ := (index_at t).2.2
    have ht : t.val < 8 := lt_of_lt_of_eq t.isLt N_0
    have h3 : t.val % 4 = 3 := (flush0_2 t).mp hf
    rw [Value.flushed2]
    funext x
    obtain ⟨r, l, rfl⟩ : ∃ (r : Fin 2048) (l : Fin 1024), x = ix2 r l := ⟨x 0, x 1, eq_ix2 x⟩
    refine (out_at m c t h3 r l ⟨2048 * (t.val / 4) + r.val, by omega⟩ rfl).trans ?_
    rw [View.read_apply]
    refine entry2 (dxBlocks (argD m c) (argW m c)) ?_ ?_
    · show 2048 * (t.val / 4) + r.val = win0_2.index t 0 * 2048 + 1 * r.val
      rw [e0]; omega
    · show l.val = win0_2.index t 1 * 1024 + 1 * l.val
      rw [e1]; omega
  · have h0 : (i 0 : Nat) < 4096 := (i 0).isLt
    have h1 : (i 1 : Nat) < 1024 := (i 1).isLt
    obtain ⟨t, ht⟩ : ∃ t : Fin cfg0.N, t.val = (i 0 : Nat) / 2048 * 4 + 3 :=
      ⟨⟨(i 0 : Nat) / 2048 * 4 + 3, by rw [show cfg0.N = 8 from N_0]; omega⟩, rfl⟩
    refine ⟨t, (flush0_2 t).mpr (by omega), ?_⟩
    obtain ⟨e0, e1⟩ := (index_at t).2.2
    show i ∈ ((View.whole main_v2).slice (win0_2.rect t)).set
    rw [View.set_slice_whole, Rect.mem_set_unit]
    intro a
    match a with
    | ⟨0, _⟩ =>
      show win0_2.index t 0 * 2048 ≤ (i 0 : Nat) ∧ (i 0 : Nat) < win0_2.index t 0 * 2048 + 2048
      rw [e0]; omega
    | ⟨1, _⟩ =>
      show win0_2.index t 1 * 1024 ≤ (i 1 : Nat) ∧ (i 1 : Nat) < win0_2.index t 1 * 1024 + 1024
      rw [e1]; omega

/-- The reference is one product over all 5632 columns, which are the eight blocks side by side. -/
theorem reference (d : (⟨3, ![8, 4096, 704]⟩ : Shape).Idx → EReal) (w : (⟨3, ![8, 1024, 704]⟩ : Shape).Idx → EReal) :
    GateUpDxRefIdeal.Read.val_main_v9 (F := Ideal) d w = dxBlocks d w := by
  funext i
  obtain ⟨r, l, rfl⟩ : ∃ (r : Fin 4096) (l : Fin 1024), i = ix2 r l := ⟨i 0, i 1, eq_ix2 i⟩
  show _ = ∑ g : Fin 8, ∑ k : Fin 704, d (ix3 g r k) * w (ix3 g l k)
  generalize hR : ∑ g : Fin 8, ∑ k : Fin 704, d (ix3 g r k) * w (ix3 g l k) = R
  pointwise [GateUpDxRefIdeal.Read.val_main_v9, GateUpDxRefIdeal.Read.val_main_v8, GateUpDxRefIdeal.Read.val_main_v7,
    GateUpDxRefIdeal.Read.val_main_v5, GateUpDxRefIdeal.Read.val_main_v3, GateUpDxRefIdeal.Read.val_main_v2,
    GateUpDxRefIdeal.Read.val_main_v1, GateUpDxRefIdeal.Read.val_main_v0]
  exact (Fin.sum_divmod_fin 704 fun (g : Fin 8) (k : Fin 704) => d (ix3 g r k) * w (ix3 g l k)).trans hR

end Cert.GateUpDxIdeal.Hand

namespace Cert.GateUpDxClaims

open Idealize.ShloMosaic Idealize.ShloMosaic.TcCoe Idealize.SL.Sem

instance : Cert.GateUpDx.Facts := Cert.GateUpDx.Gen.facts
instance : Cert.GateUpDxIdeal.Facts := Cert.GateUpDxIdeal.Gen.facts
instance : Cert.GateUpDxRefIdeal.Facts := Cert.GateUpDxRefIdeal.Gen.facts

theorem frame : Cert.quiescent_GateUpDx := fun m g _ => Cert.GateUpDx.Gen.frame m g

theorem frame_ideal : Cert.quiescent_GateUpDxIdeal := fun m g _ => Cert.GateUpDxIdeal.Gen.frame m g

/-- The host program has no semaphore, so its counters cannot be anything but zero. -/
theorem frame_reference : Cert.quiescent_GateUpDxRefIdeal := fun m g _ =>
  (θ_run Cert.GateUpDxRefIdeal.defs _ _).mono
    (fun r h => ⟨fun c => (h c).2, sem_eq_zero_of_no_sems (by decide) r.2⟩)
    (Cert.GateUpDxRefIdeal.Value.run (F := Ideal) m g)

theorem value : Cert.algebraic_GateUpDxIdeal_GateUpDxRefIdeal := fun m g m' g' _ hargs =>
  ⟨fun c => Product.dxBlocks (GateUpDxIdeal.Hand.argD m c) (GateUpDxIdeal.Hand.argW m c),
   (θ_run Cert.GateUpDxIdeal.defs _ _).mono
    (fun _ h c => ⟨(h c).1.trans (GateUpDxIdeal.Hand.final m c), (h c).2⟩)
    (Cert.GateUpDxIdeal.Value.run_blocks (F := Ideal) m g),
   (θ_run Cert.GateUpDxRefIdeal.defs _ _).mono
    (fun _ h c => ⟨(h c).1.trans ((GateUpDxRefIdeal.Read.val_main_v9_eq _ _).trans
        ((GateUpDxIdeal.Hand.reference _ _).trans (congrArg₂ Product.dxBlocks (hargs c).1 (hargs c).2.1))), (h c).2⟩)
    (Cert.GateUpDxRefIdeal.Value.run (F := Ideal) m' g')⟩

end Cert.GateUpDxClaims

end
-- ==== Proof.Product.OutDw.lean ====
/-
  The gradient of the output projection with respect to its weights: the kernel's block of 512 rows at
  each grid point, the array they make, and the reference's one product.
-/
module

public import proofs.«01_k».proof.Defs
public import proofs.«01_k».proof.Proof.Product.Spec
public import proofs.«01_k».proof.Proof.Gen.OutDw.Frame
public import proofs.«01_k».proof.Proof.Gen.OutDwIdeal.Frame
public import proofs.«01_k».proof.Proof.Gen.OutDwIdeal.Value
public import proofs.«01_k».proof.Proof.Gen.OutDwRefIdeal.Run
public import proofs.«01_k».proof.Proof.Gen.OutDwRefIdeal.Read
public import Idealize.ShloMosaic.Lib.Tactic
public import Idealize.ShloMosaic.Lib.KernelVsHost

@[expose] public section

set_option maxRecDepth 16384

noncomputable section

namespace Cert.OutDwIdeal.Hand

open Cert.OutDwIdeal Cert.OutDwIdeal.Gen Idealize.ShloMosaic Idealize.ShloMosaic.TcCoe Idealize.SL.Sem Cert.Product

variable (m : (ℓ : Loc nD τ sig) → Buf (Elt Ideal) ℓ) (c : Dev nD)

/-- The kernel's two arguments. -/
abbrev argX : Mat 4096 1024 := m ((c : Thread nD τ).loc main_arg0)
abbrev argY : Mat 4096 1024 := m ((c : Thread nD τ).loc main_arg1)

/-- Where each window's block starts, in blocks: block `t` of the result's rows is of block `t` of the first argument's columns. -/
theorem index_at : ∀ t : Fin cfg0.N,
    (win0_0.index t 0 = 0 ∧ win0_0.index t 1 = t.val) ∧ (win0_1.index t 0 = 0 ∧ win0_1.index t 1 = 0)
    ∧ (win0_2.index t 0 = t.val ∧ win0_2.index t 1 = 0) :=
  (by decide +kernel : ∀ t : Fin grid0.N,
    (win0_0.index t 0 = 0 ∧ win0_0.index t 1 = t.val) ∧ (win0_1.index t 0 = 0 ∧ win0_1.index t 1 = 0)
    ∧ (win0_2.index t 0 = t.val ∧ win0_2.index t 1 = 0))

theorem iblk0_at (t : Fin cfg0.N) (k : Fin 4096) (r : Fin 512) (n : Fin 1024) (hn : n.val = 512 * t.val + r.val) :
    iblk m c 0 t (ix2 k r) = argX m c (ix2 k n) := by
  obtain ⟨e0, e1⟩ := (index_at t).1
  unfold iblk
  rw [View.read_apply]
  refine entry2 (argX m c) ?_ ?_
  · show win0_0.index t 0 * 4096 + 1 * k.val = k.val
    rw [e0]; omega
  · show win0_0.index t 1 * 512 + 1 * r.val = n.val
    rw [e1]; omega

theorem iblk1_at (t : Fin cfg0.N) (k : Fin 4096) (l : Fin 1024) :
    iblk m c 1 t (ix2 k l) = argY m c (ix2 k l) := by
  obtain ⟨e0, e1⟩ := (index_at t).2.1
  unfold iblk
  rw [View.read_apply]
  refine entry2 (argY m c) ?_ ?_
  · show win0_1.index t 0 * 4096 + 1 * k.val = k.val
    rw [e0]; omega
  · show win0_1.index t 1 * 1024 + 1 * l.val = l.val
    rw [e1]; omega

/-- The body's result is one product of its two blocks. -/
theorem out_at (x0 : Vec Ideal S4096x512 .bf16) (x1 : Vec Ideal S4096x1024 .bf16) (r : Fin 512) (l : Fin 1024) :
    out0_2 x0 x1 (ix2 r l) = ∑ k : Fin 4096, x0 (ix2 k r) * x1 (ix2 k l) := by
  unfold out0_2
  rw [View.canon_unit_zero hz2, View.ld_unit_zero (S := S4096x512) hz2, View.ld_unit_zero (S := S4096x1024) hz2]
  pointwise [k0_pay1]

theorem final : (dats m 0 c).arrAt 2 cfg0.N = dw (argX m c) (argY m c) := by
  refine (dats m 0 c).arrAt_eq_of_cover 2 (dw (argX m c) (argY m c)) (fun t _ => ?_) fun i => ?_
  · obtain ⟨e0, e1⟩ := (index_at t).2.2
    have ht : t.val < 2 := lt_of_lt_of_eq t.isLt N_0
    rw [Value.flushed2]
    funext x
    obtain ⟨r, l, rfl⟩ : ∃ (r : Fin 512) (l : Fin 1024), x = ix2 r l := ⟨x 0, x 1, eq_ix2 x⟩
    refine (out_at (iblk m c 0 t) (iblk m c 1 t) r l).trans ?_
    rw [View.read_apply]
    refine Eq.trans ?_ (entry2 (dw (argX m c) (argY m c)) (i := ix2 ⟨512 * t.val + r.val, by omega⟩ l) ?_ ?_)
    · exact Finset.sum_congr rfl fun k _ => congrArg₂ (· * ·) (iblk0_at m c t k r _ rfl) (iblk1_at m c t k l)
    · show 512 * t.val + r.val = win0_2.index t 0 * 512 + 1 * r.val
      rw [e0]; omega
    · show l.val = win0_2.index t 1 * 1024 + 1 * l.val
      rw [e1]; omega
  · have h0 : (i 0 : Nat) < 1024 := (i 0).isLt
    have h1 : (i 1 : Nat) < 1024 := (i 1).isLt
    obtain ⟨t, ht⟩ : ∃ t : Fin cfg0.N, t.val = (i 0 : Nat) / 512 :=
      ⟨⟨(i 0 : Nat) / 512, by rw [show cfg0.N = 2 from N_0]; omega⟩, rfl⟩
    refine ⟨t, flush0_2 t, ?_⟩
    obtain ⟨e0, e1⟩ := (index_at t).2.2
    show i ∈ ((View.whole main_v0).slice (win0_2.rect t)).set
    rw [View.set_slice_whole, Rect.mem_set_unit]
    intro a
    match a with
    | ⟨0, _⟩ =>
      show win0_2.index t 0 * 512 ≤ (i 0 : Nat) ∧ (i 0 : Nat) < win0_2.index t 0 * 512 + 512
      rw [e0]; omega
    | ⟨1, _⟩ =>
      show win0_2.index t 1 * 1024 ≤ (i 1 : Nat) ∧ (i 1 : Nat) < win0_2.index t 1 * 1024 + 1024
      rw [e1]; omega

/-- The reference is that product with its factors and its axes exchanged. -/
theorem reference (x y : Mat 4096 1024) : OutDwRefIdeal.Read.val_main_v6 (F := Ideal) x y = dw x y := by
  funext i
  obtain ⟨r, l, rfl⟩ : ∃ (r : Fin 1024) (l : Fin 1024), i = ix2 r l := ⟨i 0, i 1, eq_ix2 i⟩
  show _ = ∑ k : Fin 4096, x (ix2 k r) * y (ix2 k l)
  pointwise [OutDwRefIdeal.Read.val_main_v6, OutDwRefIdeal.Read.val_main_v5, OutDwRefIdeal.Read.val_main_v4,
    OutDwRefIdeal.Read.val_main_v3, OutDwRefIdeal.Read.val_main_v1]
  exact Finset.sum_congr rfl fun k _ => mul_comm _ _

end Cert.OutDwIdeal.Hand

namespace Cert.OutDwClaims

open Idealize.ShloMosaic Idealize.ShloMosaic.TcCoe Idealize.SL.Sem

instance : Cert.OutDw.Facts := Cert.OutDw.Gen.facts
instance : Cert.OutDwIdeal.Facts := Cert.OutDwIdeal.Gen.facts
instance : Cert.OutDwRefIdeal.Facts := Cert.OutDwRefIdeal.Gen.facts

theorem frame : Cert.quiescent_OutDw := fun m g _ => Cert.OutDw.Gen.frame m g

theorem frame_ideal : Cert.quiescent_OutDwIdeal := fun m g _ => Cert.OutDwIdeal.Gen.frame m g

/-- The host program has no semaphore, so its counters cannot be anything but zero. -/
theorem frame_reference : Cert.quiescent_OutDwRefIdeal := fun m g _ =>
  (θ_run Cert.OutDwRefIdeal.defs _ _).mono
    (fun r h => ⟨fun c => (h c).2, sem_eq_zero_of_no_sems (by decide) r.2⟩)
    (Cert.OutDwRefIdeal.Value.run (F := Ideal) m g)

theorem value : Cert.algebraic_OutDwIdeal_OutDwRefIdeal := fun m g m' g' _ hargs =>
  ⟨fun c => Product.dw (OutDwIdeal.Hand.argX m c) (OutDwIdeal.Hand.argY m c),
   (θ_run Cert.OutDwIdeal.defs _ _).mono
    (fun _ h c => ⟨(h c).1.trans (OutDwIdeal.Hand.final m c), (h c).2⟩)
    (Cert.OutDwIdeal.Value.run_blocks (F := Ideal) m g),
   (θ_run Cert.OutDwRefIdeal.defs _ _).mono
    (fun _ h c => ⟨(h c).1.trans ((OutDwRefIdeal.Read.val_main_v6_eq _ _).trans
        ((OutDwIdeal.Hand.reference _ _).trans (congrArg₂ Product.dw (hargs c).1 (hargs c).2))), (h c).2⟩)
    (Cert.OutDwRefIdeal.Value.run (F := Ideal) m' g')⟩

end Cert.OutDwClaims

end
-- ==== Proof.Product.OutDx.lean ====
/-
  The gradient of the output projection with respect to its input: the kernel's block of 1024 rows and 512 columns at
  each grid point, the array they make, and the reference's one product.
-/
module

public import proofs.«01_k».proof.Defs
public import proofs.«01_k».proof.Proof.Product.Spec
public import proofs.«01_k».proof.Proof.Gen.OutDx.Frame
public import proofs.«01_k».proof.Proof.Gen.OutDxIdeal.Frame
public import proofs.«01_k».proof.Proof.Gen.OutDxIdeal.Value
public import proofs.«01_k».proof.Proof.Gen.OutDxRefIdeal.Run
public import proofs.«01_k».proof.Proof.Gen.OutDxRefIdeal.Read
public import Idealize.ShloMosaic.Lib.Tactic
public import Idealize.ShloMosaic.Lib.KernelVsHost

@[expose] public section

set_option maxRecDepth 16384

noncomputable section

namespace Cert.OutDxIdeal.Hand

open Cert.OutDxIdeal Cert.OutDxIdeal.Gen Idealize.ShloMosaic Idealize.ShloMosaic.TcCoe Idealize.SL.Sem Cert.Product

variable (m : (ℓ : Loc nD τ sig) → Buf (Elt Ideal) ℓ) (c : Dev nD)

/-- The kernel's two arguments. -/
abbrev argY : Mat 4096 1024 := m ((c : Thread nD τ).loc main_arg0)
abbrev argW : Mat 1024 1024 := m ((c : Thread nD τ).loc main_arg1)

/-- Where each window's block starts, in blocks: rows go slowly, columns fast. -/
theorem index_at : ∀ t : Fin cfg0.N,
    (win0_0.index t 0 = t.val / 2 ∧ win0_0.index t 1 = 0) ∧ (win0_1.index t 0 = t.val % 2 ∧ win0_1.index t 1 = 0)
    ∧ (win0_2.index t 0 = t.val / 2 ∧ win0_2.index t 1 = t.val % 2) :=
  (by decide +kernel : ∀ t : Fin grid0.N,
    (win0_0.index t 0 = t.val / 2 ∧ win0_0.index t 1 = 0) ∧ (win0_1.index t 0 = t.val % 2 ∧ win0_1.index t 1 = 0)
    ∧ (win0_2.index t 0 = t.val / 2 ∧ win0_2.index t 1 = t.val % 2))

theorem iblk0_at (t : Fin cfg0.N) (r : Fin 1024) (k : Fin 1024) (n : Fin 4096) (hn : n.val = 1024 * (t.val / 2) + r.val) :
    iblk m c 0 t (ix2 r k) = argY m c (ix2 n k) := by
  obtain ⟨e0, e1⟩ := (index_at t).1
  unfold iblk
  rw [View.read_apply]
  refine entry2 (argY m c) ?_ ?_
  · show win0_0.index t 0 * 1024 + 1 * r.val = n.val
    rw [e0]; omega
  · show win0_0.index t 1 * 1024 + 1 * k.val = k.val
    rw [e1]; omega

theorem iblk1_at (t : Fin cfg0.N) (r : Fin 512) (k : Fin 1024) (n : Fin 1024) (hn : n.val = 512 * (t.val % 2) + r.val) :
    iblk m c 1 t (ix2 r k) = argW m c (ix2 n k) := by
  obtain ⟨e0, e1⟩ := (index_at t).2.1
  unfold iblk
  rw [View.read_apply]
  refine entry2 (argW m c) ?_ ?_
  · show win0_1.index t 0 * 512 + 1 * r.val = n.val
    rw [e0]; omega
  · show win0_1.index t 1 * 1024 + 1 * k.val = k.val
    rw [e1]; omega

/-- The body's result is one product of its two blocks. -/
theorem out_at (x0 : Vec Ideal S1024x1024 .bf16) (x1 : Vec Ideal S512x1024 .bf16) (r : Fin 1024) (l : Fin 512) :
    out0_2 x0 x1 (ix2 r l) = ∑ k : Fin 1024, x0 (ix2 r k) * x1 (ix2 l k) := by
  unfold out0_2
  rw [View.canon_unit_zero hz2, View.ld_unit_zero (S := S1024x1024) hz2, View.ld_unit_zero (S := S512x1024) hz2]
  pointwise [k0_pay1]

theorem final : (dats m 0 c).arrAt 2 cfg0.N = dx (argY m c) (argW m c) := by
  refine (dats m 0 c).arrAt_eq_of_cover 2 (dx (argY m c) (argW m c)) (fun t _ => ?_) fun i => ?_
  · obtain ⟨e0, e1⟩ := (index_at t).2.2
    have ht : t.val < 8 := lt_of_lt_of_eq t.isLt N_0
    rw [Value.flushed2]
    funext x
    obtain ⟨r, l, rfl⟩ : ∃ (r : Fin 1024) (l : Fin 512), x = ix2 r l := ⟨x 0, x 1, eq_ix2 x⟩
    refine (out_at (iblk m c 0 t) (iblk m c 1 t) r l).trans ?_
    rw [View.read_apply]
    refine Eq.trans ?_ (entry2 (dx (argY m c) (argW m c))
      (i := ix2 ⟨1024 * (t.val / 2) + r.val, by omega⟩ ⟨512 * (t.val % 2) + l.val, by omega⟩) ?_ ?_)
    · exact Finset.sum_congr rfl fun k _ => congrArg₂ (· * ·) (iblk0_at m c t r k _ rfl) (iblk1_at m c t l k _ rfl)
    · show 1024 * (t.val / 2) + r.val = win0_2.index t 0 * 1024 + 1 * r.val
      rw [e0]; omega
    · show 512 * (t.val % 2) + l.val = win0_2.index t 1 * 512 + 1 * l.val
      rw [e1]; omega
  · have h0 : (i 0 : Nat) < 4096 := (i 0).isLt
    have h1 : (i 1 : Nat) < 1024 := (i 1).isLt
    obtain ⟨t, ht⟩ : ∃ t : Fin cfg0.N, t.val = (i 0 : Nat) / 1024 * 2 + (i 1 : Nat) / 512 :=
      ⟨⟨(i 0 : Nat) / 1024 * 2 + (i 1 : Nat) / 512, by rw [show cfg0.N = 8 from N_0]; omega⟩, rfl⟩
    refine ⟨t, flush0_2 t, ?_⟩
    obtain ⟨e0, e1⟩ := (index_at t).2.2
    show i ∈ ((View.whole main_v0).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [e0]; omega
    | ⟨1, _⟩ =>
      show win0_2.index t 1 * 512 ≤ (i 1 : Nat) ∧ (i 1 : Nat) < win0_2.index t 1 * 512 + 512
      rw [e1]; omega

/-- The reference is that product at once. -/
theorem reference (y : Mat 4096 1024) (w : Mat 1024 1024) : OutDxRefIdeal.Read.val_main_v5 (F := Ideal) y w = dx y w := by
  funext i
  obtain ⟨r, l, rfl⟩ : ∃ (r : Fin 4096) (l : Fin 1024), i = ix2 r l := ⟨i 0, i 1, eq_ix2 i⟩
  show _ = ∑ k : Fin 1024, y (ix2 r k) * w (ix2 l k)
  pointwise [OutDxRefIdeal.Read.val_main_v5, OutDxRefIdeal.Read.val_main_v4, OutDxRefIdeal.Read.val_main_v3, OutDxRefIdeal.Read.val_main_v1]

end Cert.OutDxIdeal.Hand

namespace Cert.OutDxClaims

open Idealize.ShloMosaic Idealize.ShloMosaic.TcCoe Idealize.SL.Sem

instance : Cert.OutDx.Facts := Cert.OutDx.Gen.facts
instance : Cert.OutDxIdeal.Facts := Cert.OutDxIdeal.Gen.facts
instance : Cert.OutDxRefIdeal.Facts := Cert.OutDxRefIdeal.Gen.facts

theorem frame : Cert.quiescent_OutDx := fun m g _ => Cert.OutDx.Gen.frame m g

theorem frame_ideal : Cert.quiescent_OutDxIdeal := fun m g _ => Cert.OutDxIdeal.Gen.frame m g

/-- The host program has no semaphore, so its counters cannot be anything but zero. -/
theorem frame_reference : Cert.quiescent_OutDxRefIdeal := fun m g _ =>
  (θ_run Cert.OutDxRefIdeal.defs _ _).mono
    (fun r h => ⟨fun c => (h c).2, sem_eq_zero_of_no_sems (by decide) r.2⟩)
    (Cert.OutDxRefIdeal.Value.run (F := Ideal) m g)

theorem value : Cert.algebraic_OutDxIdeal_OutDxRefIdeal := fun m g m' g' _ hargs =>
  ⟨fun c => Product.dx (OutDxIdeal.Hand.argY m c) (OutDxIdeal.Hand.argW m c),
   (θ_run Cert.OutDxIdeal.defs _ _).mono
    (fun _ h c => ⟨(h c).1.trans (OutDxIdeal.Hand.final m c), (h c).2⟩)
    (Cert.OutDxIdeal.Value.run_blocks (F := Ideal) m g),
   (θ_run Cert.OutDxRefIdeal.defs _ _).mono
    (fun _ h c => ⟨(h c).1.trans ((OutDxRefIdeal.Read.val_main_v5_eq _ _).trans
        ((OutDxIdeal.Hand.reference _ _).trans (congrArg₂ Product.dx (hargs c).1 (hargs c).2))), (h c).2⟩)
    (Cert.OutDxRefIdeal.Value.run (F := Ideal) m' g')⟩

end Cert.OutDxClaims

end
-- ==== Proof.Product.KvDw.lean ====
/-
  The gradient of the key and value projection with respect to its weights: the kernel's block of 768 columns at
  each grid point, the array they make, and the reference's one product.
-/
module

public import proofs.«01_k».proof.Defs
public import proofs.«01_k».proof.Proof.Product.Spec
public import proofs.«01_k».proof.Proof.Gen.KvDw.Frame
public import proofs.«01_k».proof.Proof.Gen.KvDwIdeal.Frame
public import proofs.«01_k».proof.Proof.Gen.KvDwIdeal.Value
public import proofs.«01_k».proof.Proof.Gen.KvDwRefIdeal.Run
public import proofs.«01_k».proof.Proof.Gen.KvDwRefIdeal.Read
public import Idealize.ShloMosaic.Lib.Tactic
public import Idealize.ShloMosaic.Lib.KernelVsHost

@[expose] public section

set_option maxRecDepth 16384

noncomputable section

namespace Cert.KvDwIdeal.Hand

open Cert.KvDwIdeal Cert.KvDwIdeal.Gen Idealize.ShloMosaic Idealize.ShloMosaic.TcCoe Idealize.SL.Sem Cert.Product

variable (m : (ℓ : Loc nD τ sig) → Buf (Elt Ideal) ℓ) (c : Dev nD)

/-- The kernel's two arguments. -/
abbrev argX : Mat 4096 1024 := m ((c : Thread nD τ).loc main_arg0)
abbrev argY : Mat 4096 6144 := m ((c : Thread nD τ).loc main_arg1)

/-- Where each window's block starts, in blocks: block `t` of the result is of block `t` of the second argument's columns. -/
theorem index_at : ∀ t : Fin cfg0.N,
    (win0_0.index t 0 = 0 ∧ win0_0.index t 1 = 0) ∧ (win0_1.index t 0 = 0 ∧ win0_1.index t 1 = t.val)
    ∧ (win0_2.index t 0 = t.val ∧ win0_2.index t 1 = 0 ∧ win0_2.index t 2 = 0) :=
  (by decide +kernel : ∀ t : Fin grid0.N,
    (win0_0.index t 0 = 0 ∧ win0_0.index t 1 = 0) ∧ (win0_1.index t 0 = 0 ∧ win0_1.index t 1 = t.val)
    ∧ (win0_2.index t 0 = t.val ∧ win0_2.index t 1 = 0 ∧ win0_2.index t 2 = 0))

theorem iblk0_at (t : Fin cfg0.N) (k : Fin 4096) (r : Fin 1024) :
    iblk m c 0 t (ix2 k r) = argX m c (ix2 k r) := by
  obtain ⟨e0, e1⟩ := (index_at t).1
  unfold iblk
  rw [View.read_apply]
  refine entry2 (argX m c) ?_ ?_
  · show win0_0.index t 0 * 4096 + 1 * k.val = k.val
    rw [e0]; omega
  · show win0_0.index t 1 * 1024 + 1 * r.val = r.val
    rw [e1]; omega

theorem iblk1_at (t : Fin cfg0.N) (k : Fin 4096) (l : Fin 768) (n : Fin 6144) (hn : n.val = 768 * t.val + l.val) :
    iblk m c 1 t (ix2 k l) = argY m c (ix2 k n) := by
  obtain ⟨e0, e1⟩ := (index_at t).2.1
  unfold iblk
  rw [View.read_apply]
  refine entry2 (argY m c) ?_ ?_
  · show win0_1.index t 0 * 4096 + 1 * k.val = k.val
    rw [e0]; omega
  · show win0_1.index t 1 * 768 + 1 * l.val = n.val
    rw [e1]; omega

/-- The body's result is one product of its two blocks. -/
theorem out_at (x0 : Vec Ideal S4096x1024 .bf16) (x1 : Vec Ideal S4096x768 .bf16) (b : Fin 1) (r : Fin 1024) (l : Fin 768) :
    out0_2 x0 x1 (ix3 b r l) = ∑ k : Fin 4096, x0 (ix2 k r) * x1 (ix2 k l) := by
  unfold out0_2
  rw [View.canon_unit_zero hz3, View.ld_unit_zero (S := S4096x1024) hz2, View.ld_unit_zero (S := S4096x768) hz2]
  pointwise [k0_pay1]

theorem final : (dats m 0 c).arrAt 2 cfg0.N = dwCols (G := 8) (n := 768) rfl (argX m c) (argY m c) := by
  refine (dats m 0 c).arrAt_eq_of_cover 2 (dwCols (G := 8) (n := 768) rfl (argX m c) (argY m c)) (fun t _ => ?_) fun i => ?_
  · obtain ⟨e0, e1, e2⟩ := (index_at t).2.2
    have ht : t.val < 8 := lt_of_lt_of_eq t.isLt N_0
    rw [Value.flushed2]
    funext x
    obtain ⟨b, r, l, rfl⟩ : ∃ (b : Fin 1) (r : Fin 1024) (l : Fin 768), x = ix3 b r l := ⟨x 0, x 1, x 2, eq_ix3 x⟩
    refine (out_at (iblk m c 0 t) (iblk m c 1 t) b r l).trans ?_
    rw [View.read_apply]
    refine Eq.trans ?_ (entry3 (dwCols (G := 8) (n := 768) rfl (argX m c) (argY m c)) (i := ix3 ⟨t.val, ht⟩ r l) ?_ ?_ ?_)
    · exact Finset.sum_congr rfl fun k _ => congrArg₂ (· * ·) (iblk0_at m c t k r)
        (iblk1_at m c t k l (lane rfl (⟨t.val, ht⟩ : Fin 8) l) (by show t.val * 768 + _ = _; omega))
    · show t.val = win0_2.index t 0 * 1 + 1 * b.val
      rw [e0]; omega
    · show r.val = win0_2.index t 1 * 1024 + 1 * r.val
      rw [e1]; omega
    · show l.val = win0_2.index t 2 * 768 + 1 * l.val
      rw [e2]; omega
  · have h0 : (i 0 : Nat) < 8 := (i 0).isLt
    have h1 : (i 1 : Nat) < 1024 := (i 1).isLt
    have h2 : (i 2 : Nat) < 768 := (i 2).isLt
    obtain ⟨t, ht⟩ : ∃ t : Fin cfg0.N, t.val = (i 0 : Nat) := ⟨⟨(i 0 : Nat), by rw [show cfg0.N = 8 from N_0]; omega⟩, rfl⟩
    refine ⟨t, flush0_2 t, ?_⟩
    obtain ⟨e0, e1, e2⟩ := (index_at t).2.2
    show i ∈ ((View.whole main_v0).slice (win0_2.rect t)).set
    rw [View.set_slice_whole, Rect.mem_set_unit]
    intro a
    match a with
    | ⟨0, _⟩ =>
      show win0_2.index t 0 * 1 ≤ (i 0 : Nat) ∧ (i 0 : Nat) < win0_2.index t 0 * 1 + 1
      rw [e0]; omega
    | ⟨1, _⟩ =>
      show win0_2.index t 1 * 1024 ≤ (i 1 : Nat) ∧ (i 1 : Nat) < win0_2.index t 1 * 1024 + 1024
      rw [e1]; omega
    | ⟨2, _⟩ =>
      show win0_2.index t 2 * 768 ≤ (i 2 : Nat) ∧ (i 2 : Nat) < win0_2.index t 2 * 768 + 768
      rw [e2]; omega

/-- The reference is that product with its factors and its axes exchanged, and its columns cut into blocks. -/
theorem reference (x : Mat 4096 1024) (y : Mat 4096 6144) :
    KvDwRefIdeal.Read.val_main_v8 (F := Ideal) x y = dwCols (G := 8) (n := 768) rfl x y := by
  funext i
  obtain ⟨b, r, l, rfl⟩ : ∃ (b : Fin 8) (r : Fin 1024) (l : Fin 768), i = ix3 b r l := ⟨i 0, i 1, i 2, eq_ix3 i⟩
  show _ = ∑ k : Fin 4096, x (ix2 k r) * y (ix2 k (lane rfl b l))
  generalize hR : ∑ k : Fin 4096, x (ix2 k r) * y (ix2 k (lane rfl b l)) = R
  pointwise [KvDwRefIdeal.Read.val_main_v8, KvDwRefIdeal.Read.val_main_v7, KvDwRefIdeal.Read.val_main_v6,
    KvDwRefIdeal.Read.val_main_v5, KvDwRefIdeal.Read.val_main_v4, KvDwRefIdeal.Read.val_main_v3, KvDwRefIdeal.Read.val_main_v1]
  rw [← hR]
  exact Finset.sum_congr rfl fun k _ => mul_comm _ _

end Cert.KvDwIdeal.Hand

namespace Cert.KvDwClaims

open Idealize.ShloMosaic Idealize.ShloMosaic.TcCoe Idealize.SL.Sem

instance : Cert.KvDw.Facts := Cert.KvDw.Gen.facts
instance : Cert.KvDwIdeal.Facts := Cert.KvDwIdeal.Gen.facts
instance : Cert.KvDwRefIdeal.Facts := Cert.KvDwRefIdeal.Gen.facts

theorem frame : Cert.quiescent_KvDw := fun m g _ => Cert.KvDw.Gen.frame m g

theorem frame_ideal : Cert.quiescent_KvDwIdeal := fun m g _ => Cert.KvDwIdeal.Gen.frame m g

/-- The host program has no semaphore, so its counters cannot be anything but zero. -/
theorem frame_reference : Cert.quiescent_KvDwRefIdeal := fun m g _ =>
  (θ_run Cert.KvDwRefIdeal.defs _ _).mono
    (fun r h => ⟨fun c => (h c).2, sem_eq_zero_of_no_sems (by decide) r.2⟩)
    (Cert.KvDwRefIdeal.Value.run (F := Ideal) m g)

theorem value : Cert.algebraic_KvDwIdeal_KvDwRefIdeal := fun m g m' g' _ hargs =>
  ⟨fun c => Product.dwCols (G := 8) (n := 768) rfl (KvDwIdeal.Hand.argX m c) (KvDwIdeal.Hand.argY m c),
   (θ_run Cert.KvDwIdeal.defs _ _).mono
    (fun _ h c => ⟨(h c).1.trans (KvDwIdeal.Hand.final m c), (h c).2⟩)
    (Cert.KvDwIdeal.Value.run_blocks (F := Ideal) m g),
   (θ_run Cert.KvDwRefIdeal.defs _ _).mono
    (fun _ h c => ⟨(h c).1.trans ((KvDwRefIdeal.Read.val_main_v8_eq _ _).trans
        ((KvDwIdeal.Hand.reference _ _).trans (congrArg₂ (Product.dwCols (G := 8) (n := 768) rfl) (hargs c).1 (hargs c).2))), (h c).2⟩)
    (Cert.KvDwRefIdeal.Value.run (F := Ideal) m' g')⟩

end Cert.KvDwClaims

end
-- ==== Proof.Product.QDw.lean ====
/-
  The gradient of the query projection with respect to its weights: the kernel's two blocks of 384 columns at
  each grid point, the array they make, and the reference's one product.
-/
module

public import proofs.«01_k».proof.Defs
public import proofs.«01_k».proof.Proof.Product.Spec
public import proofs.«01_k».proof.Proof.Gen.QDw.Frame
public import proofs.«01_k».proof.Proof.Gen.QDwIdeal.Frame
public import proofs.«01_k».proof.Proof.Gen.QDwIdeal.Value
public import proofs.«01_k».proof.Proof.Gen.QDwRefIdeal.Run
public import proofs.«01_k».proof.Proof.Gen.QDwRefIdeal.Read
public import Idealize.ShloMosaic.Lib.Tactic
public import Idealize.ShloMosaic.Lib.KernelVsHost

@[expose] public section

set_option maxRecDepth 16384

noncomputable section

namespace Cert.QDwIdeal.Hand

open Cert.QDwIdeal Cert.QDwIdeal.Gen Idealize.ShloMosaic Idealize.ShloMosaic.TcCoe Idealize.SL.Sem Cert.Product

variable (m : (ℓ : Loc nD τ sig) → Buf (Elt Ideal) ℓ) (c : Dev nD)

/-- The kernel's two arguments. -/
abbrev argX : Mat 4096 1024 := m ((c : Thread nD τ).loc main_arg0)
abbrev argY : Mat 4096 3072 := m ((c : Thread nD τ).loc main_arg1)

/-- Where each window's block starts, in blocks: two blocks of the result are of 768 of the second argument's columns. -/
theorem index_at : ∀ t : Fin cfg0.N,
    (win0_0.index t 0 = 0 ∧ win0_0.index t 1 = 0) ∧ (win0_1.index t 0 = 0 ∧ win0_1.index t 1 = t.val)
    ∧ (win0_2.index t 0 = t.val ∧ win0_2.index t 1 = 0 ∧ win0_2.index t 2 = 0) :=
  (by decide +kernel : ∀ t : Fin grid0.N,
    (win0_0.index t 0 = 0 ∧ win0_0.index t 1 = 0) ∧ (win0_1.index t 0 = 0 ∧ win0_1.index t 1 = t.val)
    ∧ (win0_2.index t 0 = t.val ∧ win0_2.index t 1 = 0 ∧ win0_2.index t 2 = 0))

theorem iblk0_at (t : Fin cfg0.N) (k : Fin 4096) (r : Fin 1024) :
    iblk m c 0 t (ix2 k r) = argX m c (ix2 k r) := by
  obtain ⟨e0, e1⟩ := (index_at t).1
  unfold iblk
  rw [View.read_apply]
  refine entry2 (argX m c) ?_ ?_
  · show win0_0.index t 0 * 4096 + 1 * k.val = k.val
    rw [e0]; omega
  · show win0_0.index t 1 * 1024 + 1 * r.val = r.val
    rw [e1]; omega

theorem iblk1_at (t : Fin cfg0.N) (k : Fin 4096) (l : Fin 768) (n : Fin 3072) (hn : n.val = 768 * t.val + l.val) :
    iblk m c 1 t (ix2 k l) = argY m c (ix2 k n) := by
  obtain ⟨e0, e1⟩ := (index_at t).2.1
  unfold iblk
  rw [View.read_apply]
  refine entry2 (argY m c) ?_ ?_
  · show win0_1.index t 0 * 4096 + 1 * k.val = k.val
    rw [e0]; omega
  · show win0_1.index t 1 * 768 + 1 * l.val = n.val
    rw [e1]; omega

/-- The body's two stores are the two halves of one product of its two blocks. -/
theorem out_at (x0 : Vec Ideal S4096x1024 .bf16) (x1 : Vec Ideal S4096x768 .bf16) (b : Fin 2) (r : Fin 1024) (l : Fin 384) :
    out0_2 x0 x1 (ix3 b r l) = ∑ k : Fin 4096, x0 (ix2 k r) * x1 (ix2 k (lane rfl b l)) := by
  unfold out0_2
  rw [View.ld_unit_zero (S := S4096x1024) hz2, View.ld_unit_zero (S := S4096x768) hz2, Value.canon2_eq]
  show k0_pay1 x0 x1 (Value.ix2_0 (ix3 b r l)) = _
  rw [show Value.ix2_0 (ix3 b r l) = ix2 r (lane (C := 768) rfl b l) from
    funext fun a => match a with | ⟨0, _⟩ => rfl | ⟨1, _⟩ => rfl]
  pointwise [k0_pay1]

theorem final : (dats m 0 c).arrAt 2 cfg0.N = dwCols (G := 8) (n := 384) rfl (argX m c) (argY m c) := by
  refine (dats m 0 c).arrAt_eq_of_cover 2 (dwCols (G := 8) (n := 384) rfl (argX m c) (argY m c)) (fun t _ => ?_) fun i => ?_
  · obtain ⟨e0, e1, e2⟩ := (index_at t).2.2
    have ht : t.val < 4 := lt_of_lt_of_eq t.isLt N_0
    rw [Value.flushed2]
    funext x
    obtain ⟨b, r, l, rfl⟩ : ∃ (b : Fin 2) (r : Fin 1024) (l : Fin 384), x = ix3 b r l := ⟨x 0, x 1, x 2, eq_ix3 x⟩
    refine (out_at (iblk m c 0 t) (iblk m c 1 t) b r l).trans ?_
    rw [View.read_apply]
    refine Eq.trans ?_ (entry3 (dwCols (G := 8) (n := 384) rfl (argX m c) (argY m c)) (i := ix3 ⟨2 * t.val + b.val, by omega⟩ r l) ?_ ?_ ?_)
    · exact Finset.sum_congr rfl fun k _ => congrArg₂ (· * ·) (iblk0_at m c t k r)
        (iblk1_at m c t k (lane rfl b l) (lane rfl (⟨2 * t.val + b.val, by omega⟩ : Fin 8) l)
          (by show (2 * t.val + b.val) * 384 + l.val = 768 * t.val + (b.val * 384 + l.val); omega))
    · show 2 * t.val + b.val = win0_2.index t 0 * 2 + 1 * b.val
      rw [e0]; omega
    · show r.val = win0_2.index t 1 * 1024 + 1 * r.val
      rw [e1]; omega
    · show l.val = win0_2.index t 2 * 384 + 1 * l.val
      rw [e2]; omega
  · have h0 : (i 0 : Nat) < 8 := (i 0).isLt
    have h1 : (i 1 : Nat) < 1024 := (i 1).isLt
    have h2 : (i 2 : Nat) < 384 := (i 2).isLt
    obtain ⟨t, ht⟩ : ∃ t : Fin cfg0.N, t.val = (i 0 : Nat) / 2 :=
      ⟨⟨(i 0 : Nat) / 2, by rw [show cfg0.N = 4 from N_0]; omega⟩, rfl⟩
    refine ⟨t, flush0_2 t, ?_⟩
    obtain ⟨e0, e1, e2⟩ := (index_at t).2.2
    show i ∈ ((View.whole main_v0).slice (win0_2.rect t)).set
    rw [View.set_slice_whole, Rect.mem_set_unit]
    intro a
    match a with
    | ⟨0, _⟩ =>
      show win0_2.index t 0 * 2 ≤ (i 0 : Nat) ∧ (i 0 : Nat) < win0_2.index t 0 * 2 + 2
      rw [e0]; omega
    | ⟨1, _⟩ =>
      show win0_2.index t 1 * 1024 ≤ (i 1 : Nat) ∧ (i 1 : Nat) < win0_2.index t 1 * 1024 + 1024
      rw [e1]; omega
    | ⟨2, _⟩ =>
      show win0_2.index t 2 * 384 ≤ (i 2 : Nat) ∧ (i 2 : Nat) < win0_2.index t 2 * 384 + 384
      rw [e2]; omega

/-- The reference is that product with its factors and its axes exchanged, and its columns cut into blocks. -/
theorem reference (x : Mat 4096 1024) (y : Mat 4096 3072) :
    QDwRefIdeal.Read.val_main_v8 (F := Ideal) x y = dwCols (G := 8) (n := 384) rfl x y := by
  funext i
  obtain ⟨b, r, l, rfl⟩ : ∃ (b : Fin 8) (r : Fin 1024) (l : Fin 384), i = ix3 b r l := ⟨i 0, i 1, i 2, eq_ix3 i⟩
  show _ = ∑ k : Fin 4096, x (ix2 k r) * y (ix2 k (lane rfl b l))
  generalize hR : ∑ k : Fin 4096, x (ix2 k r) * y (ix2 k (lane rfl b l)) = R
  pointwise [QDwRefIdeal.Read.val_main_v8, QDwRefIdeal.Read.val_main_v7, QDwRefIdeal.Read.val_main_v6,
    QDwRefIdeal.Read.val_main_v5, QDwRefIdeal.Read.val_main_v4, QDwRefIdeal.Read.val_main_v3, QDwRefIdeal.Read.val_main_v1]
  rw [← hR]
  exact Finset.sum_congr rfl fun k _ => mul_comm _ _

end Cert.QDwIdeal.Hand

namespace Cert.QDwClaims

open Idealize.ShloMosaic Idealize.ShloMosaic.TcCoe Idealize.SL.Sem

instance : Cert.QDw.Facts := Cert.QDw.Gen.facts
instance : Cert.QDwIdeal.Facts := Cert.QDwIdeal.Gen.facts
instance : Cert.QDwRefIdeal.Facts := Cert.QDwRefIdeal.Gen.facts

theorem frame : Cert.quiescent_QDw := fun m g _ => Cert.QDw.Gen.frame m g

theorem frame_ideal : Cert.quiescent_QDwIdeal := fun m g _ => Cert.QDwIdeal.Gen.frame m g

/-- The host program has no semaphore, so its counters cannot be anything but zero. -/
theorem frame_reference : Cert.quiescent_QDwRefIdeal := fun m g _ =>
  (θ_run Cert.QDwRefIdeal.defs _ _).mono
    (fun r h => ⟨fun c => (h c).2, sem_eq_zero_of_no_sems (by decide) r.2⟩)
    (Cert.QDwRefIdeal.Value.run (F := Ideal) m g)

theorem value : Cert.algebraic_QDwIdeal_QDwRefIdeal := fun m g m' g' _ hargs =>
  ⟨fun c => Product.dwCols (G := 8) (n := 384) rfl (QDwIdeal.Hand.argX m c) (QDwIdeal.Hand.argY m c),
   (θ_run Cert.QDwIdeal.defs _ _).mono
    (fun _ h c => ⟨(h c).1.trans (QDwIdeal.Hand.final m c), (h c).2⟩)
    (Cert.QDwIdeal.Value.run_blocks (F := Ideal) m g),
   (θ_run Cert.QDwRefIdeal.defs _ _).mono
    (fun _ h c => ⟨(h c).1.trans ((QDwRefIdeal.Read.val_main_v8_eq _ _).trans
        ((QDwIdeal.Hand.reference _ _).trans (congrArg₂ (Product.dwCols (G := 8) (n := 384) rfl) (hargs c).1 (hargs c).2))), (h c).2⟩)
    (Cert.QDwRefIdeal.Value.run (F := Ideal) m' g')⟩

end Cert.QDwClaims

end
-- ==== Proof.Product.KvDx.lean ====
/-
  The gradient of the key and value projection with respect to its input: the kernel's block of 512 rows at each
  grid point, the array they make, and the reference's one product.
-/
module

public import proofs.«01_k».proof.Defs
public import proofs.«01_k».proof.Proof.Product.Spec
public import proofs.«01_k».proof.Proof.Gen.KvDx.Frame
public import proofs.«01_k».proof.Proof.Gen.KvDxIdeal.Frame
public import proofs.«01_k».proof.Proof.Gen.KvDxIdeal.Value
public import proofs.«01_k».proof.Proof.Gen.KvDxRefIdeal.Run
public import proofs.«01_k».proof.Proof.Gen.KvDxRefIdeal.Read
public import Idealize.ShloMosaic.Lib.Tactic
public import Idealize.ShloMosaic.Lib.KernelVsHost
public import Idealize.ShloMosaic.Lib.VecWindow

@[expose] public section

set_option maxRecDepth 16384

noncomputable section

namespace Cert.KvDxIdeal.Hand

open Cert.KvDxIdeal Cert.KvDxIdeal.Gen Idealize.ShloMosaic Idealize.ShloMosaic.TcCoe Idealize.SL.Sem Cert.Product

variable (m : (ℓ : Loc nD τ sig) → Buf (Elt Ideal) ℓ) (c : Dev nD)

/-- The kernel's two arguments. -/
abbrev argY : Mat 4096 6144 := m ((c : Thread nD τ).loc main_arg0)
abbrev argW : Mat 1024 6144 := m ((c : Thread nD τ).loc main_arg1)

/-- Where each window's block starts, in blocks: block `t` of the rows, all columns. -/
theorem index_at : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N,
    (win0_0.index t 0 = t.val ∧ win0_0.index t 1 = 0) ∧ (win0_1.index t 0 = 0 ∧ win0_1.index t 1 = 0)
    ∧ (win0_2.index t 0 = t.val ∧ win0_2.index t 1 = 0))

theorem iblk0_at (t : Fin cfg0.N) (r : Fin 512) (k : Fin 6144) (n : Fin 4096) (hn : n.val = 512 * t.val + r.val) :
    iblk m c 0 t (ix2 r k) = argY m c (ix2 n k) := by
  obtain ⟨e0, e1⟩ := (index_at t).1
  unfold iblk
  rw [View.read_apply]
  refine entry2 (argY m c) ?_ ?_
  · show win0_0.index t 0 * 512 + 1 * r.val = n.val
    rw [e0]; omega
  · show win0_0.index t 1 * 6144 + 1 * k.val = k.val
    rw [e1]; omega

theorem iblk1_at (t : Fin cfg0.N) (r : Fin 1024) (k : Fin 6144) :
    iblk m c 1 t (ix2 r k) = argW m c (ix2 r k) := by
  obtain ⟨e0, e1⟩ := (index_at t).2.1
  unfold iblk
  rw [View.read_apply]
  refine entry2 (argW m c) ?_ ?_
  · show win0_1.index t 0 * 1024 + 1 * r.val = r.val
    rw [e0]; omega
  · show win0_1.index t 1 * 6144 + 1 * k.val = k.val
    rw [e1]; omega

/-- What the body leaves at a point is its payload of the point's two blocks. -/
theorem outsAt_eq (t : Fin cfg0.N) : outsAt0 m c t = k0_pay1 (iblk m c 0 t) (iblk m c 1 t) := by
  unfold outsAt0 out0_A_2 kernelRun0_A
  dsimp only
  sl_unfold_words
  simp only [View.readAt_eq_ld, (hs0_0 t).read_unread, (hs0_1 t).read_unread, View.ld_unit_zero (S := S512x6144) hz2,
    View.ld_unit_zero (S := S1024x6144) hz2]
  exact View.read_writes_full _ _ _ _ _

/-- The payload is one product of the two blocks. -/
theorem out_at (x0 : Vec Ideal S512x6144 .bf16) (x1 : Vec Ideal S1024x6144 .bf16) (r : Fin 512) (l : Fin 1024) :
    k0_pay1 x0 x1 (ix2 r l) = ∑ k : Fin 6144, x0 (ix2 r k) * x1 (ix2 l k) := by
  pointwise [k0_pay1]

theorem final : (dats m 0 c).arrAt 2 cfg0.N = dx (argY m c) (argW m c) := by
  refine (dats m 0 c).arrAt_eq_of_cover 2 (dx (argY m c) (argW m c)) (fun t _ => ?_) fun i => ?_
  · obtain ⟨e0, e1⟩ := (index_at t).2.2
    have ht : t.val < 8 := lt_of_lt_of_eq t.isLt N_0
    rw [Value.flushed2, outsAt_eq]
    funext x
    obtain ⟨r, l, rfl⟩ : ∃ (r : Fin 512) (l : Fin 1024), x = ix2 r l := ⟨x 0, x 1, eq_ix2 x⟩
    refine (out_at (iblk m c 0 t) (iblk m c 1 t) r l).trans ?_
    rw [View.read_apply]
    refine Eq.trans ?_ (entry2 (dx (argY m c) (argW m c))
      (i := ix2 ⟨512 * t.val + r.val, by omega⟩ l) ?_ ?_)
    · exact Finset.sum_congr rfl fun k _ => congrArg₂ (· * ·) (iblk0_at m c t r k _ rfl) (iblk1_at m c t l k)
    · show 512 * t.val + r.val = win0_2.index t 0 * 512 + 1 * r.val
      rw [e0]; omega
    · show l.val = win0_2.index t 1 * 1024 + 1 * l.val
      rw [e1]; omega
  · have h0 : (i 0 : Nat) < 4096 := (i 0).isLt
    have h1 : (i 1 : Nat) < 1024 := (i 1).isLt
    obtain ⟨t, ht⟩ : ∃ t : Fin cfg0.N, t.val = (i 0 : Nat) / 512 :=
      ⟨⟨(i 0 : Nat) / 512, by rw [show cfg0.N = 8 from N_0]; omega⟩, rfl⟩
    refine ⟨t, flush0_2 t, ?_⟩
    obtain ⟨e0, e1⟩ := (index_at t).2.2
    show i ∈ ((View.whole main_v0).slice (win0_2.rect t)).set
    rw [View.set_slice_whole, Rect.mem_set_unit]
    intro a
    match a with
    | ⟨0, _⟩ =>
      show win0_2.index t 0 * 512 ≤ (i 0 : Nat) ∧ (i 0 : Nat) < win0_2.index t 0 * 512 + 512
      rw [e0]; omega
    | ⟨1, _⟩ =>
      show win0_2.index t 1 * 1024 ≤ (i 1 : Nat) ∧ (i 1 : Nat) < win0_2.index t 1 * 1024 + 1024
      rw [e1]; omega

/-- The reference is that product at once. -/
theorem reference (y : Mat 4096 6144) (w : Mat 1024 6144) : KvDxRefIdeal.Read.val_main_v5 (F := Ideal) y w = dx y w := by
  funext i
  obtain ⟨r, l, rfl⟩ : ∃ (r : Fin 4096) (l : Fin 1024), i = ix2 r l := ⟨i 0, i 1, eq_ix2 i⟩
  show _ = ∑ k : Fin 6144, y (ix2 r k) * w (ix2 l k)
  pointwise [KvDxRefIdeal.Read.val_main_v5, KvDxRefIdeal.Read.val_main_v4, KvDxRefIdeal.Read.val_main_v3, KvDxRefIdeal.Read.val_main_v1]

end Cert.KvDxIdeal.Hand

namespace Cert.KvDxClaims

open Idealize.ShloMosaic Idealize.ShloMosaic.TcCoe Idealize.SL.Sem

instance : Cert.KvDx.Facts := Cert.KvDx.Gen.facts
instance : Cert.KvDxIdeal.Facts := Cert.KvDxIdeal.Gen.facts
instance : Cert.KvDxRefIdeal.Facts := Cert.KvDxRefIdeal.Gen.facts

theorem frame : Cert.quiescent_KvDx := fun m g _ => Cert.KvDx.Gen.frame m g

theorem frame_ideal : Cert.quiescent_KvDxIdeal := fun m g _ => Cert.KvDxIdeal.Gen.frame m g

/-- The host program has no semaphore, so its counters cannot be anything but zero. -/
theorem frame_reference : Cert.quiescent_KvDxRefIdeal := fun m g _ =>
  (θ_run Cert.KvDxRefIdeal.defs _ _).mono
    (fun r h => ⟨fun c => (h c).2, sem_eq_zero_of_no_sems (by decide) r.2⟩)
    (Cert.KvDxRefIdeal.Value.run (F := Ideal) m g)

theorem value : Cert.algebraic_KvDxIdeal_KvDxRefIdeal := fun m g m' g' _ hargs =>
  ⟨fun c => Product.dx (KvDxIdeal.Hand.argY m c) (KvDxIdeal.Hand.argW m c),
   (θ_run Cert.KvDxIdeal.defs _ _).mono
    (fun _ h c => ⟨(h c).1.trans (KvDxIdeal.Hand.final m c), (h c).2⟩)
    (Cert.KvDxIdeal.Value.run_blocks (F := Ideal) m g),
   (θ_run Cert.KvDxRefIdeal.defs _ _).mono
    (fun _ h c => ⟨(h c).1.trans ((KvDxRefIdeal.Read.val_main_v5_eq _ _).trans
        ((KvDxIdeal.Hand.reference _ _).trans (congrArg₂ Product.dx (hargs c).1 (hargs c).2.1))), (h c).2⟩)
    (Cert.KvDxRefIdeal.Value.run (F := Ideal) m' g')⟩

end Cert.KvDxClaims

end
-- ==== Proof.Product.QDx.lean ====
/-
  The gradient of the query projection with respect to its input: the kernel's block of 1024 rows at each
  grid point, the array they make, and the reference's one product.
-/
module

public import proofs.«01_k».proof.Defs
public import proofs.«01_k».proof.Proof.Product.Spec
public import proofs.«01_k».proof.Proof.Gen.QDx.Frame
public import proofs.«01_k».proof.Proof.Gen.QDxIdeal.Frame
public import proofs.«01_k».proof.Proof.Gen.QDxIdeal.Value
public import proofs.«01_k».proof.Proof.Gen.QDxRefIdeal.Run
public import proofs.«01_k».proof.Proof.Gen.QDxRefIdeal.Read
public import Idealize.ShloMosaic.Lib.Tactic
public import Idealize.ShloMosaic.Lib.KernelVsHost

@[expose] public section

set_option maxRecDepth 16384

noncomputable section

namespace Cert.QDxIdeal.Hand

open Cert.QDxIdeal Cert.QDxIdeal.Gen Idealize.ShloMosaic Idealize.ShloMosaic.TcCoe Idealize.SL.Sem Cert.Product

variable (m : (ℓ : Loc nD τ sig) → Buf (Elt Ideal) ℓ) (c : Dev nD)

/-- The kernel's two arguments. -/
abbrev argY : Mat 4096 3072 := m ((c : Thread nD τ).loc main_arg0)
abbrev argW : Mat 1024 3072 := m ((c : Thread nD τ).loc main_arg1)

/-- Where each window's block starts, in blocks: block `t` of the rows, all columns. -/
theorem index_at : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N,
    (win0_0.index t 0 = t.val ∧ win0_0.index t 1 = 0) ∧ (win0_1.index t 0 = 0 ∧ win0_1.index t 1 = 0)
    ∧ (win0_2.index t 0 = t.val ∧ win0_2.index t 1 = 0))

theorem iblk0_at (t : Fin cfg0.N) (r : Fin 1024) (k : Fin 3072) (n : Fin 4096) (hn : n.val = 1024 * t.val + r.val) :
    iblk m c 0 t (ix2 r k) = argY m c (ix2 n k) := by
  obtain ⟨e0, e1⟩ := (index_at t).1
  unfold iblk
  rw [View.read_apply]
  refine entry2 (argY m c) ?_ ?_
  · show win0_0.index t 0 * 1024 + 1 * r.val = n.val
    rw [e0]; omega
  · show win0_0.index t 1 * 3072 + 1 * k.val = k.val
    rw [e1]; omega

theorem iblk1_at (t : Fin cfg0.N) (r : Fin 1024) (k : Fin 3072) :
    iblk m c 1 t (ix2 r k) = argW m c (ix2 r k) := by
  obtain ⟨e0, e1⟩ := (index_at t).2.1
  unfold iblk
  rw [View.read_apply]
  refine entry2 (argW m c) ?_ ?_
  · show win0_1.index t 0 * 1024 + 1 * r.val = r.val
    rw [e0]; omega
  · show win0_1.index t 1 * 3072 + 1 * k.val = k.val
    rw [e1]; omega

/-- The body's result is one product of its two blocks. -/
theorem out_at (x0 : Vec Ideal S1024x3072 .bf16) (x1 : Vec Ideal S1024x3072 .bf16) (r : Fin 1024) (l : Fin 1024) :
    out0_2 x0 x1 (ix2 r l) = ∑ k : Fin 3072, x0 (ix2 r k) * x1 (ix2 l k) := by
  unfold out0_2
  rw [View.canon_unit_zero hz2, View.ld_unit_zero (S := S1024x3072) hz2, View.ld_unit_zero (S := S1024x3072) hz2]
  pointwise [k0_pay1]

theorem final : (dats m 0 c).arrAt 2 cfg0.N = dx (argY m c) (argW m c) := by
  refine (dats m 0 c).arrAt_eq_of_cover 2 (dx (argY m c) (argW m c)) (fun t _ => ?_) fun i => ?_
  · obtain ⟨e0, e1⟩ := (index_at t).2.2
    have ht : t.val < 4 := lt_of_lt_of_eq t.isLt N_0
    rw [Value.flushed2]
    funext x
    obtain ⟨r, l, rfl⟩ : ∃ (r : Fin 1024) (l : Fin 1024), x = ix2 r l := ⟨x 0, x 1, eq_ix2 x⟩
    refine (out_at (iblk m c 0 t) (iblk m c 1 t) r l).trans ?_
    rw [View.read_apply]
    refine Eq.trans ?_ (entry2 (dx (argY m c) (argW m c))
      (i := ix2 ⟨1024 * t.val + r.val, by omega⟩ l) ?_ ?_)
    · exact Finset.sum_congr rfl fun k _ => congrArg₂ (· * ·) (iblk0_at m c t r k _ rfl) (iblk1_at m c t l k)
    · show 1024 * t.val + r.val = win0_2.index t 0 * 1024 + 1 * r.val
      rw [e0]; omega
    · show l.val = win0_2.index t 1 * 1024 + 1 * l.val
      rw [e1]; omega
  · have h0 : (i 0 : Nat) < 4096 := (i 0).isLt
    have h1 : (i 1 : Nat) < 1024 := (i 1).isLt
    obtain ⟨t, ht⟩ : ∃ t : Fin cfg0.N, t.val = (i 0 : Nat) / 1024 :=
      ⟨⟨(i 0 : Nat) / 1024, by rw [show cfg0.N = 4 from N_0]; omega⟩, rfl⟩
    refine ⟨t, flush0_2 t, ?_⟩
    obtain ⟨e0, e1⟩ := (index_at t).2.2
    show i ∈ ((View.whole main_v0).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [e0]; omega
    | ⟨1, _⟩ =>
      show win0_2.index t 1 * 1024 ≤ (i 1 : Nat) ∧ (i 1 : Nat) < win0_2.index t 1 * 1024 + 1024
      rw [e1]; omega

/-- The reference is that product at once. -/
theorem reference (y : Mat 4096 3072) (w : Mat 1024 3072) : QDxRefIdeal.Read.val_main_v5 (F := Ideal) y w = dx y w := by
  funext i
  obtain ⟨r, l, rfl⟩ : ∃ (r : Fin 4096) (l : Fin 1024), i = ix2 r l := ⟨i 0, i 1, eq_ix2 i⟩
  show _ = ∑ k : Fin 3072, y (ix2 r k) * w (ix2 l k)
  pointwise [QDxRefIdeal.Read.val_main_v5, QDxRefIdeal.Read.val_main_v4, QDxRefIdeal.Read.val_main_v3, QDxRefIdeal.Read.val_main_v1]

end Cert.QDxIdeal.Hand

namespace Cert.QDxClaims

open Idealize.ShloMosaic Idealize.ShloMosaic.TcCoe Idealize.SL.Sem

instance : Cert.QDx.Facts := Cert.QDx.Gen.facts
instance : Cert.QDxIdeal.Facts := Cert.QDxIdeal.Gen.facts
instance : Cert.QDxRefIdeal.Facts := Cert.QDxRefIdeal.Gen.facts

theorem frame : Cert.quiescent_QDx := fun m g _ => Cert.QDx.Gen.frame m g

theorem frame_ideal : Cert.quiescent_QDxIdeal := fun m g _ => Cert.QDxIdeal.Gen.frame m g

/-- The host program has no semaphore, so its counters cannot be anything but zero. -/
theorem frame_reference : Cert.quiescent_QDxRefIdeal := fun m g _ =>
  (θ_run Cert.QDxRefIdeal.defs _ _).mono
    (fun r h => ⟨fun c => (h c).2, sem_eq_zero_of_no_sems (by decide) r.2⟩)
    (Cert.QDxRefIdeal.Value.run (F := Ideal) m g)

theorem value : Cert.algebraic_QDxIdeal_QDxRefIdeal := fun m g m' g' _ hargs =>
  ⟨fun c => Product.dx (QDxIdeal.Hand.argY m c) (QDxIdeal.Hand.argW m c),
   (θ_run Cert.QDxIdeal.defs _ _).mono
    (fun _ h c => ⟨(h c).1.trans (QDxIdeal.Hand.final m c), (h c).2⟩)
    (Cert.QDxIdeal.Value.run_blocks (F := Ideal) m g),
   (θ_run Cert.QDxRefIdeal.defs _ _).mono
    (fun _ h c => ⟨(h c).1.trans ((QDxRefIdeal.Read.val_main_v5_eq _ _).trans
        ((QDxIdeal.Hand.reference _ _).trans (congrArg₂ Product.dx (hargs c).1 (hargs c).2))), (h c).2⟩)
    (Cert.QDxRefIdeal.Value.run (F := Ideal) m' g')⟩

end Cert.QDxClaims

end
-- ==== Proof.Product.Finite.lean ====
/-
  Finite extended reals: what a check of an array for infinities says of its entries, sums of products of finite
  entries, and the two forms of the derivative of `silu`.
-/
module

public import Idealize.ShloMosaic.Lib.Tactic
public import Idealize.ShloMosaic.Lib.Pointwise
public import Idealize.ShloMosaic.Lib.StableHlo

@[expose] public section

noncomputable section

namespace Cert.Product

open Idealize.ShloMosaic

/-- `x` is a real number. -/
def Finite (x : EReal) : Prop := ∃ r : ℝ, x = (r : EReal)

theorem Finite.mul {x y : EReal} : Finite x → Finite y → Finite (x * y)
  | ⟨a, ha⟩, ⟨b, hb⟩ => ⟨a * b, by rw [ha, hb, EReal.coe_mul]⟩

theorem Finite.sum {ι : Type} (s : Finset ι) (f : ι → EReal) (h : ∀ i, Finite (f i)) : Finite (∑ i ∈ s, f i) := by
  classical
  refine Finset.induction_on s ⟨0, rfl⟩ fun i s hi ih => ?_
  obtain ⟨a, ha⟩ := h i
  obtain ⟨b, hb⟩ := ih
  exact ⟨a + b, by rw [Finset.sum_insert hi, ha, hb, EReal.coe_add]⟩

/-- A number whose absolute value lies below infinity is finite. -/
theorem Finite.of_abs_lt {x : EReal} (h : max x (-x) < ⊤) : Finite x := by
  refine ⟨x.toReal, (EReal.coe_toReal ?_ ?_).symm⟩
  · rintro rfl
    exact absurd h (by simp)
  · rintro rfl
    exact absurd h (by simp)

/-- Folding `and` over bits gives one only where every bit is one. -/
theorem foldl_andi {ι : Type} (f : ι → BitVec 1) : ∀ (l : List ι) (a : BitVec 1),
    l.foldl (fun r n => IntOp.andi r (f n)) a = 1#1 → a = 1#1 ∧ ∀ n ∈ l, f n = 1#1
  | [], _, h => ⟨h, fun _ hn => absurd hn (List.not_mem_nil)⟩
  | n :: l, a, h => by
    obtain ⟨h1, h2⟩ := foldl_andi f l (IntOp.andi a (f n)) h
    have both : ∀ p q : BitVec 1, IntOp.andi p q = 1#1 → p = 1#1 ∧ q = 1#1 := by decide
    obtain ⟨ha, hn⟩ := both _ _ h1
    exact ⟨ha, fun k hk => (List.mem_cons.mp hk).elim (fun e => e ▸ hn) (h2 k)⟩

/-- The `and` over a whole array is one only where every entry is one. -/
theorem reduce_andi {s u t : Shape} {axes : List (Fin s.rank)} (x : s.Idx → BitVec 1) (init : u.Idx → BitVec 1)
    (h : s.ReducesTo axes t) (hu : 0 < u.numel) (ht : t.rank = 0) (j : t.Idx)
    (hj : Host.reduce IntOp.andi x init h hu j = 1#1) (i : s.Idx) : x i = 1#1 := by
  have := (foldl_andi _ _ _ hj).2 (s.rowMajor i)
    (List.mem_filter.mpr ⟨List.mem_finRange _, decide_eq_true (funext fun a => absurd a.isLt (by omega))⟩)
  rwa [Equiv.symm_apply_apply] at this

/-- An entry whose absolute value was found below infinity is finite. -/
theorem Finite.of_cmp {x c : EReal} (hc : c = ⊤) (h : Ideal.cmp .olt (max x (-x)) c = 1#1) : Finite x := by
  subst hc
  refine Finite.of_abs_lt ?_
  by_contra hn
  have : Ideal.cmp .olt (max x (-x)) ⊤ = 0#1 := by
    show BitVec.ofBool (decide (max x (-x) < ⊤)) = 0#1
    rw [decide_eq_false hn]; rfl
  rw [this] at h
  exact absurd h (by decide)

/-- The derivative of `silu`, factored and as a sum, times one number. -/
theorem silu_grad {a g : EReal} (ha : Finite a) (hg : Finite g) :
    a * Ideal.logistic g + g * a * (Ideal.logistic g * (1 - Ideal.logistic g))
      = a * Ideal.logistic g * (1 + g * (1 - Ideal.logistic g)) := by
  obtain ⟨a, rfl⟩ := ha
  obtain ⟨g, rfl⟩ := hg
  rw [Ideal.logistic_coe]
  generalize (1 + Real.exp (-g))⁻¹ = s
  norm_cast
  ring_nf

end Cert.Product

end
-- ==== Proof.Product.Act.lean ====
/-
  The gradient through the down projection and the gated activation `silu(g) * u`: the kernel's block at each grid
  point, the array the blocks make, and the reference's derivative.
-/
module

public import proofs.«01_k».proof.Defs
public import proofs.«01_k».proof.Proof.Product.Spec
public import proofs.«01_k».proof.Proof.Product.Finite
public import proofs.«01_k».proof.Proof.Gen.Pre_finite
public import proofs.«01_k».proof.Proof.Gen.Act.Frame
public import proofs.«01_k».proof.Proof.Gen.ActIdeal.Frame
public import proofs.«01_k».proof.Proof.Gen.ActIdeal.Value
public import proofs.«01_k».proof.Proof.Gen.ActRefIdeal.Run
public import proofs.«01_k».proof.Proof.Gen.ActRefIdeal.Read
public import Idealize.ShloMosaic.Lib.Tactic
public import Idealize.ShloMosaic.Lib.KernelVsHost

@[expose] public section

set_option maxRecDepth 16384

noncomputable section

namespace Cert.ActIdeal.Hand

open Cert.ActIdeal Cert.ActIdeal.Gen Idealize.ShloMosaic Idealize.ShloMosaic.TcCoe Idealize.SL.Sem Cert.Product

/-- Half `h` of the gradient at one place: of the gate (`h = 0`) or of the other factor, from the gradient `d` of the
    activation. -/
def half (h : ℕ) (d g u : EReal) : EReal :=
  if h = 0 then d * u * Ideal.logistic g * (1 + g * (1 - Ideal.logistic g)) else d * g * Ideal.logistic g

/-- The gradient of the activation in its two factors, from the gradient `df` behind the down projection `w`. -/
def actGrad {G R n K : ℕ} (df : Mat R K) (w : (⟨3, ![G, n, K]⟩ : Shape).Idx → EReal)
    (gu : (⟨4, ![2, G, R, n]⟩ : Shape).Idx → EReal) : (⟨4, ![2, G, R, n]⟩ : Shape).Idx → EReal :=
  fun i => half (i 0).val (∑ k : Fin K, df (ix2 (n0 := R) (i 2) k) * w (ix3 (n0 := G) (n1 := n) (i 1) (i 3) k))
    (gu (ix4 0 (i 1) (i 2) (i 3))) (gu (ix4 1 (i 1) (i 2) (i 3)))

variable (m : (ℓ : Loc nD τ sig) → Buf (Elt Ideal) ℓ) (c : Dev nD)

/-- The kernel's three arguments. -/
abbrev argD : Mat 4096 1024 := m ((c : Thread nD τ).loc main_arg0)
abbrev argW : (⟨3, ![4, 704, 1024]⟩ : Shape).Idx → EReal := m ((c : Thread nD τ).loc main_arg1)
abbrev argG : (⟨4, ![2, 4, 4096, 704]⟩ : Shape).Idx → EReal := m ((c : Thread nD τ).loc main_arg2)

/-- Where each window's block starts, in blocks: point `t` is tile `t / 4` of the rows and block `t % 4` of columns. -/
theorem index_at : ∀ t : Fin cfg0.N,
    (win0_0.index t 0 = t.val / 4 ∧ win0_0.index t 1 = 0)
    ∧ (win0_1.index t 0 = t.val % 4 ∧ win0_1.index t 1 = 0 ∧ win0_1.index t 2 = 0)
    ∧ (win0_2.index t 0 = 0 ∧ win0_2.index t 1 = t.val % 4 ∧ win0_2.index t 2 = t.val / 4 ∧ win0_2.index t 3 = 0)
    ∧ (win0_3.index t 0 = 0 ∧ win0_3.index t 1 = t.val % 4 ∧ win0_3.index t 2 = t.val / 4 ∧ win0_3.index t 3 = 0) :=
  (by decide +kernel : ∀ t : Fin grid0.N,
    (win0_0.index t 0 = t.val / 4 ∧ win0_0.index t 1 = 0)
    ∧ (win0_1.index t 0 = t.val % 4 ∧ win0_1.index t 1 = 0 ∧ win0_1.index t 2 = 0)
    ∧ (win0_2.index t 0 = 0 ∧ win0_2.index t 1 = t.val % 4 ∧ win0_2.index t 2 = t.val / 4 ∧ win0_2.index t 3 = 0)
    ∧ (win0_3.index t 0 = 0 ∧ win0_3.index t 1 = t.val % 4 ∧ win0_3.index t 2 = t.val / 4 ∧ win0_3.index t 3 = 0))

theorem iblk0_at (t : Fin cfg0.N) (r : Fin 2048) (k : Fin 1024) (n : Fin 4096) (hn : n.val = t.val / 4 * 2048 + r.val) :
    iblk m c 0 t (ix2 r k) = argD m c (ix2 n k) := by
  obtain ⟨e0, e1⟩ := (index_at t).1
  unfold iblk
  rw [View.read_apply]
  refine entry2 (argD m c) ?_ ?_
  · show win0_0.index t 0 * 2048 + 1 * r.val = n.val
    rw [e0]; omega
  · show win0_0.index t 1 * 1024 + 1 * k.val = k.val
    rw [e1]; omega

theorem iblk1_at (t : Fin cfg0.N) (b : Fin 1) (l : Fin 704) (k : Fin 1024) (j : Fin 4) (hj : j.val = t.val % 4) :
    iblk m c 1 t (ix3 b l k) = argW m c (ix3 j l k) := by
  obtain ⟨e0, e1, e2⟩ := (index_at t).2.1
  unfold iblk
  rw [View.read_apply]
  refine entry3 (argW m c) ?_ ?_ ?_
  · show win0_1.index t 0 * 1 + 1 * b.val = j.val
    rw [e0]; omega
  · show win0_1.index t 1 * 704 + 1 * l.val = l.val
    rw [e1]; omega
  · show win0_1.index t 2 * 1024 + 1 * k.val = k.val
    rw [e2]; omega

theorem iblk2_at (t : Fin cfg0.N) (h : Fin 2) (b : Fin 1) (r : Fin 2048) (l : Fin 704) (j : Fin 4) (hj : j.val = t.val % 4)
    (n : Fin 4096) (hn : n.val = t.val / 4 * 2048 + r.val) :
    iblk m c 2 t (ix4 h b r l) = argG m c (ix4 h j n l) := by
  obtain ⟨e0, e1, e2, e3⟩ := (index_at t).2.2.1
  unfold iblk
  rw [View.read_apply]
  refine entry4 (argG m c) ?_ ?_ ?_ ?_
  · show win0_2.index t 0 * 2 + 1 * h.val = h.val
    rw [e0]; omega
  · show win0_2.index t 1 * 1 + 1 * b.val = j.val
    rw [e1]; omega
  · show win0_2.index t 2 * 2048 + 1 * r.val = n.val
    rw [e2]; omega
  · show win0_2.index t 3 * 704 + 1 * l.val = l.val
    rw [e3]; omega

/-- The two stores of the body, entry by entry. -/
theorem pay4_at (x0 : Vec Ideal S2048x1024 .bf16) (x1 : Vec Ideal S1x704x1024 .bf16) (x2 : Vec Ideal S2x1x2048x704 .bf16)
    (a b : Fin 1) (r : Fin 2048) (l : Fin 704) :
    k0_pay4 (View.ld x0 r0_0) (View.ld x1 r0_1) (View.ld x2 r0_2) (View.ld x2 r0_3) (ix4 a b r l)
      = half 0 (∑ k : Fin 1024, x0 (ix2 r k) * x1 (ix3 0 l k)) (x2 (ix4 0 0 r l)) (x2 (ix4 1 0 r l)) := by
  unfold half
  rw [if_pos rfl]
  generalize hR : (∑ k : Fin 1024, x0 (ix2 r k) * x1 (ix3 0 l k)) * _ * _ * _ = R
  pointwise [k0_pay4, k0_pay3, k0_pay2, k0_pay1, r0_0, r0_1, r0_2, r0_3]
  exact hR

theorem pay5_at (x0 : Vec Ideal S2048x1024 .bf16) (x1 : Vec Ideal S1x704x1024 .bf16) (x2 : Vec Ideal S2x1x2048x704 .bf16)
    (a b : Fin 1) (r : Fin 2048) (l : Fin 704) :
    k0_pay5 (View.ld x0 r0_0) (View.ld x1 r0_1) (View.ld x2 r0_2) (ix4 a b r l)
      = half 1 (∑ k : Fin 1024, x0 (ix2 r k) * x1 (ix3 0 l k)) (x2 (ix4 0 0 r l)) (x2 (ix4 1 0 r l)) := by
  unfold half
  rw [if_neg one_ne_zero]
  generalize hR : (∑ k : Fin 1024, x0 (ix2 r k) * x1 (ix3 0 l k)) * _ * _ = R
  pointwise [k0_pay5, k0_pay3, k0_pay2, k0_pay1, r0_0, r0_1, r0_2, r0_3]
  exact hR

/-- The reference's gradient of the second factor. -/
theorem up_at (df : Mat 4096 1024) (w : (⟨3, ![4, 704, 1024]⟩ : Shape).Idx → EReal)
    (gu : (⟨4, ![2, 4, 4096, 704]⟩ : Shape).Idx → EReal) (j : Fin 4) (r : Fin 4096) (l : Fin 704) (h : j.val * 704 + l.val < 2816) :
    ActRefIdeal.Read.val_main_v17 (F := Ideal) df w gu (ix2 r ⟨j.val * 704 + l.val, h⟩)
      = half 1 (∑ k : Fin 1024, df (ix2 r k) * w (ix3 j l k)) (gu (ix4 0 j r l)) (gu (ix4 1 j r l)) := by
  generalize hR : half 1 (∑ k : Fin 1024, df (ix2 r k) * w (ix3 j l k)) (gu (ix4 0 j r l)) (gu (ix4 1 j r l)) = R
  pointwise [ActRefIdeal.Read.val_main_v17, ActRefIdeal.Read.val_main_v16, ActRefIdeal.Read.val_main_v15, ActRefIdeal.Read.val_main_v11,
    ActRefIdeal.Read.val_main_v10, ActRefIdeal.Read.val_main_v12_0, ActRefIdeal.Read.val_main_v12_2, ActRefIdeal.Read.val_main_v6, ActRefIdeal.Read.val_main_v5,
    ActRefIdeal.Read.val_main_v4, ActRefIdeal.Read.val_main_v1, ActRefIdeal.Read.val_main_v0, ActRefIdeal.Read.val_main_call0_v4,
    ActRefIdeal.Read.val_main_call0_v3, ActRefIdeal.Read.val_main_call0_v2, ActRefIdeal.Read.val_main_call0_v1, ActRefIdeal.Read.val_main_call0_v0,
    ActRefIdeal.Read.val_main_call0_cst, ActRefIdeal.Read.val_main_call0_cst_0]
  rw [← hR]
  show gu (ix4 0 j r l) * Ideal.logistic (gu (ix4 0 j r l)) * _ = _ * gu (ix4 0 j r l) * Ideal.logistic (gu (ix4 0 j r l))
  rw [mul_comm, mul_assoc]

/-- The reference's gradient of the gate, for finite arguments. -/
theorem gate_at (df : Mat 4096 1024) (w : (⟨3, ![4, 704, 1024]⟩ : Shape).Idx → EReal)
    (gu : (⟨4, ![2, 4, 4096, 704]⟩ : Shape).Idx → EReal) (hf : ∀ i, Product.Finite (df i)) (hw : ∀ i, Product.Finite (w i))
    (hg : ∀ i, Product.Finite (gu i)) (j : Fin 4) (r : Fin 4096) (l : Fin 704) (h : j.val * 704 + l.val < 2816) :
    ActRefIdeal.Read.val_main_v19 (F := Ideal) df w gu (ix2 r ⟨j.val * 704 + l.val, h⟩)
      = half 0 (∑ k : Fin 1024, df (ix2 r k) * w (ix3 j l k)) (gu (ix4 0 j r l)) (gu (ix4 1 j r l)) := by
  generalize hR : half 0 (∑ k : Fin 1024, df (ix2 r k) * w (ix3 j l k)) (gu (ix4 0 j r l)) (gu (ix4 1 j r l)) = R
  pointwise [ActRefIdeal.Read.val_main_v19, ActRefIdeal.Read.val_main_v18, ActRefIdeal.Read.val_main_call1_v2, ActRefIdeal.Read.val_main_call1_v1,
    ActRefIdeal.Read.val_main_call1_v0, ActRefIdeal.Read.val_main_v16, ActRefIdeal.Read.val_main_v15, ActRefIdeal.Read.val_main_v11,
    ActRefIdeal.Read.val_main_v10, ActRefIdeal.Read.val_main_v9, ActRefIdeal.Read.val_main_v8, ActRefIdeal.Read.val_main_v7,
    ActRefIdeal.Read.val_main_v3, ActRefIdeal.Read.val_main_v2, ActRefIdeal.Read.val_main_v12_1, ActRefIdeal.Read.val_main_v12_2,
    ActRefIdeal.Read.val_main_v6, ActRefIdeal.Read.val_main_v5, ActRefIdeal.Read.val_main_v4, ActRefIdeal.Read.val_main_v1,
    ActRefIdeal.Read.val_main_v0, ActRefIdeal.Read.val_main_call0_v7, ActRefIdeal.Read.val_main_call0_v6, ActRefIdeal.Read.val_main_call0_v4,
    ActRefIdeal.Read.val_main_call0_v3, ActRefIdeal.Read.val_main_call0_v2, ActRefIdeal.Read.val_main_call0_v1, ActRefIdeal.Read.val_main_call0_v0,
    ActRefIdeal.Read.val_main_call0_cst, ActRefIdeal.Read.val_main_call0_cst_0, ActRefIdeal.Read.val_main_call0_cst_1]
  rw [← hR]
  exact silu_grad (Finite.mul (Finite.sum _ _ fun k => Finite.mul (hf _) (hw _)) (hg _)) (hg _)

/-- The reference: the derivative of `(silu(g) * u) @ w` over all the columns, cut into blocks. -/
theorem reference (df : Mat 4096 1024) (w : (⟨3, ![4, 704, 1024]⟩ : Shape).Idx → EReal)
    (gu : (⟨4, ![2, 4, 4096, 704]⟩ : Shape).Idx → EReal) (hf : ∀ i, Product.Finite (df i)) (hw : ∀ i, Product.Finite (w i))
    (hg : ∀ i, Product.Finite (gu i)) : ActRefIdeal.Read.val_main_v28 (F := Ideal) df w gu = actGrad df w gu := by
  funext i
  obtain ⟨h, j, r, l, rfl⟩ : ∃ (h : Fin 2) (j : Fin 4) (r : Fin 4096) (l : Fin 704), i = ix4 h j r l :=
    ⟨i 0, i 1, i 2, i 3, eq_ix4 i⟩
  have hl : j.val * 704 + l.val < 2816 := by omega
  have hup := up_at df w gu j r l hl
  have hgate := gate_at df w gu hf hw hg j r l hl
  show _ = half h.val (∑ k : Fin 1024, df (ix2 r k) * w (ix3 j l k)) (gu (ix4 0 j r l)) (gu (ix4 1 j r l))
  generalize hR : half h.val (∑ k : Fin 1024, df (ix2 r k) * w (ix3 j l k)) (gu (ix4 0 j r l)) (gu (ix4 1 j r l)) = R
  pointwise [ActRefIdeal.Read.val_main_v28, ActRefIdeal.Read.val_main_v27, ActRefIdeal.Read.val_main_v26, ActRefIdeal.Read.val_main_v25,
    ActRefIdeal.Read.val_main_v24, ActRefIdeal.Read.val_main_v23, ActRefIdeal.Read.val_main_v22, ActRefIdeal.Read.val_main_v21,
    ActRefIdeal.Read.val_main_v20]
  rw [← hR]
  split
  · have h0 : h.val = 0 := by omega
    rw [h0]; exact hgate
  · have h1 : h.val = 1 := by omega
    rw [h1]; exact hup

/-- The block a point writes, from its blocks of the arguments. -/
def blockGrad (x0 : Vec Ideal S2048x1024 .bf16) (x1 : Vec Ideal S1x704x1024 .bf16) (x2 : Vec Ideal S2x1x2048x704 .bf16) :
    S2x1x2048x704.Idx → EReal :=
  fun i => half (i 0).val (∑ k : Fin 1024, x0 (ix2 (n0 := 2048) (i 2) k) * x1 (ix3 (n1 := 704) 0 (i 3) k))
    (x2 (ix4 0 0 (i 2) (i 3))) (x2 (ix4 1 0 (i 2) (i 3)))

theorem blockGrad_at (x0 : Vec Ideal S2048x1024 .bf16) (x1 : Vec Ideal S1x704x1024 .bf16) (x2 : Vec Ideal S2x1x2048x704 .bf16)
    (h : Fin 2) (b : Fin 1) (r : Fin 2048) (l : Fin 704) :
    blockGrad x0 x1 x2 (ix4 h b r l)
      = half h.val (∑ k : Fin 1024, x0 (ix2 r k) * x1 (ix3 0 l k)) (x2 (ix4 0 0 r l)) (x2 (ix4 1 0 r l)) := rfl

/-- The two stores make the block: the gate's half lies in front of the other. -/
theorem out_at (x0 : Vec Ideal S2048x1024 .bf16) (x1 : Vec Ideal S1x704x1024 .bf16) (x2 : Vec Ideal S2x1x2048x704 .bf16) :
    out0_3 x0 x1 x2 = blockGrad x0 x1 x2 := by
  funext y
  refine View.canon_apply_of_pieces (Val := Elt Ideal) (e := .bf16) (blockGrad x0 x1 x2) _ (fun p hp => ?_) y ?_
  · rcases List.mem_cons.mp hp with rfl | hp
    · intro x
      obtain ⟨a, b, r, l, rfl⟩ : ∃ (a b : Fin 1) (r : Fin 2048) (l : Fin 704), x = ix4 a b r l := ⟨x 0, x 1, x 2, x 3, eq_ix4 x⟩
      refine (pay5_at x0 x1 x2 a b r l).trans ((blockGrad_at x0 x1 x2 1 0 r l).symm.trans ?_)
      refine entry4 (blockGrad x0 x1 x2) ?_ ?_ ?_ ?_
      · show 1 = 1 + 1 * a.val
        omega
      · show 0 = 0 + 1 * b.val
        omega
      · show r.val = 0 + 1 * r.val
        omega
      · show l.val = 0 + 1 * l.val
        omega
    · rcases List.mem_singleton.mp hp with rfl
      intro x
      obtain ⟨a, b, r, l, rfl⟩ : ∃ (a b : Fin 1) (r : Fin 2048) (l : Fin 704), x = ix4 a b r l := ⟨x 0, x 1, x 2, x 3, eq_ix4 x⟩
      refine (pay4_at x0 x1 x2 a b r l).trans ((blockGrad_at x0 x1 x2 0 0 r l).symm.trans ?_)
      refine entry4 (blockGrad x0 x1 x2) ?_ ?_ ?_ ?_
      · show 0 = 0 + 1 * a.val
        omega
      · show 0 = 0 + 1 * b.val
        omega
      · show r.val = 0 + 1 * r.val
        omega
      · show l.val = 0 + 1 * l.val
        omega
  · have h0 : (y 0 : Nat) < 2 := (y 0).isLt
    have h1 : (y 1 : Nat) < 1 := (y 1).isLt
    have h2 : (y 2 : Nat) < 2048 := (y 2).isLt
    have h3 : (y 3 : Nat) < 704 := (y 3).isLt
    by_cases h : (y 0 : Nat) = 0
    · refine ⟨_, List.mem_cons_of_mem _ List.mem_cons_self, ?_⟩
      show y ∈ r0_2.set
      refine Rect.mem_set_unit.mpr fun a => ?_
      match a with
      | ⟨0, _⟩ => exact ⟨Nat.zero_le _, by show (y 0 : Nat) < 0 + 1; omega⟩
      | ⟨1, _⟩ => exact ⟨Nat.zero_le _, by show (y 1 : Nat) < 0 + 1; omega⟩
      | ⟨2, _⟩ => exact ⟨Nat.zero_le _, by show (y 2 : Nat) < 0 + 2048; omega⟩
      | ⟨3, _⟩ => exact ⟨Nat.zero_le _, by show (y 3 : Nat) < 0 + 704; omega⟩
    · refine ⟨_, List.mem_cons_self, ?_⟩
      show y ∈ r0_3.set
      refine Rect.mem_set_unit.mpr fun a => ?_
      match a with
      | ⟨0, _⟩ => exact ⟨by show 1 ≤ (y 0 : Nat); omega, by show (y 0 : Nat) < 1 + 1; omega⟩
      | ⟨1, _⟩ => exact ⟨Nat.zero_le _, by show (y 1 : Nat) < 0 + 1; omega⟩
      | ⟨2, _⟩ => exact ⟨Nat.zero_le _, by show (y 2 : Nat) < 0 + 2048; omega⟩
      | ⟨3, _⟩ => exact ⟨Nat.zero_le _, by show (y 3 : Nat) < 0 + 704; omega⟩

theorem final : (dats m 0 c).arrAt 3 cfg0.N = actGrad (argD m c) (argW m c) (argG m c) := by
  refine (dats m 0 c).arrAt_eq_of_cover 3 (actGrad (argD m c) (argW m c) (argG m c)) (fun t _ => ?_) fun i => ?_
  · obtain ⟨e0, e1, e2, e3⟩ := (index_at t).2.2.2
    have ht : t.val < 8 := lt_of_lt_of_eq t.isLt N_0
    rw [Value.flushed3, out_at]
    funext x
    obtain ⟨h, b, r, l, rfl⟩ : ∃ (h : Fin 2) (b : Fin 1) (r : Fin 2048) (l : Fin 704), x = ix4 h b r l :=
      ⟨x 0, x 1, x 2, x 3, eq_ix4 x⟩
    have hj : t.val % 4 < 4 := by omega
    have hn : t.val / 4 * 2048 + r.val < 4096 := by omega
    rw [View.read_apply]
    refine Eq.trans ?_ (entry4 (actGrad (argD m c) (argW m c) (argG m c)) (i := ix4 h ⟨t.val % 4, hj⟩ ⟨t.val / 4 * 2048 + r.val, hn⟩ l) ?_ ?_ ?_ ?_)
    · refine (blockGrad_at (iblk m c 0 t) (iblk m c 1 t) (iblk m c 2 t) h b r l).trans ?_
      rw [iblk2_at m c t 0 0 r l ⟨t.val % 4, hj⟩ rfl ⟨t.val / 4 * 2048 + r.val, hn⟩ rfl,
        iblk2_at m c t 1 0 r l ⟨t.val % 4, hj⟩ rfl ⟨t.val / 4 * 2048 + r.val, hn⟩ rfl]
      exact congrArg (fun d => half h.val d _ _) (Finset.sum_congr rfl fun k _ => congrArg₂ (· * ·)
        (iblk0_at m c t r k ⟨t.val / 4 * 2048 + r.val, hn⟩ rfl) (iblk1_at m c t 0 l k ⟨t.val % 4, hj⟩ rfl))
    · show h.val = win0_3.index t 0 * 2 + 1 * h.val
      rw [e0]; omega
    · show t.val % 4 = win0_3.index t 1 * 1 + 1 * b.val
      rw [e1]; omega
    · show t.val / 4 * 2048 + r.val = win0_3.index t 2 * 2048 + 1 * r.val
      rw [e2]; omega
    · show l.val = win0_3.index t 3 * 704 + 1 * l.val
      rw [e3]; omega
  · have h0 : (i 0 : Nat) < 2 := (i 0).isLt
    have h1 : (i 1 : Nat) < 4 := (i 1).isLt
    have h2 : (i 2 : Nat) < 4096 := (i 2).isLt
    have h3 : (i 3 : Nat) < 704 := (i 3).isLt
    obtain ⟨t, ht⟩ : ∃ t : Fin cfg0.N, t.val = (i 2 : Nat) / 2048 * 4 + (i 1 : Nat) :=
      ⟨⟨(i 2 : Nat) / 2048 * 4 + (i 1 : Nat), by rw [show cfg0.N = 8 from N_0]; omega⟩, rfl⟩
    refine ⟨t, flush0_3 t, ?_⟩
    obtain ⟨e0, e1, e2, e3⟩ := (index_at t).2.2.2
    show i ∈ ((View.whole main_v0).slice (win0_3.rect t)).set
    rw [View.set_slice_whole, Rect.mem_set_unit]
    intro a
    match a with
    | ⟨0, _⟩ =>
      show win0_3.index t 0 * 2 ≤ (i 0 : Nat) ∧ (i 0 : Nat) < win0_3.index t 0 * 2 + 2
      rw [e0]; omega
    | ⟨1, _⟩ =>
      show win0_3.index t 1 * 1 ≤ (i 1 : Nat) ∧ (i 1 : Nat) < win0_3.index t 1 * 1 + 1
      rw [e1]; omega
    | ⟨2, _⟩ =>
      show win0_3.index t 2 * 2048 ≤ (i 2 : Nat) ∧ (i 2 : Nat) < win0_3.index t 2 * 2048 + 2048
      rw [e2]; omega
    | ⟨3, _⟩ =>
      show win0_3.index t 3 * 704 ≤ (i 3 : Nat) ∧ (i 3 : Nat) < win0_3.index t 3 * 704 + 704
      rw [e3]; omega

instance : Cert.Pre_finite.Facts := Cert.Pre_finite.Gen.facts

/-- Where the check of the three arrays gives one, every entry of the three is finite. -/
theorem finite_of_pre (df : FVec Ideal S4096x1024 .bf16) (w : FVec Ideal S4x704x1024 .bf16) (gu : FVec Ideal S2x4x4096x704 .bf16)
    (h : Cert.Pre_finite.fn (F := Ideal) df w gu = fun _ => 1#1) :
    (∀ i, Product.Finite (df i)) ∧ (∀ i, Product.Finite (w i)) ∧ ∀ i, Product.Finite (gu i) := by
  have h' := congrFun h (fun a => a.elim0)
  unfold Cert.Pre_finite.fn at h'
  dsimp only at h'
  have both : ∀ p q : BitVec 1, IntOp.andi p q = 1#1 → p = 1#1 ∧ q = 1#1 := by decide
  obtain ⟨h12, h3⟩ := both _ _ h'
  obtain ⟨h1, h2⟩ := both _ _ h12
  have top : Ideal.ofBits .f32 0x7F800000#32 = ⊤ := by simp [Ideal.ofBits, Ideal.ieee]
  refine ⟨fun i => Finite.of_cmp top (reduce_andi _ _ _ _ rfl _ h1 i), fun i => Finite.of_cmp top (reduce_andi _ _ _ _ rfl _ h2 i),
    fun i => Finite.of_cmp top (reduce_andi _ _ _ _ rfl _ h3 i)⟩

end Cert.ActIdeal.Hand

namespace Cert.ActClaims

open Idealize.ShloMosaic Idealize.ShloMosaic.TcCoe Idealize.SL.Sem

instance : Cert.Act.Facts := Cert.Act.Gen.facts
instance : Cert.ActIdeal.Facts := Cert.ActIdeal.Gen.facts
instance : Cert.ActRefIdeal.Facts := Cert.ActRefIdeal.Gen.facts
instance : Cert.Pre_finite.Facts := Cert.Pre_finite.Gen.facts

theorem frame : Cert.quiescent_Act := fun m g _ => Cert.Act.Gen.frame m g

theorem frame_ideal : Cert.quiescent_ActIdeal := fun m g _ => Cert.ActIdeal.Gen.frame m g

theorem frame_ideal_finite : Cert.quiescent_ActIdeal_pre_finite := fun m g _ => Cert.ActIdeal.Gen.frame m g

/-- The host program has no semaphore, so its counters cannot be anything but zero. -/
theorem frame_reference : Cert.quiescent_ActRefIdeal := fun m g _ =>
  (θ_run Cert.ActRefIdeal.defs _ _).mono
    (fun r h => ⟨fun c => (h c).2, sem_eq_zero_of_no_sems (by decide) r.2⟩)
    (Cert.ActRefIdeal.Value.run (F := Ideal) m g)

theorem frame_reference_finite : Cert.quiescent_ActRefIdeal_pre_finite := fun m g _ => frame_reference m g trivial

theorem value : Cert.algebraic_ActIdeal_ActRefIdeal_pre_finite := fun m g m' g' hfin hargs =>
  ⟨fun c => ActIdeal.Hand.actGrad (ActIdeal.Hand.argD m c) (ActIdeal.Hand.argW m c) (ActIdeal.Hand.argG m c),
   (θ_run Cert.ActIdeal.defs _ _).mono
    (fun _ h c => ⟨(h c).1.trans (ActIdeal.Hand.final m c), (h c).2⟩)
    (Cert.ActIdeal.Value.run_blocks (F := Ideal) m g),
   (θ_run Cert.ActRefIdeal.defs _ _).mono
    (fun _ h c => ⟨(h c).1.trans ((ActRefIdeal.Read.val_main_v28_eq _ _).trans (by
        obtain ⟨e0, e1, e2⟩ := hargs c
        obtain ⟨f0, f1, f2⟩ := ActIdeal.Hand.finite_of_pre _ _ _ (hfin c)
        rw [e0, e1, e2]
        exact ActIdeal.Hand.reference _ _ _ f0 f1 f2)), (h c).2⟩)
    (Cert.ActRefIdeal.Value.run (F := Ideal) m' g')⟩

end Cert.ActClaims

end
-- ==== Proof.Product.ConvInDx.lean ====
/-
  The gradient of the convolution's first product with respect to its input: the kernel's block of 1024 rows at each
  grid point, the array they make, and the reference's one product.
-/
module

public import proofs.«01_k».proof.Defs
public import proofs.«01_k».proof.Proof.Product.Spec
public import proofs.«01_k».proof.Proof.Gen.ConvInDx.Frame
public import proofs.«01_k».proof.Proof.Gen.ConvInDxIdeal.Frame
public import proofs.«01_k».proof.Proof.Gen.ConvInDxIdeal.Value
public import proofs.«01_k».proof.Proof.Gen.ConvInDxRefIdeal.Run
public import proofs.«01_k».proof.Proof.Gen.ConvInDxRefIdeal.Read
public import Idealize.ShloMosaic.Lib.Tactic
public import Idealize.ShloMosaic.Lib.KernelVsHost
public import Idealize.ShloMosaic.Lib.VecWindow

@[expose] public section

set_option maxRecDepth 16384

noncomputable section

namespace Cert.ConvInDxIdeal.Hand

open Cert.ConvInDxIdeal Cert.ConvInDxIdeal.Gen Idealize.ShloMosaic Idealize.ShloMosaic.TcCoe Idealize.SL.Sem Cert.Product

variable (m : (ℓ : Loc nD τ sig) → Buf (Elt Ideal) ℓ) (c : Dev nD)

/-- The kernel's two arguments. -/
abbrev argY : Mat 4096 3072 := m ((c : Thread nD τ).loc main_arg0)
abbrev argW : Mat 1024 3072 := m ((c : Thread nD τ).loc main_arg1)

/-- Where each window's block starts, in blocks: block `t` of the rows, all columns. -/
theorem index_at : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N,
    (win0_0.index t 0 = t.val ∧ win0_0.index t 1 = 0) ∧ (win0_1.index t 0 = 0 ∧ win0_1.index t 1 = 0)
    ∧ (win0_2.index t 0 = t.val ∧ win0_2.index t 1 = 0))

theorem iblk0_at (t : Fin cfg0.N) (r : Fin 1024) (k : Fin 3072) (n : Fin 4096) (hn : n.val = 1024 * t.val + r.val) :
    iblk m c 0 t (ix2 r k) = argY m c (ix2 n k) := by
  obtain ⟨e0, e1⟩ := (index_at t).1
  unfold iblk
  rw [View.read_apply]
  refine entry2 (argY m c) ?_ ?_
  · show win0_0.index t 0 * 1024 + 1 * r.val = n.val
    rw [e0]; omega
  · show win0_0.index t 1 * 3072 + 1 * k.val = k.val
    rw [e1]; omega

theorem iblk1_at (t : Fin cfg0.N) (r : Fin 1024) (k : Fin 3072) :
    iblk m c 1 t (ix2 r k) = argW m c (ix2 r k) := by
  obtain ⟨e0, e1⟩ := (index_at t).2.1
  unfold iblk
  rw [View.read_apply]
  refine entry2 (argW m c) ?_ ?_
  · show win0_1.index t 0 * 1024 + 1 * r.val = r.val
    rw [e0]; omega
  · show win0_1.index t 1 * 3072 + 1 * k.val = k.val
    rw [e1]; omega

/-- What the body leaves at a point is its payload of the point's two blocks. -/
theorem outsAt_eq (t : Fin cfg0.N) : outsAt0 m c t = k0_pay1 (iblk m c 0 t) (iblk m c 1 t) := by
  unfold outsAt0 out0_A_2 kernelRun0_A
  dsimp only
  sl_unfold_words
  simp only [View.readAt_eq_ld, (hs0_0 t).read_unread, (hs0_1 t).read_unread, View.ld_unit_zero (S := S1024x3072) hz2,
    View.ld_unit_zero (S := S1024x3072) hz2]
  exact View.read_writes_full _ _ _ _ _

/-- The payload is one product of the two blocks. -/
theorem out_at (x0 : Vec Ideal S1024x3072 .bf16) (x1 : Vec Ideal S1024x3072 .bf16) (r : Fin 1024) (l : Fin 1024) :
    k0_pay1 x0 x1 (ix2 r l) = ∑ k : Fin 3072, x0 (ix2 r k) * x1 (ix2 l k) := by
  pointwise [k0_pay1]

theorem final : (dats m 0 c).arrAt 2 cfg0.N = dx (argY m c) (argW m c) := by
  refine (dats m 0 c).arrAt_eq_of_cover 2 (dx (argY m c) (argW m c)) (fun t _ => ?_) fun i => ?_
  · obtain ⟨e0, e1⟩ := (index_at t).2.2
    have ht : t.val < 4 := lt_of_lt_of_eq t.isLt N_0
    rw [Value.flushed2, outsAt_eq]
    funext x
    obtain ⟨r, l, rfl⟩ : ∃ (r : Fin 1024) (l : Fin 1024), x = ix2 r l := ⟨x 0, x 1, eq_ix2 x⟩
    refine (out_at (iblk m c 0 t) (iblk m c 1 t) r l).trans ?_
    rw [View.read_apply]
    refine Eq.trans ?_ (entry2 (dx (argY m c) (argW m c))
      (i := ix2 ⟨1024 * t.val + r.val, by omega⟩ l) ?_ ?_)
    · exact Finset.sum_congr rfl fun k _ => congrArg₂ (· * ·) (iblk0_at m c t r k _ rfl) (iblk1_at m c t l k)
    · show 1024 * t.val + r.val = win0_2.index t 0 * 1024 + 1 * r.val
      rw [e0]; omega
    · show l.val = win0_2.index t 1 * 1024 + 1 * l.val
      rw [e1]; omega
  · have h0 : (i 0 : Nat) < 4096 := (i 0).isLt
    have h1 : (i 1 : Nat) < 1024 := (i 1).isLt
    obtain ⟨t, ht⟩ : ∃ t : Fin cfg0.N, t.val = (i 0 : Nat) / 1024 :=
      ⟨⟨(i 0 : Nat) / 1024, by rw [show cfg0.N = 4 from N_0]; omega⟩, rfl⟩
    refine ⟨t, flush0_2 t, ?_⟩
    obtain ⟨e0, e1⟩ := (index_at t).2.2
    show i ∈ ((View.whole main_v0).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [e0]; omega
    | ⟨1, _⟩ =>
      show win0_2.index t 1 * 1024 ≤ (i 1 : Nat) ∧ (i 1 : Nat) < win0_2.index t 1 * 1024 + 1024
      rw [e1]; omega

/-- The reference is that product at once. -/
theorem reference (y : Mat 4096 3072) (w : Mat 1024 3072) : ConvInDxRefIdeal.Read.val_main_v5 (F := Ideal) y w = dx y w := by
  funext i
  obtain ⟨r, l, rfl⟩ : ∃ (r : Fin 4096) (l : Fin 1024), i = ix2 r l := ⟨i 0, i 1, eq_ix2 i⟩
  show _ = ∑ k : Fin 3072, y (ix2 r k) * w (ix2 l k)
  pointwise [ConvInDxRefIdeal.Read.val_main_v5, ConvInDxRefIdeal.Read.val_main_v4, ConvInDxRefIdeal.Read.val_main_v3, ConvInDxRefIdeal.Read.val_main_v1]

end Cert.ConvInDxIdeal.Hand

namespace Cert.ConvInDxClaims

open Idealize.ShloMosaic Idealize.ShloMosaic.TcCoe Idealize.SL.Sem

instance : Cert.ConvInDx.Facts := Cert.ConvInDx.Gen.facts
instance : Cert.ConvInDxIdeal.Facts := Cert.ConvInDxIdeal.Gen.facts
instance : Cert.ConvInDxRefIdeal.Facts := Cert.ConvInDxRefIdeal.Gen.facts

theorem frame : Cert.quiescent_ConvInDx := fun m g _ => Cert.ConvInDx.Gen.frame m g

theorem frame_ideal : Cert.quiescent_ConvInDxIdeal := fun m g _ => Cert.ConvInDxIdeal.Gen.frame m g

/-- The host program has no semaphore, so its counters cannot be anything but zero. -/
theorem frame_reference : Cert.quiescent_ConvInDxRefIdeal := fun m g _ =>
  (θ_run Cert.ConvInDxRefIdeal.defs _ _).mono
    (fun r h => ⟨fun c => (h c).2, sem_eq_zero_of_no_sems (by decide) r.2⟩)
    (Cert.ConvInDxRefIdeal.Value.run (F := Ideal) m g)

theorem value : Cert.algebraic_ConvInDxIdeal_ConvInDxRefIdeal := fun m g m' g' _ hargs =>
  ⟨fun c => Product.dx (ConvInDxIdeal.Hand.argY m c) (ConvInDxIdeal.Hand.argW m c),
   (θ_run Cert.ConvInDxIdeal.defs _ _).mono
    (fun _ h c => ⟨(h c).1.trans (ConvInDxIdeal.Hand.final m c), (h c).2⟩)
    (Cert.ConvInDxIdeal.Value.run_blocks (F := Ideal) m g),
   (θ_run Cert.ConvInDxRefIdeal.defs _ _).mono
    (fun _ h c => ⟨(h c).1.trans ((ConvInDxRefIdeal.Read.val_main_v5_eq _ _).trans
        ((ConvInDxIdeal.Hand.reference _ _).trans (congrArg₂ Product.dx (hargs c).1 (hargs c).2.1))), (h c).2⟩)
    (Cert.ConvInDxRefIdeal.Value.run (F := Ideal) m' g')⟩

end Cert.ConvInDxClaims

end
-- ==== Proof.Product.ConvIn.lean ====
/-
  The convolution layer's first product: the kernel's block of 1024 rows and 1024 columns at
  each grid point, the array they make, and the reference's one product.
-/
module

public import proofs.«01_k».proof.Defs
public import proofs.«01_k».proof.Proof.Product.Spec
public import proofs.«01_k».proof.Proof.Gen.ConvIn.Frame
public import proofs.«01_k».proof.Proof.Gen.ConvInIdeal.Frame
public import proofs.«01_k».proof.Proof.Gen.ConvInIdeal.Value
public import proofs.«01_k».proof.Proof.Gen.ConvInRefIdeal.Run
public import proofs.«01_k».proof.Proof.Gen.ConvInRefIdeal.Read
public import Idealize.ShloMosaic.Lib.Tactic
public import Idealize.ShloMosaic.Lib.KernelVsHost

@[expose] public section

set_option maxRecDepth 16384

noncomputable section

namespace Cert.ConvInIdeal.Hand

open Cert.ConvInIdeal Cert.ConvInIdeal.Gen Idealize.ShloMosaic Idealize.ShloMosaic.TcCoe Idealize.SL.Sem Cert.Product

variable (m : (ℓ : Loc nD τ sig) → Buf (Elt Ideal) ℓ) (c : Dev nD)

/-- The kernel's two arguments. -/
abbrev argX : Mat 4096 1024 := m ((c : Thread nD τ).loc main_arg0)
abbrev argW : Mat 1024 3072 := m ((c : Thread nD τ).loc main_arg1)

/-- Where each window's block starts, in blocks. -/
theorem index_at : ∀ t : Fin cfg0.N,
    (win0_0.index t 0 = t.val / 3 ∧ win0_0.index t 1 = 0) ∧ (win0_1.index t 0 = 0 ∧ win0_1.index t 1 = t.val % 3)
    ∧ (win0_2.index t 0 = t.val / 3 ∧ win0_2.index t 1 = t.val % 3) :=
  (by decide +kernel : ∀ t : Fin grid0.N,
    (win0_0.index t 0 = t.val / 3 ∧ win0_0.index t 1 = 0) ∧ (win0_1.index t 0 = 0 ∧ win0_1.index t 1 = t.val % 3)
    ∧ (win0_2.index t 0 = t.val / 3 ∧ win0_2.index t 1 = t.val % 3))

theorem iblk0_at (t : Fin cfg0.N) (r : Fin 1024) (k : Fin 1024) (n : Fin 4096) (hn : n.val = 1024 * (t.val / 3) + r.val) :
    iblk m c 0 t (ix2 r k) = argX m c (ix2 n k) := by
  obtain ⟨e0, e1⟩ := (index_at t).1
  unfold iblk
  rw [View.read_apply]
  refine entry2 (argX m c) ?_ ?_
  · show win0_0.index t 0 * 1024 + 1 * r.val = n.val
    rw [e0]; omega
  · show win0_0.index t 1 * 1024 + 1 * k.val = k.val
    rw [e1]; omega

theorem iblk1_at (t : Fin cfg0.N) (k : Fin 1024) (l : Fin 1024) (n : Fin 3072) (hn : n.val = 1024 * (t.val % 3) + l.val) :
    iblk m c 1 t (ix2 k l) = argW m c (ix2 k n) := by
  obtain ⟨e0, e1⟩ := (index_at t).2.1
  unfold iblk
  rw [View.read_apply]
  refine entry2 (argW m c) ?_ ?_
  · show win0_1.index t 0 * 1024 + 1 * k.val = k.val
    rw [e0]; omega
  · show win0_1.index t 1 * 1024 + 1 * l.val = n.val
    rw [e1]; omega

/-- The body's result is one product of its two blocks. -/
theorem out_at (x0 : Vec Ideal S1024x1024 .bf16) (x1 : Vec Ideal S1024x1024 .bf16) (r : Fin 1024) (l : Fin 1024) :
    out0_2 x0 x1 (ix2 r l) = ∑ k : Fin 1024, x0 (ix2 r k) * x1 (ix2 k l) := by
  unfold out0_2
  rw [View.canon_unit_zero hz2, View.ld_unit_zero (S := S1024x1024) hz2, View.ld_unit_zero (S := S1024x1024) hz2]
  pointwise [k0_pay1]

theorem final : (dats m 0 c).arrAt 2 cfg0.N = prod (argX m c) (argW m c) := by
  refine (dats m 0 c).arrAt_eq_of_cover 2 (prod (argX m c) (argW m c)) (fun t _ => ?_) fun i => ?_
  · obtain ⟨e0, e1⟩ := (index_at t).2.2
    have ht : t.val < 12 := lt_of_lt_of_eq t.isLt N_0
    rw [Value.flushed2]
    funext x
    obtain ⟨r, l, rfl⟩ : ∃ (r : Fin 1024) (l : Fin 1024), x = ix2 r l := ⟨x 0, x 1, eq_ix2 x⟩
    refine (out_at (iblk m c 0 t) (iblk m c 1 t) r l).trans ?_
    rw [View.read_apply]
    refine Eq.trans ?_ (entry2 (prod (argX m c) (argW m c))
      (i := ix2 ⟨1024 * (t.val / 3) + r.val, by omega⟩ ⟨1024 * (t.val % 3) + l.val, by omega⟩) ?_ ?_)
    · exact Finset.sum_congr rfl fun k _ => congrArg₂ (· * ·) (iblk0_at m c t r k _ rfl) (iblk1_at m c t k l _ rfl)
    · show 1024 * (t.val / 3) + r.val = win0_2.index t 0 * 1024 + 1 * r.val
      rw [e0]; omega
    · show 1024 * (t.val % 3) + l.val = win0_2.index t 1 * 1024 + 1 * l.val
      rw [e1]; omega
  · have h0 : (i 0 : Nat) < 4096 := (i 0).isLt
    have h1 : (i 1 : Nat) < 3072 := (i 1).isLt
    obtain ⟨t, ht⟩ : ∃ t : Fin cfg0.N, t.val = (i 0 : Nat) / 1024 * 3 + (i 1 : Nat) / 1024 :=
      ⟨⟨(i 0 : Nat) / 1024 * 3 + (i 1 : Nat) / 1024, by rw [show cfg0.N = 12 from N_0]; omega⟩, rfl⟩
    refine ⟨t, flush0_2 t, ?_⟩
    obtain ⟨e0, e1⟩ := (index_at t).2.2
    show i ∈ ((View.whole main_v0).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [e0]; omega
    | ⟨1, _⟩ =>
      show win0_2.index t 1 * 1024 ≤ (i 1 : Nat) ∧ (i 1 : Nat) < win0_2.index t 1 * 1024 + 1024
      rw [e1]; omega

/-- The reference is that product at once. -/
theorem reference (x : Mat 4096 1024) (w : Mat 1024 3072) : ConvInRefIdeal.Read.val_main_v3 (F := Ideal) x w = prod x w := by
  funext i
  obtain ⟨r, l, rfl⟩ : ∃ (r : Fin 4096) (l : Fin 3072), i = ix2 r l := ⟨i 0, i 1, eq_ix2 i⟩
  show _ = ∑ k : Fin 1024, x (ix2 r k) * w (ix2 k l)
  pointwise [ConvInRefIdeal.Read.val_main_v3, ConvInRefIdeal.Read.val_main_v2, ConvInRefIdeal.Read.val_main_v1, ConvInRefIdeal.Read.val_main_v0]

end Cert.ConvInIdeal.Hand

namespace Cert.ConvInClaims

open Idealize.ShloMosaic Idealize.ShloMosaic.TcCoe Idealize.SL.Sem

instance : Cert.ConvIn.Facts := Cert.ConvIn.Gen.facts
instance : Cert.ConvInIdeal.Facts := Cert.ConvInIdeal.Gen.facts
instance : Cert.ConvInRefIdeal.Facts := Cert.ConvInRefIdeal.Gen.facts

theorem frame : Cert.quiescent_ConvIn := fun m g _ => Cert.ConvIn.Gen.frame m g

theorem frame_ideal : Cert.quiescent_ConvInIdeal := fun m g _ => Cert.ConvInIdeal.Gen.frame m g

/-- The host program has no semaphore, so its counters cannot be anything but zero. -/
theorem frame_reference : Cert.quiescent_ConvInRefIdeal := fun m g _ =>
  (θ_run Cert.ConvInRefIdeal.defs _ _).mono
    (fun r h => ⟨fun c => (h c).2, sem_eq_zero_of_no_sems (by decide) r.2⟩)
    (Cert.ConvInRefIdeal.Value.run (F := Ideal) m g)

theorem value : Cert.algebraic_ConvInIdeal_ConvInRefIdeal := fun m g m' g' _ hargs =>
  ⟨fun c => Product.prod (ConvInIdeal.Hand.argX m c) (ConvInIdeal.Hand.argW m c),
   (θ_run Cert.ConvInIdeal.defs _ _).mono
    (fun _ h c => ⟨(h c).1.trans (ConvInIdeal.Hand.final m c), (h c).2⟩)
    (Cert.ConvInIdeal.Value.run_blocks (F := Ideal) m g),
   (θ_run Cert.ConvInRefIdeal.defs _ _).mono
    (fun _ h c => ⟨(h c).1.trans ((ConvInRefIdeal.Read.val_main_v3_eq _ _).trans
        ((ConvInIdeal.Hand.reference _ _).trans (congrArg₂ Product.prod (hargs c).1 (hargs c).2))), (h c).2⟩)
    (Cert.ConvInRefIdeal.Value.run (F := Ideal) m' g')⟩

end Cert.ConvInClaims

end
-- ==== Proof.Product.MixOut.lean ====
/-
  The mixers' last product: the kernel's block of 1024 rows and 1024 columns at
  each grid point, the array they make, and the reference's one product.
-/
module

public import proofs.«01_k».proof.Defs
public import proofs.«01_k».proof.Proof.Product.Spec
public import proofs.«01_k».proof.Proof.Gen.MixOut.Frame
public import proofs.«01_k».proof.Proof.Gen.MixOutIdeal.Frame
public import proofs.«01_k».proof.Proof.Gen.MixOutIdeal.Value
public import proofs.«01_k».proof.Proof.Gen.MixOutRefIdeal.Run
public import proofs.«01_k».proof.Proof.Gen.MixOutRefIdeal.Read
public import Idealize.ShloMosaic.Lib.Tactic
public import Idealize.ShloMosaic.Lib.KernelVsHost

@[expose] public section

set_option maxRecDepth 16384

noncomputable section

namespace Cert.MixOutIdeal.Hand

open Cert.MixOutIdeal Cert.MixOutIdeal.Gen Idealize.ShloMosaic Idealize.ShloMosaic.TcCoe Idealize.SL.Sem Cert.Product

variable (m : (ℓ : Loc nD τ sig) → Buf (Elt Ideal) ℓ) (c : Dev nD)

/-- The kernel's two arguments. -/
abbrev argX : Mat 4096 1024 := m ((c : Thread nD τ).loc main_arg0)
abbrev argW : Mat 1024 1024 := m ((c : Thread nD τ).loc main_arg1)

/-- Where each window's block starts, in blocks. -/
theorem index_at : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) :=
  (by decide +kernel : ∀ t : Fin grid0.N,
    (win0_0.index t 0 = t.val ∧ win0_0.index t 1 = 0) ∧ (win0_1.index t 0 = 0 ∧ win0_1.index t 1 = 0)
    ∧ (win0_2.index t 0 = t.val ∧ win0_2.index t 1 = 0))

theorem iblk0_at (t : Fin cfg0.N) (r : Fin 1024) (k : Fin 1024) (n : Fin 4096) (hn : n.val = 1024 * t.val + r.val) :
    iblk m c 0 t (ix2 r k) = argX m c (ix2 n k) := by
  obtain ⟨e0, e1⟩ := (index_at t).1
  unfold iblk
  rw [View.read_apply]
  refine entry2 (argX m c) ?_ ?_
  · show win0_0.index t 0 * 1024 + 1 * r.val = n.val
    rw [e0]; omega
  · show win0_0.index t 1 * 1024 + 1 * k.val = k.val
    rw [e1]; omega

theorem iblk1_at (t : Fin cfg0.N) (k : Fin 1024) (l : Fin 1024) (n : Fin 1024) (hn : n.val = l.val) :
    iblk m c 1 t (ix2 k l) = argW m c (ix2 k n) := by
  obtain ⟨e0, e1⟩ := (index_at t).2.1
  unfold iblk
  rw [View.read_apply]
  refine entry2 (argW m c) ?_ ?_
  · show win0_1.index t 0 * 1024 + 1 * k.val = k.val
    rw [e0]; omega
  · show win0_1.index t 1 * 1024 + 1 * l.val = n.val
    rw [e1]; omega

/-- The body's result is one product of its two blocks. -/
theorem out_at (x0 : Vec Ideal S1024x1024 .bf16) (x1 : Vec Ideal S1024x1024 .bf16) (r : Fin 1024) (l : Fin 1024) :
    out0_2 x0 x1 (ix2 r l) = ∑ k : Fin 1024, x0 (ix2 r k) * x1 (ix2 k l) := by
  unfold out0_2
  rw [View.canon_unit_zero hz2, View.ld_unit_zero (S := S1024x1024) hz2, View.ld_unit_zero (S := S1024x1024) hz2]
  pointwise [k0_pay1]

theorem final : (dats m 0 c).arrAt 2 cfg0.N = prod (argX m c) (argW m c) := by
  refine (dats m 0 c).arrAt_eq_of_cover 2 (prod (argX m c) (argW m c)) (fun t _ => ?_) fun i => ?_
  · obtain ⟨e0, e1⟩ := (index_at t).2.2
    have ht : t.val < 4 := lt_of_lt_of_eq t.isLt N_0
    rw [Value.flushed2]
    funext x
    obtain ⟨r, l, rfl⟩ : ∃ (r : Fin 1024) (l : Fin 1024), x = ix2 r l := ⟨x 0, x 1, eq_ix2 x⟩
    refine (out_at (iblk m c 0 t) (iblk m c 1 t) r l).trans ?_
    rw [View.read_apply]
    refine Eq.trans ?_ (entry2 (prod (argX m c) (argW m c))
      (i := ix2 ⟨1024 * t.val + r.val, by omega⟩ l) ?_ ?_)
    · exact Finset.sum_congr rfl fun k _ => congrArg₂ (· * ·) (iblk0_at m c t r k _ rfl) (iblk1_at m c t k l _ rfl)
    · show 1024 * t.val + r.val = win0_2.index t 0 * 1024 + 1 * r.val
      rw [e0]; omega
    · show l.val = win0_2.index t 1 * 1024 + 1 * l.val
      rw [e1]; omega
  · have h0 : (i 0 : Nat) < 4096 := (i 0).isLt
    have h1 : (i 1 : Nat) < 1024 := (i 1).isLt
    obtain ⟨t, ht⟩ : ∃ t : Fin cfg0.N, t.val = (i 0 : Nat) / 1024 :=
      ⟨⟨(i 0 : Nat) / 1024, by rw [show cfg0.N = 4 from N_0]; omega⟩, rfl⟩
    refine ⟨t, flush0_2 t, ?_⟩
    obtain ⟨e0, e1⟩ := (index_at t).2.2
    show i ∈ ((View.whole main_v0).slice (win0_2.rect t)).set
    rw [View.set_slice_whole, Rect.mem_set_unit]
    intro a
    match a with
    | ⟨0, _⟩ =>
      show win0_2.index t 0 * 1024 ≤ (i 0 : Nat) ∧ (i 0 : Nat) < win0_2.index t 0 * 1024 + 1024
      rw [e0]; omega
    | ⟨1, _⟩ =>
      show win0_2.index t 1 * 1024 ≤ (i 1 : Nat) ∧ (i 1 : Nat) < win0_2.index t 1 * 1024 + 1024
      rw [e1]; omega

/-- The reference is that product at once. -/
theorem reference (x : Mat 4096 1024) (w : Mat 1024 1024) : MixOutRefIdeal.Read.val_main_v2 (F := Ideal) x w = prod x w := by
  funext i
  obtain ⟨r, l, rfl⟩ : ∃ (r : Fin 4096) (l : Fin 1024), i = ix2 r l := ⟨i 0, i 1, eq_ix2 i⟩
  show _ = ∑ k : Fin 1024, x (ix2 r k) * w (ix2 k l)
  pointwise [MixOutRefIdeal.Read.val_main_v2, MixOutRefIdeal.Read.val_main_v1, MixOutRefIdeal.Read.val_main_v0]

end Cert.MixOutIdeal.Hand

namespace Cert.MixOutClaims

open Idealize.ShloMosaic Idealize.ShloMosaic.TcCoe Idealize.SL.Sem

instance : Cert.MixOut.Facts := Cert.MixOut.Gen.facts
instance : Cert.MixOutIdeal.Facts := Cert.MixOutIdeal.Gen.facts
instance : Cert.MixOutRefIdeal.Facts := Cert.MixOutRefIdeal.Gen.facts

theorem frame : Cert.quiescent_MixOut := fun m g _ => Cert.MixOut.Gen.frame m g

theorem frame_ideal : Cert.quiescent_MixOutIdeal := fun m g _ => Cert.MixOutIdeal.Gen.frame m g

/-- The host program has no semaphore, so its counters cannot be anything but zero. -/
theorem frame_reference : Cert.quiescent_MixOutRefIdeal := fun m g _ =>
  (θ_run Cert.MixOutRefIdeal.defs _ _).mono
    (fun r h => ⟨fun c => (h c).2, sem_eq_zero_of_no_sems (by decide) r.2⟩)
    (Cert.MixOutRefIdeal.Value.run (F := Ideal) m g)

theorem value : Cert.algebraic_MixOutIdeal_MixOutRefIdeal := fun m g m' g' _ hargs =>
  ⟨fun c => Product.prod (MixOutIdeal.Hand.argX m c) (MixOutIdeal.Hand.argW m c),
   (θ_run Cert.MixOutIdeal.defs _ _).mono
    (fun _ h c => ⟨(h c).1.trans (MixOutIdeal.Hand.final m c), (h c).2⟩)
    (Cert.MixOutIdeal.Value.run_blocks (F := Ideal) m g),
   (θ_run Cert.MixOutRefIdeal.defs _ _).mono
    (fun _ h c => ⟨(h c).1.trans ((MixOutRefIdeal.Read.val_main_v2_eq _ _).trans
        ((MixOutIdeal.Hand.reference _ _).trans (congrArg₂ Product.prod (hargs c).1 (hargs c).2))), (h c).2⟩)
    (Cert.MixOutRefIdeal.Value.run (F := Ideal) m' g')⟩

end Cert.MixOutClaims

end
-- ==== Proof.Product.GateUp.lean ====
/-
  The feed-forward's first product with its gated activation: the two results' blocks at each grid point, the arrays
  they make, and the reference over all the columns at once.
-/
module

public import proofs.«01_k».proof.Defs
public import proofs.«01_k».proof.Proof.Product.Spec
public import proofs.«01_k».proof.Proof.Gen.GateUp.Frame
public import proofs.«01_k».proof.Proof.Gen.GateUpIdeal.Frame
public import proofs.«01_k».proof.Proof.Gen.GateUpIdeal.Value
public import proofs.«01_k».proof.Proof.Gen.GateUpRefIdeal.Run
public import proofs.«01_k».proof.Proof.Gen.GateUpRefIdeal.Read
public import Idealize.ShloMosaic.Lib.Tactic
public import Idealize.ShloMosaic.Lib.KernelVsHost

@[expose] public section

set_option maxRecDepth 16384

noncomputable section

namespace Cert.GateUpIdeal.Hand

open Cert.GateUpIdeal Cert.GateUpIdeal.Gen Idealize.ShloMosaic Idealize.ShloMosaic.TcCoe Idealize.SL.Sem Cert.Product

/-- One entry of `x @ w` for `w` in blocks of columns: block `b`, column `l` of it. -/
def entry {G R K n : ℕ} (x : Mat R K) (w : (⟨3, ![G, K, n]⟩ : Shape).Idx → EReal) (b : Fin G) (r : Fin R) (l : Fin n) : EReal :=
  ∑ k : Fin K, x (ix2 r k) * w (ix3 b k l)

/-- The gates' blocks come first, the other factors' after them. -/
def half (h : Fin 2) (j : Fin 4) : Fin 8 := ⟨h.val * 4 + j.val, by omega⟩

/-- Both factors, in blocks of columns. -/
def factors (x : Mat 4096 1024) (w : (⟨3, ![8, 1024, 704]⟩ : Shape).Idx → EReal) : (⟨4, ![2, 4, 4096, 704]⟩ : Shape).Idx → EReal :=
  fun i => entry x w (half (i 0) (i 1)) (i 2) (i 3)

def gated (g u : EReal) : EReal := g * Ideal.logistic g * u

/-- The gated activation, in blocks of columns. -/
def act (x : Mat 4096 1024) (w : (⟨3, ![8, 1024, 704]⟩ : Shape).Idx → EReal) : (⟨3, ![4, 4096, 704]⟩ : Shape).Idx → EReal :=
  fun i => gated (entry x w (half 0 (i 0)) (i 1) (i 2)) (entry x w (half 1 (i 0)) (i 1) (i 2))

variable (m : (ℓ : Loc nD τ sig) → Buf (Elt Ideal) ℓ) (c : Dev nD)

/-- The kernel's two arguments. -/
abbrev argX : Mat 4096 1024 := m ((c : Thread nD τ).loc main_arg0)
abbrev argW : (⟨3, ![8, 1024, 704]⟩ : Shape).Idx → EReal := m ((c : Thread nD τ).loc main_arg1)

/-- Where each window's block starts, in blocks: point `t` is tile `t / 4` of the rows and block `t % 4` of columns. -/
theorem index_at : ∀ t : Fin cfg0.N,
    (win0_0.index t 0 = t.val / 4 ∧ win0_0.index t 1 = 0)
    ∧ (win0_1.index t 0 = t.val % 4 ∧ win0_1.index t 1 = 0 ∧ win0_1.index t 2 = 0)
    ∧ (win0_2.index t 0 = t.val % 4 + 4 ∧ win0_2.index t 1 = 0 ∧ win0_2.index t 2 = 0)
    ∧ (win0_3.index t 0 = 0 ∧ win0_3.index t 1 = t.val % 4 ∧ win0_3.index t 2 = t.val / 4 ∧ win0_3.index t 3 = 0)
    ∧ (win0_4.index t 0 = t.val % 4 ∧ win0_4.index t 1 = t.val / 4 ∧ win0_4.index t 2 = 0) :=
  (by decide +kernel : ∀ t : Fin grid0.N,
    (win0_0.index t 0 = t.val / 4 ∧ win0_0.index t 1 = 0)
    ∧ (win0_1.index t 0 = t.val % 4 ∧ win0_1.index t 1 = 0 ∧ win0_1.index t 2 = 0)
    ∧ (win0_2.index t 0 = t.val % 4 + 4 ∧ win0_2.index t 1 = 0 ∧ win0_2.index t 2 = 0)
    ∧ (win0_3.index t 0 = 0 ∧ win0_3.index t 1 = t.val % 4 ∧ win0_3.index t 2 = t.val / 4 ∧ win0_3.index t 3 = 0)
    ∧ (win0_4.index t 0 = t.val % 4 ∧ win0_4.index t 1 = t.val / 4 ∧ win0_4.index t 2 = 0))

theorem iblk0_at (t : Fin cfg0.N) (r : Fin 2048) (k : Fin 1024) (n : Fin 4096) (hn : n.val = t.val / 4 * 2048 + r.val) :
    iblk m c 0 t (ix2 r k) = argX m c (ix2 n k) := by
  obtain ⟨e0, e1⟩ := (index_at t).1
  unfold iblk
  rw [View.read_apply]
  refine entry2 (argX m c) ?_ ?_
  · show win0_0.index t 0 * 2048 + 1 * r.val = n.val
    rw [e0]; omega
  · show win0_0.index t 1 * 1024 + 1 * k.val = k.val
    rw [e1]; omega

theorem iblk1_at (t : Fin cfg0.N) (k : Fin 1024) (l : Fin 704) (b : Fin 8) (hb : b.val = t.val % 4) :
    iblk m c 1 t (ix3 0 k l) = argW m c (ix3 b k l) := by
  obtain ⟨e0, e1, e2⟩ := (index_at t).2.1
  unfold iblk
  rw [View.read_apply]
  refine entry3 (argW m c) ?_ ?_ ?_
  · show win0_1.index t 0 * 1 + 1 * 0 = b.val
    rw [e0]; omega
  · show win0_1.index t 1 * 1024 + 1 * k.val = k.val
    rw [e1]; omega
  · show win0_1.index t 2 * 704 + 1 * l.val = l.val
    rw [e2]; omega

theorem iblk2_at (t : Fin cfg0.N) (k : Fin 1024) (l : Fin 704) (b : Fin 8) (hb : b.val = t.val % 4 + 4) :
    iblk m c 2 t (ix3 0 k l) = argW m c (ix3 b k l) := by
  obtain ⟨e0, e1, e2⟩ := (index_at t).2.2.1
  unfold iblk
  rw [View.read_apply]
  refine entry3 (argW m c) ?_ ?_ ?_
  · show win0_2.index t 0 * 1 + 1 * 0 = b.val
    rw [e0]; omega
  · show win0_2.index t 1 * 1024 + 1 * k.val = k.val
    rw [e1]; omega
  · show win0_2.index t 2 * 704 + 1 * l.val = l.val
    rw [e2]; omega

/-- A point's two products are entries of the whole one. -/
theorem entry_gate (t : Fin cfg0.N) (r : Fin 2048) (l : Fin 704) (n : Fin 4096) (hn : n.val = t.val / 4 * 2048 + r.val)
    (j : Fin 4) (hj : j.val = t.val % 4) :
    entry (G := 1) (R := 2048) (K := 1024) (n := 704) (iblk m c 0 t) (iblk m c 1 t) 0 r l = entry (argX m c) (argW m c) (half 0 j) n l :=
  Finset.sum_congr rfl fun k _ => congrArg₂ (· * ·) (iblk0_at m c t r k n hn)
    (iblk1_at m c t k l (half 0 j) (by show 0 * 4 + j.val = _; omega))

theorem entry_up (t : Fin cfg0.N) (r : Fin 2048) (l : Fin 704) (n : Fin 4096) (hn : n.val = t.val / 4 * 2048 + r.val)
    (j : Fin 4) (hj : j.val = t.val % 4) :
    entry (G := 1) (R := 2048) (K := 1024) (n := 704) (iblk m c 0 t) (iblk m c 2 t) 0 r l = entry (argX m c) (argW m c) (half 1 j) n l :=
  Finset.sum_congr rfl fun k _ => congrArg₂ (· * ·) (iblk0_at m c t r k n hn)
    (iblk2_at m c t k l (half 1 j) (by show 1 * 4 + j.val = _; omega))

/-- The stores of the body, entry by entry. -/
theorem pay3_at (x0 : Vec Ideal S2048x1024 .bf16) (x1 : Vec Ideal S1x1024x704 .bf16) (a b : Fin 1) (r : Fin 2048) (l : Fin 704) :
    k0_pay3 (View.ld x0 r0_0) (View.ld x1 r0_1) (ix4 a b r l) = entry x0 x1 0 r l := by
  generalize hR : entry (G := 1) (R := 2048) (K := 1024) (n := 704) x0 x1 0 r l = R
  pointwise [k0_pay3, k0_pay1, r0_0, r0_1]
  exact hR

theorem pay4_at (x0 : Vec Ideal S2048x1024 .bf16) (x2 : Vec Ideal S1x1024x704 .bf16) (a b : Fin 1) (r : Fin 2048) (l : Fin 704) :
    k0_pay4 (View.ld x0 r0_0) (View.ld x2 r0_1) (ix4 a b r l) = entry x0 x2 0 r l := by
  generalize hR : entry (G := 1) (R := 2048) (K := 1024) (n := 704) x0 x2 0 r l = R
  pointwise [k0_pay4, k0_pay2, r0_0, r0_1]
  exact hR

theorem pay5_at (x0 : Vec Ideal S2048x1024 .bf16) (x1 x2 : Vec Ideal S1x1024x704 .bf16) (a : Fin 1) (r : Fin 2048) (l : Fin 704) :
    k0_pay5 (View.ld x0 r0_0) (View.ld x1 r0_1) (View.ld x2 r0_1) (ix3 a r l) = gated (entry x0 x1 0 r l) (entry x0 x2 0 r l) := by
  generalize hR : gated (entry (G := 1) (R := 2048) (K := 1024) (n := 704) x0 x1 0 r l) _ = R
  pointwise [k0_pay5, k0_pay2, k0_pay1, r0_0, r0_1]
  exact hR

/-- The reference's product, read at a column counted in blocks. -/
theorem product_at (x : Mat 4096 1024) (w : (⟨3, ![8, 1024, 704]⟩ : Shape).Idx → EReal) (b : Fin 8) (r : Fin 4096) (l : Fin 704)
    (h : b.val * 704 + l.val < 5632) :
    GateUpRefIdeal.Read.val_main_v4 (F := Ideal) x w (ix2 r ⟨b.val * 704 + l.val, h⟩) = entry x w b r l := by
  generalize hR : entry x w b r l = R
  pointwise [GateUpRefIdeal.Read.val_main_v4, GateUpRefIdeal.Read.val_main_v3, GateUpRefIdeal.Read.val_main_v2, GateUpRefIdeal.Read.val_main_v1, GateUpRefIdeal.Read.val_main_v0]
  exact hR

/-- Its two halves. -/
theorem gate_at (x : Mat 4096 1024) (w : (⟨3, ![8, 1024, 704]⟩ : Shape).Idx → EReal) (j : Fin 4) (r : Fin 4096) (l : Fin 704)
    (h : j.val * 704 + l.val < 2816) :
    GateUpRefIdeal.Read.val_main_v5 (F := Ideal) x w (ix2 r ⟨j.val * 704 + l.val, h⟩) = entry x w (half 0 j) r l := by
  rw [GateUpRefIdeal.Read.val_main_v5_apply, ← product_at x w (half 0 j) r l (by show (0 * 4 + j.val) * 704 + l.val < _; omega)]
  refine entry2 (GateUpRefIdeal.Read.val_main_v4 (F := Ideal) x w) ?_ ?_
  · show _ = r.val
    simp [GateUpRefIdeal.Read.idx_main_v5]
  · show _ = (0 * 4 + j.val) * 704 + l.val
    simp [GateUpRefIdeal.Read.idx_main_v5]

theorem up_at (x : Mat 4096 1024) (w : (⟨3, ![8, 1024, 704]⟩ : Shape).Idx → EReal) (j : Fin 4) (r : Fin 4096) (l : Fin 704)
    (h : j.val * 704 + l.val < 2816) :
    GateUpRefIdeal.Read.val_main_v6 (F := Ideal) x w (ix2 r ⟨j.val * 704 + l.val, h⟩) = entry x w (half 1 j) r l := by
  rw [GateUpRefIdeal.Read.val_main_v6_apply, ← product_at x w (half 1 j) r l (by show (1 * 4 + j.val) * 704 + l.val < _; omega)]
  refine entry2 (GateUpRefIdeal.Read.val_main_v4 (F := Ideal) x w) ?_ ?_
  · show _ = r.val
    simp [GateUpRefIdeal.Read.idx_main_v6]
  · show _ = (1 * 4 + j.val) * 704 + l.val
    simp [GateUpRefIdeal.Read.idx_main_v6]
    omega

/-- The reference's two results. -/
theorem reference_factors (x : Mat 4096 1024) (w : (⟨3, ![8, 1024, 704]⟩ : Shape).Idx → EReal) :
    GateUpRefIdeal.Read.val_main_v15 (F := Ideal) x w = factors x w := by
  funext i
  obtain ⟨h, j, r, l, rfl⟩ : ∃ (h : Fin 2) (j : Fin 4) (r : Fin 4096) (l : Fin 704), i = ix4 h j r l :=
    ⟨i 0, i 1, i 2, i 3, eq_ix4 i⟩
  have hl : j.val * 704 + l.val < 2816 := by omega
  have hg := gate_at x w j r l hl
  have hu := up_at x w j r l hl
  show _ = entry x w (half h j) r l
  generalize hR : entry x w (half h j) r l = R
  pointwise [GateUpRefIdeal.Read.val_main_v15, GateUpRefIdeal.Read.val_main_v14, GateUpRefIdeal.Read.val_main_v13, GateUpRefIdeal.Read.val_main_v12, GateUpRefIdeal.Read.val_main_v11, GateUpRefIdeal.Read.val_main_v10, GateUpRefIdeal.Read.val_main_v9, GateUpRefIdeal.Read.val_main_v8, GateUpRefIdeal.Read.val_main_v7]
  rw [← hR]
  split
  · have h0 : h = 0 := Fin.ext (by show h.val = 0; omega)
    rw [h0]; exact hg
  · have h1 : h = 1 := Fin.ext (by show h.val = 1; omega)
    rw [h1]; exact hu

theorem reference_act (x : Mat 4096 1024) (w : (⟨3, ![8, 1024, 704]⟩ : Shape).Idx → EReal) :
    GateUpRefIdeal.Read.val_main_v20 (F := Ideal) x w = act x w := by
  funext i
  obtain ⟨j, r, l, rfl⟩ : ∃ (j : Fin 4) (r : Fin 4096) (l : Fin 704), i = ix3 j r l := ⟨i 0, i 1, i 2, eq_ix3 i⟩
  have hl : j.val * 704 + l.val < 2816 := by omega
  show _ = gated (entry x w (half 0 j) r l) (entry x w (half 1 j) r l)
  rw [← gate_at x w j r l hl, ← up_at x w j r l hl]
  generalize hR : gated _ _ = R
  pointwise [GateUpRefIdeal.Read.val_main_v20, GateUpRefIdeal.Read.val_main_v19, GateUpRefIdeal.Read.val_main_v18, GateUpRefIdeal.Read.val_main_v17, GateUpRefIdeal.Read.val_main_v16, GateUpRefIdeal.Read.val_main_call0_v5, GateUpRefIdeal.Read.val_main_call0_v4, GateUpRefIdeal.Read.val_main_call0_v3, GateUpRefIdeal.Read.val_main_call0_v2, GateUpRefIdeal.Read.val_main_call0_v1, GateUpRefIdeal.Read.val_main_call0_v0, GateUpRefIdeal.Read.val_main_call0_cst, GateUpRefIdeal.Read.val_main_call0_cst_0]
  exact hR

/-- The block of the factors a point writes, from its blocks of the arguments. -/
def blockFactors (x0 : Vec Ideal S2048x1024 .bf16) (x1 x2 : Vec Ideal S1x1024x704 .bf16) : S2x1x2048x704.Idx → EReal :=
  fun i => if (i 0).val = 0 then entry (G := 1) (R := 2048) (K := 1024) (n := 704) x0 x1 0 (i 2) (i 3)
    else entry (G := 1) (R := 2048) (K := 1024) (n := 704) x0 x2 0 (i 2) (i 3)

theorem out3_at (x0 : Vec Ideal S2048x1024 .bf16) (x1 x2 : Vec Ideal S1x1024x704 .bf16) :
    out0_3 x0 x1 x2 = blockFactors x0 x1 x2 := by
  funext y
  refine View.canon_apply_of_pieces (Val := Elt Ideal) (e := .bf16) (blockFactors x0 x1 x2) _ (fun p hp => ?_) y (cover0_3 _ _ y)
  rcases List.mem_cons.mp hp with rfl | hp
  · intro x
    obtain ⟨a, b, r, l, rfl⟩ : ∃ (a b : Fin 1) (r : Fin 2048) (l : Fin 704), x = ix4 a b r l := ⟨x 0, x 1, x 2, x 3, eq_ix4 x⟩
    refine (pay4_at x0 x2 a b r l).trans (Eq.trans (b := blockFactors x0 x1 x2 (ix4 1 0 r l)) rfl ?_)
    refine entry4 (blockFactors x0 x1 x2) ?_ ?_ ?_ ?_
    · show 1 = 1 + 1 * a.val
      omega
    · show 0 = 0 + 1 * b.val
      omega
    · show r.val = 0 + 1 * r.val
      omega
    · show l.val = 0 + 1 * l.val
      omega
  · rcases List.mem_singleton.mp hp with rfl
    intro x
    obtain ⟨a, b, r, l, rfl⟩ : ∃ (a b : Fin 1) (r : Fin 2048) (l : Fin 704), x = ix4 a b r l := ⟨x 0, x 1, x 2, x 3, eq_ix4 x⟩
    refine (pay3_at x0 x1 a b r l).trans (Eq.trans (b := blockFactors x0 x1 x2 (ix4 0 0 r l)) rfl ?_)
    refine entry4 (blockFactors x0 x1 x2) ?_ ?_ ?_ ?_
    · show 0 = 0 + 1 * a.val
      omega
    · show 0 = 0 + 1 * b.val
      omega
    · show r.val = 0 + 1 * r.val
      omega
    · show l.val = 0 + 1 * l.val
      omega

theorem out4_at (x0 : Vec Ideal S2048x1024 .bf16) (x1 x2 : Vec Ideal S1x1024x704 .bf16) (a : Fin 1) (r : Fin 2048) (l : Fin 704) :
    out0_4 x0 x1 x2 (ix3 a r l) = gated (entry x0 x1 0 r l) (entry x0 x2 0 r l) := by
  unfold out0_4
  rw [View.canon_unit_zero hz3]
  exact pay5_at x0 x1 x2 a r l

theorem final3 : (dats m 0 c).arrAt 3 cfg0.N = factors (argX m c) (argW m c) := by
  refine (dats m 0 c).arrAt_eq_of_cover 3 (factors (argX m c) (argW m c)) (fun t _ => ?_) fun i => ?_
  · obtain ⟨e0, e1, e2, e3⟩ := (index_at t).2.2.2.1
    have ht : t.val < 8 := lt_of_lt_of_eq t.isLt N_0
    rw [Value.flushed3, out3_at]
    funext x
    obtain ⟨h, b, r, l, rfl⟩ : ∃ (h : Fin 2) (b : Fin 1) (r : Fin 2048) (l : Fin 704), x = ix4 h b r l :=
      ⟨x 0, x 1, x 2, x 3, eq_ix4 x⟩
    have hj : t.val % 4 < 4 := by omega
    have hn : t.val / 4 * 2048 + r.val < 4096 := by omega
    rw [View.read_apply]
    refine Eq.trans ?_ (entry4 (factors (argX m c) (argW m c)) (i := ix4 h ⟨t.val % 4, hj⟩ ⟨t.val / 4 * 2048 + r.val, hn⟩ l) ?_ ?_ ?_ ?_)
    · have eg := entry_gate m c t r l ⟨t.val / 4 * 2048 + r.val, hn⟩ rfl ⟨t.val % 4, hj⟩ rfl
      have eu := entry_up m c t r l ⟨t.val / 4 * 2048 + r.val, hn⟩ rfl ⟨t.val % 4, hj⟩ rfl
      match h with
      | 0 => exact eg
      | 1 => exact eu
    · show h.val = win0_3.index t 0 * 2 + 1 * h.val
      rw [e0]; omega
    · show t.val % 4 = win0_3.index t 1 * 1 + 1 * b.val
      rw [e1]; omega
    · show t.val / 4 * 2048 + r.val = win0_3.index t 2 * 2048 + 1 * r.val
      rw [e2]; omega
    · show l.val = win0_3.index t 3 * 704 + 1 * l.val
      rw [e3]; omega
  · have h0 : (i 0 : Nat) < 2 := (i 0).isLt
    have h1 : (i 1 : Nat) < 4 := (i 1).isLt
    have h2 : (i 2 : Nat) < 4096 := (i 2).isLt
    have h3 : (i 3 : Nat) < 704 := (i 3).isLt
    obtain ⟨t, ht⟩ : ∃ t : Fin cfg0.N, t.val = (i 2 : Nat) / 2048 * 4 + (i 1 : Nat) :=
      ⟨⟨(i 2 : Nat) / 2048 * 4 + (i 1 : Nat), by rw [show cfg0.N = 8 from N_0]; omega⟩, rfl⟩
    refine ⟨t, flush0_3 t, ?_⟩
    obtain ⟨e0, e1, e2, e3⟩ := (index_at t).2.2.2.1
    show i ∈ ((View.whole main_v0_0).slice (win0_3.rect t)).set
    rw [View.set_slice_whole, Rect.mem_set_unit]
    intro a
    match a with
    | ⟨0, _⟩ =>
      show win0_3.index t 0 * 2 ≤ (i 0 : Nat) ∧ (i 0 : Nat) < win0_3.index t 0 * 2 + 2
      rw [e0]; omega
    | ⟨1, _⟩ =>
      show win0_3.index t 1 * 1 ≤ (i 1 : Nat) ∧ (i 1 : Nat) < win0_3.index t 1 * 1 + 1
      rw [e1]; omega
    | ⟨2, _⟩ =>
      show win0_3.index t 2 * 2048 ≤ (i 2 : Nat) ∧ (i 2 : Nat) < win0_3.index t 2 * 2048 + 2048
      rw [e2]; omega
    | ⟨3, _⟩ =>
      show win0_3.index t 3 * 704 ≤ (i 3 : Nat) ∧ (i 3 : Nat) < win0_3.index t 3 * 704 + 704
      rw [e3]; omega

theorem final4 : (dats m 0 c).arrAt 4 cfg0.N = act (argX m c) (argW m c) := by
  refine (dats m 0 c).arrAt_eq_of_cover 4 (act (argX m c) (argW m c)) (fun t _ => ?_) fun i => ?_
  · obtain ⟨e0, e1, e2⟩ := (index_at t).2.2.2.2
    have ht : t.val < 8 := lt_of_lt_of_eq t.isLt N_0
    rw [Value.flushed4]
    funext x
    obtain ⟨b, r, l, rfl⟩ : ∃ (b : Fin 1) (r : Fin 2048) (l : Fin 704), x = ix3 b r l := ⟨x 0, x 1, x 2, eq_ix3 x⟩
    have hj : t.val % 4 < 4 := by omega
    have hn : t.val / 4 * 2048 + r.val < 4096 := by omega
    rw [View.read_apply]
    refine (out4_at (iblk m c 0 t) (iblk m c 1 t) (iblk m c 2 t) b r l).trans
      (Eq.trans ?_ (entry3 (act (argX m c) (argW m c)) (i := ix3 ⟨t.val % 4, hj⟩ ⟨t.val / 4 * 2048 + r.val, hn⟩ l) ?_ ?_ ?_))
    · exact congrArg₂ gated (entry_gate m c t r l ⟨t.val / 4 * 2048 + r.val, hn⟩ rfl ⟨t.val % 4, hj⟩ rfl)
        (entry_up m c t r l ⟨t.val / 4 * 2048 + r.val, hn⟩ rfl ⟨t.val % 4, hj⟩ rfl)
    · show t.val % 4 = win0_4.index t 0 * 1 + 1 * b.val
      rw [e0]; omega
    · show t.val / 4 * 2048 + r.val = win0_4.index t 1 * 2048 + 1 * r.val
      rw [e1]; omega
    · show l.val = win0_4.index t 2 * 704 + 1 * l.val
      rw [e2]; omega
  · have h0 : (i 0 : Nat) < 4 := (i 0).isLt
    have h1 : (i 1 : Nat) < 4096 := (i 1).isLt
    have h2 : (i 2 : Nat) < 704 := (i 2).isLt
    obtain ⟨t, ht⟩ : ∃ t : Fin cfg0.N, t.val = (i 1 : Nat) / 2048 * 4 + (i 0 : Nat) :=
      ⟨⟨(i 1 : Nat) / 2048 * 4 + (i 0 : Nat), by rw [show cfg0.N = 8 from N_0]; omega⟩, rfl⟩
    refine ⟨t, flush0_4 t, ?_⟩
    obtain ⟨e0, e1, e2⟩ := (index_at t).2.2.2.2
    show i ∈ ((View.whole main_v0_1).slice (win0_4.rect t)).set
    rw [View.set_slice_whole, Rect.mem_set_unit]
    intro a
    match a with
    | ⟨0, _⟩ =>
      show win0_4.index t 0 * 1 ≤ (i 0 : Nat) ∧ (i 0 : Nat) < win0_4.index t 0 * 1 + 1
      rw [e0]; omega
    | ⟨1, _⟩ =>
      show win0_4.index t 1 * 2048 ≤ (i 1 : Nat) ∧ (i 1 : Nat) < win0_4.index t 1 * 2048 + 2048
      rw [e1]; omega
    | ⟨2, _⟩ =>
      show win0_4.index t 2 * 704 ≤ (i 2 : Nat) ∧ (i 2 : Nat) < win0_4.index t 2 * 704 + 704
      rw [e2]; omega

end Cert.GateUpIdeal.Hand

namespace Cert.GateUpClaims

open Idealize.ShloMosaic Idealize.ShloMosaic.TcCoe Idealize.SL.Sem

instance : Cert.GateUp.Facts := Cert.GateUp.Gen.facts
instance : Cert.GateUpIdeal.Facts := Cert.GateUpIdeal.Gen.facts
instance : Cert.GateUpRefIdeal.Facts := Cert.GateUpRefIdeal.Gen.facts

theorem frame : Cert.quiescent_GateUp := fun m g _ => Cert.GateUp.Gen.frame m g

theorem frame_ideal : Cert.quiescent_GateUpIdeal := fun m g _ => Cert.GateUpIdeal.Gen.frame m g

/-- The host program has no semaphore, so its counters cannot be anything but zero. -/
theorem frame_reference : Cert.quiescent_GateUpRefIdeal := fun m g _ =>
  (θ_run Cert.GateUpRefIdeal.defs _ _).mono
    (fun r h => ⟨fun c => (h c).2.2, sem_eq_zero_of_no_sems (by decide) r.2⟩)
    (Cert.GateUpRefIdeal.Value.run (F := Ideal) m g)

theorem value : Cert.algebraic_GateUpIdeal_GateUpRefIdeal := fun m g m' g' _ hargs =>
  ⟨fun c => GateUpIdeal.Hand.factors (GateUpIdeal.Hand.argX m c) (GateUpIdeal.Hand.argW m c),
   fun c => GateUpIdeal.Hand.act (GateUpIdeal.Hand.argX m c) (GateUpIdeal.Hand.argW m c),
   (θ_run Cert.GateUpIdeal.defs _ _).mono
    (fun _ h c => ⟨(h c).1.trans (GateUpIdeal.Hand.final3 m c), (h c).2.1.trans (GateUpIdeal.Hand.final4 m c), (h c).2.2⟩)
    (Cert.GateUpIdeal.Value.run_blocks (F := Ideal) m g),
   (θ_run Cert.GateUpRefIdeal.defs _ _).mono
    (fun _ h c => ⟨(h c).1.trans ((GateUpRefIdeal.Read.val_main_v15_eq _ _).trans
        ((GateUpIdeal.Hand.reference_factors _ _).trans (congrArg₂ GateUpIdeal.Hand.factors (hargs c).1 (hargs c).2))),
      (h c).2.1.trans ((GateUpRefIdeal.Read.val_main_v20_eq _ _).trans
        ((GateUpIdeal.Hand.reference_act _ _).trans (congrArg₂ GateUpIdeal.Hand.act (hargs c).1 (hargs c).2))), (h c).2.2⟩)
    (Cert.GateUpRefIdeal.Value.run (F := Ideal) m' g')⟩

end Cert.GateUpClaims

end
-- ==== Proof.Product.Down.lean ====
/-
  The feed-forward's second product, the residual sum after its norm, and the two norms of that sum which the next layer
  reads: the four results' blocks at each grid point, the arrays they make, and the reference over all rows at once.
-/
module

public import proofs.«01_k».proof.Defs
public import proofs.«01_k».proof.Proof.Product.Spec
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import proofs.«01_k».proof.Proof.Gen.DownRefIdeal.Read
public import Idealize.ShloMosaic.Lib.Tactic
public import Idealize.ShloMosaic.Lib.KernelVsHost
public import Idealize.ShloMosaic.Lib.Pipeline.ValueKit.Acc

@[expose] public section

set_option maxRecDepth 16384

noncomputable section

namespace Cert.DownIdeal.Hand

open Cert.DownIdeal Cert.DownIdeal.Gen Idealize.ShloMosaic Idealize.ShloMosaic.TcCoe Idealize.SL.Sem Cert.Product

/-- Arrays of four blocks of columns, and of four blocks of rows. -/
abbrev Blocks (R n : ℕ) : Type := (⟨3, ![4, R, n]⟩ : Shape).Idx → EReal

/-- A row of the product of `a` and `w`, where `a`'s columns and `w`'s rows come in four blocks. -/
def down {R : ℕ} (a : Blocks R 704) (w : Blocks 704 1024) (r : Fin R) (l : Fin 1024) : EReal :=
  ∑ j : Fin 4, ∑ k : Fin 704, a (ix3 j r k) * w (ix3 j k l)

/-- A row divided by the root of its mean square, up to the small constant under the root, and scaled by the gains. -/
def norm (v : Fin 1024 → EReal) (g : Mat 1 1024) (l : Fin 1024) : EReal :=
  v l * Ideal.rsqrt (Ideal.div (∑ k : Fin 1024, v k * v k) (Ideal.ofBits FTy.f32 0x44800000#32) + Ideal.ofBits FTy.f32 0x358637BD#32) * g (ix2 0 l)

/-- A row of the residual stream after the feed-forward. -/
def next {R : ℕ} (a : Blocks R 704) (w : Blocks 704 1024) (h : Mat R 1024) (g : Mat 1 1024) (r : Fin R) (l : Fin 1024) : EReal :=
  h (ix2 r l) + norm (down a w r) g l

/-- The results as arrays. -/
def downs {R : ℕ} (a : Blocks R 704) (w : Blocks 704 1024) : Mat R 1024 := fun i => down a w (i 0) (i 1)
def nexts {R : ℕ} (a : Blocks R 704) (w : Blocks 704 1024) (h : Mat R 1024) (g : Mat 1 1024) : Mat R 1024 := fun i => next a w h g (i 0) (i 1)
def norms {R : ℕ} (a : Blocks R 704) (w : Blocks 704 1024) (h : Mat R 1024) (g g' : Mat 1 1024) : Mat R 1024 :=
  fun i => norm (next a w h g (i 0)) g' (i 1)

variable (m : (ℓ : Loc nD τ sig) → Buf (Elt Ideal) ℓ) (c : Dev nD)

/-- The kernel's arguments. -/
abbrev argA : Blocks 4096 704 := m ((c : Thread nD τ).loc main_arg0)
abbrev argW : Blocks 704 1024 := m ((c : Thread nD τ).loc main_arg1)
abbrev argH : Mat 4096 1024 := m ((c : Thread nD τ).loc main_arg2)
abbrev argG3 : Mat 1 1024 := m ((c : Thread nD τ).loc main_arg3)
abbrev argG4 : Mat 1 1024 := m ((c : Thread nD τ).loc main_arg4)
abbrev argG5 : Mat 1 1024 := m ((c : Thread nD τ).loc main_arg5)

/-- Where each window's block starts, in blocks: point `t` is tile `t` of the rows. -/
theorem index_at : ∀ t : Fin cfg0.N,
    (win0_0.index t 0 = 0 ∧ win0_0.index t 1 = t.val ∧ win0_0.index t 2 = 0)
    ∧ (win0_1.index t 0 = 0 ∧ win0_1.index t 1 = 0 ∧ win0_1.index t 2 = 0)
    ∧ (win0_2.index t 0 = t.val ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0)
    ∧ (win0_6.index t 0 = t.val ∧ win0_6.index t 1 = 0) ∧ (win0_7.index t 0 = t.val ∧ win0_7.index t 1 = 0)
    ∧ (win0_8.index t 0 = t.val ∧ win0_8.index t 1 = 0) ∧ (win0_9.index t 0 = t.val ∧ win0_9.index t 1 = 0) :=
  (by decide +kernel : ∀ t : Fin grid0.N,
    (win0_0.index t 0 = 0 ∧ win0_0.index t 1 = t.val ∧ win0_0.index t 2 = 0)
    ∧ (win0_1.index t 0 = 0 ∧ win0_1.index t 1 = 0 ∧ win0_1.index t 2 = 0)
    ∧ (win0_2.index t 0 = t.val ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0)
    ∧ (win0_6.index t 0 = t.val ∧ win0_6.index t 1 = 0) ∧ (win0_7.index t 0 = t.val ∧ win0_7.index t 1 = 0)
    ∧ (win0_8.index t 0 = t.val ∧ win0_8.index t 1 = 0) ∧ (win0_9.index t 0 = t.val ∧ win0_9.index t 1 = 0))

theorem iblk0_at (t : Fin cfg0.N) (j : Fin 4) (r : Fin 512) (k : Fin 704) (n : Fin 4096) (hn : n.val = t.val * 512 + r.val) :
    iblk m c 0 t (ix3 j r k) = argA m c (ix3 j n k) := by
  obtain ⟨e0, e1, e2⟩ := (index_at t).1
  unfold iblk
  rw [View.read_apply]
  refine entry3 (argA m c) ?_ ?_ ?_
  · show win0_0.index t 0 * 4 + 1 * j.val = j.val
    rw [e0]; omega
  · show win0_0.index t 1 * 512 + 1 * r.val = n.val
    rw [e1]; omega
  · show win0_0.index t 2 * 704 + 1 * k.val = k.val
    rw [e2]; omega

theorem iblk1_at (t : Fin cfg0.N) (j : Fin 4) (k : Fin 704) (l : Fin 1024) : iblk m c 1 t (ix3 j k l) = argW m c (ix3 j k l) := by
  obtain ⟨e0, e1, e2⟩ := (index_at t).2.1
  unfold iblk
  rw [View.read_apply]
  refine entry3 (argW m c) ?_ ?_ ?_
  · show win0_1.index t 0 * 4 + 1 * j.val = j.val
    rw [e0]; omega
  · show win0_1.index t 1 * 704 + 1 * k.val = k.val
    rw [e1]; omega
  · show win0_1.index t 2 * 1024 + 1 * l.val = l.val
    rw [e2]; omega

theorem iblk2_at (t : Fin cfg0.N) (r : Fin 512) (l : Fin 1024) (n : Fin 4096) (hn : n.val = t.val * 512 + r.val) :
    iblk m c 2 t (ix2 r l) = argH m c (ix2 n l) := by
  obtain ⟨e0, e1⟩ := (index_at t).2.2.1
  unfold iblk
  rw [View.read_apply]
  refine entry2 (argH m c) ?_ ?_
  · show win0_2.index t 0 * 512 + 1 * r.val = n.val
    rw [e0]; omega
  · show win0_2.index t 1 * 1024 + 1 * l.val = l.val
    rw [e1]; omega

theorem iblk3_at (t : Fin cfg0.N) (l : Fin 1024) : iblk m c 3 t (ix2 0 l) = argG3 m c (ix2 0 l) := by
  obtain ⟨e0, e1⟩ := (index_at t).2.2.2.1
  unfold iblk
  rw [View.read_apply]
  refine entry2 (argG3 m c) ?_ ?_
  · show win0_3.index t 0 * 1 + 1 * 0 = 0
    rw [e0]
  · show win0_3.index t 1 * 1024 + 1 * l.val = l.val
    rw [e1]; omega

theorem iblk4_at (t : Fin cfg0.N) (l : Fin 1024) : iblk m c 4 t (ix2 0 l) = argG4 m c (ix2 0 l) := by
  obtain ⟨e0, e1⟩ := (index_at t).2.2.2.2.1
  unfold iblk
  rw [View.read_apply]
  refine entry2 (argG4 m c) ?_ ?_
  · show win0_4.index t 0 * 1 + 1 * 0 = 0
    rw [e0]
  · show win0_4.index t 1 * 1024 + 1 * l.val = l.val
    rw [e1]; omega

theorem iblk5_at (t : Fin cfg0.N) (l : Fin 1024) : iblk m c 5 t (ix2 0 l) = argG5 m c (ix2 0 l) := by
  obtain ⟨e0, e1⟩ := (index_at t).2.2.2.2.2.1
  unfold iblk
  rw [View.read_apply]
  refine entry2 (argG5 m c) ?_ ?_
  · show win0_5.index t 0 * 1 + 1 * 0 = 0
    rw [e0]
  · show win0_5.index t 1 * 1024 + 1 * l.val = l.val
    rw [e1]; omega

/-- A norm sees its row and its gains only. -/
theorem norm_congr {v v' : Fin 1024 → EReal} {g g' : Mat 1 1024} (hv : ∀ l, v l = v' l) (hg : ∀ l, g (ix2 0 l) = g' (ix2 0 l))
    (l : Fin 1024) : norm v g l = norm v' g' l := by
  have : v = v' := funext hv
  subst this
  unfold norm
  rw [hg l]

/-- A point's rows of the results are rows of the whole ones. -/
theorem down_block (t : Fin cfg0.N) (r : Fin 512) (l : Fin 1024) (n : Fin 4096) (hn : n.val = t.val * 512 + r.val) :
    down (R := 512) (iblk m c 0 t) (iblk m c 1 t) r l = down (argA m c) (argW m c) n l :=
  Finset.sum_congr rfl fun j _ => Finset.sum_congr rfl fun k _ => congrArg₂ (· * ·) (iblk0_at m c t j r k n hn) (iblk1_at m c t j k l)

theorem next_block (t : Fin cfg0.N) (r : Fin 512) (l : Fin 1024) (n : Fin 4096) (hn : n.val = t.val * 512 + r.val) :
    next (R := 512) (iblk m c 0 t) (iblk m c 1 t) (iblk m c 2 t) (iblk m c 3 t) r l
      = next (argA m c) (argW m c) (argH m c) (argG3 m c) n l :=
  congrArg₂ (· + ·) (iblk2_at m c t r l n hn) (norm_congr (fun l => down_block m c t r l n hn) (iblk3_at m c t) l)

theorem norm_block {g g' : Mat 1 1024} (hg : ∀ l, g (ix2 0 l) = g' (ix2 0 l)) (t : Fin cfg0.N) (r : Fin 512) (l : Fin 1024) (n : Fin 4096)
    (hn : n.val = t.val * 512 + r.val) :
    norm (next (R := 512) (iblk m c 0 t) (iblk m c 1 t) (iblk m c 2 t) (iblk m c 3 t) r) g l
      = norm (next (argA m c) (argW m c) (argH m c) (argG3 m c) n) g' l :=
  norm_congr (fun l => next_block m c t r l n hn) hg l

/-- The stores of the body, entry by entry. -/
theorem pay5_at (x0 : Vec Ideal S4x512x704 .bf16) (x1 : Vec Ideal S4x704x1024 .bf16) (r : Fin 512) (l : Fin 1024) :
    k0_pay5 (View.ld x0 r0_0) (View.ld x1 r0_1) (View.ld x0 r0_2) (View.ld x1 r0_3) (View.ld x0 r0_4) (View.ld x1 r0_5)
      (View.ld x0 r0_6) (View.ld x1 r0_7) (ix2 r l) = down x0 x1 r l := by
  unfold down
  rw [Fin.sum_univ_four]
  pointwise [k0_pay5, r0_0, r0_1, r0_2, r0_3, r0_4, r0_5, r0_6, r0_7]

theorem pay1_at (v22 : FVec Ideal S512x1024 .f32) (v24 : Vec Ideal S512x1024 .f32) (v35 : Vec Ideal S1x1024 .f32) (r : Fin 512)
    (l : Fin 1024) : k0_pay1 v22 v24 (mulf v22 v22) v35 (ix2 r l) = v24 (ix2 r l) + norm (fun l => v22 (ix2 r l)) v35 l := by
  generalize hR : v24 (ix2 r l) + norm (fun l => v22 (ix2 r l)) v35 l = R
  pointwise [k0_pay1]
  exact hR

theorem pay3_at (v22 : FVec Ideal S512x1024 .f32) (v24 : Vec Ideal S512x1024 .f32) (v25 : FVec Ideal S512x1024 .f32)
    (v35 v50 : Vec Ideal S1x1024 .f32) (r : Fin 512) (l : Fin 1024) :
    k0_pay3 v22 v24 v25 v35 v50 (ix2 r l) = norm (fun l => k0_pay1 v22 v24 v25 v35 (ix2 r l)) v50 l := by
  generalize hR : norm (fun l => k0_pay1 v22 v24 v25 v35 (ix2 r l)) v50 l = R
  pointwise [k0_pay3, k0_pay2]
  exact hR

theorem pay4_at (v22 : FVec Ideal S512x1024 .f32) (v24 : Vec Ideal S512x1024 .f32) (v25 : FVec Ideal S512x1024 .f32)
    (v35 v50 : Vec Ideal S1x1024 .f32) (r : Fin 512) (l : Fin 1024) :
    k0_pay4 v22 v24 v25 v35 v50 (ix2 r l) = norm (fun l => k0_pay1 v22 v24 v25 v35 (ix2 r l)) v50 l := by
  generalize hR : norm (fun l => k0_pay1 v22 v24 v25 v35 (ix2 r l)) v50 l = R
  pointwise [k0_pay4, k0_pay2]
  exact hR

/-- The body's residual sum, in terms of its blocks. -/
theorem sum_at (x0 : Vec Ideal S4x512x704 .bf16) (x1 : Vec Ideal S4x704x1024 .bf16) (x2 : Vec Ideal S512x1024 .f32) (x3 x4 x5 : Vec Ideal S1x1024 .f32) (r : Fin 512) (l : Fin 1024) :
    k0_pay1 (k0_pay7 x0 x1 x2 x3 x4 x5) x2 (k0_pay8 x0 x1 x2 x3 x4 x5) x3 (ix2 r l) = next x0 x1 x2 x3 r l :=
  (pay1_at (k0_pay7 x0 x1 x2 x3 x4 x5) x2 x3 r l).trans
    (congrArg (x2 (ix2 r l) + ·) (norm_congr (fun l => pay5_at x0 x1 r l) (fun _ => rfl) l))

theorem out6_at (x0 : Vec Ideal S4x512x704 .bf16) (x1 : Vec Ideal S4x704x1024 .bf16) (x2 : Vec Ideal S512x1024 .f32) (x3 x4 x5 : Vec Ideal S1x1024 .f32) (r : Fin 512) (l : Fin 1024) : out0_6 x0 x1 x2 x3 x4 x5 (ix2 r l) = down x0 x1 r l := by
  unfold out0_6
  rw [View.canon_unit_zero hz2]
  exact pay5_at x0 x1 r l

theorem out7_at (x0 : Vec Ideal S4x512x704 .bf16) (x1 : Vec Ideal S4x704x1024 .bf16) (x2 : Vec Ideal S512x1024 .f32) (x3 x4 x5 : Vec Ideal S1x1024 .f32) (r : Fin 512) (l : Fin 1024) : out0_7 x0 x1 x2 x3 x4 x5 (ix2 r l) = next x0 x1 x2 x3 r l := by
  unfold out0_7
  rw [View.canon_unit_zero hz2, View.ld_unit_zero (S := S512x1024) hz2, View.ld_unit_zero (S := S1x1024) hz2]
  exact sum_at x0 x1 x2 x3 x4 x5 r l

theorem out8_at (x0 : Vec Ideal S4x512x704 .bf16) (x1 : Vec Ideal S4x704x1024 .bf16) (x2 : Vec Ideal S512x1024 .f32) (x3 x4 x5 : Vec Ideal S1x1024 .f32) (r : Fin 512) (l : Fin 1024) :
    out0_8 x0 x1 x2 x3 x4 x5 (ix2 r l) = norm (next x0 x1 x2 x3 r) x4 l := by
  unfold out0_8
  rw [View.canon_unit_zero hz2, View.ld_unit_zero (S := S512x1024) hz2, View.ld_unit_zero (S := S1x1024) hz2,
    View.ld_unit_zero (S := S1x1024) hz2]
  exact (pay3_at _ _ _ _ _ r l).trans (norm_congr (fun l => sum_at x0 x1 x2 x3 x4 x5 r l) (fun _ => rfl) l)

theorem out9_at (x0 : Vec Ideal S4x512x704 .bf16) (x1 : Vec Ideal S4x704x1024 .bf16) (x2 : Vec Ideal S512x1024 .f32) (x3 x4 x5 : Vec Ideal S1x1024 .f32) (r : Fin 512) (l : Fin 1024) :
    out0_9 x0 x1 x2 x3 x4 x5 (ix2 r l) = norm (next x0 x1 x2 x3 r) x5 l := by
  unfold out0_9
  rw [View.canon_unit_zero hz2, View.ld_unit_zero (S := S512x1024) hz2, View.ld_unit_zero (S := S1x1024) hz2,
    View.ld_unit_zero (S := S1x1024) hz2]
  exact (pay4_at _ _ _ _ _ r l).trans (norm_congr (fun l => sum_at x0 x1 x2 x3 x4 x5 r l) (fun _ => rfl) l)

/-- The point whose block holds a row. -/
theorem point_of (i : S4096x1024.Idx) : ∃ t : Fin cfg0.N, t.val = (i 0 : Nat) / 512 := by
  have h0 : (i 0 : Nat) < 4096 := (i 0).isLt
  exact ⟨⟨(i 0 : Nat) / 512, by rw [show cfg0.N = 8 from N_0]; omega⟩, rfl⟩

theorem in_block (i : S4096x1024.Idx) (t : Fin cfg0.N) (ht : t.val = (i 0 : Nat) / 512) (o : Fin 2 → Nat) (e0 : o 0 = t.val) (e1 : o 1 = 0)
    (a : Fin 2) : o a * S512x1024.size a ≤ (i a : Nat) ∧ (i a : Nat) < o a * S512x1024.size a + S512x1024.size a := by
  have h1 : (i 1 : Nat) < 1024 := (i 1).isLt
  match a with
  | ⟨0, _⟩ =>
    show o 0 * 512 ≤ (i 0 : Nat) ∧ (i 0 : Nat) < o 0 * 512 + 512
    rw [e0]; omega
  | ⟨1, _⟩ =>
    show o 1 * 1024 ≤ (i 1 : Nat) ∧ (i 1 : Nat) < o 1 * 1024 + 1024
    rw [e1]; omega

theorem covers6 (i : S4096x1024.Idx) : ∃ t : Fin cfg0.N, (cfg0.win 6).flush t = true ∧ i ∈ ((cfg0.win 6).blk t).view.set := by
  obtain ⟨t, ht⟩ := point_of i
  obtain ⟨e0, e1⟩ := (index_at t).2.2.2.2.2.2.1
  refine ⟨t, flush0_6 t, ?_⟩
  show i ∈ ((View.whole main_v0_0).slice (win0_6.rect t)).set
  rw [View.set_slice_whole, Rect.mem_set_unit]
  exact fun a => in_block i t ht (win0_6.index t) e0 e1 a

theorem covers7 (i : S4096x1024.Idx) : ∃ t : Fin cfg0.N, (cfg0.win 7).flush t = true ∧ i ∈ ((cfg0.win 7).blk t).view.set := by
  obtain ⟨t, ht⟩ := point_of i
  obtain ⟨e0, e1⟩ := (index_at t).2.2.2.2.2.2.2.1
  refine ⟨t, flush0_7 t, ?_⟩
  show i ∈ ((View.whole main_v0_1).slice (win0_7.rect t)).set
  rw [View.set_slice_whole, Rect.mem_set_unit]
  exact fun a => in_block i t ht (win0_7.index t) e0 e1 a

theorem covers8 (i : S4096x1024.Idx) : ∃ t : Fin cfg0.N, (cfg0.win 8).flush t = true ∧ i ∈ ((cfg0.win 8).blk t).view.set := by
  obtain ⟨t, ht⟩ := point_of i
  obtain ⟨e0, e1⟩ := (index_at t).2.2.2.2.2.2.2.2.1
  refine ⟨t, flush0_8 t, ?_⟩
  show i ∈ ((View.whole main_v0_2).slice (win0_8.rect t)).set
  rw [View.set_slice_whole, Rect.mem_set_unit]
  exact fun a => in_block i t ht (win0_8.index t) e0 e1 a

theorem covers9 (i : S4096x1024.Idx) : ∃ t : Fin cfg0.N, (cfg0.win 9).flush t = true ∧ i ∈ ((cfg0.win 9).blk t).view.set := by
  obtain ⟨t, ht⟩ := point_of i
  obtain ⟨e0, e1⟩ := (index_at t).2.2.2.2.2.2.2.2.2
  refine ⟨t, flush0_9 t, ?_⟩
  show i ∈ ((View.whole main_v0_3).slice (win0_9.rect t)).set
  rw [View.set_slice_whole, Rect.mem_set_unit]
  exact fun a => in_block i t ht (win0_9.index t) e0 e1 a

theorem final6 : (dats m 0 c).arrAt 6 cfg0.N = downs (argA m c) (argW m c) := by
  refine (dats m 0 c).arrAt_eq_of_cover 6 (downs (argA m c) (argW m c)) (fun t _ => ?_) (covers6)
  obtain ⟨e0, e1⟩ := (index_at t).2.2.2.2.2.2.1
  have ht : t.val < 8 := lt_of_lt_of_eq t.isLt N_0
  rw [Value.flushed6]
  funext x
  obtain ⟨r, l, rfl⟩ : ∃ (r : Fin 512) (l : Fin 1024), x = ix2 r l := ⟨x 0, x 1, eq_ix2 x⟩
  have hn : t.val * 512 + r.val < 4096 := by omega
  rw [View.read_apply]
  refine (out6_at _ _ _ _ _ _ r l).trans (Eq.trans ?_ (entry2 (downs (argA m c) (argW m c)) (i := ix2 ⟨t.val * 512 + r.val, hn⟩ l) ?_ ?_))
  · exact down_block m c t r l _ rfl
  · show t.val * 512 + r.val = win0_6.index t 0 * 512 + 1 * r.val
    rw [e0]; omega
  · show l.val = win0_6.index t 1 * 1024 + 1 * l.val
    rw [e1]; omega

theorem final7 : (dats m 0 c).arrAt 7 cfg0.N = nexts (argA m c) (argW m c) (argH m c) (argG3 m c) := by
  refine (dats m 0 c).arrAt_eq_of_cover 7 (nexts (argA m c) (argW m c) (argH m c) (argG3 m c)) (fun t _ => ?_) (covers7)
  obtain ⟨e0, e1⟩ := (index_at t).2.2.2.2.2.2.2.1
  have ht : t.val < 8 := lt_of_lt_of_eq t.isLt N_0
  rw [Value.flushed7]
  funext x
  obtain ⟨r, l, rfl⟩ : ∃ (r : Fin 512) (l : Fin 1024), x = ix2 r l := ⟨x 0, x 1, eq_ix2 x⟩
  have hn : t.val * 512 + r.val < 4096 := by omega
  rw [View.read_apply]
  refine (out7_at _ _ _ _ _ _ r l).trans (Eq.trans ?_ (entry2 (nexts (argA m c) (argW m c) (argH m c) (argG3 m c)) (i := ix2 ⟨t.val * 512 + r.val, hn⟩ l) ?_ ?_))
  · exact next_block m c t r l _ rfl
  · show t.val * 512 + r.val = win0_7.index t 0 * 512 + 1 * r.val
    rw [e0]; omega
  · show l.val = win0_7.index t 1 * 1024 + 1 * l.val
    rw [e1]; omega

theorem final8 : (dats m 0 c).arrAt 8 cfg0.N = norms (argA m c) (argW m c) (argH m c) (argG3 m c) (argG4 m c) := by
  refine (dats m 0 c).arrAt_eq_of_cover 8 (norms (argA m c) (argW m c) (argH m c) (argG3 m c) (argG4 m c)) (fun t _ => ?_) (covers8)
  obtain ⟨e0, e1⟩ := (index_at t).2.2.2.2.2.2.2.2.1
  have ht : t.val < 8 := lt_of_lt_of_eq t.isLt N_0
  rw [Value.flushed8]
  funext x
  obtain ⟨r, l, rfl⟩ : ∃ (r : Fin 512) (l : Fin 1024), x = ix2 r l := ⟨x 0, x 1, eq_ix2 x⟩
  have hn : t.val * 512 + r.val < 4096 := by omega
  rw [View.read_apply]
  refine (out8_at _ _ _ _ _ _ r l).trans (Eq.trans ?_ (entry2 (norms (argA m c) (argW m c) (argH m c) (argG3 m c) (argG4 m c)) (i := ix2 ⟨t.val * 512 + r.val, hn⟩ l) ?_ ?_))
  · exact norm_block m c (iblk4_at m c t) t r l _ rfl
  · show t.val * 512 + r.val = win0_8.index t 0 * 512 + 1 * r.val
    rw [e0]; omega
  · show l.val = win0_8.index t 1 * 1024 + 1 * l.val
    rw [e1]; omega

theorem final9 : (dats m 0 c).arrAt 9 cfg0.N = norms (argA m c) (argW m c) (argH m c) (argG3 m c) (argG5 m c) := by
  refine (dats m 0 c).arrAt_eq_of_cover 9 (norms (argA m c) (argW m c) (argH m c) (argG3 m c) (argG5 m c)) (fun t _ => ?_) (covers9)
  obtain ⟨e0, e1⟩ := (index_at t).2.2.2.2.2.2.2.2.2
  have ht : t.val < 8 := lt_of_lt_of_eq t.isLt N_0
  rw [Value.flushed9]
  funext x
  obtain ⟨r, l, rfl⟩ : ∃ (r : Fin 512) (l : Fin 1024), x = ix2 r l := ⟨x 0, x 1, eq_ix2 x⟩
  have hn : t.val * 512 + r.val < 4096 := by omega
  rw [View.read_apply]
  refine (out9_at _ _ _ _ _ _ r l).trans (Eq.trans ?_ (entry2 (norms (argA m c) (argW m c) (argH m c) (argG3 m c) (argG5 m c)) (i := ix2 ⟨t.val * 512 + r.val, hn⟩ l) ?_ ?_))
  · exact norm_block m c (iblk5_at m c t) t r l _ rfl
  · show t.val * 512 + r.val = win0_9.index t 0 * 512 + 1 * r.val
    rw [e0]; omega
  · show l.val = win0_9.index t 1 * 1024 + 1 * l.val
    rw [e1]; omega

/-- The reference's one product, its sum taken block by block. -/
theorem ref_down (a : Blocks 4096 704) (w : Blocks 704 1024) (r : Fin 4096) (l : Fin 1024) :
    DownRefIdeal.Read.val_main_v5 (F := Ideal) a w (ix2 r l) = down a w r l := by
  generalize hR : down a w r l = R
  pointwise [DownRefIdeal.Read.val_main_v5, DownRefIdeal.Read.val_main_v4, DownRefIdeal.Read.val_main_v3, DownRefIdeal.Read.val_main_v2, DownRefIdeal.Read.val_main_v1, DownRefIdeal.Read.val_main_v0]
  rw [← hR]
  unfold down
  exact Fin.sum_divmod_fin 704 (fun j k => a (ix3 j r k) * w (ix3 j k l))

theorem ref_next (a : Blocks 4096 704) (w : Blocks 704 1024) (h : Mat 4096 1024) (g : Mat 1 1024) (r : Fin 4096) (l : Fin 1024) :
    DownRefIdeal.Read.val_main_v18 (F := Ideal) a w h g (ix2 r l) = next a w h g r l := by
  refine Eq.trans ?_ (congrArg (h (ix2 r l) + ·) (norm_congr (fun l => ref_down a w r l) (fun _ => rfl) l))
  generalize hR : h (ix2 r l) + norm (fun l => DownRefIdeal.Read.val_main_v5 (F := Ideal) a w (ix2 r l)) g l = R
  pointwise [DownRefIdeal.Read.val_main_v18, DownRefIdeal.Read.val_main_v17, DownRefIdeal.Read.val_main_v16, DownRefIdeal.Read.val_main_v15, DownRefIdeal.Read.val_main_v14, DownRefIdeal.Read.val_main_v13, DownRefIdeal.Read.val_main_v12, DownRefIdeal.Read.val_main_v11, DownRefIdeal.Read.val_main_v10, DownRefIdeal.Read.val_main_v9, DownRefIdeal.Read.val_main_v8, DownRefIdeal.Read.val_main_v7, DownRefIdeal.Read.val_main_v6, DownRefIdeal.Read.val_main_cst, DownRefIdeal.Read.val_main_cst_0, DownRefIdeal.Read.val_main_cst_1]
  exact hR

theorem reference5 (a : Blocks 4096 704) (w : Blocks 704 1024) : DownRefIdeal.Read.val_main_v5 (F := Ideal) a w = downs a w := by
  funext i
  obtain ⟨r, l, rfl⟩ : ∃ (r : Fin 4096) (l : Fin 1024), i = ix2 r l := ⟨i 0, i 1, eq_ix2 i⟩
  exact ref_down a w r l

theorem reference18 (a : Blocks 4096 704) (w : Blocks 704 1024) (h : Mat 4096 1024) (g : Mat 1 1024) :
    DownRefIdeal.Read.val_main_v18 (F := Ideal) a w h g = nexts a w h g := by
  funext i
  obtain ⟨r, l, rfl⟩ : ∃ (r : Fin 4096) (l : Fin 1024), i = ix2 r l := ⟨i 0, i 1, eq_ix2 i⟩
  exact ref_next a w h g r l

theorem reference31 (a : Blocks 4096 704) (w : Blocks 704 1024) (h : Mat 4096 1024) (g g' : Mat 1 1024) :
    DownRefIdeal.Read.val_main_v31 (F := Ideal) a w h g g' = norms a w h g g' := by
  funext i
  obtain ⟨r, l, rfl⟩ : ∃ (r : Fin 4096) (l : Fin 1024), i = ix2 r l := ⟨i 0, i 1, eq_ix2 i⟩
  refine Eq.trans ?_ (norm_congr (fun l => ref_next a w h g r l) (fun _ => rfl) l)
  generalize hR : norm (fun l => DownRefIdeal.Read.val_main_v18 (F := Ideal) a w h g (ix2 r l)) g' l = R
  pointwise [DownRefIdeal.Read.val_main_v31, DownRefIdeal.Read.val_main_v30, DownRefIdeal.Read.val_main_v29, DownRefIdeal.Read.val_main_v28, DownRefIdeal.Read.val_main_v27, DownRefIdeal.Read.val_main_v26, DownRefIdeal.Read.val_main_v25, DownRefIdeal.Read.val_main_v24, DownRefIdeal.Read.val_main_v23, DownRefIdeal.Read.val_main_v22, DownRefIdeal.Read.val_main_v21, DownRefIdeal.Read.val_main_v20, DownRefIdeal.Read.val_main_v19, DownRefIdeal.Read.val_main_cst_2, DownRefIdeal.Read.val_main_cst_3, DownRefIdeal.Read.val_main_cst_4]
  exact hR

theorem reference44 (a : Blocks 4096 704) (w : Blocks 704 1024) (h : Mat 4096 1024) (g g' : Mat 1 1024) :
    DownRefIdeal.Read.val_main_v44 (F := Ideal) a w h g g' = norms a w h g g' := by
  funext i
  obtain ⟨r, l, rfl⟩ : ∃ (r : Fin 4096) (l : Fin 1024), i = ix2 r l := ⟨i 0, i 1, eq_ix2 i⟩
  refine Eq.trans ?_ (norm_congr (fun l => ref_next a w h g r l) (fun _ => rfl) l)
  generalize hR : norm (fun l => DownRefIdeal.Read.val_main_v18 (F := Ideal) a w h g (ix2 r l)) g' l = R
  pointwise [DownRefIdeal.Read.val_main_v44, DownRefIdeal.Read.val_main_v43, DownRefIdeal.Read.val_main_v42, DownRefIdeal.Read.val_main_v41, DownRefIdeal.Read.val_main_v40, DownRefIdeal.Read.val_main_v39, DownRefIdeal.Read.val_main_v38, DownRefIdeal.Read.val_main_v37, DownRefIdeal.Read.val_main_v36, DownRefIdeal.Read.val_main_v35, DownRefIdeal.Read.val_main_v34, DownRefIdeal.Read.val_main_v33, DownRefIdeal.Read.val_main_v32, DownRefIdeal.Read.val_main_cst_5, DownRefIdeal.Read.val_main_cst_6, DownRefIdeal.Read.val_main_cst_7]
  exact hR

end Cert.DownIdeal.Hand

namespace Cert.DownClaims

open Idealize.ShloMosaic Idealize.ShloMosaic.TcCoe Idealize.SL.Sem DownIdeal.Hand

instance : Cert.Down.Facts := Cert.Down.Gen.facts
instance : Cert.DownIdeal.Facts := Cert.DownIdeal.Gen.facts
instance : Cert.DownRefIdeal.Facts := Cert.DownRefIdeal.Gen.facts

theorem frame : Cert.quiescent_Down := fun m g _ => Cert.Down.Gen.frame m g

theorem frame_ideal : Cert.quiescent_DownIdeal := fun m g _ => Cert.DownIdeal.Gen.frame m g

/-- The host program has no semaphore, so its counters cannot be anything but zero. -/
theorem frame_reference : Cert.quiescent_DownRefIdeal := fun m g _ =>
  (θ_run Cert.DownRefIdeal.defs _ _).mono
    (fun r h => ⟨fun c => (h c).2.2.2.2, sem_eq_zero_of_no_sems (by decide) r.2⟩)
    (Cert.DownRefIdeal.Value.run (F := Ideal) m g)

theorem value : Cert.algebraic_DownIdeal_DownRefIdeal := fun m g m' g' _ hargs =>
  ⟨fun c => downs (argA m c) (argW m c),
   fun c => nexts (argA m c) (argW m c) (argH m c) (argG3 m c),
   fun c => norms (argA m c) (argW m c) (argH m c) (argG3 m c) (argG4 m c),
   fun c => norms (argA m c) (argW m c) (argH m c) (argG3 m c) (argG5 m c),
   (θ_run Cert.DownIdeal.defs _ _).mono
    (fun _ h c => ⟨(h c).1.trans (final6 m c), (h c).2.1.trans (final7 m c), (h c).2.2.1.trans (final8 m c),
      (h c).2.2.2.1.trans (final9 m c), (h c).2.2.2.2⟩)
    (Cert.DownIdeal.Value.run_blocks (F := Ideal) m g),
   (θ_run Cert.DownRefIdeal.defs _ _).mono
    (fun _ h c => by
      obtain ⟨h0, h1, h2, h3, h4, h5⟩ := hargs c
      refine ⟨(h c).1.trans ?_, (h c).2.1.trans ?_, (h c).2.2.1.trans ?_, (h c).2.2.2.1.trans ?_, (h c).2.2.2.2⟩
      · refine (DownRefIdeal.Read.val_main_v5_eq _ _).trans ((reference5 _ _).trans ?_)
        rw [h0, h1]
      · refine (DownRefIdeal.Read.val_main_v18_eq _ _ _ _).trans ((reference18 _ _ _ _).trans ?_)
        rw [h0, h1, h2, h3]
      · refine (DownRefIdeal.Read.val_main_v31_eq m' c).trans ((reference31 _ _ _ _ _).trans ?_)
        rw [h0, h1, h2, h3, h4]
      · refine (DownRefIdeal.Read.val_main_v44_eq m' c).trans ((reference44 _ _ _ _ _).trans ?_)
        rw [h0, h1, h2, h3, h5])
    (Cert.DownRefIdeal.Value.run (F := Ideal) m' g')⟩

end Cert.DownClaims

end
-- ==== Proof.Product.NormGrad.lean ====
/-
  The gradient of a row divided by the root of its mean square, in the two forms the loss head's kernel and its reference
  compute it, which are equal for every row, infinite entries included: the factor is a nonnegative real number.
-/
module

public import Idealize.ShloMosaic.Lib.Tactic
public import Idealize.ShloMosaic.Lib.Pointwise
public import Idealize.ShloMosaic.Lib.StableHlo
public import Idealize.ShloMosaic.Lib.IdealHost

@[expose] public section

noncomputable section

namespace Cert.Product

open Idealize.ShloMosaic

theorem bits_1024 : Ideal.ofBits .f32 0x44800000#32 = ((1024 : ℝ) : EReal) := by
  simp [Ideal.ofBits, Ideal.ieee, -EReal.coe_mul]; norm_num

theorem bits_inv_1024 : Ideal.ofBits .f32 0x3A800000#32 = ((1 / 1024 : ℝ) : EReal) := by
  simp [Ideal.ofBits, Ideal.ieee, -EReal.coe_mul]; norm_num

theorem bits_eps : Ideal.ofBits .f32 0x358637BD#32 = ((8796093 / 8796093022208 : ℝ) : EReal) := by
  simp [Ideal.ofBits, Ideal.ieee, -EReal.coe_mul]; norm_num

theorem bits_half : Ideal.ofBits .f32 0x3F000000#32 = ((1 / 2 : ℝ) : EReal) := by
  simp [Ideal.ofBits, Ideal.ieee, -EReal.coe_mul]; norm_num

theorem bits_neg_half : Ideal.ofBits .f32 0xBF000000#32 = ((-(1 / 2) : ℝ) : EReal) := by
  simp [Ideal.ofBits, Ideal.ieee, -EReal.coe_mul, -EReal.coe_neg]; norm_num

theorem bits_two : Ideal.ofBits .f32 0x40000000#32 = ((2 : ℝ) : EReal) := by
  simp [Ideal.ofBits, Ideal.ieee, -EReal.coe_mul]; norm_num

/-- A row's mean square, up to the small constant, and the factor the norm multiplies the row by. -/
def meanSq (v : Fin 1024 → EReal) : EReal :=
  Ideal.div (∑ k : Fin 1024, v k * v k) (Ideal.ofBits FTy.f32 0x44800000#32) + Ideal.ofBits FTy.f32 0x358637BD#32

def factor (v : Fin 1024 → EReal) : EReal := Ideal.rsqrt (meanSq v)

/-- The gradient of the norm of `v`, given the gradient `x` of the divided row. -/
def normGrad (v x : Fin 1024 → EReal) (l : Fin 1024) : EReal :=
  factor v * (x l - v l * factor v * Ideal.div (∑ k : Fin 1024, x k * (v k * factor v)) (Ideal.ofBits FTy.f32 0x44800000#32))

theorem square_nonneg (x : EReal) : 0 ≤ x * x :=
  EReal.mul_nonneg_iff.mpr ((le_total 0 x).imp (fun h => ⟨h, h⟩) (fun h => ⟨h, h⟩))

/-- The factor is a nonnegative real, and divided by the mean square it is its own cube. -/
theorem factor_real (v : Fin 1024 → EReal) : ∃ r : ℝ, 0 ≤ r ∧ factor v = (r : EReal) ∧
    Ideal.div (factor v) (meanSq v) = ((r * r * r : ℝ) : EReal) := by
  have hs : 0 ≤ ∑ k : Fin 1024, v k * v k := Finset.sum_nonneg fun k _ => square_nonneg (v k)
  unfold factor meanSq
  revert hs
  generalize ∑ k : Fin 1024, v k * v k = s
  intro hs
  rw [bits_1024, bits_eps, Ideal.div_coe (by norm_num)]
  induction s using EReal.rec with
  | bot => exact absurd hs (by simp)
  | top =>
    refine ⟨0, le_refl _, ?_, ?_⟩
    · rw [EReal.top_mul_coe_of_pos (by norm_num), EReal.top_add_coe, Ideal.rsqrt_top]; rfl
    · rw [EReal.top_mul_coe_of_pos (by norm_num), EReal.top_add_coe, Ideal.rsqrt_top]
      unfold Ideal.div
      rw [if_neg (by simp), zero_mul]
      simp
  | coe a =>
    have ha : 0 ≤ a := EReal.coe_nonneg.mp hs
    rw [← EReal.coe_mul, ← EReal.coe_add]
    have hu : 0 < a * (1 / 1024) + 8796093 / 8796093022208 := by positivity
    revert hu
    generalize a * (1 / 1024) + 8796093 / 8796093022208 = u
    intro hu
    rw [Ideal.rsqrt_coe, if_neg (not_lt.mpr hu.le), if_neg hu.ne']
    refine ⟨(Real.sqrt u)⁻¹, by positivity, rfl, ?_⟩
    rw [Ideal.div_coe hu.ne', ← EReal.coe_mul]
    congr 1
    have := Real.mul_self_sqrt hu.le
    have h0 : Real.sqrt u ≠ 0 := (Real.sqrt_pos.mpr hu).ne'
    rw [mul_assoc, ← mul_inv, this, one_div]

/-- A nonnegative real comes out of a sum. -/
theorem sum_real_mul {ι : Type} (s : Finset ι) (f : ι → EReal) {r : ℝ} (hr : 0 ≤ r) : ∑ i ∈ s, (r : EReal) * f i = r * ∑ i ∈ s, f i := by
  classical
  refine Finset.induction_on s (by simp) fun i s hi ih => ?_
  rw [Finset.sum_insert hi, Finset.sum_insert hi, ih,
    EReal.left_distrib_of_nonneg_of_ne_top (EReal.coe_nonneg.mpr hr) (EReal.coe_ne_top r)]

/-- Half of a number taken off twice. -/
theorem halves (y : EReal) : ((-(1 / 2) : ℝ) : EReal) * y + ((-(1 / 2) : ℝ) : EReal) * y = -y := by
  induction y using EReal.rec with
  | bot => rw [EReal.coe_mul_bot_of_neg (by norm_num)]; rfl
  | top => rw [EReal.coe_mul_top_of_neg (by norm_num)]; rfl
  | coe a => rw [← EReal.coe_mul, ← EReal.coe_add, ← EReal.coe_neg]; congr 1; ring

/-- The product and quotient rules give the same gradient. -/
theorem normGrad_eq (v x : Fin 1024 → EReal) (l : Fin 1024) (s : EReal)
    (hs : s = Ideal.div ((∑ k : Fin 1024, v k * x k) * (Ideal.ofBits FTy.f32 0xBF000000#32 * Ideal.div (factor v) (meanSq v)))
      (Ideal.ofBits FTy.f32 0x44800000#32)) :
    x l * factor v + v l * s + s * v l = normGrad v x l := by
  obtain ⟨r, hr, e, e3⟩ := factor_real v
  subst hs
  unfold normGrad
  rw [e3, e, bits_1024, bits_neg_half, Ideal.div_coe (by norm_num), Ideal.div_coe (by norm_num)]
  have hsum : ∑ k : Fin 1024, x k * (v k * (r : EReal)) = r * ∑ k : Fin 1024, v k * x k := by
    rw [← sum_real_mul _ _ hr]
    exact Finset.sum_congr rfl fun k _ => by rw [mul_comm, mul_comm (v k), mul_assoc]
  rw [hsum]
  generalize ∑ k : Fin 1024, v k * x k = S
  rw [sub_eq_add_neg, EReal.left_distrib_of_nonneg_of_ne_top (EReal.coe_nonneg.mpr hr) (EReal.coe_ne_top r), mul_neg, ← halves,
    ← add_assoc, mul_comm (x l)]
  have hy : v l * (S * (((-(1 / 2) : ℝ) : EReal) * ((r * r * r : ℝ) : EReal)) * ((1 / 1024 : ℝ) : EReal))
      = ((-(1 / 2) : ℝ) : EReal) * (r * (v l * r * (r * S * ((1 / 1024 : ℝ) : EReal)))) := by
    rw [EReal.coe_mul, EReal.coe_mul]
    ac_rfl
  rw [mul_comm _ (v l), hy]

/-- The gradient of half of a mean of squares. -/
theorem squareGrad_eq (e : EReal) :
    Ideal.div (Ideal.ofBits FTy.f32 0x3F000000#32 * Ideal.ofBits FTy.f32 0x3F800000#32) (Ideal.ofBits FTy.f32 0x44800000#32)
      * (Ideal.ofBits FTy.f32 0x40000000#32 * e) = e * Ideal.ofBits FTy.f32 0x3A800000#32 := by
  rw [Ideal.ofBits_one_f32, mul_one, bits_half, bits_1024, bits_two, bits_inv_1024, Ideal.div_coe (by norm_num), ← mul_assoc,
    ← EReal.coe_mul, ← EReal.coe_mul, mul_comm]
  congr 2
  norm_num

end Cert.Product

end
-- ==== Proof.Product.DownLossBlock.lean ====
/-
  The last layer's down product with the loss head on it: the loss's error, its gradients and its sums as plain functions,
  and what each payload of the kernel's body computes of its blocks.
-/
module

public import proofs.«01_k».proof.Proof.Product.Spec
public import proofs.«01_k».proof.Proof.Product.Down
public import proofs.«01_k».proof.Proof.Product.NormGrad
public import proofs.«01_k».proof.Proof.Gen.DownLossIdeal.Frame
public import Idealize.ShloMosaic.Lib.Tactic
public import Idealize.ShloMosaic.Lib.KernelVsHost

@[expose] public section

set_option maxRecDepth 16384

noncomputable section

namespace Cert.DownLossIdeal.Hand

open Cert.DownLossIdeal Cert.DownLossIdeal.Gen Idealize.ShloMosaic Idealize.ShloMosaic.TcCoe Idealize.SL.Sem Cert.Product
open Cert.DownIdeal.Hand (Blocks down norm norm_congr)

/-- The error of a row of the residual stream against the target, and the gradient of the loss with respect to that row. -/
def err {R : ℕ} (a : Blocks R 704) (w : Blocks 704 1024) (h : Mat R 1024) (g : Mat 1 1024) (y : Mat R 1024) (r : Fin R) (l : Fin 1024) : EReal :=
  h (ix2 r l) + norm (down a w r) g l - y (ix2 r l)

def grad {R : ℕ} (a : Blocks R 704) (w : Blocks 704 1024) (h : Mat R 1024) (g : Mat 1 1024) (y : Mat R 1024) (r : Fin R) (l : Fin 1024) : EReal :=
  err a w h g y r l * Ideal.ofBits FTy.f32 0x3A800000#32

/-- The gradient with respect to the product's row, and a row's share of the gradient with respect to the gains. -/
def gradDown {R : ℕ} (a : Blocks R 704) (w : Blocks 704 1024) (h : Mat R 1024) (g : Mat 1 1024) (y : Mat R 1024) (r : Fin R) (l : Fin 1024) : EReal :=
  normGrad (down a w r) (fun l => grad a w h g y r l * g (ix2 0 l)) l

def gainTerm {R : ℕ} (a : Blocks R 704) (w : Blocks 704 1024) (h : Mat R 1024) (g : Mat 1 1024) (y : Mat R 1024) (r : Fin R) (l : Fin 1024) : EReal :=
  grad a w h g y r l * (down a w r l * factor (down a w r))

/-- A row's squared error. -/
def sqTerm {R : ℕ} (a : Blocks R 704) (w : Blocks 704 1024) (h : Mat R 1024) (g : Mat 1 1024) (y : Mat R 1024) (r : Fin R) (l : Fin 1024) : EReal :=
  err a w h g y r l * err a w h g y r l

section
variable (x0 : Vec Ideal S4x512x704 .bf16) (x1 : Vec Ideal S4x704x1024 .bf16) (x2 : Vec Ideal S512x1024 .f32) (x3 : Vec Ideal S1x1024 .f32)
  (x4 : Vec Ideal S512x1024 .f32)

/-- The body's product. -/
abbrev prods : FVec Ideal S512x1024 .f32 :=
  k0_pay4 (View.ld x0 (Rect.unit (s := S4x512x704) ![0, 0, 0] S1x512x704.size inb_S4x512x704_S1x512x704_0_0_0)) (View.ld x1 (Rect.unit (s := S4x704x1024) ![0, 0, 0] S1x704x1024.size inb_S4x704x1024_S1x704x1024_0_0_0))
    (View.ld x0 (Rect.unit (s := S4x512x704) ![1, 0, 0] S1x512x704.size inb_S4x512x704_S1x512x704_1_0_0)) (View.ld x1 (Rect.unit (s := S4x704x1024) ![1, 0, 0] S1x704x1024.size inb_S4x704x1024_S1x704x1024_1_0_0))
    (View.ld x0 (Rect.unit (s := S4x512x704) ![2, 0, 0] S1x512x704.size inb_S4x512x704_S1x512x704_2_0_0)) (View.ld x1 (Rect.unit (s := S4x704x1024) ![2, 0, 0] S1x704x1024.size inb_S4x704x1024_S1x704x1024_2_0_0))
    (View.ld x0 (Rect.unit (s := S4x512x704) ![3, 0, 0] S1x512x704.size inb_S4x512x704_S1x512x704_3_0_0)) (View.ld x1 (Rect.unit (s := S4x704x1024) ![3, 0, 0] S1x704x1024.size inb_S4x704x1024_S1x704x1024_3_0_0))

theorem prods_at (r : Fin 512) (l : Fin 1024) : prods x0 x1 (ix2 r l) = down x0 x1 r l := by
  unfold down
  rw [Fin.sum_univ_four]
  pointwise [k0_pay4]

end

theorem pay6_at (v : FVec Ideal S512x1024 .f32) (g : Vec Ideal S1x1024 .f32) (h y : Vec Ideal S512x1024 .f32) (r : Fin 512) (l : Fin 1024) :
    k0_pay6 v g h (mulf v v) y (ix2 r l) = h (ix2 r l) + norm (fun l => v (ix2 r l)) g l - y (ix2 r l) := by
  generalize hR : h (ix2 r l) + norm (fun l => v (ix2 r l)) g l - y (ix2 r l) = R
  pointwise [k0_pay6]
  exact hR

theorem pay7_at (v : FVec Ideal S512x1024 .f32) (g : Vec Ideal S1x1024 .f32) (h : Vec Ideal S512x1024 .f32) (vv : FVec Ideal S512x1024 .f32)
    (y : Vec Ideal S512x1024 .f32) (r : Fin 512) (l : Fin 1024) :
    k0_pay7 v g h vv y (ix2 r l) = k0_pay6 v g h vv y (ix2 r l) * Ideal.ofBits FTy.f32 0x3A800000#32 := by
  pointwise [k0_pay7]

theorem pay8_at (v : FVec Ideal S512x1024 .f32) (r : Fin 512) : k0_pay8 v (ix2 r 0) = factor (fun l => v (ix2 r l)) := by
  generalize hR : factor (fun l => v (ix2 r l)) = R
  pointwise [k0_pay8]
  exact hR

theorem pay9_at (v : FVec Ideal S512x1024 .f32) (r : Fin 512) (l : Fin 1024) :
    k0_pay9 v (ix2 r l) = v (ix2 r l) * factor (fun l => v (ix2 r l)) := by
  rw [← pay8_at v r]
  pointwise [k0_pay9]

theorem pay10_at (v : FVec Ideal S512x1024 .f32) (g : Vec Ideal S1x1024 .f32) (h : Vec Ideal S512x1024 .f32) (vv : FVec Ideal S512x1024 .f32)
    (y : Vec Ideal S512x1024 .f32) (r : Fin 512) (l : Fin 1024) :
    k0_pay10 v g h vv y (ix2 r l) = k0_pay7 v g h vv y (ix2 r l) * g (ix2 0 l) := by
  pointwise [k0_pay10]

theorem pay13_at (v : FVec Ideal S512x1024 .f32) (g : Vec Ideal S1x1024 .f32) (h : Vec Ideal S512x1024 .f32) (vv : FVec Ideal S512x1024 .f32)
    (y : Vec Ideal S512x1024 .f32) (r : Fin 512) (l : Fin 1024) :
    k0_pay13 v g h vv y (ix2 r l) = k0_pay10 v g h vv y (ix2 r l) * k0_pay9 v (ix2 r l) := by
  pointwise [k0_pay13]

theorem pay1_at (f : FVec Ideal S512x1 .f32) (xh x z : FVec Ideal S512x1024 .f32) (r : Fin 512) (l : Fin 1024) :
    k0_pay1 f xh x z (ix2 r l) = f (ix2 r 0) * (x (ix2 r l) - xh (ix2 r l) * Ideal.div (∑ k : Fin 1024, z (ix2 r k)) (Ideal.ofBits FTy.f32 0x44800000#32)) := by
  generalize hR : f (ix2 r 0) * (x (ix2 r l) - xh (ix2 r l) * Ideal.div (∑ k : Fin 1024, z (ix2 r k)) (Ideal.ofBits FTy.f32 0x44800000#32)) = R
  pointwise [k0_pay1]
  exact hR

theorem pay12_at (v : FVec Ideal S512x1024 .f32) (g : Vec Ideal S1x1024 .f32) (h : Vec Ideal S512x1024 .f32) (vv : FVec Ideal S512x1024 .f32)
    (y : Vec Ideal S512x1024 .f32) (z : Vec Ideal S1x1024 .f32) (l : Fin 1024) :
    k0_pay12 v g h vv y z (ix2 0 l) = z (ix2 0 l) + ∑ r : Fin 512, k0_pay7 v g h vv y (ix2 r l) * k0_pay9 v (ix2 r l) := by
  generalize hR : z (ix2 0 l) + ∑ r : Fin 512, k0_pay7 v g h vv y (ix2 r l) * k0_pay9 v (ix2 r l) = R
  pointwise [k0_pay12]
  exact hR

theorem pay2_at (e : FVec Ideal S512x1024 .f32) (l : Fin 1024) : k0_pay2 e (ix2 0 l) = ∑ r : Fin 512, e (ix2 r l) * e (ix2 r l) := by
  pointwise [k0_pay2]

theorem pay3_at (e : FVec Ideal S512x1024 .f32) (z : Vec Ideal S1x1024 .f32) (l : Fin 1024) :
    k0_pay3 e z (ix2 0 l) = z (ix2 0 l) + ∑ r : Fin 512, e (ix2 r l) * e (ix2 r l) := by
  rw [← pay2_at]
  pointwise [k0_pay3]

section
variable (x0 : Vec Ideal S4x512x704 .bf16) (x1 : Vec Ideal S4x704x1024 .bf16) (x2 : Vec Ideal S512x1024 .f32) (x3 : Vec Ideal S1x1024 .f32)
  (x4 : Vec Ideal S512x1024 .f32)

/-- The body's rows, in terms of its blocks. -/
theorem prods_row (r : Fin 512) : (fun l => prods x0 x1 (ix2 r l)) = down x0 x1 r := funext (prods_at x0 x1 r)

theorem err_at (r : Fin 512) (l : Fin 1024) :
    k0_pay6 (prods x0 x1) x3 x2 (mulf (prods x0 x1) (prods x0 x1)) x4 (ix2 r l) = err x0 x1 x2 x3 x4 r l := by
  rw [pay6_at, prods_row]
  rfl

theorem grad_at (r : Fin 512) (l : Fin 1024) :
    k0_pay7 (prods x0 x1) x3 x2 (mulf (prods x0 x1) (prods x0 x1)) x4 (ix2 r l) = grad x0 x1 x2 x3 x4 r l := by
  rw [pay7_at, err_at]
  rfl

theorem divided_at (r : Fin 512) (l : Fin 1024) : k0_pay9 (prods x0 x1) (ix2 r l) = down x0 x1 r l * factor (down x0 x1 r) := by
  rw [pay9_at, prods_row, prods_at]

theorem gradDown_at (r : Fin 512) (l : Fin 1024) :
    k0_pay1 (k0_pay8 (prods x0 x1)) (k0_pay9 (prods x0 x1)) (k0_pay10 (prods x0 x1) x3 x2 (mulf (prods x0 x1) (prods x0 x1)) x4)
      (k0_pay13 (prods x0 x1) x3 x2 (mulf (prods x0 x1) (prods x0 x1)) x4) (ix2 r l) = gradDown x0 x1 x2 x3 x4 r l := by
  rw [pay1_at, pay8_at, prods_row, pay10_at, grad_at, divided_at]
  unfold gradDown normGrad
  congr 4
  refine Finset.sum_congr rfl fun k _ => ?_
  rw [pay13_at, pay10_at, grad_at, divided_at]

theorem gain_at (z : Vec Ideal S1x1024 .f32) (l : Fin 1024) :
    k0_pay12 (prods x0 x1) x3 x2 (mulf (prods x0 x1) (prods x0 x1)) x4 z (ix2 0 l)
      = z (ix2 0 l) + ∑ r : Fin 512, gainTerm x0 x1 x2 x3 x4 r l := by
  rw [pay12_at]
  refine congrArg (z (ix2 0 l) + ·) (Finset.sum_congr rfl fun r _ => ?_)
  rw [grad_at, divided_at]
  rfl

theorem sq_first_at (l : Fin 1024) :
    k0_pay2 (k0_pay6 (prods x0 x1) x3 x2 (mulf (prods x0 x1) (prods x0 x1)) x4) (ix2 0 l) = ∑ r : Fin 512, sqTerm x0 x1 x2 x3 x4 r l := by
  rw [pay2_at]
  refine Finset.sum_congr rfl fun r _ => ?_
  rw [err_at]
  rfl

theorem sq_next_at (z : Vec Ideal S1x1024 .f32) (l : Fin 1024) :
    k0_pay3 (k0_pay6 (prods x0 x1) x3 x2 (mulf (prods x0 x1) (prods x0 x1)) x4) z (ix2 0 l)
      = z (ix2 0 l) + ∑ r : Fin 512, sqTerm x0 x1 x2 x3 x4 r l := by
  rw [pay3_at]
  refine congrArg (z (ix2 0 l) + ·) (Finset.sum_congr rfl fun r _ => ?_)
  rw [err_at]
  rfl

end

end Cert.DownLossIdeal.Hand

end
-- ==== Proof.Product.DownLossArray.lean ====
/-
  What the loss head's kernel leaves in its four output windows at each grid point, and so in its four result arrays: two are
  written block by block, two are sums over every row, built up over the points.
-/
module

public import proofs.«01_k».proof.Proof.Product.DownLossBlock
public import proofs.«01_k».proof.Proof.Gen.DownLossIdeal.Value
public import Idealize.ShloMosaic.Lib.Pipeline.ValueKit.Acc
public import Idealize.ShloMosaic.Lib.WritesUnit

@[expose] public section

set_option maxRecDepth 16384

noncomputable section

namespace Cert.DownLossIdeal.Hand

open Cert.DownLossIdeal Cert.DownLossIdeal.Gen Idealize.ShloMosaic Idealize.ShloMosaic.TcCoe Idealize.SL.Sem Cert.Product
open Cert.DownIdeal.Hand (Blocks down norm norm_congr)

/-- The results as arrays; the gains' gradient is the first of eight rows, the others zero. -/
def grads (a : Blocks 4096 704) (w : Blocks 704 1024) (h : Mat 4096 1024) (g : Mat 1 1024) (y : Mat 4096 1024) : Mat 4096 1024 :=
  fun i => grad a w h g y (i 0) (i 1)
def gradDowns (a : Blocks 4096 704) (w : Blocks 704 1024) (h : Mat 4096 1024) (g : Mat 1 1024) (y : Mat 4096 1024) : Mat 4096 1024 :=
  fun i => gradDown a w h g y (i 0) (i 1)
def gains (a : Blocks 4096 704) (w : Blocks 704 1024) (h : Mat 4096 1024) (g : Mat 1 1024) (y : Mat 4096 1024) : Mat 8 1024 :=
  fun i => if (i 0).val = 0 then ∑ n : Fin 4096, gainTerm a w h g y n (i 1) else 0
def squares (a : Blocks 4096 704) (w : Blocks 704 1024) (h : Mat 4096 1024) (g : Mat 1 1024) (y : Mat 4096 1024) : Mat 1 1024 :=
  fun i => ∑ n : Fin 4096, sqTerm a w h g y n (i 1)

/-- The sum over the first `k` rows. -/
def upTo (f : Fin 4096 → EReal) (k : ℕ) : EReal := ∑ n ∈ Finset.range k, if h : n < 4096 then f ⟨n, h⟩ else 0

theorem upTo_zero (f : Fin 4096 → EReal) : upTo f 0 = 0 := rfl

theorem upTo_all (f : Fin 4096 → EReal) : upTo f 4096 = ∑ n : Fin 4096, f n := by
  unfold upTo
  rw [Finset.sum_range]
  exact Finset.sum_congr rfl fun n _ => dif_pos n.isLt

theorem upTo_block (f : Fin 4096 → EReal) (k : ℕ) (hk : k + 512 ≤ 4096) :
    upTo f (k + 512) = upTo f k + ∑ r : Fin 512, f ⟨k + r.val, by omega⟩ := by
  unfold upTo
  rw [Finset.sum_range_add, Finset.sum_range (n := 512)]
  exact congrArg _ (Finset.sum_congr rfl fun r _ => dif_pos (by omega))

variable (m : (ℓ : Loc nD τ sig) → Buf (Elt Ideal) ℓ) (c : Dev nD) (t : Fin cfg0.N)

/-- The kernel's arguments. -/
abbrev argA : Blocks 4096 704 := m ((c : Thread nD τ).loc main_arg0)
abbrev argW : Blocks 704 1024 := m ((c : Thread nD τ).loc main_arg1)
abbrev argH : Mat 4096 1024 := m ((c : Thread nD τ).loc main_arg2)
abbrev argG : Mat 1 1024 := m ((c : Thread nD τ).loc main_arg3)
abbrev argY : Mat 4096 1024 := m ((c : Thread nD τ).loc main_arg4)

/-- Where each window's block starts, in blocks: point `t` is tile `t` of the rows. -/
theorem index_at : ∀ t : Fin cfg0.N,
    (win0_0.index t 0 = 0 ∧ win0_0.index t 1 = t.val ∧ win0_0.index t 2 = 0)
    ∧ (win0_1.index t 0 = 0 ∧ win0_1.index t 1 = 0 ∧ win0_1.index t 2 = 0)
    ∧ (win0_2.index t 0 = t.val ∧ win0_2.index t 1 = 0) ∧ (win0_3.index t 0 = 0 ∧ win0_3.index t 1 = 0)
    ∧ (win0_4.index t 0 = t.val ∧ win0_4.index t 1 = 0)
    ∧ (win0_5.index t 0 = t.val ∧ win0_5.index t 1 = 0) ∧ (win0_6.index t 0 = t.val ∧ win0_6.index t 1 = 0)
    ∧ (win0_7.index t 0 = 0 ∧ win0_7.index t 1 = 0) ∧ (win0_8.index t 0 = 0 ∧ win0_8.index t 1 = 0) :=
  (by decide +kernel : ∀ t : Fin grid0.N,
    (win0_0.index t 0 = 0 ∧ win0_0.index t 1 = t.val ∧ win0_0.index t 2 = 0)
    ∧ (win0_1.index t 0 = 0 ∧ win0_1.index t 1 = 0 ∧ win0_1.index t 2 = 0)
    ∧ (win0_2.index t 0 = t.val ∧ win0_2.index t 1 = 0) ∧ (win0_3.index t 0 = 0 ∧ win0_3.index t 1 = 0)
    ∧ (win0_4.index t 0 = t.val ∧ win0_4.index t 1 = 0)
    ∧ (win0_5.index t 0 = t.val ∧ win0_5.index t 1 = 0) ∧ (win0_6.index t 0 = t.val ∧ win0_6.index t 1 = 0)
    ∧ (win0_7.index t 0 = 0 ∧ win0_7.index t 1 = 0) ∧ (win0_8.index t 0 = 0 ∧ win0_8.index t 1 = 0))

theorem lt8 : t.val < 8 := lt_of_lt_of_eq t.isLt N_0

theorem iblk0_at (j : Fin 4) (r : Fin 512) (k : Fin 704) (n : Fin 4096) (hn : n.val = t.val * 512 + r.val) :
    iblk m c 0 t (ix3 j r k) = argA m c (ix3 j n k) := by
  obtain ⟨e0, e1, e2⟩ := (index_at t).1
  unfold iblk
  rw [View.read_apply]
  refine entry3 (argA m c) ?_ ?_ ?_
  · show win0_0.index t 0 * 4 + 1 * j.val = j.val
    rw [e0]; omega
  · show win0_0.index t 1 * 512 + 1 * r.val = n.val
    rw [e1]; omega
  · show win0_0.index t 2 * 704 + 1 * k.val = k.val
    rw [e2]; omega

theorem iblk1_at (j : Fin 4) (k : Fin 704) (l : Fin 1024) : iblk m c 1 t (ix3 j k l) = argW m c (ix3 j k l) := by
  obtain ⟨e0, e1, e2⟩ := (index_at t).2.1
  unfold iblk
  rw [View.read_apply]
  refine entry3 (argW m c) ?_ ?_ ?_
  · show win0_1.index t 0 * 4 + 1 * j.val = j.val
    rw [e0]; omega
  · show win0_1.index t 1 * 704 + 1 * k.val = k.val
    rw [e1]; omega
  · show win0_1.index t 2 * 1024 + 1 * l.val = l.val
    rw [e2]; omega

theorem iblk2_at (r : Fin 512) (l : Fin 1024) (n : Fin 4096) (hn : n.val = t.val * 512 + r.val) :
    iblk m c 2 t (ix2 r l) = argH m c (ix2 n l) := by
  obtain ⟨e0, e1⟩ := (index_at t).2.2.1
  unfold iblk
  rw [View.read_apply]
  refine entry2 (argH m c) ?_ ?_
  · show win0_2.index t 0 * 512 + 1 * r.val = n.val
    rw [e0]; omega
  · show win0_2.index t 1 * 1024 + 1 * l.val = l.val
    rw [e1]; omega

theorem iblk3_at (l : Fin 1024) : iblk m c 3 t (ix2 0 l) = argG m c (ix2 0 l) := by
  obtain ⟨e0, e1⟩ := (index_at t).2.2.2.1
  unfold iblk
  rw [View.read_apply]
  refine entry2 (argG m c) ?_ ?_
  · show win0_3.index t 0 * 1 + 1 * 0 = 0
    rw [e0]
  · show win0_3.index t 1 * 1024 + 1 * l.val = l.val
    rw [e1]; omega

theorem iblk4_at (r : Fin 512) (l : Fin 1024) (n : Fin 4096) (hn : n.val = t.val * 512 + r.val) :
    iblk m c 4 t (ix2 r l) = argY m c (ix2 n l) := by
  obtain ⟨e0, e1⟩ := (index_at t).2.2.2.2.1
  unfold iblk
  rw [View.read_apply]
  refine entry2 (argY m c) ?_ ?_
  · show win0_4.index t 0 * 512 + 1 * r.val = n.val
    rw [e0]; omega
  · show win0_4.index t 1 * 1024 + 1 * l.val = l.val
    rw [e1]; omega

/-- A point's rows of each quantity are rows of the whole one. -/
theorem down_block (r : Fin 512) (n : Fin 4096) (hn : n.val = t.val * 512 + r.val) :
    down (R := 512) (iblk m c 0 t) (iblk m c 1 t) r = down (argA m c) (argW m c) n :=
  funext fun l => Finset.sum_congr rfl fun j _ => Finset.sum_congr rfl fun k _ =>
    congrArg₂ (· * ·) (iblk0_at m c t j r k n hn) (iblk1_at m c t j k l)

theorem err_block (r : Fin 512) (l : Fin 1024) (n : Fin 4096) (hn : n.val = t.val * 512 + r.val) :
    err (R := 512) (iblk m c 0 t) (iblk m c 1 t) (iblk m c 2 t) (iblk m c 3 t) (iblk m c 4 t) r l
      = err (argA m c) (argW m c) (argH m c) (argG m c) (argY m c) n l :=
  congrArg₂ (· - ·) (congrArg₂ (· + ·) (iblk2_at m c t r l n hn)
    (norm_congr (fun l => congrFun (down_block m c t r n hn) l) (iblk3_at m c t) l)) (iblk4_at m c t r l n hn)

theorem grad_block (r : Fin 512) (l : Fin 1024) (n : Fin 4096) (hn : n.val = t.val * 512 + r.val) :
    grad (R := 512) (iblk m c 0 t) (iblk m c 1 t) (iblk m c 2 t) (iblk m c 3 t) (iblk m c 4 t) r l
      = grad (argA m c) (argW m c) (argH m c) (argG m c) (argY m c) n l :=
  congrArg (· * _) (err_block m c t r l n hn)

theorem gradDown_block (r : Fin 512) (l : Fin 1024) (n : Fin 4096) (hn : n.val = t.val * 512 + r.val) :
    gradDown (R := 512) (iblk m c 0 t) (iblk m c 1 t) (iblk m c 2 t) (iblk m c 3 t) (iblk m c 4 t) r l
      = gradDown (argA m c) (argW m c) (argH m c) (argG m c) (argY m c) n l :=
  congrArg₂ (fun v x => normGrad v x l) (down_block m c t r n hn)
    (funext fun l => congrArg₂ (· * ·) (grad_block m c t r l n hn) (iblk3_at m c t l))

theorem gain_block (r : Fin 512) (l : Fin 1024) (n : Fin 4096) (hn : n.val = t.val * 512 + r.val) :
    gainTerm (R := 512) (iblk m c 0 t) (iblk m c 1 t) (iblk m c 2 t) (iblk m c 3 t) (iblk m c 4 t) r l
      = gainTerm (argA m c) (argW m c) (argH m c) (argG m c) (argY m c) n l :=
  congrArg₂ (fun x (v : Fin 1024 → EReal) => x * (v l * factor v)) (grad_block m c t r l n hn) (down_block m c t r n hn)

theorem sq_block (r : Fin 512) (l : Fin 1024) (n : Fin 4096) (hn : n.val = t.val * 512 + r.val) :
    sqTerm (R := 512) (iblk m c 0 t) (iblk m c 1 t) (iblk m c 2 t) (iblk m c 3 t) (iblk m c 4 t) r l
      = sqTerm (argA m c) (argW m c) (argH m c) (argG m c) (argY m c) n l :=
  congrArg (fun e => e * e) (err_block m c t r l n hn)

/-! ## What each point leaves -/

/-- A whole block written, read back. -/
theorem read_all {R : ℕ} {Val : EltTy → Type} {e : EltTy} (v : View sig .tc .vmem ⟨2, ![R, 1024]⟩ e) (f : v.ty.Contents Val)
    (P : (⟨2, ![R, 1024]⟩ : Shape).Idx → Val e) (i) (r : Fin R) (l : Fin 1024) :
    v.read Val (v.writes Val f [⟨Rect.unit (s := ⟨2, ![R, 1024]⟩) ![0, 0] ![R, 1024] i, P⟩]) (ix2 r l) = P (ix2 r l) :=
  View.read_writes_cons_unit_of_mem v f i P [] (ix2 r l) (ix2 r l) rfl
    (Fin.forall_fin_two.mpr ⟨(Nat.zero_add _).symm, (Nat.zero_add _).symm⟩)

/-- The first of eight rows written over what was there, read at that row and at another. -/
theorem read_row_eq (v : View sig .tc .vmem S8x1024 .f32) (f : v.ty.Contents (Elt Ideal)) (P : S1x1024.Idx → EReal) (i) (L)
    (j : Fin 8) (l : Fin 1024) (h : j.val = 0) :
    v.read (Elt Ideal) (v.writes (Elt Ideal) f (⟨Rect.unit (s := S8x1024) ![0, 0] ![1, 1024] i, P⟩ :: L)) (ix2 j l) = P (ix2 0 l) :=
  View.read_writes_cons_rows_of_mem v f i P L (ix2 j l) (ix2 0 l) rfl h rfl

theorem read_row_ne (v : View sig .tc .vmem S8x1024 .f32) (f : v.ty.Contents (Elt Ideal)) (P : S1x1024.Idx → EReal) (i) (L)
    (j : Fin 8) (l : Fin 1024) (h : j.val ≠ 0) :
    v.read (Elt Ideal) (v.writes (Elt Ideal) f (⟨Rect.unit (s := S8x1024) ![0, 0] ![1, 1024] i, P⟩ :: L)) (ix2 j l)
      = v.read (Elt Ideal) (v.writes (Elt Ideal) f L) (ix2 j l) :=
  View.read_writes_cons_rows_of_not_mem v f i P L (ix2 j l) rfl rfl (by show j.val < 0 ∨ 0 + 1 ≤ j.val; omega)

/-- The block of zeros a first point starts from. -/
theorem read_zeros (v : View sig .tc .vmem S8x1024 .f32) (f : v.ty.Contents (Elt Ideal)) (i) (j : Fin 8) (l : Fin 1024) :
    v.read (Elt Ideal) (v.writes (Elt Ideal) f [⟨Rect.unit (s := S8x1024) ![0, 0] ![8, 1024] i, k0_pay11 (F := Ideal)⟩]) (ix2 j l)
      = (0 : EReal) := by
  rw [View.read_writes_cons_rows_of_mem v f i (k0_pay11 (F := Ideal)) [] (ix2 j l) (ix2 j l) rfl (Nat.zero_add _).symm rfl]
  pointwise [k0_pay11]

/-- The first row, loaded. -/
theorem row_at (X : Vec Ideal S8x1024 .f32) (inb) (l : Fin 1024) :
    View.ld X (Rect.unit (s := S8x1024) ![0, 0] ![1, 1024] inb) (ix2 0 l : S1x1024.Idx) = X (ix2 0 l) := by
  show X _ = _
  refine entry2 X ?_ ?_
  · show 0 + 1 * 0 = 0
    omega
  · show 0 + 1 * l.val = l.val
    omega

theorem load_row (v : View sig .tc .vmem S8x1024 .f32) (L) (i) (l : Fin 1024) :
    v.readCov (Val := Elt Ideal) L (Rect.unit (s := S8x1024) ![0, 0] ![1, 1024] i).toLoadRect (ix2 0 l : S1x1024.Idx)
      = v.read (Elt Ideal) (v.writes (Elt Ideal) v.junk L) (ix2 0 l) :=
  row_at (v.read (Elt Ideal) (v.writes (Elt Ideal) v.junk L)) i l

theorem out5_at (r : Fin 512) (l : Fin 1024) :
    (outsAt0 m c t.val t.isLt).1 (ix2 r l)
      = grad (R := 512) (iblk m c 0 t) (iblk m c 1 t) (iblk m c 2 t) (iblk m c 3 t) (iblk m c 4 t) r l := by
  have ht := lt8 t
  refine Eq.trans ?_ (grad_at (iblk m c 0 t) (iblk m c 1 t) (iblk m c 2 t) (iblk m c 3 t) (iblk m c 4 t) r l)
  by_cases h0 : t.val % 8 = 0
  · rw [outsAt0_A m c t h0 h0 (by omega)]; dsimp only; unfold out0_A_5 kernelRun0_A; dsimp only; sl_unfold_words
    simp only [View.readAt_eq_ld, (hs0_0 t).read_unread, (hs0_1 t).read_unread, (hs0_2 t).read_unread, (hs0_3 t).read_unread,
      (hs0_4 t).read_unread, View.ld_unit_zero (S := S512x1024) hz2, View.ld_unit_zero (S := S1x1024) hz2]
    exact read_all (R := 512) _ _ _ _ r l
  · rw [outsAt0_B m c t h0 h0 (by omega)]; dsimp only; unfold out0_B_5 kernelRun0_B; dsimp only; sl_unfold_words
    simp only [View.readAt_eq_ld, (hs0_0 t).read_unread, (hs0_1 t).read_unread, (hs0_2 t).read_unread, (hs0_3 t).read_unread,
      (hs0_4 t).read_unread, View.ld_unit_zero (S := S512x1024) hz2, View.ld_unit_zero (S := S1x1024) hz2]
    exact read_all (R := 512) _ _ _ _ r l

theorem out6_at (r : Fin 512) (l : Fin 1024) :
    (outsAt0 m c t.val t.isLt).2.1 (ix2 r l)
      = gradDown (R := 512) (iblk m c 0 t) (iblk m c 1 t) (iblk m c 2 t) (iblk m c 3 t) (iblk m c 4 t) r l := by
  have ht := lt8 t
  refine Eq.trans ?_ (gradDown_at (iblk m c 0 t) (iblk m c 1 t) (iblk m c 2 t) (iblk m c 3 t) (iblk m c 4 t) r l)
  by_cases h0 : t.val % 8 = 0
  · rw [outsAt0_A m c t h0 h0 (by omega)]; dsimp only; unfold out0_A_6 kernelRun0_A; dsimp only; sl_unfold_words
    simp only [View.readAt_eq_ld, (hs0_0 t).read_unread, (hs0_1 t).read_unread, (hs0_2 t).read_unread, (hs0_3 t).read_unread,
      (hs0_4 t).read_unread, View.ld_unit_zero (S := S512x1024) hz2, View.ld_unit_zero (S := S1x1024) hz2]
    exact read_all (R := 512) _ _ _ _ r l
  · rw [outsAt0_B m c t h0 h0 (by omega)]; dsimp only; unfold out0_B_6 kernelRun0_B; dsimp only; sl_unfold_words
    simp only [View.readAt_eq_ld, (hs0_0 t).read_unread, (hs0_1 t).read_unread, (hs0_2 t).read_unread, (hs0_3 t).read_unread,
      (hs0_4 t).read_unread, View.ld_unit_zero (S := S512x1024) hz2, View.ld_unit_zero (S := S1x1024) hz2]
    exact read_all (R := 512) _ _ _ _ r l

/-- The gains' window after the first point, and after a later one. -/
theorem out7_A (j : Fin 8) (l : Fin 1024) (h0 : t.val % 8 = 0) :
    (outsAt0 m c t.val t.isLt).2.2.1 (ix2 j l)
      = if j.val = 0 then ∑ r : Fin 512, gainTerm (R := 512) (iblk m c 0 t) (iblk m c 1 t) (iblk m c 2 t) (iblk m c 3 t) (iblk m c 4 t) r l
        else 0 := by
  have ht := lt8 t
  rw [outsAt0_A m c t h0 h0 (by omega)]; dsimp only; unfold out0_A_7 kernelRun0_A; dsimp only; sl_unfold_words
  simp only [View.readAt_eq_ld, (hs0_0 t).read_unread, (hs0_1 t).read_unread, (hs0_2 t).read_unread, (hs0_3 t).read_unread,
    (hs0_4 t).read_unread, View.ld_unit_zero (S := S512x1024) hz2, View.ld_unit_zero (S := S1x1024) hz2]
  by_cases e0 : j.val = 0
  · rw [read_row_eq _ _ _ _ _ j l e0, if_pos e0]
    refine (gain_at (iblk m c 0 t) (iblk m c 1 t) (iblk m c 2 t) (iblk m c 3 t) (iblk m c 4 t) _ l).trans ?_
    rw [load_row, read_zeros, zero_add]
  · rw [read_row_ne _ _ _ _ _ j l e0, if_neg e0, read_zeros]

theorem out7_B (j : Fin 8) (l : Fin 1024) (h0 : ¬t.val % 8 = 0) :
    (outsAt0 m c t.val t.isLt).2.2.1 (ix2 j l)
      = (outsAt0 m c (t.val - 1) (Nat.lt_of_le_of_lt (Nat.sub_le _ _) t.isLt)).2.2.1 (ix2 j l)
        + if j.val = 0 then ∑ r : Fin 512, gainTerm (R := 512) (iblk m c 0 t) (iblk m c 1 t) (iblk m c 2 t) (iblk m c 3 t) (iblk m c 4 t) r l
          else 0 := by
  have ht := lt8 t
  rw [outsAt0_B m c t h0 h0 (by omega)]; dsimp only; unfold out0_B_7 kernelRun0_B; dsimp only; sl_unfold_words
  simp only [View.readAt_eq_ld, (hs0_0 t).read_unread, (hs0_1 t).read_unread, (hs0_2 t).read_unread, (hs0_3 t).read_unread,
    (hs0_4 t).read_unread, (hs0_7 t).read_unread, View.ld_unit_zero (S := S512x1024) hz2, View.ld_unit_zero (S := S1x1024) hz2]
  by_cases e0 : j.val = 0
  · rw [read_row_eq _ _ _ _ _ j l e0, if_pos e0]
    refine (gain_at (iblk m c 0 t) (iblk m c 1 t) (iblk m c 2 t) (iblk m c 3 t) (iblk m c 4 t) _ l).trans ?_
    rw [row_at, show j = 0 from Fin.ext e0]
  · rw [read_row_ne _ _ _ _ _ j l e0, if_neg e0, add_zero]
    show View.read _ _ (Memref.IsWhole.unread _ _) _ = _
    rw [(hs0_7 t).read_unread]

/-- The squares' window after the first point, and after a later one. -/
theorem out8_A (l : Fin 1024) (h0 : t.val % 8 = 0) :
    (outsAt0 m c t.val t.isLt).2.2.2 (ix2 0 l)
      = ∑ r : Fin 512, sqTerm (R := 512) (iblk m c 0 t) (iblk m c 1 t) (iblk m c 2 t) (iblk m c 3 t) (iblk m c 4 t) r l := by
  have ht := lt8 t
  refine Eq.trans ?_ (sq_first_at (iblk m c 0 t) (iblk m c 1 t) (iblk m c 2 t) (iblk m c 3 t) (iblk m c 4 t) l)
  rw [outsAt0_A m c t h0 h0 (by omega)]; dsimp only; unfold out0_A_8 kernelRun0_A; dsimp only; sl_unfold_words
  simp only [View.readAt_eq_ld, (hs0_0 t).read_unread, (hs0_1 t).read_unread, (hs0_2 t).read_unread, (hs0_3 t).read_unread,
    (hs0_4 t).read_unread, View.ld_unit_zero (S := S512x1024) hz2, View.ld_unit_zero (S := S1x1024) hz2]
  exact read_all (R := 1) _ _ _ _ 0 l

theorem out8_B (l : Fin 1024) (h0 : ¬t.val % 8 = 0) :
    (outsAt0 m c t.val t.isLt).2.2.2 (ix2 0 l)
      = (outsAt0 m c (t.val - 1) (Nat.lt_of_le_of_lt (Nat.sub_le _ _) t.isLt)).2.2.2 (ix2 0 l)
        + ∑ r : Fin 512, sqTerm (R := 512) (iblk m c 0 t) (iblk m c 1 t) (iblk m c 2 t) (iblk m c 3 t) (iblk m c 4 t) r l := by
  have ht := lt8 t
  refine Eq.trans ?_ (sq_next_at (iblk m c 0 t) (iblk m c 1 t) (iblk m c 2 t) (iblk m c 3 t) (iblk m c 4 t) _ l)
  rw [outsAt0_B m c t h0 h0 (by omega)]; dsimp only; unfold out0_B_8 kernelRun0_B; dsimp only; sl_unfold_words
  simp only [View.readAt_eq_ld, (hs0_0 t).read_unread, (hs0_1 t).read_unread, (hs0_2 t).read_unread, (hs0_3 t).read_unread,
    (hs0_4 t).read_unread, (hs0_8 t).read_unread, View.ld_unit_zero (S := S512x1024) hz2, View.ld_unit_zero (S := S1x1024) hz2]
  exact read_all (R := 1) _ _ _ _ 0 l

/-- A block's sum adds the block's rows. -/
theorem add_block (f : Fin 4096 → EReal) (F : Fin 512 → EReal) (n : ℕ) (hn : n < 8)
    (hF : ∀ (r : Fin 512) (k : Fin 4096), k.val = n * 512 + r.val → F r = f k) :
    upTo f (512 * n) + ∑ r : Fin 512, F r = upTo f (512 * (n + 1)) := by
  rw [show 512 * (n + 1) = 512 * n + 512 by omega, upTo_block f _ (by omega)]
  exact congrArg _ (Finset.sum_congr rfl fun r _ => hF r _ (by show 512 * n + r.val = _; omega))

/-- So after each point the two windows hold the sums over every row so far. -/
theorem out7_at : ∀ (n : ℕ) (h : n < cfg0.N) (j : Fin 8) (l : Fin 1024),
    (outsAt0 m c n h).2.2.1 (ix2 j l)
      = if j.val = 0 then upTo (fun k => gainTerm (argA m c) (argW m c) (argH m c) (argG m c) (argY m c) k l) (512 * (n + 1)) else 0
  | 0, h, j, l => by
    rw [out7_A m c ⟨0, h⟩ j l rfl, ← add_block _ _ 0 (by omega) (fun r k hk => gain_block m c ⟨0, h⟩ r l k hk), upTo_zero, zero_add]
  | n + 1, h, j, l => by
    have hN : n + 1 < 8 := lt_of_lt_of_eq h N_0
    rw [out7_B m c ⟨n + 1, h⟩ j l (by dsimp only; omega)]
    show (outsAt0 m c n _).2.2.1 (ix2 j l) + _ = _
    rw [out7_at n _ j l, ← add_block _ _ (n + 1) hN (fun r k hk => gain_block m c ⟨n + 1, h⟩ r l k hk)]
    by_cases e0 : j.val = 0
    · rw [if_pos e0, if_pos e0, if_pos e0]
    · rw [if_neg e0, if_neg e0, if_neg e0, add_zero]

theorem out8_at : ∀ (n : ℕ) (h : n < cfg0.N) (l : Fin 1024),
    (outsAt0 m c n h).2.2.2 (ix2 0 l)
      = upTo (fun k => sqTerm (argA m c) (argW m c) (argH m c) (argG m c) (argY m c) k l) (512 * (n + 1))
  | 0, h, l => by
    rw [out8_A m c ⟨0, h⟩ l rfl, ← add_block _ _ 0 (by omega) (fun r k hk => sq_block m c ⟨0, h⟩ r l k hk), upTo_zero, zero_add]
  | n + 1, h, l => by
    have hN : n + 1 < 8 := lt_of_lt_of_eq h N_0
    rw [out8_B m c ⟨n + 1, h⟩ l (by dsimp only; omega)]
    show (outsAt0 m c n _).2.2.2 (ix2 0 l) + _ = _
    rw [out8_at n _ l, ← add_block _ _ (n + 1) hN (fun r k hk => sq_block m c ⟨n + 1, h⟩ r l k hk)]

/-! ## The result arrays -/

theorem covers (i : S4096x1024.Idx) : ∃ t : Fin cfg0.N, t.val = (i 0 : Nat) / 512
    ∧ ∀ (o : Fin 2 → Nat), o 0 = t.val → o 1 = 0 →
      ∀ a : Fin 2, o a * S512x1024.size a ≤ (i a : Nat) ∧ (i a : Nat) < o a * S512x1024.size a + S512x1024.size a := by
  have h0 : (i 0 : Nat) < 4096 := (i 0).isLt
  have h1 : (i 1 : Nat) < 1024 := (i 1).isLt
  refine ⟨⟨(i 0 : Nat) / 512, by rw [show cfg0.N = 8 from N_0]; omega⟩, rfl, fun o e0 e1 a => ?_⟩
  match a with
  | ⟨0, _⟩ =>
    show o 0 * 512 ≤ (i 0 : Nat) ∧ (i 0 : Nat) < o 0 * 512 + 512
    rw [e0]; dsimp only; omega
  | ⟨1, _⟩ =>
    show o 1 * 1024 ≤ (i 1 : Nat) ∧ (i 1 : Nat) < o 1 * 1024 + 1024
    rw [e1]; omega

theorem final5 : (dats m 0 c).arrAt 5 cfg0.N = grads (argA m c) (argW m c) (argH m c) (argG m c) (argY m c) := by
  refine (dats m 0 c).arrAt_eq_of_cover 5 (grads (argA m c) (argW m c) (argH m c) (argG m c) (argY m c)) (fun t _ => ?_) fun i => ?_
  · obtain ⟨e0, e1⟩ := (index_at t).2.2.2.2.2.1
    have ht := lt8 t
    rw [Value.flushed5]
    funext x
    obtain ⟨r, l, rfl⟩ : ∃ (r : Fin 512) (l : Fin 1024), x = ix2 r l := ⟨x 0, x 1, eq_ix2 x⟩
    have hn : t.val * 512 + r.val < 4096 := by omega
    rw [View.read_apply]
    refine (out5_at m c t r l).trans ((grad_block m c t r l ⟨_, hn⟩ rfl).trans
      (entry2 (grads (argA m c) (argW m c) (argH m c) (argG m c) (argY m c)) (i := ix2 ⟨t.val * 512 + r.val, hn⟩ l) ?_ ?_))
    · show t.val * 512 + r.val = win0_5.index t 0 * 512 + 1 * r.val
      rw [e0]; omega
    · show l.val = win0_5.index t 1 * 1024 + 1 * l.val
      rw [e1]; omega
  · obtain ⟨t, _, hb⟩ := covers i
    obtain ⟨e0, e1⟩ := (index_at t).2.2.2.2.2.1
    refine ⟨t, flush0_5 t, ?_⟩
    show i ∈ ((View.whole main_v0_0).slice (win0_5.rect t)).set
    rw [View.set_slice_whole, Rect.mem_set_unit]
    exact hb (win0_5.index t) e0 e1

theorem final6 : (dats m 0 c).arrAt 6 cfg0.N = gradDowns (argA m c) (argW m c) (argH m c) (argG m c) (argY m c) := by
  refine (dats m 0 c).arrAt_eq_of_cover 6 (gradDowns (argA m c) (argW m c) (argH m c) (argG m c) (argY m c)) (fun t _ => ?_) fun i => ?_
  · obtain ⟨e0, e1⟩ := (index_at t).2.2.2.2.2.2.1
    have ht := lt8 t
    rw [Value.flushed6]
    funext x
    obtain ⟨r, l, rfl⟩ : ∃ (r : Fin 512) (l : Fin 1024), x = ix2 r l := ⟨x 0, x 1, eq_ix2 x⟩
    have hn : t.val * 512 + r.val < 4096 := by omega
    rw [View.read_apply]
    refine (out6_at m c t r l).trans ((gradDown_block m c t r l ⟨_, hn⟩ rfl).trans
      (entry2 (gradDowns (argA m c) (argW m c) (argH m c) (argG m c) (argY m c)) (i := ix2 ⟨t.val * 512 + r.val, hn⟩ l) ?_ ?_))
    · show t.val * 512 + r.val = win0_6.index t 0 * 512 + 1 * r.val
      rw [e0]; omega
    · show l.val = win0_6.index t 1 * 1024 + 1 * l.val
      rw [e1]; omega
  · obtain ⟨t, _, hb⟩ := covers i
    obtain ⟨e0, e1⟩ := (index_at t).2.2.2.2.2.2.1
    refine ⟨t, flush0_6 t, ?_⟩
    show i ∈ ((View.whole main_v0_1).slice (win0_6.rect t)).set
    rw [View.set_slice_whole, Rect.mem_set_unit]
    exact hb (win0_6.index t) e0 e1

/-- The last point writes the two sums back, over every row. -/
theorem final7 : (dats m 0 c).arrAt 7 cfg0.N = gains (argA m c) (argW m c) (argH m c) (argG m c) (argY m c) := by
  refine (dats m 0 c).arrAt_eq_of_cover 7 (gains (argA m c) (argW m c) (argH m c) (argG m c) (argY m c)) (fun t hf => ?_) fun i => ?_
  · obtain ⟨e0, e1⟩ := (index_at t).2.2.2.2.2.2.2.1
    have ht := lt8 t
    have h7 : t.val = 7 := by have := (flush0_7 t).mp hf; omega
    rw [Value.flushed7]
    funext x
    obtain ⟨j, l, rfl⟩ : ∃ (j : Fin 8) (l : Fin 1024), x = ix2 j l := ⟨x 0, x 1, eq_ix2 x⟩
    refine (out7_at m c t.val t.isLt j l).trans ?_
    rw [h7, show 512 * (7 + 1) = 4096 from rfl, upTo_all, View.read_apply]
    refine entry2 (gains (argA m c) (argW m c) (argH m c) (argG m c) (argY m c)) (i := ix2 j l) ?_ ?_
    · show j.val = win0_7.index t 0 * 8 + 1 * j.val
      rw [e0]; omega
    · show l.val = win0_7.index t 1 * 1024 + 1 * l.val
      rw [e1]; omega
  · have h0 : (i 0 : Nat) < 8 := (i 0).isLt
    have h1 : (i 1 : Nat) < 1024 := (i 1).isLt
    obtain ⟨t, ht⟩ : ∃ t : Fin cfg0.N, t.val = 7 := ⟨⟨7, by rw [show cfg0.N = 8 from N_0]; omega⟩, rfl⟩
    obtain ⟨e0, e1⟩ := (index_at t).2.2.2.2.2.2.2.1
    refine ⟨t, (flush0_7 t).mpr (by omega), ?_⟩
    show i ∈ ((View.whole main_v0_2).slice (win0_7.rect t)).set
    rw [View.set_slice_whole, Rect.mem_set_unit]
    intro a
    match a with
    | ⟨0, _⟩ =>
      show win0_7.index t 0 * 8 ≤ (i 0 : Nat) ∧ (i 0 : Nat) < win0_7.index t 0 * 8 + 8
      rw [e0]; omega
    | ⟨1, _⟩ =>
      show win0_7.index t 1 * 1024 ≤ (i 1 : Nat) ∧ (i 1 : Nat) < win0_7.index t 1 * 1024 + 1024
      rw [e1]; omega

theorem final8 : (dats m 0 c).arrAt 8 cfg0.N = squares (argA m c) (argW m c) (argH m c) (argG m c) (argY m c) := by
  refine (dats m 0 c).arrAt_eq_of_cover 8 (squares (argA m c) (argW m c) (argH m c) (argG m c) (argY m c)) (fun t hf => ?_) fun i => ?_
  · obtain ⟨e0, e1⟩ := (index_at t).2.2.2.2.2.2.2.2
    have ht := lt8 t
    have h7 : t.val = 7 := by have := (flush0_8 t).mp hf; omega
    rw [Value.flushed8]
    funext x
    obtain ⟨j, l, rfl⟩ : ∃ (j : Fin 1) (l : Fin 1024), x = ix2 j l := ⟨x 0, x 1, eq_ix2 x⟩
    obtain rfl : j = 0 := Subsingleton.elim _ _
    refine (out8_at m c t.val t.isLt l).trans ?_
    rw [h7, show 512 * (7 + 1) = 4096 from rfl, upTo_all, View.read_apply]
    refine entry2 (squares (argA m c) (argW m c) (argH m c) (argG m c) (argY m c)) (i := ix2 0 l) ?_ ?_
    · show 0 = win0_8.index t 0 * 1 + 1 * 0
      rw [e0]
    · show l.val = win0_8.index t 1 * 1024 + 1 * l.val
      rw [e1]; omega
  · have h0 : (i 0 : Nat) < 1 := (i 0).isLt
    have h1 : (i 1 : Nat) < 1024 := (i 1).isLt
    obtain ⟨t, ht⟩ : ∃ t : Fin cfg0.N, t.val = 7 := ⟨⟨7, by rw [show cfg0.N = 8 from N_0]; omega⟩, rfl⟩
    obtain ⟨e0, e1⟩ := (index_at t).2.2.2.2.2.2.2.2
    refine ⟨t, (flush0_8 t).mpr (by omega), ?_⟩
    show i ∈ ((View.whole main_v0_3).slice (win0_8.rect t)).set
    rw [View.set_slice_whole, Rect.mem_set_unit]
    intro a
    match a with
    | ⟨0, _⟩ =>
      show win0_8.index t 0 * 1 ≤ (i 0 : Nat) ∧ (i 0 : Nat) < win0_8.index t 0 * 1 + 1
      rw [e0]; omega
    | ⟨1, _⟩ =>
      show win0_8.index t 1 * 1024 ≤ (i 1 : Nat) ∧ (i 1 : Nat) < win0_8.index t 1 * 1024 + 1024
      rw [e1]; omega

end Cert.DownLossIdeal.Hand

end
-- ==== Proof.Product.DownLoss.lean ====
/-
  The loss head: the reference's loss and its derivatives over all rows at once are the arrays the kernel leaves.
-/
module

public import proofs.«01_k».proof.Defs
public import proofs.«01_k».proof.Proof.Product.DownLossArray
public import proofs.«01_k».proof.Proof.Gen.DownLoss.Frame
public import proofs.«01_k».proof.Proof.Gen.DownLossIdeal.Frame
public import proofs.«01_k».proof.Proof.Gen.DownLossRefIdeal.Run
public import proofs.«01_k».proof.Proof.Gen.DownLossRefIdeal.Read
public import Idealize.ShloMosaic.Lib.Tactic
public import Idealize.ShloMosaic.Lib.KernelVsHost

@[expose] public section

set_option maxRecDepth 16384

noncomputable section

namespace Cert.DownLossIdeal.Hand

open Idealize.ShloMosaic Idealize.ShloMosaic.TcCoe Idealize.SL.Sem Cert.Product
open Cert.DownIdeal.Hand (Blocks down norm norm_congr)
open Cert.DownLossRefIdeal.Read

variable (a : Blocks 4096 704) (w : Blocks 704 1024) (h : Mat 4096 1024) (g : Mat 1 1024) (y : Mat 4096 1024) (n : Fin 4096)

theorem ref_down (l : Fin 1024) : val_main_v5 (F := Ideal) a w (ix2 n l) = down a w n l := by
  generalize hR : down a w n l = R
  pointwise [val_main_v5, val_main_v4, val_main_v3, val_main_v2, val_main_v1, val_main_v0]
  rw [← hR]
  unfold down
  exact Fin.sum_divmod_fin 704 (fun j k => a (ix3 j n k) * w (ix3 j k l))

theorem ref_row : (fun l => val_main_v5 (F := Ideal) a w (ix2 n l)) = down a w n := funext (ref_down a w n)

theorem ref_err (l : Fin 1024) : val_main_v22 (F := Ideal) a w h g y (ix2 n l) = err a w h g y n l := by
  unfold err
  rw [← ref_row]
  generalize hR : h (ix2 n l) + norm (fun l => val_main_v5 (F := Ideal) a w (ix2 n l)) g l - y (ix2 n l) = R
  pointwise [val_main_v22, val_main_v21, val_main_v20, val_main_v19, val_main_v18, val_main_v17, val_main_v13, val_main_v12, val_main_v11, val_main_v10, val_main_v9, val_main_v8, val_main_v7, val_main_v6, val_main_cst, val_main_cst_0, val_main_cst_1]
  exact hR

theorem ref_err_again (l : Fin 1024) : val_main_v72 (F := Ideal) a w h g y (ix2 n l) = err a w h g y n l := by
  unfold err
  rw [← ref_row]
  generalize hR : h (ix2 n l) + norm (fun l => val_main_v5 (F := Ideal) a w (ix2 n l)) g l - y (ix2 n l) = R
  pointwise [val_main_v72, val_main_v71, val_main_v70, val_main_v69, val_main_v68, val_main_v67, val_main_v66, val_main_v65, val_main_v64, val_main_v63, val_main_v62, val_main_v61, val_main_v60, val_main_v59, val_main_cst_16, val_main_cst_17, val_main_cst_18]
  exact hR

theorem ref_grad (l : Fin 1024) : val_main_v36 (F := Ideal) a w h g y (ix2 n l) = grad a w h g y n l := by
  unfold grad
  rw [← ref_err, ← squareGrad_eq, Ideal.ofBits_one_f32, mul_one]
  generalize hR : Ideal.div (Ideal.ofBits FTy.f32 0x3F000000#32) (Ideal.ofBits FTy.f32 0x44800000#32) * (Ideal.ofBits FTy.f32 0x40000000#32 * val_main_v22 (F := Ideal) a w h g y (ix2 n l)) = R
  pointwise [val_main_v36, val_main_v35, val_main_v34, val_main_v33, val_main_v32, val_main_v31, val_main_v25, val_main_v24, val_main_cst_3, val_main_cst_8, val_main_cst_9, val_main_cst_10]
  exact hR

/-- The mean square under the root, and the factor. -/
theorem ref_meanSq : val_main_v12 (F := Ideal) a w (ix2 n 0) = meanSq (down a w n) := by
  rw [← ref_row]
  generalize hR : meanSq (fun l => val_main_v5 (F := Ideal) a w (ix2 n l)) = R
  pointwise [val_main_v12, val_main_v11, val_main_v10, val_main_v9, val_main_v8, val_main_v7, val_main_v6, val_main_cst, val_main_cst_0, val_main_cst_1]
  exact hR

theorem ref_factor : val_main_v13 (F := Ideal) a w (ix2 n 0) = factor (down a w n) := by
  unfold factor
  rw [← ref_meanSq]
  generalize hR : Ideal.rsqrt (val_main_v12 (F := Ideal) a w (ix2 n 0)) = R
  pointwise [val_main_v13]
  exact hR

/-- The gradient with respect to the scaled row. -/
theorem ref_scaled (l : Fin 1024) : val_main_v41 (F := Ideal) a w h g y (ix2 n l) = grad a w h g y n l * g (ix2 0 l) := by
  rw [← ref_grad]
  generalize hR : val_main_v36 (F := Ideal) a w h g y (ix2 n l) * g (ix2 0 l) = R
  pointwise [val_main_v41, val_main_v40]
  exact hR

/-- What the factor's derivative contributes to each entry of the row, before its product with that entry. -/
theorem ref_shared : val_main_v50 (F := Ideal) a w h g y (ix1 n)
    = Ideal.div ((∑ k : Fin 1024, down a w n k * (grad a w h g y n k * g (ix2 0 k)))
        * (Ideal.ofBits FTy.f32 0xBF000000#32 * Ideal.div (factor (down a w n)) (meanSq (down a w n)))) (Ideal.ofBits FTy.f32 0x44800000#32) := by
  simp only [← ref_scaled, ← ref_factor, ← ref_meanSq, ← ref_down]
  generalize hR : Ideal.div ((∑ k : Fin 1024, val_main_v5 (F := Ideal) a w (ix2 n k) * val_main_v41 (F := Ideal) a w h g y (ix2 n k))
        * (Ideal.ofBits FTy.f32 0xBF000000#32 * Ideal.div (val_main_v13 (F := Ideal) a w (ix2 n 0)) (val_main_v12 (F := Ideal) a w (ix2 n 0)))) (Ideal.ofBits FTy.f32 0x44800000#32) = R
  pointwise [val_main_v50, val_main_v49, val_main_v48, val_main_v47, val_main_v44, val_main_v43, val_main_v42, val_main_v16, val_main_v15, val_main_v14, val_main_cst_2, val_main_cst_12, val_main_cst_13, val_main_cst_14]
  exact (Fin.sum_univ_one _).trans hR

theorem ref_gradDown (l : Fin 1024) : val_main_v58 (F := Ideal) a w h g y (ix2 n l) = gradDown a w h g y n l := by
  refine Eq.trans ?_ (normGrad_eq (down a w n) (fun l => grad a w h g y n l * g (ix2 0 l)) l _ (ref_shared a w h g y n))
  dsimp only
  rw [← ref_scaled, ← ref_factor, ← ref_down]
  generalize hR : val_main_v41 (F := Ideal) a w h g y (ix2 n l) * val_main_v13 (F := Ideal) a w (ix2 n 0)
    + val_main_v5 (F := Ideal) a w (ix2 n l) * val_main_v50 (F := Ideal) a w h g y (ix1 n)
    + val_main_v50 (F := Ideal) a w h g y (ix1 n) * val_main_v5 (F := Ideal) a w (ix2 n l) = R
  pointwise [val_main_v58, val_main_v55, val_main_v54, val_main_v53, val_main_v52, val_main_v51, val_main_v46, val_main_v45]
  exact hR

theorem ref_gain (l : Fin 1024) : val_main_v39 (F := Ideal) a w h g y (ix2 0 l) = ∑ n : Fin 4096, gainTerm a w h g y n l := by
  unfold gainTerm
  simp only [← ref_grad, ← ref_factor]
  simp only [← ref_down]
  simp only [mul_comm (val_main_v36 (F := Ideal) a w h g y _)]
  generalize hR : ∑ n : Fin 4096, val_main_v5 (F := Ideal) a w (ix2 n l) * val_main_v13 (F := Ideal) a w (ix2 n 0) * val_main_v36 (F := Ideal) a w h g y (ix2 n l) = R
  pointwise [val_main_v39, val_main_v38, val_main_v37, val_main_v18, val_main_v17, val_main_cst_11]
  exact hR

theorem ref_square (l : Fin 1024) : val_main_v75 (F := Ideal) a w h g y (ix2 0 l) = ∑ n : Fin 4096, sqTerm a w h g y n l := by
  unfold sqTerm
  simp only [← ref_err_again]
  generalize hR : ∑ n : Fin 4096, val_main_v72 (F := Ideal) a w h g y (ix2 n l) * val_main_v72 (F := Ideal) a w h g y (ix2 n l) = R
  pointwise [val_main_v75, val_main_v74, val_main_v73, val_main_cst_19]
  exact hR

theorem reference36 : val_main_v36 (F := Ideal) a w h g y = grads a w h g y := by
  funext i
  obtain ⟨r, l, rfl⟩ : ∃ (r : Fin 4096) (l : Fin 1024), i = ix2 r l := ⟨i 0, i 1, eq_ix2 i⟩
  exact ref_grad a w h g y r l

theorem reference58 : val_main_v58 (F := Ideal) a w h g y = gradDowns a w h g y := by
  funext i
  obtain ⟨r, l, rfl⟩ : ∃ (r : Fin 4096) (l : Fin 1024), i = ix2 r l := ⟨i 0, i 1, eq_ix2 i⟩
  exact ref_gradDown a w h g y r l

theorem reference75 : val_main_v75 (F := Ideal) a w h g y = squares a w h g y := by
  funext i
  obtain ⟨r, l, rfl⟩ : ∃ (r : Fin 1) (l : Fin 1024), i = ix2 r l := ⟨i 0, i 1, eq_ix2 i⟩
  obtain rfl : r = 0 := Subsingleton.elim _ _
  exact ref_square a w h g y l

theorem ref_zero (r : Fin 7) (l : Fin 1024) : val_main_v56 (F := Ideal) (ix2 r l) = (0 : EReal) := by
  pointwise [val_main_v56, val_main_cst_15]

/-- The gains' gradient: the sums in the first row, seven rows of zeros below. -/
theorem reference57 : val_main_v57 (F := Ideal) a w h g y = gains a w h g y := by
  funext i
  obtain ⟨r, l, rfl⟩ : ∃ (r : Fin 8) (l : Fin 1024), i = ix2 r l := ⟨i 0, i 1, eq_ix2 i⟩
  unfold val_main_v57
  show _ = if r.val = 0 then ∑ n : Fin 4096, gainTerm a w h g y n l else 0
  by_cases e0 : r.val = 0
  · rw [if_pos e0]
    exact (concatenate_pair_apply_left (s₁ := ⟨2, ![1, 1024]⟩) (s₂ := ⟨2, ![7, 1024]⟩) 0 (val_main_v39 (F := Ideal) a w h g y)
      (val_main_v56 (F := Ideal)) _ (ix2 r l) rfl (ix2 0 l) (Fin.forall_fin_two.mpr ⟨e0.symm, rfl⟩)).trans (ref_gain a w h g y l)
  · rw [if_neg e0]
    have hr : r.val - 1 < 7 := by omega
    exact (concatenate_pair_apply_right (s₁ := ⟨2, ![1, 1024]⟩) (s₂ := ⟨2, ![7, 1024]⟩) 0 (val_main_v39 (F := Ideal) a w h g y)
      (val_main_v56 (F := Ideal)) _ (ix2 r l) rfl rfl (ix2 ⟨r.val - 1, hr⟩ l)
      (Fin.forall_fin_two.mpr ⟨fun hd => absurd rfl hd, fun _ => rfl⟩) (by show r.val - 1 + 1 = r.val; omega)).trans (ref_zero _ l)

end Cert.DownLossIdeal.Hand

namespace Cert.DownLossClaims

open Idealize.ShloMosaic Idealize.ShloMosaic.TcCoe Idealize.SL.Sem DownLossIdeal.Hand

instance : Cert.DownLoss.Facts := Cert.DownLoss.Gen.facts
instance : Cert.DownLossIdeal.Facts := Cert.DownLossIdeal.Gen.facts
instance : Cert.DownLossRefIdeal.Facts := Cert.DownLossRefIdeal.Gen.facts

theorem frame : Cert.quiescent_DownLoss := fun m g _ => Cert.DownLoss.Gen.frame m g

theorem frame_ideal : Cert.quiescent_DownLossIdeal := fun m g _ => Cert.DownLossIdeal.Gen.frame m g

/-- The host program has no semaphore, so its counters cannot be anything but zero. -/
theorem frame_reference : Cert.quiescent_DownLossRefIdeal := fun m g _ =>
  (θ_run Cert.DownLossRefIdeal.defs _ _).mono
    (fun r h => ⟨fun c => (h c).2.2.2.2, sem_eq_zero_of_no_sems (by decide) r.2⟩)
    (Cert.DownLossRefIdeal.Value.run (F := Ideal) m g)

theorem value : Cert.algebraic_DownLossIdeal_DownLossRefIdeal := fun m g m' g' _ hargs =>
  ⟨fun c => grads (argA m c) (argW m c) (argH m c) (argG m c) (argY m c),
   fun c => gradDowns (argA m c) (argW m c) (argH m c) (argG m c) (argY m c),
   fun c => gains (argA m c) (argW m c) (argH m c) (argG m c) (argY m c),
   fun c => squares (argA m c) (argW m c) (argH m c) (argG m c) (argY m c),
   (θ_run Cert.DownLossIdeal.defs _ _).mono
    (fun _ h c => ⟨(h c).1.trans (final5 m c), (h c).2.1.trans (final6 m c), (h c).2.2.1.trans (final7 m c),
      (h c).2.2.2.1.trans (final8 m c), (h c).2.2.2.2⟩)
    (Cert.DownLossIdeal.Value.run_blocks (F := Ideal) m g),
   (θ_run Cert.DownLossRefIdeal.defs _ _).mono
    (fun _ h c => by
      obtain ⟨h0, h1, h2, h3, h4⟩ := hargs c
      refine ⟨(h c).1.trans ?_, (h c).2.1.trans ?_, (h c).2.2.1.trans ?_, (h c).2.2.2.1.trans ?_, (h c).2.2.2.2⟩
      · refine (DownLossRefIdeal.Read.val_main_v36_eq _ _ _ _ _).trans ((reference36 _ _ _ _ _).trans ?_)
        rw [h0, h1, h2, h3, h4]
      · refine (DownLossRefIdeal.Read.val_main_v58_eq m' c).trans ((reference58 _ _ _ _ _).trans ?_)
        rw [h0, h1, h2, h3, h4]
      · refine (DownLossRefIdeal.Read.val_main_v57_eq _ _ _ _ _).trans ((reference57 _ _ _ _ _).trans ?_)
        rw [h0, h1, h2, h3, h4]
      · refine (DownLossRefIdeal.Read.val_main_v75_eq _ _ _ _ _).trans ((reference75 _ _ _ _ _).trans ?_)
        rw [h0, h1, h2, h3, h4])
    (Cert.DownLossRefIdeal.Value.run (F := Ideal) m' g')⟩

end Cert.DownLossClaims

end
-- ==== Proof.Attention.Spec.lean ====
/-
  The gradient of the attention within a window, entry by entry: of every head, the weights from the saved logarithms
  of their sums, and the gradients of the queries, the keys and the values.
-/
module

public import proofs.«01_k».proof.Proof.Product.Spec
public import Idealize.ShloMosaic.Lib.WordCmp
public import Idealize.ShloMosaic.Lib.WordArith

@[expose] public section

noncomputable section

namespace Cert.Attention

open Idealize.ShloMosaic Idealize.ShloMosaic.WordArith Idealize.ShloMosaic.WordCmp Cert.Product

/-- The head a column belongs to, when every head has 64 columns. -/
def head {H C : ℕ} (h : H * 64 = C) (c : Fin C) : Fin H := ⟨c.val / 64, by have := c.isLt; omega⟩

theorem head_lane {H C : ℕ} (h : H * 64 = C) (a : Fin H) (e : Fin 64) : head h (lane h a e) = a := by
  refine Fin.ext ?_
  show (a.val * 64 + e.val) / 64 = a.val
  omega

/-- Row `n` attends to row `j`: itself and the 128 rows before it. -/
def near (n j : ℕ) : Prop := j ≤ n ∧ n ≤ j + 128

instance (n j : ℕ) : Decidable (near n j) := inferInstanceAs (Decidable (_ ∧ _))

variable {R H C : ℕ} (h : H * 64 = C)

/-- The product of row `n` of `x` with row `j` of `y` over the columns of head `a`. -/
def dot (x y : Mat R C) (n j : Fin R) (a : Fin H) : EReal :=
  ∑ e : Fin 64, x (ix2 n (lane h a e)) * y (ix2 j (lane h a e))

/-- The weight of row `j` for row `n`, from the saved logarithm of the weights' sum. -/
def weight (q k : Mat R C) (lse : Mat R H) (n j : Fin R) (a : Fin H) : EReal :=
  if near n.val j.val then Ideal.exp (dot h q k n j a - lse (ix2 n a)) else 0

/-- The gradient with respect to a score. -/
def pull (q k v dy : Mat R C) (lse dd : Mat R H) (n j : Fin R) (a : Fin H) : EReal :=
  weight h q k lse n j a * (dot h dy v n j a - dd (ix2 n a))

/-- The gradients of the queries, the keys and the values. -/
def dq (q k v dy : Mat R C) (lse dd : Mat R H) : Mat R C :=
  fun i => ∑ j : Fin R, pull h q k v dy lse dd (i 0) j (head h (i 1)) * k (ix2 j (i 1))

def dk (q k v dy : Mat R C) (lse dd : Mat R H) : Mat R C :=
  fun i => ∑ n : Fin R, pull h q k v dy lse dd n (i 0) (head h (i 1)) * q (ix2 n (i 1))

def dv (q k dy : Mat R C) (lse : Mat R H) : Mat R C :=
  fun i => ∑ n : Fin R, weight h q k lse n (i 0) (head h (i 1)) * dy (ix2 n (i 1))

/-- A masked score weighs nothing. -/
theorem exp_mask (x : EReal) : Ideal.exp ((⊥ : EReal) - x) = 0 := by
  rw [sub_eq_add_neg, EReal.bot_add]
  rfl

/-- Off the window the weight is nothing, and with it the gradient of the score. -/
theorem pull_far (q k v dy : Mat R C) (lse dd : Mat R H) (n j : Fin R) (a : Fin H) (hf : ¬ near n.val j.val) : pull h q k v dy lse dd n j a = 0 := by
  unfold pull weight
  rw [if_neg hf, zero_mul]

/-- Two comparisons of a row with a column say that the row attends to it. -/
theorem near_bit {R : ℕ} (hR : R ≤ 65536) (n j : Fin R) :
    IntOp.andi (IntOp.cmpi .sge (IntOp.subi (BitVec.ofNat 32 n.val) (BitVec.ofNat 32 j.val)) 0#32)
      (IntOp.cmpi .sle (IntOp.subi (BitVec.ofNat 32 n.val) (BitVec.ofNat 32 j.val)) 128#32)
      = BitVec.ofBool (decide (near n.val j.val)) := by
  have hn := n.isLt
  have hj := j.isLt
  have h : (IntOp.subi (BitVec.ofNat 32 n.val) (BitVec.ofNat 32 j.val)).toInt = (n.val : ℤ) - j.val := by
    show (BitVec.ofNat 32 n.val - BitVec.ofNat 32 j.val).toInt = _
    rw [BitVec.toInt_sub, toInt_ofNat_small _ (by omega), toInt_ofNat_small _ (by omega), Int.bmod_eq_of_le (by omega) (by omega)]
  rw [cmpi_sge_eq, cmpi_sle_eq, h, show (0#32 : BitVec 32).toInt = 0 from rfl, show (128#32 : BitVec 32).toInt = 128 from rfl]
  show BitVec.ofBool _ &&& BitVec.ofBool _ = _
  rw [BitVec.ofBool_and_ofBool]
  refine congrArg BitVec.ofBool ?_
  rw [← Bool.decide_and]
  exact decide_eq_decide.mpr (by unfold near; omega)

theorem select_bit {α : Type} (p : Prop) [Decidable p] (x y : α) :
    Scalar.select (BitVec.ofBool (decide p)) x y = if p then x else y := by
  by_cases hp : p <;> simp [Scalar.select, hp]

end Cert.Attention

end
-- ==== Proof.Attention.Unit.lean ====
/-
  One pair of heads over one block of rows: what the call computes of the pair's slices, entry by entry.
-/
module

public import proofs.«01_k».proof.Defs
public import proofs.«01_k».proof.Proof.Attention.Spec
public import proofs.«01_k».proof.Proof.Gen.Attn16Ideal.Frame
public import proofs.«01_k».proof.Proof.Gen.Attn16Ideal.Value
public import Idealize.ShloMosaic.Lib.Tactic
public import Idealize.ShloMosaic.Lib.KernelVsHost
public import Idealize.ShloMosaic.Lib.VecWindow
public import Idealize.ShloMosaic.Lib.Pipeline.ValueKit.Acc

@[expose] public section

set_option maxRecDepth 16384

noncomputable section

namespace Cert.Attn16Ideal.Hand

open Cert.Attn16Ideal Cert.Attn16Ideal.Gen Idealize.ShloMosaic Idealize.ShloMosaic.TcCoe Cert.Product Cert.Attention
open Idealize.ShloMosaic.WordArith Idealize.ShloMosaic.WordCmp

/-- The two heads of a pair lie in 128 columns, and their rows are stacked into 256. -/
theorem pair : 2 * 64 = 128 := rfl
theorem stacked : 2 * 128 = 256 := rfl

/-- A sum over an axis of blocks, block by block. -/
theorem sum_lanes {G n C : ℕ} (h : G * n = C) (f : Fin C → EReal) : ∑ c, f c = ∑ g : Fin G, ∑ l : Fin n, f (lane h g l) := by
  rw [← Fin.sum_divmod_fin n (fun g l => f (lane h g l)) h.symm]
  refine Finset.sum_congr rfl fun c _ => congrArg f (Fin.ext ?_)
  show c.val = c.val / n * n + c.val % n
  exact (Nat.div_add_mod' _ _).symm

/-- The kernel's name of the mask is minus infinity. -/
theorem mask_eq : Named.named (F := Ideal) κ "mask" (φ := .f32) 0xF149F2CA#32 = (⊥ : EReal) :=
  IdealRules.named_const.ideal_named_scalar _ _ _ _ rfl

/-- The row a stacked row stands for, as the kernel computes it. -/
theorem row_word : ∀ r : Fin 256,
    Scalar.select
      (IntOp.andi
        (IntOp.xori (IntOp.cmpi CmpIPredicate.slt (IntOp.remsi ArithUnit.vector (BitVec.ofNat 32 r.val)
              (Scalar.select (Scalar.cmpi CmpIPredicate.eq 128#32 0#32) 1#32 128#32)) 0#32)
          (Scalar.cmpi CmpIPredicate.slt (Scalar.select (Scalar.cmpi CmpIPredicate.eq 128#32 0#32) 1#32 128#32) 0#32))
        (IntOp.cmpi CmpIPredicate.ne (IntOp.remsi ArithUnit.vector (BitVec.ofNat 32 r.val)
            (Scalar.select (Scalar.cmpi CmpIPredicate.eq 128#32 0#32) 1#32 128#32)) 0#32))
      (IntOp.addi (IntOp.remsi ArithUnit.vector (BitVec.ofNat 32 r.val)
          (Scalar.select (Scalar.cmpi CmpIPredicate.eq 128#32 0#32) 1#32 128#32))
        (Scalar.select (Scalar.cmpi CmpIPredicate.eq 128#32 0#32) 1#32 128#32))
      (IntOp.remsi ArithUnit.vector (BitVec.ofNat 32 r.val)
        (Scalar.select (Scalar.cmpi CmpIPredicate.eq 128#32 0#32) 1#32 128#32))
    = BitVec.ofNat 32 (r.val % 128) := by
  decide

theorem row_mod (a : Fin 2) (n : Fin 128) : (lane stacked a n).val % 128 = n.val := by
  show (a.val * 128 + n.val) % 128 = _
  omega

/-- The masks: a row of the first block, and a row of a later one, attend to the rows near them. -/
theorem first_mask (a : Fin 2) (n j : Fin 128) :
    k0_pay5 (F := Ideal) (ix2 (lane stacked a n) j) = if near (0 + n.val) j.val then 0 else ⊥ := by
  pointwise [k0_pay5]
  rw [row_word, row_mod, mask_eq, cmpi_sle_ofNat (by have := j.isLt; omega) (by have := n.isLt; omega), select_bit]
  refine if_congr ?_ rfl rfl
  have := n.isLt
  unfold near
  omega

theorem later_mask (a : Fin 2) (n : Fin 128) (j : Fin 256) :
    k0_pay7 (F := Ideal) k0_pay6 0#32 (ix2 (lane stacked a n) j) = if near (128 + n.val) j.val then 0 else ⊥ := by
  pointwise [k0_pay7, k0_pay6]
  rw [row_word, row_mod, mask_eq, show IntOp.addi (BitVec.ofNat 32 n.val) 128#32 = BitVec.ofNat 32 (128 + n.val) by
    rw [Nat.add_comm]; exact (BitVec.ofNat_add n.val 128).symm]
  have hn := n.isLt
  rw [near_bit (by decide) ⟨128 + n.val, by omega⟩ j, select_bit]

/-- A stack holds each head's own columns, and nothing in the other's. -/
theorem stack_at (Q : Mat 128 128) (a b : Fin 2) (n : Fin 128) (e : Fin 64) :
    k0_pay8 (F := Ideal) Q (ix2 (lane stacked a n) (lane pair b e)) = if b = a then Q (ix2 n (lane pair b e)) else 0 := by
  have hn := n.isLt
  have he := e.isLt
  pointwise [k0_pay8]
  rw [cmpi_slt_ofNat (by omega) (by omega), cmpi_slt_ofNat (by omega) (by omega)]
  fin_cases a <;> fin_cases b <;> simp [lane, Scalar.select, IntOp.xori]

/-- A product with a stack runs over the head's own columns; -/
theorem stack_dot (Q : Mat 128 128) (a : Fin 2) (n : Fin 128) (w : Fin 128 → EReal) :
    ∑ l, k0_pay8 (F := Ideal) Q (ix2 (lane stacked a n) l) * w l
      = ∑ e : Fin 64, Q (ix2 n (lane pair a e)) * w (lane pair a e) := by
  rw [sum_lanes pair, Finset.sum_eq_single a]
  · exact Finset.sum_congr rfl fun e _ => by rw [stack_at, if_pos rfl]
  · exact fun b _ hb => Finset.sum_eq_zero fun e _ => by rw [stack_at, if_neg hb, zero_mul]
  · exact fun h => absurd (Finset.mem_univ _) h

/-- and a sum over the stacked rows takes the rows of one column's own head. -/
theorem stack_sum (Q : Mat 128 128) (f : Fin 256 → EReal) (a : Fin 2) (e : Fin 64) :
    ∑ r, f r * k0_pay8 (F := Ideal) Q (ix2 r (lane pair a e))
      = ∑ n : Fin 128, f (lane stacked a n) * Q (ix2 n (lane pair a e)) := by
  rw [sum_lanes stacked, Finset.sum_eq_single a]
  · exact Finset.sum_congr rfl fun n _ => by rw [stack_at, if_pos rfl]
  · exact fun b _ hb => Finset.sum_eq_zero fun n _ => by rw [stack_at, if_neg (Ne.symm hb), mul_zero]
  · exact fun h => absurd (Finset.mem_univ _) h

/-- A score of one pair of heads, and what the rows of a block that begins at row `o` make of it. -/
def score {M : ℕ} (Q : Mat 128 128) (K : Mat M 128) (n : Fin 128) (j : Fin M) (a : Fin 2) : EReal :=
  ∑ e : Fin 64, Q (ix2 n (lane pair a e)) * K (ix2 j (lane pair a e))

theorem stack_score {M : ℕ} (Q : Mat 128 128) (K : Mat M 128) (n : Fin 128) (j : Fin M) (a : Fin 2) :
    score Q K n j a = ∑ l, k0_pay8 (F := Ideal) Q (ix2 (lane stacked a n) l) * K (ix2 j l) :=
  (stack_dot Q a n fun l => K (ix2 j l)).symm

def share {M : ℕ} (o : ℕ) (Q : Mat 128 128) (K : Mat M 128) (L : Mat 128 2) (n : Fin 128) (j : Fin M) (a : Fin 2) : EReal :=
  if near (o + n.val) j.val then Ideal.exp (score Q K n j a - L (ix2 n a)) else 0

def slant {M : ℕ} (o : ℕ) (Q : Mat 128 128) (K V : Mat M 128) (Y : Mat 128 128) (L D : Mat 128 2) (n : Fin 128) (j : Fin M)
    (a : Fin 2) : EReal :=
  share o Q K L n j a * (score Y V n j a - D (ix2 n a))

/-- A value of every head, repeated over the head's columns. -/
def Spread (x : Mat 128 128) (y : Mat 128 2) : Prop := ∀ n a e, x (ix2 n (lane pair a e)) = y (ix2 n a)

/-- A tile that is spread, its halves swapped: the value of the stacked row's own head in every column. -/
theorem spread_low {x : Mat 128 128} {y : Mat 128 2} (h : Spread x y) (n l : Fin 128) (z) :
    Scalar.select (IntOp.cmpi CmpIPredicate.slt (BitVec.ofNat 32 l.val) 64#32) (x (ix2 n l)) (x (ix2 n ⟨(l.val + 128 - 64) % 128, z⟩))
      = y (ix2 n 0) := by
  have hl := l.isLt
  rw [cmpi_slt_ofNat (by omega) (by omega), select_bit]
  split
  · rw [← h n 0 ⟨l.val, by omega⟩]
    exact entry2 x rfl (by show l.val = 0 * 64 + l.val; omega)
  · rw [← h n 0 ⟨l.val - 64, by omega⟩]
    exact entry2 x rfl (by show (l.val + 128 - 64) % 128 = 0 * 64 + (l.val - 64); omega)

theorem spread_high {x : Mat 128 128} {y : Mat 128 2} (h : Spread x y) (n l : Fin 128) (z) :
    Scalar.select (IntOp.cmpi CmpIPredicate.slt (BitVec.ofNat 32 l.val) 64#32) (x (ix2 n ⟨(l.val + 128 - 64) % 128, z⟩)) (x (ix2 n l))
      = y (ix2 n 1) := by
  have hl := l.isLt
  rw [cmpi_slt_ofNat (by omega) (by omega), select_bit]
  split
  · rw [← h n 1 ⟨l.val, by omega⟩]
    exact entry2 x rfl (by show (l.val + 128 - 64) % 128 = 1 * 64 + l.val; omega)
  · rw [← h n 1 ⟨l.val - 64, by omega⟩]
    exact entry2 x rfl (by show l.val = 1 * 64 + (l.val - 64); omega)

theorem column_low {x : Mat 128 128} {y : Mat 128 2} (h : Spread x y) (a : Fin 2) (n l : Fin 128)
    (p : (lane stacked a n).val < 128) (z : (l.val + 128 - 64) % 128 < 128) :
    Scalar.select (IntOp.cmpi CmpIPredicate.slt (BitVec.ofNat 32 l.val) 64#32) (x (ix2 ⟨(lane stacked a n).val, p⟩ l))
        (x (ix2 ⟨(lane stacked a n).val, p⟩ ⟨(l.val + 128 - 64) % 128, z⟩)) = y (ix2 n a) := by
  have hv : (lane stacked a n).val = a.val * 128 + n.val := rfl
  have h0 : a = 0 := by omega
  subst h0
  rw [← spread_low h n l z]
  have e0 : (lane stacked 0 n).val = n.val := by show 0 * 128 + n.val = _; omega
  simp only [e0]

theorem column_high {x : Mat 128 128} {y : Mat 128 2} (h : Spread x y) (a : Fin 2) (n l : Fin 128)
    (p' : ¬ (lane stacked a n).val < 128) (p : (lane stacked a n).val - 128 < 128) (z : (l.val + 128 - 64) % 128 < 128) :
    Scalar.select (IntOp.cmpi CmpIPredicate.slt (BitVec.ofNat 32 l.val) 64#32)
        (x (ix2 ⟨(lane stacked a n).val - 128, p⟩ ⟨(l.val + 128 - 64) % 128, z⟩)) (x (ix2 ⟨(lane stacked a n).val - 128, p⟩ l))
      = y (ix2 n a) := by
  have hv : (lane stacked a n).val = a.val * 128 + n.val := rfl
  have h1 : a = 1 := by omega
  subst h1
  rw [← spread_high h n l z]
  have e1 : (lane stacked 1 n).val - 128 = n.val := by show 1 * 128 + n.val - 128 = _; omega
  simp only [e1]

/-- Of two stacked rows, the one whose head the column belongs to. -/
theorem unstack (f : Fin 256 → EReal) (a : Fin 2) (e : Fin 64) (n : Fin 128) (p : n.val < 256) (p' : 128 + n.val < 256) :
    Scalar.select (IntOp.cmpi CmpIPredicate.slt (BitVec.ofNat 32 (lane pair a e).val) 64#32) (f ⟨n.val, p⟩) (f ⟨128 + n.val, p'⟩)
      = f (lane stacked a n) := by
  have he := (lane pair a e).isLt
  have hv : (lane pair a e).val = a.val * 64 + e.val := rfl
  rw [cmpi_slt_ofNat (by omega) (by omega), select_bit]
  obtain rfl | rfl : a = 0 ∨ a = 1 := by omega
  · rw [if_pos (by rw [hv]; exact (by omega : 0 * 64 + e.val < 64))]
    exact congrArg f (Fin.ext (by show n.val = 0 * 128 + n.val; omega))
  · rw [if_neg (by rw [hv]; exact (by omega : ¬ 1 * 64 + e.val < 64))]
    exact congrArg f (Fin.ext (by show 128 + n.val = 1 * 128 + n.val; omega))

theorem exp_sub_congr (s : EReal) {x y : EReal} (h : x = y) : Ideal.exp (s - x) = Ideal.exp (s - y) := congrArg _ (congrArg _ h)
theorem mul_sub_congr (t s : EReal) {x y : EReal} (h : x = y) : t * (s - x) = t * (s - y) := congrArg _ (congrArg _ h)

/-- A masked score's weight. -/
theorem exp_masked (p : Prop) [Decidable p] (s l : EReal) :
    Ideal.exp ((s + if p then 0 else ⊥) - l) = if p then Ideal.exp (s - l) else 0 := by
  split
  · rw [add_zero]
  · rw [EReal.add_bot, exp_mask]

section First

variable (Q K V Y : Mat 128 128) (l d : Mat 128 128) (L D : Mat 128 2)

theorem first_share (h : Spread l L) (a : Fin 2) (n j : Fin 128) :
    k0_pay12 (F := Ideal) (k0_pay10 k0_pay5 Q K) (k0_pay11 l) (ix2 (lane stacked a n) j) = share 0 Q K L n j a := by
  unfold share
  rw [← exp_masked, ← first_mask a, stack_score]
  generalize hR : Ideal.exp _ = rhs
  pointwise [k0_pay12, k0_pay11, k0_pay10]
  refine (exp_sub_congr _ ?_).trans hR
  split
  · exact column_low h a n j _ _
  · exact column_high h a n j (by assumption) _ _

theorem first_slant (h : Spread l L) (h' : Spread d D) (a : Fin 2) (n j : Fin 128) :
    k0_pay13 (F := Ideal) (k0_pay9 Y) V (k0_pay10 k0_pay5 Q K) (k0_pay11 l) d (ix2 (lane stacked a n) j)
      = slant 0 Q K V Y L D n j a := by
  unfold slant
  rw [← first_share _ _ _ _ h, stack_score, ← show k0_pay9 (F := Ideal) Y = k0_pay8 Y from rfl]
  generalize hR : (_ * _ : EReal) = rhs
  pointwise [k0_pay13]
  refine (mul_sub_congr _ _ ?_).trans hR
  split
  · exact column_low h' a n j _ _
  · exact column_high h' a n j (by assumption) _ _

theorem first_dq (h : Spread l L) (h' : Spread d D) (a : Fin 2) (e : Fin 64) (n : Fin 128) :
    k0_pay14 (F := Ideal) (k0_pay9 Y) K V (k0_pay10 k0_pay5 Q K) (k0_pay11 l) d (ix2 n (lane pair a e))
      = ∑ j : Fin 128, slant 0 Q K V Y L D n j a * K (ix2 j (lane pair a e)) := by
  simp only [← first_slant _ _ _ _ _ _ _ _ h h']
  generalize hR : (∑ j : Fin 128, (_ : EReal)) = rhs
  pointwise [k0_pay14]
  exact (unstack (fun r => ∑ x, k0_pay13 (F := Ideal) (k0_pay9 Y) V (k0_pay10 k0_pay5 Q K) (k0_pay11 l) d (ix2 r x)
    * K (ix2 x (lane pair a e))) a e n _ _).trans hR

theorem first_dk (h : Spread l L) (h' : Spread d D) (a : Fin 2) (e : Fin 64) (j : Fin 128) :
    k0_pay15 (F := Ideal) (k0_pay8 Q) (k0_pay9 Y) V (k0_pay10 k0_pay5 Q K) (k0_pay11 l) d (ix2 j (lane pair a e))
      = ∑ n : Fin 128, slant 0 Q K V Y L D n j a * Q (ix2 n (lane pair a e)) := by
  simp only [← first_slant _ _ _ _ _ _ _ _ h h']
  refine Eq.trans ?_ (stack_sum Q (fun r => k0_pay13 (F := Ideal) (k0_pay9 Y) V (k0_pay10 k0_pay5 Q K) (k0_pay11 l) d (ix2 r j)) a e)
  generalize hR : (∑ j : Fin 256, (_ : EReal)) = rhs
  pointwise [k0_pay15]
  exact hR

theorem first_dv (h : Spread l L) (a : Fin 2) (e : Fin 64) (j : Fin 128) :
    k0_pay16 (F := Ideal) (k0_pay9 Y) (k0_pay10 k0_pay5 Q K) (k0_pay11 l) (ix2 j (lane pair a e))
      = ∑ n : Fin 128, share 0 Q K L n j a * Y (ix2 n (lane pair a e)) := by
  simp only [← first_share _ _ _ _ h]
  refine Eq.trans ?_ (stack_sum Y (fun r => k0_pay12 (F := Ideal) (k0_pay10 k0_pay5 Q K) (k0_pay11 l) (ix2 r j)) a e)
  rw [← show k0_pay9 (F := Ideal) Y = k0_pay8 Y from rfl]
  generalize hR : (∑ j : Fin 256, (_ : EReal)) = rhs
  pointwise [k0_pay16]
  exact hR

end First

section Later

variable (Q Y : Mat 128 128) (K V : Mat 256 128) (l d : Mat 128 128) (L D : Mat 128 2)

/-- The mask of a later block. -/
abbrev band : FVec Ideal S256x256 .f32 := k0_pay7 k0_pay6 0#32

theorem later_share (h : Spread l L) (a : Fin 2) (n : Fin 128) (j : Fin 256) :
    k0_pay374 (F := Ideal) (k0_pay373 band Q K l) (ix2 (lane stacked a n) j) = share 128 Q K L n j a := by
  unfold share
  rw [← exp_masked, ← later_mask a, stack_score, ← show k0_pay371 (F := Ideal) Q = k0_pay8 Q from rfl]
  generalize hR : Ideal.exp _ = rhs
  unfold band
  pointwise [k0_pay374, k0_pay373]
  refine Eq.trans (exp_sub_congr _ ?_) hR
  split
  · split
    · exact column_low h a n ⟨j.val, _⟩ _ _
    · exact column_high h a n ⟨j.val, _⟩ (by assumption) _ _
  · split
    · exact column_low h a n ⟨j.val - 128, _⟩ _ _
    · exact column_high h a n ⟨j.val - 128, _⟩ (by assumption) _ _

theorem later_slant (h : Spread l L) (h' : Spread d D) (a : Fin 2) (n : Fin 128) (j : Fin 256) :
    k0_pay375 (F := Ideal) (k0_pay372 Y) V (k0_pay373 band Q K l) d (ix2 (lane stacked a n) j)
      = slant 128 Q K V Y L D n j a := by
  unfold slant
  rw [← later_share _ _ _ _ h, stack_score, ← show k0_pay372 (F := Ideal) Y = k0_pay8 Y from rfl]
  generalize hR : (_ * _ : EReal) = rhs
  pointwise [k0_pay375]
  refine Eq.trans (mul_sub_congr _ _ ?_) hR
  split
  · split
    · exact column_low h' a n ⟨j.val, _⟩ _ _
    · exact column_high h' a n ⟨j.val, _⟩ (by assumption) _ _
  · split
    · exact column_low h' a n ⟨j.val - 128, _⟩ _ _
    · exact column_high h' a n ⟨j.val - 128, _⟩ (by assumption) _ _

theorem later_dq (h : Spread l L) (h' : Spread d D) (a : Fin 2) (e : Fin 64) (n : Fin 128) :
    k0_pay376 (F := Ideal) (k0_pay372 Y) K V (k0_pay373 band Q K l) d (ix2 n (lane pair a e))
      = ∑ j : Fin 256, slant 128 Q K V Y L D n j a * K (ix2 j (lane pair a e)) := by
  simp only [← later_slant _ _ _ _ _ _ _ _ h h']
  generalize hR : (∑ j : Fin 256, (_ : EReal)) = rhs
  pointwise [k0_pay376]
  exact (unstack (fun r => ∑ x, k0_pay375 (F := Ideal) (k0_pay372 Y) V (k0_pay373 band Q K l) d (ix2 r x)
    * K (ix2 x (lane pair a e))) a e n _ _).trans hR

theorem later_dk (h : Spread l L) (h' : Spread d D) (a : Fin 2) (e : Fin 64) (j : Fin 256) :
    k0_pay377 (F := Ideal) (k0_pay371 Q) (k0_pay372 Y) V (k0_pay373 band Q K l) d (ix2 j (lane pair a e))
      = ∑ n : Fin 128, slant 128 Q K V Y L D n j a * Q (ix2 n (lane pair a e)) := by
  simp only [← later_slant _ _ _ _ _ _ _ _ h h']
  refine Eq.trans ?_ (stack_sum Q (fun r => k0_pay375 (F := Ideal) (k0_pay372 Y) V (k0_pay373 band Q K l) d (ix2 r j)) a e)
  rw [← show k0_pay371 (F := Ideal) Q = k0_pay8 Q from rfl]
  generalize hR : (∑ j : Fin 256, (_ : EReal)) = rhs
  pointwise [k0_pay377]
  exact hR

theorem later_dv (h : Spread l L) (a : Fin 2) (e : Fin 64) (j : Fin 256) :
    k0_pay378 (F := Ideal) (k0_pay372 Y) (k0_pay373 band Q K l) (ix2 j (lane pair a e))
      = ∑ n : Fin 128, share 128 Q K L n j a * Y (ix2 n (lane pair a e)) := by
  simp only [← later_share _ _ _ _ h]
  refine Eq.trans ?_ (stack_sum Y (fun r => k0_pay374 (F := Ideal) (k0_pay373 band Q K l) (ix2 r j)) a e)
  rw [← show k0_pay372 (F := Ideal) Y = k0_pay8 Y from rfl]
  generalize hR : (∑ j : Fin 256, (_ : EReal)) = rhs
  pointwise [k0_pay378]
  exact hR

end Later

end Cert.Attn16Ideal.Hand
-- ==== Proof.Attention.Tiles.lean ====
/-
  One block of the attention's columns, of any number of row blocks and of pairs of heads: the stores of the body, tile
  by tile, and what they leave in the three outputs.
-/
module

public import proofs.«01_k».proof.Proof.Attention.Unit
public import Idealize.ShloMosaic.Lib.Pipeline.ValueKit.Tiles

@[expose] public section

set_option maxRecDepth 16384

noncomputable section

namespace Cert.Attention

open Idealize.ShloMosaic Idealize.ShloMosaic.TcCoe Cert.Product
open Cert.Attn16Ideal Cert.Attn16Ideal.Gen Cert.Attn16Ideal.Hand

/-- The block's sizes: `M + 1` blocks of 128 rows, `U` pairs of heads. -/
structure Sizes where
  M : ℕ
  U : ℕ
  R : ℕ
  C : ℕ
  H : ℕ
  rows : (M + 1) * 128 = R
  cols : U * 128 = C
  heads : U * 2 = H

/-- The block, and its heads' columns. -/
abbrev Sizes.S (z : Sizes) : Shape := ⟨2, ![z.R, z.C]⟩
theorem Sizes.wide (z : Sizes) : z.H * 64 = z.C := by
  have := z.cols
  have := z.heads
  omega

variable (z : Sizes)

abbrev row (t : Fin (z.M + 1)) (n : Fin 128) : Fin z.R := lane z.rows t n
abbrev col (u : Fin z.U) (l : Fin 128) : Fin z.C := lane z.cols u l
abbrev hd (u : Fin z.U) (a : Fin 2) : Fin z.H := lane z.heads u a
abbrev lo (n : Fin 128) : Fin 256 := lane stacked 0 n
abbrev hi (n : Fin 128) : Fin 256 := lane stacked 1 n

/-- A tile, and the two tiles, one above the other, of the keys a later block of rows sees. -/
def tile (t : Fin (z.M + 1)) (u : Fin z.U) : Rect z.S := Rect.unit ![128 * t.val, 128 * u.val] ![128, 128] (by
  intro a
  have := z.rows
  have := z.cols
  have := t.isLt
  have := u.isLt
  fin_cases a
  · show 128 * t.val + 128 ≤ z.R
    omega
  · show 128 * u.val + 128 ≤ z.C
    omega)

def tall (b : Fin z.M) (u : Fin z.U) : Rect z.S := Rect.unit ![128 * b.val, 128 * u.val] ![256, 128] (by
  intro a
  have := z.rows
  have := z.cols
  have := b.isLt
  have := u.isLt
  fin_cases a
  · show 128 * b.val + 256 ≤ z.R
    omega
  · show 128 * u.val + 128 ≤ z.C
    omega)

/-- The numbers below `n`, the last one first. -/
def down {N : ℕ} : (n : ℕ) → n ≤ N → List (Fin N)
  | 0, _ => []
  | n + 1, h => ⟨n, h⟩ :: down n (Nat.le_of_succ_le h)

theorem mem_down {N : ℕ} (u : Fin N) : ∀ (n : ℕ) (h : n ≤ N), u ∈ down n h ↔ u.val < n
  | 0, _ => by simp [down]
  | n + 1, h => by
    rw [down, List.mem_cons, mem_down u n _, Fin.ext_iff]
    show u.val = n ∨ _ ↔ _
    omega

/-- The pairs of heads, and the tiles of the later blocks of rows, the last one first. -/
def pairs : List (Fin z.U) := down z.U le_rfl
def level (m : ℕ) (h : m ≤ z.M) : List (Fin z.M × Fin z.U) := (down m h).flatMap fun b => (pairs z).map fun u => (b, u)
abbrev laters : List (Fin z.M × Fin z.U) := level z z.M le_rfl

theorem mem_pairs (u : Fin z.U) : u ∈ pairs z := (mem_down u _ _).mpr u.isLt

theorem mem_level (m : ℕ) (h : m ≤ z.M) (b : Fin z.M) (u : Fin z.U) : (b, u) ∈ level z m h ↔ b.val < m := by
  rw [← mem_down b m h]
  refine List.mem_flatMap.trans ⟨?_, fun hb => ⟨b, hb, List.mem_map.mpr ⟨u, mem_pairs z u, rfl⟩⟩⟩
  rintro ⟨b', hb', hm⟩
  obtain ⟨u', _, e⟩ := List.mem_map.mp hm
  obtain ⟨rfl, rfl⟩ := Prod.mk.inj e
  exact hb'

theorem mem_laters (b : Fin z.M) (u : Fin z.U) : (b, u) ∈ laters z := (mem_level z _ _ b u).mpr b.isLt

/-- What a load through a rectangle reads of one input. -/
abbrev Load (e : EltTy) := (r : Rect z.S) → r.shape.Idx → Elt Ideal e

section Stores
variable (Q K V Y : Load z .bf16) (l d : Load z .f32)

/-- What a pair's rows of the first block make, -/
def firstScore (u : Fin z.U) : FVec Ideal S256x128 .f32 := k0_pay10 k0_pay5 (Q (tile z 0 u)) (K (tile z 0 u))
def firstDq (u : Fin z.U) : FVec Ideal S128x128 .bf16 :=
  k0_pay14 (k0_pay9 (Y (tile z 0 u))) (K (tile z 0 u)) (V (tile z 0 u)) (firstScore z Q K u) (k0_pay11 (l (tile z 0 u))) (d (tile z 0 u))
def firstDk (u : Fin z.U) : FVec Ideal S128x128 .f32 :=
  k0_pay15 (k0_pay8 (Q (tile z 0 u))) (k0_pay9 (Y (tile z 0 u))) (V (tile z 0 u)) (firstScore z Q K u) (k0_pay11 (l (tile z 0 u)))
    (d (tile z 0 u))
def firstDv (u : Fin z.U) : FVec Ideal S128x128 .f32 :=
  k0_pay16 (k0_pay9 (Y (tile z 0 u))) (firstScore z Q K u) (k0_pay11 (l (tile z 0 u)))

/-- and those of a later one. -/
def laterScore (p : Fin z.M × Fin z.U) : FVec Ideal S256x256 .f32 :=
  k0_pay373 band (Q (tile z p.1.succ p.2)) (K (tall z p.1 p.2)) (l (tile z p.1.succ p.2))
def laterDq (p : Fin z.M × Fin z.U) : FVec Ideal S128x128 .bf16 :=
  k0_pay376 (k0_pay372 (Y (tile z p.1.succ p.2))) (K (tall z p.1 p.2)) (V (tall z p.1 p.2)) (laterScore z Q K l p) (d (tile z p.1.succ p.2))
def laterDk (p : Fin z.M × Fin z.U) : FVec Ideal S256x128 .f32 :=
  k0_pay377 (k0_pay371 (Q (tile z p.1.succ p.2))) (k0_pay372 (Y (tile z p.1.succ p.2))) (V (tall z p.1 p.2)) (laterScore z Q K l p)
    (d (tile z p.1.succ p.2))
def laterDv (p : Fin z.M × Fin z.U) : FVec Ideal S256x128 .f32 := k0_pay378 (k0_pay372 (Y (tile z p.1.succ p.2))) (laterScore z Q K l p)

/-- The stores of the queries' gradient. -/
def dqPieces : List (View.Piece (Elt Ideal) z.S .bf16) :=
  (laters z).map (fun p => ⟨tile z p.1.succ p.2, laterDq z Q K V Y l d p⟩) ++ (pairs z).map (fun u => ⟨tile z 0 u, firstDq z Q K V Y l d u⟩)
end Stores

/-- What was there, and the first half of a later tile's share. -/
def added (x : FVec Ideal S128x128 .f32) (y : FVec Ideal S256x128 .f32) : FVec Ideal S128x128 .f32 :=
  shapeCast S128x128 (addf (F := Ideal) x (extractStridedSlice S128x128 ![0, 0] y slices_S256x128_o0_0_S128x128)) shapeCasts_S128x128_S128x128

theorem added_at (x : FVec Ideal S128x128 .f32) (y : FVec Ideal S256x128 .f32) (n l : Fin 128) :
    added x y (ix2 n l) = x (ix2 n l) + y (ix2 (lo n) l) := by
  have hn : n.val = (lo n).val := by show _ = 0 * 128 + n.val; omega
  pointwise [added]
  exact congrArg (fun r => x (ix2 n l) + y (ix2 r l)) (Fin.ext hn)

theorem rest_at (y : FVec Ideal S256x128 .f32) (n l : Fin 128) : k0_pay1 (F := Ideal) y (ix2 n l) = y (ix2 (hi n) l) := by
  pointwise [k0_pay1]
  exact congrArg (fun r => y (ix2 r l)) (Fin.ext (by show 128 + n.val = 1 * 128 + n.val; omega))

section Canon
variable {z} {e : EltTy} (t t' : Fin (z.M + 1)) (u u' : Fin z.U) (n l : Fin 128)

theorem emb_tile : (tile z t u).emb (ix2 n l) = ix2 (row z t n) (col z u l) := by
  funext a
  refine Fin.ext ?_
  fin_cases a
  · show 128 * t.val + 1 * n.val = t.val * 128 + n.val
    omega
  · show 128 * u.val + 1 * l.val = u.val * 128 + l.val
    omega

theorem of_tile {t' : Fin (z.M + 1)} {u' : Fin z.U} (h : (ix2 (row z t n) (col z u l) : z.S.Idx) ∈ (tile z t' u').set) : t = t' ∧ u = u' := by
  unfold tile at h
  rw [Rect.mem_set_unit] at h
  have h0 : 128 * t'.val ≤ t.val * 128 + n.val := (h 0).1
  have h0' : t.val * 128 + n.val < 128 * t'.val + 128 := (h 0).2
  have h1 : 128 * u'.val ≤ u.val * 128 + l.val := (h 1).1
  have h1' : u.val * 128 + l.val < 128 * u'.val + 128 := (h 1).2
  exact ⟨Fin.ext (by omega), Fin.ext (by omega)⟩

theorem mem_tile : (ix2 (row z t n) (col z u l) : z.S.Idx) ∈ (tile z t u).set := by
  unfold tile
  rw [Rect.mem_set_unit]
  intro a
  fin_cases a
  · show 128 * t.val ≤ t.val * 128 + n.val ∧ t.val * 128 + n.val < 128 * t.val + 128
    omega
  · show 128 * u.val ≤ u.val * 128 + l.val ∧ u.val * 128 + l.val < 128 * u.val + 128
    omega

variable (w : S128x128.Idx → Elt Ideal e) (L : List (View.Piece (Elt Ideal) z.S e))

/-- The last store to a tile is what is there; a store to another leaves it alone. -/
theorem canon_own : View.canon (Val := Elt Ideal) (⟨tile z t u, w⟩ :: L) (ix2 (row z t n) (col z u l)) = w (ix2 n l) := by
  rw [← emb_tile]
  exact View.canon_cons_emb (tile z t u) w L (ix2 n l)

theorem canon_other (h : ¬ (t = t' ∧ u = u')) :
    View.canon (Val := Elt Ideal) (⟨tile z t' u', w⟩ :: L) (ix2 (row z t n) (col z u l)) = View.canon L (ix2 (row z t n) (col z u l)) :=
  View.canon_cons_of_not_mem _ _ fun hm => h (of_tile t u n l hm)

theorem firsts_at (A : Fin z.U → S128x128.Idx → Elt Ideal e) (us : List (Fin z.U)) (h : u ∈ us) :
    View.canon (Val := Elt Ideal) (us.map fun u => (⟨tile z 0 u, A u⟩ : View.Piece (Elt Ideal) z.S e)) (ix2 (row z 0 n) (col z u l))
      = A u (ix2 n l) := by
  induction us with
  | nil => cases h
  | cons v us ih =>
    by_cases hv : u = v
    · subst hv
      exact canon_own 0 u n l (A u) _
    · exact (canon_other 0 0 u v n l (A v) _ fun p => hv p.2).trans (ih ((List.mem_cons.mp h).resolve_left hv))
end Canon

section Sums
variable {z} {sig : RefSig} (S : View sig .tc .vmem z.S .f32)
  (A : Fin z.U → FVec Ideal S128x128 .f32) (B : Fin z.M × Fin z.U → FVec Ideal S256x128 .f32)

/-- The stores into an accumulator of column sums: every pair's first rows, then tile by tile the later rows' shares, the
    first half added to what is there, the second stored. -/
def sums : List (Fin z.M × Fin z.U) → List (View.Piece (Elt Ideal) z.S .f32)
  | [] => (pairs z).map fun u => ⟨tile z 0 u, A u⟩
  | p :: ps => ⟨tile z p.1.succ p.2, k0_pay1 (B p)⟩
      :: ⟨tile z p.1.castSucc p.2, added (S.readCov (sums ps) (tile z p.1.castSucc p.2).toLoadRect) (B p)⟩ :: sums ps

/-- One tile's two stores over the ones before. -/
theorem sums_cons (p : Fin z.M × Fin z.U) (ps : List (Fin z.M × Fin z.U)) {v w : FVec Ideal S128x128 .f32}
    {L : List (View.Piece (Elt Ideal) z.S .f32)} (hL : sums S A B ps = L) (hv : k0_pay1 (B p) = v)
    (hw : added (S.readCov L (tile z p.1.castSucc p.2).toLoadRect) (B p) = w) :
    sums S A B (p :: ps) = ⟨tile z p.1.succ p.2, v⟩ :: ⟨tile z p.1.castSucc p.2, w⟩ :: L := by
  subst hL hv hw
  rfl

/-- The order the tiles are taken in: none twice, and the tile above before. -/
def Ordered : List (Fin z.M × Fin z.U) → Prop
  | [] => True
  | p :: ps => p ∉ ps ∧ (∀ b : Fin z.M, b.val = p.1.val + 1 → (b, p.2) ∉ ps)
      ∧ (p.1.val = 0 ∨ ∃ b : Fin z.M, b.val + 1 = p.1.val ∧ (b, p.2) ∈ ps) ∧ Ordered ps

theorem ordered_level : ∀ (m : ℕ) (h : m ≤ z.M), Ordered (level z m h)
  | 0, _ => trivial
  | m + 1, h => by
    have ih := ordered_level m (Nat.le_of_succ_le h)
    have step : ∀ (k : ℕ) (hk : k ≤ z.U), Ordered ((down k hk).map (fun u => ((⟨m, h⟩ : Fin z.M), u)) ++ level z m (Nat.le_of_succ_le h)) := by
      intro k
      induction k with
      | zero => exact fun _ => ih
      | succ k ihk =>
        intro hk
        have mem : ∀ (b : Fin z.M) (u : Fin z.U),
            (b, u) ∈ (down k (Nat.le_of_succ_le hk)).map (fun u => ((⟨m, h⟩ : Fin z.M), u)) ++ level z m (Nat.le_of_succ_le h)
              → (b.val = m ∧ u.val < k) ∨ b.val < m := fun b u hm => by
          refine (List.mem_append.mp hm).imp (fun h1 => ?_) (mem_level z m _ b u).mp
          obtain ⟨u', hu', e⟩ := List.mem_map.mp h1
          obtain ⟨rfl, rfl⟩ := Prod.mk.inj e
          exact ⟨rfl, (mem_down _ _ _).mp hu'⟩
        refine ⟨fun hm => ?_, fun b hb hm => ?_, ?_, ihk _⟩
        · obtain h1 | h1 := mem _ _ hm
          · exact absurd h1.2 (lt_irrefl k)
          · exact absurd h1 (lt_irrefl m)
        · have hb' : b.val = m + 1 := hb
          obtain h1 | h1 := mem _ _ hm <;> omega
        · cases m with
          | zero => exact Or.inl rfl
          | succ m => exact Or.inr ⟨⟨m, by omega⟩, rfl, List.mem_append_right _ ((mem_level z _ _ _ _).mpr (Nat.lt_succ_self m))⟩
    exact step z.U le_rfl

/-- A tile's own rows' share. -/
def own (t : Fin (z.M + 1)) (u : Fin z.U) (n l : Fin 128) : EReal :=
  if h : t.val = 0 then A u (ix2 n l) else B (⟨t.val - 1, by omega⟩, u) (ix2 (hi n) l)

theorem own_succ (b : Fin z.M) (u : Fin z.U) (n l : Fin 128) : own A B b.succ u n l = B (b, u) (ix2 (hi n) l) := by
  unfold own
  rw [dif_neg (by simp)]
  rfl

theorem sums_own (t : Fin (z.M + 1)) (u : Fin z.U) (n l : Fin 128) (ps : List (Fin z.M × Fin z.U))
    (h : t.val = 0 ∨ ∃ b : Fin z.M, b.val + 1 = t.val ∧ (b, u) ∈ ps) (h' : ∀ b : Fin z.M, b.val = t.val → (b, u) ∉ ps) :
    View.canon (sums S A B ps) (ix2 (row z t n) (col z u l)) = own A B t u n l := by
  induction ps with
  | nil =>
    obtain h | ⟨b, _, hb⟩ := h
    · obtain rfl : t = 0 := Fin.ext h
      exact firsts_at (e := .f32) u n l A (pairs z) (mem_pairs z u)
    · cases hb
  | cons p ps ih =>
    by_cases e : t = p.1.succ ∧ u = p.2
    · obtain ⟨rfl, rfl⟩ := e
      refine (canon_own _ _ n l _ _).trans ((rest_at _ n l).trans (own_succ A B p.1 p.2 n l).symm)
    · refine (canon_other _ _ _ _ n l _ _ e).trans ((canon_other _ _ _ _ n l _ _ ?_).trans (ih ?_ ?_))
      · rintro ⟨rfl, rfl⟩
        exact h' p.1 rfl List.mem_cons_self
      · refine h.imp id fun ⟨b, hb, hm⟩ => ⟨b, hb, (List.mem_cons.mp hm).resolve_left ?_⟩
        rintro rfl
        exact e ⟨Fin.ext hb.symm, rfl⟩
      · exact fun b hb hm => h' b hb (List.mem_cons_of_mem _ hm)

theorem sums_both (b : Fin z.M) (u : Fin z.U) (n l : Fin 128) (ps : List (Fin z.M × Fin z.U)) (ho : Ordered ps) (h : (b, u) ∈ ps) :
    View.canon (sums S A B ps) (ix2 (row z b.castSucc n) (col z u l)) = own A B b.castSucc u n l + B (b, u) (ix2 (lo n) l) := by
  induction ps with
  | nil => cases h
  | cons p ps ih =>
    obtain ⟨h1, h2, h3, h4⟩ := ho
    have e : ¬ (b.castSucc = p.1.succ ∧ u = p.2) := by
      rintro ⟨hb, rfl⟩
      have hv : b.val = p.1.val + 1 := congrArg Fin.val hb
      refine h2 b hv ((List.mem_cons.mp h).resolve_left fun q => ?_)
      have : b = p.1 := congrArg Prod.fst q
      rw [this] at hv
      omega
    refine (canon_other _ _ _ _ n l _ _ e).trans ?_
    by_cases hp : (b, u) = p
    · subst hp
      refine (canon_own _ _ n l _ _).trans ((added_at _ _ n l).trans (congrArg (· + _) ?_))
      rw [View.readCov_eq_canon']
      refine (congrArg (View.canon (sums S A B ps)) (emb_tile b.castSucc u n l)).trans (sums_own S A B _ u n l ps h3 ?_)
      rintro b' hb' hm
      obtain rfl : b' = b := Fin.ext hb'
      exact h1 hm
    · refine (canon_other _ _ _ _ n l _ _ ?_).trans (ih h4 ((List.mem_cons.mp h).resolve_left hp))
      rintro ⟨hb, rfl⟩
      exact hp (Prod.ext (Fin.castSucc_injective _ hb) rfl)
end Sums

theorem lane_cases (l : Fin 128) : ∃ (a : Fin 2) (e : Fin 64), l = lane pair a e :=
  ⟨⟨l.val / 64, by omega⟩, ⟨l.val % 64, by omega⟩, Fin.ext (by show l.val = l.val / 64 * 64 + l.val % 64; omega)⟩

theorem col_lane (u : Fin z.U) (a : Fin 2) (e : Fin 64) : col z u (lane pair a e) = lane z.wide (hd z u a) e := by
  refine Fin.ext ?_
  show u.val * 128 + (a.val * 64 + e.val) = (u.val * 2 + a.val) * 64 + e.val
  omega

theorem row_cases (r : Fin z.R) : ∃ t n, r = row z t n :=
  ⟨⟨r.val / 128, by have := z.rows; omega⟩, ⟨r.val % 128, by omega⟩, Fin.ext (by show r.val = r.val / 128 * 128 + r.val % 128; omega)⟩

theorem col_cases (c : Fin z.C) : ∃ u l, c = col z u l :=
  ⟨⟨c.val / 128, by have := z.cols; omega⟩, ⟨c.val % 128, by omega⟩, Fin.ext (by show c.val = c.val / 128 * 128 + c.val % 128; omega)⟩

/-- The rows of two tiles, one above the other. -/
def two (b : Fin z.M) (j : Fin 256) : Fin z.R := ⟨b.val * 128 + j.val, by have := z.rows; omega⟩

theorem two_lo (b : Fin z.M) (j : Fin 128) : two z b (lo j) = row z b.castSucc j :=
  Fin.ext (by show b.val * 128 + (0 * 128 + j.val) = b.val * 128 + j.val; omega)
theorem two_hi (b : Fin z.M) (j : Fin 128) : two z b (hi j) = row z b.succ j :=
  Fin.ext (by show b.val * 128 + (1 * 128 + j.val) = (b.val + 1) * 128 + j.val; omega)

section Loads
variable {z} {e : EltTy} (x : Vec Ideal z.S e)

theorem ld_tile (t : Fin (z.M + 1)) (u : Fin z.U) (n l : Fin 128) :
    View.ld (Val := Elt Ideal) x (tile z t u) (ix2 n l) = x (ix2 (row z t n) (col z u l)) := by
  refine View.ld_unit_apply_of x _ _ _ _ _ fun a => ?_
  fin_cases a
  · show t.val * 128 + n.val = 128 * t.val + n.val
    omega
  · show u.val * 128 + l.val = 128 * u.val + l.val
    omega

theorem ld_tall (b : Fin z.M) (u : Fin z.U) (j : Fin 256) (l : Fin 128) :
    View.ld (Val := Elt Ideal) x (tall z b u) (ix2 j l) = x (ix2 (two z b j) (col z u l)) := by
  refine View.ld_unit_apply_of x _ _ _ _ _ fun a => ?_
  fin_cases a
  · show b.val * 128 + j.val = 128 * b.val + j.val
    omega
  · show u.val * 128 + l.val = 128 * u.val + l.val
    omega
end Loads

/-- A value of every head of the block, repeated over the head's columns. -/
def Wide (x : Mat z.R z.C) (y : Mat z.R z.H) : Prop := ∀ n a e, x (ix2 n (lane z.wide a e)) = y (ix2 n a)

/-- A pair's values, in one block of rows. -/
abbrev part (t : Fin (z.M + 1)) (u : Fin z.U) (y : Mat z.R z.H) : Mat 128 2 := fun i => y (ix2 (row z t (i 0)) (hd z u (i 1)))

section Values
variable {z}

theorem spread_part {x : Vec Ideal z.S .f32} {y : Mat z.R z.H} (h : Wide z x y) (t : Fin (z.M + 1)) (u : Fin z.U) :
    Spread (View.ld (Val := Elt Ideal) x (tile z t u)) (part z t u y) := fun n a e => by
  rw [show View.ld (Val := Elt Ideal) x (tile z t u) (ix2 n (lane pair a e)) = _ from ld_tile x t u n _, col_lane]
  exact h _ _ _

/-- A pair's score is the block's, -/
theorem score_eq {N : ℕ} {X Y : Mat z.R z.C} {x : Mat 128 128} {y : Mat N 128} {u : Fin z.U} {f : Fin 128 → Fin z.R} {g : Fin N → Fin z.R}
    (hx : ∀ n l, x (ix2 n l) = X (ix2 (f n) (col z u l))) (hy : ∀ j l, y (ix2 j l) = Y (ix2 (g j) (col z u l)))
    (n : Fin 128) (j : Fin N) (a : Fin 2) : score x y n j a = dot z.wide X Y (f n) (g j) (hd z u a) := by
  unfold score dot
  refine Finset.sum_congr rfl fun e _ => ?_
  rw [hx, hy, col_lane]

section Pair
variable {X0 X1 X2 X3 : Mat z.R z.C} (ℓ δ : Mat z.R z.H) {N : ℕ} {x0 x3 : Mat 128 128} {x1 x2 : Mat N 128}
  {u : Fin z.U} {t : Fin (z.M + 1)} {g : Fin N → Fin z.R} {o : ℕ}
  (hn : ∀ (n : Fin 128) (j : Fin N), near (o + n.val) j.val ↔ near (row z t n).val (g j).val)
  (hx0 : ∀ n l, x0 (ix2 n l) = X0 (ix2 (row z t n) (col z u l))) (hx1 : ∀ j l, x1 (ix2 j l) = X1 (ix2 (g j) (col z u l)))
  (hx2 : ∀ j l, x2 (ix2 j l) = X2 (ix2 (g j) (col z u l))) (hx3 : ∀ n l, x3 (ix2 n l) = X3 (ix2 (row z t n) (col z u l)))

include hn hx0 hx1 in
/-- a weight as well, -/
theorem share_eq (n : Fin 128) (j : Fin N) (a : Fin 2) :
    share o x0 x1 (part z t u ℓ) n j a = weight z.wide X0 X1 ℓ (row z t n) (g j) (hd z u a) := by
  unfold share weight
  rw [score_eq hx0 hx1]
  exact if_congr (hn n j) rfl rfl

include hn hx0 hx1 hx2 hx3 in
/-- and the gradient of a score. -/
theorem slant_eq (n : Fin 128) (j : Fin N) (a : Fin 2) :
    slant o x0 x1 x2 x3 (part z t u ℓ) (part z t u δ) n j a = pull z.wide X0 X1 X2 X3 ℓ δ (row z t n) (g j) (hd z u a) := by
  unfold slant pull
  rw [share_eq ℓ hn hx0 hx1, score_eq hx3 hx2]
  rfl
end Pair

theorem sum_halves (f : Fin 256 → EReal) : ∑ r, f r = ∑ n : Fin 128, f (lo n) + ∑ n : Fin 128, f (hi n) := by
  rw [sum_lanes stacked, Fin.sum_univ_two]

/-- Rows of one tile are near as their places in it are; those of two tiles apart are not. -/
theorem near_first (n j : Fin 128) : near (0 + n.val) j.val ↔ near (row z 0 n).val (row z 0 j).val := by
  show near (0 + n.val) j.val ↔ near (0 * 128 + n.val) (0 * 128 + j.val)
  unfold near
  omega

theorem near_later (b : Fin z.M) (n : Fin 128) (j : Fin 256) : near (128 + n.val) j.val ↔ near (row z b.succ n).val (two z b j).val := by
  show near (128 + n.val) j.val ↔ near ((b.val + 1) * 128 + n.val) (b.val * 128 + j.val)
  unfold near
  omega

theorem apart {t t' : Fin (z.M + 1)} (n j : Fin 128) (h : t.val < t'.val ∨ t'.val + 1 < t.val) : ¬ near (row z t n).val (row z t' j).val := by
  show ¬ near (t.val * 128 + n.val) (t'.val * 128 + j.val)
  unfold near
  omega

/-- A sum over the rows a row of the first tile, or a later one, attends to. -/
theorem sum_first (f : Fin z.R → EReal) (n : Fin 128) (h : ∀ j, ¬ near (row z 0 n).val j.val → f j = 0) : ∑ j, f j = ∑ j, f (row z 0 j) := by
  rw [sum_lanes z.rows]
  refine Finset.sum_eq_single 0 (fun t _ ht => Finset.sum_eq_zero fun j _ => h _ (apart n j (Or.inl ?_))) fun hm => absurd (Finset.mem_univ _) hm
  have : t.val ≠ 0 := fun e => ht (Fin.ext e)
  show 0 < t.val
  omega

theorem sum_later (f : Fin z.R → EReal) (b : Fin z.M) (n : Fin 128) (h : ∀ j, ¬ near (row z b.succ n).val j.val → f j = 0) :
    ∑ j, f j = ∑ j, f (two z b j) := by
  rw [sum_lanes z.rows, sum_halves]
  simp only [two_lo, two_hi]
  refine Finset.sum_eq_add b.castSucc b.succ (fun e => ?_) (fun t _ ht => Finset.sum_eq_zero fun j _ => h _ (apart n j ?_))
    (fun hm => absurd (Finset.mem_univ _) hm) fun hm => absurd (Finset.mem_univ _) hm
  · have : b.val = b.val + 1 := congrArg Fin.val e
    omega
  · have h1 : t.val ≠ b.val := fun e => ht.1 (Fin.ext e)
    have h2 : t.val ≠ b.val + 1 := fun e => ht.2 (Fin.ext e)
    show b.val + 1 < t.val ∨ t.val + 1 < b.val + 1
    omega

/-- A sum over the rows that attend to a row: those of its own tile, and of the next. -/
theorem sum_last (f : Fin z.R → EReal) (t : Fin (z.M + 1)) (ht : t.val = z.M) (j : Fin 128) (h : ∀ n, ¬ near n.val (row z t j).val → f n = 0) :
    ∑ n, f n = ∑ n, f (row z t n) := by
  rw [sum_lanes z.rows]
  refine Finset.sum_eq_single t (fun t' _ ht' => Finset.sum_eq_zero fun n _ => h _ (apart n j (Or.inl ?_))) fun hm => absurd (Finset.mem_univ _) hm
  have : t'.val ≠ t.val := fun e => ht' (Fin.ext e)
  omega

theorem sum_next (f : Fin z.R → EReal) (b : Fin z.M) (j : Fin 128) (h : ∀ n, ¬ near n.val (row z b.castSucc j).val → f n = 0) :
    ∑ n, f n = ∑ n, f (row z b.castSucc n) + ∑ n, f (row z b.succ n) := by
  rw [sum_lanes z.rows]
  refine Finset.sum_eq_add b.castSucc b.succ (fun e => ?_) (fun t _ ht => Finset.sum_eq_zero fun n _ => h _ (apart n j ?_))
    (fun hm => absurd (Finset.mem_univ _) hm) fun hm => absurd (Finset.mem_univ _) hm
  · have : b.val = b.val + 1 := congrArg Fin.val e
    omega
  · have h1 : t.val ≠ b.val := fun e => ht.1 (Fin.ext e)
    have h2 : t.val ≠ b.val + 1 := fun e => ht.2 (Fin.ext e)
    show t.val < b.val ∨ b.val + 1 < t.val
    omega

/-- An accumulator holds the sums over all rows, when its stores are the tiles' shares of them. -/
theorem sums_total {sig : RefSig} (S : View sig .tc .vmem z.S .f32) (A : Fin z.U → FVec Ideal S128x128 .f32)
    (B : Fin z.M × Fin z.U → FVec Ideal S256x128 .f32) (T : Fin z.R → Fin z.R → Fin z.C → EReal)
    (far : ∀ n j c, ¬ near n.val j.val → T n j c = 0) (hA : ∀ u j l, A u (ix2 j l) = ∑ n, T (row z 0 n) (row z 0 j) (col z u l))
    (hB : ∀ b u j l, B (b, u) (ix2 j l) = ∑ n, T (row z b.succ n) (two z b j) (col z u l)) (r : Fin z.R) (c : Fin z.C) :
    View.canon (sums S A B (laters z)) (ix2 r c) = ∑ n, T n r c := by
  obtain ⟨t, j, rfl⟩ := row_cases z r
  obtain ⟨u, l, rfl⟩ := col_cases z c
  have ho : own A B t u j l = ∑ n, T (row z t n) (row z t j) (col z u l) := by
    obtain rfl | ⟨b, rfl⟩ := Fin.eq_zero_or_eq_succ t
    · exact hA u j l
    · rw [own_succ, hB, two_hi]
  by_cases ht : t.val = z.M
  · rw [sum_last (fun n => T n (row z t j) (col z u l)) t ht j fun n hn => far _ _ _ hn, ← ho]
    refine sums_own S A B t u j l _ ?_ fun b hb => absurd b.isLt (by omega)
    by_cases h0 : t.val = 0
    · exact Or.inl h0
    · exact Or.inr ⟨⟨t.val - 1, by omega⟩, by show t.val - 1 + 1 = _; omega, mem_laters z _ u⟩
  · obtain ⟨b, rfl⟩ : ∃ b : Fin z.M, t = b.castSucc := ⟨⟨t.val, by omega⟩, rfl⟩
    rw [sum_next (fun n => T n (row z b.castSucc j) (col z u l)) b j fun n hn => far _ _ _ hn, ← ho]
    refine (sums_both S A B b u j l _ (ordered_level _ _) (mem_laters z b u)).trans (congrArg _ ?_)
    rw [hB, two_lo]

variable (x0 x1 x2 x3 : Vec Ideal z.S .bf16) (x4 x5 : Vec Ideal z.S .f32) (ℓ δ : Mat z.R z.H) (hl : Wide z x4 ℓ) (hd' : Wide z x5 δ)

/-- A load as a block's cut. -/
abbrev cut {e : EltTy} (x : Vec Ideal z.S e) : Load z e := fun r => View.ld (Val := Elt Ideal) x r

include hl hd'

theorem firstDq_at (u : Fin z.U) (n l : Fin 128) :
    firstDq z (cut x0) (cut x1) (cut x2) (cut x3) (cut x4) (cut x5) u (ix2 n l) = dq z.wide x0 x1 x2 x3 ℓ δ (ix2 (row z 0 n) (col z u l)) := by
  obtain ⟨a, e, rfl⟩ := lane_cases l
  refine (first_dq _ _ _ _ _ _ _ _ (spread_part hl 0 u) (spread_part hd' 0 u) a e n).trans ?_
  show _ = ∑ j : Fin z.R, pull z.wide x0 x1 x2 x3 ℓ δ (row z 0 n) j (head z.wide (col z u (lane pair a e))) * x1 (ix2 j (col z u (lane pair a e)))
  rw [sum_first _ n fun j hj => by rw [pull_far _ _ _ _ _ _ _ _ _ _ hj, zero_mul]]
  refine Finset.sum_congr rfl fun j _ => ?_
  rw [col_lane, head_lane,
    slant_eq ℓ δ near_first (ld_tile x0 0 u) (ld_tile x1 0 u) (ld_tile x2 0 u) (ld_tile x3 0 u), ← col_lane]
  exact congrArg _ (ld_tile x1 0 u j _)

theorem laterDq_at (b : Fin z.M) (u : Fin z.U) (n l : Fin 128) :
    laterDq z (cut x0) (cut x1) (cut x2) (cut x3) (cut x4) (cut x5) (b, u) (ix2 n l)
      = dq z.wide x0 x1 x2 x3 ℓ δ (ix2 (row z b.succ n) (col z u l)) := by
  obtain ⟨a, e, rfl⟩ := lane_cases l
  refine (later_dq _ _ _ _ _ _ _ _ (spread_part hl b.succ u) (spread_part hd' b.succ u) a e n).trans ?_
  show _ = ∑ j : Fin z.R, pull z.wide x0 x1 x2 x3 ℓ δ (row z b.succ n) j (head z.wide (col z u (lane pair a e)))
    * x1 (ix2 j (col z u (lane pair a e)))
  rw [sum_later _ b n fun j hj => by rw [pull_far _ _ _ _ _ _ _ _ _ _ hj, zero_mul]]
  refine Finset.sum_congr rfl fun j _ => ?_
  rw [col_lane, head_lane,
    slant_eq ℓ δ (near_later b) (ld_tile x0 b.succ u) (ld_tall x1 b u) (ld_tall x2 b u) (ld_tile x3 b.succ u), ← col_lane]
  exact congrArg _ (ld_tall x1 b u j _)

theorem firstDk_at (u : Fin z.U) (j l : Fin 128) :
    firstDk z (cut x0) (cut x1) (cut x2) (cut x3) (cut x4) (cut x5) u (ix2 j l)
      = ∑ n, pull z.wide x0 x1 x2 x3 ℓ δ (row z 0 n) (row z 0 j) (head z.wide (col z u l)) * x0 (ix2 (row z 0 n) (col z u l)) := by
  obtain ⟨a, e, rfl⟩ := lane_cases l
  refine (first_dk _ _ _ _ _ _ _ _ (spread_part hl 0 u) (spread_part hd' 0 u) a e j).trans ?_
  rw [col_lane, head_lane]
  refine Finset.sum_congr rfl fun n _ => ?_
  rw [slant_eq ℓ δ near_first (ld_tile x0 0 u) (ld_tile x1 0 u) (ld_tile x2 0 u) (ld_tile x3 0 u), ← col_lane]
  exact congrArg _ (ld_tile x0 0 u n _)

theorem laterDk_at (b : Fin z.M) (u : Fin z.U) (j : Fin 256) (l : Fin 128) :
    laterDk z (cut x0) (cut x1) (cut x2) (cut x3) (cut x4) (cut x5) (b, u) (ix2 j l)
      = ∑ n, pull z.wide x0 x1 x2 x3 ℓ δ (row z b.succ n) (two z b j) (head z.wide (col z u l)) * x0 (ix2 (row z b.succ n) (col z u l)) := by
  obtain ⟨a, e, rfl⟩ := lane_cases l
  refine (later_dk _ _ _ _ _ _ _ _ (spread_part hl b.succ u) (spread_part hd' b.succ u) a e j).trans ?_
  rw [col_lane, head_lane]
  refine Finset.sum_congr rfl fun n _ => ?_
  rw [slant_eq ℓ δ (near_later b) (ld_tile x0 b.succ u) (ld_tall x1 b u) (ld_tall x2 b u) (ld_tile x3 b.succ u), ← col_lane]
  exact congrArg _ (ld_tile x0 b.succ u n _)

/-- The stores of the queries' gradient leave it in the block. -/
theorem dq_canon : View.canon (Val := Elt Ideal) (dqPieces z (cut x0) (cut x1) (cut x2) (cut x3) (cut x4) (cut x5)) = dq z.wide x0 x1 x2 x3 ℓ δ := by
  funext y
  obtain ⟨r, k, rfl⟩ : ∃ (r : Fin z.R) (k : Fin z.C), y = ix2 r k := ⟨y 0, y 1, eq_ix2 y⟩
  obtain ⟨t, n, rfl⟩ := row_cases z r
  obtain ⟨u, l, rfl⟩ := col_cases z k
  refine View.canon_apply_of_pieces (Val := Elt Ideal) (e := .bf16) (dq z.wide x0 x1 x2 x3 ℓ δ) _ (fun p hp x => ?_) _ ?_
  · obtain hp | hp := List.mem_append.mp hp
    · obtain ⟨⟨b, u⟩, _, rfl⟩ := List.mem_map.mp hp
      obtain ⟨n, l, rfl⟩ : ∃ n l : Fin 128, x = ix2 n l := ⟨x 0, x 1, eq_ix2 x⟩
      exact (laterDq_at x0 x1 x2 x3 x4 x5 ℓ δ hl hd' b u n l).trans (congrArg _ (emb_tile b.succ u n l).symm)
    · obtain ⟨u, _, rfl⟩ := List.mem_map.mp hp
      obtain ⟨n, l, rfl⟩ : ∃ n l : Fin 128, x = ix2 n l := ⟨x 0, x 1, eq_ix2 x⟩
      exact (firstDq_at x0 x1 x2 x3 x4 x5 ℓ δ hl hd' u n l).trans (congrArg _ (emb_tile 0 u n l).symm)
  · have hm : (ix2 (row z t n) (col z u l) : z.S.Idx) ∈ (tile z t u).set := mem_tile t u n l
    obtain rfl | ⟨b, rfl⟩ := Fin.eq_zero_or_eq_succ t
    · exact ⟨_, List.mem_append_right _ (List.mem_map.mpr ⟨u, mem_pairs z u, rfl⟩), hm⟩
    · exact ⟨_, List.mem_append_left _ (List.mem_map.mpr ⟨(b, u), mem_laters z b u, rfl⟩), hm⟩

/-- The accumulators hold the gradients of the keys -/
theorem dk_canon {sig : RefSig} (S : View sig .tc .vmem z.S .f32) (r : Fin z.R) (c : Fin z.C) :
    View.canon (sums S (firstDk z (cut x0) (cut x1) (cut x2) (cut x3) (cut x4) (cut x5))
      (laterDk z (cut x0) (cut x1) (cut x2) (cut x3) (cut x4) (cut x5)) (laters z)) (ix2 r c) = dk z.wide x0 x1 x2 x3 ℓ δ (ix2 r c) :=
  sums_total S _ _ (fun n j c => pull z.wide x0 x1 x2 x3 ℓ δ n j (head z.wide c) * x0 (ix2 n c))
    (fun n j c h => by rw [pull_far _ _ _ _ _ _ _ _ _ _ h, zero_mul]) (firstDk_at x0 x1 x2 x3 x4 x5 ℓ δ hl hd')
    (laterDk_at x0 x1 x2 x3 x4 x5 ℓ δ hl hd') r c

omit hd'

theorem firstDv_at (u : Fin z.U) (j l : Fin 128) :
    firstDv z (cut x0) (cut x1) (cut x3) (cut x4) u (ix2 j l)
      = ∑ n, weight z.wide x0 x1 ℓ (row z 0 n) (row z 0 j) (head z.wide (col z u l)) * x3 (ix2 (row z 0 n) (col z u l)) := by
  obtain ⟨a, e, rfl⟩ := lane_cases l
  refine (first_dv _ _ _ _ _ (spread_part hl 0 u) a e j).trans ?_
  rw [col_lane, head_lane]
  refine Finset.sum_congr rfl fun n _ => ?_
  rw [share_eq ℓ near_first (ld_tile x0 0 u) (ld_tile x1 0 u), ← col_lane]
  exact congrArg _ (ld_tile x3 0 u n _)

theorem laterDv_at (b : Fin z.M) (u : Fin z.U) (j : Fin 256) (l : Fin 128) :
    laterDv z (cut x0) (cut x1) (cut x3) (cut x4) (b, u) (ix2 j l)
      = ∑ n, weight z.wide x0 x1 ℓ (row z b.succ n) (two z b j) (head z.wide (col z u l)) * x3 (ix2 (row z b.succ n) (col z u l)) := by
  obtain ⟨a, e, rfl⟩ := lane_cases l
  refine (later_dv _ _ _ _ _ (spread_part hl b.succ u) a e j).trans ?_
  rw [col_lane, head_lane]
  refine Finset.sum_congr rfl fun n _ => ?_
  rw [share_eq ℓ (near_later b) (ld_tile x0 b.succ u) (ld_tall x1 b u), ← col_lane]
  exact congrArg _ (ld_tile x3 b.succ u n _)

/-- and of the values. -/
theorem dv_canon {sig : RefSig} (S : View sig .tc .vmem z.S .f32) (r : Fin z.R) (c : Fin z.C) :
    View.canon (sums S (firstDv z (cut x0) (cut x1) (cut x3) (cut x4)) (laterDv z (cut x0) (cut x1) (cut x3) (cut x4)) (laters z)) (ix2 r c)
      = dv z.wide x0 x1 x3 ℓ (ix2 r c) :=
  sums_total S _ _ (fun n j c => weight z.wide x0 x1 ℓ n j (head z.wide c) * x3 (ix2 n c))
    (fun n j c h => by unfold weight; rw [if_neg h, zero_mul]) (firstDv_at x0 x1 x3 x4 ℓ hl) (laterDv_at x0 x1 x3 x4 ℓ hl) r c
end Values

theorem hz2 : (![0, 0] : Fin 2 → ℕ) = fun _ => 0 := by
  funext a
  fin_cases a <;> rfl

/-- An index of the whole block. -/
theorem whole_idx (h) (r : Fin z.R) (c : Fin z.C) : (Rect.unit (s := z.S) ![0, 0] z.S.size h).toLoadRect.idx (ix2 r c) = (ix2 r c : z.S.Idx) := by
  funext a
  refine Fin.ext ?_
  fin_cases a
  · show 0 + 1 * r.val = r.val
    omega
  · show 0 + 1 * c.val = c.val
    omega

end Cert.Attention
end
-- ==== Proof.Attention.Block16.lean ====
/-
  One block of the attention's columns at 256 rows: the stores of the body, and what they leave in the three outputs.
-/
module

public import proofs.«01_k».proof.Proof.Attention.Tiles
public import proofs.«01_k».proof.Proof.Gen.Attn16Ideal.Frame
public import proofs.«01_k».proof.Proof.Gen.Attn16Ideal.Value

@[expose] public section

set_option maxRecDepth 65536

noncomputable section

namespace Cert.Attn16Ideal.Hand

open Cert.Attn16Ideal Cert.Attn16Ideal.Gen Idealize.ShloMosaic Idealize.ShloMosaic.TcCoe Cert.Product Cert.Attention

/-- 2 blocks of 128 rows, 16 pairs of heads. -/
abbrev z : Sizes := ⟨1, 16, 256, 2048, 32, rfl, rfl, rfl⟩

/-- The later blocks' tiles, in the order the body stores them in, the last one first. -/
theorem laters_eq : laters z = [(0, 15), (0, 14), (0, 13), (0, 12), (0, 11), (0, 10), (0, 9), (0, 8), (0, 7), (0, 6), (0, 5), (0, 4), (0, 3), (0, 2), (0, 1), (0, 0)] := by
  decide

section Run
variable (c : Dev nD) (i : grid0.Coords)
  (arg1 : Memref sig .tc .vmem S256x2048 .bf16) (harg1 : arg1.IsWhole) (arg2 : Memref sig .tc .vmem S256x2048 .bf16) (harg2 : arg2.IsWhole)
  (arg3 : Memref sig .tc .vmem S256x2048 .bf16) (harg3 : arg3.IsWhole) (arg4 : Memref sig .tc .vmem S256x2048 .bf16) (harg4 : arg4.IsWhole)
  (arg5 : Memref sig .tc .vmem S256x2048 .f32) (harg5 : arg5.IsWhole) (arg6 : Memref sig .tc .vmem S256x2048 .f32) (harg6 : arg6.IsWhole)
  (arg7 : Memref sig .tc .vmem S256x2048 .bf16) (harg7 : arg7.IsWhole) (arg8 : Memref sig .tc .vmem S256x2048 .bf16) (harg8 : arg8.IsWhole)
  (arg9 : Memref sig .tc .vmem S256x2048 .bf16) (harg9 : arg9.IsWhole) (arg10 : Memref sig .tc .vmem S256x2048 .f32) (harg10 : arg10.IsWhole)
  (arg11 : Memref sig .tc .vmem S256x2048 .f32) (harg11 : arg11.IsWhole)
  (x0 x1 x2 x3 : Vec Ideal S256x2048 .bf16) (x4 x5 : Vec Ideal S256x2048 .f32)

/-- The load the run makes. -/
abbrev loads {e : EltTy} (M : Memref sig .tc .vmem S256x2048 e) (h : M.IsWhole) (x : S256x2048.Idx → Elt Ideal e) : Load z e :=
  fun r => View.readAt (Elt Ideal) M.view r.toLoadRect (h.unread x)

omit c i in
theorem loads_eq {e : EltTy} (M : Memref sig .tc .vmem S256x2048 e) (h : M.IsWhole) (x : Vec Ideal S256x2048 e) : loads M h x = cut (z := z) x := by
  funext r
  simp only [loads, cut, View.readAt_eq_ld, h.read_unread]

theorem dq_run :
    (kernelRun0_A (F := Ideal) c i arg1 harg1 arg2 harg2 arg3 harg3 arg4 harg4 arg5 harg5 arg6 harg6 arg7 harg7 arg8 harg8 arg9 harg9
      arg10 harg10 arg11 harg11 x0 x1 x2 x3 x4 x5).1
      = dqPieces z (loads arg1 harg1 x0) (loads arg2 harg2 x1) (loads arg3 harg3 x2) (loads arg4 harg4 x3) (loads arg5 harg5 x4)
          (loads arg6 harg6 x5) := by
  unfold kernelRun0_A
  dsimp only
  rfl

theorem dk_run :
    (kernelRun0_A (F := Ideal) c i arg1 harg1 arg2 harg2 arg3 harg3 arg4 harg4 arg5 harg5 arg6 harg6 arg7 harg7 arg8 harg8 arg9 harg9
      arg10 harg10 arg11 harg11 x0 x1 x2 x3 x4 x5).2.1
      = [⟨(Rect.unit ![0, 0] S256x2048.size inb_S256x2048_S256x2048_0_0), k0_pay3 (arg10.view.readCov (sums (z := z) arg10.view
          (firstDk z (loads arg1 harg1 x0) (loads arg2 harg2 x1) (loads arg3 harg3 x2) (loads arg4 harg4 x3) (loads arg5 harg5 x4)
            (loads arg6 harg6 x5))
          (laterDk z (loads arg1 harg1 x0) (loads arg2 harg2 x1) (loads arg3 harg3 x2) (loads arg4 harg4 x3) (loads arg5 harg5 x4)
            (loads arg6 harg6 x5)) (laters z))
          (Rect.unit ![0, 0] S256x2048.size inb_S256x2048_S256x2048_0_0).toLoadRect)⟩] := by
  unfold kernelRun0_A
  dsimp only
  refine congrArg (fun x => [(⟨(Rect.unit ![0, 0] S256x2048.size inb_S256x2048_S256x2048_0_0), k0_pay3 (F := Ideal) (arg10.view.readCov x (Rect.unit ![0, 0] S256x2048.size inb_S256x2048_S256x2048_0_0).toLoadRect)⟩ : View.Piece (Elt Ideal) z.S .bf16)]) (Eq.symm ?_)
  rw [laters_eq]
  iterate 16
    refine sums_cons _ _ _ _ _ ?_ ?_ ?_
    rotate_left
    rfl
    rfl
  rfl

theorem dv_run :
    (kernelRun0_A (F := Ideal) c i arg1 harg1 arg2 harg2 arg3 harg3 arg4 harg4 arg5 harg5 arg6 harg6 arg7 harg7 arg8 harg8 arg9 harg9
      arg10 harg10 arg11 harg11 x0 x1 x2 x3 x4 x5).2.2.1
      = [⟨(Rect.unit ![0, 0] S256x2048.size inb_S256x2048_S256x2048_0_0), k0_pay4 (arg11.view.readCov (sums (z := z) arg11.view
          (firstDv z (loads arg1 harg1 x0) (loads arg2 harg2 x1) (loads arg4 harg4 x3) (loads arg5 harg5 x4))
          (laterDv z (loads arg1 harg1 x0) (loads arg2 harg2 x1) (loads arg4 harg4 x3) (loads arg5 harg5 x4)) (laters z))
          (Rect.unit ![0, 0] S256x2048.size inb_S256x2048_S256x2048_0_0).toLoadRect)⟩] := by
  unfold kernelRun0_A
  dsimp only
  refine congrArg (fun x => [(⟨(Rect.unit ![0, 0] S256x2048.size inb_S256x2048_S256x2048_0_0), k0_pay4 (F := Ideal) (arg11.view.readCov x (Rect.unit ![0, 0] S256x2048.size inb_S256x2048_S256x2048_0_0).toLoadRect)⟩ : View.Piece (Elt Ideal) z.S .bf16)]) (Eq.symm ?_)
  rw [laters_eq]
  iterate 16
    refine sums_cons _ _ _ _ _ ?_ ?_ ?_
    rotate_left
    rfl
    rfl
  rfl

variable (ℓ δ : Mat 256 32) (hl : Wide z x4 ℓ) (hd' : Wide z x5 δ)
include hl hd'

/-- The block's gradient of the queries, -/
theorem dq_block :
    out0_A_6 (F := Ideal) c i arg1 harg1 arg2 harg2 arg3 harg3 arg4 harg4 arg5 harg5 arg6 harg6 arg7 harg7 arg8 harg8 arg9 harg9
      arg10 harg10 arg11 harg11 x0 x1 x2 x3 x4 x5 = dq z.wide x0 x1 x2 x3 ℓ δ := by
  unfold out0_A_6
  rw [View.read_writes_junk_eq_canon, dq_run]
  simp only [loads_eq]
  exact dq_canon (z := z) x0 x1 x2 x3 x4 x5 ℓ δ hl hd'

/-- of the keys, -/
theorem dk_block :
    out0_A_7 (F := Ideal) c i arg1 harg1 arg2 harg2 arg3 harg3 arg4 harg4 arg5 harg5 arg6 harg6 arg7 harg7 arg8 harg8 arg9 harg9
      arg10 harg10 arg11 harg11 x0 x1 x2 x3 x4 x5 = dk z.wide x0 x1 x2 x3 ℓ δ := by
  unfold out0_A_7
  rw [View.read_writes_junk_eq_canon, dk_run, View.canon_unit_zero Cert.Attention.hz2, View.readCov_eq_canon']
  simp only [loads_eq]
  funext y
  obtain ⟨r, k, rfl⟩ : ∃ (r : Fin 256) (k : Fin 2048), y = ix2 r k := ⟨y 0, y 1, eq_ix2 y⟩
  exact (congrArg (View.canon _) (whole_idx z _ r k)).trans (dk_canon (z := z) x0 x1 x2 x3 x4 x5 ℓ δ hl hd' arg10.view r k)

omit hd'

/-- and of the values. -/
theorem dv_block :
    out0_A_8 (F := Ideal) c i arg1 harg1 arg2 harg2 arg3 harg3 arg4 harg4 arg5 harg5 arg6 harg6 arg7 harg7 arg8 harg8 arg9 harg9
      arg10 harg10 arg11 harg11 x0 x1 x2 x3 x4 x5 = dv z.wide x0 x1 x3 ℓ := by
  unfold out0_A_8
  rw [View.read_writes_junk_eq_canon, dv_run, View.canon_unit_zero Cert.Attention.hz2, View.readCov_eq_canon']
  simp only [loads_eq]
  funext y
  obtain ⟨r, k, rfl⟩ : ∃ (r : Fin 256) (k : Fin 2048), y = ix2 r k := ⟨y 0, y 1, eq_ix2 y⟩
  exact (congrArg (View.canon _) (whole_idx z _ r k)).trans (dv_canon (z := z) x0 x1 x3 x4 ℓ hl arg11.view r k)
end Run

end Cert.Attn16Ideal.Hand
end
-- ==== Proof.Attention.Cuts.lean ====
/-
  The attention's gradient, block of columns by block of columns: a block's gradients are the array's, cut.
-/
module

public import proofs.«01_k».proof.Proof.Attention.Spec

@[expose] public section

noncomputable section

namespace Cert.Attention

open Idealize.ShloMosaic Cert.Product

variable {R c h C H T : ℕ} (hb : h * 64 = c) (hH : H * 64 = C) (hc : T * c = C) (hh : T * h = H)

/-- Block `t` of the array's columns holds block `t` of its heads. -/
theorem lane_blocks (t : Fin T) (a : Fin h) (e : Fin 64) : lane hc t (lane hb a e) = lane hH (lane hh t a) e := by
  refine Fin.ext ?_
  show t.val * c + (a.val * 64 + e.val) = (t.val * h + a.val) * 64 + e.val
  rw [Nat.add_mul, Nat.mul_assoc, hb, Nat.add_assoc]

theorem head_blocks (t : Fin T) (k : Fin c) : head hH (lane hc t k) = lane hh t (head hb k) := by
  refine Fin.ext ?_
  show (t.val * c + k.val) / 64 = t.val * h + k.val / 64
  have : t.val * c = t.val * h * 64 := by rw [← hb, Nat.mul_assoc]
  omega

section Cuts
variable (t : Fin T) {x0 x1 x2 x3 : Mat R c} {X0 X1 X2 X3 : Mat R C} (L D : Mat R H)

/-- A block of an array's columns, -/
def IsCut (x : Mat R c) (X : Mat R C) : Prop := ∀ r k, x (ix2 r k) = X (ix2 r (lane hc t k))

/-- and of the heads. -/
def headsOf : Mat R h := fun i => L (ix2 (i 0) (lane hh t (i 1)))

variable (h0 : IsCut hc t x0 X0) (h1 : IsCut hc t x1 X1) (h2 : IsCut hc t x2 X2) (h3 : IsCut hc t x3 X3)
include h0 h1

theorem dot_cut (n j : Fin R) (a : Fin h) : dot hb x0 x1 n j a = dot hH X0 X1 n j (lane hh t a) := by
  unfold dot
  refine Finset.sum_congr rfl fun e _ => ?_
  rw [h0, h1, lane_blocks hb hH hc hh]

theorem weight_cut (n j : Fin R) (a : Fin h) : weight hb x0 x1 (headsOf hh t L) n j a = weight hH X0 X1 L n j (lane hh t a) := by
  unfold weight
  rw [dot_cut hb hH hc hh t h0 h1]
  rfl

include h3

theorem dv_cut (r : Fin R) (k : Fin c) : dv hb x0 x1 x3 (headsOf hh t L) (ix2 r k) = dv hH X0 X1 X3 L (ix2 r (lane hc t k)) := by
  refine Finset.sum_congr rfl fun n _ => ?_
  show weight hb x0 x1 (headsOf hh t L) n r (head hb k) * x3 (ix2 n k)
    = weight hH X0 X1 L n r (head hH (lane hc t k)) * X3 (ix2 n (lane hc t k))
  rw [weight_cut hb hH hc hh t L h0 h1, h3, head_blocks hb hH hc hh]

include h2

theorem pull_cut (n j : Fin R) (a : Fin h) :
    pull hb x0 x1 x2 x3 (headsOf hh t L) (headsOf hh t D) n j a = pull hH X0 X1 X2 X3 L D n j (lane hh t a) := by
  unfold pull
  rw [weight_cut hb hH hc hh t L h0 h1, dot_cut hb hH hc hh t h3 h2]
  rfl

theorem dq_cut (r : Fin R) (k : Fin c) :
    dq hb x0 x1 x2 x3 (headsOf hh t L) (headsOf hh t D) (ix2 r k) = dq hH X0 X1 X2 X3 L D (ix2 r (lane hc t k)) := by
  refine Finset.sum_congr rfl fun j _ => ?_
  show pull hb x0 x1 x2 x3 (headsOf hh t L) (headsOf hh t D) r j (head hb k) * x1 (ix2 j k)
    = pull hH X0 X1 X2 X3 L D r j (head hH (lane hc t k)) * X1 (ix2 j (lane hc t k))
  rw [pull_cut hb hH hc hh t L D h0 h1 h2 h3, h1, head_blocks hb hH hc hh]

theorem dk_cut (r : Fin R) (k : Fin c) :
    dk hb x0 x1 x2 x3 (headsOf hh t L) (headsOf hh t D) (ix2 r k) = dk hH X0 X1 X2 X3 L D (ix2 r (lane hc t k)) := by
  refine Finset.sum_congr rfl fun n _ => ?_
  show pull hb x0 x1 x2 x3 (headsOf hh t L) (headsOf hh t D) n r (head hb k) * x0 (ix2 n k)
    = pull hH X0 X1 X2 X3 L D n r (head hH (lane hc t k)) * X0 (ix2 n (lane hc t k))
  rw [pull_cut hb hH hc hh t L D h0 h1 h2 h3, h0, head_blocks hb hH hc hh]

end Cuts

/-- An index of a block, in the array; and every index lies in the block of its column. -/
theorem at_block {α : Type} (t : Fin T) (X : (⟨2, ![R, C]⟩ : Shape).Idx → α) {i : (⟨2, ![R, C]⟩ : Shape).Idx} {a b : ℕ}
    (ha : a = 0) (hb : b = t.val) (r : Fin R) (k : Fin c) (h0 : (i 0).val = a * R + 1 * r.val)
    (h1 : (i 1).val = b * c + 1 * k.val) : X i = X (ix2 r (lane hc t k)) := by
  refine entry2 X ?_ ?_
  · show (i 0).val = r.val
    rw [h0, ha]; omega
  · show (i 1).val = t.val * c + k.val
    rw [h1, hb]; omega

theorem in_block (hp : 0 < c) (i : (⟨2, ![R, C]⟩ : Shape).Idx) {t a b : ℕ} (ht : t = (i 1 : ℕ) / c) (ha : a = 0) (hb : b = t) :
    (a * R ≤ (i 0 : ℕ) ∧ (i 0 : ℕ) < a * R + R) ∧ (b * c ≤ (i 1 : ℕ) ∧ (i 1 : ℕ) < b * c + c) := by
  have h0 : (i 0 : ℕ) < R := (i 0).isLt
  have hm := Nat.div_add_mod (i 1 : ℕ) c
  have hl := Nat.mod_lt (i 1 : ℕ) hp
  subst ha hb ht
  rw [Nat.mul_comm] at hm
  omega

end Cert.Attention
end
-- ==== Proof.Attention.Reference16.lean ====
/-
  The reference's three gradients at 256 rows, read entry by entry.
-/
module

public import proofs.«01_k».proof.Defs
public import proofs.«01_k».proof.Proof.Attention.Spec
public import proofs.«01_k».proof.Proof.Gen.Attn16RefIdeal.Run
public import proofs.«01_k».proof.Proof.Gen.Attn16RefIdeal.Read
public import Idealize.ShloMosaic.Lib.Tactic
public import Idealize.ShloMosaic.Lib.KernelVsHost

@[expose] public section

set_option maxRecDepth 16384

noncomputable section

namespace Cert.Attn16RefIdeal.Hand

open Cert.Attn16RefIdeal Cert.Attn16RefIdeal.Read Idealize.ShloMosaic Idealize.ShloMosaic.TcCoe Cert.Product Cert.Attention

theorem heads : 256 * 64 = 16384 := rfl

variable (q k v dy : Mat 256 16384) (lse dd : Mat 256 256)

theorem weight_at (a : Fin 256) (n j : Fin 256) :
    val_main_v23 (F := Ideal) q k lse (ix3 a n j) = weight heads q k lse n j a := by
  unfold weight dot
  generalize hR : (if near n.val j.val then _ else _) = rhs
  pointwise [val_main_v23, val_main_v22, val_main_v18_0, val_main_v18_1, val_main_v17, val_main_v16, val_main_v15, val_main_v14,
    val_main_v13, val_main_v12, val_main_v11, val_main_v10, val_main_v9, val_main_v8, val_main_v7, val_main_v6, val_main_v1,
    val_main_v3, val_main_v0, val_main_v2, val_main_call0_v2, val_main_call0_v0, val_main_v21, val_main_v20, val_main_v19, val_main_c, val_main_c_0,
    val_main_cst]
  rw [near_bit (by decide), select_bit, ← hR]
  split
  · rfl
  · refine Eq.trans ?_ (exp_mask (lse (ix2 n a)))
    refine congrArg (fun z : EReal => Ideal.exp (z - lse (ix2 n a))) ?_
    show Ideal.ofBits .f32 4286578688#32 = ⊥
    simp [Ideal.ofBits, Ideal.ieee]

theorem pull_at (a : Fin 256) (n j : Fin 256) :
    val_main_v38 (F := Ideal) q k v dy lse dd (ix3 a n j) = pull heads q k v dy lse dd n j a := by
  generalize hR : pull heads q k v dy lse dd n j a = rhs
  pointwise [val_main_v38, val_main_v37, val_main_v34, val_main_v33, val_main_v32, val_main_v31, val_main_v30, val_main_v29,
    val_main_v28, val_main_v27, val_main_v5, val_main_v4, val_main_v18_1, val_main_v17, val_main_v16, val_main_v15, val_main_v14,
    val_main_v13, val_main_v12, val_main_v11, val_main_v10, val_main_v9, val_main_v8, val_main_v7, val_main_call1_v0,
    val_main_call1_cst, val_main_c, val_main_c_0]
  rw [near_bit (by decide), select_bit, ← hR]
  split
  · rw [weight_at, mul_comm]
    unfold pull dot
    refine congrArg _ ?_
    exact (add_comm _ _).trans (sub_eq_add_neg _ _).symm
  · rename_i hf
    rw [pull_far heads _ _ _ _ _ _ _ _ _ hf]

theorem dq_eq : val_main_v44 (F := Ideal) q k v dy lse dd = dq heads q k v dy lse dd := by
  funext i
  obtain ⟨n, l, rfl⟩ : ∃ (n : Fin 256) (l : Fin 16384), i = ix2 n l := ⟨i 0, i 1, eq_ix2 i⟩
  generalize hR : dq heads q k v dy lse dd (ix2 n l) = rhs
  pointwise [val_main_v44, val_main_v43, val_main_v42, val_main_v41, val_main_v3, val_main_v2]
  rw [← hR]
  show _ = ∑ j : Fin 256, pull heads q k v dy lse dd n j (head heads l) * k (ix2 j l)
  exact Finset.sum_congr rfl fun j _ => congrArg (· * k (ix2 j l)) (pull_at q k v dy lse dd (head heads l) n j)

theorem dk_eq : val_main_v46 (F := Ideal) q k v dy lse dd = dk heads q k v dy lse dd := by
  funext i
  obtain ⟨n, l, rfl⟩ : ∃ (n : Fin 256) (l : Fin 16384), i = ix2 n l := ⟨i 0, i 1, eq_ix2 i⟩
  generalize hR : dk heads q k v dy lse dd (ix2 n l) = rhs
  pointwise [val_main_v46, val_main_v45, val_main_v40, val_main_v39, val_main_v1, val_main_v0]
  rw [← hR]
  show _ = ∑ j : Fin 256, pull heads q k v dy lse dd j n (head heads l) * q (ix2 j l)
  exact Finset.sum_congr rfl fun j _ => congrArg (· * q (ix2 j l)) (pull_at q k v dy lse dd (head heads l) j n)

theorem dv_eq : val_main_v48 (F := Ideal) q k dy lse = dv heads q k dy lse := by
  funext i
  obtain ⟨n, l, rfl⟩ : ∃ (n : Fin 256) (l : Fin 16384), i = ix2 n l := ⟨i 0, i 1, eq_ix2 i⟩
  generalize hR : dv heads q k dy lse (ix2 n l) = rhs
  pointwise [val_main_v48, val_main_v47, val_main_v36, val_main_v35, val_main_v32, val_main_v28, val_main_v27]
  rw [← hR]
  show _ = ∑ j : Fin 256, weight heads q k lse j n (head heads l) * dy (ix2 j l)
  exact Finset.sum_congr rfl fun j _ => (mul_comm _ _).trans (congrArg (· * dy (ix2 j l)) (weight_at q k lse (head heads l) j n))

end Cert.Attn16RefIdeal.Hand
end
-- ==== Proof.Attention.Attn16.lean ====
/-
  The attention's gradient at 256 rows: the kernel's eight blocks of columns, the three arrays they make, and
  the reference's gradients.
-/
module

public import proofs.«01_k».proof.Proof.Attention.Block16
public import proofs.«01_k».proof.Proof.Attention.Cuts
public import proofs.«01_k».proof.Proof.Attention.Reference16
public import proofs.«01_k».proof.Proof.Gen.Attn16.Frame
public import Idealize.ShloMosaic.Lib.StableHlo.ReadAt

@[expose] public section

set_option maxRecDepth 16384

noncomputable section

namespace Cert.Attn16Ideal.Hand

open Cert.Attn16Ideal Cert.Attn16Ideal.Gen Idealize.ShloMosaic Idealize.ShloMosaic.TcCoe Idealize.SL.Sem Cert.Product Cert.Attention

/-- The array has 256 heads, in eight blocks of 32. -/
theorem heads : 256 * 64 = 16384 := rfl
theorem blocks : 8 * 2048 = 16384 := rfl
theorem blocks' : 8 * 32 = 256 := rfl

variable (m : (ℓ : Loc nD τ sig) → Buf (Elt Ideal) ℓ) (c : Dev nD)

/-- The kernel's six arguments. -/
abbrev argQ : Mat 256 16384 := m ((c : Thread nD τ).loc main_arg0)
abbrev argK : Mat 256 16384 := m ((c : Thread nD τ).loc main_arg1)
abbrev argV : Mat 256 16384 := m ((c : Thread nD τ).loc main_arg2)
abbrev argY : Mat 256 16384 := m ((c : Thread nD τ).loc main_arg3)
abbrev argL : Mat 256 256 := m ((c : Thread nD τ).loc main_arg4)
abbrev argD : Mat 256 256 := m ((c : Thread nD τ).loc main_arg5)

/-- The host repeats a head's value over its 64 columns before the kernel runs. -/
theorem V_main_v1_at (n : Fin 256) (a : Fin 256) (e : Fin 64) : V m c main_v1 (ix2 n (lane heads a e)) = argL m c (ix2 n a) := by
  unfold V
  after_reads_at
  exact entry2 (argL m c) rfl (congrArg Fin.val (head_lane heads a e))

theorem V_main_v3_at (n : Fin 256) (a : Fin 256) (e : Fin 64) : V m c main_v3 (ix2 n (lane heads a e)) = argD m c (ix2 n a) := by
  unfold V
  after_reads_at
  exact entry2 (argD m c) rfl (congrArg Fin.val (head_lane heads a e))

/-- Every window's block at point `t`: all rows, block `t` of the columns. -/
theorem index_at : ∀ t : Fin cfg0.N,
    (win0_0.index t 0 = 0 ∧ win0_0.index t 1 = t.val) ∧ (win0_1.index t 0 = 0 ∧ win0_1.index t 1 = t.val)
    ∧ (win0_2.index t 0 = 0 ∧ win0_2.index t 1 = t.val) ∧ (win0_3.index t 0 = 0 ∧ win0_3.index t 1 = t.val)
    ∧ (win0_4.index t 0 = 0 ∧ win0_4.index t 1 = t.val) ∧ (win0_5.index t 0 = 0 ∧ win0_5.index t 1 = t.val)
    ∧ (win0_6.index t 0 = 0 ∧ win0_6.index t 1 = t.val) ∧ (win0_7.index t 0 = 0 ∧ win0_7.index t 1 = t.val)
    ∧ (win0_8.index t 0 = 0 ∧ win0_8.index t 1 = t.val) :=
  (by decide +kernel : ∀ t : Fin grid0.N,
    (win0_0.index t 0 = 0 ∧ win0_0.index t 1 = t.val) ∧ (win0_1.index t 0 = 0 ∧ win0_1.index t 1 = t.val)
    ∧ (win0_2.index t 0 = 0 ∧ win0_2.index t 1 = t.val) ∧ (win0_3.index t 0 = 0 ∧ win0_3.index t 1 = t.val)
    ∧ (win0_4.index t 0 = 0 ∧ win0_4.index t 1 = t.val) ∧ (win0_5.index t 0 = 0 ∧ win0_5.index t 1 = t.val)
    ∧ (win0_6.index t 0 = 0 ∧ win0_6.index t 1 = t.val) ∧ (win0_7.index t 0 = 0 ∧ win0_7.index t 1 = t.val)
    ∧ (win0_8.index t 0 = 0 ∧ win0_8.index t 1 = t.val))

abbrev pt (t : Fin cfg0.N) : Fin 8 := ⟨t.val, lt_of_lt_of_eq t.isLt N_0⟩

/-- The four input blocks, -/
theorem cut0 (t : Fin cfg0.N) : IsCut blocks (pt t) (iblk m c 0 t) (argQ m c) := fun r k => by
  obtain ⟨e0, e1⟩ := (index_at t).1
  unfold iblk
  rw [View.read_apply]
  exact at_block blocks (pt t) (argQ m c) e0 e1 r k rfl rfl

theorem cut1 (t : Fin cfg0.N) : IsCut blocks (pt t) (iblk m c 1 t) (argK m c) := fun r k => by
  obtain ⟨e0, e1⟩ := (index_at t).2.1
  unfold iblk
  rw [View.read_apply]
  exact at_block blocks (pt t) (argK m c) e0 e1 r k rfl rfl

theorem cut2 (t : Fin cfg0.N) : IsCut blocks (pt t) (iblk m c 2 t) (argV m c) := fun r k => by
  obtain ⟨e0, e1⟩ := (index_at t).2.2.1
  unfold iblk
  rw [View.read_apply]
  exact at_block blocks (pt t) (argV m c) e0 e1 r k rfl rfl

theorem cut3 (t : Fin cfg0.N) : IsCut blocks (pt t) (iblk m c 3 t) (argY m c) := fun r k => by
  obtain ⟨e0, e1⟩ := (index_at t).2.2.2.1
  unfold iblk
  rw [View.read_apply]
  exact at_block blocks (pt t) (argY m c) e0 e1 r k rfl rfl

/-- and the two of the repeated values. -/
theorem wide4 (t : Fin cfg0.N) : Wide z (iblk m c 4 t) (headsOf blocks' (pt t) (argL m c)) := fun n a e => by
  obtain ⟨e0, e1⟩ := (index_at t).2.2.2.2.1
  refine Eq.trans ?_ (V_main_v1_at m c n (lane blocks' (pt t) a) e)
  rw [← lane_blocks z.wide heads blocks blocks']
  unfold iblk
  rw [View.read_apply]
  exact at_block blocks (pt t) (V m c main_v1) e0 e1 n (lane z.wide a e) rfl rfl

theorem wide5 (t : Fin cfg0.N) : Wide z (iblk m c 5 t) (headsOf blocks' (pt t) (argD m c)) := fun n a e => by
  obtain ⟨e0, e1⟩ := (index_at t).2.2.2.2.2.1
  refine Eq.trans ?_ (V_main_v3_at m c n (lane blocks' (pt t) a) e)
  rw [← lane_blocks z.wide heads blocks blocks']
  unfold iblk
  rw [View.read_apply]
  exact at_block blocks (pt t) (V m c main_v3) e0 e1 n (lane z.wide a e) rfl rfl

/-- The point whose block holds a column. -/
theorem point_of (i : S256x16384.Idx) : ∃ t : Fin cfg0.N, t.val = (i 1 : ℕ) / 2048 := by
  have h1 : (i 1 : ℕ) < 16384 := (i 1).isLt
  exact ⟨⟨(i 1 : ℕ) / 2048, by rw [show cfg0.N = 8 from N_0]; omega⟩, rfl⟩

/-- The arrays the kernel leaves. -/
theorem final6 : (dats m 0 c).arrAt 6 cfg0.N = dq heads (argQ m c) (argK m c) (argV m c) (argY m c) (argL m c) (argD m c) := by
  refine (dats m 0 c).arrAt_eq_of_cover 6 (dq heads (argQ m c) (argK m c) (argV m c) (argY m c) (argL m c) (argD m c)) (fun t _ => ?_) fun i => ?_
  · obtain ⟨e0, e1⟩ := (index_at t).2.2.2.2.2.2.1
    rw [Value.flushed6_A, dq_block (hl := wide4 m c t) (hd' := wide5 m c t)]
    funext x
    obtain ⟨r, k, rfl⟩ : ∃ (r : Fin 256) (k : Fin 2048), x = ix2 r k := ⟨x 0, x 1, eq_ix2 x⟩
    refine (dq_cut z.wide heads blocks blocks' (pt t) (argL m c) (argD m c) (cut0 m c t) (cut1 m c t) (cut2 m c t) (cut3 m c t) r k).trans ?_
    rw [View.read_apply]
    exact (at_block blocks (pt t) (dq heads (argQ m c) (argK m c) (argV m c) (argY m c) (argL m c) (argD m c)) e0 e1 r k rfl rfl).symm
  · obtain ⟨t, ht⟩ := point_of i
    obtain ⟨e0, e1⟩ := (index_at t).2.2.2.2.2.2.1
    refine ⟨t, flush0_6 t, ?_⟩
    show i ∈ ((View.whole main_v4_0).slice (win0_6.rect t)).set
    rw [View.set_slice_whole, Rect.mem_set_unit]
    intro a
    match a with
    | ⟨0, _⟩ => exact (in_block (c := 2048) (by decide) i ht e0 e1).1
    | ⟨1, _⟩ => exact (in_block (c := 2048) (by decide) i ht e0 e1).2

theorem final7 : (dats m 0 c).arrAt 7 cfg0.N = dk heads (argQ m c) (argK m c) (argV m c) (argY m c) (argL m c) (argD m c) := by
  refine (dats m 0 c).arrAt_eq_of_cover 7 (dk heads (argQ m c) (argK m c) (argV m c) (argY m c) (argL m c) (argD m c)) (fun t _ => ?_) fun i => ?_
  · obtain ⟨e0, e1⟩ := (index_at t).2.2.2.2.2.2.2.1
    rw [Value.flushed7_A, dk_block (hl := wide4 m c t) (hd' := wide5 m c t)]
    funext x
    obtain ⟨r, k, rfl⟩ : ∃ (r : Fin 256) (k : Fin 2048), x = ix2 r k := ⟨x 0, x 1, eq_ix2 x⟩
    refine (dk_cut z.wide heads blocks blocks' (pt t) (argL m c) (argD m c) (cut0 m c t) (cut1 m c t) (cut2 m c t) (cut3 m c t) r k).trans ?_
    rw [View.read_apply]
    exact (at_block blocks (pt t) (dk heads (argQ m c) (argK m c) (argV m c) (argY m c) (argL m c) (argD m c)) e0 e1 r k rfl rfl).symm
  · obtain ⟨t, ht⟩ := point_of i
    obtain ⟨e0, e1⟩ := (index_at t).2.2.2.2.2.2.2.1
    refine ⟨t, flush0_7 t, ?_⟩
    show i ∈ ((View.whole main_v4_1).slice (win0_7.rect t)).set
    rw [View.set_slice_whole, Rect.mem_set_unit]
    intro a
    match a with
    | ⟨0, _⟩ => exact (in_block (c := 2048) (by decide) i ht e0 e1).1
    | ⟨1, _⟩ => exact (in_block (c := 2048) (by decide) i ht e0 e1).2

theorem final8 : (dats m 0 c).arrAt 8 cfg0.N = dv heads (argQ m c) (argK m c) (argY m c) (argL m c) := by
  refine (dats m 0 c).arrAt_eq_of_cover 8 (dv heads (argQ m c) (argK m c) (argY m c) (argL m c)) (fun t _ => ?_) fun i => ?_
  · obtain ⟨e0, e1⟩ := (index_at t).2.2.2.2.2.2.2.2
    rw [Value.flushed8_A, dv_block (hl := wide4 m c t)]
    funext x
    obtain ⟨r, k, rfl⟩ : ∃ (r : Fin 256) (k : Fin 2048), x = ix2 r k := ⟨x 0, x 1, eq_ix2 x⟩
    refine (dv_cut z.wide heads blocks blocks' (pt t) (argL m c) (cut0 m c t) (cut1 m c t) (cut3 m c t) r k).trans ?_
    rw [View.read_apply]
    exact (at_block blocks (pt t) (dv heads (argQ m c) (argK m c) (argY m c) (argL m c)) e0 e1 r k rfl rfl).symm
  · obtain ⟨t, ht⟩ := point_of i
    obtain ⟨e0, e1⟩ := (index_at t).2.2.2.2.2.2.2.2
    refine ⟨t, flush0_8 t, ?_⟩
    show i ∈ ((View.whole main_v4_2).slice (win0_8.rect t)).set
    rw [View.set_slice_whole, Rect.mem_set_unit]
    intro a
    match a with
    | ⟨0, _⟩ => exact (in_block (c := 2048) (by decide) i ht e0 e1).1
    | ⟨1, _⟩ => exact (in_block (c := 2048) (by decide) i ht e0 e1).2

end Cert.Attn16Ideal.Hand

namespace Cert.Attn16Claims

open Idealize.ShloMosaic Idealize.ShloMosaic.TcCoe Idealize.SL.Sem Attn16Ideal.Hand Attention

instance : Cert.Attn16.Facts := Cert.Attn16.Gen.facts
instance : Cert.Attn16Ideal.Facts := Cert.Attn16Ideal.Gen.facts
instance : Cert.Attn16RefIdeal.Facts := Cert.Attn16RefIdeal.Gen.facts

theorem frame : Cert.quiescent_Attn16 := fun m g _ => Cert.Attn16.Gen.frame m g

theorem frame_ideal : Cert.quiescent_Attn16Ideal := fun m g _ => Cert.Attn16Ideal.Gen.frame m g

/-- The host program has no semaphore, so its counters cannot be anything but zero. -/
theorem frame_reference : Cert.quiescent_Attn16RefIdeal := fun m g _ =>
  (θ_run Cert.Attn16RefIdeal.defs _ _).mono
    (fun r h => ⟨fun c => (h c).2.2.2, sem_eq_zero_of_no_sems (by decide) r.2⟩)
    (Cert.Attn16RefIdeal.Value.run (F := Ideal) m g)

/-- The mask's number stands for minus infinity. -/
theorem named : Cert.preserves_Attn16_Attn16Ideal :=
  IdealRules.named_const.statement Cert.Attn16Ideal.κ "mask" .f32 0xF149F2CA#32 ⊥ rfl

theorem value : Cert.algebraic_Attn16Ideal_Attn16RefIdeal := fun m g m' g' _ hargs =>
  ⟨fun c => dq heads (argQ m c) (argK m c) (argV m c) (argY m c) (argL m c) (argD m c),
   fun c => dk heads (argQ m c) (argK m c) (argV m c) (argY m c) (argL m c) (argD m c),
   fun c => dv heads (argQ m c) (argK m c) (argY m c) (argL m c),
   (θ_run Cert.Attn16Ideal.defs _ _).mono
    (fun _ h c => ⟨(h c).1.trans (final6 m c), (h c).2.1.trans (final7 m c), (h c).2.2.1.trans (final8 m c), (h c).2.2.2⟩)
    (Cert.Attn16Ideal.Value.run_blocks (F := Ideal) m g),
   (θ_run Cert.Attn16RefIdeal.defs _ _).mono
    (fun _ h c => by
      obtain ⟨h0, h1, h2, h3, h4, h5⟩ := hargs c
      refine ⟨(h c).1.trans ?_, (h c).2.1.trans ?_, (h c).2.2.1.trans ?_, (h c).2.2.2⟩
      · refine (Attn16RefIdeal.Read.val_main_v44_eq _ _ _ _ _ _).trans ((Attn16RefIdeal.Hand.dq_eq _ _ _ _ _ _).trans ?_)
        rw [h0, h1, h2, h3, h4, h5]
      · refine (Attn16RefIdeal.Read.val_main_v46_eq _ _ _ _ _ _).trans ((Attn16RefIdeal.Hand.dk_eq _ _ _ _ _ _).trans ?_)
        rw [h0, h1, h2, h3, h4, h5]
      · refine (Attn16RefIdeal.Read.val_main_v48_eq _ _ _ _).trans ((Attn16RefIdeal.Hand.dv_eq _ _ _ _).trans ?_)
        rw [h0, h1, h3, h4])
    (Cert.Attn16RefIdeal.Value.run (F := Ideal) m' g')⟩

end Cert.Attn16Claims

end
-- ==== Proof.Attention.Block4.lean ====
/-
  One block of the attention's columns at 1024 rows: the stores of the body, and what they leave in the three outputs.
-/
module

public import proofs.«01_k».proof.Proof.Attention.Tiles
public import proofs.«01_k».proof.Proof.Gen.Attn4Ideal.Frame
public import proofs.«01_k».proof.Proof.Gen.Attn4Ideal.Value

@[expose] public section

set_option maxRecDepth 65536

noncomputable section

namespace Cert.Attn4Ideal.Hand

open Cert.Attn4Ideal Cert.Attn4Ideal.Gen Idealize.ShloMosaic Idealize.ShloMosaic.TcCoe Cert.Product Cert.Attention

/-- 8 blocks of 128 rows, 4 pairs of heads. -/
abbrev z : Sizes := ⟨7, 4, 1024, 512, 8, rfl, rfl, rfl⟩

/-- The later blocks' tiles, in the order the body stores them in, the last one first. -/
theorem laters_eq : laters z = [(6, 3), (6, 2), (6, 1), (6, 0), (5, 3), (5, 2), (5, 1), (5, 0), (4, 3), (4, 2), (4, 1), (4, 0), (3, 3), (3, 2), (3, 1), (3, 0),
    (2, 3), (2, 2), (2, 1), (2, 0), (1, 3), (1, 2), (1, 1), (1, 0), (0, 3), (0, 2), (0, 1), (0, 0)] := by
  decide

section Run
variable (c : Dev nD) (i : grid0.Coords)
  (arg1 : Memref sig .tc .vmem S1024x512 .bf16) (harg1 : arg1.IsWhole) (arg2 : Memref sig .tc .vmem S1024x512 .bf16) (harg2 : arg2.IsWhole)
  (arg3 : Memref sig .tc .vmem S1024x512 .bf16) (harg3 : arg3.IsWhole) (arg4 : Memref sig .tc .vmem S1024x512 .bf16) (harg4 : arg4.IsWhole)
  (arg5 : Memref sig .tc .vmem S1024x512 .f32) (harg5 : arg5.IsWhole) (arg6 : Memref sig .tc .vmem S1024x512 .f32) (harg6 : arg6.IsWhole)
  (arg7 : Memref sig .tc .vmem S1024x512 .bf16) (harg7 : arg7.IsWhole) (arg8 : Memref sig .tc .vmem S1024x512 .bf16) (harg8 : arg8.IsWhole)
  (arg9 : Memref sig .tc .vmem S1024x512 .bf16) (harg9 : arg9.IsWhole) (arg10 : Memref sig .tc .vmem S1024x512 .f32) (harg10 : arg10.IsWhole)
  (arg11 : Memref sig .tc .vmem S1024x512 .f32) (harg11 : arg11.IsWhole)
  (x0 x1 x2 x3 : Vec Ideal S1024x512 .bf16) (x4 x5 : Vec Ideal S1024x512 .f32)

/-- The load the run makes. -/
abbrev loads {e : EltTy} (M : Memref sig .tc .vmem S1024x512 e) (h : M.IsWhole) (x : S1024x512.Idx → Elt Ideal e) : Load z e :=
  fun r => View.readAt (Elt Ideal) M.view r.toLoadRect (h.unread x)

omit c i in
theorem loads_eq {e : EltTy} (M : Memref sig .tc .vmem S1024x512 e) (h : M.IsWhole) (x : Vec Ideal S1024x512 e) : loads M h x = cut (z := z) x := by
  funext r
  simp only [loads, cut, View.readAt_eq_ld, h.read_unread]

theorem dq_run :
    (kernelRun0_A (F := Ideal) c i arg1 harg1 arg2 harg2 arg3 harg3 arg4 harg4 arg5 harg5 arg6 harg6 arg7 harg7 arg8 harg8 arg9 harg9
      arg10 harg10 arg11 harg11 x0 x1 x2 x3 x4 x5).1
      = dqPieces z (loads arg1 harg1 x0) (loads arg2 harg2 x1) (loads arg3 harg3 x2) (loads arg4 harg4 x3) (loads arg5 harg5 x4)
          (loads arg6 harg6 x5) := by
  unfold kernelRun0_A
  dsimp only
  rfl

theorem dk_run :
    (kernelRun0_A (F := Ideal) c i arg1 harg1 arg2 harg2 arg3 harg3 arg4 harg4 arg5 harg5 arg6 harg6 arg7 harg7 arg8 harg8 arg9 harg9
      arg10 harg10 arg11 harg11 x0 x1 x2 x3 x4 x5).2.1
      = [⟨(Rect.unit ![0, 0] S1024x512.size inb_S1024x512_S1024x512_0_0), k0_pay5 (arg10.view.readCov (sums (z := z) arg10.view
          (firstDk z (loads arg1 harg1 x0) (loads arg2 harg2 x1) (loads arg3 harg3 x2) (loads arg4 harg4 x3) (loads arg5 harg5 x4)
            (loads arg6 harg6 x5))
          (laterDk z (loads arg1 harg1 x0) (loads arg2 harg2 x1) (loads arg3 harg3 x2) (loads arg4 harg4 x3) (loads arg5 harg5 x4)
            (loads arg6 harg6 x5)) (laters z))
          (Rect.unit ![0, 0] S1024x512.size inb_S1024x512_S1024x512_0_0).toLoadRect)⟩] := by
  unfold kernelRun0_A
  dsimp only
  refine congrArg (fun x => [(⟨(Rect.unit ![0, 0] S1024x512.size inb_S1024x512_S1024x512_0_0), k0_pay5 (F := Ideal) (arg10.view.readCov x (Rect.unit ![0, 0] S1024x512.size inb_S1024x512_S1024x512_0_0).toLoadRect)⟩ : View.Piece (Elt Ideal) z.S .bf16)]) (Eq.symm ?_)
  rw [laters_eq]
  iterate 28
    refine sums_cons _ _ _ _ _ ?_ ?_ ?_
    rotate_left
    rfl
    rfl
  rfl

theorem dv_run :
    (kernelRun0_A (F := Ideal) c i arg1 harg1 arg2 harg2 arg3 harg3 arg4 harg4 arg5 harg5 arg6 harg6 arg7 harg7 arg8 harg8 arg9 harg9
      arg10 harg10 arg11 harg11 x0 x1 x2 x3 x4 x5).2.2.1
      = [⟨(Rect.unit ![0, 0] S1024x512.size inb_S1024x512_S1024x512_0_0), k0_pay6 (arg11.view.readCov (sums (z := z) arg11.view
          (firstDv z (loads arg1 harg1 x0) (loads arg2 harg2 x1) (loads arg4 harg4 x3) (loads arg5 harg5 x4))
          (laterDv z (loads arg1 harg1 x0) (loads arg2 harg2 x1) (loads arg4 harg4 x3) (loads arg5 harg5 x4)) (laters z))
          (Rect.unit ![0, 0] S1024x512.size inb_S1024x512_S1024x512_0_0).toLoadRect)⟩] := by
  unfold kernelRun0_A
  dsimp only
  refine congrArg (fun x => [(⟨(Rect.unit ![0, 0] S1024x512.size inb_S1024x512_S1024x512_0_0), k0_pay6 (F := Ideal) (arg11.view.readCov x (Rect.unit ![0, 0] S1024x512.size inb_S1024x512_S1024x512_0_0).toLoadRect)⟩ : View.Piece (Elt Ideal) z.S .bf16)]) (Eq.symm ?_)
  rw [laters_eq]
  iterate 28
    refine sums_cons _ _ _ _ _ ?_ ?_ ?_
    rotate_left
    rfl
    rfl
  rfl

variable (ℓ δ : Mat 1024 8) (hl : Wide z x4 ℓ) (hd' : Wide z x5 δ)
include hl hd'

/-- The block's gradient of the queries, -/
theorem dq_block :
    out0_A_6 (F := Ideal) c i arg1 harg1 arg2 harg2 arg3 harg3 arg4 harg4 arg5 harg5 arg6 harg6 arg7 harg7 arg8 harg8 arg9 harg9
      arg10 harg10 arg11 harg11 x0 x1 x2 x3 x4 x5 = dq z.wide x0 x1 x2 x3 ℓ δ := by
  unfold out0_A_6
  rw [View.read_writes_junk_eq_canon, dq_run]
  simp only [loads_eq]
  exact dq_canon (z := z) x0 x1 x2 x3 x4 x5 ℓ δ hl hd'

/-- of the keys, -/
theorem dk_block :
    out0_A_7 (F := Ideal) c i arg1 harg1 arg2 harg2 arg3 harg3 arg4 harg4 arg5 harg5 arg6 harg6 arg7 harg7 arg8 harg8 arg9 harg9
      arg10 harg10 arg11 harg11 x0 x1 x2 x3 x4 x5 = dk z.wide x0 x1 x2 x3 ℓ δ := by
  unfold out0_A_7
  rw [View.read_writes_junk_eq_canon, dk_run, View.canon_unit_zero Cert.Attention.hz2, View.readCov_eq_canon']
  simp only [loads_eq]
  funext y
  obtain ⟨r, k, rfl⟩ : ∃ (r : Fin 1024) (k : Fin 512), y = ix2 r k := ⟨y 0, y 1, eq_ix2 y⟩
  exact (congrArg (View.canon _) (whole_idx z _ r k)).trans (dk_canon (z := z) x0 x1 x2 x3 x4 x5 ℓ δ hl hd' arg10.view r k)

omit hd'

/-- and of the values. -/
theorem dv_block :
    out0_A_8 (F := Ideal) c i arg1 harg1 arg2 harg2 arg3 harg3 arg4 harg4 arg5 harg5 arg6 harg6 arg7 harg7 arg8 harg8 arg9 harg9
      arg10 harg10 arg11 harg11 x0 x1 x2 x3 x4 x5 = dv z.wide x0 x1 x3 ℓ := by
  unfold out0_A_8
  rw [View.read_writes_junk_eq_canon, dv_run, View.canon_unit_zero Cert.Attention.hz2, View.readCov_eq_canon']
  simp only [loads_eq]
  funext y
  obtain ⟨r, k, rfl⟩ : ∃ (r : Fin 1024) (k : Fin 512), y = ix2 r k := ⟨y 0, y 1, eq_ix2 y⟩
  exact (congrArg (View.canon _) (whole_idx z _ r k)).trans (dv_canon (z := z) x0 x1 x3 x4 ℓ hl arg11.view r k)
end Run

end Cert.Attn4Ideal.Hand
end
-- ==== Proof.Attention.Reference4.lean ====
/-
  The reference's three gradients at 1024 rows, read entry by entry.
-/
module

public import proofs.«01_k».proof.Defs
public import proofs.«01_k».proof.Proof.Attention.Spec
public import proofs.«01_k».proof.Proof.Gen.Attn4RefIdeal.Run
public import proofs.«01_k».proof.Proof.Gen.Attn4RefIdeal.Read
public import Idealize.ShloMosaic.Lib.Tactic
public import Idealize.ShloMosaic.Lib.KernelVsHost

@[expose] public section

set_option maxRecDepth 16384

noncomputable section

namespace Cert.Attn4RefIdeal.Hand

open Cert.Attn4RefIdeal Cert.Attn4RefIdeal.Read Idealize.ShloMosaic Idealize.ShloMosaic.TcCoe Cert.Product Cert.Attention

theorem heads : 64 * 64 = 4096 := rfl

variable (q k v dy : Mat 1024 4096) (lse dd : Mat 1024 64)

theorem weight_at (a : Fin 64) (n j : Fin 1024) :
    val_main_v23 (F := Ideal) q k lse (ix3 a n j) = weight heads q k lse n j a := by
  unfold weight dot
  generalize hR : (if near n.val j.val then _ else _) = rhs
  pointwise [val_main_v23, val_main_v22, val_main_v18_0, val_main_v18_1, val_main_v17, val_main_v16, val_main_v15, val_main_v14,
    val_main_v13, val_main_v12, val_main_v11, val_main_v10, val_main_v9, val_main_v8, val_main_v7, val_main_v6, val_main_v1,
    val_main_v3, val_main_v0, val_main_v2, val_main_call0_v2, val_main_call0_v0, val_main_v21, val_main_v20, val_main_v19, val_main_c, val_main_c_0,
    val_main_cst]
  rw [near_bit (by decide), select_bit, ← hR]
  split
  · rfl
  · refine Eq.trans ?_ (exp_mask (lse (ix2 n a)))
    refine congrArg (fun z : EReal => Ideal.exp (z - lse (ix2 n a))) ?_
    show Ideal.ofBits .f32 4286578688#32 = ⊥
    simp [Ideal.ofBits, Ideal.ieee]

theorem pull_at (a : Fin 64) (n j : Fin 1024) :
    val_main_v38 (F := Ideal) q k v dy lse dd (ix3 a n j) = pull heads q k v dy lse dd n j a := by
  generalize hR : pull heads q k v dy lse dd n j a = rhs
  pointwise [val_main_v38, val_main_v37, val_main_v34, val_main_v33, val_main_v32, val_main_v31, val_main_v30, val_main_v29,
    val_main_v28, val_main_v27, val_main_v5, val_main_v4, val_main_v18_1, val_main_v17, val_main_v16, val_main_v15, val_main_v14,
    val_main_v13, val_main_v12, val_main_v11, val_main_v10, val_main_v9, val_main_v8, val_main_v7, val_main_call1_v0,
    val_main_call1_cst, val_main_c, val_main_c_0]
  rw [near_bit (by decide), select_bit, ← hR]
  split
  · rw [weight_at, mul_comm]
    unfold pull dot
    refine congrArg _ ?_
    exact (add_comm _ _).trans (sub_eq_add_neg _ _).symm
  · rename_i hf
    rw [pull_far heads _ _ _ _ _ _ _ _ _ hf]

theorem dq_eq : val_main_v44 (F := Ideal) q k v dy lse dd = dq heads q k v dy lse dd := by
  funext i
  obtain ⟨n, l, rfl⟩ : ∃ (n : Fin 1024) (l : Fin 4096), i = ix2 n l := ⟨i 0, i 1, eq_ix2 i⟩
  generalize hR : dq heads q k v dy lse dd (ix2 n l) = rhs
  pointwise [val_main_v44, val_main_v43, val_main_v42, val_main_v41, val_main_v3, val_main_v2]
  rw [← hR]
  show _ = ∑ j : Fin 1024, pull heads q k v dy lse dd n j (head heads l) * k (ix2 j l)
  exact Finset.sum_congr rfl fun j _ => congrArg (· * k (ix2 j l)) (pull_at q k v dy lse dd (head heads l) n j)

theorem dk_eq : val_main_v46 (F := Ideal) q k v dy lse dd = dk heads q k v dy lse dd := by
  funext i
  obtain ⟨n, l, rfl⟩ : ∃ (n : Fin 1024) (l : Fin 4096), i = ix2 n l := ⟨i 0, i 1, eq_ix2 i⟩
  generalize hR : dk heads q k v dy lse dd (ix2 n l) = rhs
  pointwise [val_main_v46, val_main_v45, val_main_v40, val_main_v39, val_main_v1, val_main_v0]
  rw [← hR]
  show _ = ∑ j : Fin 1024, pull heads q k v dy lse dd j n (head heads l) * q (ix2 j l)
  exact Finset.sum_congr rfl fun j _ => congrArg (· * q (ix2 j l)) (pull_at q k v dy lse dd (head heads l) j n)

theorem dv_eq : val_main_v48 (F := Ideal) q k dy lse = dv heads q k dy lse := by
  funext i
  obtain ⟨n, l, rfl⟩ : ∃ (n : Fin 1024) (l : Fin 4096), i = ix2 n l := ⟨i 0, i 1, eq_ix2 i⟩
  generalize hR : dv heads q k dy lse (ix2 n l) = rhs
  pointwise [val_main_v48, val_main_v47, val_main_v36, val_main_v35, val_main_v32, val_main_v28, val_main_v27]
  rw [← hR]
  show _ = ∑ j : Fin 1024, weight heads q k lse j n (head heads l) * dy (ix2 j l)
  exact Finset.sum_congr rfl fun j _ => (mul_comm _ _).trans (congrArg (· * dy (ix2 j l)) (weight_at q k lse (head heads l) j n))

end Cert.Attn4RefIdeal.Hand
end
-- ==== Proof.Attention.Attn4.lean ====
/-
  The attention's gradient at 1024 rows: the kernel's eight blocks of columns, the three arrays they make, and
  the reference's gradients.
-/
module

public import proofs.«01_k».proof.Proof.Attention.Block4
public import proofs.«01_k».proof.Proof.Attention.Cuts
public import proofs.«01_k».proof.Proof.Attention.Reference4
public import proofs.«01_k».proof.Proof.Gen.Attn4.Frame
public import Idealize.ShloMosaic.Lib.StableHlo.ReadAt

@[expose] public section

set_option maxRecDepth 16384

noncomputable section

namespace Cert.Attn4Ideal.Hand

open Cert.Attn4Ideal Cert.Attn4Ideal.Gen Idealize.ShloMosaic Idealize.ShloMosaic.TcCoe Idealize.SL.Sem Cert.Product Cert.Attention

/-- The array has 64 heads, in eight blocks of 8. -/
theorem heads : 64 * 64 = 4096 := rfl
theorem blocks : 8 * 512 = 4096 := rfl
theorem blocks' : 8 * 8 = 64 := rfl

variable (m : (ℓ : Loc nD τ sig) → Buf (Elt Ideal) ℓ) (c : Dev nD)

/-- The kernel's six arguments. -/
abbrev argQ : Mat 1024 4096 := m ((c : Thread nD τ).loc main_arg0)
abbrev argK : Mat 1024 4096 := m ((c : Thread nD τ).loc main_arg1)
abbrev argV : Mat 1024 4096 := m ((c : Thread nD τ).loc main_arg2)
abbrev argY : Mat 1024 4096 := m ((c : Thread nD τ).loc main_arg3)
abbrev argL : Mat 1024 64 := m ((c : Thread nD τ).loc main_arg4)
abbrev argD : Mat 1024 64 := m ((c : Thread nD τ).loc main_arg5)

/-- The host repeats a head's value over its 64 columns before the kernel runs. -/
theorem V_main_v1_at (n : Fin 1024) (a : Fin 64) (e : Fin 64) : V m c main_v1 (ix2 n (lane heads a e)) = argL m c (ix2 n a) := by
  unfold V
  after_reads_at
  exact entry2 (argL m c) rfl (congrArg Fin.val (head_lane heads a e))

theorem V_main_v3_at (n : Fin 1024) (a : Fin 64) (e : Fin 64) : V m c main_v3 (ix2 n (lane heads a e)) = argD m c (ix2 n a) := by
  unfold V
  after_reads_at
  exact entry2 (argD m c) rfl (congrArg Fin.val (head_lane heads a e))

/-- Every window's block at point `t`: all rows, block `t` of the columns. -/
theorem index_at : ∀ t : Fin cfg0.N,
    (win0_0.index t 0 = 0 ∧ win0_0.index t 1 = t.val) ∧ (win0_1.index t 0 = 0 ∧ win0_1.index t 1 = t.val)
    ∧ (win0_2.index t 0 = 0 ∧ win0_2.index t 1 = t.val) ∧ (win0_3.index t 0 = 0 ∧ win0_3.index t 1 = t.val)
    ∧ (win0_4.index t 0 = 0 ∧ win0_4.index t 1 = t.val) ∧ (win0_5.index t 0 = 0 ∧ win0_5.index t 1 = t.val)
    ∧ (win0_6.index t 0 = 0 ∧ win0_6.index t 1 = t.val) ∧ (win0_7.index t 0 = 0 ∧ win0_7.index t 1 = t.val)
    ∧ (win0_8.index t 0 = 0 ∧ win0_8.index t 1 = t.val) :=
  (by decide +kernel : ∀ t : Fin grid0.N,
    (win0_0.index t 0 = 0 ∧ win0_0.index t 1 = t.val) ∧ (win0_1.index t 0 = 0 ∧ win0_1.index t 1 = t.val)
    ∧ (win0_2.index t 0 = 0 ∧ win0_2.index t 1 = t.val) ∧ (win0_3.index t 0 = 0 ∧ win0_3.index t 1 = t.val)
    ∧ (win0_4.index t 0 = 0 ∧ win0_4.index t 1 = t.val) ∧ (win0_5.index t 0 = 0 ∧ win0_5.index t 1 = t.val)
    ∧ (win0_6.index t 0 = 0 ∧ win0_6.index t 1 = t.val) ∧ (win0_7.index t 0 = 0 ∧ win0_7.index t 1 = t.val)
    ∧ (win0_8.index t 0 = 0 ∧ win0_8.index t 1 = t.val))

abbrev pt (t : Fin cfg0.N) : Fin 8 := ⟨t.val, lt_of_lt_of_eq t.isLt N_0⟩

/-- The four input blocks, -/
theorem cut0 (t : Fin cfg0.N) : IsCut blocks (pt t) (iblk m c 0 t) (argQ m c) := fun r k => by
  obtain ⟨e0, e1⟩ := (index_at t).1
  unfold iblk
  rw [View.read_apply]
  exact at_block blocks (pt t) (argQ m c) e0 e1 r k rfl rfl

theorem cut1 (t : Fin cfg0.N) : IsCut blocks (pt t) (iblk m c 1 t) (argK m c) := fun r k => by
  obtain ⟨e0, e1⟩ := (index_at t).2.1
  unfold iblk
  rw [View.read_apply]
  exact at_block blocks (pt t) (argK m c) e0 e1 r k rfl rfl

theorem cut2 (t : Fin cfg0.N) : IsCut blocks (pt t) (iblk m c 2 t) (argV m c) := fun r k => by
  obtain ⟨e0, e1⟩ := (index_at t).2.2.1
  unfold iblk
  rw [View.read_apply]
  exact at_block blocks (pt t) (argV m c) e0 e1 r k rfl rfl

theorem cut3 (t : Fin cfg0.N) : IsCut blocks (pt t) (iblk m c 3 t) (argY m c) := fun r k => by
  obtain ⟨e0, e1⟩ := (index_at t).2.2.2.1
  unfold iblk
  rw [View.read_apply]
  exact at_block blocks (pt t) (argY m c) e0 e1 r k rfl rfl

/-- and the two of the repeated values. -/
theorem wide4 (t : Fin cfg0.N) : Wide z (iblk m c 4 t) (headsOf blocks' (pt t) (argL m c)) := fun n a e => by
  obtain ⟨e0, e1⟩ := (index_at t).2.2.2.2.1
  refine Eq.trans ?_ (V_main_v1_at m c n (lane blocks' (pt t) a) e)
  rw [← lane_blocks z.wide heads blocks blocks']
  unfold iblk
  rw [View.read_apply]
  exact at_block blocks (pt t) (V m c main_v1) e0 e1 n (lane z.wide a e) rfl rfl

theorem wide5 (t : Fin cfg0.N) : Wide z (iblk m c 5 t) (headsOf blocks' (pt t) (argD m c)) := fun n a e => by
  obtain ⟨e0, e1⟩ := (index_at t).2.2.2.2.2.1
  refine Eq.trans ?_ (V_main_v3_at m c n (lane blocks' (pt t) a) e)
  rw [← lane_blocks z.wide heads blocks blocks']
  unfold iblk
  rw [View.read_apply]
  exact at_block blocks (pt t) (V m c main_v3) e0 e1 n (lane z.wide a e) rfl rfl

/-- The point whose block holds a column. -/
theorem point_of (i : S1024x4096.Idx) : ∃ t : Fin cfg0.N, t.val = (i 1 : ℕ) / 512 := by
  have h1 : (i 1 : ℕ) < 4096 := (i 1).isLt
  exact ⟨⟨(i 1 : ℕ) / 512, by rw [show cfg0.N = 8 from N_0]; omega⟩, rfl⟩

/-- The arrays the kernel leaves. -/
theorem final6 : (dats m 0 c).arrAt 6 cfg0.N = dq heads (argQ m c) (argK m c) (argV m c) (argY m c) (argL m c) (argD m c) := by
  refine (dats m 0 c).arrAt_eq_of_cover 6 (dq heads (argQ m c) (argK m c) (argV m c) (argY m c) (argL m c) (argD m c)) (fun t _ => ?_) fun i => ?_
  · obtain ⟨e0, e1⟩ := (index_at t).2.2.2.2.2.2.1
    rw [Value.flushed6_A, dq_block (hl := wide4 m c t) (hd' := wide5 m c t)]
    funext x
    obtain ⟨r, k, rfl⟩ : ∃ (r : Fin 1024) (k : Fin 512), x = ix2 r k := ⟨x 0, x 1, eq_ix2 x⟩
    refine (dq_cut z.wide heads blocks blocks' (pt t) (argL m c) (argD m c) (cut0 m c t) (cut1 m c t) (cut2 m c t) (cut3 m c t) r k).trans ?_
    rw [View.read_apply]
    exact (at_block blocks (pt t) (dq heads (argQ m c) (argK m c) (argV m c) (argY m c) (argL m c) (argD m c)) e0 e1 r k rfl rfl).symm
  · obtain ⟨t, ht⟩ := point_of i
    obtain ⟨e0, e1⟩ := (index_at t).2.2.2.2.2.2.1
    refine ⟨t, flush0_6 t, ?_⟩
    show i ∈ ((View.whole main_v4_0).slice (win0_6.rect t)).set
    rw [View.set_slice_whole, Rect.mem_set_unit]
    intro a
    match a with
    | ⟨0, _⟩ => exact (in_block (c := 512) (by decide) i ht e0 e1).1
    | ⟨1, _⟩ => exact (in_block (c := 512) (by decide) i ht e0 e1).2

theorem final7 : (dats m 0 c).arrAt 7 cfg0.N = dk heads (argQ m c) (argK m c) (argV m c) (argY m c) (argL m c) (argD m c) := by
  refine (dats m 0 c).arrAt_eq_of_cover 7 (dk heads (argQ m c) (argK m c) (argV m c) (argY m c) (argL m c) (argD m c)) (fun t _ => ?_) fun i => ?_
  · obtain ⟨e0, e1⟩ := (index_at t).2.2.2.2.2.2.2.1
    rw [Value.flushed7_A, dk_block (hl := wide4 m c t) (hd' := wide5 m c t)]
    funext x
    obtain ⟨r, k, rfl⟩ : ∃ (r : Fin 1024) (k : Fin 512), x = ix2 r k := ⟨x 0, x 1, eq_ix2 x⟩
    refine (dk_cut z.wide heads blocks blocks' (pt t) (argL m c) (argD m c) (cut0 m c t) (cut1 m c t) (cut2 m c t) (cut3 m c t) r k).trans ?_
    rw [View.read_apply]
    exact (at_block blocks (pt t) (dk heads (argQ m c) (argK m c) (argV m c) (argY m c) (argL m c) (argD m c)) e0 e1 r k rfl rfl).symm
  · obtain ⟨t, ht⟩ := point_of i
    obtain ⟨e0, e1⟩ := (index_at t).2.2.2.2.2.2.2.1
    refine ⟨t, flush0_7 t, ?_⟩
    show i ∈ ((View.whole main_v4_1).slice (win0_7.rect t)).set
    rw [View.set_slice_whole, Rect.mem_set_unit]
    intro a
    match a with
    | ⟨0, _⟩ => exact (in_block (c := 512) (by decide) i ht e0 e1).1
    | ⟨1, _⟩ => exact (in_block (c := 512) (by decide) i ht e0 e1).2

theorem final8 : (dats m 0 c).arrAt 8 cfg0.N = dv heads (argQ m c) (argK m c) (argY m c) (argL m c) := by
  refine (dats m 0 c).arrAt_eq_of_cover 8 (dv heads (argQ m c) (argK m c) (argY m c) (argL m c)) (fun t _ => ?_) fun i => ?_
  · obtain ⟨e0, e1⟩ := (index_at t).2.2.2.2.2.2.2.2
    rw [Value.flushed8_A, dv_block (hl := wide4 m c t)]
    funext x
    obtain ⟨r, k, rfl⟩ : ∃ (r : Fin 1024) (k : Fin 512), x = ix2 r k := ⟨x 0, x 1, eq_ix2 x⟩
    refine (dv_cut z.wide heads blocks blocks' (pt t) (argL m c) (cut0 m c t) (cut1 m c t) (cut3 m c t) r k).trans ?_
    rw [View.read_apply]
    exact (at_block blocks (pt t) (dv heads (argQ m c) (argK m c) (argY m c) (argL m c)) e0 e1 r k rfl rfl).symm
  · obtain ⟨t, ht⟩ := point_of i
    obtain ⟨e0, e1⟩ := (index_at t).2.2.2.2.2.2.2.2
    refine ⟨t, flush0_8 t, ?_⟩
    show i ∈ ((View.whole main_v4_2).slice (win0_8.rect t)).set
    rw [View.set_slice_whole, Rect.mem_set_unit]
    intro a
    match a with
    | ⟨0, _⟩ => exact (in_block (c := 512) (by decide) i ht e0 e1).1
    | ⟨1, _⟩ => exact (in_block (c := 512) (by decide) i ht e0 e1).2

end Cert.Attn4Ideal.Hand

namespace Cert.Attn4Claims

open Idealize.ShloMosaic Idealize.ShloMosaic.TcCoe Idealize.SL.Sem Attn4Ideal.Hand Attention

instance : Cert.Attn4.Facts := Cert.Attn4.Gen.facts
instance : Cert.Attn4Ideal.Facts := Cert.Attn4Ideal.Gen.facts
instance : Cert.Attn4RefIdeal.Facts := Cert.Attn4RefIdeal.Gen.facts

theorem frame : Cert.quiescent_Attn4 := fun m g _ => Cert.Attn4.Gen.frame m g

theorem frame_ideal : Cert.quiescent_Attn4Ideal := fun m g _ => Cert.Attn4Ideal.Gen.frame m g

/-- The host program has no semaphore, so its counters cannot be anything but zero. -/
theorem frame_reference : Cert.quiescent_Attn4RefIdeal := fun m g _ =>
  (θ_run Cert.Attn4RefIdeal.defs _ _).mono
    (fun r h => ⟨fun c => (h c).2.2.2, sem_eq_zero_of_no_sems (by decide) r.2⟩)
    (Cert.Attn4RefIdeal.Value.run (F := Ideal) m g)

/-- The mask's number stands for minus infinity. -/
theorem named : Cert.preserves_Attn4_Attn4Ideal :=
  IdealRules.named_const.statement Cert.Attn4Ideal.κ "mask" .f32 0xF149F2CA#32 ⊥ rfl

theorem value : Cert.algebraic_Attn4Ideal_Attn4RefIdeal := fun m g m' g' _ hargs =>
  ⟨fun c => dq heads (argQ m c) (argK m c) (argV m c) (argY m c) (argL m c) (argD m c),
   fun c => dk heads (argQ m c) (argK m c) (argV m c) (argY m c) (argL m c) (argD m c),
   fun c => dv heads (argQ m c) (argK m c) (argY m c) (argL m c),
   (θ_run Cert.Attn4Ideal.defs _ _).mono
    (fun _ h c => ⟨(h c).1.trans (final6 m c), (h c).2.1.trans (final7 m c), (h c).2.2.1.trans (final8 m c), (h c).2.2.2⟩)
    (Cert.Attn4Ideal.Value.run_blocks (F := Ideal) m g),
   (θ_run Cert.Attn4RefIdeal.defs _ _).mono
    (fun _ h c => by
      obtain ⟨h0, h1, h2, h3, h4, h5⟩ := hargs c
      refine ⟨(h c).1.trans ?_, (h c).2.1.trans ?_, (h c).2.2.1.trans ?_, (h c).2.2.2⟩
      · refine (Attn4RefIdeal.Read.val_main_v44_eq _ _ _ _ _ _).trans ((Attn4RefIdeal.Hand.dq_eq _ _ _ _ _ _).trans ?_)
        rw [h0, h1, h2, h3, h4, h5]
      · refine (Attn4RefIdeal.Read.val_main_v46_eq _ _ _ _ _ _).trans ((Attn4RefIdeal.Hand.dk_eq _ _ _ _ _ _).trans ?_)
        rw [h0, h1, h2, h3, h4, h5]
      · refine (Attn4RefIdeal.Read.val_main_v48_eq _ _ _ _).trans ((Attn4RefIdeal.Hand.dv_eq _ _ _ _).trans ?_)
        rw [h0, h1, h3, h4])
    (Cert.Attn4RefIdeal.Value.run (F := Ideal) m' g')⟩

end Cert.Attn4Claims

end
-- ==== Proof.Attention.Block1.lean ====
/-
  One block of the attention's columns at 4096 rows: the stores of the body, and what they leave in the three outputs.
-/
module

public import proofs.«01_k».proof.Proof.Attention.Tiles
public import proofs.«01_k».proof.Proof.Gen.Attn1Ideal.Frame
public import proofs.«01_k».proof.Proof.Gen.Attn1Ideal.Value

@[expose] public section

set_option maxRecDepth 65536

noncomputable section

namespace Cert.Attn1Ideal.Hand

open Cert.Attn1Ideal Cert.Attn1Ideal.Gen Idealize.ShloMosaic Idealize.ShloMosaic.TcCoe Cert.Product Cert.Attention

/-- 32 blocks of 128 rows, 1 pair of heads. -/
abbrev z : Sizes := ⟨31, 1, 4096, 128, 2, rfl, rfl, rfl⟩

/-- The later blocks' tiles, in the order the body stores them in, the last one first. -/
theorem laters_eq : laters z = [(30, 0), (29, 0), (28, 0), (27, 0), (26, 0), (25, 0), (24, 0), (23, 0), (22, 0), (21, 0), (20, 0), (19, 0), (18, 0), (17, 0), (16, 0), (15, 0),
    (14, 0), (13, 0), (12, 0), (11, 0), (10, 0), (9, 0), (8, 0), (7, 0), (6, 0), (5, 0), (4, 0), (3, 0), (2, 0), (1, 0), (0, 0)] := by
  decide

section Run
variable (c : Dev nD) (i : grid0.Coords)
  (arg1 : Memref sig .tc .vmem S4096x128 .bf16) (harg1 : arg1.IsWhole) (arg2 : Memref sig .tc .vmem S4096x128 .bf16) (harg2 : arg2.IsWhole)
  (arg3 : Memref sig .tc .vmem S4096x128 .bf16) (harg3 : arg3.IsWhole) (arg4 : Memref sig .tc .vmem S4096x128 .bf16) (harg4 : arg4.IsWhole)
  (arg5 : Memref sig .tc .vmem S4096x128 .f32) (harg5 : arg5.IsWhole) (arg6 : Memref sig .tc .vmem S4096x128 .f32) (harg6 : arg6.IsWhole)
  (arg7 : Memref sig .tc .vmem S4096x128 .bf16) (harg7 : arg7.IsWhole) (arg8 : Memref sig .tc .vmem S4096x128 .bf16) (harg8 : arg8.IsWhole)
  (arg9 : Memref sig .tc .vmem S4096x128 .bf16) (harg9 : arg9.IsWhole) (arg10 : Memref sig .tc .vmem S4096x128 .f32) (harg10 : arg10.IsWhole)
  (arg11 : Memref sig .tc .vmem S4096x128 .f32) (harg11 : arg11.IsWhole)
  (x0 x1 x2 x3 : Vec Ideal S4096x128 .bf16) (x4 x5 : Vec Ideal S4096x128 .f32)

/-- The load the run makes. -/
abbrev loads {e : EltTy} (M : Memref sig .tc .vmem S4096x128 e) (h : M.IsWhole) (x : S4096x128.Idx → Elt Ideal e) : Load z e :=
  fun r => View.readAt (Elt Ideal) M.view r.toLoadRect (h.unread x)

omit c i in
theorem loads_eq {e : EltTy} (M : Memref sig .tc .vmem S4096x128 e) (h : M.IsWhole) (x : Vec Ideal S4096x128 e) : loads M h x = cut (z := z) x := by
  funext r
  simp only [loads, cut, View.readAt_eq_ld, h.read_unread]

theorem dq_run :
    (kernelRun0_A (F := Ideal) c i arg1 harg1 arg2 harg2 arg3 harg3 arg4 harg4 arg5 harg5 arg6 harg6 arg7 harg7 arg8 harg8 arg9 harg9
      arg10 harg10 arg11 harg11 x0 x1 x2 x3 x4 x5).1
      = dqPieces z (loads arg1 harg1 x0) (loads arg2 harg2 x1) (loads arg3 harg3 x2) (loads arg4 harg4 x3) (loads arg5 harg5 x4)
          (loads arg6 harg6 x5) := by
  unfold kernelRun0_A
  dsimp only
  rfl

theorem dk_run :
    (kernelRun0_A (F := Ideal) c i arg1 harg1 arg2 harg2 arg3 harg3 arg4 harg4 arg5 harg5 arg6 harg6 arg7 harg7 arg8 harg8 arg9 harg9
      arg10 harg10 arg11 harg11 x0 x1 x2 x3 x4 x5).2.1
      = [⟨(Rect.unit ![0, 0] S4096x128.size inb_S4096x128_S4096x128_0_0), k0_pay442 (arg10.view.readCov (sums (z := z) arg10.view
          (firstDk z (loads arg1 harg1 x0) (loads arg2 harg2 x1) (loads arg3 harg3 x2) (loads arg4 harg4 x3) (loads arg5 harg5 x4)
            (loads arg6 harg6 x5))
          (laterDk z (loads arg1 harg1 x0) (loads arg2 harg2 x1) (loads arg3 harg3 x2) (loads arg4 harg4 x3) (loads arg5 harg5 x4)
            (loads arg6 harg6 x5)) (laters z))
          (Rect.unit ![0, 0] S4096x128.size inb_S4096x128_S4096x128_0_0).toLoadRect)⟩] := by
  unfold kernelRun0_A
  dsimp only
  refine congrArg (fun x => [(⟨(Rect.unit ![0, 0] S4096x128.size inb_S4096x128_S4096x128_0_0), k0_pay442 (F := Ideal) (arg10.view.readCov x (Rect.unit ![0, 0] S4096x128.size inb_S4096x128_S4096x128_0_0).toLoadRect)⟩ : View.Piece (Elt Ideal) z.S .bf16)]) (Eq.symm ?_)
  rw [laters_eq]
  iterate 31
    refine sums_cons _ _ _ _ _ ?_ ?_ ?_
    rotate_left
    rfl
    rfl
  rfl

theorem dv_run :
    (kernelRun0_A (F := Ideal) c i arg1 harg1 arg2 harg2 arg3 harg3 arg4 harg4 arg5 harg5 arg6 harg6 arg7 harg7 arg8 harg8 arg9 harg9
      arg10 harg10 arg11 harg11 x0 x1 x2 x3 x4 x5).2.2.1
      = [⟨(Rect.unit ![0, 0] S4096x128.size inb_S4096x128_S4096x128_0_0), k0_pay443 (arg11.view.readCov (sums (z := z) arg11.view
          (firstDv z (loads arg1 harg1 x0) (loads arg2 harg2 x1) (loads arg4 harg4 x3) (loads arg5 harg5 x4))
          (laterDv z (loads arg1 harg1 x0) (loads arg2 harg2 x1) (loads arg4 harg4 x3) (loads arg5 harg5 x4)) (laters z))
          (Rect.unit ![0, 0] S4096x128.size inb_S4096x128_S4096x128_0_0).toLoadRect)⟩] := by
  unfold kernelRun0_A
  dsimp only
  refine congrArg (fun x => [(⟨(Rect.unit ![0, 0] S4096x128.size inb_S4096x128_S4096x128_0_0), k0_pay443 (F := Ideal) (arg11.view.readCov x (Rect.unit ![0, 0] S4096x128.size inb_S4096x128_S4096x128_0_0).toLoadRect)⟩ : View.Piece (Elt Ideal) z.S .bf16)]) (Eq.symm ?_)
  rw [laters_eq]
  iterate 31
    refine sums_cons _ _ _ _ _ ?_ ?_ ?_
    rotate_left
    rfl
    rfl
  rfl

variable (ℓ δ : Mat 4096 2) (hl : Wide z x4 ℓ) (hd' : Wide z x5 δ)
include hl hd'

/-- The block's gradient of the queries, -/
theorem dq_block :
    out0_A_6 (F := Ideal) c i arg1 harg1 arg2 harg2 arg3 harg3 arg4 harg4 arg5 harg5 arg6 harg6 arg7 harg7 arg8 harg8 arg9 harg9
      arg10 harg10 arg11 harg11 x0 x1 x2 x3 x4 x5 = dq z.wide x0 x1 x2 x3 ℓ δ := by
  unfold out0_A_6
  rw [View.read_writes_junk_eq_canon, dq_run]
  simp only [loads_eq]
  exact dq_canon (z := z) x0 x1 x2 x3 x4 x5 ℓ δ hl hd'

/-- of the keys, -/
theorem dk_block :
    out0_A_7 (F := Ideal) c i arg1 harg1 arg2 harg2 arg3 harg3 arg4 harg4 arg5 harg5 arg6 harg6 arg7 harg7 arg8 harg8 arg9 harg9
      arg10 harg10 arg11 harg11 x0 x1 x2 x3 x4 x5 = dk z.wide x0 x1 x2 x3 ℓ δ := by
  unfold out0_A_7
  rw [View.read_writes_junk_eq_canon, dk_run, View.canon_unit_zero Cert.Attention.hz2, View.readCov_eq_canon']
  simp only [loads_eq]
  funext y
  obtain ⟨r, k, rfl⟩ : ∃ (r : Fin 4096) (k : Fin 128), y = ix2 r k := ⟨y 0, y 1, eq_ix2 y⟩
  exact (congrArg (View.canon _) (whole_idx z _ r k)).trans (dk_canon (z := z) x0 x1 x2 x3 x4 x5 ℓ δ hl hd' arg10.view r k)

omit hd'

/-- and of the values. -/
theorem dv_block :
    out0_A_8 (F := Ideal) c i arg1 harg1 arg2 harg2 arg3 harg3 arg4 harg4 arg5 harg5 arg6 harg6 arg7 harg7 arg8 harg8 arg9 harg9
      arg10 harg10 arg11 harg11 x0 x1 x2 x3 x4 x5 = dv z.wide x0 x1 x3 ℓ := by
  unfold out0_A_8
  rw [View.read_writes_junk_eq_canon, dv_run, View.canon_unit_zero Cert.Attention.hz2, View.readCov_eq_canon']
  simp only [loads_eq]
  funext y
  obtain ⟨r, k, rfl⟩ : ∃ (r : Fin 4096) (k : Fin 128), y = ix2 r k := ⟨y 0, y 1, eq_ix2 y⟩
  exact (congrArg (View.canon _) (whole_idx z _ r k)).trans (dv_canon (z := z) x0 x1 x3 x4 ℓ hl arg11.view r k)
end Run

end Cert.Attn1Ideal.Hand
end
-- ==== Proof.Attention.Reference1.lean ====
/-
  The reference's three gradients at 4096 rows, read entry by entry.
-/
module

public import proofs.«01_k».proof.Defs
public import proofs.«01_k».proof.Proof.Attention.Spec
public import proofs.«01_k».proof.Proof.Gen.Attn1RefIdeal.Run
public import proofs.«01_k».proof.Proof.Gen.Attn1RefIdeal.Read
public import Idealize.ShloMosaic.Lib.Tactic
public import Idealize.ShloMosaic.Lib.KernelVsHost

@[expose] public section

set_option maxRecDepth 16384

noncomputable section

namespace Cert.Attn1RefIdeal.Hand

open Cert.Attn1RefIdeal Cert.Attn1RefIdeal.Read Idealize.ShloMosaic Idealize.ShloMosaic.TcCoe Cert.Product Cert.Attention

theorem heads : 16 * 64 = 1024 := rfl

variable (q k v dy : Mat 4096 1024) (lse dd : Mat 4096 16)

theorem weight_at (a : Fin 16) (n j : Fin 4096) :
    val_main_v23 (F := Ideal) q k lse (ix3 a n j) = weight heads q k lse n j a := by
  unfold weight dot
  generalize hR : (if near n.val j.val then _ else _) = rhs
  pointwise [val_main_v23, val_main_v22, val_main_v18_0, val_main_v18_1, val_main_v17, val_main_v16, val_main_v15, val_main_v14,
    val_main_v13, val_main_v12, val_main_v11, val_main_v10, val_main_v9, val_main_v8, val_main_v7, val_main_v6, val_main_v1,
    val_main_v3, val_main_v0, val_main_v2, val_main_call0_v2, val_main_call0_v0, val_main_v21, val_main_v20, val_main_v19, val_main_c, val_main_c_0,
    val_main_cst]
  rw [near_bit (by decide), select_bit, ← hR]
  split
  · rfl
  · refine Eq.trans ?_ (exp_mask (lse (ix2 n a)))
    refine congrArg (fun z : EReal => Ideal.exp (z - lse (ix2 n a))) ?_
    show Ideal.ofBits .f32 4286578688#32 = ⊥
    simp [Ideal.ofBits, Ideal.ieee]

theorem pull_at (a : Fin 16) (n j : Fin 4096) :
    val_main_v38 (F := Ideal) q k v dy lse dd (ix3 a n j) = pull heads q k v dy lse dd n j a := by
  generalize hR : pull heads q k v dy lse dd n j a = rhs
  pointwise [val_main_v38, val_main_v37, val_main_v34, val_main_v33, val_main_v32, val_main_v31, val_main_v30, val_main_v29,
    val_main_v28, val_main_v27, val_main_v5, val_main_v4, val_main_v18_1, val_main_v17, val_main_v16, val_main_v15, val_main_v14,
    val_main_v13, val_main_v12, val_main_v11, val_main_v10, val_main_v9, val_main_v8, val_main_v7, val_main_call1_v0,
    val_main_call1_cst, val_main_c, val_main_c_0]
  rw [near_bit (by decide), select_bit, ← hR]
  split
  · rw [weight_at, mul_comm]
    unfold pull dot
    refine congrArg _ ?_
    exact (add_comm _ _).trans (sub_eq_add_neg _ _).symm
  · rename_i hf
    rw [pull_far heads _ _ _ _ _ _ _ _ _ hf]

theorem dq_eq : val_main_v44 (F := Ideal) q k v dy lse dd = dq heads q k v dy lse dd := by
  funext i
  obtain ⟨n, l, rfl⟩ : ∃ (n : Fin 4096) (l : Fin 1024), i = ix2 n l := ⟨i 0, i 1, eq_ix2 i⟩
  generalize hR : dq heads q k v dy lse dd (ix2 n l) = rhs
  pointwise [val_main_v44, val_main_v43, val_main_v42, val_main_v41, val_main_v3, val_main_v2]
  rw [← hR]
  show _ = ∑ j : Fin 4096, pull heads q k v dy lse dd n j (head heads l) * k (ix2 j l)
  exact Finset.sum_congr rfl fun j _ => congrArg (· * k (ix2 j l)) (pull_at q k v dy lse dd (head heads l) n j)

theorem dk_eq : val_main_v46 (F := Ideal) q k v dy lse dd = dk heads q k v dy lse dd := by
  funext i
  obtain ⟨n, l, rfl⟩ : ∃ (n : Fin 4096) (l : Fin 1024), i = ix2 n l := ⟨i 0, i 1, eq_ix2 i⟩
  generalize hR : dk heads q k v dy lse dd (ix2 n l) = rhs
  pointwise [val_main_v46, val_main_v45, val_main_v40, val_main_v39, val_main_v1, val_main_v0]
  rw [← hR]
  show _ = ∑ j : Fin 4096, pull heads q k v dy lse dd j n (head heads l) * q (ix2 j l)
  exact Finset.sum_congr rfl fun j _ => congrArg (· * q (ix2 j l)) (pull_at q k v dy lse dd (head heads l) j n)

theorem dv_eq : val_main_v48 (F := Ideal) q k dy lse = dv heads q k dy lse := by
  funext i
  obtain ⟨n, l, rfl⟩ : ∃ (n : Fin 4096) (l : Fin 1024), i = ix2 n l := ⟨i 0, i 1, eq_ix2 i⟩
  generalize hR : dv heads q k dy lse (ix2 n l) = rhs
  pointwise [val_main_v48, val_main_v47, val_main_v36, val_main_v35, val_main_v32, val_main_v28, val_main_v27]
  rw [← hR]
  show _ = ∑ j : Fin 4096, weight heads q k lse j n (head heads l) * dy (ix2 j l)
  exact Finset.sum_congr rfl fun j _ => (mul_comm _ _).trans (congrArg (· * dy (ix2 j l)) (weight_at q k lse (head heads l) j n))

end Cert.Attn1RefIdeal.Hand
end
-- ==== Proof.Attention.Attn1.lean ====
/-
  The attention's gradient at 4096 rows: the kernel's eight blocks of columns, the three arrays they make, and
  the reference's gradients.
-/
module

public import proofs.«01_k».proof.Proof.Attention.Block1
public import proofs.«01_k».proof.Proof.Attention.Cuts
public import proofs.«01_k».proof.Proof.Attention.Reference1
public import proofs.«01_k».proof.Proof.Gen.Attn1.Frame
public import Idealize.ShloMosaic.Lib.StableHlo.ReadAt

@[expose] public section

set_option maxRecDepth 16384

noncomputable section

namespace Cert.Attn1Ideal.Hand

open Cert.Attn1Ideal Cert.Attn1Ideal.Gen Idealize.ShloMosaic Idealize.ShloMosaic.TcCoe Idealize.SL.Sem Cert.Product Cert.Attention

/-- The array has 16 heads, in eight blocks of 2. -/
theorem heads : 16 * 64 = 1024 := rfl
theorem blocks : 8 * 128 = 1024 := rfl
theorem blocks' : 8 * 2 = 16 := rfl

variable (m : (ℓ : Loc nD τ sig) → Buf (Elt Ideal) ℓ) (c : Dev nD)

/-- The kernel's six arguments. -/
abbrev argQ : Mat 4096 1024 := m ((c : Thread nD τ).loc main_arg0)
abbrev argK : Mat 4096 1024 := m ((c : Thread nD τ).loc main_arg1)
abbrev argV : Mat 4096 1024 := m ((c : Thread nD τ).loc main_arg2)
abbrev argY : Mat 4096 1024 := m ((c : Thread nD τ).loc main_arg3)
abbrev argL : Mat 4096 16 := m ((c : Thread nD τ).loc main_arg4)
abbrev argD : Mat 4096 16 := m ((c : Thread nD τ).loc main_arg5)

/-- The host repeats a head's value over its 64 columns before the kernel runs. -/
theorem V_main_v1_at (n : Fin 4096) (a : Fin 16) (e : Fin 64) : V m c main_v1 (ix2 n (lane heads a e)) = argL m c (ix2 n a) := by
  unfold V
  after_reads_at
  exact entry2 (argL m c) rfl (congrArg Fin.val (head_lane heads a e))

theorem V_main_v3_at (n : Fin 4096) (a : Fin 16) (e : Fin 64) : V m c main_v3 (ix2 n (lane heads a e)) = argD m c (ix2 n a) := by
  unfold V
  after_reads_at
  exact entry2 (argD m c) rfl (congrArg Fin.val (head_lane heads a e))

/-- Every window's block at point `t`: all rows, block `t` of the columns. -/
theorem index_at : ∀ t : Fin cfg0.N,
    (win0_0.index t 0 = 0 ∧ win0_0.index t 1 = t.val) ∧ (win0_1.index t 0 = 0 ∧ win0_1.index t 1 = t.val)
    ∧ (win0_2.index t 0 = 0 ∧ win0_2.index t 1 = t.val) ∧ (win0_3.index t 0 = 0 ∧ win0_3.index t 1 = t.val)
    ∧ (win0_4.index t 0 = 0 ∧ win0_4.index t 1 = t.val) ∧ (win0_5.index t 0 = 0 ∧ win0_5.index t 1 = t.val)
    ∧ (win0_6.index t 0 = 0 ∧ win0_6.index t 1 = t.val) ∧ (win0_7.index t 0 = 0 ∧ win0_7.index t 1 = t.val)
    ∧ (win0_8.index t 0 = 0 ∧ win0_8.index t 1 = t.val) :=
  (by decide +kernel : ∀ t : Fin grid0.N,
    (win0_0.index t 0 = 0 ∧ win0_0.index t 1 = t.val) ∧ (win0_1.index t 0 = 0 ∧ win0_1.index t 1 = t.val)
    ∧ (win0_2.index t 0 = 0 ∧ win0_2.index t 1 = t.val) ∧ (win0_3.index t 0 = 0 ∧ win0_3.index t 1 = t.val)
    ∧ (win0_4.index t 0 = 0 ∧ win0_4.index t 1 = t.val) ∧ (win0_5.index t 0 = 0 ∧ win0_5.index t 1 = t.val)
    ∧ (win0_6.index t 0 = 0 ∧ win0_6.index t 1 = t.val) ∧ (win0_7.index t 0 = 0 ∧ win0_7.index t 1 = t.val)
    ∧ (win0_8.index t 0 = 0 ∧ win0_8.index t 1 = t.val))

abbrev pt (t : Fin cfg0.N) : Fin 8 := ⟨t.val, lt_of_lt_of_eq t.isLt N_0⟩

/-- The four input blocks, -/
theorem cut0 (t : Fin cfg0.N) : IsCut blocks (pt t) (iblk m c 0 t) (argQ m c) := fun r k => by
  obtain ⟨e0, e1⟩ := (index_at t).1
  unfold iblk
  rw [View.read_apply]
  exact at_block blocks (pt t) (argQ m c) e0 e1 r k rfl rfl

theorem cut1 (t : Fin cfg0.N) : IsCut blocks (pt t) (iblk m c 1 t) (argK m c) := fun r k => by
  obtain ⟨e0, e1⟩ := (index_at t).2.1
  unfold iblk
  rw [View.read_apply]
  exact at_block blocks (pt t) (argK m c) e0 e1 r k rfl rfl

theorem cut2 (t : Fin cfg0.N) : IsCut blocks (pt t) (iblk m c 2 t) (argV m c) := fun r k => by
  obtain ⟨e0, e1⟩ := (index_at t).2.2.1
  unfold iblk
  rw [View.read_apply]
  exact at_block blocks (pt t) (argV m c) e0 e1 r k rfl rfl

theorem cut3 (t : Fin cfg0.N) : IsCut blocks (pt t) (iblk m c 3 t) (argY m c) := fun r k => by
  obtain ⟨e0, e1⟩ := (index_at t).2.2.2.1
  unfold iblk
  rw [View.read_apply]
  exact at_block blocks (pt t) (argY m c) e0 e1 r k rfl rfl

/-- and the two of the repeated values. -/
theorem wide4 (t : Fin cfg0.N) : Wide z (iblk m c 4 t) (headsOf blocks' (pt t) (argL m c)) := fun n a e => by
  obtain ⟨e0, e1⟩ := (index_at t).2.2.2.2.1
  refine Eq.trans ?_ (V_main_v1_at m c n (lane blocks' (pt t) a) e)
  rw [← lane_blocks z.wide heads blocks blocks']
  unfold iblk
  rw [View.read_apply]
  exact at_block blocks (pt t) (V m c main_v1) e0 e1 n (lane z.wide a e) rfl rfl

theorem wide5 (t : Fin cfg0.N) : Wide z (iblk m c 5 t) (headsOf blocks' (pt t) (argD m c)) := fun n a e => by
  obtain ⟨e0, e1⟩ := (index_at t).2.2.2.2.2.1
  refine Eq.trans ?_ (V_main_v3_at m c n (lane blocks' (pt t) a) e)
  rw [← lane_blocks z.wide heads blocks blocks']
  unfold iblk
  rw [View.read_apply]
  exact at_block blocks (pt t) (V m c main_v3) e0 e1 n (lane z.wide a e) rfl rfl

/-- The point whose block holds a column. -/
theorem point_of (i : S4096x1024.Idx) : ∃ t : Fin cfg0.N, t.val = (i 1 : ℕ) / 128 := by
  have h1 : (i 1 : ℕ) < 1024 := (i 1).isLt
  exact ⟨⟨(i 1 : ℕ) / 128, by rw [show cfg0.N = 8 from N_0]; omega⟩, rfl⟩

/-- The arrays the kernel leaves. -/
theorem final6 : (dats m 0 c).arrAt 6 cfg0.N = dq heads (argQ m c) (argK m c) (argV m c) (argY m c) (argL m c) (argD m c) := by
  refine (dats m 0 c).arrAt_eq_of_cover 6 (dq heads (argQ m c) (argK m c) (argV m c) (argY m c) (argL m c) (argD m c)) (fun t _ => ?_) fun i => ?_
  · obtain ⟨e0, e1⟩ := (index_at t).2.2.2.2.2.2.1
    rw [Value.flushed6_A, dq_block (hl := wide4 m c t) (hd' := wide5 m c t)]
    funext x
    obtain ⟨r, k, rfl⟩ : ∃ (r : Fin 4096) (k : Fin 128), x = ix2 r k := ⟨x 0, x 1, eq_ix2 x⟩
    refine (dq_cut z.wide heads blocks blocks' (pt t) (argL m c) (argD m c) (cut0 m c t) (cut1 m c t) (cut2 m c t) (cut3 m c t) r k).trans ?_
    rw [View.read_apply]
    exact (at_block blocks (pt t) (dq heads (argQ m c) (argK m c) (argV m c) (argY m c) (argL m c) (argD m c)) e0 e1 r k rfl rfl).symm
  · obtain ⟨t, ht⟩ := point_of i
    obtain ⟨e0, e1⟩ := (index_at t).2.2.2.2.2.2.1
    refine ⟨t, flush0_6 t, ?_⟩
    show i ∈ ((View.whole main_v4_0).slice (win0_6.rect t)).set
    rw [View.set_slice_whole, Rect.mem_set_unit]
    intro a
    match a with
    | ⟨0, _⟩ => exact (in_block (c := 128) (by decide) i ht e0 e1).1
    | ⟨1, _⟩ => exact (in_block (c := 128) (by decide) i ht e0 e1).2

theorem final7 : (dats m 0 c).arrAt 7 cfg0.N = dk heads (argQ m c) (argK m c) (argV m c) (argY m c) (argL m c) (argD m c) := by
  refine (dats m 0 c).arrAt_eq_of_cover 7 (dk heads (argQ m c) (argK m c) (argV m c) (argY m c) (argL m c) (argD m c)) (fun t _ => ?_) fun i => ?_
  · obtain ⟨e0, e1⟩ := (index_at t).2.2.2.2.2.2.2.1
    rw [Value.flushed7_A, dk_block (hl := wide4 m c t) (hd' := wide5 m c t)]
    funext x
    obtain ⟨r, k, rfl⟩ : ∃ (r : Fin 4096) (k : Fin 128), x = ix2 r k := ⟨x 0, x 1, eq_ix2 x⟩
    refine (dk_cut z.wide heads blocks blocks' (pt t) (argL m c) (argD m c) (cut0 m c t) (cut1 m c t) (cut2 m c t) (cut3 m c t) r k).trans ?_
    rw [View.read_apply]
    exact (at_block blocks (pt t) (dk heads (argQ m c) (argK m c) (argV m c) (argY m c) (argL m c) (argD m c)) e0 e1 r k rfl rfl).symm
  · obtain ⟨t, ht⟩ := point_of i
    obtain ⟨e0, e1⟩ := (index_at t).2.2.2.2.2.2.2.1
    refine ⟨t, flush0_7 t, ?_⟩
    show i ∈ ((View.whole main_v4_1).slice (win0_7.rect t)).set
    rw [View.set_slice_whole, Rect.mem_set_unit]
    intro a
    match a with
    | ⟨0, _⟩ => exact (in_block (c := 128) (by decide) i ht e0 e1).1
    | ⟨1, _⟩ => exact (in_block (c := 128) (by decide) i ht e0 e1).2

theorem final8 : (dats m 0 c).arrAt 8 cfg0.N = dv heads (argQ m c) (argK m c) (argY m c) (argL m c) := by
  refine (dats m 0 c).arrAt_eq_of_cover 8 (dv heads (argQ m c) (argK m c) (argY m c) (argL m c)) (fun t _ => ?_) fun i => ?_
  · obtain ⟨e0, e1⟩ := (index_at t).2.2.2.2.2.2.2.2
    rw [Value.flushed8_A, dv_block (hl := wide4 m c t)]
    funext x
    obtain ⟨r, k, rfl⟩ : ∃ (r : Fin 4096) (k : Fin 128), x = ix2 r k := ⟨x 0, x 1, eq_ix2 x⟩
    refine (dv_cut z.wide heads blocks blocks' (pt t) (argL m c) (cut0 m c t) (cut1 m c t) (cut3 m c t) r k).trans ?_
    rw [View.read_apply]
    exact (at_block blocks (pt t) (dv heads (argQ m c) (argK m c) (argY m c) (argL m c)) e0 e1 r k rfl rfl).symm
  · obtain ⟨t, ht⟩ := point_of i
    obtain ⟨e0, e1⟩ := (index_at t).2.2.2.2.2.2.2.2
    refine ⟨t, flush0_8 t, ?_⟩
    show i ∈ ((View.whole main_v4_2).slice (win0_8.rect t)).set
    rw [View.set_slice_whole, Rect.mem_set_unit]
    intro a
    match a with
    | ⟨0, _⟩ => exact (in_block (c := 128) (by decide) i ht e0 e1).1
    | ⟨1, _⟩ => exact (in_block (c := 128) (by decide) i ht e0 e1).2

end Cert.Attn1Ideal.Hand

namespace Cert.Attn1Claims

open Idealize.ShloMosaic Idealize.ShloMosaic.TcCoe Idealize.SL.Sem Attn1Ideal.Hand Attention

instance : Cert.Attn1.Facts := Cert.Attn1.Gen.facts
instance : Cert.Attn1Ideal.Facts := Cert.Attn1Ideal.Gen.facts
instance : Cert.Attn1RefIdeal.Facts := Cert.Attn1RefIdeal.Gen.facts

theorem frame : Cert.quiescent_Attn1 := fun m g _ => Cert.Attn1.Gen.frame m g

theorem frame_ideal : Cert.quiescent_Attn1Ideal := fun m g _ => Cert.Attn1Ideal.Gen.frame m g

/-- The host program has no semaphore, so its counters cannot be anything but zero. -/
theorem frame_reference : Cert.quiescent_Attn1RefIdeal := fun m g _ =>
  (θ_run Cert.Attn1RefIdeal.defs _ _).mono
    (fun r h => ⟨fun c => (h c).2.2.2, sem_eq_zero_of_no_sems (by decide) r.2⟩)
    (Cert.Attn1RefIdeal.Value.run (F := Ideal) m g)

/-- The mask's number stands for minus infinity. -/
theorem named : Cert.preserves_Attn1_Attn1Ideal :=
  IdealRules.named_const.statement Cert.Attn1Ideal.κ "mask" .f32 0xF149F2CA#32 ⊥ rfl

theorem value : Cert.algebraic_Attn1Ideal_Attn1RefIdeal := fun m g m' g' _ hargs =>
  ⟨fun c => dq heads (argQ m c) (argK m c) (argV m c) (argY m c) (argL m c) (argD m c),
   fun c => dk heads (argQ m c) (argK m c) (argV m c) (argY m c) (argL m c) (argD m c),
   fun c => dv heads (argQ m c) (argK m c) (argY m c) (argL m c),
   (θ_run Cert.Attn1Ideal.defs _ _).mono
    (fun _ h c => ⟨(h c).1.trans (final6 m c), (h c).2.1.trans (final7 m c), (h c).2.2.1.trans (final8 m c), (h c).2.2.2⟩)
    (Cert.Attn1Ideal.Value.run_blocks (F := Ideal) m g),
   (θ_run Cert.Attn1RefIdeal.defs _ _).mono
    (fun _ h c => by
      obtain ⟨h0, h1, h2, h3, h4, h5⟩ := hargs c
      refine ⟨(h c).1.trans ?_, (h c).2.1.trans ?_, (h c).2.2.1.trans ?_, (h c).2.2.2⟩
      · refine (Attn1RefIdeal.Read.val_main_v44_eq _ _ _ _ _ _).trans ((Attn1RefIdeal.Hand.dq_eq _ _ _ _ _ _).trans ?_)
        rw [h0, h1, h2, h3, h4, h5]
      · refine (Attn1RefIdeal.Read.val_main_v46_eq _ _ _ _ _ _).trans ((Attn1RefIdeal.Hand.dk_eq _ _ _ _ _ _).trans ?_)
        rw [h0, h1, h2, h3, h4, h5]
      · refine (Attn1RefIdeal.Read.val_main_v48_eq _ _ _ _).trans ((Attn1RefIdeal.Hand.dv_eq _ _ _ _).trans ?_)
        rw [h0, h1, h3, h4])
    (Cert.Attn1RefIdeal.Value.run (F := Ideal) m' g')⟩

end Cert.Attn1Claims

end
-- ==== Proof.Product.Rope.lean ====
/-
  The rotation of queries and keys by their positions, chunk by chunk of 128 columns, and the rows of one class out of
  a block of 1024: what the body stages, what it reads back with a stride, and what it leaves in a block of an output.
-/
module

public import proofs.«01_k».proof.Proof.Product.Spec
public import Idealize.ShloMosaic.Lib.Tactic
public import Idealize.ShloMosaic.Lib.KernelVsHost
public import Idealize.ShloMosaic.Lib.Pipeline.ValueKit.Tiles

@[expose] public section

set_option maxRecDepth 16384

noncomputable section

namespace Cert.Rope

open Idealize.ShloMosaic Idealize.ShloMosaic.TcCoe Cert.Product

/-- A chunk's shape, and as one of the staged chunks. -/
abbrev Ch (N : ℕ) : Shape := ⟨2, ![N, 128]⟩
abbrev Ch1 (N : ℕ) : Shape := ⟨3, ![1, N, 128]⟩
/-- The block of a product, and the same as eight staged chunks. -/
abbrev Sq : Shape := ⟨2, ![1024, 1024]⟩
abbrev St : Shape := ⟨3, ![8, 1024, 128]⟩

theorem chunks : 8 * 128 = 1024 := rfl

/-- The other half of a head's columns, in a chunk and in the whole. -/
def swap (l : Fin 128) : Fin 128 :=
  if h : l.val % 64 < 32 then ⟨l.val + 32, by omega⟩ else ⟨l.val - 32, by omega⟩

def partner (j : Fin 1024) : Fin 1024 :=
  if h : j.val % 64 < 32 then ⟨j.val + 32, by omega⟩ else ⟨j.val - 32, by omega⟩

theorem partner_lane (c : Fin 8) (l : Fin 128) : partner (lane chunks c l) = lane chunks c (swap l) := by
  have e : (lane chunks c l).val = c.val * 128 + l.val := rfl
  refine Fin.ext ?_
  unfold partner swap
  by_cases h : l.val % 64 < 32
  · rw [dif_pos h, dif_pos (by rw [e]; omega)]
    show c.val * 128 + l.val + 32 = c.val * 128 + (l.val + 32)
    omega
  · rw [dif_neg h, dif_neg (by rw [e]; omega)]
    show c.val * 128 + l.val - 32 = c.val * 128 + (l.val - 32)
    omega

/-- The column of a table, repeated over the chunks, that a column of the product meets. -/
def wrap (j : Fin 1024) : Fin 128 := ⟨j.val % 128, by omega⟩

theorem wrap_lane (c : Fin 8) (l : Fin 128) : wrap (lane chunks c l) = l :=
  Fin.ext (by show (c.val * 128 + l.val) % 128 = l.val; omega)

/-- The rotation of a product's block by the tables of its rows. -/
def spun {R : ℕ} (a : Mat R 1024) (C T : Mat R 128) : Mat R 1024 := fun i =>
  a (ix2 (n0 := R) (i 0) (i 1)) * C (ix2 (n0 := R) (i 0) (wrap (i 1))) + a (ix2 (n0 := R) (i 0) (partner (i 1))) * T (ix2 (n0 := R) (i 0) (wrap (i 1)))

theorem spun_at {R : ℕ} (a : Mat R 1024) (C T : Mat R 128) (r : Fin R) (c : Fin 8) (l : Fin 128) :
    spun a C T (ix2 r (lane chunks c l))
      = a (ix2 r (lane chunks c l)) * C (ix2 r l) + a (ix2 r (lane chunks c (swap l))) * T (ix2 r l) := by
  show a (ix2 r (lane chunks c l)) * C (ix2 r (wrap (lane chunks c l))) + a (ix2 r (partner (lane chunks c l))) * T (ix2 r (wrap (lane chunks c l))) = _
  rw [partner_lane, wrap_lane]

section Turn
variable {N : ℕ} (hi : (Ch N).Iotas .tc 32 [1]) (hb : (Ch N).Broadcasts (Ch N)) (hr : (Ch N).Rotates 1 none)

/-- Which lanes lie in the first half of a head. -/
def flag : IVec (Ch N) 1 :=
  let k : BitVec 32 := Scalar.select (Scalar.cmpi .eq 64#32 0#32) 1#32 64#32
  let m : IVec (Ch N) 32 := remsi (iota .tc (Ch N) 32 [1] hi) (broadcast (Ch N) k)
  cmpi .slt (select (andi (xori (cmpi .slt m (broadcast (Ch N) 0#32)) (broadcastTo (Ch N) (broadcast (Ch N) (Scalar.cmpi .slt k 0#32)) hb))
    (cmpi .ne m (broadcast (Ch N) 0#32))) (addi m (broadcast (Ch N) k)) m) (broadcast (Ch N) 32#32)

/-- The rotation of a chunk. -/
def turn (x cs sn : FVec Ideal (Ch N) .f32) : FVec Ideal (Ch N) .f32 :=
  addf (mulf x cs) (mulf (select (flag hi hb) (dynamicRotate 1 96#32 none x hr) (dynamicRotate 1 32#32 none x hr)) sn)

theorem flag_at (n : Fin N) (l : Fin 128) : flag hi hb (ix2 n l) = BitVec.ofBool (decide (l.val % 64 < 32)) := by
  generalize hR : BitVec.ofBool (decide (l.val % 64 < 32)) = R
  pointwise [flag]
  subst hR
  revert l
  decide +kernel

theorem rotated_at (k : BitVec 32) (x : FVec Ideal (Ch N) .f32) (n : Fin N) (l l' : Fin 128) (h : (l.val + 128 - k.toNat % 128) % 128 = l'.val) :
    dynamicRotate 1 k none x hr (ix2 n l) = x (ix2 n l') := by
  rw [Pointwise.dynamicRotate_apply]
  refine entry2 x ?_ ?_
  · rfl
  · exact h

theorem turn_at (x cs sn : FVec Ideal (Ch N) .f32) (n : Fin N) (l : Fin 128) :
    turn hi hb hr x cs sn (ix2 n l) = x (ix2 n l) * cs (ix2 n l) + x (ix2 n (swap l)) * sn (ix2 n l) := by
  show x (ix2 n l) * cs (ix2 n l)
    + Scalar.select (flag hi hb (ix2 n l)) (dynamicRotate 1 96#32 none x hr (ix2 n l)) (dynamicRotate 1 32#32 none x hr (ix2 n l)) * sn (ix2 n l) = _
  refine congrArg (fun y => x (ix2 n l) * cs (ix2 n l) + y * sn (ix2 n l)) ?_
  rw [flag_at]
  unfold swap
  by_cases h : l.val % 64 < 32
  · rw [dif_pos h, decide_eq_true h]
    exact rotated_at hr _ x n l _ (by show (l.val + 128 - 96 % 128) % 128 = l.val + 32; omega)
  · rw [dif_neg h, decide_eq_false h]
    exact rotated_at hr _ x n l _ (by show (l.val + 128 - 32 % 128) % 128 = l.val - 32; omega)
end Turn

/-- The classes of a block's rows: `d` of them, `N` rows each, and the strides the body reads them with. -/
structure Classes where
  d : ℕ
  N : ℕ
  P : ℕ
  W : ℕ
  rows : N * d = 1024
  parts : d * 8 = P
  wide : P * 128 = W
  s3 : Fin 3 → ℕ
  s2 : Fin 2 → ℕ
  at3 : s3 1 = d ∧ s3 2 = 1
  at2 : s2 0 = d ∧ s2 1 = 1

section Classes
variable (z : Classes)

/-- An output's block. -/
abbrev Classes.O : Shape := ⟨2, ![z.N, z.W]⟩

/-- The chunk and the class of a piece of the output's block, and the block's row that a row of it is. -/
def chunk (p : Fin z.P) : Fin 8 := ⟨p.val % 8, Nat.mod_lt _ (by decide)⟩
def cls (p : Fin z.P) : Fin z.d := ⟨p.val / 8, by have := z.parts; have := p.isLt; omega⟩
def row (r : Fin z.d) (n : Fin z.N) : Fin 1024 := ⟨r.val + z.d * n.val, by
  have h := Nat.mul_le_mul_left z.d (Nat.succ_le_of_lt n.isLt)
  have h' := z.rows
  rw [Nat.mul_comm] at h'
  rw [h', Nat.mul_succ] at h
  have := r.isLt
  omega⟩

theorem last_row (r : ℕ) (hr : r < z.d) : r + z.d * (z.N - 1) < 1024 := by
  have h := z.rows
  rcases Nat.eq_zero_or_pos z.N with h0 | h0
  · rw [h0] at h
    omega
  · exact (row z ⟨r, hr⟩ ⟨z.N - 1, by omega⟩).isLt

/-- The chunk's rows of one class, in the staged product and in a table, and the piece of the output's block. -/
def staged (p : Fin z.P) : LoadRect St := ⟨![p.val % 8, p.val / 8, 0], ![1, z.N, 128], z.s3, by
  intro a
  fin_cases a
  · refine Or.inr ?_
    show p.val % 8 + z.s3 0 * (1 - 1) < 8
    omega
  · refine Or.inr ?_
    show p.val / 8 + z.s3 1 * (z.N - 1) < 1024
    rw [z.at3.1]
    exact last_row z _ (cls z p).isLt
  · refine Or.inr ?_
    show 0 + z.s3 2 * (128 - 1) < 128
    rw [z.at3.2]
    decide⟩

def tabled (p : Fin z.P) : LoadRect (Ch 1024) := ⟨![p.val / 8, 0], ![z.N, 128], z.s2, by
  intro a
  fin_cases a
  · refine Or.inr ?_
    show p.val / 8 + z.s2 0 * (z.N - 1) < 1024
    rw [z.at2.1]
    exact last_row z _ (cls z p).isLt
  · refine Or.inr ?_
    show 0 + z.s2 1 * (128 - 1) < 128
    rw [z.at2.2]
    decide⟩

def put (p : Fin z.P) : Rect z.O := Rect.unit ![0, 128 * p.val] ![z.N, 128] (by
  intro a
  have := z.wide
  have := p.isLt
  fin_cases a
  · show 0 + z.N ≤ z.N
    omega
  · show 128 * p.val + 128 ≤ z.W
    omega)

theorem staged_idx (p : Fin z.P) (n : Fin z.N) (l : Fin 128) :
    (staged z p).idx (ix3 (n0 := 1) 0 n l) = ix3 (chunk z p) (row z (cls z p) n) l := by
  funext a
  refine Fin.ext ?_
  fin_cases a
  · show p.val % 8 + z.s3 0 * 0 = p.val % 8
    omega
  · show p.val / 8 + z.s3 1 * n.val = p.val / 8 + z.d * n.val
    rw [z.at3.1]
  · show 0 + z.s3 2 * l.val = l.val
    rw [z.at3.2]
    omega

theorem tabled_idx (p : Fin z.P) (n : Fin z.N) (l : Fin 128) : (tabled z p).idx (ix2 n l) = ix2 (row z (cls z p) n) l := by
  funext a
  refine Fin.ext ?_
  fin_cases a
  · show p.val / 8 + z.s2 0 * n.val = p.val / 8 + z.d * n.val
    rw [z.at2.1]
  · show 0 + z.s2 1 * l.val = l.val
    rw [z.at2.2]
    omega

/-- What an output's block holds of a product's block: class after class, its rows. -/
def laid (f : Mat 1024 1024) : Mat z.N z.W := fun i =>
  f (ix2 (row z ⟨(i 1).val / 1024, by
      have := z.parts
      have := z.wide
      have h : (i 1).val < z.W := (i 1).isLt
      omega⟩ (i 0)) ⟨(i 1).val % 1024, Nat.mod_lt _ (by decide)⟩)

theorem laid_at (f : Mat 1024 1024) (p : Fin z.P) (n : Fin z.N) (l : Fin 128) :
    laid z f (ix2 n (lane z.wide p l)) = f (ix2 (row z (cls z p) n) (lane chunks (chunk z p) l)) := by
  refine entry2 f ?_ ?_
  · show (p.val * 128 + l.val) / 1024 + z.d * n.val = p.val / 8 + z.d * n.val
    omega
  · show (p.val * 128 + l.val) % 1024 = p.val % 8 * 128 + l.val
    omega

section Pieces
variable (v : Fin z.P → FVec Ideal (Ch z.N) .bf16)

/-- The stores into an output's block. -/
def pieces (ps : List (Fin z.P)) : List (View.Piece (Elt Ideal) z.O .bf16) := ps.map fun p => ⟨put z p, v p⟩

variable {z v}

theorem pieces_cons {p : Fin z.P} {ps : List (Fin z.P)} {w : FVec Ideal (Ch z.N) .bf16} {L : List (View.Piece (Elt Ideal) z.O .bf16)}
    (hL : pieces z v ps = L) (hw : v p = w) : pieces z v (p :: ps) = ⟨put z p, w⟩ :: L := by
  subst hL hw
  rfl

theorem emb_put (p : Fin z.P) (n : Fin z.N) (l : Fin 128) : (put z p).emb (ix2 n l) = ix2 n (lane z.wide p l) := by
  funext a
  refine Fin.ext ?_
  fin_cases a
  · show 0 + 1 * n.val = n.val
    omega
  · show 128 * p.val + 1 * l.val = p.val * 128 + l.val
    omega

theorem of_put {p q : Fin z.P} {n : Fin z.N} {l : Fin 128} (h : (ix2 n (lane z.wide p l) : z.O.Idx) ∈ (put z q).set) : p = q := by
  unfold put at h
  rw [Rect.mem_set_unit] at h
  have h1 : 128 * q.val ≤ p.val * 128 + l.val := (h 1).1
  have h1' : p.val * 128 + l.val < 128 * q.val + 128 := (h 1).2
  exact Fin.ext (by omega)

theorem put_own (p : Fin z.P) (w : (Ch z.N).Idx → Elt Ideal .bf16) (L : List (View.Piece (Elt Ideal) z.O .bf16)) (n : Fin z.N) (l : Fin 128) :
    View.canon (Val := Elt Ideal) (⟨put z p, w⟩ :: L) (ix2 n (lane z.wide p l)) = w (ix2 n l) := by
  rw [← emb_put]
  exact View.canon_cons_emb (Val := Elt Ideal) (e := .bf16) (put z p) w L (ix2 n l)

theorem put_other (p q : Fin z.P) (w : (Ch z.N).Idx → Elt Ideal .bf16) (L : List (View.Piece (Elt Ideal) z.O .bf16)) (n : Fin z.N) (l : Fin 128) (h : ¬ p = q) :
    View.canon (Val := Elt Ideal) (⟨put z q, w⟩ :: L) (ix2 n (lane z.wide p l)) = View.canon L (ix2 n (lane z.wide p l)) :=
  View.canon_cons_of_not_mem (Val := Elt Ideal) (e := .bf16) _ _ fun hm => h (of_put hm)

theorem pieces_at (p : Fin z.P) (n : Fin z.N) (l : Fin 128) (ps : List (Fin z.P)) (h : p ∈ ps) :
    View.canon (Val := Elt Ideal) (pieces z v ps) (ix2 n (lane z.wide p l)) = v p (ix2 n l) := by
  induction ps with
  | nil => cases h
  | cons q ps ih =>
    by_cases hq : p = q
    · subst hq
      exact put_own p (v p) (pieces z v ps) n l
    · exact (put_other p q (v q) (pieces z v ps) n l hq).trans (ih ((List.mem_cons.mp h).resolve_left hq))

/-- All of them, in the order the body stores them in, the last one first. -/
def order (P : ℕ) : List (Fin P) := (List.finRange P).reverse

theorem pieces_eq (f : Mat 1024 1024) (h : ∀ p n l, v p (ix2 n l) = f (ix2 (row z (cls z p) n) (lane chunks (chunk z p) l))) :
    View.canon (Val := Elt Ideal) (pieces z v (order z.P)) = laid z f := by
  funext y
  obtain ⟨n, j, rfl⟩ : ∃ (n : Fin z.N) (j : Fin z.W), y = ix2 n j := ⟨y 0, y 1, eq_ix2 y⟩
  obtain ⟨p, l, rfl⟩ : ∃ p l, j = lane z.wide p l :=
    ⟨⟨j.val / 128, by have := z.wide; have := j.isLt; omega⟩, ⟨j.val % 128, by omega⟩,
      Fin.ext (by show j.val = j.val / 128 * 128 + j.val % 128; omega)⟩
  exact (pieces_at p n l _ (List.mem_reverse.mpr (List.mem_finRange p))).trans ((h p n l).trans (laid_at z f p n l).symm)
end Pieces
end Classes

section Stage

/-- A chunk of a product's block, as it is staged. -/
def stage (a : FVec Ideal Sq .f32) (c : Fin 8) : FVec Ideal (Ch1 1024) .f32 :=
  shapeCast (Ch1 1024) (extractStridedSlice (Ch 1024) ![0, 128 * c.val] a ⟨rfl, by
    intro x
    have := c.isLt
    fin_cases x
    · exact le_refl 1024
    · show 128 * c.val + 128 ≤ 1024
      omega⟩) (by decide)

def spot (c : Fin 8) : Rect St := Rect.unit ![c.val, 0, 0] ![1, 1024, 128] (by
  intro a
  have := c.isLt
  fin_cases a
  · show c.val + 1 ≤ 8
    omega
  · exact le_refl 1024
  · exact le_refl 128)

/-- The eight stores of a product's block, over those before. -/
def stages (a : FVec Ideal Sq .f32) (L : List (View.Piece (Elt Ideal) St .f32)) : List (Fin 8) → List (View.Piece (Elt Ideal) St .f32)
  | [] => L
  | c :: cs => ⟨spot c, stage a c⟩ :: stages a L cs

abbrev eight : List (Fin 8) := [7, 6, 5, 4, 3, 2, 1, 0]

theorem stage_at (a : FVec Ideal Sq .f32) (c : Fin 8) (n : Fin 1024) (l : Fin 128) :
    stage a c (ix3 (n0 := 1) 0 n l) = a (ix2 n (lane chunks c l)) := by
  generalize hR : a (ix2 n (lane chunks c l)) = R
  pointwise [stage]
  subst hR
  refine entry2 a rfl ?_
  show 128 * c.val + l.val = c.val * 128 + l.val
  omega

theorem emb_spot (c : Fin 8) (n : Fin 1024) (l : Fin 128) : (spot c).emb (ix3 (n0 := 1) 0 n l) = ix3 c n l := by
  funext x
  refine Fin.ext ?_
  fin_cases x
  · show c.val + 1 * 0 = c.val
    omega
  · show 0 + 1 * n.val = n.val
    omega
  · show 0 + 1 * l.val = l.val
    omega

theorem of_spot {c q : Fin 8} {n : Fin 1024} {l : Fin 128} (h : (ix3 c n l : St.Idx) ∈ (spot q).set) : c = q := by
  unfold spot at h
  rw [Rect.mem_set_unit] at h
  have h1 : q.val ≤ c.val := (h 0).1
  have h1' : c.val < q.val + 1 := (h 0).2
  exact Fin.ext (by omega)

section
variable (c q : Fin 8) (w : (Ch1 1024).Idx → Elt Ideal .f32) (L : List (View.Piece (Elt Ideal) St .f32)) (n : Fin 1024) (l : Fin 128)

theorem spot_own : View.canon (Val := Elt Ideal) (⟨spot c, w⟩ :: L) (ix3 c n l) = w (ix3 (n0 := 1) 0 n l) := by
  rw [← emb_spot]
  exact View.canon_cons_emb (Val := Elt Ideal) (e := .f32) (spot c) w L (ix3 (n0 := 1) 0 n l)

theorem spot_other (h : ¬ c = q) : View.canon (Val := Elt Ideal) (⟨spot q, w⟩ :: L) (ix3 c n l) = View.canon L (ix3 c n l) :=
  View.canon_cons_of_not_mem (Val := Elt Ideal) (e := .f32) _ _ fun hm => h (of_spot hm)
end

theorem stages_at (a : FVec Ideal Sq .f32) (L : List (View.Piece (Elt Ideal) St .f32)) (c : Fin 8) (n : Fin 1024) (l : Fin 128) (cs : List (Fin 8)) (h : c ∈ cs) :
    View.canon (Val := Elt Ideal) (stages a L cs) (ix3 c n l) = a (ix2 n (lane chunks c l)) := by
  induction cs with
  | nil => cases h
  | cons q cs ih =>
    by_cases hq : c = q
    · subst hq
      exact (spot_own c (stage a c) (stages a L cs) n l).trans (stage_at a c n l)
    · exact (spot_other c q (stage a q) (stages a L cs) n l hq).trans (ih ((List.mem_cons.mp h).resolve_left hq))
end Stage

theorem all_eight : ∀ c : Fin 8, c ∈ eight := by decide

section Values
variable (z : Classes) {sig : RefSig} (S : View sig .tc .vmem St .f32)
  (hc : (Ch1 z.N).ShapeCasts (Ch z.N)) (hs : (Ch z.N).ShapeCasts (Ch z.N))
  (hi : (Ch z.N).Iotas .tc 32 [1]) (hb : (Ch z.N).Broadcasts (Ch z.N)) (hr : (Ch z.N).Rotates 1 none)

/-- What the body reads of a table. -/
abbrev Table := (r : LoadRect (Ch 1024)) → r.shape.Idx → EReal

/-- A piece read back from the stage, -/
def back (L : List (View.Piece (Elt Ideal) St .f32)) (p : Fin z.P) : FVec Ideal (Ch1 z.N) .f32 := S.readCov L (staged z p)
def rowsOf (C : Table) (p : Fin z.P) : FVec Ideal (Ch z.N) .f32 := C (tabled z p)

/-- as it is stored, -/
def plain (L : List (View.Piece (Elt Ideal) St .f32)) (p : Fin z.P) : FVec Ideal (Ch z.N) .bf16 :=
  truncf (φ := .f32) .bf16 (shapeCast (Ch z.N) (back z S L p) hc) (by decide)

/-- and as it is stored rotated, by the rows of two tables, and scaled. -/
def rotated (L : List (View.Piece (Elt Ideal) St .f32)) (C T : Table) (w : BitVec 32) (p : Fin z.P) : FVec Ideal (Ch z.N) .bf16 :=
  truncf (φ := .f32) .bf16 (mulf (turn hi hb hr (shapeCast (Ch z.N) (back z S L p) hc) (rowsOf z C p) (shapeCast (Ch z.N) (rowsOf z T p) hs))
    (broadcast (Ch z.N) (Scalar.ofBits .f32 w))) (by decide)

theorem cast_at (x : FVec Ideal (Ch1 z.N) .f32) (n : Fin z.N) (l : Fin 128) : shapeCast (Ch z.N) x hc (ix2 n l) = x (ix3 (n0 := 1) 0 n l) :=
  shapeCast_apply x hc (ix2 n l) (ix3 (n0 := 1) 0 n l) (by
    rw [Shape.rowMajor_val_two, Shape.rowMajor_val_three]
    show (0 * z.N + n.val) * 128 + l.val = n.val * 128 + l.val
    omega)

variable (a : FVec Ideal Sq .f32) (M : List (View.Piece (Elt Ideal) St .f32)) (p : Fin z.P) (n : Fin z.N) (l : Fin 128)

theorem back_at : shapeCast (Ch z.N) (back z S (stages a M eight) p) hc (ix2 n l) = a (ix2 (row z (cls z p) n) (lane chunks (chunk z p) l)) := by
  refine (cast_at z hc _ n l).trans ?_
  unfold back
  rw [View.readCov_eq_canon']
  exact (congrArg (View.canon _) (staged_idx z p n l)).trans (stages_at a M _ _ l eight (all_eight _))

theorem plain_at : plain z S hc (stages a M eight) p (ix2 n l) = a (ix2 (row z (cls z p) n) (lane chunks (chunk z p) l)) := back_at z S hc a M p n l

theorem rowsOf_at {C : Table} {c : Mat 1024 128} (hC : ∀ r x, C r x = c (r.idx x)) : rowsOf z C p (ix2 n l) = c (ix2 (row z (cls z p) n) l) :=
  (hC _ _).trans (congrArg c (tabled_idx z p n l))

theorem rotated_eq (w : BitVec 32) {C T : Table} {c t : Mat 1024 128} (hC : ∀ r x, C r x = c (r.idx x)) (hT : ∀ r x, T r x = t (r.idx x)) :
    rotated z S hc hs hi hb hr (stages a M eight) C T w p (ix2 n l)
      = spun a c t (ix2 (row z (cls z p) n) (lane chunks (chunk z p) l)) * Ideal.ofBits .f32 w := by
  refine congrArg (· * Ideal.ofBits .f32 w) ((turn_at hi hb hr _ _ _ n l).trans ?_)
  rw [back_at, back_at, rowsOf_at z p n l hC, shapeCast_self, rowsOf_at z p n l hT]
  exact (spun_at a c t _ _ l).symm
end Values

end Cert.Rope

end
-- ==== Proof.Product.RopeArray.lean ====
/-
  The rotated queries and keys of a whole array of 4096 tokens: the tables by position, the layout by classes of rows,
  a grid point's rows of them, and the same values written plainly, head by head.
-/
module

public import proofs.«01_k».proof.Proof.Product.Rope

@[expose] public section

set_option maxRecDepth 16384

noncomputable section

namespace Cert.Rope

open Idealize.ShloMosaic Idealize.ShloMosaic.TcCoe Cert.Product

theorem four : 4 * 1024 = 4096 := rfl
theorem sixteen : 16 * 64 = 1024 := rfl

/-- Block `g` of a weight's columns, 1024 of them. -/
def cols {G C : ℕ} (h : G * 1024 = C) (g : Fin G) (w : Mat 1024 C) : Mat 1024 1024 := fun i =>
  w (ix2 (n0 := 1024) (i 0) (lane h g (i 1)))

/-- The tables as the kernel wants them: the cosines repeated, and the sines with the sign of a head's half. -/
def cosines (c : Mat 4096 32) : Mat 4096 128 := fun i =>
  c (ix2 (n0 := 4096) (i 0) ⟨(i 1).val % 32, Nat.mod_lt _ (by decide)⟩)

def signed (s : Mat 4096 32) : Mat 4096 128 := fun i =>
  if (i 1).val % 64 < 32 then -s (ix2 (n0 := 4096) (i 0) ⟨(i 1).val % 32, Nat.mod_lt _ (by decide)⟩)
  else s (ix2 (n0 := 4096) (i 0) ⟨(i 1).val % 32, Nat.mod_lt _ (by decide)⟩)

/-- Block `t` of an array's rows. -/
def IsRows {C : ℕ} (t : Fin 4) (x : Mat 1024 C) (X : Mat 4096 C) : Prop := ∀ r k, x (ix2 r k) = X (ix2 (lane four t r) k)

theorem prod_rows {C : ℕ} {t : Fin 4} {x : Mat 1024 1024} {X : Mat 4096 1024} {w W : Mat 1024 C} (hx : IsRows t x X) (hw : w = W) :
    IsRows t (prod x w) (prod X W) := fun r k => by
  subst hw
  exact Finset.sum_congr rfl fun q _ => congrArg (· * w (ix2 q k)) (hx r q)

theorem spun_rows {t : Fin 4} {a : Mat 1024 1024} {A : Mat 4096 1024} {c s : Mat 1024 128} {C S : Mat 4096 128}
    (ha : IsRows t a A) (hc : IsRows t c C) (hs : IsRows t s S) : IsRows t (spun a c s) (spun A C S) := fun r k =>
  congrArg₂ (· + ·) (congrArg₂ (· * ·) (ha r k) (hc r (wrap k))) (congrArg₂ (· * ·) (ha r (partner k)) (hs r (wrap k)))

theorem scaled_rows {C : ℕ} {t : Fin 4} {x : Mat 1024 C} {X : Mat 4096 C} (w : EReal) (hx : IsRows t x X) :
    IsRows t (fun i => x i * w) (fun i => X i * w) := fun r k => congrArg (· * w) (hx r k)

/-- An index of a block of rows, or of a weight's columns, in the array; and every index lies in the block of its row. -/
theorem at_rows {T n R C : ℕ} (h : T * n = R) (t : Fin T) (X : Mat R C) {i : (⟨2, ![R, C]⟩ : Shape).Idx} {a b : ℕ}
    (ha : a = t.val) (hb : b = 0) (r : Fin n) (k : Fin C) (h0 : (i 0).val = a * n + 1 * r.val)
    (h1 : (i 1).val = b * C + 1 * k.val) : X i = X (ix2 (lane h t r) k) := by
  refine entry2 X ?_ ?_
  · show (i 0).val = t.val * n + r.val
    rw [h0, ha]; omega
  · show (i 1).val = k.val
    rw [h1, hb]; omega

theorem in_rows {n R C : ℕ} (hp : 0 < n) (i : (⟨2, ![R, C]⟩ : Shape).Idx) {t a b : ℕ} (ht : t = (i 0 : ℕ) / n) (ha : a = t) (hb : b = 0) :
    (a * n ≤ (i 0 : ℕ) ∧ (i 0 : ℕ) < a * n + n) ∧ (b * C ≤ (i 1 : ℕ) ∧ (i 1 : ℕ) < b * C + C) := by
  have h1 : (i 1 : ℕ) < C := (i 1).isLt
  have hm := Nat.div_add_mod (i 0 : ℕ) n
  have hl := Nat.mod_lt (i 0 : ℕ) hp
  subst ha hb ht
  rw [Nat.mul_comm] at hm
  omega

theorem at_cols {G C : ℕ} (h : G * 1024 = C) (g : Fin G) (X : Mat 1024 C) {i : (⟨2, ![1024, C]⟩ : Shape).Idx} {a b : ℕ}
    (ha : a = 0) (hb : b = g.val) (k l : Fin 1024) (h0 : (i 0).val = a * 1024 + 1 * k.val)
    (h1 : (i 1).val = b * 1024 + 1 * l.val) : X i = cols h g X (ix2 k l) := by
  refine entry2 X (j := ix2 k (lane h g l)) ?_ ?_
  · rw [h0, ha, Nat.zero_mul, Nat.one_mul, Nat.zero_add]
    rfl
  · rw [h1, hb, Nat.one_mul]
    rfl

theorem by_entries {x y : Mat 1024 1024} (h : ∀ k l, x (ix2 k l) = y (ix2 k l)) : x = y := by
  funext i
  rw [eq_ix2 i]
  exact h _ _

section Spread
variable (z : Classes) {R : ℕ} (h : 4 * z.N = R)

include h in
theorem token_lt (r : Fin z.d) (n : Fin R) : r.val + z.d * n.val < 4096 := by
  have e := Nat.mul_le_mul_left z.d (Nat.succ_le_of_lt n.isLt)
  have e' : z.d * R = 4096 := by rw [← h, Nat.mul_left_comm, Nat.mul_comm z.d, z.rows]
  rw [e', Nat.mul_succ] at e
  have := r.isLt
  omega

/-- The array by classes of rows: row `n` holds the `d` tokens from `d * n` on, one after another. -/
def spread (F : Mat 4096 1024) : Mat R z.W := fun i =>
  F (ix2 ⟨(i 1).val / 1024 + z.d * (i 0).val, token_lt z h ⟨(i 1).val / 1024, by
      have := z.parts
      have := z.wide
      have h : (i 1).val < z.W := (i 1).isLt
      omega⟩ (i 0)⟩ ⟨(i 1).val % 1024, Nat.mod_lt _ (by decide)⟩)

/-- A grid point's block of it. -/
theorem laid_rows {t : Fin 4} {f : Mat 1024 1024} {F : Mat 4096 1024} (hf : IsRows t f F) (n : Fin z.N) (j : Fin z.W) :
    laid z f (ix2 n j) = spread z h F (ix2 (lane h t n) j) := by
  refine (hf _ _).trans (entry2 F ?_ rfl)
  show t.val * 1024 + (j.val / 1024 + z.d * n.val) = j.val / 1024 + z.d * (t.val * z.N + n.val)
  have e : z.d * (t.val * z.N) = t.val * 1024 := by rw [Nat.mul_left_comm, Nat.mul_comm z.d, z.rows]
  rw [Nat.mul_add, e]
  omega

/-- Head by head, the same values. -/
abbrev Hd : Shape := ⟨3, ![4096, 16, 64]⟩
abbrev Hf : Shape := ⟨3, ![4096, 16, 32]⟩

def IsHeads (x : FVec Ideal Hd .f32) (F : Mat 4096 1024) : Prop := ∀ s a e, x (ix3 s a e) = F (ix2 s (lane sixteen a e))

/-- The layout is a reshape of the heads. -/
theorem reshaped {x : FVec Ideal Hd .f32} {F : Mat 4096 1024} (hx : IsHeads x F) (hc : Hd.ShapeCasts ⟨2, ![R, z.W]⟩) :
    shapeCast ⟨2, ![R, z.W]⟩ x hc = spread z h F := by
  funext i
  obtain ⟨n, j, rfl⟩ : ∃ (n : Fin R) (j : Fin z.W), i = ix2 n j := ⟨i 0, i 1, eq_ix2 i⟩
  have hp := z.parts
  have hw := z.wide
  have hj := j.isLt
  have hs := token_lt z h ⟨j.val / 1024, by omega⟩ n
  refine (shapeCast_apply x hc (ix2 n j) (ix3 ⟨j.val / 1024 + z.d * n.val, hs⟩ ⟨j.val % 1024 / 64, by omega⟩ ⟨j.val % 64, by omega⟩) ?_).trans
    ((hx _ _ _).trans (entry2 F rfl ?_))
  · rw [Shape.rowMajor_val_two, Shape.rowMajor_val_three]
    show ((j.val / 1024 + z.d * n.val) * 16 + j.val % 1024 / 64) * 64 + j.val % 64 = n.val * z.W + j.val
    have e : n.val * z.W = z.d * n.val * 1024 := by
      rw [show z.W = z.d * 1024 by omega, ← Nat.mul_assoc, Nat.mul_comm n.val]
    rw [e]
    omega
  · show j.val % 1024 / 64 * 64 + j.val % 64 = j.val % 1024
    omega
end Spread

section Plain
variable (hs : (⟨2, ![4096, 1024]⟩ : Shape).ShapeCasts Hd) (h0 : Hd.Slices ![0, 0, 0] Hf) (h1 : Hd.Slices ![0, 0, 32] Hf)
  (hb : (⟨2, ![4096, 32]⟩ : Shape).BroadcastsInDim ⟨3, ![4096, 1, 32]⟩ (![0, 2] : Fin 2 → Fin 3))
  (hb' : (⟨3, ![4096, 1, 32]⟩ : Shape).BroadcastsInDim Hf (![0, 1, 2] : Fin 3 → Fin 3))
  (hk : Shape.Concatenates [Hf, Hf] Hd 2)

/-- A table of the positions, over the heads. -/
def over (c : FVec Ideal ⟨2, ![4096, 32]⟩ .f32) : FVec Ideal Hf .f32 :=
  broadcastInDim Hf ![0, 1, 2] hb' (broadcastInDim ⟨3, ![4096, 1, 32]⟩ ![0, 2] hb c)

/-- The two halves of the heads. -/
def low (a : FVec Ideal ⟨2, ![4096, 1024]⟩ .f32) : FVec Ideal Hf .f32 := extractStridedSlice Hf ![0, 0, 0] (shapeCast Hd a hs) h0
def high (a : FVec Ideal ⟨2, ![4096, 1024]⟩ .f32) : FVec Ideal Hf .f32 := extractStridedSlice Hf ![0, 0, 32] (shapeCast Hd a hs) h1

/-- The rotation written plainly. -/
def rope (a : FVec Ideal ⟨2, ![4096, 1024]⟩ .f32) (c s : FVec Ideal ⟨2, ![4096, 32]⟩ .f32) : FVec Ideal Hd .f32 :=
  concatenate Hd 2
    [⟨Hf, subf (mulf (low hs h0 a) (over hb hb' c)) (mulf (high hs h1 a) (over hb hb' s))⟩,
     ⟨Hf, addf (mulf (high hs h1 a) (over hb hb' c)) (mulf (low hs h0 a) (over hb hb' s))⟩] hk

theorem cast_heads (a : Mat 4096 1024) : IsHeads (shapeCast Hd a hs) a := fun s b e =>
  shapeCast_apply a hs (ix3 s b e) (ix2 s (lane sixteen b e)) (by
    rw [Shape.rowMajor_val_two, Shape.rowMajor_val_three]
    show s.val * 1024 + (b.val * 64 + e.val) = (s.val * 16 + b.val) * 64 + e.val
    omega)

theorem over_at (c : Mat 4096 32) (s : Fin 4096) (b : Fin 16) (e : Fin 32) : over hb hb' c (ix3 s b e) = c (ix2 s e) := by
  pointwise [over]

theorem low_at (a : Mat 4096 1024) (s : Fin 4096) (b : Fin 16) (e : Fin 32) (l : Fin 64) (hl : l.val = e.val) :
    low hs h0 a (ix3 s b e) = a (ix2 s (lane sixteen b l)) := by
  refine Eq.trans ?_ (cast_heads hs a s b l)
  exact entry3 (shapeCast Hd a hs) (by show 0 + s.val = s.val; omega) (by show 0 + b.val = b.val; omega) (by show 0 + e.val = l.val; omega)

theorem high_at (a : Mat 4096 1024) (s : Fin 4096) (b : Fin 16) (e : Fin 32) (l : Fin 64) (hl : l.val = 32 + e.val) :
    high hs h1 a (ix3 s b e) = a (ix2 s (lane sixteen b l)) := by
  refine Eq.trans ?_ (cast_heads hs a s b l)
  exact entry3 (shapeCast Hd a hs) (by show 0 + s.val = s.val; omega) (by show 0 + b.val = b.val; omega) (by show 32 + e.val = l.val; omega)

/-- The rotation's two lines are the kernel's one, with the sign in the table. -/
theorem rope_heads (a : Mat 4096 1024) (c s : Mat 4096 32) :
    IsHeads (rope hs h0 h1 hb hb' hk a c s) (spun a (cosines c) (signed s)) := fun n b e => by
  have hp : (lane sixteen b e).val = b.val * 64 + e.val := rfl
  by_cases he : e.val < 32
  · refine (concatenate_pair_apply_left 2 _ _ hk (ix3 n b e) rfl (ix3 n b (⟨e.val, he⟩ : Fin 32)) (by
      intro d
      fin_cases d <;> rfl)).trans ?_
    show low hs h0 a (ix3 n b ⟨e.val, he⟩) * over hb hb' c (ix3 n b ⟨e.val, he⟩)
      - high hs h1 a (ix3 n b ⟨e.val, he⟩) * over hb hb' s (ix3 n b ⟨e.val, he⟩) = _
    rw [over_at, over_at, low_at hs h0 a n b _ e rfl, high_at hs h1 a n b _ ⟨32 + e.val, by omega⟩ rfl, sub_eq_add_neg, ← mul_neg]
    refine congrArg₂ (· + ·) (congrArg₂ (· * ·) rfl (entry2 c rfl ?_)) (congrArg₂ (· * ·) (entry2 a rfl ?_) ?_)
    · show e.val = (b.val * 64 + e.val) % 128 % 32
      omega
    · show b.val * 64 + (32 + e.val) = (partner (lane sixteen b e)).val
      unfold partner
      rw [dif_pos (by rw [hp]; omega)]
      show b.val * 64 + (32 + e.val) = b.val * 64 + e.val + 32
      omega
    · refine Eq.trans ?_ (if_pos (by show (b.val * 64 + e.val) % 128 % 64 < 32; omega)).symm
      refine congrArg (fun y => -y) (entry2 s rfl ?_)
      show e.val = (b.val * 64 + e.val) % 128 % 32
      omega
  · have he' : e.val - 32 < 32 := by omega
    refine (concatenate_pair_apply_right 2 _ _ hk (ix3 n b e) rfl rfl (ix3 n b (⟨e.val - 32, he'⟩ : Fin 32)) (by
      intro d hd
      fin_cases d
      · rfl
      · rfl
      · exact absurd rfl hd) (by
      show e.val - 32 + 32 = e.val
      omega)).trans ?_
    show high hs h1 a (ix3 n b ⟨e.val - 32, _⟩) * over hb hb' c (ix3 n b ⟨e.val - 32, _⟩)
      + low hs h0 a (ix3 n b ⟨e.val - 32, _⟩) * over hb hb' s (ix3 n b ⟨e.val - 32, _⟩) = _
    rw [over_at, over_at, high_at hs h1 a n b _ e (by show e.val = 32 + (e.val - 32); omega), low_at hs h0 a n b _ ⟨e.val - 32, by omega⟩ rfl]
    refine congrArg₂ (· + ·) (congrArg₂ (· * ·) rfl (entry2 c rfl ?_)) (congrArg₂ (· * ·) (entry2 a rfl ?_) ?_)
    · show e.val - 32 = (b.val * 64 + e.val) % 128 % 32
      omega
    · show b.val * 64 + (e.val - 32) = (partner (lane sixteen b e)).val
      unfold partner
      rw [dif_neg (by rw [hp]; omega)]
      show b.val * 64 + (e.val - 32) = b.val * 64 + e.val - 32
      omega
    · refine Eq.trans ?_ (if_neg (by show ¬ (b.val * 64 + e.val) % 128 % 64 < 32; omega)).symm
      refine entry2 s rfl ?_
      show e.val - 32 = (b.val * 64 + e.val) % 128 % 32
      omega
end Plain

end Cert.Rope
end
-- ==== Proof.Product.QkvBlock1.lean ====
/-
  One block of rows of the queries, keys and values of the heads at dilation 1: the stores of the body, and what they
  leave in the three outputs.
-/
module

public import proofs.«01_k».proof.Proof.Product.Rope
public import proofs.«01_k».proof.Proof.Gen.Qkv1Ideal.Frame
public import proofs.«01_k».proof.Proof.Gen.Qkv1Ideal.Value

@[expose] public section

set_option maxRecDepth 65536

noncomputable section

namespace Cert.Qkv1Ideal.Hand

open Cert.Qkv1Ideal Cert.Qkv1Ideal.Gen Idealize.ShloMosaic Idealize.ShloMosaic.TcCoe Cert.Product Cert.Rope

/-- The classes of a block's rows. -/
abbrev z : Classes := ⟨1, 1024, 8, 1024, rfl, rfl, rfl, fun _ => 1, fun _ => 1, ⟨rfl, rfl⟩, ⟨rfl, rfl⟩⟩

/-- The pieces, in the order the body stores them in, the last one first. -/
theorem order_eq : order z.P = [7, 6, 5, 4, 3, 2, 1, 0] := by
  decide

section Run
variable (c : Dev nD) (i : grid0.Coords)
  (arg1 : Memref sig .tc .vmem S1024x1024 .bf16) (harg1 : arg1.IsWhole) (arg2 : Memref sig .tc .vmem S1024x1024 .bf16) (harg2 : arg2.IsWhole)
  (arg3 : Memref sig .tc .vmem S1024x1024 .bf16) (harg3 : arg3.IsWhole) (arg4 : Memref sig .tc .vmem S1024x1024 .bf16) (harg4 : arg4.IsWhole)
  (arg5 : Memref sig .tc .vmem S1024x1024 .bf16) (harg5 : arg5.IsWhole) (arg6 : Memref sig .tc .vmem S1024x128 .f32) (harg6 : arg6.IsWhole)
  (arg7 : Memref sig .tc .vmem S1024x128 .f32) (harg7 : arg7.IsWhole) (arg8 : Memref sig .tc .vmem S1024x1024 .bf16) (harg8 : arg8.IsWhole)
  (arg9 : Memref sig .tc .vmem S1024x1024 .bf16) (harg9 : arg9.IsWhole) (arg10 : Memref sig .tc .vmem S1024x1024 .bf16) (harg10 : arg10.IsWhole)
  (arg11 : Memref sig .tc .vmem S8x1024x128 .f32) (harg11 : arg11.IsWhole)
  (x0 x1 x2 x3 x4 : Vec Ideal S1024x1024 .bf16) (x5 x6 : Vec Ideal S1024x128 .f32)

/-- The product of two whole blocks, as the body takes it, and the loads of a table's rows. -/
abbrev made (M M' : Memref sig .tc .vmem S1024x1024 .bf16) (h : M.IsWhole) (h' : M'.IsWhole) (x y : Vec Ideal S1024x1024 .bf16) : FVec Ideal Sq .f32 :=
  k0_pay5 (View.readAt (Elt Ideal) M.view (Rect.unit (s := S1024x1024) ![0, 0] S1024x1024.size inb_S1024x1024_S1024x1024_0_0).toLoadRect (h.unread x))
    (View.readAt (Elt Ideal) M'.view (Rect.unit (s := S1024x1024) ![0, 0] S1024x1024.size inb_S1024x1024_S1024x1024_0_0).toLoadRect (h'.unread y))

abbrev table (M : Memref sig .tc .vmem S1024x128 .f32) (h : M.IsWhole) (x : Vec Ideal S1024x128 .f32) : Rope.Table :=
  fun r => View.readAt (Elt Ideal) M.view r (h.unread x)

omit c i in
theorem made_eq (M M' : Memref sig .tc .vmem S1024x1024 .bf16) (h : M.IsWhole) (h' : M'.IsWhole) (x y : Vec Ideal S1024x1024 .bf16) :
    made M M' h h' x y = prod x y := by
  unfold made
  rw [View.readAt_eq_ld, View.readAt_eq_ld, h.read_unread, h'.read_unread, View.ld_unit_zero (S := S1024x1024) Cert.Product.hz2,
    View.ld_unit_zero (S := S1024x1024) Cert.Product.hz2]
  funext j
  obtain ⟨r, l, rfl⟩ : ∃ (r : Fin 1024) (l : Fin 1024), j = ix2 r l := ⟨j 0, j 1, eq_ix2 j⟩
  show _ = ∑ k : Fin 1024, x (ix2 r k) * y (ix2 k l)
  pointwise [k0_pay5]

omit c i in
theorem table_at (M : Memref sig .tc .vmem S1024x128 .f32) (h : M.IsWhole) (x : Vec Ideal S1024x128 .f32) (r : LoadRect S1024x128) (j : r.shape.Idx) :
    table M h x r j = x (r.idx j) := congrFun (h.read_unread (Val := Elt Ideal) x) (r.idx j)

/-- The three products' stages, one over another. -/
abbrev staged0 := stages (made arg1 arg3 harg1 harg3 x0 x2) [] eight
abbrev staged1 := stages (made arg2 arg4 harg2 harg4 x1 x3) (staged0 arg1 harg1 arg3 harg3 x0 x2) eight
abbrev staged2 := stages (made arg2 arg5 harg2 harg5 x1 x4) (staged1 arg1 harg1 arg2 harg2 arg3 harg3 arg4 harg4 x0 x1 x2 x3) eight

/-- A piece of the queries or keys. -/
abbrev turned (L : List (View.Piece (Elt Ideal) St .f32)) (w : BitVec 32) : Fin z.P → FVec Ideal (Ch z.N) .bf16 :=
  rotated z arg11.view shapeCasts_S1x1024x128_S1024x128 shapeCasts_S1024x128_S1024x128 iota_S1024x128_d1_w32 broadcasts_S1024x128_S1024x128
    rotates_S1024x128_d1 L (table arg6 harg6 x5) (table arg7 harg7 x6) w

theorem q_run :
    (kernelRun0_A (F := Ideal) c i arg1 harg1 arg2 harg2 arg3 harg3 arg4 harg4 arg5 harg5 arg6 harg6 arg7 harg7 arg8 harg8 arg9 harg9
      arg10 harg10 arg11 harg11 x0 x1 x2 x3 x4 x5 x6).1
      = pieces z (turned arg6 harg6 arg7 harg7 arg11 x5 x6 (staged0 arg1 harg1 arg3 harg3 x0 x2) 0x3E000000#32) (order z.P) := by
  unfold kernelRun0_A
  dsimp only
  rw [order_eq]
  refine Eq.symm ?_
  iterate 8
    refine pieces_cons ?_ ?_
    rotate_left
    rfl
  rfl

theorem k_run :
    (kernelRun0_A (F := Ideal) c i arg1 harg1 arg2 harg2 arg3 harg3 arg4 harg4 arg5 harg5 arg6 harg6 arg7 harg7 arg8 harg8 arg9 harg9
      arg10 harg10 arg11 harg11 x0 x1 x2 x3 x4 x5 x6).2.1
      = pieces z (turned arg6 harg6 arg7 harg7 arg11 x5 x6 (staged1 arg1 harg1 arg2 harg2 arg3 harg3 arg4 harg4 x0 x1 x2 x3) 0x3F800000#32) (order z.P) := by
  unfold kernelRun0_A
  dsimp only
  rw [order_eq]
  refine Eq.symm ?_
  iterate 8
    refine pieces_cons ?_ ?_
    rotate_left
    rfl
  rfl

theorem v_run :
    (kernelRun0_A (F := Ideal) c i arg1 harg1 arg2 harg2 arg3 harg3 arg4 harg4 arg5 harg5 arg6 harg6 arg7 harg7 arg8 harg8 arg9 harg9
      arg10 harg10 arg11 harg11 x0 x1 x2 x3 x4 x5 x6).2.2.1
      = pieces z (plain z arg11.view shapeCasts_S1x1024x128_S1024x128
          (staged2 arg1 harg1 arg2 harg2 arg3 harg3 arg4 harg4 arg5 harg5 x0 x1 x2 x3 x4)) (order z.P) := by
  unfold kernelRun0_A
  dsimp only
  rw [order_eq]
  refine Eq.symm ?_
  iterate 8
    refine pieces_cons ?_ ?_
    rotate_left
    rfl
  rfl

/-- The block's queries, -/
theorem q_block :
    out0_A_7 (F := Ideal) c i arg1 harg1 arg2 harg2 arg3 harg3 arg4 harg4 arg5 harg5 arg6 harg6 arg7 harg7 arg8 harg8 arg9 harg9
      arg10 harg10 arg11 harg11 x0 x1 x2 x3 x4 x5 x6
      = laid z (fun j => spun (prod x0 x2) x5 x6 j * Ideal.ofBits .f32 0x3E000000#32) := by
  unfold out0_A_7
  rw [View.read_writes_junk_eq_canon, q_run]
  refine pieces_eq (z := z) _ fun p n l => (rotated_eq z _ _ _ _ _ _ _ _ p n l _ (table_at arg6 harg6 x5) (table_at arg7 harg7 x6)).trans ?_
  rw [made_eq]

/-- keys -/
theorem k_block :
    out0_A_8 (F := Ideal) c i arg1 harg1 arg2 harg2 arg3 harg3 arg4 harg4 arg5 harg5 arg6 harg6 arg7 harg7 arg8 harg8 arg9 harg9
      arg10 harg10 arg11 harg11 x0 x1 x2 x3 x4 x5 x6 = laid z (spun (prod x1 x3) x5 x6) := by
  unfold out0_A_8
  rw [View.read_writes_junk_eq_canon, k_run]
  refine pieces_eq (z := z) _ fun p n l => (rotated_eq z _ _ _ _ _ _ _ _ p n l _ (table_at arg6 harg6 x5) (table_at arg7 harg7 x6)).trans ?_
  rw [made_eq, Ideal.ofBits_one_f32, mul_one]

/-- and values. -/
theorem v_block :
    out0_A_9 (F := Ideal) c i arg1 harg1 arg2 harg2 arg3 harg3 arg4 harg4 arg5 harg5 arg6 harg6 arg7 harg7 arg8 harg8 arg9 harg9
      arg10 harg10 arg11 harg11 x0 x1 x2 x3 x4 x5 x6 = laid z (prod x1 x4) := by
  unfold out0_A_9
  rw [View.read_writes_junk_eq_canon, v_run]
  refine pieces_eq (z := z) _ fun p n l => (plain_at z _ _ _ _ p n l).trans ?_
  rw [made_eq]
end Run

end Cert.Qkv1Ideal.Hand
end
-- ==== Proof.Product.Qkv1.lean ====
/-
  The queries, keys and values of the layer of one class of tokens: the kernel's four blocks of 1024 tokens, the
  three arrays they make, and the reference's.
-/
module

public import proofs.«01_k».proof.Defs
public import proofs.«01_k».proof.Proof.Product.RopeArray
public import proofs.«01_k».proof.Proof.Product.QkvBlock1
public import proofs.«01_k».proof.Proof.Gen.Qkv1.Frame
public import proofs.«01_k».proof.Proof.Gen.Qkv1Ideal.Frame
public import proofs.«01_k».proof.Proof.Gen.Qkv1Ideal.Value
public import proofs.«01_k».proof.Proof.Gen.Qkv1RefIdeal.Run
public import proofs.«01_k».proof.Proof.Gen.Qkv1RefIdeal.Read
public import Idealize.ShloMosaic.Lib.StableHlo.ReadAt

@[expose] public section

set_option maxRecDepth 16384

noncomputable section

namespace Cert.Qkv1Ideal.Hand

open Cert.Qkv1Ideal Cert.Qkv1Ideal.Gen Idealize.ShloMosaic Idealize.ShloMosaic.TcCoe Idealize.SL.Sem Cert.Product Cert.Rope

theorem rows : 4 * z.N = 4096 := rfl
theorem three : 3 * 1024 = 3072 := rfl
theorem six : 6 * 1024 = 6144 := rfl

variable (m : (ℓ : Loc nD τ sig) → Buf (Elt Ideal) ℓ) (c : Dev nD)

/-- The kernel's six arguments. -/
abbrev argN : Mat 4096 1024 := m ((c : Thread nD τ).loc main_arg0)
abbrev argK : Mat 4096 1024 := m ((c : Thread nD τ).loc main_arg1)
abbrev argWq : Mat 1024 3072 := m ((c : Thread nD τ).loc main_arg2)
abbrev argWkv : Mat 1024 6144 := m ((c : Thread nD τ).loc main_arg3)
abbrev argC : Mat 4096 32 := m ((c : Thread nD τ).loc main_arg4)
abbrev argS : Mat 4096 32 := m ((c : Thread nD τ).loc main_arg5)

/-- The host repeats the tables before the kernel runs, and puts the sign into the sines. -/
theorem V_cosines (n : Fin 4096) (l : Fin 128) : V m c main_v2 (ix2 n l) = cosines (argC m c) (ix2 n l) := by
  unfold V
  after_reads_at
  exact entry2 (argC m c) rfl rfl

theorem V_signed (n : Fin 4096) (l : Fin 128) : V m c main_v7 (ix2 n l) = signed (argS m c) (ix2 n l) := by
  unfold V
  after_reads_at
  by_cases h : l.val % 64 < 32
  · refine (dif_pos h).trans (Eq.trans ?_ (if_pos h).symm)
    after_reads_at
    exact congrArg (fun y => -y) (entry2 (argS m c) rfl (by show l.val % 64 = l.val % 32; omega))
  · refine (dif_neg h).trans (Eq.trans ?_ (if_neg h).symm)
    after_reads_at
    exact entry2 (argS m c) rfl (by show l.val % 64 - 32 = l.val % 32; omega)

/-- Every window's block at point `t`. -/
theorem index_at : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 3) ∧ (win0_5.index t 0 = t.val ∧ win0_5.index t 1 = 0)
    ∧ (win0_6.index t 0 = t.val ∧ win0_6.index t 1 = 0) ∧ (win0_7.index t 0 = t.val ∧ win0_7.index t 1 = 0)
    ∧ (win0_8.index t 0 = t.val ∧ win0_8.index t 1 = 0) ∧ (win0_9.index t 0 = t.val ∧ win0_9.index t 1 = 0) :=
  (by decide +kernel : ∀ t : Fin grid0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 3) ∧ (win0_5.index t 0 = t.val ∧ win0_5.index t 1 = 0)
    ∧ (win0_6.index t 0 = t.val ∧ win0_6.index t 1 = 0) ∧ (win0_7.index t 0 = t.val ∧ win0_7.index t 1 = 0)
    ∧ (win0_8.index t 0 = t.val ∧ win0_8.index t 1 = 0) ∧ (win0_9.index t 0 = t.val ∧ win0_9.index t 1 = 0))

abbrev pt (t : Fin cfg0.N) : Fin 4 := ⟨t.val, lt_of_lt_of_eq t.isLt N_0⟩

/-- The blocks of tokens, -/
theorem rows0 (t : Fin cfg0.N) : IsRows (pt t) (iblk m c 0 t) (argN m c) := fun r k => by
  obtain ⟨e0, e1⟩ := (index_at t).1
  unfold iblk
  rw [View.read_apply]
  exact at_rows four (pt t) (argN m c) e0 e1 r k rfl rfl

theorem rows1 (t : Fin cfg0.N) : IsRows (pt t) (iblk m c 1 t) (argK m c) := fun r k => by
  obtain ⟨e0, e1⟩ := (index_at t).2.1
  unfold iblk
  rw [View.read_apply]
  exact at_rows four (pt t) (argK m c) e0 e1 r k rfl rfl

/-- of the weights' columns, -/
theorem cols2 (t : Fin cfg0.N) : iblk m c 2 t = cols three 0 (argWq m c) := by
  obtain ⟨e0, e1⟩ := (index_at t).2.2.1
  refine by_entries fun k l => ?_
  unfold iblk
  rw [View.read_apply]
  exact at_cols three 0 (argWq m c) e0 e1 k l rfl rfl

theorem cols3 (t : Fin cfg0.N) : iblk m c 3 t = cols six 0 (argWkv m c) := by
  obtain ⟨e0, e1⟩ := (index_at t).2.2.2.1
  refine by_entries fun k l => ?_
  unfold iblk
  rw [View.read_apply]
  exact at_cols six 0 (argWkv m c) e0 e1 k l rfl rfl

theorem cols4 (t : Fin cfg0.N) : iblk m c 4 t = cols six 3 (argWkv m c) := by
  obtain ⟨e0, e1⟩ := (index_at t).2.2.2.2.1
  refine by_entries fun k l => ?_
  unfold iblk
  rw [View.read_apply]
  exact at_cols six 3 (argWkv m c) e0 e1 k l rfl rfl

/-- and of the tables. -/
theorem rows5 (t : Fin cfg0.N) : IsRows (pt t) (iblk m c 5 t) (cosines (argC m c)) := fun r k => by
  obtain ⟨e0, e1⟩ := (index_at t).2.2.2.2.2.1
  refine Eq.trans ?_ (V_cosines m c (lane four (pt t) r) k)
  unfold iblk
  rw [View.read_apply]
  exact at_rows four (pt t) (V m c main_v2) e0 e1 r k rfl rfl

theorem rows6 (t : Fin cfg0.N) : IsRows (pt t) (iblk m c 6 t) (signed (argS m c)) := fun r k => by
  obtain ⟨e0, e1⟩ := (index_at t).2.2.2.2.2.2.1
  refine Eq.trans ?_ (V_signed m c (lane four (pt t) r) k)
  unfold iblk
  rw [View.read_apply]
  exact at_rows four (pt t) (V m c main_v7) e0 e1 r k rfl rfl

/-- The array's queries, keys and values. -/
def queries (x : Mat 4096 1024) (w : Mat 1024 3072) (cs sn : Mat 4096 32) : Mat 4096 1024 :=
  spread z rows (fun i => spun (prod x (cols three 0 w)) (cosines cs) (signed sn) i * Ideal.ofBits .f32 0x3E000000#32)

def keys (x : Mat 4096 1024) (w : Mat 1024 6144) (cs sn : Mat 4096 32) : Mat 4096 1024 :=
  spread z rows (spun (prod x (cols six 0 w)) (cosines cs) (signed sn))

def values (x : Mat 4096 1024) (w : Mat 1024 6144) : Mat 4096 1024 := spread z rows (prod x (cols six 3 w))

theorem point_of (i : S4096x1024.Idx) : ∃ t : Fin cfg0.N, t.val = (i 0 : ℕ) / 1024 := by
  have h0 : (i 0 : ℕ) < 4096 := (i 0).isLt
  exact ⟨⟨(i 0 : ℕ) / 1024, by rw [show cfg0.N = 4 from N_0]; omega⟩, rfl⟩

theorem final7 : (dats m 0 c).arrAt 7 cfg0.N = queries (argN m c) (argWq m c) (argC m c) (argS m c) := by
  refine (dats m 0 c).arrAt_eq_of_cover 7 (queries (argN m c) (argWq m c) (argC m c) (argS m c)) (fun t _ => ?_) fun i => ?_
  · obtain ⟨e0, e1⟩ := (index_at t).2.2.2.2.2.2.2.1
    rw [Value.flushed7_A, q_block]
    funext x
    obtain ⟨n, j, rfl⟩ : ∃ (n : Fin 1024) (j : Fin 1024), x = ix2 n j := ⟨x 0, x 1, eq_ix2 x⟩
    refine (laid_rows z rows (t := pt t) (scaled_rows _
      (spun_rows (prod_rows (rows0 m c t) (cols2 m c t)) (rows5 m c t) (rows6 m c t))) n j).trans ?_
    rw [View.read_apply]
    exact (at_rows (n := 1024) rows (pt t) (queries (argN m c) (argWq m c) (argC m c) (argS m c)) e0 e1 n j rfl rfl).symm
  · obtain ⟨t, ht⟩ := point_of i
    obtain ⟨e0, e1⟩ := (index_at t).2.2.2.2.2.2.2.1
    refine ⟨t, flush0_7 t, ?_⟩
    show i ∈ ((View.whole main_v8_0).slice (win0_7.rect t)).set
    rw [View.set_slice_whole, Rect.mem_set_unit]
    intro a
    match a with
    | ⟨0, _⟩ => exact (in_rows (n := 1024) (by decide) i ht e0 e1).1
    | ⟨1, _⟩ => exact (in_rows (n := 1024) (by decide) i ht e0 e1).2

theorem final8 : (dats m 0 c).arrAt 8 cfg0.N = keys (argK m c) (argWkv m c) (argC m c) (argS m c) := by
  refine (dats m 0 c).arrAt_eq_of_cover 8 (keys (argK m c) (argWkv m c) (argC m c) (argS m c)) (fun t _ => ?_) fun i => ?_
  · obtain ⟨e0, e1⟩ := (index_at t).2.2.2.2.2.2.2.2.1
    rw [Value.flushed8_A, k_block]
    funext x
    obtain ⟨n, j, rfl⟩ : ∃ (n : Fin 1024) (j : Fin 1024), x = ix2 n j := ⟨x 0, x 1, eq_ix2 x⟩
    refine (laid_rows z rows (t := pt t) (spun_rows (prod_rows (rows1 m c t) (cols3 m c t)) (rows5 m c t) (rows6 m c t)) n j).trans ?_
    rw [View.read_apply]
    exact (at_rows (n := 1024) rows (pt t) (keys (argK m c) (argWkv m c) (argC m c) (argS m c)) e0 e1 n j rfl rfl).symm
  · obtain ⟨t, ht⟩ := point_of i
    obtain ⟨e0, e1⟩ := (index_at t).2.2.2.2.2.2.2.2.1
    refine ⟨t, flush0_8 t, ?_⟩
    show i ∈ ((View.whole main_v8_1).slice (win0_8.rect t)).set
    rw [View.set_slice_whole, Rect.mem_set_unit]
    intro a
    match a with
    | ⟨0, _⟩ => exact (in_rows (n := 1024) (by decide) i ht e0 e1).1
    | ⟨1, _⟩ => exact (in_rows (n := 1024) (by decide) i ht e0 e1).2

theorem final9 : (dats m 0 c).arrAt 9 cfg0.N = values (argK m c) (argWkv m c) := by
  refine (dats m 0 c).arrAt_eq_of_cover 9 (values (argK m c) (argWkv m c)) (fun t _ => ?_) fun i => ?_
  · obtain ⟨e0, e1⟩ := (index_at t).2.2.2.2.2.2.2.2.2
    rw [Value.flushed9_A, v_block]
    funext x
    obtain ⟨n, j, rfl⟩ : ∃ (n : Fin 1024) (j : Fin 1024), x = ix2 n j := ⟨x 0, x 1, eq_ix2 x⟩
    refine (laid_rows z rows (t := pt t) (prod_rows (rows1 m c t) (cols4 m c t)) n j).trans ?_
    rw [View.read_apply]
    exact (at_rows (n := 1024) rows (pt t) (values (argK m c) (argWkv m c)) e0 e1 n j rfl rfl).symm
  · obtain ⟨t, ht⟩ := point_of i
    obtain ⟨e0, e1⟩ := (index_at t).2.2.2.2.2.2.2.2.2
    refine ⟨t, flush0_9 t, ?_⟩
    show i ∈ ((View.whole main_v8_2).slice (win0_9.rect t)).set
    rw [View.set_slice_whole, Rect.mem_set_unit]
    intro a
    match a with
    | ⟨0, _⟩ => exact (in_rows (n := 1024) (by decide) i ht e0 e1).1
    | ⟨1, _⟩ => exact (in_rows (n := 1024) (by decide) i ht e0 e1).2

end Cert.Qkv1Ideal.Hand

namespace Cert.Qkv1RefIdeal.Hand

open Cert.Qkv1RefIdeal Cert.Qkv1RefIdeal.Gen Cert.Qkv1RefIdeal.Read Idealize.ShloMosaic Idealize.ShloMosaic.TcCoe Cert.Product Cert.Rope Cert.Qkv1Ideal.Hand

instance : Cert.Qkv1RefIdeal.Facts := Cert.Qkv1RefIdeal.Gen.facts

variable (x0 x1 : Mat 4096 1024) (x2 : Mat 1024 3072) (x3 : Mat 1024 6144) (x4 x5 : Mat 4096 32)

/-- The reference's three products, of a block of a weight's columns each. -/
theorem q_product : val_main_v3 (F := Ideal) x0 x2 = prod x0 (cols three 0 x2) := by
  funext i
  obtain ⟨r, l, rfl⟩ : ∃ (r : Fin 4096) (l : Fin 1024), i = ix2 r l := ⟨i 0, i 1, eq_ix2 i⟩
  show _ = ∑ k : Fin 1024, x0 (ix2 r k) * x2 (ix2 k (lane three 0 l))
  generalize hR : (∑ k : Fin 1024, x0 (ix2 r k) * x2 (ix2 k (lane three 0 l))) = R
  pointwise [val_main_v3, val_main_v2, val_main_v1, val_main_v0]
  subst hR
  exact Finset.sum_congr rfl fun k _ => congrArg (x0 (ix2 r k) * ·) (entry2 x2 rfl (Nat.zero_add _).symm)

theorem k_product : val_main_v25 (F := Ideal) x1 x3 = prod x1 (cols six 0 x3) := by
  funext i
  obtain ⟨r, l, rfl⟩ : ∃ (r : Fin 4096) (l : Fin 1024), i = ix2 r l := ⟨i 0, i 1, eq_ix2 i⟩
  show _ = ∑ k : Fin 1024, x1 (ix2 r k) * x3 (ix2 k (lane six 0 l))
  generalize hR : (∑ k : Fin 1024, x1 (ix2 r k) * x3 (ix2 k (lane six 0 l))) = R
  pointwise [val_main_v25, val_main_v24, val_main_v23, val_main_v22]
  subst hR
  exact Finset.sum_congr rfl fun k _ => congrArg (x1 (ix2 r k) * ·) (entry2 x3 rfl (Nat.zero_add _).symm)

theorem v_product : val_main_v45 (F := Ideal) x1 x3 = prod x1 (cols six 3 x3) := by
  funext i
  obtain ⟨r, l, rfl⟩ : ∃ (r : Fin 4096) (l : Fin 1024), i = ix2 r l := ⟨i 0, i 1, eq_ix2 i⟩
  show _ = ∑ k : Fin 1024, x1 (ix2 r k) * x3 (ix2 k (lane six 3 l))
  generalize hR : (∑ k : Fin 1024, x1 (ix2 r k) * x3 (ix2 k (lane six 3 l))) = R
  pointwise [val_main_v45, val_main_v44, val_main_v43, val_main_v42]
  subst hR
  exact Finset.sum_congr rfl fun k _ => congrArg (x1 (ix2 r k) * ·) (entry2 x3 rfl rfl)

/-- The reference's three arrays. -/
theorem q_eq : val_main_v48 (F := Ideal) x0 x2 x4 x5 = queries x0 x2 x4 x5 :=
  reshaped z rows (x := val_main_v21 (F := Ideal) x0 x2 x4 x5) (fun s a e => by
    rw [← q_product]
    exact congrArg (· * Ideal.ofBits .f32 0x3E000000#32) (rope_heads shapeCasts_S4096x1024_S4096x16x64 slices_S4096x16x64_S4096x16x32_0_0_0
      slices_S4096x16x64_S4096x16x32_0_0_32 bcast_S4096x32_S4096x1x32_0_2 bcast_S4096x1x32_S4096x16x32_0_1_2
      concatenates_S4096x16x32_S4096x16x32_S4096x16x64_d2 (val_main_v3 (F := Ideal) x0 x2) x4 x5 s a e)) shapeCasts_S4096x16x64_S4096x1024

theorem k_eq : val_main_v50 (F := Ideal) x1 x3 x4 x5 = keys x1 x3 x4 x5 :=
  reshaped z rows (x := val_main_v41 (F := Ideal) x1 x3 x4 x5) (fun s a e => by
    rw [← k_product]
    exact rope_heads shapeCasts_S4096x1024_S4096x16x64 slices_S4096x16x64_S4096x16x32_0_0_0
      slices_S4096x16x64_S4096x16x32_0_0_32 bcast_S4096x32_S4096x1x32_0_2 bcast_S4096x1x32_S4096x16x32_0_1_2
      concatenates_S4096x16x32_S4096x16x32_S4096x16x64_d2 (val_main_v25 (F := Ideal) x1 x3) x4 x5 s a e) shapeCasts_S4096x16x64_S4096x1024

theorem v_eq : val_main_v52 (F := Ideal) x1 x3 = values x1 x3 :=
  reshaped z rows (x := val_main_v46 (F := Ideal) x1 x3) (fun s a e => by
    rw [← v_product]
    exact cast_heads shapeCasts_S4096x1024_S4096x16x64 (val_main_v45 (F := Ideal) x1 x3) s a e) shapeCasts_S4096x16x64_S4096x1024

end Cert.Qkv1RefIdeal.Hand

namespace Cert.Qkv1Claims

open Idealize.ShloMosaic Idealize.ShloMosaic.TcCoe Idealize.SL.Sem Qkv1Ideal.Hand

instance : Cert.Qkv1.Facts := Cert.Qkv1.Gen.facts
instance : Cert.Qkv1Ideal.Facts := Cert.Qkv1Ideal.Gen.facts
instance : Cert.Qkv1RefIdeal.Facts := Cert.Qkv1RefIdeal.Gen.facts

theorem frame : Cert.quiescent_Qkv1 := fun m g _ => Cert.Qkv1.Gen.frame m g

theorem frame_ideal : Cert.quiescent_Qkv1Ideal := fun m g _ => Cert.Qkv1Ideal.Gen.frame m g

/-- The host program has no semaphore, so its counters cannot be anything but zero. -/
theorem frame_reference : Cert.quiescent_Qkv1RefIdeal := fun m g _ =>
  (θ_run Cert.Qkv1RefIdeal.defs _ _).mono
    (fun r h => ⟨fun c => (h c).2.2.2, sem_eq_zero_of_no_sems (by decide) r.2⟩)
    (Cert.Qkv1RefIdeal.Value.run (F := Ideal) m g)

theorem value : Cert.algebraic_Qkv1Ideal_Qkv1RefIdeal := fun m g m' g' _ hargs =>
  ⟨fun c => queries (argN m c) (argWq m c) (argC m c) (argS m c),
   fun c => keys (argK m c) (argWkv m c) (argC m c) (argS m c),
   fun c => values (argK m c) (argWkv m c),
   (θ_run Cert.Qkv1Ideal.defs _ _).mono
    (fun _ h c => ⟨(h c).1.trans (final7 m c), (h c).2.1.trans (final8 m c), (h c).2.2.1.trans (final9 m c), (h c).2.2.2⟩)
    (Cert.Qkv1Ideal.Value.run_blocks (F := Ideal) m g),
   (θ_run Cert.Qkv1RefIdeal.defs _ _).mono
    (fun _ h c => by
      obtain ⟨h0, h1, h2, h3, h4, h5⟩ := hargs c
      refine ⟨(h c).1.trans ?_, (h c).2.1.trans ?_, (h c).2.2.1.trans ?_, (h c).2.2.2⟩
      · refine (Qkv1RefIdeal.Read.val_main_v48_eq _ _ _ _).trans ((Qkv1RefIdeal.Hand.q_eq _ _ _ _).trans ?_)
        rw [h0, h2, h4, h5]
      · refine (Qkv1RefIdeal.Read.val_main_v50_eq _ _ _ _).trans ((Qkv1RefIdeal.Hand.k_eq _ _ _ _).trans ?_)
        rw [h1, h3, h4, h5]
      · refine (Qkv1RefIdeal.Read.val_main_v52_eq _ _).trans ((Qkv1RefIdeal.Hand.v_eq _ _).trans ?_)
        rw [h1, h3])
    (Cert.Qkv1RefIdeal.Value.run (F := Ideal) m' g')⟩

end Cert.Qkv1Claims

end
-- ==== Proof.Product.QkvBlock4.lean ====
/-
  One block of rows of the queries, keys and values of the heads at dilation 4: the stores of the body, and what they
  leave in the three outputs.
-/
module

public import proofs.«01_k».proof.Proof.Product.Rope
public import proofs.«01_k».proof.Proof.Gen.Qkv4Ideal.Frame
public import proofs.«01_k».proof.Proof.Gen.Qkv4Ideal.Value

@[expose] public section

set_option maxRecDepth 65536

noncomputable section

namespace Cert.Qkv4Ideal.Hand

open Cert.Qkv4Ideal Cert.Qkv4Ideal.Gen Idealize.ShloMosaic Idealize.ShloMosaic.TcCoe Cert.Product Cert.Rope

/-- The classes of a block's rows. -/
abbrev z : Classes := ⟨4, 256, 32, 4096, rfl, rfl, rfl, ![1, 4, 1], ![4, 1], ⟨rfl, rfl⟩, ⟨rfl, rfl⟩⟩

/-- The pieces, in the order the body stores them in, the last one first. -/
theorem order_eq : order z.P = [31, 30, 29, 28, 27, 26, 25, 24, 23, 22, 21, 20, 19, 18, 17, 16, 15, 14, 13, 12, 11, 10, 9,
    8, 7, 6, 5, 4, 3, 2, 1, 0] := by
  decide

section Run
variable (c : Dev nD) (i : grid0.Coords)
  (arg1 : Memref sig .tc .vmem S1024x1024 .bf16) (harg1 : arg1.IsWhole) (arg2 : Memref sig .tc .vmem S1024x1024 .bf16) (harg2 : arg2.IsWhole)
  (arg3 : Memref sig .tc .vmem S1024x1024 .bf16) (harg3 : arg3.IsWhole) (arg4 : Memref sig .tc .vmem S1024x1024 .bf16) (harg4 : arg4.IsWhole)
  (arg5 : Memref sig .tc .vmem S1024x1024 .bf16) (harg5 : arg5.IsWhole) (arg6 : Memref sig .tc .vmem S1024x128 .f32) (harg6 : arg6.IsWhole)
  (arg7 : Memref sig .tc .vmem S1024x128 .f32) (harg7 : arg7.IsWhole) (arg8 : Memref sig .tc .vmem S256x4096 .bf16) (harg8 : arg8.IsWhole)
  (arg9 : Memref sig .tc .vmem S256x4096 .bf16) (harg9 : arg9.IsWhole) (arg10 : Memref sig .tc .vmem S256x4096 .bf16) (harg10 : arg10.IsWhole)
  (arg11 : Memref sig .tc .vmem S8x1024x128 .f32) (harg11 : arg11.IsWhole)
  (x0 x1 x2 x3 x4 : Vec Ideal S1024x1024 .bf16) (x5 x6 : Vec Ideal S1024x128 .f32)

/-- The product of two whole blocks, as the body takes it, and the loads of a table's rows. -/
abbrev made (M M' : Memref sig .tc .vmem S1024x1024 .bf16) (h : M.IsWhole) (h' : M'.IsWhole) (x y : Vec Ideal S1024x1024 .bf16) : FVec Ideal Sq .f32 :=
  k0_pay7 (View.readAt (Elt Ideal) M.view (Rect.unit (s := S1024x1024) ![0, 0] S1024x1024.size inb_S1024x1024_S1024x1024_0_0).toLoadRect (h.unread x))
    (View.readAt (Elt Ideal) M'.view (Rect.unit (s := S1024x1024) ![0, 0] S1024x1024.size inb_S1024x1024_S1024x1024_0_0).toLoadRect (h'.unread y))

abbrev table (M : Memref sig .tc .vmem S1024x128 .f32) (h : M.IsWhole) (x : Vec Ideal S1024x128 .f32) : Rope.Table :=
  fun r => View.readAt (Elt Ideal) M.view r (h.unread x)

omit c i in
theorem made_eq (M M' : Memref sig .tc .vmem S1024x1024 .bf16) (h : M.IsWhole) (h' : M'.IsWhole) (x y : Vec Ideal S1024x1024 .bf16) :
    made M M' h h' x y = prod x y := by
  unfold made
  rw [View.readAt_eq_ld, View.readAt_eq_ld, h.read_unread, h'.read_unread, View.ld_unit_zero (S := S1024x1024) Cert.Product.hz2,
    View.ld_unit_zero (S := S1024x1024) Cert.Product.hz2]
  funext j
  obtain ⟨r, l, rfl⟩ : ∃ (r : Fin 1024) (l : Fin 1024), j = ix2 r l := ⟨j 0, j 1, eq_ix2 j⟩
  show _ = ∑ k : Fin 1024, x (ix2 r k) * y (ix2 k l)
  pointwise [k0_pay7]

omit c i in
theorem table_at (M : Memref sig .tc .vmem S1024x128 .f32) (h : M.IsWhole) (x : Vec Ideal S1024x128 .f32) (r : LoadRect S1024x128) (j : r.shape.Idx) :
    table M h x r j = x (r.idx j) := congrFun (h.read_unread (Val := Elt Ideal) x) (r.idx j)

/-- The three products' stages, one over another. -/
abbrev staged0 := stages (made arg1 arg3 harg1 harg3 x0 x2) [] eight
abbrev staged1 := stages (made arg2 arg4 harg2 harg4 x1 x3) (staged0 arg1 harg1 arg3 harg3 x0 x2) eight
abbrev staged2 := stages (made arg2 arg5 harg2 harg5 x1 x4) (staged1 arg1 harg1 arg2 harg2 arg3 harg3 arg4 harg4 x0 x1 x2 x3) eight

/-- A piece of the queries or keys. -/
abbrev turned (L : List (View.Piece (Elt Ideal) St .f32)) (w : BitVec 32) : Fin z.P → FVec Ideal (Ch z.N) .bf16 :=
  rotated z arg11.view shapeCasts_S1x256x128_S256x128 shapeCasts_S256x128_S256x128 iota_S256x128_d1_w32 broadcasts_S256x128_S256x128
    rotates_S256x128_d1 L (table arg6 harg6 x5) (table arg7 harg7 x6) w

theorem q_run :
    (kernelRun0_A (F := Ideal) c i arg1 harg1 arg2 harg2 arg3 harg3 arg4 harg4 arg5 harg5 arg6 harg6 arg7 harg7 arg8 harg8 arg9 harg9
      arg10 harg10 arg11 harg11 x0 x1 x2 x3 x4 x5 x6).1
      = pieces z (turned arg6 harg6 arg7 harg7 arg11 x5 x6 (staged0 arg1 harg1 arg3 harg3 x0 x2) 0x3E000000#32) (order z.P) := by
  unfold kernelRun0_A
  dsimp only
  rw [order_eq]
  refine Eq.symm ?_
  iterate 32
    refine pieces_cons ?_ ?_
    rotate_left
    rfl
  rfl

theorem k_run :
    (kernelRun0_A (F := Ideal) c i arg1 harg1 arg2 harg2 arg3 harg3 arg4 harg4 arg5 harg5 arg6 harg6 arg7 harg7 arg8 harg8 arg9 harg9
      arg10 harg10 arg11 harg11 x0 x1 x2 x3 x4 x5 x6).2.1
      = pieces z (turned arg6 harg6 arg7 harg7 arg11 x5 x6 (staged1 arg1 harg1 arg2 harg2 arg3 harg3 arg4 harg4 x0 x1 x2 x3) 0x3F800000#32) (order z.P) := by
  unfold kernelRun0_A
  dsimp only
  rw [order_eq]
  refine Eq.symm ?_
  iterate 32
    refine pieces_cons ?_ ?_
    rotate_left
    rfl
  rfl

theorem v_run :
    (kernelRun0_A (F := Ideal) c i arg1 harg1 arg2 harg2 arg3 harg3 arg4 harg4 arg5 harg5 arg6 harg6 arg7 harg7 arg8 harg8 arg9 harg9
      arg10 harg10 arg11 harg11 x0 x1 x2 x3 x4 x5 x6).2.2.1
      = pieces z (plain z arg11.view shapeCasts_S1x256x128_S256x128
          (staged2 arg1 harg1 arg2 harg2 arg3 harg3 arg4 harg4 arg5 harg5 x0 x1 x2 x3 x4)) (order z.P) := by
  unfold kernelRun0_A
  dsimp only
  rw [order_eq]
  refine Eq.symm ?_
  iterate 32
    refine pieces_cons ?_ ?_
    rotate_left
    rfl
  rfl

/-- The block's queries, -/
theorem q_block :
    out0_A_7 (F := Ideal) c i arg1 harg1 arg2 harg2 arg3 harg3 arg4 harg4 arg5 harg5 arg6 harg6 arg7 harg7 arg8 harg8 arg9 harg9
      arg10 harg10 arg11 harg11 x0 x1 x2 x3 x4 x5 x6
      = laid z (fun j => spun (prod x0 x2) x5 x6 j * Ideal.ofBits .f32 0x3E000000#32) := by
  unfold out0_A_7
  rw [View.read_writes_junk_eq_canon, q_run]
  refine pieces_eq (z := z) _ fun p n l => (rotated_eq z _ _ _ _ _ _ _ _ p n l _ (table_at arg6 harg6 x5) (table_at arg7 harg7 x6)).trans ?_
  rw [made_eq]

/-- keys -/
theorem k_block :
    out0_A_8 (F := Ideal) c i arg1 harg1 arg2 harg2 arg3 harg3 arg4 harg4 arg5 harg5 arg6 harg6 arg7 harg7 arg8 harg8 arg9 harg9
      arg10 harg10 arg11 harg11 x0 x1 x2 x3 x4 x5 x6 = laid z (spun (prod x1 x3) x5 x6) := by
  unfold out0_A_8
  rw [View.read_writes_junk_eq_canon, k_run]
  refine pieces_eq (z := z) _ fun p n l => (rotated_eq z _ _ _ _ _ _ _ _ p n l _ (table_at arg6 harg6 x5) (table_at arg7 harg7 x6)).trans ?_
  rw [made_eq, Ideal.ofBits_one_f32, mul_one]

/-- and values. -/
theorem v_block :
    out0_A_9 (F := Ideal) c i arg1 harg1 arg2 harg2 arg3 harg3 arg4 harg4 arg5 harg5 arg6 harg6 arg7 harg7 arg8 harg8 arg9 harg9
      arg10 harg10 arg11 harg11 x0 x1 x2 x3 x4 x5 x6 = laid z (prod x1 x4) := by
  unfold out0_A_9
  rw [View.read_writes_junk_eq_canon, v_run]
  refine pieces_eq (z := z) _ fun p n l => (plain_at z _ _ _ _ p n l).trans ?_
  rw [made_eq]
end Run

end Cert.Qkv4Ideal.Hand
end
-- ==== Proof.Product.Qkv4.lean ====
/-
  The queries, keys and values of the layer with four classes of tokens: the kernel's four blocks of 1024 tokens, the
  three arrays they make, and the reference's.
-/
module

public import proofs.«01_k».proof.Defs
public import proofs.«01_k».proof.Proof.Product.RopeArray
public import proofs.«01_k».proof.Proof.Product.QkvBlock4
public import proofs.«01_k».proof.Proof.Gen.Qkv4.Frame
public import proofs.«01_k».proof.Proof.Gen.Qkv4Ideal.Frame
public import proofs.«01_k».proof.Proof.Gen.Qkv4Ideal.Value
public import proofs.«01_k».proof.Proof.Gen.Qkv4RefIdeal.Run
public import proofs.«01_k».proof.Proof.Gen.Qkv4RefIdeal.Read
public import Idealize.ShloMosaic.Lib.StableHlo.ReadAt

@[expose] public section

set_option maxRecDepth 16384

noncomputable section

namespace Cert.Qkv4Ideal.Hand

open Cert.Qkv4Ideal Cert.Qkv4Ideal.Gen Idealize.ShloMosaic Idealize.ShloMosaic.TcCoe Idealize.SL.Sem Cert.Product Cert.Rope

theorem rows : 4 * z.N = 1024 := rfl
theorem three : 3 * 1024 = 3072 := rfl
theorem six : 6 * 1024 = 6144 := rfl

variable (m : (ℓ : Loc nD τ sig) → Buf (Elt Ideal) ℓ) (c : Dev nD)

/-- The kernel's six arguments. -/
abbrev argN : Mat 4096 1024 := m ((c : Thread nD τ).loc main_arg0)
abbrev argK : Mat 4096 1024 := m ((c : Thread nD τ).loc main_arg1)
abbrev argWq : Mat 1024 3072 := m ((c : Thread nD τ).loc main_arg2)
abbrev argWkv : Mat 1024 6144 := m ((c : Thread nD τ).loc main_arg3)
abbrev argC : Mat 4096 32 := m ((c : Thread nD τ).loc main_arg4)
abbrev argS : Mat 4096 32 := m ((c : Thread nD τ).loc main_arg5)

/-- The host repeats the tables before the kernel runs, and puts the sign into the sines. -/
theorem V_cosines (n : Fin 4096) (l : Fin 128) : V m c main_v2 (ix2 n l) = cosines (argC m c) (ix2 n l) := by
  unfold V
  after_reads_at
  exact entry2 (argC m c) rfl rfl

theorem V_signed (n : Fin 4096) (l : Fin 128) : V m c main_v7 (ix2 n l) = signed (argS m c) (ix2 n l) := by
  unfold V
  after_reads_at
  by_cases h : l.val % 64 < 32
  · refine (dif_pos h).trans (Eq.trans ?_ (if_pos h).symm)
    after_reads_at
    exact congrArg (fun y => -y) (entry2 (argS m c) rfl (by show l.val % 64 = l.val % 32; omega))
  · refine (dif_neg h).trans (Eq.trans ?_ (if_neg h).symm)
    after_reads_at
    exact entry2 (argS m c) rfl (by show l.val % 64 - 32 = l.val % 32; omega)

/-- Every window's block at point `t`. -/
theorem index_at : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 1) ∧ (win0_3.index t 0 = 0 ∧ win0_3.index t 1 = 1)
    ∧ (win0_4.index t 0 = 0 ∧ win0_4.index t 1 = 4) ∧ (win0_5.index t 0 = t.val ∧ win0_5.index t 1 = 0)
    ∧ (win0_6.index t 0 = t.val ∧ win0_6.index t 1 = 0) ∧ (win0_7.index t 0 = t.val ∧ win0_7.index t 1 = 0)
    ∧ (win0_8.index t 0 = t.val ∧ win0_8.index t 1 = 0) ∧ (win0_9.index t 0 = t.val ∧ win0_9.index t 1 = 0) :=
  (by decide +kernel : ∀ t : Fin grid0.N,
    (win0_0.index t 0 = t.val ∧ win0_0.index t 1 = 0) ∧ (win0_1.index t 0 = t.val ∧ win0_1.index t 1 = 0)
    ∧ (win0_2.index t 0 = 0 ∧ win0_2.index t 1 = 1) ∧ (win0_3.index t 0 = 0 ∧ win0_3.index t 1 = 1)
    ∧ (win0_4.index t 0 = 0 ∧ win0_4.index t 1 = 4) ∧ (win0_5.index t 0 = t.val ∧ win0_5.index t 1 = 0)
    ∧ (win0_6.index t 0 = t.val ∧ win0_6.index t 1 = 0) ∧ (win0_7.index t 0 = t.val ∧ win0_7.index t 1 = 0)
    ∧ (win0_8.index t 0 = t.val ∧ win0_8.index t 1 = 0) ∧ (win0_9.index t 0 = t.val ∧ win0_9.index t 1 = 0))

abbrev pt (t : Fin cfg0.N) : Fin 4 := ⟨t.val, lt_of_lt_of_eq t.isLt N_0⟩

/-- The blocks of tokens, -/
theorem rows0 (t : Fin cfg0.N) : IsRows (pt t) (iblk m c 0 t) (argN m c) := fun r k => by
  obtain ⟨e0, e1⟩ := (index_at t).1
  unfold iblk
  rw [View.read_apply]
  exact at_rows four (pt t) (argN m c) e0 e1 r k rfl rfl

theorem rows1 (t : Fin cfg0.N) : IsRows (pt t) (iblk m c 1 t) (argK m c) := fun r k => by
  obtain ⟨e0, e1⟩ := (index_at t).2.1
  unfold iblk
  rw [View.read_apply]
  exact at_rows four (pt t) (argK m c) e0 e1 r k rfl rfl

/-- of the weights' columns, -/
theorem cols2 (t : Fin cfg0.N) : iblk m c 2 t = cols three 1 (argWq m c) := by
  obtain ⟨e0, e1⟩ := (index_at t).2.2.1
  refine by_entries fun k l => ?_
  unfold iblk
  rw [View.read_apply]
  exact at_cols three 1 (argWq m c) e0 e1 k l rfl rfl

theorem cols3 (t : Fin cfg0.N) : iblk m c 3 t = cols six 1 (argWkv m c) := by
  obtain ⟨e0, e1⟩ := (index_at t).2.2.2.1
  refine by_entries fun k l => ?_
  unfold iblk
  rw [View.read_apply]
  exact at_cols six 1 (argWkv m c) e0 e1 k l rfl rfl

theorem cols4 (t : Fin cfg0.N) : iblk m c 4 t = cols six 4 (argWkv m c) := by
  obtain ⟨e0, e1⟩ := (index_at t).2.2.2.2.1
  refine by_entries fun k l => ?_
  unfold iblk
  rw [View.read_apply]
  exact at_cols six 4 (argWkv m c) e0 e1 k l rfl rfl

/-- and of the tables. -/
theorem rows5 (t : Fin cfg0.N) : IsRows (pt t) (iblk m c 5 t) (cosines (argC m c)) := fun r k => by
  obtain ⟨e0, e1⟩ := (index_at t).2.2.2.2.2.1
  refine Eq.trans ?_ (V_cosines m c (lane four (pt t) r) k)
  unfold iblk
  rw [View.read_apply]
  exact at_rows four (pt t) (V m c main_v2) e0 e1 r k rfl rfl

theorem rows6 (t : Fin cfg0.N) : IsRows (pt t) (iblk m c 6 t) (signed (argS m c)) := fun r k => by
  obtain ⟨e0, e1⟩ := (index_at t).2.2.2.2.2.2.1
  refine Eq.trans ?_ (V_signed m c (lane four (pt t) r) k)
  unfold iblk
  rw [View.read_apply]
  exact at_rows four (pt t) (V m c main_v7) e0 e1 r k rfl rfl

/-- The array's queries, keys and values. -/
def queries (x : Mat 4096 1024) (w : Mat 1024 3072) (cs sn : Mat 4096 32) : Mat 1024 4096 :=
  spread z rows (fun i => spun (prod x (cols three 1 w)) (cosines cs) (signed sn) i * Ideal.ofBits .f32 0x3E000000#32)

def keys (x : Mat 4096 1024) (w : Mat 1024 6144) (cs sn : Mat 4096 32) : Mat 1024 4096 :=
  spread z rows (spun (prod x (cols six 1 w)) (cosines cs) (signed sn))

def values (x : Mat 4096 1024) (w : Mat 1024 6144) : Mat 1024 4096 := spread z rows (prod x (cols six 4 w))

theorem point_of (i : S1024x4096.Idx) : ∃ t : Fin cfg0.N, t.val = (i 0 : ℕ) / 256 := by
  have h0 : (i 0 : ℕ) < 1024 := (i 0).isLt
  exact ⟨⟨(i 0 : ℕ) / 256, by rw [show cfg0.N = 4 from N_0]; omega⟩, rfl⟩

theorem final7 : (dats m 0 c).arrAt 7 cfg0.N = queries (argN m c) (argWq m c) (argC m c) (argS m c) := by
  refine (dats m 0 c).arrAt_eq_of_cover 7 (queries (argN m c) (argWq m c) (argC m c) (argS m c)) (fun t _ => ?_) fun i => ?_
  · obtain ⟨e0, e1⟩ := (index_at t).2.2.2.2.2.2.2.1
    rw [Value.flushed7_A, q_block]
    funext x
    obtain ⟨n, j, rfl⟩ : ∃ (n : Fin 256) (j : Fin 4096), x = ix2 n j := ⟨x 0, x 1, eq_ix2 x⟩
    refine (laid_rows z rows (t := pt t) (scaled_rows _
      (spun_rows (prod_rows (rows0 m c t) (cols2 m c t)) (rows5 m c t) (rows6 m c t))) n j).trans ?_
    rw [View.read_apply]
    exact (at_rows (n := 256) rows (pt t) (queries (argN m c) (argWq m c) (argC m c) (argS m c)) e0 e1 n j rfl rfl).symm
  · obtain ⟨t, ht⟩ := point_of i
    obtain ⟨e0, e1⟩ := (index_at t).2.2.2.2.2.2.2.1
    refine ⟨t, flush0_7 t, ?_⟩
    show i ∈ ((View.whole main_v8_0).slice (win0_7.rect t)).set
    rw [View.set_slice_whole, Rect.mem_set_unit]
    intro a
    match a with
    | ⟨0, _⟩ => exact (in_rows (n := 256) (by decide) i ht e0 e1).1
    | ⟨1, _⟩ => exact (in_rows (n := 256) (by decide) i ht e0 e1).2

theorem final8 : (dats m 0 c).arrAt 8 cfg0.N = keys (argK m c) (argWkv m c) (argC m c) (argS m c) := by
  refine (dats m 0 c).arrAt_eq_of_cover 8 (keys (argK m c) (argWkv m c) (argC m c) (argS m c)) (fun t _ => ?_) fun i => ?_
  · obtain ⟨e0, e1⟩ := (index_at t).2.2.2.2.2.2.2.2.1
    rw [Value.flushed8_A, k_block]
    funext x
    obtain ⟨n, j, rfl⟩ : ∃ (n : Fin 256) (j : Fin 4096), x = ix2 n j := ⟨x 0, x 1, eq_ix2 x⟩
    refine (laid_rows z rows (t := pt t) (spun_rows (prod_rows (rows1 m c t) (cols3 m c t)) (rows5 m c t) (rows6 m c t)) n j).trans ?_
    rw [View.read_apply]
    exact (at_rows (n := 256) rows (pt t) (keys (argK m c) (argWkv m c) (argC m c) (argS m c)) e0 e1 n j rfl rfl).symm
  · obtain ⟨t, ht⟩ := point_of i
    obtain ⟨e0, e1⟩ := (index_at t).2.2.2.2.2.2.2.2.1
    refine ⟨t, flush0_8 t, ?_⟩
    show i ∈ ((View.whole main_v8_1).slice (win0_8.rect t)).set
    rw [View.set_slice_whole, Rect.mem_set_unit]
    intro a
    match a with
    | ⟨0, _⟩ => exact (in_rows (n := 256) (by decide) i ht e0 e1).1
    | ⟨1, _⟩ => exact (in_rows (n := 256) (by decide) i ht e0 e1).2

theorem final9 : (dats m 0 c).arrAt 9 cfg0.N = values (argK m c) (argWkv m c) := by
  refine (dats m 0 c).arrAt_eq_of_cover 9 (values (argK m c) (argWkv m c)) (fun t _ => ?_) fun i => ?_
  · obtain ⟨e0, e1⟩ := (index_at t).2.2.2.2.2.2.2.2.2
    rw [Value.flushed9_A, v_block]
    funext x
    obtain ⟨n, j, rfl⟩ : ∃ (n : Fin 256) (j : Fin 4096), x = ix2 n j := ⟨x 0, x 1, eq_ix2 x⟩
    refine (laid_rows z rows (t := pt t) (prod_rows (rows1 m c t) (cols4 m c t)) n j).trans ?_
    rw [View.read_apply]
    exact (at_rows (n := 256) rows (pt t) (values (argK m c) (argWkv m c)) e0 e1 n j rfl rfl).symm
  · obtain ⟨t, ht⟩ := point_of i
    obtain ⟨e0, e1⟩ := (index_at t).2.2.2.2.2.2.2.2.2
    refine ⟨t, flush0_9 t, ?_⟩
    show i ∈ ((View.whole main_v8_2).slice (win0_9.rect t)).set
    rw [View.set_slice_whole, Rect.mem_set_unit]
    intro a
    match a with
    | ⟨0, _⟩ => exact (in_rows (n := 256) (by decide) i ht e0 e1).1
    | ⟨1, _⟩ => exact (in_rows (n := 256) (by decide) i ht e0 e1).2

end Cert.Qkv4Ideal.Hand

namespace Cert.Qkv4RefIdeal.Hand

open Cert.Qkv4RefIdeal Cert.Qkv4RefIdeal.Gen Cert.Qkv4RefIdeal.Read Idealize.ShloMosaic Idealize.ShloMosaic.TcCoe Cert.Product Cert.Rope Cert.Qkv4Ideal.Hand

instance : Cert.Qkv4RefIdeal.Facts := Cert.Qkv4RefIdeal.Gen.facts

variable (x0 x1 : Mat 4096 1024) (x2 : Mat 1024 3072) (x3 : Mat 1024 6144) (x4 x5 : Mat 4096 32)

/-- The reference's three products, of a block of a weight's columns each. -/
theorem q_product : val_main_v3 (F := Ideal) x0 x2 = prod x0 (cols three 1 x2) := by
  funext i
  obtain ⟨r, l, rfl⟩ : ∃ (r : Fin 4096) (l : Fin 1024), i = ix2 r l := ⟨i 0, i 1, eq_ix2 i⟩
  show _ = ∑ k : Fin 1024, x0 (ix2 r k) * x2 (ix2 k (lane three 1 l))
  generalize hR : (∑ k : Fin 1024, x0 (ix2 r k) * x2 (ix2 k (lane three 1 l))) = R
  pointwise [val_main_v3, val_main_v2, val_main_v1, val_main_v0]
  subst hR
  exact Finset.sum_congr rfl fun k _ => congrArg (x0 (ix2 r k) * ·) (entry2 x2 rfl rfl)

theorem k_product : val_main_v25 (F := Ideal) x1 x3 = prod x1 (cols six 1 x3) := by
  funext i
  obtain ⟨r, l, rfl⟩ : ∃ (r : Fin 4096) (l : Fin 1024), i = ix2 r l := ⟨i 0, i 1, eq_ix2 i⟩
  show _ = ∑ k : Fin 1024, x1 (ix2 r k) * x3 (ix2 k (lane six 1 l))
  generalize hR : (∑ k : Fin 1024, x1 (ix2 r k) * x3 (ix2 k (lane six 1 l))) = R
  pointwise [val_main_v25, val_main_v24, val_main_v23, val_main_v22]
  subst hR
  exact Finset.sum_congr rfl fun k _ => congrArg (x1 (ix2 r k) * ·) (entry2 x3 rfl rfl)

theorem v_product : val_main_v45 (F := Ideal) x1 x3 = prod x1 (cols six 4 x3) := by
  funext i
  obtain ⟨r, l, rfl⟩ : ∃ (r : Fin 4096) (l : Fin 1024), i = ix2 r l := ⟨i 0, i 1, eq_ix2 i⟩
  show _ = ∑ k : Fin 1024, x1 (ix2 r k) * x3 (ix2 k (lane six 4 l))
  generalize hR : (∑ k : Fin 1024, x1 (ix2 r k) * x3 (ix2 k (lane six 4 l))) = R
  pointwise [val_main_v45, val_main_v44, val_main_v43, val_main_v42]
  subst hR
  exact Finset.sum_congr rfl fun k _ => congrArg (x1 (ix2 r k) * ·) (entry2 x3 rfl rfl)

/-- The reference's three arrays. -/
theorem q_eq : val_main_v48 (F := Ideal) x0 x2 x4 x5 = queries x0 x2 x4 x5 :=
  reshaped z rows (x := val_main_v21 (F := Ideal) x0 x2 x4 x5) (fun s a e => by
    rw [← q_product]
    exact congrArg (· * Ideal.ofBits .f32 0x3E000000#32) (rope_heads shapeCasts_S4096x1024_S4096x16x64 slices_S4096x16x64_S4096x16x32_0_0_0
      slices_S4096x16x64_S4096x16x32_0_0_32 bcast_S4096x32_S4096x1x32_0_2 bcast_S4096x1x32_S4096x16x32_0_1_2
      concatenates_S4096x16x32_S4096x16x32_S4096x16x64_d2 (val_main_v3 (F := Ideal) x0 x2) x4 x5 s a e)) shapeCasts_S4096x16x64_S1024x4096

theorem k_eq : val_main_v50 (F := Ideal) x1 x3 x4 x5 = keys x1 x3 x4 x5 :=
  reshaped z rows (x := val_main_v41 (F := Ideal) x1 x3 x4 x5) (fun s a e => by
    rw [← k_product]
    exact rope_heads shapeCasts_S4096x1024_S4096x16x64 slices_S4096x16x64_S4096x16x32_0_0_0
      slices_S4096x16x64_S4096x16x32_0_0_32 bcast_S4096x32_S4096x1x32_0_2 bcast_S4096x1x32_S4096x16x32_0_1_2
      concatenates_S4096x16x32_S4096x16x32_S4096x16x64_d2 (val_main_v25 (F := Ideal) x1 x3) x4 x5 s a e) shapeCasts_S4096x16x64_S1024x4096

theorem v_eq : val_main_v52 (F := Ideal) x1 x3 = values x1 x3 :=
  reshaped z rows (x := val_main_v46 (F := Ideal) x1 x3) (fun s a e => by
    rw [← v_product]
    exact cast_heads shapeCasts_S4096x1024_S4096x16x64 (val_main_v45 (F := Ideal) x1 x3) s a e) shapeCasts_S4096x16x64_S1024x4096

end Cert.Qkv4RefIdeal.Hand

namespace Cert.Qkv4Claims

open Idealize.ShloMosaic Idealize.ShloMosaic.TcCoe Idealize.SL.Sem Qkv4Ideal.Hand

instance : Cert.Qkv4.Facts := Cert.Qkv4.Gen.facts
instance : Cert.Qkv4Ideal.Facts := Cert.Qkv4Ideal.Gen.facts
instance : Cert.Qkv4RefIdeal.Facts := Cert.Qkv4RefIdeal.Gen.facts

theorem frame : Cert.quiescent_Qkv4 := fun m g _ => Cert.Qkv4.Gen.frame m g

theorem frame_ideal : Cert.quiescent_Qkv4Ideal := fun m g _ => Cert.Qkv4Ideal.Gen.frame m g

/-- The host program has no semaphore, so its counters cannot be anything but zero. -/
theorem frame_reference : Cert.quiescent_Qkv4RefIdeal := fun m g _ =>
  (θ_run Cert.Qkv4RefIdeal.defs _ _).mono
    (fun r h => ⟨fun c => (h c).2.2.2, sem_eq_zero_of_no_sems (by decide) r.2⟩)
    (Cert.Qkv4RefIdeal.Value.run (F := Ideal) m g)

theorem value : Cert.algebraic_Qkv4Ideal_Qkv4RefIdeal := fun m g m' g' _ hargs =>
  ⟨fun c => queries (argN m c) (argWq m c) (argC m c) (argS m c),
   fun c => keys (argK m c) (argWkv m c) (argC m c) (argS m c),
   fun c => values (argK m c) (argWkv m c),
   (θ_run Cert.Qkv4Ideal.defs _ _).mono
    (fun _ h c => ⟨(h c).1.trans (final7 m c), (h c).2.1.trans (final8 m c), (h c).2.2.1.trans (final9 m c), (h c).2.2.2⟩)
    (Cert.Qkv4Ideal.Value.run_blocks (F := Ideal) m g),
   (θ_run Cert.Qkv4RefIdeal.defs _ _).mono
    (fun _ h c => by
      obtain ⟨h0, h1, h2, h3, h4, h5⟩ := hargs c
      refine ⟨(h c).1.trans ?_, (h c).2.1.trans ?_, (h c).2.2.1.trans ?_, (h c).2.2.2⟩
      · refine (Qkv4RefIdeal.Read.val_main_v48_eq _ _ _ _).trans ((Qkv4RefIdeal.Hand.q_eq _ _ _ _).trans ?_)
        rw [h0, h2, h4, h5]
      · refine (Qkv4RefIdeal.Read.val_main_v50_eq _ _ _ _).trans ((Qkv4RefIdeal.Hand.k_eq _ _ _ _).trans ?_)
        rw [h1, h3, h4, h5]
      · refine (Qkv4RefIdeal.Read.val_main_v52_eq _ _).trans ((Qkv4RefIdeal.Hand.v_eq _ _).trans ?_)
        rw [h1, h3])
    (Cert.Qkv4RefIdeal.Value.run (F := Ideal) m' g')⟩

end Cert.Qkv4Claims

end
-- ==== Proof.Product.QkvBlock16.lean ====
/-
  One block of rows of the queries, keys and values of the heads at dilation 16: the stores of the body, and what they
  leave in the three outputs.
-/
module

public import proofs.«01_k».proof.Proof.Product.Rope
public import proofs.«01_k».proof.Proof.Gen.Qkv16Ideal.Frame
public import proofs.«01_k».proof.Proof.Gen.Qkv16Ideal.Value

@[expose] public section

set_option maxRecDepth 65536

noncomputable section

namespace Cert.Qkv16Ideal.Hand

open Cert.Qkv16Ideal Cert.Qkv16Ideal.Gen Idealize.ShloMosaic Idealize.ShloMosaic.TcCoe Cert.Product Cert.Rope

/-- The classes of a block's rows. -/
abbrev z : Classes := ⟨16, 64, 128, 16384, rfl, rfl, rfl, ![1, 16, 1], ![16, 1], ⟨rfl, rfl⟩, ⟨rfl, rfl⟩⟩

/-- The pieces, in the order the body stores them in, the last one first. -/
theorem order_eq : order z.P = [127, 126, 125, 124, 123, 122, 121, 120, 119, 118, 117, 116, 115, 114, 113, 112, 111, 110, 109,
    108, 107, 106, 105, 104, 103, 102, 101, 100, 99, 98, 97, 96, 95, 94, 93, 92, 91, 90, 89, 88,
    87, 86, 85, 84, 83, 82, 81, 80, 79, 78, 77, 76, 75, 74, 73, 72, 71, 70, 69, 68, 67, 66, 65,
    64, 63, 62, 61, 60, 59, 58, 57, 56, 55, 54, 53, 52, 51, 50, 49, 48, 47, 46, 45, 44, 43, 42,
    41, 40, 39, 38, 37, 36, 35, 34, 33, 32, 31, 30, 29, 28, 27, 26, 25, 24, 23, 22, 21, 20, 19,
    18, 17, 16, 15, 14, 13, 12, 11, 10, 9, 8, 7, 6, 5, 4, 3, 2, 1, 0] := by
  decide

section Run
variable (c : Dev nD) (i : grid0.Coords)
  (arg1 : Memref sig .tc .vmem S1024x1024 .bf16) (harg1 : arg1.IsWhole) (arg2 : Memref sig .tc .vmem S1024x1024 .bf16) (harg2 : arg2.IsWhole)
  (arg3 : Memref sig .tc .vmem S1024x1024 .bf16) (harg3 : arg3.IsWhole) (arg4 : Memref sig .tc .vmem S1024x1024 .bf16) (harg4 : arg4.IsWhole)
  (arg5 : Memref sig .tc .vmem S1024x1024 .bf16) (harg5 : arg5.IsWhole) (arg6 : Memref sig .tc .vmem S1024x128 .f32) (harg6 : arg6.IsWhole)
  (arg7 : Memref sig .tc .vmem S1024x128 .f32) (harg7 : arg7.IsWhole) (arg8 : Memref sig .tc .vmem S64x16384 .bf16) (harg8 : arg8.IsWhole)
  (arg9 : Memref sig .tc .vmem S64x16384 .bf16) (harg9 : arg9.IsWhole) (arg10 : Memref sig .tc .vmem S64x16384 .bf16) (harg10 : arg10.IsWhole)
  (arg11 : Memref sig .tc .vmem S8x1024x128 .f32) (harg11 : arg11.IsWhole)
  (x0 x1 x2 x3 x4 : Vec Ideal S1024x1024 .bf16) (x5 x6 : Vec Ideal S1024x128 .f32)

/-- The product of two whole blocks, as the body takes it, and the loads of a table's rows. -/
abbrev made (M M' : Memref sig .tc .vmem S1024x1024 .bf16) (h : M.IsWhole) (h' : M'.IsWhole) (x y : Vec Ideal S1024x1024 .bf16) : FVec Ideal Sq .f32 :=
  k0_pay1 (View.readAt (Elt Ideal) M.view (Rect.unit (s := S1024x1024) ![0, 0] S1024x1024.size inb_S1024x1024_S1024x1024_0_0).toLoadRect (h.unread x))
    (View.readAt (Elt Ideal) M'.view (Rect.unit (s := S1024x1024) ![0, 0] S1024x1024.size inb_S1024x1024_S1024x1024_0_0).toLoadRect (h'.unread y))

abbrev table (M : Memref sig .tc .vmem S1024x128 .f32) (h : M.IsWhole) (x : Vec Ideal S1024x128 .f32) : Rope.Table :=
  fun r => View.readAt (Elt Ideal) M.view r (h.unread x)

omit c i in
theorem made_eq (M M' : Memref sig .tc .vmem S1024x1024 .bf16) (h : M.IsWhole) (h' : M'.IsWhole) (x y : Vec Ideal S1024x1024 .bf16) :
    made M M' h h' x y = prod x y := by
  unfold made
  rw [View.readAt_eq_ld, View.readAt_eq_ld, h.read_unread, h'.read_unread, View.ld_unit_zero (S := S1024x1024) Cert.Product.hz2,
    View.ld_unit_zero (S := S1024x1024) Cert.Product.hz2]
  funext j
  obtain ⟨r, l, rfl⟩ : ∃ (r : Fin 1024) (l : Fin 1024), j = ix2 r l := ⟨j 0, j 1, eq_ix2 j⟩
  show _ = ∑ k : Fin 1024, x (ix2 r k) * y (ix2 k l)
  pointwise [k0_pay1]

omit c i in
theorem table_at (M : Memref sig .tc .vmem S1024x128 .f32) (h : M.IsWhole) (x : Vec Ideal S1024x128 .f32) (r : LoadRect S1024x128) (j : r.shape.Idx) :
    table M h x r j = x (r.idx j) := congrFun (h.read_unread (Val := Elt Ideal) x) (r.idx j)

/-- The three products' stages, one over another. -/
abbrev staged0 := stages (made arg1 arg3 harg1 harg3 x0 x2) [] eight
abbrev staged1 := stages (made arg2 arg4 harg2 harg4 x1 x3) (staged0 arg1 harg1 arg3 harg3 x0 x2) eight
abbrev staged2 := stages (made arg2 arg5 harg2 harg5 x1 x4) (staged1 arg1 harg1 arg2 harg2 arg3 harg3 arg4 harg4 x0 x1 x2 x3) eight

/-- A piece of the queries or keys. -/
abbrev turned (L : List (View.Piece (Elt Ideal) St .f32)) (w : BitVec 32) : Fin z.P → FVec Ideal (Ch z.N) .bf16 :=
  rotated z arg11.view shapeCasts_S1x64x128_S64x128 shapeCasts_S64x128_S64x128 iota_S64x128_d1_w32 broadcasts_S64x128_S64x128
    rotates_S64x128_d1 L (table arg6 harg6 x5) (table arg7 harg7 x6) w

theorem q_run :
    (kernelRun0_A (F := Ideal) c i arg1 harg1 arg2 harg2 arg3 harg3 arg4 harg4 arg5 harg5 arg6 harg6 arg7 harg7 arg8 harg8 arg9 harg9
      arg10 harg10 arg11 harg11 x0 x1 x2 x3 x4 x5 x6).1
      = pieces z (turned arg6 harg6 arg7 harg7 arg11 x5 x6 (staged0 arg1 harg1 arg3 harg3 x0 x2) 0x3E000000#32) (order z.P) := by
  unfold kernelRun0_A
  dsimp only
  rw [order_eq]
  refine Eq.symm ?_
  iterate 128
    refine pieces_cons ?_ ?_
    rotate_left
    rfl
  rfl

theorem k_run :
    (kernelRun0_A (F := Ideal) c i arg1 harg1 arg2 harg2 arg3 harg3 arg4 harg4 arg5 harg5 arg6 harg6 arg7 harg7 arg8 harg8 arg9 harg9
      arg10 harg10 arg11 harg11 x0 x1 x2 x3 x4 x5 x6).2.1
      = pieces z (turned arg6 harg6 arg7 harg7 arg11 x5 x6 (staged1 arg1 harg1 arg2 harg2 arg3 harg3 arg4 harg4 x0 x1 x2 x3) 0x3F800000#32) (order z.P) := by
  unfold kernelRun0_A
  dsimp only
  rw [order_eq]
  refine Eq.symm ?_
  iterate 128
    refine pieces_cons ?_ ?_
    rotate_left
    rfl
  rfl

theorem v_run :
    (kernelRun0_A (F := Ideal) c i arg1 harg1 arg2 harg2 arg3 harg3 arg4 harg4 arg5 harg5 arg6 harg6 arg7 harg7 arg8 harg8 arg9 harg9
      arg10 harg10 arg11 harg11 x0 x1 x2 x3 x4 x5 x6).2.2.1
      = pieces z (plain z arg11.view shapeCasts_S1x64x128_S64x128
          (staged2 arg1 harg1 arg2 harg2 arg3 harg3 arg4 harg4 arg5 harg5 x0 x1 x2 x3 x4)) (order z.P) := by
  unfold kernelRun0_A
  dsimp only
  rw [order_eq]
  refine Eq.symm ?_
  iterate 128
    refine pieces_cons ?_ ?_
    rotate_left
    rfl
  rfl

/-- The block's queries, -/
theorem q_block :
    out0_A_7 (F := Ideal) c i arg1 harg1 arg2 harg2 arg3 harg3 arg4 harg4 arg5 harg5 arg6 harg6 arg7 harg7 arg8 harg8 arg9 harg9
      arg10 harg10 arg11 harg11 x0 x1 x2 x3 x4 x5 x6
      = laid z (fun j => spun (prod x0 x2) x5 x6 j * Ideal.ofBits .f32 0x3E000000#32) := by
  unfold out0_A_7
  rw [View.read_writes_junk_eq_canon, q_run]
  refine pieces_eq (z := z) _ fun p n l => (rotated_eq z _ _ _ _ _ _ _ _ p n l _ (table_at arg6 harg6 x5) (table_at arg7 harg7 x6)).trans ?_
  rw [made_eq]

/-- keys -/
theorem k_block :
    out0_A_8 (F := Ideal) c i arg1 harg1 arg2 harg2 arg3 harg3 arg4 harg4 arg5 harg5 arg6 harg6 arg7 harg7 arg8 harg8 arg9 harg9
      arg10 harg10 arg11 harg11 x0 x1 x2 x3 x4 x5 x6 = laid z (spun (prod x1 x3) x5 x6) := by
  unfold out0_A_8
  rw [View.read_writes_junk_eq_canon, k_run]
  refine pieces_eq (z := z) _ fun p n l => (rotated_eq z _ _ _ _ _ _ _ _ p n l _ (table_at arg6 harg6 x5) (table_at arg7 harg7 x6)).trans ?_
  rw [made_eq, Ideal.ofBits_one_f32, mul_one]

/-- and values. -/
theorem v_block :
    out0_A_9 (F := Ideal) c i arg1 harg1 arg2 harg2 arg3 harg3 arg4 harg4 arg5 harg5 arg6 harg6 arg7 harg7 arg8 harg8 arg9 harg9
      arg10 harg10 arg11 harg11 x0 x1 x2 x3 x4 x5 x6 = laid z (prod x1 x4) := by
  unfold out0_A_9
  rw [View.read_writes_junk_eq_canon, v_run]
  refine pieces_eq (z := z) _ fun p n l => (plain_at z _ _ _ _ p n l).trans ?_
  rw [made_eq]
end Run

end Cert.Qkv16Ideal.Hand
end
-- ==== Proof.Product.Qkv16.lean ====
/-
  The queries, keys and values of the layer with sixteen classes of tokens: the kernel's four blocks of 1024 tokens, the
  three arrays they make, and the reference's.
-/
module

public import proofs.«01_k».proof.Defs
public import proofs.«01_k».proof.Proof.Product.RopeArray
public import proofs.«01_k».proof.Proof.Product.QkvBlock16
public import proofs.«01_k».proof.Proof.Gen.Qkv16.Frame
public import proofs.«01_k».proof.Proof.Gen.Qkv16Ideal.Frame
public import proofs.«01_k».proof.Proof.Gen.Qkv16Ideal.Value
public import proofs.«01_k».proof.Proof.Gen.Qkv16RefIdeal.Run
public import proofs.«01_k».proof.Proof.Gen.Qkv16RefIdeal.Read
public import Idealize.ShloMosaic.Lib.StableHlo.ReadAt

@[expose] public section

set_option maxRecDepth 16384

noncomputable section

namespace Cert.Qkv16Ideal.Hand

open Cert.Qkv16Ideal Cert.Qkv16Ideal.Gen Idealize.ShloMosaic Idealize.ShloMosaic.TcCoe Idealize.SL.Sem Cert.Product Cert.Rope

theorem rows : 4 * z.N = 256 := rfl
theorem three : 3 * 1024 = 3072 := rfl
theorem six : 6 * 1024 = 6144 := rfl

variable (m : (ℓ : Loc nD τ sig) → Buf (Elt Ideal) ℓ) (c : Dev nD)

/-- The kernel's six arguments. -/
abbrev argN : Mat 4096 1024 := m ((c : Thread nD τ).loc main_arg0)
abbrev argK : Mat 4096 1024 := m ((c : Thread nD τ).loc main_arg1)
abbrev argWq : Mat 1024 3072 := m ((c : Thread nD τ).loc main_arg2)
abbrev argWkv : Mat 1024 6144 := m ((c : Thread nD τ).loc main_arg3)
abbrev argC : Mat 4096 32 := m ((c : Thread nD τ).loc main_arg4)
abbrev argS : Mat 4096 32 := m ((c : Thread nD τ).loc main_arg5)

/-- The host repeats the tables before the kernel runs, and puts the sign into the sines. -/
theorem V_cosines (n : Fin 4096) (l : Fin 128) : V m c main_v2 (ix2 n l) = cosines (argC m c) (ix2 n l) := by
  unfold V
  after_reads_at
  exact entry2 (argC m c) rfl rfl

theorem V_signed (n : Fin 4096) (l : Fin 128) : V m c main_v7 (ix2 n l) = signed (argS m c) (ix2 n l) := by
  unfold V
  after_reads_at
  by_cases h : l.val % 64 < 32
  · refine (dif_pos h).trans (Eq.trans ?_ (if_pos h).symm)
    after_reads_at
    exact congrArg (fun y => -y) (entry2 (argS m c) rfl (by show l.val % 64 = l.val % 32; omega))
  · refine (dif_neg h).trans (Eq.trans ?_ (if_neg h).symm)
    after_reads_at
    exact entry2 (argS m c) rfl (by show l.val % 64 - 32 = l.val % 32; omega)

/-- Every window's block at point `t`. -/
theorem index_at : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 2) ∧ (win0_3.index t 0 = 0 ∧ win0_3.index t 1 = 2)
    ∧ (win0_4.index t 0 = 0 ∧ win0_4.index t 1 = 5) ∧ (win0_5.index t 0 = t.val ∧ win0_5.index t 1 = 0)
    ∧ (win0_6.index t 0 = t.val ∧ win0_6.index t 1 = 0) ∧ (win0_7.index t 0 = t.val ∧ win0_7.index t 1 = 0)
    ∧ (win0_8.index t 0 = t.val ∧ win0_8.index t 1 = 0) ∧ (win0_9.index t 0 = t.val ∧ win0_9.index t 1 = 0) :=
  (by decide +kernel : ∀ t : Fin grid0.N,
    (win0_0.index t 0 = t.val ∧ win0_0.index t 1 = 0) ∧ (win0_1.index t 0 = t.val ∧ win0_1.index t 1 = 0)
    ∧ (win0_2.index t 0 = 0 ∧ win0_2.index t 1 = 2) ∧ (win0_3.index t 0 = 0 ∧ win0_3.index t 1 = 2)
    ∧ (win0_4.index t 0 = 0 ∧ win0_4.index t 1 = 5) ∧ (win0_5.index t 0 = t.val ∧ win0_5.index t 1 = 0)
    ∧ (win0_6.index t 0 = t.val ∧ win0_6.index t 1 = 0) ∧ (win0_7.index t 0 = t.val ∧ win0_7.index t 1 = 0)
    ∧ (win0_8.index t 0 = t.val ∧ win0_8.index t 1 = 0) ∧ (win0_9.index t 0 = t.val ∧ win0_9.index t 1 = 0))

abbrev pt (t : Fin cfg0.N) : Fin 4 := ⟨t.val, lt_of_lt_of_eq t.isLt N_0⟩

/-- The blocks of tokens, -/
theorem rows0 (t : Fin cfg0.N) : IsRows (pt t) (iblk m c 0 t) (argN m c) := fun r k => by
  obtain ⟨e0, e1⟩ := (index_at t).1
  unfold iblk
  rw [View.read_apply]
  exact at_rows four (pt t) (argN m c) e0 e1 r k rfl rfl

theorem rows1 (t : Fin cfg0.N) : IsRows (pt t) (iblk m c 1 t) (argK m c) := fun r k => by
  obtain ⟨e0, e1⟩ := (index_at t).2.1
  unfold iblk
  rw [View.read_apply]
  exact at_rows four (pt t) (argK m c) e0 e1 r k rfl rfl

/-- of the weights' columns, -/
theorem cols2 (t : Fin cfg0.N) : iblk m c 2 t = cols three 2 (argWq m c) := by
  obtain ⟨e0, e1⟩ := (index_at t).2.2.1
  refine by_entries fun k l => ?_
  unfold iblk
  rw [View.read_apply]
  exact at_cols three 2 (argWq m c) e0 e1 k l rfl rfl

theorem cols3 (t : Fin cfg0.N) : iblk m c 3 t = cols six 2 (argWkv m c) := by
  obtain ⟨e0, e1⟩ := (index_at t).2.2.2.1
  refine by_entries fun k l => ?_
  unfold iblk
  rw [View.read_apply]
  exact at_cols six 2 (argWkv m c) e0 e1 k l rfl rfl

theorem cols4 (t : Fin cfg0.N) : iblk m c 4 t = cols six 5 (argWkv m c) := by
  obtain ⟨e0, e1⟩ := (index_at t).2.2.2.2.1
  refine by_entries fun k l => ?_
  unfold iblk
  rw [View.read_apply]
  exact at_cols six 5 (argWkv m c) e0 e1 k l rfl rfl

/-- and of the tables. -/
theorem rows5 (t : Fin cfg0.N) : IsRows (pt t) (iblk m c 5 t) (cosines (argC m c)) := fun r k => by
  obtain ⟨e0, e1⟩ := (index_at t).2.2.2.2.2.1
  refine Eq.trans ?_ (V_cosines m c (lane four (pt t) r) k)
  unfold iblk
  rw [View.read_apply]
  exact at_rows four (pt t) (V m c main_v2) e0 e1 r k rfl rfl

theorem rows6 (t : Fin cfg0.N) : IsRows (pt t) (iblk m c 6 t) (signed (argS m c)) := fun r k => by
  obtain ⟨e0, e1⟩ := (index_at t).2.2.2.2.2.2.1
  refine Eq.trans ?_ (V_signed m c (lane four (pt t) r) k)
  unfold iblk
  rw [View.read_apply]
  exact at_rows four (pt t) (V m c main_v7) e0 e1 r k rfl rfl

/-- The array's queries, keys and values. -/
def queries (x : Mat 4096 1024) (w : Mat 1024 3072) (cs sn : Mat 4096 32) : Mat 256 16384 :=
  spread z rows (fun i => spun (prod x (cols three 2 w)) (cosines cs) (signed sn) i * Ideal.ofBits .f32 0x3E000000#32)

def keys (x : Mat 4096 1024) (w : Mat 1024 6144) (cs sn : Mat 4096 32) : Mat 256 16384 :=
  spread z rows (spun (prod x (cols six 2 w)) (cosines cs) (signed sn))

def values (x : Mat 4096 1024) (w : Mat 1024 6144) : Mat 256 16384 := spread z rows (prod x (cols six 5 w))

theorem point_of (i : S256x16384.Idx) : ∃ t : Fin cfg0.N, t.val = (i 0 : ℕ) / 64 := by
  have h0 : (i 0 : ℕ) < 256 := (i 0).isLt
  exact ⟨⟨(i 0 : ℕ) / 64, by rw [show cfg0.N = 4 from N_0]; omega⟩, rfl⟩

theorem final7 : (dats m 0 c).arrAt 7 cfg0.N = queries (argN m c) (argWq m c) (argC m c) (argS m c) := by
  refine (dats m 0 c).arrAt_eq_of_cover 7 (queries (argN m c) (argWq m c) (argC m c) (argS m c)) (fun t _ => ?_) fun i => ?_
  · obtain ⟨e0, e1⟩ := (index_at t).2.2.2.2.2.2.2.1
    rw [Value.flushed7_A, q_block]
    funext x
    obtain ⟨n, j, rfl⟩ : ∃ (n : Fin 64) (j : Fin 16384), x = ix2 n j := ⟨x 0, x 1, eq_ix2 x⟩
    refine (laid_rows z rows (t := pt t) (scaled_rows _
      (spun_rows (prod_rows (rows0 m c t) (cols2 m c t)) (rows5 m c t) (rows6 m c t))) n j).trans ?_
    rw [View.read_apply]
    exact (at_rows (n := 64) rows (pt t) (queries (argN m c) (argWq m c) (argC m c) (argS m c)) e0 e1 n j rfl rfl).symm
  · obtain ⟨t, ht⟩ := point_of i
    obtain ⟨e0, e1⟩ := (index_at t).2.2.2.2.2.2.2.1
    refine ⟨t, flush0_7 t, ?_⟩
    show i ∈ ((View.whole main_v8_0).slice (win0_7.rect t)).set
    rw [View.set_slice_whole, Rect.mem_set_unit]
    intro a
    match a with
    | ⟨0, _⟩ => exact (in_rows (n := 64) (by decide) i ht e0 e1).1
    | ⟨1, _⟩ => exact (in_rows (n := 64) (by decide) i ht e0 e1).2

theorem final8 : (dats m 0 c).arrAt 8 cfg0.N = keys (argK m c) (argWkv m c) (argC m c) (argS m c) := by
  refine (dats m 0 c).arrAt_eq_of_cover 8 (keys (argK m c) (argWkv m c) (argC m c) (argS m c)) (fun t _ => ?_) fun i => ?_
  · obtain ⟨e0, e1⟩ := (index_at t).2.2.2.2.2.2.2.2.1
    rw [Value.flushed8_A, k_block]
    funext x
    obtain ⟨n, j, rfl⟩ : ∃ (n : Fin 64) (j : Fin 16384), x = ix2 n j := ⟨x 0, x 1, eq_ix2 x⟩
    refine (laid_rows z rows (t := pt t) (spun_rows (prod_rows (rows1 m c t) (cols3 m c t)) (rows5 m c t) (rows6 m c t)) n j).trans ?_
    rw [View.read_apply]
    exact (at_rows (n := 64) rows (pt t) (keys (argK m c) (argWkv m c) (argC m c) (argS m c)) e0 e1 n j rfl rfl).symm
  · obtain ⟨t, ht⟩ := point_of i
    obtain ⟨e0, e1⟩ := (index_at t).2.2.2.2.2.2.2.2.1
    refine ⟨t, flush0_8 t, ?_⟩
    show i ∈ ((View.whole main_v8_1).slice (win0_8.rect t)).set
    rw [View.set_slice_whole, Rect.mem_set_unit]
    intro a
    match a with
    | ⟨0, _⟩ => exact (in_rows (n := 64) (by decide) i ht e0 e1).1
    | ⟨1, _⟩ => exact (in_rows (n := 64) (by decide) i ht e0 e1).2

theorem final9 : (dats m 0 c).arrAt 9 cfg0.N = values (argK m c) (argWkv m c) := by
  refine (dats m 0 c).arrAt_eq_of_cover 9 (values (argK m c) (argWkv m c)) (fun t _ => ?_) fun i => ?_
  · obtain ⟨e0, e1⟩ := (index_at t).2.2.2.2.2.2.2.2.2
    rw [Value.flushed9_A, v_block]
    funext x
    obtain ⟨n, j, rfl⟩ : ∃ (n : Fin 64) (j : Fin 16384), x = ix2 n j := ⟨x 0, x 1, eq_ix2 x⟩
    refine (laid_rows z rows (t := pt t) (prod_rows (rows1 m c t) (cols4 m c t)) n j).trans ?_
    rw [View.read_apply]
    exact (at_rows (n := 64) rows (pt t) (values (argK m c) (argWkv m c)) e0 e1 n j rfl rfl).symm
  · obtain ⟨t, ht⟩ := point_of i
    obtain ⟨e0, e1⟩ := (index_at t).2.2.2.2.2.2.2.2.2
    refine ⟨t, flush0_9 t, ?_⟩
    show i ∈ ((View.whole main_v8_2).slice (win0_9.rect t)).set
    rw [View.set_slice_whole, Rect.mem_set_unit]
    intro a
    match a with
    | ⟨0, _⟩ => exact (in_rows (n := 64) (by decide) i ht e0 e1).1
    | ⟨1, _⟩ => exact (in_rows (n := 64) (by decide) i ht e0 e1).2

end Cert.Qkv16Ideal.Hand

namespace Cert.Qkv16RefIdeal.Hand

open Cert.Qkv16RefIdeal Cert.Qkv16RefIdeal.Gen Cert.Qkv16RefIdeal.Read Idealize.ShloMosaic Idealize.ShloMosaic.TcCoe Cert.Product Cert.Rope Cert.Qkv16Ideal.Hand

instance : Cert.Qkv16RefIdeal.Facts := Cert.Qkv16RefIdeal.Gen.facts

variable (x0 x1 : Mat 4096 1024) (x2 : Mat 1024 3072) (x3 : Mat 1024 6144) (x4 x5 : Mat 4096 32)

/-- The reference's three products, of a block of a weight's columns each. -/
theorem q_product : val_main_v3 (F := Ideal) x0 x2 = prod x0 (cols three 2 x2) := by
  funext i
  obtain ⟨r, l, rfl⟩ : ∃ (r : Fin 4096) (l : Fin 1024), i = ix2 r l := ⟨i 0, i 1, eq_ix2 i⟩
  show _ = ∑ k : Fin 1024, x0 (ix2 r k) * x2 (ix2 k (lane three 2 l))
  generalize hR : (∑ k : Fin 1024, x0 (ix2 r k) * x2 (ix2 k (lane three 2 l))) = R
  pointwise [val_main_v3, val_main_v2, val_main_v1, val_main_v0]
  subst hR
  exact Finset.sum_congr rfl fun k _ => congrArg (x0 (ix2 r k) * ·) (entry2 x2 rfl rfl)

theorem k_product : val_main_v25 (F := Ideal) x1 x3 = prod x1 (cols six 2 x3) := by
  funext i
  obtain ⟨r, l, rfl⟩ : ∃ (r : Fin 4096) (l : Fin 1024), i = ix2 r l := ⟨i 0, i 1, eq_ix2 i⟩
  show _ = ∑ k : Fin 1024, x1 (ix2 r k) * x3 (ix2 k (lane six 2 l))
  generalize hR : (∑ k : Fin 1024, x1 (ix2 r k) * x3 (ix2 k (lane six 2 l))) = R
  pointwise [val_main_v25, val_main_v24, val_main_v23, val_main_v22]
  subst hR
  exact Finset.sum_congr rfl fun k _ => congrArg (x1 (ix2 r k) * ·) (entry2 x3 rfl rfl)

theorem v_product : val_main_v45 (F := Ideal) x1 x3 = prod x1 (cols six 5 x3) := by
  funext i
  obtain ⟨r, l, rfl⟩ : ∃ (r : Fin 4096) (l : Fin 1024), i = ix2 r l := ⟨i 0, i 1, eq_ix2 i⟩
  show _ = ∑ k : Fin 1024, x1 (ix2 r k) * x3 (ix2 k (lane six 5 l))
  generalize hR : (∑ k : Fin 1024, x1 (ix2 r k) * x3 (ix2 k (lane six 5 l))) = R
  pointwise [val_main_v45, val_main_v44, val_main_v43, val_main_v42]
  subst hR
  exact Finset.sum_congr rfl fun k _ => congrArg (x1 (ix2 r k) * ·) (entry2 x3 rfl rfl)

/-- The reference's three arrays. -/
theorem q_eq : val_main_v48 (F := Ideal) x0 x2 x4 x5 = queries x0 x2 x4 x5 :=
  reshaped z rows (x := val_main_v21 (F := Ideal) x0 x2 x4 x5) (fun s a e => by
    rw [← q_product]
    exact congrArg (· * Ideal.ofBits .f32 0x3E000000#32) (rope_heads shapeCasts_S4096x1024_S4096x16x64 slices_S4096x16x64_S4096x16x32_0_0_0
      slices_S4096x16x64_S4096x16x32_0_0_32 bcast_S4096x32_S4096x1x32_0_2 bcast_S4096x1x32_S4096x16x32_0_1_2
      concatenates_S4096x16x32_S4096x16x32_S4096x16x64_d2 (val_main_v3 (F := Ideal) x0 x2) x4 x5 s a e)) shapeCasts_S4096x16x64_S256x16384

theorem k_eq : val_main_v50 (F := Ideal) x1 x3 x4 x5 = keys x1 x3 x4 x5 :=
  reshaped z rows (x := val_main_v41 (F := Ideal) x1 x3 x4 x5) (fun s a e => by
    rw [← k_product]
    exact rope_heads shapeCasts_S4096x1024_S4096x16x64 slices_S4096x16x64_S4096x16x32_0_0_0
      slices_S4096x16x64_S4096x16x32_0_0_32 bcast_S4096x32_S4096x1x32_0_2 bcast_S4096x1x32_S4096x16x32_0_1_2
      concatenates_S4096x16x32_S4096x16x32_S4096x16x64_d2 (val_main_v25 (F := Ideal) x1 x3) x4 x5 s a e) shapeCasts_S4096x16x64_S256x16384

theorem v_eq : val_main_v52 (F := Ideal) x1 x3 = values x1 x3 :=
  reshaped z rows (x := val_main_v46 (F := Ideal) x1 x3) (fun s a e => by
    rw [← v_product]
    exact cast_heads shapeCasts_S4096x1024_S4096x16x64 (val_main_v45 (F := Ideal) x1 x3) s a e) shapeCasts_S4096x16x64_S256x16384

end Cert.Qkv16RefIdeal.Hand

namespace Cert.Qkv16Claims

open Idealize.ShloMosaic Idealize.ShloMosaic.TcCoe Idealize.SL.Sem Qkv16Ideal.Hand

instance : Cert.Qkv16.Facts := Cert.Qkv16.Gen.facts
instance : Cert.Qkv16Ideal.Facts := Cert.Qkv16Ideal.Gen.facts
instance : Cert.Qkv16RefIdeal.Facts := Cert.Qkv16RefIdeal.Gen.facts

theorem frame : Cert.quiescent_Qkv16 := fun m g _ => Cert.Qkv16.Gen.frame m g

theorem frame_ideal : Cert.quiescent_Qkv16Ideal := fun m g _ => Cert.Qkv16Ideal.Gen.frame m g

/-- The host program has no semaphore, so its counters cannot be anything but zero. -/
theorem frame_reference : Cert.quiescent_Qkv16RefIdeal := fun m g _ =>
  (θ_run Cert.Qkv16RefIdeal.defs _ _).mono
    (fun r h => ⟨fun c => (h c).2.2.2, sem_eq_zero_of_no_sems (by decide) r.2⟩)
    (Cert.Qkv16RefIdeal.Value.run (F := Ideal) m g)

theorem value : Cert.algebraic_Qkv16Ideal_Qkv16RefIdeal := fun m g m' g' _ hargs =>
  ⟨fun c => queries (argN m c) (argWq m c) (argC m c) (argS m c),
   fun c => keys (argK m c) (argWkv m c) (argC m c) (argS m c),
   fun c => values (argK m c) (argWkv m c),
   (θ_run Cert.Qkv16Ideal.defs _ _).mono
    (fun _ h c => ⟨(h c).1.trans (final7 m c), (h c).2.1.trans (final8 m c), (h c).2.2.1.trans (final9 m c), (h c).2.2.2⟩)
    (Cert.Qkv16Ideal.Value.run_blocks (F := Ideal) m g),
   (θ_run Cert.Qkv16RefIdeal.defs _ _).mono
    (fun _ h c => by
      obtain ⟨h0, h1, h2, h3, h4, h5⟩ := hargs c
      refine ⟨(h c).1.trans ?_, (h c).2.1.trans ?_, (h c).2.2.1.trans ?_, (h c).2.2.2⟩
      · refine (Qkv16RefIdeal.Read.val_main_v48_eq _ _ _ _).trans ((Qkv16RefIdeal.Hand.q_eq _ _ _ _).trans ?_)
        rw [h0, h2, h4, h5]
      · refine (Qkv16RefIdeal.Read.val_main_v50_eq _ _ _ _).trans ((Qkv16RefIdeal.Hand.k_eq _ _ _ _).trans ?_)
        rw [h1, h3, h4, h5]
      · refine (Qkv16RefIdeal.Read.val_main_v52_eq _ _).trans ((Qkv16RefIdeal.Hand.v_eq _ _).trans ?_)
        rw [h1, h3])
    (Cert.Qkv16RefIdeal.Value.run (F := Ideal) m' g')⟩

end Cert.Qkv16Claims

end
-- ==== Proof.lean ====
module

public import proofs.«01_k».proof.Defs
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvIdeal.Value
public import proofs.«01_k».proof.Proof.Gen.ConvRefIdeal.Run
public import proofs.«01_k».proof.Proof.Gen.ConvRefIdeal.Read
public import proofs.«01_k».proof.Proof.Conv.Claims
public import proofs.«01_k».proof.Proof.Gen.DownDw.Frame
public import proofs.«01_k».proof.Proof.Gen.DownDwIdeal.Frame
public import proofs.«01_k».proof.Proof.Gen.DownDwIdeal.Value
public import proofs.«01_k».proof.Proof.Gen.DownDwRefIdeal.Run
public import proofs.«01_k».proof.Proof.Gen.DownDwRefIdeal.Read
public import proofs.«01_k».proof.Proof.Product.DownDw
public import proofs.«01_k».proof.Proof.Gen.GateUpDw.Frame
public import proofs.«01_k».proof.Proof.Gen.GateUpDwIdeal.Frame
public import proofs.«01_k».proof.Proof.Gen.GateUpDwIdeal.Value
public import proofs.«01_k».proof.Proof.Gen.GateUpDwRefIdeal.Run
public import proofs.«01_k».proof.Proof.Gen.GateUpDwRefIdeal.Read
public import proofs.«01_k».proof.Proof.Product.GateUpDw
public import proofs.«01_k».proof.Proof.Gen.GateUpDx.Frame
public import proofs.«01_k».proof.Proof.Gen.GateUpDxIdeal.Frame
public import proofs.«01_k».proof.Proof.Gen.GateUpDxIdeal.Value
public import proofs.«01_k».proof.Proof.Gen.GateUpDxRefIdeal.Run
public import proofs.«01_k».proof.Proof.Gen.GateUpDxRefIdeal.Read
public import proofs.«01_k».proof.Proof.Product.GateUpDx
public import proofs.«01_k».proof.Proof.Gen.OutDw.Frame
public import proofs.«01_k».proof.Proof.Gen.OutDwIdeal.Frame
public import proofs.«01_k».proof.Proof.Gen.OutDwIdeal.Value
public import proofs.«01_k».proof.Proof.Gen.OutDwRefIdeal.Run
public import proofs.«01_k».proof.Proof.Gen.OutDwRefIdeal.Read
public import proofs.«01_k».proof.Proof.Product.OutDw
public import proofs.«01_k».proof.Proof.Gen.OutDx.Frame
public import proofs.«01_k».proof.Proof.Gen.OutDxIdeal.Frame
public import proofs.«01_k».proof.Proof.Gen.OutDxIdeal.Value
public import proofs.«01_k».proof.Proof.Gen.OutDxRefIdeal.Run
public import proofs.«01_k».proof.Proof.Gen.OutDxRefIdeal.Read
public import proofs.«01_k».proof.Proof.Product.OutDx
public import proofs.«01_k».proof.Proof.Gen.KvDw.Frame
public import proofs.«01_k».proof.Proof.Gen.KvDwIdeal.Frame
public import proofs.«01_k».proof.Proof.Gen.KvDwIdeal.Value
public import proofs.«01_k».proof.Proof.Gen.KvDwRefIdeal.Run
public import proofs.«01_k».proof.Proof.Gen.KvDwRefIdeal.Read
public import proofs.«01_k».proof.Proof.Product.KvDw
public import proofs.«01_k».proof.Proof.Gen.QDw.Frame
public import proofs.«01_k».proof.Proof.Gen.QDwIdeal.Frame
public import proofs.«01_k».proof.Proof.Gen.QDwIdeal.Value
public import proofs.«01_k».proof.Proof.Gen.QDwRefIdeal.Run
public import proofs.«01_k».proof.Proof.Gen.QDwRefIdeal.Read
public import proofs.«01_k».proof.Proof.Product.QDw
public import proofs.«01_k».proof.Proof.Gen.KvDx.Frame
public import proofs.«01_k».proof.Proof.Gen.KvDxIdeal.Frame
public import proofs.«01_k».proof.Proof.Gen.KvDxIdeal.Value
public import proofs.«01_k».proof.Proof.Gen.KvDxRefIdeal.Run
public import proofs.«01_k».proof.Proof.Gen.KvDxRefIdeal.Read
public import proofs.«01_k».proof.Proof.Product.KvDx
public import proofs.«01_k».proof.Proof.Gen.QDx.Frame
public import proofs.«01_k».proof.Proof.Gen.QDxIdeal.Frame
public import proofs.«01_k».proof.Proof.Gen.QDxIdeal.Value
public import proofs.«01_k».proof.Proof.Gen.QDxRefIdeal.Run
public import proofs.«01_k».proof.Proof.Gen.QDxRefIdeal.Read
public import proofs.«01_k».proof.Proof.Product.QDx
public import proofs.«01_k».proof.Proof.Gen.Act.Frame
public import proofs.«01_k».proof.Proof.Gen.ActIdeal.Frame
public import proofs.«01_k».proof.Proof.Gen.ActIdeal.Value
public import proofs.«01_k».proof.Proof.Gen.ActRefIdeal.Run
public import proofs.«01_k».proof.Proof.Gen.ActRefIdeal.Read
public import proofs.«01_k».proof.Proof.Product.Act
public import proofs.«01_k».proof.Proof.Gen.Pre_finite
public import proofs.«01_k».proof.Proof.Gen.ConvInDx.Frame
public import proofs.«01_k».proof.Proof.Gen.ConvInDxIdeal.Frame
public import proofs.«01_k».proof.Proof.Gen.ConvInDxIdeal.Value
public import proofs.«01_k».proof.Proof.Gen.ConvInDxRefIdeal.Run
public import proofs.«01_k».proof.Proof.Gen.ConvInDxRefIdeal.Read
public import proofs.«01_k».proof.Proof.Product.ConvInDx
public import proofs.«01_k».proof.Proof.Gen.ConvIn.Frame
public import proofs.«01_k».proof.Proof.Gen.ConvInIdeal.Frame
public import proofs.«01_k».proof.Proof.Gen.ConvInIdeal.Value
public import proofs.«01_k».proof.Proof.Gen.ConvInRefIdeal.Run
public import proofs.«01_k».proof.Proof.Gen.ConvInRefIdeal.Read
public import proofs.«01_k».proof.Proof.Product.ConvIn
public import proofs.«01_k».proof.Proof.Gen.MixOut.Frame
public import proofs.«01_k».proof.Proof.Gen.MixOutIdeal.Frame
public import proofs.«01_k».proof.Proof.Gen.MixOutIdeal.Value
public import proofs.«01_k».proof.Proof.Gen.MixOutRefIdeal.Run
public import proofs.«01_k».proof.Proof.Gen.MixOutRefIdeal.Read
public import proofs.«01_k».proof.Proof.Product.MixOut
public import proofs.«01_k».proof.Proof.Gen.GateUp.Frame
public import proofs.«01_k».proof.Proof.Gen.GateUpIdeal.Frame
public import proofs.«01_k».proof.Proof.Gen.GateUpIdeal.Value
public import proofs.«01_k».proof.Proof.Gen.GateUpRefIdeal.Run
public import proofs.«01_k».proof.Proof.Gen.GateUpRefIdeal.Read
public import proofs.«01_k».proof.Proof.Product.GateUp
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import proofs.«01_k».proof.Proof.Gen.DownRefIdeal.Read
public import proofs.«01_k».proof.Proof.Product.Down
public import proofs.«01_k».proof.Proof.Gen.DownLoss.Frame
public import proofs.«01_k».proof.Proof.Gen.DownLossIdeal.Frame
public import proofs.«01_k».proof.Proof.Gen.DownLossIdeal.Value
public import proofs.«01_k».proof.Proof.Gen.DownLossRefIdeal.Run
public import proofs.«01_k».proof.Proof.Gen.DownLossRefIdeal.Read
public import proofs.«01_k».proof.Proof.Product.DownLoss
public import proofs.«01_k».proof.Proof.Gen.Attn16.Frame
public import proofs.«01_k».proof.Proof.Gen.Attn16Ideal.Frame
public import proofs.«01_k».proof.Proof.Gen.Attn16Ideal.Value
public import proofs.«01_k».proof.Proof.Gen.Attn16RefIdeal.Run
public import proofs.«01_k».proof.Proof.Gen.Attn16RefIdeal.Read
public import proofs.«01_k».proof.Proof.Attention.Attn16
public import proofs.«01_k».proof.Proof.Gen.Attn4.Frame
public import proofs.«01_k».proof.Proof.Gen.Attn4Ideal.Frame
public import proofs.«01_k».proof.Proof.Gen.Attn4Ideal.Value
public import proofs.«01_k».proof.Proof.Gen.Attn4RefIdeal.Run
public import proofs.«01_k».proof.Proof.Gen.Attn4RefIdeal.Read
public import proofs.«01_k».proof.Proof.Attention.Attn4
public import proofs.«01_k».proof.Proof.Gen.Attn1.Frame
public import proofs.«01_k».proof.Proof.Gen.Attn1Ideal.Frame
public import proofs.«01_k».proof.Proof.Gen.Attn1Ideal.Value
public import proofs.«01_k».proof.Proof.Gen.Attn1RefIdeal.Run
public import proofs.«01_k».proof.Proof.Gen.Attn1RefIdeal.Read
public import proofs.«01_k».proof.Proof.Attention.Attn1
public import proofs.«01_k».proof.Proof.Gen.Qkv1.Frame
public import proofs.«01_k».proof.Proof.Gen.Qkv1Ideal.Frame
public import proofs.«01_k».proof.Proof.Gen.Qkv1Ideal.Value
public import proofs.«01_k».proof.Proof.Gen.Qkv1RefIdeal.Run
public import proofs.«01_k».proof.Proof.Gen.Qkv1RefIdeal.Read
public import proofs.«01_k».proof.Proof.Product.Qkv1
public import proofs.«01_k».proof.Proof.Gen.Qkv4.Frame
public import proofs.«01_k».proof.Proof.Gen.Qkv4Ideal.Frame
public import proofs.«01_k».proof.Proof.Gen.Qkv4Ideal.Value
public import proofs.«01_k».proof.Proof.Gen.Qkv4RefIdeal.Run
public import proofs.«01_k».proof.Proof.Gen.Qkv4RefIdeal.Read
public import proofs.«01_k».proof.Proof.Product.Qkv4
public import proofs.«01_k».proof.Proof.Gen.Qkv16.Frame
public import proofs.«01_k».proof.Proof.Gen.Qkv16Ideal.Frame
public import proofs.«01_k».proof.Proof.Gen.Qkv16Ideal.Value
public import proofs.«01_k».proof.Proof.Gen.Qkv16RefIdeal.Run
public import proofs.«01_k».proof.Proof.Gen.Qkv16RefIdeal.Read
public import proofs.«01_k».proof.Proof.Product.Qkv16
public import Idealize.ShloMosaic.Adequacy
public import Idealize.ShloMosaic.Init

@[expose] public section

noncomputable section

namespace Cert.Proof

open Idealize.ShloMosaic Idealize.SL.Sem Cert.Conv

theorem claim : Cert.Claim :=
  ⟨Cert.Conv.Gen.facts, Cert.ConvIdeal.Gen.facts, Cert.ConvRefIdeal.Gen.facts,
    Cert.DownDw.Gen.facts, Cert.DownDwIdeal.Gen.facts, Cert.DownDwRefIdeal.Gen.facts,
    Cert.GateUpDw.Gen.facts, Cert.GateUpDwIdeal.Gen.facts, Cert.GateUpDwRefIdeal.Gen.facts,
    Cert.GateUpDx.Gen.facts, Cert.GateUpDxIdeal.Gen.facts, Cert.GateUpDxRefIdeal.Gen.facts,
    Cert.OutDw.Gen.facts, Cert.OutDwIdeal.Gen.facts, Cert.OutDwRefIdeal.Gen.facts,
    Cert.OutDx.Gen.facts, Cert.OutDxIdeal.Gen.facts, Cert.OutDxRefIdeal.Gen.facts,
    Cert.KvDw.Gen.facts, Cert.KvDwIdeal.Gen.facts, Cert.KvDwRefIdeal.Gen.facts,
    Cert.QDw.Gen.facts, Cert.QDwIdeal.Gen.facts, Cert.QDwRefIdeal.Gen.facts,
    Cert.KvDx.Gen.facts, Cert.KvDxIdeal.Gen.facts, Cert.KvDxRefIdeal.Gen.facts,
    Cert.QDx.Gen.facts, Cert.QDxIdeal.Gen.facts, Cert.QDxRefIdeal.Gen.facts,
    Cert.Act.Gen.facts, Cert.ActIdeal.Gen.facts, Cert.ActRefIdeal.Gen.facts,
    Cert.ConvInDx.Gen.facts, Cert.ConvInDxIdeal.Gen.facts, Cert.ConvInDxRefIdeal.Gen.facts,
    Cert.ConvIn.Gen.facts, Cert.ConvInIdeal.Gen.facts, Cert.ConvInRefIdeal.Gen.facts,
    Cert.MixOut.Gen.facts, Cert.MixOutIdeal.Gen.facts, Cert.MixOutRefIdeal.Gen.facts,
    Cert.GateUp.Gen.facts, Cert.GateUpIdeal.Gen.facts, Cert.GateUpRefIdeal.Gen.facts,
    Cert.Down.Gen.facts, Cert.DownIdeal.Gen.facts, Cert.DownRefIdeal.Gen.facts,
    Cert.DownLoss.Gen.facts, Cert.DownLossIdeal.Gen.facts, Cert.DownLossRefIdeal.Gen.facts,
    Cert.Attn16.Gen.facts, Cert.Attn16Ideal.Gen.facts, Cert.Attn16RefIdeal.Gen.facts,
    Cert.Attn4.Gen.facts, Cert.Attn4Ideal.Gen.facts, Cert.Attn4RefIdeal.Gen.facts,
    Cert.Attn1.Gen.facts, Cert.Attn1Ideal.Gen.facts, Cert.Attn1RefIdeal.Gen.facts,
    Cert.Qkv1.Gen.facts, Cert.Qkv1Ideal.Gen.facts, Cert.Qkv1RefIdeal.Gen.facts,
    Cert.Qkv4.Gen.facts, Cert.Qkv4Ideal.Gen.facts, Cert.Qkv4RefIdeal.Gen.facts,
    Cert.Qkv16.Gen.facts, Cert.Qkv16Ideal.Gen.facts, Cert.Qkv16RefIdeal.Gen.facts,
    Cert.Pre_finite.Gen.facts,
    ConvClaims.frame, ConvClaims.frame_ideal, ConvClaims.frame_reference,
    DownDwClaims.frame, DownDwClaims.frame_ideal, DownDwClaims.frame_reference,
    GateUpDwClaims.frame, GateUpDwClaims.frame_ideal, GateUpDwClaims.frame_reference,
    GateUpDxClaims.frame, GateUpDxClaims.frame_ideal, GateUpDxClaims.frame_reference,
    OutDwClaims.frame, OutDwClaims.frame_ideal, OutDwClaims.frame_reference,
    OutDxClaims.frame, OutDxClaims.frame_ideal, OutDxClaims.frame_reference,
    KvDwClaims.frame, KvDwClaims.frame_ideal, KvDwClaims.frame_reference,
    QDwClaims.frame, QDwClaims.frame_ideal, QDwClaims.frame_reference,
    KvDxClaims.frame, KvDxClaims.frame_ideal, KvDxClaims.frame_reference,
    QDxClaims.frame, QDxClaims.frame_ideal, QDxClaims.frame_reference,
    ActClaims.frame, ActClaims.frame_ideal, ActClaims.frame_ideal_finite, ActClaims.frame_reference, ActClaims.frame_reference_finite,
    ConvInDxClaims.frame, ConvInDxClaims.frame_ideal, ConvInDxClaims.frame_reference,
    ConvInClaims.frame, ConvInClaims.frame_ideal, ConvInClaims.frame_reference,
    MixOutClaims.frame, MixOutClaims.frame_ideal, MixOutClaims.frame_reference,
    GateUpClaims.frame, GateUpClaims.frame_ideal, GateUpClaims.frame_reference,
    DownClaims.frame, DownClaims.frame_ideal, DownClaims.frame_reference,
    DownLossClaims.frame, DownLossClaims.frame_ideal, DownLossClaims.frame_reference,
    Attn16Claims.frame, Attn16Claims.frame_ideal, Attn16Claims.frame_reference,
    Attn4Claims.frame, Attn4Claims.frame_ideal, Attn4Claims.frame_reference,
    Attn1Claims.frame, Attn1Claims.frame_ideal, Attn1Claims.frame_reference,
    Qkv1Claims.frame, Qkv1Claims.frame_ideal, Qkv1Claims.frame_reference,
    Qkv4Claims.frame, Qkv4Claims.frame_ideal, Qkv4Claims.frame_reference,
    Qkv16Claims.frame, Qkv16Claims.frame_ideal, Qkv16Claims.frame_reference,
    trivial, ConvClaims.value,
    trivial, DownDwClaims.value,
    trivial, GateUpDwClaims.value,
    trivial, GateUpDxClaims.value,
    trivial, OutDwClaims.value,
    trivial, OutDxClaims.value,
    trivial, KvDwClaims.value,
    trivial, QDwClaims.value,
    trivial, KvDxClaims.value,
    trivial, QDxClaims.value,
    trivial, ActClaims.value,
    trivial, ConvInDxClaims.value,
    trivial, ConvInClaims.value,
    trivial, MixOutClaims.value,
    trivial, GateUpClaims.value,
    trivial, DownClaims.value,
    trivial, DownLossClaims.value,
    Attn16Claims.named, Attn16Claims.value,
    Attn4Claims.named, Attn4Claims.value,
    Attn1Claims.named, Attn1Claims.value,
    trivial, Qkv1Claims.value,
    trivial, Qkv4Claims.value,
    trivial, Qkv16Claims.value⟩

end Cert.Proof

end
